-- ==== Defs.lean ====
def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActIdeal_finite [hPre_finite : Cert.Pre_finite.Facts] (m : (ℓ : Loc Cert.ActIdeal.nD Cert.ActIdeal.τ Cert.ActIdeal.sig) → Buf (Elt Ideal) ℓ) : Prop :=
  ∀ c : Dev Cert.ActIdeal.nD,
    (Cert.Pre_finite.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3)) (m ((c.tc : Thread Cert.ActIdeal.nD Cert.ActIdeal.τ).loc Cert.ActIdeal.main_arg4)) (m ((c.tc : Thread Cert.ActIdeal.nD Cert.ActIdeal.τ).loc Cert.ActIdeal.main_arg5))) = (fun _ => 1#1)

def Pre_ActRefIdeal (m : (ℓ : Loc Cert.ActRefIdeal.nD Cert.ActRefIdeal.τ Cert.ActRefIdeal.sig) → Buf (Elt Ideal) ℓ) : Prop :=
  True

def Pre_ActRefIdeal_finite [hPre_finite : Cert.Pre_finite.Facts] (m : (ℓ : Loc Cert.ActRefIdeal.nD Cert.ActRefIdeal.τ Cert.ActRefIdeal.sig) → Buf (Elt Ideal) ℓ) : Prop :=
  ∀ c : Dev Cert.ActRefIdeal.nD,
    (Cert.Pre_finite.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3)) (m ((c.tc : Thread Cert.ActRefIdeal.nD Cert.ActRefIdeal.τ).loc Cert.ActRefIdeal.main_arg4)) (m ((c.tc : Thread Cert.ActRefIdeal.nD Cert.ActRefIdeal.τ).loc Cert.ActRefIdeal.main_arg5))) = (fun _ => 1#1)

def Pre_Wgt (m : (ℓ : Loc Cert.Wgt.nD Cert.Wgt.τ Cert.Wgt.sig) → Buf (Elt Bits) ℓ) : Prop :=
  True

def Pre_WgtIdeal (m : (ℓ : Loc Cert.WgtIdeal.nD Cert.WgtIdeal.τ Cert.WgtIdeal.sig) → Buf (Elt Ideal) ℓ) : Prop :=
  True

def Pre_WgtRefIdeal (m : (ℓ : Loc Cert.WgtRefIdeal.nD Cert.WgtRefIdeal.τ Cert.WgtRefIdeal.sig) → Buf (Elt Ideal) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdRefIdeal (m : (ℓ : Loc Cert.FwdRefIdeal.nD Cert.FwdRefIdeal.τ Cert.FwdRefIdeal.sig) → Buf (Elt Ideal) ℓ) : Prop :=
  True

def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaIdeal_finite_attention [hPre_finite_attention : Cert.Pre_finite_attention.Facts] (m : (ℓ : Loc Cert.SwaIdeal.nD Cert.SwaIdeal.τ Cert.SwaIdeal.sig) → Buf (Elt Ideal) ℓ) : Prop :=
  ∀ c : Dev Cert.SwaIdeal.nD,
    (Cert.Pre_finite_attention.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2)) (m ((c.tc : Thread Cert.SwaIdeal.nD Cert.SwaIdeal.τ).loc Cert.SwaIdeal.main_arg3))) = (fun _ => 1#1)

def Pre_SwaRefIdeal (m : (ℓ : Loc Cert.SwaRefIdeal.nD Cert.SwaRefIdeal.τ Cert.SwaRefIdeal.sig) → Buf (Elt Ideal) ℓ) : Prop :=
  True

def Pre_SwaRefIdeal_finite_attention [hPre_finite_attention : Cert.Pre_finite_attention.Facts] (m : (ℓ : Loc Cert.SwaRefIdeal.nD Cert.SwaRefIdeal.τ Cert.SwaRefIdeal.sig) → Buf (Elt Ideal) ℓ) : Prop :=
  ∀ c : Dev Cert.SwaRefIdeal.nD,
    (Cert.Pre_finite_attention.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3))) = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_finite_gate [hPre_finite_gate : Cert.Pre_finite_gate.Facts] (m : (ℓ : Loc Cert.GateIdeal.nD Cert.GateIdeal.τ Cert.GateIdeal.sig) → Buf (Elt Ideal) ℓ) : Prop :=
  ∀ c : Dev Cert.GateIdeal.nD,
    (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)) (m ((c.tc : Thread Cert.GateIdeal.nD Cert.GateIdeal.τ).loc Cert.GateIdeal.main_arg5))) = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_finite_gate [hPre_finite_gate : Cert.Pre_finite_gate.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_finite_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4)) (m ((c.tc : Thread Cert.GateRefIdeal.nD Cert.GateRefIdeal.τ).loc Cert.GateRefIdeal.main_arg5))) = (fun _ => 1#1)

def Pre_Emb (m : (ℓ : Loc Cert.Emb.nD Cert.Emb.τ Cert.Emb.sig) → Buf (Elt Bits) ℓ) : Prop :=
  True

def Pre_EmbIdeal (m : (ℓ : Loc Cert.EmbIdeal.nD Cert.EmbIdeal.τ Cert.EmbIdeal.sig) → Buf (Elt Ideal) ℓ) : Prop :=
  True

def Pre_EmbRefIdeal (m : (ℓ : Loc Cert.EmbRefIdeal.nD Cert.EmbRefIdeal.τ Cert.EmbRefIdeal.sig) → Buf (Elt Ideal) ℓ) : Prop :=
  True

def Pre_Dwi (m : (ℓ : Loc Cert.Dwi.nD Cert.Dwi.τ Cert.Dwi.sig) → Buf (Elt Bits) ℓ) : Prop :=
  True

def Pre_DwiIdeal (m : (ℓ : Loc Cert.DwiIdeal.nD Cert.DwiIdeal.τ Cert.DwiIdeal.sig) → Buf (Elt Ideal) ℓ) : Prop :=
  True

def Pre_DwiRefIdeal (m : (ℓ : Loc Cert.DwiRefIdeal.nD Cert.DwiRefIdeal.τ Cert.DwiRefIdeal.sig) → Buf (Elt Ideal) ℓ) : Prop :=
  True

def Pre_Dwo (m : (ℓ : Loc Cert.Dwo.nD Cert.Dwo.τ Cert.Dwo.sig) → Buf (Elt Bits) ℓ) : Prop :=
  True

def Pre_DwoIdeal (m : (ℓ : Loc Cert.DwoIdeal.nD Cert.DwoIdeal.τ Cert.DwoIdeal.sig) → Buf (Elt Ideal) ℓ) : Prop :=
  True

def Pre_DwoRefIdeal (m : (ℓ : Loc Cert.DwoRefIdeal.nD Cert.DwoRefIdeal.τ Cert.DwoRefIdeal.sig) → Buf (Elt Ideal) ℓ) : Prop :=
  True

def Pre_Dwg (m : (ℓ : Loc Cert.Dwg.nD Cert.Dwg.τ Cert.Dwg.sig) → Buf (Elt Bits) ℓ) : Prop :=
  True

def Pre_DwgIdeal (m : (ℓ : Loc Cert.DwgIdeal.nD Cert.DwgIdeal.τ Cert.DwgIdeal.sig) → Buf (Elt Ideal) ℓ) : Prop :=
  True

def Pre_DwgRefIdeal (m : (ℓ : Loc Cert.DwgRefIdeal.nD Cert.DwgRefIdeal.τ Cert.DwgRefIdeal.sig) → Buf (Elt Ideal) ℓ) : Prop :=
  True

def Pre_Dxo (m : (ℓ : Loc Cert.Dxo.nD Cert.Dxo.τ Cert.Dxo.sig) → Buf (Elt Bits) ℓ) : Prop :=
  True

def Pre_DxoIdeal (m : (ℓ : Loc Cert.DxoIdeal.nD Cert.DxoIdeal.τ Cert.DxoIdeal.sig) → Buf (Elt Ideal) ℓ) : Prop :=
  True

def Pre_DxoRefIdeal (m : (ℓ : Loc Cert.DxoRefIdeal.nD Cert.DxoRefIdeal.τ Cert.DxoRefIdeal.sig) → Buf (Elt Ideal) ℓ) : Prop :=
  True

def Pre_Inx (m : (ℓ : Loc Cert.Inx.nD Cert.Inx.τ Cert.Inx.sig) → Buf (Elt Bits) ℓ) : Prop :=
  True

def Pre_InxIdeal (m : (ℓ : Loc Cert.InxIdeal.nD Cert.InxIdeal.τ Cert.InxIdeal.sig) → Buf (Elt Ideal) ℓ) : Prop :=
  True

def Pre_InxIdeal_finite_mixer [hPre_finite_mixer : Cert.Pre_finite_mixer.Facts] (m : (ℓ : Loc Cert.InxIdeal.nD Cert.InxIdeal.τ Cert.InxIdeal.sig) → Buf (Elt Ideal) ℓ) : Prop :=
  ∀ c : Dev Cert.InxIdeal.nD,
    (Cert.Pre_finite_mixer.fn (F := Ideal) (m ((c.tc : Thread Cert.InxIdeal.nD Cert.InxIdeal.τ).loc Cert.InxIdeal.main_arg0)) (m ((c.tc : Thread Cert.InxIdeal.nD Cert.InxIdeal.τ).loc Cert.InxIdeal.main_arg1)) (m ((c.tc : Thread Cert.InxIdeal.nD Cert.InxIdeal.τ).loc Cert.InxIdeal.main_arg2)) (m ((c.tc : Thread Cert.InxIdeal.nD Cert.InxIdeal.τ).loc Cert.InxIdeal.main_arg3)) (m ((c.tc : Thread Cert.InxIdeal.nD Cert.InxIdeal.τ).loc Cert.InxIdeal.main_arg4)) (m ((c.tc : Thread Cert.InxIdeal.nD Cert.InxIdeal.τ).loc Cert.InxIdeal.main_arg5)) (m ((c.tc : Thread Cert.InxIdeal.nD Cert.InxIdeal.τ).loc Cert.InxIdeal.main_arg6)) (m ((c.tc : Thread Cert.InxIdeal.nD Cert.InxIdeal.τ).loc Cert.InxIdeal.main_arg7)) (m ((c.tc : Thread Cert.InxIdeal.nD Cert.InxIdeal.τ).loc Cert.InxIdeal.main_arg8)) (m ((c.tc : Thread Cert.InxIdeal.nD Cert.InxIdeal.τ).loc Cert.InxIdeal.main_arg9)) (m ((c.tc : Thread Cert.InxIdeal.nD Cert.InxIdeal.τ).loc Cert.InxIdeal.main_arg10)) (m ((c.tc : Thread Cert.InxIdeal.nD Cert.InxIdeal.τ).loc Cert.InxIdeal.main_arg11))) = (fun _ => 1#1)

def Pre_InxRefIdeal (m : (ℓ : Loc Cert.InxRefIdeal.nD Cert.InxRefIdeal.τ Cert.InxRefIdeal.sig) → Buf (Elt Ideal) ℓ) : Prop :=
  True

def Pre_InxRefIdeal_finite_mixer [hPre_finite_mixer : Cert.Pre_finite_mixer.Facts] (m : (ℓ : Loc Cert.InxRefIdeal.nD Cert.InxRefIdeal.τ Cert.InxRefIdeal.sig) → Buf (Elt Ideal) ℓ) : Prop :=
  ∀ c : Dev Cert.InxRefIdeal.nD,
    (Cert.Pre_finite_mixer.fn (F := Ideal) (m ((c.tc : Thread Cert.InxRefIdeal.nD Cert.InxRefIdeal.τ).loc Cert.InxRefIdeal.main_arg0)) (m ((c.tc : Thread Cert.InxRefIdeal.nD Cert.InxRefIdeal.τ).loc Cert.InxRefIdeal.main_arg1)) (m ((c.tc : Thread Cert.InxRefIdeal.nD Cert.InxRefIdeal.τ).loc Cert.InxRefIdeal.main_arg2)) (m ((c.tc : Thread Cert.InxRefIdeal.nD Cert.InxRefIdeal.τ).loc Cert.InxRefIdeal.main_arg3)) (m ((c.tc : Thread Cert.InxRefIdeal.nD Cert.InxRefIdeal.τ).loc Cert.InxRefIdeal.main_arg4)) (m ((c.tc : Thread Cert.InxRefIdeal.nD Cert.InxRefIdeal.τ).loc Cert.InxRefIdeal.main_arg5)) (m ((c.tc : Thread Cert.InxRefIdeal.nD Cert.InxRefIdeal.τ).loc Cert.InxRefIdeal.main_arg6)) (m ((c.tc : Thread Cert.InxRefIdeal.nD Cert.InxRefIdeal.τ).loc Cert.InxRefIdeal.main_arg7)) (m ((c.tc : Thread Cert.InxRefIdeal.nD Cert.InxRefIdeal.τ).loc Cert.InxRefIdeal.main_arg8)) (m ((c.tc : Thread Cert.InxRefIdeal.nD Cert.InxRefIdeal.τ).loc Cert.InxRefIdeal.main_arg9)) (m ((c.tc : Thread Cert.InxRefIdeal.nD Cert.InxRefIdeal.τ).loc Cert.InxRefIdeal.main_arg10)) (m ((c.tc : Thread Cert.InxRefIdeal.nD Cert.InxRefIdeal.τ).loc Cert.InxRefIdeal.main_arg11))) = (fun _ => 1#1)

def Pre_Mof (m : (ℓ : Loc Cert.Mof.nD Cert.Mof.τ Cert.Mof.sig) → Buf (Elt Bits) ℓ) : Prop :=
  True

def Pre_MofIdeal (m : (ℓ : Loc Cert.MofIdeal.nD Cert.MofIdeal.τ Cert.MofIdeal.sig) → Buf (Elt Ideal) ℓ) : Prop :=
  True

def Pre_MofRefIdeal (m : (ℓ : Loc Cert.MofRefIdeal.nD Cert.MofRefIdeal.τ Cert.MofRefIdeal.sig) → Buf (Elt Ideal) ℓ) : Prop :=
  True

def Pre_Dwp (m : (ℓ : Loc Cert.Dwp.nD Cert.Dwp.τ Cert.Dwp.sig) → Buf (Elt Bits) ℓ) : Prop :=
  True

def Pre_DwpIdeal (m : (ℓ : Loc Cert.DwpIdeal.nD Cert.DwpIdeal.τ Cert.DwpIdeal.sig) → Buf (Elt Ideal) ℓ) : Prop :=
  True

def Pre_DwpRefIdeal (m : (ℓ : Loc Cert.DwpRefIdeal.nD Cert.DwpRefIdeal.τ Cert.DwpRefIdeal.sig) → Buf (Elt Ideal) ℓ) : Prop :=
  True

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2)
      ∧ r.2.mem ((c.tc : Thread Cert.Act.nD Cert.Act.τ).loc Cert.Act.main_arg3) = m ((c.tc : Thread Cert.Act.nD Cert.Act.τ).loc Cert.Act.main_arg3)
      ∧ r.2.mem ((c.tc : Thread Cert.Act.nD Cert.Act.τ).loc Cert.Act.main_arg4) = m ((c.tc : Thread Cert.Act.nD Cert.Act.τ).loc Cert.Act.main_arg4)
      ∧ r.2.mem ((c.tc : Thread Cert.Act.nD Cert.Act.τ).loc Cert.Act.main_arg5) = m ((c.tc : Thread Cert.Act.nD Cert.Act.τ).loc Cert.Act.main_arg5))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3)
      ∧ r.2.mem ((c.tc : Thread Cert.ActIdeal.nD Cert.ActIdeal.τ).loc Cert.ActIdeal.main_arg4) = m ((c.tc : Thread Cert.ActIdeal.nD Cert.ActIdeal.τ).loc Cert.ActIdeal.main_arg4)
      ∧ r.2.mem ((c.tc : Thread Cert.ActIdeal.nD Cert.ActIdeal.τ).loc Cert.ActIdeal.main_arg5) = m ((c.tc : Thread Cert.ActIdeal.nD Cert.ActIdeal.τ).loc Cert.ActIdeal.main_arg5))
      ∧ r.2.sem = fun _ => 0)

def quiescent_ActIdeal_pre_finite [hActIdeal : Cert.ActIdeal.Facts] [hPre_finite : Cert.Pre_finite.Facts] : Prop :=
  ∀ (m : (ℓ : Loc Cert.ActIdeal.nD Cert.ActIdeal.τ Cert.ActIdeal.sig) → Buf (Elt Ideal) ℓ) (g : Dev Cert.ActIdeal.nD → PrngReg), Pre_ActIdeal_finite m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3)
      ∧ r.2.mem ((c.tc : Thread Cert.ActIdeal.nD Cert.ActIdeal.τ).loc Cert.ActIdeal.main_arg4) = m ((c.tc : Thread Cert.ActIdeal.nD Cert.ActIdeal.τ).loc Cert.ActIdeal.main_arg4)
      ∧ r.2.mem ((c.tc : Thread Cert.ActIdeal.nD Cert.ActIdeal.τ).loc Cert.ActIdeal.main_arg5) = m ((c.tc : Thread Cert.ActIdeal.nD Cert.ActIdeal.τ).loc Cert.ActIdeal.main_arg5))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3)
      ∧ r.2.mem ((c.tc : Thread Cert.ActRefIdeal.nD Cert.ActRefIdeal.τ).loc Cert.ActRefIdeal.main_arg4) = m ((c.tc : Thread Cert.ActRefIdeal.nD Cert.ActRefIdeal.τ).loc Cert.ActRefIdeal.main_arg4)
      ∧ r.2.mem ((c.tc : Thread Cert.ActRefIdeal.nD Cert.ActRefIdeal.τ).loc Cert.ActRefIdeal.main_arg5) = m ((c.tc : Thread Cert.ActRefIdeal.nD Cert.ActRefIdeal.τ).loc Cert.ActRefIdeal.main_arg5))
      ∧ r.2.sem = fun _ => 0)

def quiescent_ActRefIdeal_pre_finite [hActRefIdeal : Cert.ActRefIdeal.Facts] [hPre_finite : Cert.Pre_finite.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal_finite m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3)
      ∧ r.2.mem ((c.tc : Thread Cert.ActRefIdeal.nD Cert.ActRefIdeal.τ).loc Cert.ActRefIdeal.main_arg4) = m ((c.tc : Thread Cert.ActRefIdeal.nD Cert.ActRefIdeal.τ).loc Cert.ActRefIdeal.main_arg4)
      ∧ r.2.mem ((c.tc : Thread Cert.ActRefIdeal.nD Cert.ActRefIdeal.τ).loc Cert.ActRefIdeal.main_arg5) = m ((c.tc : Thread Cert.ActRefIdeal.nD Cert.ActRefIdeal.τ).loc Cert.ActRefIdeal.main_arg5))
      ∧ r.2.sem = fun _ => 0)

def quiescent_Wgt [hWgt : Cert.Wgt.Facts] : Prop :=
  ∀ (m : (ℓ : Loc Cert.Wgt.nD Cert.Wgt.τ Cert.Wgt.sig) → Buf (Elt Bits) ℓ) (g : Dev Cert.Wgt.nD → PrngReg), Pre_Wgt m →
    θ_run (Cert.Wgt.defs (F := Bits)) (onTc (τ := Cert.Wgt.τ) (Cert.Wgt.main (F := Bits))) ⟨m, fun _ => 0, g⟩ (fun r => (∀ c : Dev Cert.Wgt.nD,
      r.2.mem ((c.tc : Thread Cert.Wgt.nD Cert.Wgt.τ).loc Cert.Wgt.main_arg0) = m ((c.tc : Thread Cert.Wgt.nD Cert.Wgt.τ).loc Cert.Wgt.main_arg0)
      ∧ r.2.mem ((c.tc : Thread Cert.Wgt.nD Cert.Wgt.τ).loc Cert.Wgt.main_arg1) = m ((c.tc : Thread Cert.Wgt.nD Cert.Wgt.τ).loc Cert.Wgt.main_arg1)
      ∧ r.2.mem ((c.tc : Thread Cert.Wgt.nD Cert.Wgt.τ).loc Cert.Wgt.main_arg2) = m ((c.tc : Thread Cert.Wgt.nD Cert.Wgt.τ).loc Cert.Wgt.main_arg2)
      ∧ r.2.mem ((c.tc : Thread Cert.Wgt.nD Cert.Wgt.τ).loc Cert.Wgt.main_arg3) = m ((c.tc : Thread Cert.Wgt.nD Cert.Wgt.τ).loc Cert.Wgt.main_arg3)
      ∧ r.2.mem ((c.tc : Thread Cert.Wgt.nD Cert.Wgt.τ).loc Cert.Wgt.main_arg4) = m ((c.tc : Thread Cert.Wgt.nD Cert.Wgt.τ).loc Cert.Wgt.main_arg4)
      ∧ r.2.mem ((c.tc : Thread Cert.Wgt.nD Cert.Wgt.τ).loc Cert.Wgt.main_arg5) = m ((c.tc : Thread Cert.Wgt.nD Cert.Wgt.τ).loc Cert.Wgt.main_arg5))
      ∧ r.2.sem = fun _ => 0)

def quiescent_WgtIdeal [hWgtIdeal : Cert.WgtIdeal.Facts] : Prop :=
  ∀ (m : (ℓ : Loc Cert.WgtIdeal.nD Cert.WgtIdeal.τ Cert.WgtIdeal.sig) → Buf (Elt Ideal) ℓ) (g : Dev Cert.WgtIdeal.nD → PrngReg), Pre_WgtIdeal m →
    θ_run (Cert.WgtIdeal.defs (F := Ideal)) (onTc (τ := Cert.WgtIdeal.τ) (Cert.WgtIdeal.main (F := Ideal))) ⟨m, fun _ => 0, g⟩ (fun r => (∀ c : Dev Cert.WgtIdeal.nD,
      r.2.mem ((c.tc : Thread Cert.WgtIdeal.nD Cert.WgtIdeal.τ).loc Cert.WgtIdeal.main_arg0) = m ((c.tc : Thread Cert.WgtIdeal.nD Cert.WgtIdeal.τ).loc Cert.WgtIdeal.main_arg0)
      ∧ r.2.mem ((c.tc : Thread Cert.WgtIdeal.nD Cert.WgtIdeal.τ).loc Cert.WgtIdeal.main_arg1) = m ((c.tc : Thread Cert.WgtIdeal.nD Cert.WgtIdeal.τ).loc Cert.WgtIdeal.main_arg1)
      ∧ r.2.mem ((c.tc : Thread Cert.WgtIdeal.nD Cert.WgtIdeal.τ).loc Cert.WgtIdeal.main_arg2) = m ((c.tc : Thread Cert.WgtIdeal.nD Cert.WgtIdeal.τ).loc Cert.WgtIdeal.main_arg2)
      ∧ r.2.mem ((c.tc : Thread Cert.WgtIdeal.nD Cert.WgtIdeal.τ).loc Cert.WgtIdeal.main_arg3) = m ((c.tc : Thread Cert.WgtIdeal.nD Cert.WgtIdeal.τ).loc Cert.WgtIdeal.main_arg3)
      ∧ r.2.mem ((c.tc : Thread Cert.WgtIdeal.nD Cert.WgtIdeal.τ).loc Cert.WgtIdeal.main_arg4) = m ((c.tc : Thread Cert.WgtIdeal.nD Cert.WgtIdeal.τ).loc Cert.WgtIdeal.main_arg4)
      ∧ r.2.mem ((c.tc : Thread Cert.WgtIdeal.nD Cert.WgtIdeal.τ).loc Cert.WgtIdeal.main_arg5) = m ((c.tc : Thread Cert.WgtIdeal.nD Cert.WgtIdeal.τ).loc Cert.WgtIdeal.main_arg5))
      ∧ r.2.sem = fun _ => 0)

def quiescent_WgtRefIdeal [hWgtRefIdeal : Cert.WgtRefIdeal.Facts] : Prop :=
  ∀ (m : (ℓ : Loc Cert.WgtRefIdeal.nD Cert.WgtRefIdeal.τ Cert.WgtRefIdeal.sig) → Buf (Elt Ideal) ℓ) (g : Dev Cert.WgtRefIdeal.nD → PrngReg), Pre_WgtRefIdeal m →
    θ_run (Cert.WgtRefIdeal.defs (F := Ideal)) (onTc (τ := Cert.WgtRefIdeal.τ) (Cert.WgtRefIdeal.main (F := Ideal))) ⟨m, fun _ => 0, g⟩ (fun r => (∀ c : Dev Cert.WgtRefIdeal.nD,
      r.2.mem ((c.tc : Thread Cert.WgtRefIdeal.nD Cert.WgtRefIdeal.τ).loc Cert.WgtRefIdeal.main_arg0) = m ((c.tc : Thread Cert.WgtRefIdeal.nD Cert.WgtRefIdeal.τ).loc Cert.WgtRefIdeal.main_arg0)
      ∧ r.2.mem ((c.tc : Thread Cert.WgtRefIdeal.nD Cert.WgtRefIdeal.τ).loc Cert.WgtRefIdeal.main_arg1) = m ((c.tc : Thread Cert.WgtRefIdeal.nD Cert.WgtRefIdeal.τ).loc Cert.WgtRefIdeal.main_arg1)
      ∧ r.2.mem ((c.tc : Thread Cert.WgtRefIdeal.nD Cert.WgtRefIdeal.τ).loc Cert.WgtRefIdeal.main_arg2) = m ((c.tc : Thread Cert.WgtRefIdeal.nD Cert.WgtRefIdeal.τ).loc Cert.WgtRefIdeal.main_arg2)
      ∧ r.2.mem ((c.tc : Thread Cert.WgtRefIdeal.nD Cert.WgtRefIdeal.τ).loc Cert.WgtRefIdeal.main_arg3) = m ((c.tc : Thread Cert.WgtRefIdeal.nD Cert.WgtRefIdeal.τ).loc Cert.WgtRefIdeal.main_arg3)
      ∧ r.2.mem ((c.tc : Thread Cert.WgtRefIdeal.nD Cert.WgtRefIdeal.τ).loc Cert.WgtRefIdeal.main_arg4) = m ((c.tc : Thread Cert.WgtRefIdeal.nD Cert.WgtRefIdeal.τ).loc Cert.WgtRefIdeal.main_arg4)
      ∧ r.2.mem ((c.tc : Thread Cert.WgtRefIdeal.nD Cert.WgtRefIdeal.τ).loc Cert.WgtRefIdeal.main_arg5) = m ((c.tc : Thread Cert.WgtRefIdeal.nD Cert.WgtRefIdeal.τ).loc Cert.WgtRefIdeal.main_arg5))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3)
      ∧ r.2.mem ((c.tc : Thread Cert.Fwd.nD Cert.Fwd.τ).loc Cert.Fwd.main_arg4) = m ((c.tc : Thread Cert.Fwd.nD Cert.Fwd.τ).loc Cert.Fwd.main_arg4))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3)
      ∧ r.2.mem ((c.tc : Thread Cert.FwdRefIdeal.nD Cert.FwdRefIdeal.τ).loc Cert.FwdRefIdeal.main_arg4) = m ((c.tc : Thread Cert.FwdRefIdeal.nD Cert.FwdRefIdeal.τ).loc Cert.FwdRefIdeal.main_arg4))
      ∧ r.2.sem = fun _ => 0)

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2)
      ∧ r.2.mem ((c.tc : Thread Cert.Swa.nD Cert.Swa.τ).loc Cert.Swa.main_arg3) = m ((c.tc : Thread Cert.Swa.nD Cert.Swa.τ).loc Cert.Swa.main_arg3))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3))
      ∧ r.2.sem = fun _ => 0)

def quiescent_SwaIdeal_pre_finite_attention [hSwaIdeal : Cert.SwaIdeal.Facts] [hPre_finite_attention : Cert.Pre_finite_attention.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal_finite_attention m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3))
      ∧ r.2.sem = fun _ => 0)

def quiescent_SwaRefIdeal_pre_finite_attention [hSwaRefIdeal : Cert.SwaRefIdeal.Facts] [hPre_finite_attention : Cert.Pre_finite_attention.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal_finite_attention m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4)
      ∧ r.2.mem ((c.tc : Thread Cert.Gate.nD Cert.Gate.τ).loc Cert.Gate.main_arg5) = m ((c.tc : Thread Cert.Gate.nD Cert.Gate.τ).loc Cert.Gate.main_arg5))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ r.2.sem = fun _ => 0)

def quiescent_GateIdeal_pre_finite_gate [hGateIdeal : Cert.GateIdeal.Facts] [hPre_finite_gate : Cert.Pre_finite_gate.Facts] : Prop :=
  ∀ (m : (ℓ : Loc Cert.GateIdeal.nD Cert.GateIdeal.τ Cert.GateIdeal.sig) → Buf (Elt Ideal) ℓ) (g : Dev Cert.GateIdeal.nD → PrngReg), Pre_GateIdeal_finite_gate m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5))
      ∧ r.2.sem = fun _ => 0)

def quiescent_GateRefIdeal_pre_finite_gate [hGateRefIdeal : Cert.GateRefIdeal.Facts] [hPre_finite_gate : Cert.Pre_finite_gate.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_finite_gate m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5))
      ∧ r.2.sem = fun _ => 0)

def quiescent_Emb [hEmb : Cert.Emb.Facts] : Prop :=
  ∀ (m : (ℓ : Loc Cert.Emb.nD Cert.Emb.τ Cert.Emb.sig) → Buf (Elt Bits) ℓ) (g : Dev Cert.Emb.nD → PrngReg), Pre_Emb m →
    θ_run (Cert.Emb.defs (F := Bits)) (onTc (τ := Cert.Emb.τ) (Cert.Emb.main (F := Bits))) ⟨m, fun _ => 0, g⟩ (fun r => (∀ c : Dev Cert.Emb.nD,
      r.2.mem ((c.tc : Thread Cert.Emb.nD Cert.Emb.τ).loc Cert.Emb.main_arg0) = m ((c.tc : Thread Cert.Emb.nD Cert.Emb.τ).loc Cert.Emb.main_arg0)
      ∧ r.2.mem ((c.tc : Thread Cert.Emb.nD Cert.Emb.τ).loc Cert.Emb.main_arg1) = m ((c.tc : Thread Cert.Emb.nD Cert.Emb.τ).loc Cert.Emb.main_arg1)
      ∧ r.2.mem ((c.tc : Thread Cert.Emb.nD Cert.Emb.τ).loc Cert.Emb.main_arg2) = m ((c.tc : Thread Cert.Emb.nD Cert.Emb.τ).loc Cert.Emb.main_arg2)
      ∧ r.2.mem ((c.tc : Thread Cert.Emb.nD Cert.Emb.τ).loc Cert.Emb.main_arg3) = m ((c.tc : Thread Cert.Emb.nD Cert.Emb.τ).loc Cert.Emb.main_arg3)
      ∧ r.2.mem ((c.tc : Thread Cert.Emb.nD Cert.Emb.τ).loc Cert.Emb.main_arg4) = m ((c.tc : Thread Cert.Emb.nD Cert.Emb.τ).loc Cert.Emb.main_arg4))
      ∧ r.2.sem = fun _ => 0)

def quiescent_EmbIdeal [hEmbIdeal : Cert.EmbIdeal.Facts] : Prop :=
  ∀ (m : (ℓ : Loc Cert.EmbIdeal.nD Cert.EmbIdeal.τ Cert.EmbIdeal.sig) → Buf (Elt Ideal) ℓ) (g : Dev Cert.EmbIdeal.nD → PrngReg), Pre_EmbIdeal m →
    θ_run (Cert.EmbIdeal.defs (F := Ideal)) (onTc (τ := Cert.EmbIdeal.τ) (Cert.EmbIdeal.main (F := Ideal))) ⟨m, fun _ => 0, g⟩ (fun r => (∀ c : Dev Cert.EmbIdeal.nD,
      r.2.mem ((c.tc : Thread Cert.EmbIdeal.nD Cert.EmbIdeal.τ).loc Cert.EmbIdeal.main_arg0) = m ((c.tc : Thread Cert.EmbIdeal.nD Cert.EmbIdeal.τ).loc Cert.EmbIdeal.main_arg0)
      ∧ r.2.mem ((c.tc : Thread Cert.EmbIdeal.nD Cert.EmbIdeal.τ).loc Cert.EmbIdeal.main_arg1) = m ((c.tc : Thread Cert.EmbIdeal.nD Cert.EmbIdeal.τ).loc Cert.EmbIdeal.main_arg1)
      ∧ r.2.mem ((c.tc : Thread Cert.EmbIdeal.nD Cert.EmbIdeal.τ).loc Cert.EmbIdeal.main_arg2) = m ((c.tc : Thread Cert.EmbIdeal.nD Cert.EmbIdeal.τ).loc Cert.EmbIdeal.main_arg2)
      ∧ r.2.mem ((c.tc : Thread Cert.EmbIdeal.nD Cert.EmbIdeal.τ).loc Cert.EmbIdeal.main_arg3) = m ((c.tc : Thread Cert.EmbIdeal.nD Cert.EmbIdeal.τ).loc Cert.EmbIdeal.main_arg3)
      ∧ r.2.mem ((c.tc : Thread Cert.EmbIdeal.nD Cert.EmbIdeal.τ).loc Cert.EmbIdeal.main_arg4) = m ((c.tc : Thread Cert.EmbIdeal.nD Cert.EmbIdeal.τ).loc Cert.EmbIdeal.main_arg4))
      ∧ r.2.sem = fun _ => 0)

def quiescent_EmbRefIdeal [hEmbRefIdeal : Cert.EmbRefIdeal.Facts] : Prop :=
  ∀ (m : (ℓ : Loc Cert.EmbRefIdeal.nD Cert.EmbRefIdeal.τ Cert.EmbRefIdeal.sig) → Buf (Elt Ideal) ℓ) (g : Dev Cert.EmbRefIdeal.nD → PrngReg), Pre_EmbRefIdeal m →
    θ_run (Cert.EmbRefIdeal.defs (F := Ideal)) (onTc (τ := Cert.EmbRefIdeal.τ) (Cert.EmbRefIdeal.main (F := Ideal))) ⟨m, fun _ => 0, g⟩ (fun r => (∀ c : Dev Cert.EmbRefIdeal.nD,
      r.2.mem ((c.tc : Thread Cert.EmbRefIdeal.nD Cert.EmbRefIdeal.τ).loc Cert.EmbRefIdeal.main_arg0) = m ((c.tc : Thread Cert.EmbRefIdeal.nD Cert.EmbRefIdeal.τ).loc Cert.EmbRefIdeal.main_arg0)
      ∧ r.2.mem ((c.tc : Thread Cert.EmbRefIdeal.nD Cert.EmbRefIdeal.τ).loc Cert.EmbRefIdeal.main_arg1) = m ((c.tc : Thread Cert.EmbRefIdeal.nD Cert.EmbRefIdeal.τ).loc Cert.EmbRefIdeal.main_arg1)
      ∧ r.2.mem ((c.tc : Thread Cert.EmbRefIdeal.nD Cert.EmbRefIdeal.τ).loc Cert.EmbRefIdeal.main_arg2) = m ((c.tc : Thread Cert.EmbRefIdeal.nD Cert.EmbRefIdeal.τ).loc Cert.EmbRefIdeal.main_arg2)
      ∧ r.2.mem ((c.tc : Thread Cert.EmbRefIdeal.nD Cert.EmbRefIdeal.τ).loc Cert.EmbRefIdeal.main_arg3) = m ((c.tc : Thread Cert.EmbRefIdeal.nD Cert.EmbRefIdeal.τ).loc Cert.EmbRefIdeal.main_arg3)
      ∧ r.2.mem ((c.tc : Thread Cert.EmbRefIdeal.nD Cert.EmbRefIdeal.τ).loc Cert.EmbRefIdeal.main_arg4) = m ((c.tc : Thread Cert.EmbRefIdeal.nD Cert.EmbRefIdeal.τ).loc Cert.EmbRefIdeal.main_arg4))
      ∧ r.2.sem = fun _ => 0)

def quiescent_Dwi [hDwi : Cert.Dwi.Facts] : Prop :=
  ∀ (m : (ℓ : Loc Cert.Dwi.nD Cert.Dwi.τ Cert.Dwi.sig) → Buf (Elt Bits) ℓ) (g : Dev Cert.Dwi.nD → PrngReg), Pre_Dwi m →
    θ_run (Cert.Dwi.defs (F := Bits)) (onTc (τ := Cert.Dwi.τ) (Cert.Dwi.main (F := Bits))) ⟨m, fun _ => 0, g⟩ (fun r => (∀ c : Dev Cert.Dwi.nD,
      r.2.mem ((c.tc : Thread Cert.Dwi.nD Cert.Dwi.τ).loc Cert.Dwi.main_arg0) = m ((c.tc : Thread Cert.Dwi.nD Cert.Dwi.τ).loc Cert.Dwi.main_arg0)
      ∧ r.2.mem ((c.tc : Thread Cert.Dwi.nD Cert.Dwi.τ).loc Cert.Dwi.main_arg1) = m ((c.tc : Thread Cert.Dwi.nD Cert.Dwi.τ).loc Cert.Dwi.main_arg1)
      ∧ r.2.mem ((c.tc : Thread Cert.Dwi.nD Cert.Dwi.τ).loc Cert.Dwi.main_arg2) = m ((c.tc : Thread Cert.Dwi.nD Cert.Dwi.τ).loc Cert.Dwi.main_arg2))
      ∧ r.2.sem = fun _ => 0)

def quiescent_DwiIdeal [hDwiIdeal : Cert.DwiIdeal.Facts] : Prop :=
  ∀ (m : (ℓ : Loc Cert.DwiIdeal.nD Cert.DwiIdeal.τ Cert.DwiIdeal.sig) → Buf (Elt Ideal) ℓ) (g : Dev Cert.DwiIdeal.nD → PrngReg), Pre_DwiIdeal m →
    θ_run (Cert.DwiIdeal.defs (F := Ideal)) (onTc (τ := Cert.DwiIdeal.τ) (Cert.DwiIdeal.main (F := Ideal))) ⟨m, fun _ => 0, g⟩ (fun r => (∀ c : Dev Cert.DwiIdeal.nD,
      r.2.mem ((c.tc : Thread Cert.DwiIdeal.nD Cert.DwiIdeal.τ).loc Cert.DwiIdeal.main_arg0) = m ((c.tc : Thread Cert.DwiIdeal.nD Cert.DwiIdeal.τ).loc Cert.DwiIdeal.main_arg0)
      ∧ r.2.mem ((c.tc : Thread Cert.DwiIdeal.nD Cert.DwiIdeal.τ).loc Cert.DwiIdeal.main_arg1) = m ((c.tc : Thread Cert.DwiIdeal.nD Cert.DwiIdeal.τ).loc Cert.DwiIdeal.main_arg1)
      ∧ r.2.mem ((c.tc : Thread Cert.DwiIdeal.nD Cert.DwiIdeal.τ).loc Cert.DwiIdeal.main_arg2) = m ((c.tc : Thread Cert.DwiIdeal.nD Cert.DwiIdeal.τ).loc Cert.DwiIdeal.main_arg2))
      ∧ r.2.sem = fun _ => 0)

def quiescent_DwiRefIdeal [hDwiRefIdeal : Cert.DwiRefIdeal.Facts] : Prop :=
  ∀ (m : (ℓ : Loc Cert.DwiRefIdeal.nD Cert.DwiRefIdeal.τ Cert.DwiRefIdeal.sig) → Buf (Elt Ideal) ℓ) (g : Dev Cert.DwiRefIdeal.nD → PrngReg), Pre_DwiRefIdeal m →
    θ_run (Cert.DwiRefIdeal.defs (F := Ideal)) (onTc (τ := Cert.DwiRefIdeal.τ) (Cert.DwiRefIdeal.main (F := Ideal))) ⟨m, fun _ => 0, g⟩ (fun r => (∀ c : Dev Cert.DwiRefIdeal.nD,
      r.2.mem ((c.tc : Thread Cert.DwiRefIdeal.nD Cert.DwiRefIdeal.τ).loc Cert.DwiRefIdeal.main_arg0) = m ((c.tc : Thread Cert.DwiRefIdeal.nD Cert.DwiRefIdeal.τ).loc Cert.DwiRefIdeal.main_arg0)
      ∧ r.2.mem ((c.tc : Thread Cert.DwiRefIdeal.nD Cert.DwiRefIdeal.τ).loc Cert.DwiRefIdeal.main_arg1) = m ((c.tc : Thread Cert.DwiRefIdeal.nD Cert.DwiRefIdeal.τ).loc Cert.DwiRefIdeal.main_arg1)
      ∧ r.2.mem ((c.tc : Thread Cert.DwiRefIdeal.nD Cert.DwiRefIdeal.τ).loc Cert.DwiRefIdeal.main_arg2) = m ((c.tc : Thread Cert.DwiRefIdeal.nD Cert.DwiRefIdeal.τ).loc Cert.DwiRefIdeal.main_arg2))
      ∧ r.2.sem = fun _ => 0)

def quiescent_Dwo [hDwo : Cert.Dwo.Facts] : Prop :=
  ∀ (m : (ℓ : Loc Cert.Dwo.nD Cert.Dwo.τ Cert.Dwo.sig) → Buf (Elt Bits) ℓ) (g : Dev Cert.Dwo.nD → PrngReg), Pre_Dwo m →
    θ_run (Cert.Dwo.defs (F := Bits)) (onTc (τ := Cert.Dwo.τ) (Cert.Dwo.main (F := Bits))) ⟨m, fun _ => 0, g⟩ (fun r => (∀ c : Dev Cert.Dwo.nD,
      r.2.mem ((c.tc : Thread Cert.Dwo.nD Cert.Dwo.τ).loc Cert.Dwo.main_arg0) = m ((c.tc : Thread Cert.Dwo.nD Cert.Dwo.τ).loc Cert.Dwo.main_arg0)
      ∧ r.2.mem ((c.tc : Thread Cert.Dwo.nD Cert.Dwo.τ).loc Cert.Dwo.main_arg1) = m ((c.tc : Thread Cert.Dwo.nD Cert.Dwo.τ).loc Cert.Dwo.main_arg1)
      ∧ r.2.mem ((c.tc : Thread Cert.Dwo.nD Cert.Dwo.τ).loc Cert.Dwo.main_arg2) = m ((c.tc : Thread Cert.Dwo.nD Cert.Dwo.τ).loc Cert.Dwo.main_arg2)
      ∧ r.2.mem ((c.tc : Thread Cert.Dwo.nD Cert.Dwo.τ).loc Cert.Dwo.main_arg3) = m ((c.tc : Thread Cert.Dwo.nD Cert.Dwo.τ).loc Cert.Dwo.main_arg3))
      ∧ r.2.sem = fun _ => 0)

def quiescent_DwoIdeal [hDwoIdeal : Cert.DwoIdeal.Facts] : Prop :=
  ∀ (m : (ℓ : Loc Cert.DwoIdeal.nD Cert.DwoIdeal.τ Cert.DwoIdeal.sig) → Buf (Elt Ideal) ℓ) (g : Dev Cert.DwoIdeal.nD → PrngReg), Pre_DwoIdeal m →
    θ_run (Cert.DwoIdeal.defs (F := Ideal)) (onTc (τ := Cert.DwoIdeal.τ) (Cert.DwoIdeal.main (F := Ideal))) ⟨m, fun _ => 0, g⟩ (fun r => (∀ c : Dev Cert.DwoIdeal.nD,
      r.2.mem ((c.tc : Thread Cert.DwoIdeal.nD Cert.DwoIdeal.τ).loc Cert.DwoIdeal.main_arg0) = m ((c.tc : Thread Cert.DwoIdeal.nD Cert.DwoIdeal.τ).loc Cert.DwoIdeal.main_arg0)
      ∧ r.2.mem ((c.tc : Thread Cert.DwoIdeal.nD Cert.DwoIdeal.τ).loc Cert.DwoIdeal.main_arg1) = m ((c.tc : Thread Cert.DwoIdeal.nD Cert.DwoIdeal.τ).loc Cert.DwoIdeal.main_arg1)
      ∧ r.2.mem ((c.tc : Thread Cert.DwoIdeal.nD Cert.DwoIdeal.τ).loc Cert.DwoIdeal.main_arg2) = m ((c.tc : Thread Cert.DwoIdeal.nD Cert.DwoIdeal.τ).loc Cert.DwoIdeal.main_arg2)
      ∧ r.2.mem ((c.tc : Thread Cert.DwoIdeal.nD Cert.DwoIdeal.τ).loc Cert.DwoIdeal.main_arg3) = m ((c.tc : Thread Cert.DwoIdeal.nD Cert.DwoIdeal.τ).loc Cert.DwoIdeal.main_arg3))
      ∧ r.2.sem = fun _ => 0)

def quiescent_DwoRefIdeal [hDwoRefIdeal : Cert.DwoRefIdeal.Facts] : Prop :=
  ∀ (m : (ℓ : Loc Cert.DwoRefIdeal.nD Cert.DwoRefIdeal.τ Cert.DwoRefIdeal.sig) → Buf (Elt Ideal) ℓ) (g : Dev Cert.DwoRefIdeal.nD → PrngReg), Pre_DwoRefIdeal m →
    θ_run (Cert.DwoRefIdeal.defs (F := Ideal)) (onTc (τ := Cert.DwoRefIdeal.τ) (Cert.DwoRefIdeal.main (F := Ideal))) ⟨m, fun _ => 0, g⟩ (fun r => (∀ c : Dev Cert.DwoRefIdeal.nD,
      r.2.mem ((c.tc : Thread Cert.DwoRefIdeal.nD Cert.DwoRefIdeal.τ).loc Cert.DwoRefIdeal.main_arg0) = m ((c.tc : Thread Cert.DwoRefIdeal.nD Cert.DwoRefIdeal.τ).loc Cert.DwoRefIdeal.main_arg0)
      ∧ r.2.mem ((c.tc : Thread Cert.DwoRefIdeal.nD Cert.DwoRefIdeal.τ).loc Cert.DwoRefIdeal.main_arg1) = m ((c.tc : Thread Cert.DwoRefIdeal.nD Cert.DwoRefIdeal.τ).loc Cert.DwoRefIdeal.main_arg1)
      ∧ r.2.mem ((c.tc : Thread Cert.DwoRefIdeal.nD Cert.DwoRefIdeal.τ).loc Cert.DwoRefIdeal.main_arg2) = m ((c.tc : Thread Cert.DwoRefIdeal.nD Cert.DwoRefIdeal.τ).loc Cert.DwoRefIdeal.main_arg2)
      ∧ r.2.mem ((c.tc : Thread Cert.DwoRefIdeal.nD Cert.DwoRefIdeal.τ).loc Cert.DwoRefIdeal.main_arg3) = m ((c.tc : Thread Cert.DwoRefIdeal.nD Cert.DwoRefIdeal.τ).loc Cert.DwoRefIdeal.main_arg3))
      ∧ r.2.sem = fun _ => 0)

def quiescent_Dwg [hDwg : Cert.Dwg.Facts] : Prop :=
  ∀ (m : (ℓ : Loc Cert.Dwg.nD Cert.Dwg.τ Cert.Dwg.sig) → Buf (Elt Bits) ℓ) (g : Dev Cert.Dwg.nD → PrngReg), Pre_Dwg m →
    θ_run (Cert.Dwg.defs (F := Bits)) (onTc (τ := Cert.Dwg.τ) (Cert.Dwg.main (F := Bits))) ⟨m, fun _ => 0, g⟩ (fun r => (∀ c : Dev Cert.Dwg.nD,
      r.2.mem ((c.tc : Thread Cert.Dwg.nD Cert.Dwg.τ).loc Cert.Dwg.main_arg0) = m ((c.tc : Thread Cert.Dwg.nD Cert.Dwg.τ).loc Cert.Dwg.main_arg0)
      ∧ r.2.mem ((c.tc : Thread Cert.Dwg.nD Cert.Dwg.τ).loc Cert.Dwg.main_arg1) = m ((c.tc : Thread Cert.Dwg.nD Cert.Dwg.τ).loc Cert.Dwg.main_arg1)
      ∧ r.2.mem ((c.tc : Thread Cert.Dwg.nD Cert.Dwg.τ).loc Cert.Dwg.main_arg2) = m ((c.tc : Thread Cert.Dwg.nD Cert.Dwg.τ).loc Cert.Dwg.main_arg2))
      ∧ r.2.sem = fun _ => 0)

def quiescent_DwgIdeal [hDwgIdeal : Cert.DwgIdeal.Facts] : Prop :=
  ∀ (m : (ℓ : Loc Cert.DwgIdeal.nD Cert.DwgIdeal.τ Cert.DwgIdeal.sig) → Buf (Elt Ideal) ℓ) (g : Dev Cert.DwgIdeal.nD → PrngReg), Pre_DwgIdeal m →
    θ_run (Cert.DwgIdeal.defs (F := Ideal)) (onTc (τ := Cert.DwgIdeal.τ) (Cert.DwgIdeal.main (F := Ideal))) ⟨m, fun _ => 0, g⟩ (fun r => (∀ c : Dev Cert.DwgIdeal.nD,
      r.2.mem ((c.tc : Thread Cert.DwgIdeal.nD Cert.DwgIdeal.τ).loc Cert.DwgIdeal.main_arg0) = m ((c.tc : Thread Cert.DwgIdeal.nD Cert.DwgIdeal.τ).loc Cert.DwgIdeal.main_arg0)
      ∧ r.2.mem ((c.tc : Thread Cert.DwgIdeal.nD Cert.DwgIdeal.τ).loc Cert.DwgIdeal.main_arg1) = m ((c.tc : Thread Cert.DwgIdeal.nD Cert.DwgIdeal.τ).loc Cert.DwgIdeal.main_arg1)
      ∧ r.2.mem ((c.tc : Thread Cert.DwgIdeal.nD Cert.DwgIdeal.τ).loc Cert.DwgIdeal.main_arg2) = m ((c.tc : Thread Cert.DwgIdeal.nD Cert.DwgIdeal.τ).loc Cert.DwgIdeal.main_arg2))
      ∧ r.2.sem = fun _ => 0)

def quiescent_DwgRefIdeal [hDwgRefIdeal : Cert.DwgRefIdeal.Facts] : Prop :=
  ∀ (m : (ℓ : Loc Cert.DwgRefIdeal.nD Cert.DwgRefIdeal.τ Cert.DwgRefIdeal.sig) → Buf (Elt Ideal) ℓ) (g : Dev Cert.DwgRefIdeal.nD → PrngReg), Pre_DwgRefIdeal m →
    θ_run (Cert.DwgRefIdeal.defs (F := Ideal)) (onTc (τ := Cert.DwgRefIdeal.τ) (Cert.DwgRefIdeal.main (F := Ideal))) ⟨m, fun _ => 0, g⟩ (fun r => (∀ c : Dev Cert.DwgRefIdeal.nD,
      r.2.mem ((c.tc : Thread Cert.DwgRefIdeal.nD Cert.DwgRefIdeal.τ).loc Cert.DwgRefIdeal.main_arg0) = m ((c.tc : Thread Cert.DwgRefIdeal.nD Cert.DwgRefIdeal.τ).loc Cert.DwgRefIdeal.main_arg0)
      ∧ r.2.mem ((c.tc : Thread Cert.DwgRefIdeal.nD Cert.DwgRefIdeal.τ).loc Cert.DwgRefIdeal.main_arg1) = m ((c.tc : Thread Cert.DwgRefIdeal.nD Cert.DwgRefIdeal.τ).loc Cert.DwgRefIdeal.main_arg1)
      ∧ r.2.mem ((c.tc : Thread Cert.DwgRefIdeal.nD Cert.DwgRefIdeal.τ).loc Cert.DwgRefIdeal.main_arg2) = m ((c.tc : Thread Cert.DwgRefIdeal.nD Cert.DwgRefIdeal.τ).loc Cert.DwgRefIdeal.main_arg2))
      ∧ r.2.sem = fun _ => 0)

def quiescent_Dxo [hDxo : Cert.Dxo.Facts] : Prop :=
  ∀ (m : (ℓ : Loc Cert.Dxo.nD Cert.Dxo.τ Cert.Dxo.sig) → Buf (Elt Bits) ℓ) (g : Dev Cert.Dxo.nD → PrngReg), Pre_Dxo m →
    θ_run (Cert.Dxo.defs (F := Bits)) (onTc (τ := Cert.Dxo.τ) (Cert.Dxo.main (F := Bits))) ⟨m, fun _ => 0, g⟩ (fun r => (∀ c : Dev Cert.Dxo.nD,
      r.2.mem ((c.tc : Thread Cert.Dxo.nD Cert.Dxo.τ).loc Cert.Dxo.main_arg0) = m ((c.tc : Thread Cert.Dxo.nD Cert.Dxo.τ).loc Cert.Dxo.main_arg0)
      ∧ r.2.mem ((c.tc : Thread Cert.Dxo.nD Cert.Dxo.τ).loc Cert.Dxo.main_arg1) = m ((c.tc : Thread Cert.Dxo.nD Cert.Dxo.τ).loc Cert.Dxo.main_arg1))
      ∧ r.2.sem = fun _ => 0)

def quiescent_DxoIdeal [hDxoIdeal : Cert.DxoIdeal.Facts] : Prop :=
  ∀ (m : (ℓ : Loc Cert.DxoIdeal.nD Cert.DxoIdeal.τ Cert.DxoIdeal.sig) → Buf (Elt Ideal) ℓ) (g : Dev Cert.DxoIdeal.nD → PrngReg), Pre_DxoIdeal m →
    θ_run (Cert.DxoIdeal.defs (F := Ideal)) (onTc (τ := Cert.DxoIdeal.τ) (Cert.DxoIdeal.main (F := Ideal))) ⟨m, fun _ => 0, g⟩ (fun r => (∀ c : Dev Cert.DxoIdeal.nD,
      r.2.mem ((c.tc : Thread Cert.DxoIdeal.nD Cert.DxoIdeal.τ).loc Cert.DxoIdeal.main_arg0) = m ((c.tc : Thread Cert.DxoIdeal.nD Cert.DxoIdeal.τ).loc Cert.DxoIdeal.main_arg0)
      ∧ r.2.mem ((c.tc : Thread Cert.DxoIdeal.nD Cert.DxoIdeal.τ).loc Cert.DxoIdeal.main_arg1) = m ((c.tc : Thread Cert.DxoIdeal.nD Cert.DxoIdeal.τ).loc Cert.DxoIdeal.main_arg1))
      ∧ r.2.sem = fun _ => 0)

def quiescent_DxoRefIdeal [hDxoRefIdeal : Cert.DxoRefIdeal.Facts] : Prop :=
  ∀ (m : (ℓ : Loc Cert.DxoRefIdeal.nD Cert.DxoRefIdeal.τ Cert.DxoRefIdeal.sig) → Buf (Elt Ideal) ℓ) (g : Dev Cert.DxoRefIdeal.nD → PrngReg), Pre_DxoRefIdeal m →
    θ_run (Cert.DxoRefIdeal.defs (F := Ideal)) (onTc (τ := Cert.DxoRefIdeal.τ) (Cert.DxoRefIdeal.main (F := Ideal))) ⟨m, fun _ => 0, g⟩ (fun r => (∀ c : Dev Cert.DxoRefIdeal.nD,
      r.2.mem ((c.tc : Thread Cert.DxoRefIdeal.nD Cert.DxoRefIdeal.τ).loc Cert.DxoRefIdeal.main_arg0) = m ((c.tc : Thread Cert.DxoRefIdeal.nD Cert.DxoRefIdeal.τ).loc Cert.DxoRefIdeal.main_arg0)
      ∧ r.2.mem ((c.tc : Thread Cert.DxoRefIdeal.nD Cert.DxoRefIdeal.τ).loc Cert.DxoRefIdeal.main_arg1) = m ((c.tc : Thread Cert.DxoRefIdeal.nD Cert.DxoRefIdeal.τ).loc Cert.DxoRefIdeal.main_arg1))
      ∧ r.2.sem = fun _ => 0)

def quiescent_Inx [hInx : Cert.Inx.Facts] : Prop :=
  ∀ (m : (ℓ : Loc Cert.Inx.nD Cert.Inx.τ Cert.Inx.sig) → Buf (Elt Bits) ℓ) (g : Dev Cert.Inx.nD → PrngReg), Pre_Inx m →
    θ_run (Cert.Inx.defs (F := Bits)) (onTc (τ := Cert.Inx.τ) (Cert.Inx.main (F := Bits))) ⟨m, fun _ => 0, g⟩ (fun r => (∀ c : Dev Cert.Inx.nD,
      r.2.mem ((c.tc : Thread Cert.Inx.nD Cert.Inx.τ).loc Cert.Inx.main_arg0) = m ((c.tc : Thread Cert.Inx.nD Cert.Inx.τ).loc Cert.Inx.main_arg0)
      ∧ r.2.mem ((c.tc : Thread Cert.Inx.nD Cert.Inx.τ).loc Cert.Inx.main_arg1) = m ((c.tc : Thread Cert.Inx.nD Cert.Inx.τ).loc Cert.Inx.main_arg1)
      ∧ r.2.mem ((c.tc : Thread Cert.Inx.nD Cert.Inx.τ).loc Cert.Inx.main_arg2) = m ((c.tc : Thread Cert.Inx.nD Cert.Inx.τ).loc Cert.Inx.main_arg2)
      ∧ r.2.mem ((c.tc : Thread Cert.Inx.nD Cert.Inx.τ).loc Cert.Inx.main_arg3) = m ((c.tc : Thread Cert.Inx.nD Cert.Inx.τ).loc Cert.Inx.main_arg3)
      ∧ r.2.mem ((c.tc : Thread Cert.Inx.nD Cert.Inx.τ).loc Cert.Inx.main_arg4) = m ((c.tc : Thread Cert.Inx.nD Cert.Inx.τ).loc Cert.Inx.main_arg4)
      ∧ r.2.mem ((c.tc : Thread Cert.Inx.nD Cert.Inx.τ).loc Cert.Inx.main_arg5) = m ((c.tc : Thread Cert.Inx.nD Cert.Inx.τ).loc Cert.Inx.main_arg5)
      ∧ r.2.mem ((c.tc : Thread Cert.Inx.nD Cert.Inx.τ).loc Cert.Inx.main_arg6) = m ((c.tc : Thread Cert.Inx.nD Cert.Inx.τ).loc Cert.Inx.main_arg6)
      ∧ r.2.mem ((c.tc : Thread Cert.Inx.nD Cert.Inx.τ).loc Cert.Inx.main_arg7) = m ((c.tc : Thread Cert.Inx.nD Cert.Inx.τ).loc Cert.Inx.main_arg7)
      ∧ r.2.mem ((c.tc : Thread Cert.Inx.nD Cert.Inx.τ).loc Cert.Inx.main_arg8) = m ((c.tc : Thread Cert.Inx.nD Cert.Inx.τ).loc Cert.Inx.main_arg8)
      ∧ r.2.mem ((c.tc : Thread Cert.Inx.nD Cert.Inx.τ).loc Cert.Inx.main_arg9) = m ((c.tc : Thread Cert.Inx.nD Cert.Inx.τ).loc Cert.Inx.main_arg9)
      ∧ r.2.mem ((c.tc : Thread Cert.Inx.nD Cert.Inx.τ).loc Cert.Inx.main_arg10) = m ((c.tc : Thread Cert.Inx.nD Cert.Inx.τ).loc Cert.Inx.main_arg10)
      ∧ r.2.mem ((c.tc : Thread Cert.Inx.nD Cert.Inx.τ).loc Cert.Inx.main_arg11) = m ((c.tc : Thread Cert.Inx.nD Cert.Inx.τ).loc Cert.Inx.main_arg11))
      ∧ r.2.sem = fun _ => 0)

def quiescent_InxIdeal [hInxIdeal : Cert.InxIdeal.Facts] : Prop :=
  ∀ (m : (ℓ : Loc Cert.InxIdeal.nD Cert.InxIdeal.τ Cert.InxIdeal.sig) → Buf (Elt Ideal) ℓ) (g : Dev Cert.InxIdeal.nD → PrngReg), Pre_InxIdeal m →
    θ_run (Cert.InxIdeal.defs (F := Ideal)) (onTc (τ := Cert.InxIdeal.τ) (Cert.InxIdeal.main (F := Ideal))) ⟨m, fun _ => 0, g⟩ (fun r => (∀ c : Dev Cert.InxIdeal.nD,
      r.2.mem ((c.tc : Thread Cert.InxIdeal.nD Cert.InxIdeal.τ).loc Cert.InxIdeal.main_arg0) = m ((c.tc : Thread Cert.InxIdeal.nD Cert.InxIdeal.τ).loc Cert.InxIdeal.main_arg0)
      ∧ r.2.mem ((c.tc : Thread Cert.InxIdeal.nD Cert.InxIdeal.τ).loc Cert.InxIdeal.main_arg1) = m ((c.tc : Thread Cert.InxIdeal.nD Cert.InxIdeal.τ).loc Cert.InxIdeal.main_arg1)
      ∧ r.2.mem ((c.tc : Thread Cert.InxIdeal.nD Cert.InxIdeal.τ).loc Cert.InxIdeal.main_arg2) = m ((c.tc : Thread Cert.InxIdeal.nD Cert.InxIdeal.τ).loc Cert.InxIdeal.main_arg2)
      ∧ r.2.mem ((c.tc : Thread Cert.InxIdeal.nD Cert.InxIdeal.τ).loc Cert.InxIdeal.main_arg3) = m ((c.tc : Thread Cert.InxIdeal.nD Cert.InxIdeal.τ).loc Cert.InxIdeal.main_arg3)
      ∧ r.2.mem ((c.tc : Thread Cert.InxIdeal.nD Cert.InxIdeal.τ).loc Cert.InxIdeal.main_arg4) = m ((c.tc : Thread Cert.InxIdeal.nD Cert.InxIdeal.τ).loc Cert.InxIdeal.main_arg4)
      ∧ r.2.mem ((c.tc : Thread Cert.InxIdeal.nD Cert.InxIdeal.τ).loc Cert.InxIdeal.main_arg5) = m ((c.tc : Thread Cert.InxIdeal.nD Cert.InxIdeal.τ).loc Cert.InxIdeal.main_arg5)
      ∧ r.2.mem ((c.tc : Thread Cert.InxIdeal.nD Cert.InxIdeal.τ).loc Cert.InxIdeal.main_arg6) = m ((c.tc : Thread Cert.InxIdeal.nD Cert.InxIdeal.τ).loc Cert.InxIdeal.main_arg6)
      ∧ r.2.mem ((c.tc : Thread Cert.InxIdeal.nD Cert.InxIdeal.τ).loc Cert.InxIdeal.main_arg7) = m ((c.tc : Thread Cert.InxIdeal.nD Cert.InxIdeal.τ).loc Cert.InxIdeal.main_arg7)
      ∧ r.2.mem ((c.tc : Thread Cert.InxIdeal.nD Cert.InxIdeal.τ).loc Cert.InxIdeal.main_arg8) = m ((c.tc : Thread Cert.InxIdeal.nD Cert.InxIdeal.τ).loc Cert.InxIdeal.main_arg8)
      ∧ r.2.mem ((c.tc : Thread Cert.InxIdeal.nD Cert.InxIdeal.τ).loc Cert.InxIdeal.main_arg9) = m ((c.tc : Thread Cert.InxIdeal.nD Cert.InxIdeal.τ).loc Cert.InxIdeal.main_arg9)
      ∧ r.2.mem ((c.tc : Thread Cert.InxIdeal.nD Cert.InxIdeal.τ).loc Cert.InxIdeal.main_arg10) = m ((c.tc : Thread Cert.InxIdeal.nD Cert.InxIdeal.τ).loc Cert.InxIdeal.main_arg10)
      ∧ r.2.mem ((c.tc : Thread Cert.InxIdeal.nD Cert.InxIdeal.τ).loc Cert.InxIdeal.main_arg11) = m ((c.tc : Thread Cert.InxIdeal.nD Cert.InxIdeal.τ).loc Cert.InxIdeal.main_arg11))
      ∧ r.2.sem = fun _ => 0)

def quiescent_InxIdeal_pre_finite_mixer [hInxIdeal : Cert.InxIdeal.Facts] [hPre_finite_mixer : Cert.Pre_finite_mixer.Facts] : Prop :=
  ∀ (m : (ℓ : Loc Cert.InxIdeal.nD Cert.InxIdeal.τ Cert.InxIdeal.sig) → Buf (Elt Ideal) ℓ) (g : Dev Cert.InxIdeal.nD → PrngReg), Pre_InxIdeal_finite_mixer m →
    θ_run (Cert.InxIdeal.defs (F := Ideal)) (onTc (τ := Cert.InxIdeal.τ) (Cert.InxIdeal.main (F := Ideal))) ⟨m, fun _ => 0, g⟩ (fun r => (∀ c : Dev Cert.InxIdeal.nD,
      r.2.mem ((c.tc : Thread Cert.InxIdeal.nD Cert.InxIdeal.τ).loc Cert.InxIdeal.main_arg0) = m ((c.tc : Thread Cert.InxIdeal.nD Cert.InxIdeal.τ).loc Cert.InxIdeal.main_arg0)
      ∧ r.2.mem ((c.tc : Thread Cert.InxIdeal.nD Cert.InxIdeal.τ).loc Cert.InxIdeal.main_arg1) = m ((c.tc : Thread Cert.InxIdeal.nD Cert.InxIdeal.τ).loc Cert.InxIdeal.main_arg1)
      ∧ r.2.mem ((c.tc : Thread Cert.InxIdeal.nD Cert.InxIdeal.τ).loc Cert.InxIdeal.main_arg2) = m ((c.tc : Thread Cert.InxIdeal.nD Cert.InxIdeal.τ).loc Cert.InxIdeal.main_arg2)
      ∧ r.2.mem ((c.tc : Thread Cert.InxIdeal.nD Cert.InxIdeal.τ).loc Cert.InxIdeal.main_arg3) = m ((c.tc : Thread Cert.InxIdeal.nD Cert.InxIdeal.τ).loc Cert.InxIdeal.main_arg3)
      ∧ r.2.mem ((c.tc : Thread Cert.InxIdeal.nD Cert.InxIdeal.τ).loc Cert.InxIdeal.main_arg4) = m ((c.tc : Thread Cert.InxIdeal.nD Cert.InxIdeal.τ).loc Cert.InxIdeal.main_arg4)
      ∧ r.2.mem ((c.tc : Thread Cert.InxIdeal.nD Cert.InxIdeal.τ).loc Cert.InxIdeal.main_arg5) = m ((c.tc : Thread Cert.InxIdeal.nD Cert.InxIdeal.τ).loc Cert.InxIdeal.main_arg5)
      ∧ r.2.mem ((c.tc : Thread Cert.InxIdeal.nD Cert.InxIdeal.τ).loc Cert.InxIdeal.main_arg6) = m ((c.tc : Thread Cert.InxIdeal.nD Cert.InxIdeal.τ).loc Cert.InxIdeal.main_arg6)
      ∧ r.2.mem ((c.tc : Thread Cert.InxIdeal.nD Cert.InxIdeal.τ).loc Cert.InxIdeal.main_arg7) = m ((c.tc : Thread Cert.InxIdeal.nD Cert.InxIdeal.τ).loc Cert.InxIdeal.main_arg7)
      ∧ r.2.mem ((c.tc : Thread Cert.InxIdeal.nD Cert.InxIdeal.τ).loc Cert.InxIdeal.main_arg8) = m ((c.tc : Thread Cert.InxIdeal.nD Cert.InxIdeal.τ).loc Cert.InxIdeal.main_arg8)
      ∧ r.2.mem ((c.tc : Thread Cert.InxIdeal.nD Cert.InxIdeal.τ).loc Cert.InxIdeal.main_arg9) = m ((c.tc : Thread Cert.InxIdeal.nD Cert.InxIdeal.τ).loc Cert.InxIdeal.main_arg9)
      ∧ r.2.mem ((c.tc : Thread Cert.InxIdeal.nD Cert.InxIdeal.τ).loc Cert.InxIdeal.main_arg10) = m ((c.tc : Thread Cert.InxIdeal.nD Cert.InxIdeal.τ).loc Cert.InxIdeal.main_arg10)
      ∧ r.2.mem ((c.tc : Thread Cert.InxIdeal.nD Cert.InxIdeal.τ).loc Cert.InxIdeal.main_arg11) = m ((c.tc : Thread Cert.InxIdeal.nD Cert.InxIdeal.τ).loc Cert.InxIdeal.main_arg11))
      ∧ r.2.sem = fun _ => 0)

def quiescent_InxRefIdeal [hInxRefIdeal : Cert.InxRefIdeal.Facts] : Prop :=
  ∀ (m : (ℓ : Loc Cert.InxRefIdeal.nD Cert.InxRefIdeal.τ Cert.InxRefIdeal.sig) → Buf (Elt Ideal) ℓ) (g : Dev Cert.InxRefIdeal.nD → PrngReg), Pre_InxRefIdeal m →
    θ_run (Cert.InxRefIdeal.defs (F := Ideal)) (onTc (τ := Cert.InxRefIdeal.τ) (Cert.InxRefIdeal.main (F := Ideal))) ⟨m, fun _ => 0, g⟩ (fun r => (∀ c : Dev Cert.InxRefIdeal.nD,
      r.2.mem ((c.tc : Thread Cert.InxRefIdeal.nD Cert.InxRefIdeal.τ).loc Cert.InxRefIdeal.main_arg0) = m ((c.tc : Thread Cert.InxRefIdeal.nD Cert.InxRefIdeal.τ).loc Cert.InxRefIdeal.main_arg0)
      ∧ r.2.mem ((c.tc : Thread Cert.InxRefIdeal.nD Cert.InxRefIdeal.τ).loc Cert.InxRefIdeal.main_arg1) = m ((c.tc : Thread Cert.InxRefIdeal.nD Cert.InxRefIdeal.τ).loc Cert.InxRefIdeal.main_arg1)
      ∧ r.2.mem ((c.tc : Thread Cert.InxRefIdeal.nD Cert.InxRefIdeal.τ).loc Cert.InxRefIdeal.main_arg2) = m ((c.tc : Thread Cert.InxRefIdeal.nD Cert.InxRefIdeal.τ).loc Cert.InxRefIdeal.main_arg2)
      ∧ r.2.mem ((c.tc : Thread Cert.InxRefIdeal.nD Cert.InxRefIdeal.τ).loc Cert.InxRefIdeal.main_arg3) = m ((c.tc : Thread Cert.InxRefIdeal.nD Cert.InxRefIdeal.τ).loc Cert.InxRefIdeal.main_arg3)
      ∧ r.2.mem ((c.tc : Thread Cert.InxRefIdeal.nD Cert.InxRefIdeal.τ).loc Cert.InxRefIdeal.main_arg4) = m ((c.tc : Thread Cert.InxRefIdeal.nD Cert.InxRefIdeal.τ).loc Cert.InxRefIdeal.main_arg4)
      ∧ r.2.mem ((c.tc : Thread Cert.InxRefIdeal.nD Cert.InxRefIdeal.τ).loc Cert.InxRefIdeal.main_arg5) = m ((c.tc : Thread Cert.InxRefIdeal.nD Cert.InxRefIdeal.τ).loc Cert.InxRefIdeal.main_arg5)
      ∧ r.2.mem ((c.tc : Thread Cert.InxRefIdeal.nD Cert.InxRefIdeal.τ).loc Cert.InxRefIdeal.main_arg6) = m ((c.tc : Thread Cert.InxRefIdeal.nD Cert.InxRefIdeal.τ).loc Cert.InxRefIdeal.main_arg6)
      ∧ r.2.mem ((c.tc : Thread Cert.InxRefIdeal.nD Cert.InxRefIdeal.τ).loc Cert.InxRefIdeal.main_arg7) = m ((c.tc : Thread Cert.InxRefIdeal.nD Cert.InxRefIdeal.τ).loc Cert.InxRefIdeal.main_arg7)
      ∧ r.2.mem ((c.tc : Thread Cert.InxRefIdeal.nD Cert.InxRefIdeal.τ).loc Cert.InxRefIdeal.main_arg8) = m ((c.tc : Thread Cert.InxRefIdeal.nD Cert.InxRefIdeal.τ).loc Cert.InxRefIdeal.main_arg8)
      ∧ r.2.mem ((c.tc : Thread Cert.InxRefIdeal.nD Cert.InxRefIdeal.τ).loc Cert.InxRefIdeal.main_arg9) = m ((c.tc : Thread Cert.InxRefIdeal.nD Cert.InxRefIdeal.τ).loc Cert.InxRefIdeal.main_arg9)
      ∧ r.2.mem ((c.tc : Thread Cert.InxRefIdeal.nD Cert.InxRefIdeal.τ).loc Cert.InxRefIdeal.main_arg10) = m ((c.tc : Thread Cert.InxRefIdeal.nD Cert.InxRefIdeal.τ).loc Cert.InxRefIdeal.main_arg10)
      ∧ r.2.mem ((c.tc : Thread Cert.InxRefIdeal.nD Cert.InxRefIdeal.τ).loc Cert.InxRefIdeal.main_arg11) = m ((c.tc : Thread Cert.InxRefIdeal.nD Cert.InxRefIdeal.τ).loc Cert.InxRefIdeal.main_arg11))
      ∧ r.2.sem = fun _ => 0)

def quiescent_InxRefIdeal_pre_finite_mixer [hInxRefIdeal : Cert.InxRefIdeal.Facts] [hPre_finite_mixer : Cert.Pre_finite_mixer.Facts] : Prop :=
  ∀ (m : (ℓ : Loc Cert.InxRefIdeal.nD Cert.InxRefIdeal.τ Cert.InxRefIdeal.sig) → Buf (Elt Ideal) ℓ) (g : Dev Cert.InxRefIdeal.nD → PrngReg), Pre_InxRefIdeal_finite_mixer m →
    θ_run (Cert.InxRefIdeal.defs (F := Ideal)) (onTc (τ := Cert.InxRefIdeal.τ) (Cert.InxRefIdeal.main (F := Ideal))) ⟨m, fun _ => 0, g⟩ (fun r => (∀ c : Dev Cert.InxRefIdeal.nD,
      r.2.mem ((c.tc : Thread Cert.InxRefIdeal.nD Cert.InxRefIdeal.τ).loc Cert.InxRefIdeal.main_arg0) = m ((c.tc : Thread Cert.InxRefIdeal.nD Cert.InxRefIdeal.τ).loc Cert.InxRefIdeal.main_arg0)
      ∧ r.2.mem ((c.tc : Thread Cert.InxRefIdeal.nD Cert.InxRefIdeal.τ).loc Cert.InxRefIdeal.main_arg1) = m ((c.tc : Thread Cert.InxRefIdeal.nD Cert.InxRefIdeal.τ).loc Cert.InxRefIdeal.main_arg1)
      ∧ r.2.mem ((c.tc : Thread Cert.InxRefIdeal.nD Cert.InxRefIdeal.τ).loc Cert.InxRefIdeal.main_arg2) = m ((c.tc : Thread Cert.InxRefIdeal.nD Cert.InxRefIdeal.τ).loc Cert.InxRefIdeal.main_arg2)
      ∧ r.2.mem ((c.tc : Thread Cert.InxRefIdeal.nD Cert.InxRefIdeal.τ).loc Cert.InxRefIdeal.main_arg3) = m ((c.tc : Thread Cert.InxRefIdeal.nD Cert.InxRefIdeal.τ).loc Cert.InxRefIdeal.main_arg3)
      ∧ r.2.mem ((c.tc : Thread Cert.InxRefIdeal.nD Cert.InxRefIdeal.τ).loc Cert.InxRefIdeal.main_arg4) = m ((c.tc : Thread Cert.InxRefIdeal.nD Cert.InxRefIdeal.τ).loc Cert.InxRefIdeal.main_arg4)
      ∧ r.2.mem ((c.tc : Thread Cert.InxRefIdeal.nD Cert.InxRefIdeal.τ).loc Cert.InxRefIdeal.main_arg5) = m ((c.tc : Thread Cert.InxRefIdeal.nD Cert.InxRefIdeal.τ).loc Cert.InxRefIdeal.main_arg5)
      ∧ r.2.mem ((c.tc : Thread Cert.InxRefIdeal.nD Cert.InxRefIdeal.τ).loc Cert.InxRefIdeal.main_arg6) = m ((c.tc : Thread Cert.InxRefIdeal.nD Cert.InxRefIdeal.τ).loc Cert.InxRefIdeal.main_arg6)
      ∧ r.2.mem ((c.tc : Thread Cert.InxRefIdeal.nD Cert.InxRefIdeal.τ).loc Cert.InxRefIdeal.main_arg7) = m ((c.tc : Thread Cert.InxRefIdeal.nD Cert.InxRefIdeal.τ).loc Cert.InxRefIdeal.main_arg7)
      ∧ r.2.mem ((c.tc : Thread Cert.InxRefIdeal.nD Cert.InxRefIdeal.τ).loc Cert.InxRefIdeal.main_arg8) = m ((c.tc : Thread Cert.InxRefIdeal.nD Cert.InxRefIdeal.τ).loc Cert.InxRefIdeal.main_arg8)
      ∧ r.2.mem ((c.tc : Thread Cert.InxRefIdeal.nD Cert.InxRefIdeal.τ).loc Cert.InxRefIdeal.main_arg9) = m ((c.tc : Thread Cert.InxRefIdeal.nD Cert.InxRefIdeal.τ).loc Cert.InxRefIdeal.main_arg9)
      ∧ r.2.mem ((c.tc : Thread Cert.InxRefIdeal.nD Cert.InxRefIdeal.τ).loc Cert.InxRefIdeal.main_arg10) = m ((c.tc : Thread Cert.InxRefIdeal.nD Cert.InxRefIdeal.τ).loc Cert.InxRefIdeal.main_arg10)
      ∧ r.2.mem ((c.tc : Thread Cert.InxRefIdeal.nD Cert.InxRefIdeal.τ).loc Cert.InxRefIdeal.main_arg11) = m ((c.tc : Thread Cert.InxRefIdeal.nD Cert.InxRefIdeal.τ).loc Cert.InxRefIdeal.main_arg11))
      ∧ r.2.sem = fun _ => 0)

def quiescent_Mof [hMof : Cert.Mof.Facts] : Prop :=
  ∀ (m : (ℓ : Loc Cert.Mof.nD Cert.Mof.τ Cert.Mof.sig) → Buf (Elt Bits) ℓ) (g : Dev Cert.Mof.nD → PrngReg), Pre_Mof m →
    θ_run (Cert.Mof.defs (F := Bits)) (onTc (τ := Cert.Mof.τ) (Cert.Mof.main (F := Bits))) ⟨m, fun _ => 0, g⟩ (fun r => (∀ c : Dev Cert.Mof.nD,
      r.2.mem ((c.tc : Thread Cert.Mof.nD Cert.Mof.τ).loc Cert.Mof.main_arg0) = m ((c.tc : Thread Cert.Mof.nD Cert.Mof.τ).loc Cert.Mof.main_arg0)
      ∧ r.2.mem ((c.tc : Thread Cert.Mof.nD Cert.Mof.τ).loc Cert.Mof.main_arg1) = m ((c.tc : Thread Cert.Mof.nD Cert.Mof.τ).loc Cert.Mof.main_arg1)
      ∧ r.2.mem ((c.tc : Thread Cert.Mof.nD Cert.Mof.τ).loc Cert.Mof.main_arg2) = m ((c.tc : Thread Cert.Mof.nD Cert.Mof.τ).loc Cert.Mof.main_arg2)
      ∧ r.2.mem ((c.tc : Thread Cert.Mof.nD Cert.Mof.τ).loc Cert.Mof.main_arg3) = m ((c.tc : Thread Cert.Mof.nD Cert.Mof.τ).loc Cert.Mof.main_arg3)
      ∧ r.2.mem ((c.tc : Thread Cert.Mof.nD Cert.Mof.τ).loc Cert.Mof.main_arg4) = m ((c.tc : Thread Cert.Mof.nD Cert.Mof.τ).loc Cert.Mof.main_arg4))
      ∧ r.2.sem = fun _ => 0)

def quiescent_MofIdeal [hMofIdeal : Cert.MofIdeal.Facts] : Prop :=
  ∀ (m : (ℓ : Loc Cert.MofIdeal.nD Cert.MofIdeal.τ Cert.MofIdeal.sig) → Buf (Elt Ideal) ℓ) (g : Dev Cert.MofIdeal.nD → PrngReg), Pre_MofIdeal m →
    θ_run (Cert.MofIdeal.defs (F := Ideal)) (onTc (τ := Cert.MofIdeal.τ) (Cert.MofIdeal.main (F := Ideal))) ⟨m, fun _ => 0, g⟩ (fun r => (∀ c : Dev Cert.MofIdeal.nD,
      r.2.mem ((c.tc : Thread Cert.MofIdeal.nD Cert.MofIdeal.τ).loc Cert.MofIdeal.main_arg0) = m ((c.tc : Thread Cert.MofIdeal.nD Cert.MofIdeal.τ).loc Cert.MofIdeal.main_arg0)
      ∧ r.2.mem ((c.tc : Thread Cert.MofIdeal.nD Cert.MofIdeal.τ).loc Cert.MofIdeal.main_arg1) = m ((c.tc : Thread Cert.MofIdeal.nD Cert.MofIdeal.τ).loc Cert.MofIdeal.main_arg1)
      ∧ r.2.mem ((c.tc : Thread Cert.MofIdeal.nD Cert.MofIdeal.τ).loc Cert.MofIdeal.main_arg2) = m ((c.tc : Thread Cert.MofIdeal.nD Cert.MofIdeal.τ).loc Cert.MofIdeal.main_arg2)
      ∧ r.2.mem ((c.tc : Thread Cert.MofIdeal.nD Cert.MofIdeal.τ).loc Cert.MofIdeal.main_arg3) = m ((c.tc : Thread Cert.MofIdeal.nD Cert.MofIdeal.τ).loc Cert.MofIdeal.main_arg3)
      ∧ r.2.mem ((c.tc : Thread Cert.MofIdeal.nD Cert.MofIdeal.τ).loc Cert.MofIdeal.main_arg4) = m ((c.tc : Thread Cert.MofIdeal.nD Cert.MofIdeal.τ).loc Cert.MofIdeal.main_arg4))
      ∧ r.2.sem = fun _ => 0)

def quiescent_MofRefIdeal [hMofRefIdeal : Cert.MofRefIdeal.Facts] : Prop :=
  ∀ (m : (ℓ : Loc Cert.MofRefIdeal.nD Cert.MofRefIdeal.τ Cert.MofRefIdeal.sig) → Buf (Elt Ideal) ℓ) (g : Dev Cert.MofRefIdeal.nD → PrngReg), Pre_MofRefIdeal m →
    θ_run (Cert.MofRefIdeal.defs (F := Ideal)) (onTc (τ := Cert.MofRefIdeal.τ) (Cert.MofRefIdeal.main (F := Ideal))) ⟨m, fun _ => 0, g⟩ (fun r => (∀ c : Dev Cert.MofRefIdeal.nD,
      r.2.mem ((c.tc : Thread Cert.MofRefIdeal.nD Cert.MofRefIdeal.τ).loc Cert.MofRefIdeal.main_arg0) = m ((c.tc : Thread Cert.MofRefIdeal.nD Cert.MofRefIdeal.τ).loc Cert.MofRefIdeal.main_arg0)
      ∧ r.2.mem ((c.tc : Thread Cert.MofRefIdeal.nD Cert.MofRefIdeal.τ).loc Cert.MofRefIdeal.main_arg1) = m ((c.tc : Thread Cert.MofRefIdeal.nD Cert.MofRefIdeal.τ).loc Cert.MofRefIdeal.main_arg1)
      ∧ r.2.mem ((c.tc : Thread Cert.MofRefIdeal.nD Cert.MofRefIdeal.τ).loc Cert.MofRefIdeal.main_arg2) = m ((c.tc : Thread Cert.MofRefIdeal.nD Cert.MofRefIdeal.τ).loc Cert.MofRefIdeal.main_arg2)
      ∧ r.2.mem ((c.tc : Thread Cert.MofRefIdeal.nD Cert.MofRefIdeal.τ).loc Cert.MofRefIdeal.main_arg3) = m ((c.tc : Thread Cert.MofRefIdeal.nD Cert.MofRefIdeal.τ).loc Cert.MofRefIdeal.main_arg3)
      ∧ r.2.mem ((c.tc : Thread Cert.MofRefIdeal.nD Cert.MofRefIdeal.τ).loc Cert.MofRefIdeal.main_arg4) = m ((c.tc : Thread Cert.MofRefIdeal.nD Cert.MofRefIdeal.τ).loc Cert.MofRefIdeal.main_arg4))
      ∧ r.2.sem = fun _ => 0)

def quiescent_Dwp [hDwp : Cert.Dwp.Facts] : Prop :=
  ∀ (m : (ℓ : Loc Cert.Dwp.nD Cert.Dwp.τ Cert.Dwp.sig) → Buf (Elt Bits) ℓ) (g : Dev Cert.Dwp.nD → PrngReg), Pre_Dwp m →
    θ_run (Cert.Dwp.defs (F := Bits)) (onTc (τ := Cert.Dwp.τ) (Cert.Dwp.main (F := Bits))) ⟨m, fun _ => 0, g⟩ (fun r => (∀ c : Dev Cert.Dwp.nD,
      r.2.mem ((c.tc : Thread Cert.Dwp.nD Cert.Dwp.τ).loc Cert.Dwp.main_arg0) = m ((c.tc : Thread Cert.Dwp.nD Cert.Dwp.τ).loc Cert.Dwp.main_arg0)
      ∧ r.2.mem ((c.tc : Thread Cert.Dwp.nD Cert.Dwp.τ).loc Cert.Dwp.main_arg1) = m ((c.tc : Thread Cert.Dwp.nD Cert.Dwp.τ).loc Cert.Dwp.main_arg1))
      ∧ r.2.sem = fun _ => 0)

def quiescent_DwpIdeal [hDwpIdeal : Cert.DwpIdeal.Facts] : Prop :=
  ∀ (m : (ℓ : Loc Cert.DwpIdeal.nD Cert.DwpIdeal.τ Cert.DwpIdeal.sig) → Buf (Elt Ideal) ℓ) (g : Dev Cert.DwpIdeal.nD → PrngReg), Pre_DwpIdeal m →
    θ_run (Cert.DwpIdeal.defs (F := Ideal)) (onTc (τ := Cert.DwpIdeal.τ) (Cert.DwpIdeal.main (F := Ideal))) ⟨m, fun _ => 0, g⟩ (fun r => (∀ c : Dev Cert.DwpIdeal.nD,
      r.2.mem ((c.tc : Thread Cert.DwpIdeal.nD Cert.DwpIdeal.τ).loc Cert.DwpIdeal.main_arg0) = m ((c.tc : Thread Cert.DwpIdeal.nD Cert.DwpIdeal.τ).loc Cert.DwpIdeal.main_arg0)
      ∧ r.2.mem ((c.tc : Thread Cert.DwpIdeal.nD Cert.DwpIdeal.τ).loc Cert.DwpIdeal.main_arg1) = m ((c.tc : Thread Cert.DwpIdeal.nD Cert.DwpIdeal.τ).loc Cert.DwpIdeal.main_arg1))
      ∧ r.2.sem = fun _ => 0)

def quiescent_DwpRefIdeal [hDwpRefIdeal : Cert.DwpRefIdeal.Facts] : Prop :=
  ∀ (m : (ℓ : Loc Cert.DwpRefIdeal.nD Cert.DwpRefIdeal.τ Cert.DwpRefIdeal.sig) → Buf (Elt Ideal) ℓ) (g : Dev Cert.DwpRefIdeal.nD → PrngReg), Pre_DwpRefIdeal m →
    θ_run (Cert.DwpRefIdeal.defs (F := Ideal)) (onTc (τ := Cert.DwpRefIdeal.τ) (Cert.DwpRefIdeal.main (F := Ideal))) ⟨m, fun _ => 0, g⟩ (fun r => (∀ c : Dev Cert.DwpRefIdeal.nD,
      r.2.mem ((c.tc : Thread Cert.DwpRefIdeal.nD Cert.DwpRefIdeal.τ).loc Cert.DwpRefIdeal.main_arg0) = m ((c.tc : Thread Cert.DwpRefIdeal.nD Cert.DwpRefIdeal.τ).loc Cert.DwpRefIdeal.main_arg0)
      ∧ r.2.mem ((c.tc : Thread Cert.DwpRefIdeal.nD Cert.DwpRefIdeal.τ).loc Cert.DwpRefIdeal.main_arg1) = m ((c.tc : Thread Cert.DwpRefIdeal.nD Cert.DwpRefIdeal.τ).loc Cert.DwpRefIdeal.main_arg1))
      ∧ r.2.sem = fun _ => 0)

def preserves_Act_ActIdeal : Prop :=
  True

def algebraic_ActIdeal_ActRefIdeal_pre_finite [hActIdeal : Cert.ActIdeal.Facts] [hActRefIdeal : Cert.ActRefIdeal.Facts] [hPre_finite : Cert.Pre_finite.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal_finite m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)
      ∧ m' ((c.tc : Thread Cert.ActRefIdeal.nD Cert.ActRefIdeal.τ).loc Cert.ActRefIdeal.main_arg2) = m ((c.tc : Thread Cert.ActIdeal.nD Cert.ActIdeal.τ).loc Cert.ActIdeal.main_arg2)
      ∧ m' ((c.tc : Thread Cert.ActRefIdeal.nD Cert.ActRefIdeal.τ).loc Cert.ActRefIdeal.main_arg3) = m ((c.tc : Thread Cert.ActIdeal.nD Cert.ActIdeal.τ).loc Cert.ActIdeal.main_arg3)
      ∧ m' ((c.tc : Thread Cert.ActRefIdeal.nD Cert.ActRefIdeal.τ).loc Cert.ActRefIdeal.main_arg4) = m ((c.tc : Thread Cert.ActIdeal.nD Cert.ActIdeal.τ).loc Cert.ActIdeal.main_arg4)
      ∧ m' ((c.tc : Thread Cert.ActRefIdeal.nD Cert.ActRefIdeal.τ).loc Cert.ActRefIdeal.main_arg5) = m ((c.tc : Thread Cert.ActIdeal.nD Cert.ActIdeal.τ).loc Cert.ActIdeal.main_arg5)) →
    ∃ (v0 : (c : Dev Cert.ActIdeal.nD) → Buf (Elt Ideal) ((c.tc : Thread Cert.ActIdeal.nD Cert.ActIdeal.τ).loc Cert.ActIdeal.main_v30_0)) (v1 : (c : Dev Cert.ActIdeal.nD) → Buf (Elt Ideal) ((c.tc : Thread Cert.ActIdeal.nD Cert.ActIdeal.τ).loc Cert.ActIdeal.main_v30_1)) (v2 : (c : Dev Cert.ActIdeal.nD) → Buf (Elt Ideal) ((c.tc : Thread Cert.ActIdeal.nD Cert.ActIdeal.τ).loc Cert.ActIdeal.main_v30_2)) (v3 : (c : Dev Cert.ActIdeal.nD) → Buf (Elt Ideal) ((c.tc : Thread Cert.ActIdeal.nD Cert.ActIdeal.τ).loc Cert.ActIdeal.main_v30_3)) (v4 : (c : Dev Cert.ActIdeal.nD) → Buf (Elt Ideal) ((c.tc : Thread Cert.ActIdeal.nD Cert.ActIdeal.τ).loc Cert.ActIdeal.main_v30_4)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v30_0) = v0 c
          ∧ r.2.mem ((c.tc : Thread Cert.ActIdeal.nD Cert.ActIdeal.τ).loc Cert.ActIdeal.main_v30_1) = v1 c
          ∧ r.2.mem ((c.tc : Thread Cert.ActIdeal.nD Cert.ActIdeal.τ).loc Cert.ActIdeal.main_v30_2) = v2 c
          ∧ r.2.mem ((c.tc : Thread Cert.ActIdeal.nD Cert.ActIdeal.τ).loc Cert.ActIdeal.main_v30_3) = v3 c
          ∧ r.2.mem ((c.tc : Thread Cert.ActIdeal.nD Cert.ActIdeal.τ).loc Cert.ActIdeal.main_v30_4) = v4 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
          ∧ r.2.mem ((c.tc : Thread Cert.ActIdeal.nD Cert.ActIdeal.τ).loc Cert.ActIdeal.main_arg3) = m ((c.tc : Thread Cert.ActIdeal.nD Cert.ActIdeal.τ).loc Cert.ActIdeal.main_arg3)
          ∧ r.2.mem ((c.tc : Thread Cert.ActIdeal.nD Cert.ActIdeal.τ).loc Cert.ActIdeal.main_arg4) = m ((c.tc : Thread Cert.ActIdeal.nD Cert.ActIdeal.τ).loc Cert.ActIdeal.main_arg4)
          ∧ r.2.mem ((c.tc : Thread Cert.ActIdeal.nD Cert.ActIdeal.τ).loc Cert.ActIdeal.main_arg5) = m ((c.tc : Thread Cert.ActIdeal.nD Cert.ActIdeal.τ).loc Cert.ActIdeal.main_arg5))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v57) = v0 c
          ∧ r.2.mem ((c.tc : Thread Cert.ActRefIdeal.nD Cert.ActRefIdeal.τ).loc Cert.ActRefIdeal.main_v60) = v1 c
          ∧ r.2.mem ((c.tc : Thread Cert.ActRefIdeal.nD Cert.ActRefIdeal.τ).loc Cert.ActRefIdeal.main_v63) = v2 c
          ∧ r.2.mem ((c.tc : Thread Cert.ActRefIdeal.nD Cert.ActRefIdeal.τ).loc Cert.ActRefIdeal.main_v66) = v3 c
          ∧ r.2.mem ((c.tc : Thread Cert.ActRefIdeal.nD Cert.ActRefIdeal.τ).loc Cert.ActRefIdeal.main_v67) = v4 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2)
          ∧ r.2.mem ((c.tc : Thread Cert.ActRefIdeal.nD Cert.ActRefIdeal.τ).loc Cert.ActRefIdeal.main_arg3) = m' ((c.tc : Thread Cert.ActRefIdeal.nD Cert.ActRefIdeal.τ).loc Cert.ActRefIdeal.main_arg3)
          ∧ r.2.mem ((c.tc : Thread Cert.ActRefIdeal.nD Cert.ActRefIdeal.τ).loc Cert.ActRefIdeal.main_arg4) = m' ((c.tc : Thread Cert.ActRefIdeal.nD Cert.ActRefIdeal.τ).loc Cert.ActRefIdeal.main_arg4)
          ∧ r.2.mem ((c.tc : Thread Cert.ActRefIdeal.nD Cert.ActRefIdeal.τ).loc Cert.ActRefIdeal.main_arg5) = m' ((c.tc : Thread Cert.ActRefIdeal.nD Cert.ActRefIdeal.τ).loc Cert.ActRefIdeal.main_arg5))

def preserves_Wgt_WgtIdeal : Prop :=
  True

def algebraic_WgtIdeal_WgtRefIdeal [hWgtIdeal : Cert.WgtIdeal.Facts] [hWgtRefIdeal : Cert.WgtRefIdeal.Facts] : Prop :=
  ∀ (m : (ℓ : Loc Cert.WgtIdeal.nD Cert.WgtIdeal.τ Cert.WgtIdeal.sig) → Buf (Elt Ideal) ℓ) (g : Dev Cert.WgtIdeal.nD → PrngReg)
    (m' : (ℓ : Loc Cert.WgtRefIdeal.nD Cert.WgtRefIdeal.τ Cert.WgtRefIdeal.sig) → Buf (Elt Ideal) ℓ) (g' : Dev Cert.WgtRefIdeal.nD → PrngReg), Pre_WgtIdeal m →
    (∀ c : Dev Cert.WgtIdeal.nD,
      m' ((c.tc : Thread Cert.WgtRefIdeal.nD Cert.WgtRefIdeal.τ).loc Cert.WgtRefIdeal.main_arg0) = m ((c.tc : Thread Cert.WgtIdeal.nD Cert.WgtIdeal.τ).loc Cert.WgtIdeal.main_arg0)
      ∧ m' ((c.tc : Thread Cert.WgtRefIdeal.nD Cert.WgtRefIdeal.τ).loc Cert.WgtRefIdeal.main_arg1) = m ((c.tc : Thread Cert.WgtIdeal.nD Cert.WgtIdeal.τ).loc Cert.WgtIdeal.main_arg1)
      ∧ m' ((c.tc : Thread Cert.WgtRefIdeal.nD Cert.WgtRefIdeal.τ).loc Cert.WgtRefIdeal.main_arg2) = m ((c.tc : Thread Cert.WgtIdeal.nD Cert.WgtIdeal.τ).loc Cert.WgtIdeal.main_arg2)
      ∧ m' ((c.tc : Thread Cert.WgtRefIdeal.nD Cert.WgtRefIdeal.τ).loc Cert.WgtRefIdeal.main_arg3) = m ((c.tc : Thread Cert.WgtIdeal.nD Cert.WgtIdeal.τ).loc Cert.WgtIdeal.main_arg3)
      ∧ m' ((c.tc : Thread Cert.WgtRefIdeal.nD Cert.WgtRefIdeal.τ).loc Cert.WgtRefIdeal.main_arg4) = m ((c.tc : Thread Cert.WgtIdeal.nD Cert.WgtIdeal.τ).loc Cert.WgtIdeal.main_arg4)
      ∧ m' ((c.tc : Thread Cert.WgtRefIdeal.nD Cert.WgtRefIdeal.τ).loc Cert.WgtRefIdeal.main_arg5) = m ((c.tc : Thread Cert.WgtIdeal.nD Cert.WgtIdeal.τ).loc Cert.WgtIdeal.main_arg5)) →
    ∃ (v0 : (c : Dev Cert.WgtIdeal.nD) → Buf (Elt Ideal) ((c.tc : Thread Cert.WgtIdeal.nD Cert.WgtIdeal.τ).loc Cert.WgtIdeal.main_v34_0)) (v1 : (c : Dev Cert.WgtIdeal.nD) → Buf (Elt Ideal) ((c.tc : Thread Cert.WgtIdeal.nD Cert.WgtIdeal.τ).loc Cert.WgtIdeal.main_v34_1)) (v2 : (c : Dev Cert.WgtIdeal.nD) → Buf (Elt Ideal) ((c.tc : Thread Cert.WgtIdeal.nD Cert.WgtIdeal.τ).loc Cert.WgtIdeal.main_v34_2)),
      θ_run (Cert.WgtIdeal.defs (F := Ideal)) (onTc (τ := Cert.WgtIdeal.τ) (Cert.WgtIdeal.main (F := Ideal))) ⟨m, fun _ => 0, g⟩ (fun r => ∀ c : Dev Cert.WgtIdeal.nD,
          r.2.mem ((c.tc : Thread Cert.WgtIdeal.nD Cert.WgtIdeal.τ).loc Cert.WgtIdeal.main_v34_0) = v0 c
          ∧ r.2.mem ((c.tc : Thread Cert.WgtIdeal.nD Cert.WgtIdeal.τ).loc Cert.WgtIdeal.main_v34_1) = v1 c
          ∧ r.2.mem ((c.tc : Thread Cert.WgtIdeal.nD Cert.WgtIdeal.τ).loc Cert.WgtIdeal.main_v34_2) = v2 c
          ∧ r.2.mem ((c.tc : Thread Cert.WgtIdeal.nD Cert.WgtIdeal.τ).loc Cert.WgtIdeal.main_arg0) = m ((c.tc : Thread Cert.WgtIdeal.nD Cert.WgtIdeal.τ).loc Cert.WgtIdeal.main_arg0)
          ∧ r.2.mem ((c.tc : Thread Cert.WgtIdeal.nD Cert.WgtIdeal.τ).loc Cert.WgtIdeal.main_arg1) = m ((c.tc : Thread Cert.WgtIdeal.nD Cert.WgtIdeal.τ).loc Cert.WgtIdeal.main_arg1)
          ∧ r.2.mem ((c.tc : Thread Cert.WgtIdeal.nD Cert.WgtIdeal.τ).loc Cert.WgtIdeal.main_arg2) = m ((c.tc : Thread Cert.WgtIdeal.nD Cert.WgtIdeal.τ).loc Cert.WgtIdeal.main_arg2)
          ∧ r.2.mem ((c.tc : Thread Cert.WgtIdeal.nD Cert.WgtIdeal.τ).loc Cert.WgtIdeal.main_arg3) = m ((c.tc : Thread Cert.WgtIdeal.nD Cert.WgtIdeal.τ).loc Cert.WgtIdeal.main_arg3)
          ∧ r.2.mem ((c.tc : Thread Cert.WgtIdeal.nD Cert.WgtIdeal.τ).loc Cert.WgtIdeal.main_arg4) = m ((c.tc : Thread Cert.WgtIdeal.nD Cert.WgtIdeal.τ).loc Cert.WgtIdeal.main_arg4)
          ∧ r.2.mem ((c.tc : Thread Cert.WgtIdeal.nD Cert.WgtIdeal.τ).loc Cert.WgtIdeal.main_arg5) = m ((c.tc : Thread Cert.WgtIdeal.nD Cert.WgtIdeal.τ).loc Cert.WgtIdeal.main_arg5))
      ∧ θ_run (Cert.WgtRefIdeal.defs (F := Ideal)) (onTc (τ := Cert.WgtRefIdeal.τ) (Cert.WgtRefIdeal.main (F := Ideal))) ⟨m', fun _ => 0, g'⟩ (fun r => ∀ c : Dev Cert.WgtRefIdeal.nD,
          r.2.mem ((c.tc : Thread Cert.WgtRefIdeal.nD Cert.WgtRefIdeal.τ).loc Cert.WgtRefIdeal.main_v34) = v0 c
          ∧ r.2.mem ((c.tc : Thread Cert.WgtRefIdeal.nD Cert.WgtRefIdeal.τ).loc Cert.WgtRefIdeal.main_v36) = v1 c
          ∧ r.2.mem ((c.tc : Thread Cert.WgtRefIdeal.nD Cert.WgtRefIdeal.τ).loc Cert.WgtRefIdeal.main_v37) = v2 c
          ∧ r.2.mem ((c.tc : Thread Cert.WgtRefIdeal.nD Cert.WgtRefIdeal.τ).loc Cert.WgtRefIdeal.main_arg0) = m' ((c.tc : Thread Cert.WgtRefIdeal.nD Cert.WgtRefIdeal.τ).loc Cert.WgtRefIdeal.main_arg0)
          ∧ r.2.mem ((c.tc : Thread Cert.WgtRefIdeal.nD Cert.WgtRefIdeal.τ).loc Cert.WgtRefIdeal.main_arg1) = m' ((c.tc : Thread Cert.WgtRefIdeal.nD Cert.WgtRefIdeal.τ).loc Cert.WgtRefIdeal.main_arg1)
          ∧ r.2.mem ((c.tc : Thread Cert.WgtRefIdeal.nD Cert.WgtRefIdeal.τ).loc Cert.WgtRefIdeal.main_arg2) = m' ((c.tc : Thread Cert.WgtRefIdeal.nD Cert.WgtRefIdeal.τ).loc Cert.WgtRefIdeal.main_arg2)
          ∧ r.2.mem ((c.tc : Thread Cert.WgtRefIdeal.nD Cert.WgtRefIdeal.τ).loc Cert.WgtRefIdeal.main_arg3) = m' ((c.tc : Thread Cert.WgtRefIdeal.nD Cert.WgtRefIdeal.τ).loc Cert.WgtRefIdeal.main_arg3)
          ∧ r.2.mem ((c.tc : Thread Cert.WgtRefIdeal.nD Cert.WgtRefIdeal.τ).loc Cert.WgtRefIdeal.main_arg4) = m' ((c.tc : Thread Cert.WgtRefIdeal.nD Cert.WgtRefIdeal.τ).loc Cert.WgtRefIdeal.main_arg4)
          ∧ r.2.mem ((c.tc : Thread Cert.WgtRefIdeal.nD Cert.WgtRefIdeal.τ).loc Cert.WgtRefIdeal.main_arg5) = m' ((c.tc : Thread Cert.WgtRefIdeal.nD Cert.WgtRefIdeal.τ).loc Cert.WgtRefIdeal.main_arg5))

def preserves_Fwd_FwdIdeal : Prop :=
  True

def algebraic_FwdIdeal_FwdRefIdeal [hFwdIdeal : Cert.FwdIdeal.Facts] [hFwdRefIdeal : Cert.FwdRefIdeal.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)
      ∧ m' ((c.tc : Thread Cert.FwdRefIdeal.nD Cert.FwdRefIdeal.τ).loc Cert.FwdRefIdeal.main_arg3) = m ((c.tc : Thread Cert.FwdIdeal.nD Cert.FwdIdeal.τ).loc Cert.FwdIdeal.main_arg3)
      ∧ m' ((c.tc : Thread Cert.FwdRefIdeal.nD Cert.FwdRefIdeal.τ).loc Cert.FwdRefIdeal.main_arg4) = m ((c.tc : Thread Cert.FwdIdeal.nD Cert.FwdIdeal.τ).loc Cert.FwdIdeal.main_arg4)) →
    ∃ (v0 : (c : Dev Cert.FwdIdeal.nD) → Buf (Elt Ideal) ((c.tc : Thread Cert.FwdIdeal.nD Cert.FwdIdeal.τ).loc Cert.FwdIdeal.main_v9_0)) (v1 : (c : Dev Cert.FwdIdeal.nD) → Buf (Elt Ideal) ((c.tc : Thread Cert.FwdIdeal.nD Cert.FwdIdeal.τ).loc Cert.FwdIdeal.main_v9_1)) (v2 : (c : Dev Cert.FwdIdeal.nD) → Buf (Elt Ideal) ((c.tc : Thread Cert.FwdIdeal.nD Cert.FwdIdeal.τ).loc Cert.FwdIdeal.main_v9_2)) (v3 : (c : Dev Cert.FwdIdeal.nD) → Buf (Elt Ideal) ((c.tc : Thread Cert.FwdIdeal.nD Cert.FwdIdeal.τ).loc Cert.FwdIdeal.main_v9_3)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v9_0) = v0 c
          ∧ r.2.mem ((c.tc : Thread Cert.FwdIdeal.nD Cert.FwdIdeal.τ).loc Cert.FwdIdeal.main_v9_1) = v1 c
          ∧ r.2.mem ((c.tc : Thread Cert.FwdIdeal.nD Cert.FwdIdeal.τ).loc Cert.FwdIdeal.main_v9_2) = v2 c
          ∧ r.2.mem ((c.tc : Thread Cert.FwdIdeal.nD Cert.FwdIdeal.τ).loc Cert.FwdIdeal.main_v9_3) = v3 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
          ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v20) = v0 c
          ∧ r.2.mem ((c.tc : Thread Cert.FwdRefIdeal.nD Cert.FwdRefIdeal.τ).loc Cert.FwdRefIdeal.main_v21) = v1 c
          ∧ r.2.mem ((c.tc : Thread Cert.FwdRefIdeal.nD Cert.FwdRefIdeal.τ).loc Cert.FwdRefIdeal.main_v25) = v2 c
          ∧ r.2.mem ((c.tc : Thread Cert.FwdRefIdeal.nD Cert.FwdRefIdeal.τ).loc Cert.FwdRefIdeal.main_v29) = v3 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2)
          ∧ r.2.mem ((c.tc : Thread Cert.FwdRefIdeal.nD Cert.FwdRefIdeal.τ).loc Cert.FwdRefIdeal.main_arg3) = m' ((c.tc : Thread Cert.FwdRefIdeal.nD Cert.FwdRefIdeal.τ).loc Cert.FwdRefIdeal.main_arg3)
          ∧ r.2.mem ((c.tc : Thread Cert.FwdRefIdeal.nD Cert.FwdRefIdeal.τ).loc Cert.FwdRefIdeal.main_arg4) = m' ((c.tc : Thread Cert.FwdRefIdeal.nD Cert.FwdRefIdeal.τ).loc Cert.FwdRefIdeal.main_arg4))

def preserves_Swa_SwaIdeal : Prop :=
  IdealRules.named_const.Statement Cert.SwaIdeal.κ "mask" .f32 0xF149F2CA#32 ⊥

def algebraic_SwaIdeal_SwaRefIdeal_pre_finite_attention [hSwaIdeal : Cert.SwaIdeal.Facts] [hSwaRefIdeal : Cert.SwaRefIdeal.Facts] [hPre_finite_attention : Cert.Pre_finite_attention.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal_finite_attention m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)
      ∧ m' ((c.tc : Thread Cert.SwaRefIdeal.nD Cert.SwaRefIdeal.τ).loc Cert.SwaRefIdeal.main_arg2) = m ((c.tc : Thread Cert.SwaIdeal.nD Cert.SwaIdeal.τ).loc Cert.SwaIdeal.main_arg2)
      ∧ m' ((c.tc : Thread Cert.SwaRefIdeal.nD Cert.SwaRefIdeal.τ).loc Cert.SwaRefIdeal.main_arg3) = m ((c.tc : Thread Cert.SwaIdeal.nD Cert.SwaIdeal.τ).loc Cert.SwaIdeal.main_arg3)) →
    ∃ (v0 : (c : Dev Cert.SwaIdeal.nD) → Buf (Elt Ideal) ((c.tc : Thread Cert.SwaIdeal.nD Cert.SwaIdeal.τ).loc Cert.SwaIdeal.main_v3_0)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v3_0) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
          ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
          ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v125) = v0 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1)
          ∧ r.2.mem ((c.tc : Thread Cert.SwaRefIdeal.nD Cert.SwaRefIdeal.τ).loc Cert.SwaRefIdeal.main_arg2) = m' ((c.tc : Thread Cert.SwaRefIdeal.nD Cert.SwaRefIdeal.τ).loc Cert.SwaRefIdeal.main_arg2)
          ∧ r.2.mem ((c.tc : Thread Cert.SwaRefIdeal.nD Cert.SwaRefIdeal.τ).loc Cert.SwaRefIdeal.main_arg3) = m' ((c.tc : Thread Cert.SwaRefIdeal.nD Cert.SwaRefIdeal.τ).loc Cert.SwaRefIdeal.main_arg3))

def preserves_Gate_GateIdeal : Prop :=
  True

def algebraic_GateIdeal_GateRefIdeal_pre_finite_gate [hGateIdeal : Cert.GateIdeal.Facts] [hGateRefIdeal : Cert.GateRefIdeal.Facts] [hPre_finite_gate : Cert.Pre_finite_gate.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_finite_gate m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)
      ∧ m' ((c.tc : Thread Cert.GateRefIdeal.nD Cert.GateRefIdeal.τ).loc Cert.GateRefIdeal.main_arg5) = m ((c.tc : Thread Cert.GateIdeal.nD Cert.GateIdeal.τ).loc Cert.GateIdeal.main_arg5)) →
    ∃ (v0 : (c : Dev Cert.GateIdeal.nD) → Buf (Elt Ideal) ((c.tc : Thread Cert.GateIdeal.nD Cert.GateIdeal.τ).loc Cert.GateIdeal.main_v3_0)) (v1 : (c : Dev Cert.GateIdeal.nD) → Buf (Elt Ideal) ((c.tc : Thread Cert.GateIdeal.nD Cert.GateIdeal.τ).loc Cert.GateIdeal.main_v3_1)) (v2 : (c : Dev Cert.GateIdeal.nD) → Buf (Elt Ideal) ((c.tc : Thread Cert.GateIdeal.nD Cert.GateIdeal.τ).loc Cert.GateIdeal.main_v3_2)) (v3 : (c : Dev Cert.GateIdeal.nD) → Buf (Elt Ideal) ((c.tc : Thread Cert.GateIdeal.nD Cert.GateIdeal.τ).loc Cert.GateIdeal.main_v3_3)) (v4 : (c : Dev Cert.GateIdeal.nD) → Buf (Elt Ideal) ((c.tc : Thread Cert.GateIdeal.nD Cert.GateIdeal.τ).loc Cert.GateIdeal.main_v3_4)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v3_0) = v0 c
          ∧ r.2.mem ((c.tc : Thread Cert.GateIdeal.nD Cert.GateIdeal.τ).loc Cert.GateIdeal.main_v3_1) = v1 c
          ∧ r.2.mem ((c.tc : Thread Cert.GateIdeal.nD Cert.GateIdeal.τ).loc Cert.GateIdeal.main_v3_2) = v2 c
          ∧ r.2.mem ((c.tc : Thread Cert.GateIdeal.nD Cert.GateIdeal.τ).loc Cert.GateIdeal.main_v3_3) = v3 c
          ∧ r.2.mem ((c.tc : Thread Cert.GateIdeal.nD Cert.GateIdeal.τ).loc Cert.GateIdeal.main_v3_4) = v4 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
          ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v57) = v0 c
          ∧ r.2.mem ((c.tc : Thread Cert.GateRefIdeal.nD Cert.GateRefIdeal.τ).loc Cert.GateRefIdeal.main_v58) = v1 c
          ∧ r.2.mem ((c.tc : Thread Cert.GateRefIdeal.nD Cert.GateRefIdeal.τ).loc Cert.GateRefIdeal.main_v59) = v2 c
          ∧ r.2.mem ((c.tc : Thread Cert.GateRefIdeal.nD Cert.GateRefIdeal.τ).loc Cert.GateRefIdeal.main_v60) = v3 c
          ∧ r.2.mem ((c.tc : Thread Cert.GateRefIdeal.nD Cert.GateRefIdeal.τ).loc Cert.GateRefIdeal.main_v61) = v4 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4)
          ∧ r.2.mem ((c.tc : Thread Cert.GateRefIdeal.nD Cert.GateRefIdeal.τ).loc Cert.GateRefIdeal.main_arg5) = m' ((c.tc : Thread Cert.GateRefIdeal.nD Cert.GateRefIdeal.τ).loc Cert.GateRefIdeal.main_arg5))

def preserves_Emb_EmbIdeal : Prop :=
  True

def algebraic_EmbIdeal_EmbRefIdeal [hEmbIdeal : Cert.EmbIdeal.Facts] [hEmbRefIdeal : Cert.EmbRefIdeal.Facts] : Prop :=
  ∀ (m : (ℓ : Loc Cert.EmbIdeal.nD Cert.EmbIdeal.τ Cert.EmbIdeal.sig) → Buf (Elt Ideal) ℓ) (g : Dev Cert.EmbIdeal.nD → PrngReg)
    (m' : (ℓ : Loc Cert.EmbRefIdeal.nD Cert.EmbRefIdeal.τ Cert.EmbRefIdeal.sig) → Buf (Elt Ideal) ℓ) (g' : Dev Cert.EmbRefIdeal.nD → PrngReg), Pre_EmbIdeal m →
    (∀ c : Dev Cert.EmbIdeal.nD,
      m' ((c.tc : Thread Cert.EmbRefIdeal.nD Cert.EmbRefIdeal.τ).loc Cert.EmbRefIdeal.main_arg0) = m ((c.tc : Thread Cert.EmbIdeal.nD Cert.EmbIdeal.τ).loc Cert.EmbIdeal.main_arg0)
      ∧ m' ((c.tc : Thread Cert.EmbRefIdeal.nD Cert.EmbRefIdeal.τ).loc Cert.EmbRefIdeal.main_arg1) = m ((c.tc : Thread Cert.EmbIdeal.nD Cert.EmbIdeal.τ).loc Cert.EmbIdeal.main_arg1)
      ∧ m' ((c.tc : Thread Cert.EmbRefIdeal.nD Cert.EmbRefIdeal.τ).loc Cert.EmbRefIdeal.main_arg2) = m ((c.tc : Thread Cert.EmbIdeal.nD Cert.EmbIdeal.τ).loc Cert.EmbIdeal.main_arg2)
      ∧ m' ((c.tc : Thread Cert.EmbRefIdeal.nD Cert.EmbRefIdeal.τ).loc Cert.EmbRefIdeal.main_arg3) = m ((c.tc : Thread Cert.EmbIdeal.nD Cert.EmbIdeal.τ).loc Cert.EmbIdeal.main_arg3)
      ∧ m' ((c.tc : Thread Cert.EmbRefIdeal.nD Cert.EmbRefIdeal.τ).loc Cert.EmbRefIdeal.main_arg4) = m ((c.tc : Thread Cert.EmbIdeal.nD Cert.EmbIdeal.τ).loc Cert.EmbIdeal.main_arg4)) →
    ∃ (v0 : (c : Dev Cert.EmbIdeal.nD) → Buf (Elt Ideal) ((c.tc : Thread Cert.EmbIdeal.nD Cert.EmbIdeal.τ).loc Cert.EmbIdeal.main_v3)),
      θ_run (Cert.EmbIdeal.defs (F := Ideal)) (onTc (τ := Cert.EmbIdeal.τ) (Cert.EmbIdeal.main (F := Ideal))) ⟨m, fun _ => 0, g⟩ (fun r => ∀ c : Dev Cert.EmbIdeal.nD,
          r.2.mem ((c.tc : Thread Cert.EmbIdeal.nD Cert.EmbIdeal.τ).loc Cert.EmbIdeal.main_v3) = v0 c
          ∧ r.2.mem ((c.tc : Thread Cert.EmbIdeal.nD Cert.EmbIdeal.τ).loc Cert.EmbIdeal.main_arg0) = m ((c.tc : Thread Cert.EmbIdeal.nD Cert.EmbIdeal.τ).loc Cert.EmbIdeal.main_arg0)
          ∧ r.2.mem ((c.tc : Thread Cert.EmbIdeal.nD Cert.EmbIdeal.τ).loc Cert.EmbIdeal.main_arg1) = m ((c.tc : Thread Cert.EmbIdeal.nD Cert.EmbIdeal.τ).loc Cert.EmbIdeal.main_arg1)
          ∧ r.2.mem ((c.tc : Thread Cert.EmbIdeal.nD Cert.EmbIdeal.τ).loc Cert.EmbIdeal.main_arg2) = m ((c.tc : Thread Cert.EmbIdeal.nD Cert.EmbIdeal.τ).loc Cert.EmbIdeal.main_arg2)
          ∧ r.2.mem ((c.tc : Thread Cert.EmbIdeal.nD Cert.EmbIdeal.τ).loc Cert.EmbIdeal.main_arg3) = m ((c.tc : Thread Cert.EmbIdeal.nD Cert.EmbIdeal.τ).loc Cert.EmbIdeal.main_arg3)
          ∧ r.2.mem ((c.tc : Thread Cert.EmbIdeal.nD Cert.EmbIdeal.τ).loc Cert.EmbIdeal.main_arg4) = m ((c.tc : Thread Cert.EmbIdeal.nD Cert.EmbIdeal.τ).loc Cert.EmbIdeal.main_arg4))
      ∧ θ_run (Cert.EmbRefIdeal.defs (F := Ideal)) (onTc (τ := Cert.EmbRefIdeal.τ) (Cert.EmbRefIdeal.main (F := Ideal))) ⟨m', fun _ => 0, g'⟩ (fun r => ∀ c : Dev Cert.EmbRefIdeal.nD,
          r.2.mem ((c.tc : Thread Cert.EmbRefIdeal.nD Cert.EmbRefIdeal.τ).loc Cert.EmbRefIdeal.main_v22) = v0 c
          ∧ r.2.mem ((c.tc : Thread Cert.EmbRefIdeal.nD Cert.EmbRefIdeal.τ).loc Cert.EmbRefIdeal.main_arg0) = m' ((c.tc : Thread Cert.EmbRefIdeal.nD Cert.EmbRefIdeal.τ).loc Cert.EmbRefIdeal.main_arg0)
          ∧ r.2.mem ((c.tc : Thread Cert.EmbRefIdeal.nD Cert.EmbRefIdeal.τ).loc Cert.EmbRefIdeal.main_arg1) = m' ((c.tc : Thread Cert.EmbRefIdeal.nD Cert.EmbRefIdeal.τ).loc Cert.EmbRefIdeal.main_arg1)
          ∧ r.2.mem ((c.tc : Thread Cert.EmbRefIdeal.nD Cert.EmbRefIdeal.τ).loc Cert.EmbRefIdeal.main_arg2) = m' ((c.tc : Thread Cert.EmbRefIdeal.nD Cert.EmbRefIdeal.τ).loc Cert.EmbRefIdeal.main_arg2)
          ∧ r.2.mem ((c.tc : Thread Cert.EmbRefIdeal.nD Cert.EmbRefIdeal.τ).loc Cert.EmbRefIdeal.main_arg3) = m' ((c.tc : Thread Cert.EmbRefIdeal.nD Cert.EmbRefIdeal.τ).loc Cert.EmbRefIdeal.main_arg3)
          ∧ r.2.mem ((c.tc : Thread Cert.EmbRefIdeal.nD Cert.EmbRefIdeal.τ).loc Cert.EmbRefIdeal.main_arg4) = m' ((c.tc : Thread Cert.EmbRefIdeal.nD Cert.EmbRefIdeal.τ).loc Cert.EmbRefIdeal.main_arg4))

def preserves_Dwi_DwiIdeal : Prop :=
  True

def algebraic_DwiIdeal_DwiRefIdeal [hDwiIdeal : Cert.DwiIdeal.Facts] [hDwiRefIdeal : Cert.DwiRefIdeal.Facts] : Prop :=
  ∀ (m : (ℓ : Loc Cert.DwiIdeal.nD Cert.DwiIdeal.τ Cert.DwiIdeal.sig) → Buf (Elt Ideal) ℓ) (g : Dev Cert.DwiIdeal.nD → PrngReg)
    (m' : (ℓ : Loc Cert.DwiRefIdeal.nD Cert.DwiRefIdeal.τ Cert.DwiRefIdeal.sig) → Buf (Elt Ideal) ℓ) (g' : Dev Cert.DwiRefIdeal.nD → PrngReg), Pre_DwiIdeal m →
    (∀ c : Dev Cert.DwiIdeal.nD,
      m' ((c.tc : Thread Cert.DwiRefIdeal.nD Cert.DwiRefIdeal.τ).loc Cert.DwiRefIdeal.main_arg0) = m ((c.tc : Thread Cert.DwiIdeal.nD Cert.DwiIdeal.τ).loc Cert.DwiIdeal.main_arg0)
      ∧ m' ((c.tc : Thread Cert.DwiRefIdeal.nD Cert.DwiRefIdeal.τ).loc Cert.DwiRefIdeal.main_arg1) = m ((c.tc : Thread Cert.DwiIdeal.nD Cert.DwiIdeal.τ).loc Cert.DwiIdeal.main_arg1)
      ∧ m' ((c.tc : Thread Cert.DwiRefIdeal.nD Cert.DwiRefIdeal.τ).loc Cert.DwiRefIdeal.main_arg2) = m ((c.tc : Thread Cert.DwiIdeal.nD Cert.DwiIdeal.τ).loc Cert.DwiIdeal.main_arg2)) →
    ∃ (v0 : (c : Dev Cert.DwiIdeal.nD) → Buf (Elt Ideal) ((c.tc : Thread Cert.DwiIdeal.nD Cert.DwiIdeal.τ).loc Cert.DwiIdeal.main_v15)),
      θ_run (Cert.DwiIdeal.defs (F := Ideal)) (onTc (τ := Cert.DwiIdeal.τ) (Cert.DwiIdeal.main (F := Ideal))) ⟨m, fun _ => 0, g⟩ (fun r => ∀ c : Dev Cert.DwiIdeal.nD,
          r.2.mem ((c.tc : Thread Cert.DwiIdeal.nD Cert.DwiIdeal.τ).loc Cert.DwiIdeal.main_v15) = v0 c
          ∧ r.2.mem ((c.tc : Thread Cert.DwiIdeal.nD Cert.DwiIdeal.τ).loc Cert.DwiIdeal.main_arg0) = m ((c.tc : Thread Cert.DwiIdeal.nD Cert.DwiIdeal.τ).loc Cert.DwiIdeal.main_arg0)
          ∧ r.2.mem ((c.tc : Thread Cert.DwiIdeal.nD Cert.DwiIdeal.τ).loc Cert.DwiIdeal.main_arg1) = m ((c.tc : Thread Cert.DwiIdeal.nD Cert.DwiIdeal.τ).loc Cert.DwiIdeal.main_arg1)
          ∧ r.2.mem ((c.tc : Thread Cert.DwiIdeal.nD Cert.DwiIdeal.τ).loc Cert.DwiIdeal.main_arg2) = m ((c.tc : Thread Cert.DwiIdeal.nD Cert.DwiIdeal.τ).loc Cert.DwiIdeal.main_arg2))
      ∧ θ_run (Cert.DwiRefIdeal.defs (F := Ideal)) (onTc (τ := Cert.DwiRefIdeal.τ) (Cert.DwiRefIdeal.main (F := Ideal))) ⟨m', fun _ => 0, g'⟩ (fun r => ∀ c : Dev Cert.DwiRefIdeal.nD,
          r.2.mem ((c.tc : Thread Cert.DwiRefIdeal.nD Cert.DwiRefIdeal.τ).loc Cert.DwiRefIdeal.main_v16) = v0 c
          ∧ r.2.mem ((c.tc : Thread Cert.DwiRefIdeal.nD Cert.DwiRefIdeal.τ).loc Cert.DwiRefIdeal.main_arg0) = m' ((c.tc : Thread Cert.DwiRefIdeal.nD Cert.DwiRefIdeal.τ).loc Cert.DwiRefIdeal.main_arg0)
          ∧ r.2.mem ((c.tc : Thread Cert.DwiRefIdeal.nD Cert.DwiRefIdeal.τ).loc Cert.DwiRefIdeal.main_arg1) = m' ((c.tc : Thread Cert.DwiRefIdeal.nD Cert.DwiRefIdeal.τ).loc Cert.DwiRefIdeal.main_arg1)
          ∧ r.2.mem ((c.tc : Thread Cert.DwiRefIdeal.nD Cert.DwiRefIdeal.τ).loc Cert.DwiRefIdeal.main_arg2) = m' ((c.tc : Thread Cert.DwiRefIdeal.nD Cert.DwiRefIdeal.τ).loc Cert.DwiRefIdeal.main_arg2))

def preserves_Dwo_DwoIdeal : Prop :=
  True

def algebraic_DwoIdeal_DwoRefIdeal [hDwoIdeal : Cert.DwoIdeal.Facts] [hDwoRefIdeal : Cert.DwoRefIdeal.Facts] : Prop :=
  ∀ (m : (ℓ : Loc Cert.DwoIdeal.nD Cert.DwoIdeal.τ Cert.DwoIdeal.sig) → Buf (Elt Ideal) ℓ) (g : Dev Cert.DwoIdeal.nD → PrngReg)
    (m' : (ℓ : Loc Cert.DwoRefIdeal.nD Cert.DwoRefIdeal.τ Cert.DwoRefIdeal.sig) → Buf (Elt Ideal) ℓ) (g' : Dev Cert.DwoRefIdeal.nD → PrngReg), Pre_DwoIdeal m →
    (∀ c : Dev Cert.DwoIdeal.nD,
      m' ((c.tc : Thread Cert.DwoRefIdeal.nD Cert.DwoRefIdeal.τ).loc Cert.DwoRefIdeal.main_arg0) = m ((c.tc : Thread Cert.DwoIdeal.nD Cert.DwoIdeal.τ).loc Cert.DwoIdeal.main_arg0)
      ∧ m' ((c.tc : Thread Cert.DwoRefIdeal.nD Cert.DwoRefIdeal.τ).loc Cert.DwoRefIdeal.main_arg1) = m ((c.tc : Thread Cert.DwoIdeal.nD Cert.DwoIdeal.τ).loc Cert.DwoIdeal.main_arg1)
      ∧ m' ((c.tc : Thread Cert.DwoRefIdeal.nD Cert.DwoRefIdeal.τ).loc Cert.DwoRefIdeal.main_arg2) = m ((c.tc : Thread Cert.DwoIdeal.nD Cert.DwoIdeal.τ).loc Cert.DwoIdeal.main_arg2)
      ∧ m' ((c.tc : Thread Cert.DwoRefIdeal.nD Cert.DwoRefIdeal.τ).loc Cert.DwoRefIdeal.main_arg3) = m ((c.tc : Thread Cert.DwoIdeal.nD Cert.DwoIdeal.τ).loc Cert.DwoIdeal.main_arg3)) →
    ∃ (v0 : (c : Dev Cert.DwoIdeal.nD) → Buf (Elt Ideal) ((c.tc : Thread Cert.DwoIdeal.nD Cert.DwoIdeal.τ).loc Cert.DwoIdeal.main_v2)),
      θ_run (Cert.DwoIdeal.defs (F := Ideal)) (onTc (τ := Cert.DwoIdeal.τ) (Cert.DwoIdeal.main (F := Ideal))) ⟨m, fun _ => 0, g⟩ (fun r => ∀ c : Dev Cert.DwoIdeal.nD,
          r.2.mem ((c.tc : Thread Cert.DwoIdeal.nD Cert.DwoIdeal.τ).loc Cert.DwoIdeal.main_v2) = v0 c
          ∧ r.2.mem ((c.tc : Thread Cert.DwoIdeal.nD Cert.DwoIdeal.τ).loc Cert.DwoIdeal.main_arg0) = m ((c.tc : Thread Cert.DwoIdeal.nD Cert.DwoIdeal.τ).loc Cert.DwoIdeal.main_arg0)
          ∧ r.2.mem ((c.tc : Thread Cert.DwoIdeal.nD Cert.DwoIdeal.τ).loc Cert.DwoIdeal.main_arg1) = m ((c.tc : Thread Cert.DwoIdeal.nD Cert.DwoIdeal.τ).loc Cert.DwoIdeal.main_arg1)
          ∧ r.2.mem ((c.tc : Thread Cert.DwoIdeal.nD Cert.DwoIdeal.τ).loc Cert.DwoIdeal.main_arg2) = m ((c.tc : Thread Cert.DwoIdeal.nD Cert.DwoIdeal.τ).loc Cert.DwoIdeal.main_arg2)
          ∧ r.2.mem ((c.tc : Thread Cert.DwoIdeal.nD Cert.DwoIdeal.τ).loc Cert.DwoIdeal.main_arg3) = m ((c.tc : Thread Cert.DwoIdeal.nD Cert.DwoIdeal.τ).loc Cert.DwoIdeal.main_arg3))
      ∧ θ_run (Cert.DwoRefIdeal.defs (F := Ideal)) (onTc (τ := Cert.DwoRefIdeal.τ) (Cert.DwoRefIdeal.main (F := Ideal))) ⟨m', fun _ => 0, g'⟩ (fun r => ∀ c : Dev Cert.DwoRefIdeal.nD,
          r.2.mem ((c.tc : Thread Cert.DwoRefIdeal.nD Cert.DwoRefIdeal.τ).loc Cert.DwoRefIdeal.main_v4) = v0 c
          ∧ r.2.mem ((c.tc : Thread Cert.DwoRefIdeal.nD Cert.DwoRefIdeal.τ).loc Cert.DwoRefIdeal.main_arg0) = m' ((c.tc : Thread Cert.DwoRefIdeal.nD Cert.DwoRefIdeal.τ).loc Cert.DwoRefIdeal.main_arg0)
          ∧ r.2.mem ((c.tc : Thread Cert.DwoRefIdeal.nD Cert.DwoRefIdeal.τ).loc Cert.DwoRefIdeal.main_arg1) = m' ((c.tc : Thread Cert.DwoRefIdeal.nD Cert.DwoRefIdeal.τ).loc Cert.DwoRefIdeal.main_arg1)
          ∧ r.2.mem ((c.tc : Thread Cert.DwoRefIdeal.nD Cert.DwoRefIdeal.τ).loc Cert.DwoRefIdeal.main_arg2) = m' ((c.tc : Thread Cert.DwoRefIdeal.nD Cert.DwoRefIdeal.τ).loc Cert.DwoRefIdeal.main_arg2)
          ∧ r.2.mem ((c.tc : Thread Cert.DwoRefIdeal.nD Cert.DwoRefIdeal.τ).loc Cert.DwoRefIdeal.main_arg3) = m' ((c.tc : Thread Cert.DwoRefIdeal.nD Cert.DwoRefIdeal.τ).loc Cert.DwoRefIdeal.main_arg3))

def preserves_Dwg_DwgIdeal : Prop :=
  True

def algebraic_DwgIdeal_DwgRefIdeal [hDwgIdeal : Cert.DwgIdeal.Facts] [hDwgRefIdeal : Cert.DwgRefIdeal.Facts] : Prop :=
  ∀ (m : (ℓ : Loc Cert.DwgIdeal.nD Cert.DwgIdeal.τ Cert.DwgIdeal.sig) → Buf (Elt Ideal) ℓ) (g : Dev Cert.DwgIdeal.nD → PrngReg)
    (m' : (ℓ : Loc Cert.DwgRefIdeal.nD Cert.DwgRefIdeal.τ Cert.DwgRefIdeal.sig) → Buf (Elt Ideal) ℓ) (g' : Dev Cert.DwgRefIdeal.nD → PrngReg), Pre_DwgIdeal m →
    (∀ c : Dev Cert.DwgIdeal.nD,
      m' ((c.tc : Thread Cert.DwgRefIdeal.nD Cert.DwgRefIdeal.τ).loc Cert.DwgRefIdeal.main_arg0) = m ((c.tc : Thread Cert.DwgIdeal.nD Cert.DwgIdeal.τ).loc Cert.DwgIdeal.main_arg0)
      ∧ m' ((c.tc : Thread Cert.DwgRefIdeal.nD Cert.DwgRefIdeal.τ).loc Cert.DwgRefIdeal.main_arg1) = m ((c.tc : Thread Cert.DwgIdeal.nD Cert.DwgIdeal.τ).loc Cert.DwgIdeal.main_arg1)
      ∧ m' ((c.tc : Thread Cert.DwgRefIdeal.nD Cert.DwgRefIdeal.τ).loc Cert.DwgRefIdeal.main_arg2) = m ((c.tc : Thread Cert.DwgIdeal.nD Cert.DwgIdeal.τ).loc Cert.DwgIdeal.main_arg2)) →
    ∃ (v0 : (c : Dev Cert.DwgIdeal.nD) → Buf (Elt Ideal) ((c.tc : Thread Cert.DwgIdeal.nD Cert.DwgIdeal.τ).loc Cert.DwgIdeal.main_v15)),
      θ_run (Cert.DwgIdeal.defs (F := Ideal)) (onTc (τ := Cert.DwgIdeal.τ) (Cert.DwgIdeal.main (F := Ideal))) ⟨m, fun _ => 0, g⟩ (fun r => ∀ c : Dev Cert.DwgIdeal.nD,
          r.2.mem ((c.tc : Thread Cert.DwgIdeal.nD Cert.DwgIdeal.τ).loc Cert.DwgIdeal.main_v15) = v0 c
          ∧ r.2.mem ((c.tc : Thread Cert.DwgIdeal.nD Cert.DwgIdeal.τ).loc Cert.DwgIdeal.main_arg0) = m ((c.tc : Thread Cert.DwgIdeal.nD Cert.DwgIdeal.τ).loc Cert.DwgIdeal.main_arg0)
          ∧ r.2.mem ((c.tc : Thread Cert.DwgIdeal.nD Cert.DwgIdeal.τ).loc Cert.DwgIdeal.main_arg1) = m ((c.tc : Thread Cert.DwgIdeal.nD Cert.DwgIdeal.τ).loc Cert.DwgIdeal.main_arg1)
          ∧ r.2.mem ((c.tc : Thread Cert.DwgIdeal.nD Cert.DwgIdeal.τ).loc Cert.DwgIdeal.main_arg2) = m ((c.tc : Thread Cert.DwgIdeal.nD Cert.DwgIdeal.τ).loc Cert.DwgIdeal.main_arg2))
      ∧ θ_run (Cert.DwgRefIdeal.defs (F := Ideal)) (onTc (τ := Cert.DwgRefIdeal.τ) (Cert.DwgRefIdeal.main (F := Ideal))) ⟨m', fun _ => 0, g'⟩ (fun r => ∀ c : Dev Cert.DwgRefIdeal.nD,
          r.2.mem ((c.tc : Thread Cert.DwgRefIdeal.nD Cert.DwgRefIdeal.τ).loc Cert.DwgRefIdeal.main_v16) = v0 c
          ∧ r.2.mem ((c.tc : Thread Cert.DwgRefIdeal.nD Cert.DwgRefIdeal.τ).loc Cert.DwgRefIdeal.main_arg0) = m' ((c.tc : Thread Cert.DwgRefIdeal.nD Cert.DwgRefIdeal.τ).loc Cert.DwgRefIdeal.main_arg0)
          ∧ r.2.mem ((c.tc : Thread Cert.DwgRefIdeal.nD Cert.DwgRefIdeal.τ).loc Cert.DwgRefIdeal.main_arg1) = m' ((c.tc : Thread Cert.DwgRefIdeal.nD Cert.DwgRefIdeal.τ).loc Cert.DwgRefIdeal.main_arg1)
          ∧ r.2.mem ((c.tc : Thread Cert.DwgRefIdeal.nD Cert.DwgRefIdeal.τ).loc Cert.DwgRefIdeal.main_arg2) = m' ((c.tc : Thread Cert.DwgRefIdeal.nD Cert.DwgRefIdeal.τ).loc Cert.DwgRefIdeal.main_arg2))

def preserves_Dxo_DxoIdeal : Prop :=
  True

def algebraic_DxoIdeal_DxoRefIdeal [hDxoIdeal : Cert.DxoIdeal.Facts] [hDxoRefIdeal : Cert.DxoRefIdeal.Facts] : Prop :=
  ∀ (m : (ℓ : Loc Cert.DxoIdeal.nD Cert.DxoIdeal.τ Cert.DxoIdeal.sig) → Buf (Elt Ideal) ℓ) (g : Dev Cert.DxoIdeal.nD → PrngReg)
    (m' : (ℓ : Loc Cert.DxoRefIdeal.nD Cert.DxoRefIdeal.τ Cert.DxoRefIdeal.sig) → Buf (Elt Ideal) ℓ) (g' : Dev Cert.DxoRefIdeal.nD → PrngReg), Pre_DxoIdeal m →
    (∀ c : Dev Cert.DxoIdeal.nD,
      m' ((c.tc : Thread Cert.DxoRefIdeal.nD Cert.DxoRefIdeal.τ).loc Cert.DxoRefIdeal.main_arg0) = m ((c.tc : Thread Cert.DxoIdeal.nD Cert.DxoIdeal.τ).loc Cert.DxoIdeal.main_arg0)
      ∧ m' ((c.tc : Thread Cert.DxoRefIdeal.nD Cert.DxoRefIdeal.τ).loc Cert.DxoRefIdeal.main_arg1) = m ((c.tc : Thread Cert.DxoIdeal.nD Cert.DxoIdeal.τ).loc Cert.DxoIdeal.main_arg1)) →
    ∃ (v0 : (c : Dev Cert.DxoIdeal.nD) → Buf (Elt Ideal) ((c.tc : Thread Cert.DxoIdeal.nD Cert.DxoIdeal.τ).loc Cert.DxoIdeal.main_v1_0)) (v1 : (c : Dev Cert.DxoIdeal.nD) → Buf (Elt Ideal) ((c.tc : Thread Cert.DxoIdeal.nD Cert.DxoIdeal.τ).loc Cert.DxoIdeal.main_v1_1)) (v2 : (c : Dev Cert.DxoIdeal.nD) → Buf (Elt Ideal) ((c.tc : Thread Cert.DxoIdeal.nD Cert.DxoIdeal.τ).loc Cert.DxoIdeal.main_v1_2)),
      θ_run (Cert.DxoIdeal.defs (F := Ideal)) (onTc (τ := Cert.DxoIdeal.τ) (Cert.DxoIdeal.main (F := Ideal))) ⟨m, fun _ => 0, g⟩ (fun r => ∀ c : Dev Cert.DxoIdeal.nD,
          r.2.mem ((c.tc : Thread Cert.DxoIdeal.nD Cert.DxoIdeal.τ).loc Cert.DxoIdeal.main_v1_0) = v0 c
          ∧ r.2.mem ((c.tc : Thread Cert.DxoIdeal.nD Cert.DxoIdeal.τ).loc Cert.DxoIdeal.main_v1_1) = v1 c
          ∧ r.2.mem ((c.tc : Thread Cert.DxoIdeal.nD Cert.DxoIdeal.τ).loc Cert.DxoIdeal.main_v1_2) = v2 c
          ∧ r.2.mem ((c.tc : Thread Cert.DxoIdeal.nD Cert.DxoIdeal.τ).loc Cert.DxoIdeal.main_arg0) = m ((c.tc : Thread Cert.DxoIdeal.nD Cert.DxoIdeal.τ).loc Cert.DxoIdeal.main_arg0)
          ∧ r.2.mem ((c.tc : Thread Cert.DxoIdeal.nD Cert.DxoIdeal.τ).loc Cert.DxoIdeal.main_arg1) = m ((c.tc : Thread Cert.DxoIdeal.nD Cert.DxoIdeal.τ).loc Cert.DxoIdeal.main_arg1))
      ∧ θ_run (Cert.DxoRefIdeal.defs (F := Ideal)) (onTc (τ := Cert.DxoRefIdeal.τ) (Cert.DxoRefIdeal.main (F := Ideal))) ⟨m', fun _ => 0, g'⟩ (fun r => ∀ c : Dev Cert.DxoRefIdeal.nD,
          r.2.mem ((c.tc : Thread Cert.DxoRefIdeal.nD Cert.DxoRefIdeal.τ).loc Cert.DxoRefIdeal.main_v6) = v0 c
          ∧ r.2.mem ((c.tc : Thread Cert.DxoRefIdeal.nD Cert.DxoRefIdeal.τ).loc Cert.DxoRefIdeal.main_v7) = v1 c
          ∧ r.2.mem ((c.tc : Thread Cert.DxoRefIdeal.nD Cert.DxoRefIdeal.τ).loc Cert.DxoRefIdeal.main_v8) = v2 c
          ∧ r.2.mem ((c.tc : Thread Cert.DxoRefIdeal.nD Cert.DxoRefIdeal.τ).loc Cert.DxoRefIdeal.main_arg0) = m' ((c.tc : Thread Cert.DxoRefIdeal.nD Cert.DxoRefIdeal.τ).loc Cert.DxoRefIdeal.main_arg0)
          ∧ r.2.mem ((c.tc : Thread Cert.DxoRefIdeal.nD Cert.DxoRefIdeal.τ).loc Cert.DxoRefIdeal.main_arg1) = m' ((c.tc : Thread Cert.DxoRefIdeal.nD Cert.DxoRefIdeal.τ).loc Cert.DxoRefIdeal.main_arg1))

def preserves_Inx_InxIdeal : Prop :=
  True

def algebraic_InxIdeal_InxRefIdeal_pre_finite_mixer [hInxIdeal : Cert.InxIdeal.Facts] [hInxRefIdeal : Cert.InxRefIdeal.Facts] [hPre_finite_mixer : Cert.Pre_finite_mixer.Facts] : Prop :=
  ∀ (m : (ℓ : Loc Cert.InxIdeal.nD Cert.InxIdeal.τ Cert.InxIdeal.sig) → Buf (Elt Ideal) ℓ) (g : Dev Cert.InxIdeal.nD → PrngReg)
    (m' : (ℓ : Loc Cert.InxRefIdeal.nD Cert.InxRefIdeal.τ Cert.InxRefIdeal.sig) → Buf (Elt Ideal) ℓ) (g' : Dev Cert.InxRefIdeal.nD → PrngReg), Pre_InxIdeal_finite_mixer m →
    (∀ c : Dev Cert.InxIdeal.nD,
      m' ((c.tc : Thread Cert.InxRefIdeal.nD Cert.InxRefIdeal.τ).loc Cert.InxRefIdeal.main_arg0) = m ((c.tc : Thread Cert.InxIdeal.nD Cert.InxIdeal.τ).loc Cert.InxIdeal.main_arg0)
      ∧ m' ((c.tc : Thread Cert.InxRefIdeal.nD Cert.InxRefIdeal.τ).loc Cert.InxRefIdeal.main_arg1) = m ((c.tc : Thread Cert.InxIdeal.nD Cert.InxIdeal.τ).loc Cert.InxIdeal.main_arg1)
      ∧ m' ((c.tc : Thread Cert.InxRefIdeal.nD Cert.InxRefIdeal.τ).loc Cert.InxRefIdeal.main_arg2) = m ((c.tc : Thread Cert.InxIdeal.nD Cert.InxIdeal.τ).loc Cert.InxIdeal.main_arg2)
      ∧ m' ((c.tc : Thread Cert.InxRefIdeal.nD Cert.InxRefIdeal.τ).loc Cert.InxRefIdeal.main_arg3) = m ((c.tc : Thread Cert.InxIdeal.nD Cert.InxIdeal.τ).loc Cert.InxIdeal.main_arg3)
      ∧ m' ((c.tc : Thread Cert.InxRefIdeal.nD Cert.InxRefIdeal.τ).loc Cert.InxRefIdeal.main_arg4) = m ((c.tc : Thread Cert.InxIdeal.nD Cert.InxIdeal.τ).loc Cert.InxIdeal.main_arg4)
      ∧ m' ((c.tc : Thread Cert.InxRefIdeal.nD Cert.InxRefIdeal.τ).loc Cert.InxRefIdeal.main_arg5) = m ((c.tc : Thread Cert.InxIdeal.nD Cert.InxIdeal.τ).loc Cert.InxIdeal.main_arg5)
      ∧ m' ((c.tc : Thread Cert.InxRefIdeal.nD Cert.InxRefIdeal.τ).loc Cert.InxRefIdeal.main_arg6) = m ((c.tc : Thread Cert.InxIdeal.nD Cert.InxIdeal.τ).loc Cert.InxIdeal.main_arg6)
      ∧ m' ((c.tc : Thread Cert.InxRefIdeal.nD Cert.InxRefIdeal.τ).loc Cert.InxRefIdeal.main_arg7) = m ((c.tc : Thread Cert.InxIdeal.nD Cert.InxIdeal.τ).loc Cert.InxIdeal.main_arg7)
      ∧ m' ((c.tc : Thread Cert.InxRefIdeal.nD Cert.InxRefIdeal.τ).loc Cert.InxRefIdeal.main_arg8) = m ((c.tc : Thread Cert.InxIdeal.nD Cert.InxIdeal.τ).loc Cert.InxIdeal.main_arg8)
      ∧ m' ((c.tc : Thread Cert.InxRefIdeal.nD Cert.InxRefIdeal.τ).loc Cert.InxRefIdeal.main_arg9) = m ((c.tc : Thread Cert.InxIdeal.nD Cert.InxIdeal.τ).loc Cert.InxIdeal.main_arg9)
      ∧ m' ((c.tc : Thread Cert.InxRefIdeal.nD Cert.InxRefIdeal.τ).loc Cert.InxRefIdeal.main_arg10) = m ((c.tc : Thread Cert.InxIdeal.nD Cert.InxIdeal.τ).loc Cert.InxIdeal.main_arg10)
      ∧ m' ((c.tc : Thread Cert.InxRefIdeal.nD Cert.InxRefIdeal.τ).loc Cert.InxRefIdeal.main_arg11) = m ((c.tc : Thread Cert.InxIdeal.nD Cert.InxIdeal.τ).loc Cert.InxIdeal.main_arg11)) →
    ∃ (v0 : (c : Dev Cert.InxIdeal.nD) → Buf (Elt Ideal) ((c.tc : Thread Cert.InxIdeal.nD Cert.InxIdeal.τ).loc Cert.InxIdeal.main_v2_0)) (v1 : (c : Dev Cert.InxIdeal.nD) → Buf (Elt Ideal) ((c.tc : Thread Cert.InxIdeal.nD Cert.InxIdeal.τ).loc Cert.InxIdeal.main_v2_1)) (v2 : (c : Dev Cert.InxIdeal.nD) → Buf (Elt Ideal) ((c.tc : Thread Cert.InxIdeal.nD Cert.InxIdeal.τ).loc Cert.InxIdeal.main_v2_2)),
      θ_run (Cert.InxIdeal.defs (F := Ideal)) (onTc (τ := Cert.InxIdeal.τ) (Cert.InxIdeal.main (F := Ideal))) ⟨m, fun _ => 0, g⟩ (fun r => ∀ c : Dev Cert.InxIdeal.nD,
          r.2.mem ((c.tc : Thread Cert.InxIdeal.nD Cert.InxIdeal.τ).loc Cert.InxIdeal.main_v2_0) = v0 c
          ∧ r.2.mem ((c.tc : Thread Cert.InxIdeal.nD Cert.InxIdeal.τ).loc Cert.InxIdeal.main_v2_1) = v1 c
          ∧ r.2.mem ((c.tc : Thread Cert.InxIdeal.nD Cert.InxIdeal.τ).loc Cert.InxIdeal.main_v2_2) = v2 c
          ∧ r.2.mem ((c.tc : Thread Cert.InxIdeal.nD Cert.InxIdeal.τ).loc Cert.InxIdeal.main_arg0) = m ((c.tc : Thread Cert.InxIdeal.nD Cert.InxIdeal.τ).loc Cert.InxIdeal.main_arg0)
          ∧ r.2.mem ((c.tc : Thread Cert.InxIdeal.nD Cert.InxIdeal.τ).loc Cert.InxIdeal.main_arg1) = m ((c.tc : Thread Cert.InxIdeal.nD Cert.InxIdeal.τ).loc Cert.InxIdeal.main_arg1)
          ∧ r.2.mem ((c.tc : Thread Cert.InxIdeal.nD Cert.InxIdeal.τ).loc Cert.InxIdeal.main_arg2) = m ((c.tc : Thread Cert.InxIdeal.nD Cert.InxIdeal.τ).loc Cert.InxIdeal.main_arg2)
          ∧ r.2.mem ((c.tc : Thread Cert.InxIdeal.nD Cert.InxIdeal.τ).loc Cert.InxIdeal.main_arg3) = m ((c.tc : Thread Cert.InxIdeal.nD Cert.InxIdeal.τ).loc Cert.InxIdeal.main_arg3)
          ∧ r.2.mem ((c.tc : Thread Cert.InxIdeal.nD Cert.InxIdeal.τ).loc Cert.InxIdeal.main_arg4) = m ((c.tc : Thread Cert.InxIdeal.nD Cert.InxIdeal.τ).loc Cert.InxIdeal.main_arg4)
          ∧ r.2.mem ((c.tc : Thread Cert.InxIdeal.nD Cert.InxIdeal.τ).loc Cert.InxIdeal.main_arg5) = m ((c.tc : Thread Cert.InxIdeal.nD Cert.InxIdeal.τ).loc Cert.InxIdeal.main_arg5)
          ∧ r.2.mem ((c.tc : Thread Cert.InxIdeal.nD Cert.InxIdeal.τ).loc Cert.InxIdeal.main_arg6) = m ((c.tc : Thread Cert.InxIdeal.nD Cert.InxIdeal.τ).loc Cert.InxIdeal.main_arg6)
          ∧ r.2.mem ((c.tc : Thread Cert.InxIdeal.nD Cert.InxIdeal.τ).loc Cert.InxIdeal.main_arg7) = m ((c.tc : Thread Cert.InxIdeal.nD Cert.InxIdeal.τ).loc Cert.InxIdeal.main_arg7)
          ∧ r.2.mem ((c.tc : Thread Cert.InxIdeal.nD Cert.InxIdeal.τ).loc Cert.InxIdeal.main_arg8) = m ((c.tc : Thread Cert.InxIdeal.nD Cert.InxIdeal.τ).loc Cert.InxIdeal.main_arg8)
          ∧ r.2.mem ((c.tc : Thread Cert.InxIdeal.nD Cert.InxIdeal.τ).loc Cert.InxIdeal.main_arg9) = m ((c.tc : Thread Cert.InxIdeal.nD Cert.InxIdeal.τ).loc Cert.InxIdeal.main_arg9)
          ∧ r.2.mem ((c.tc : Thread Cert.InxIdeal.nD Cert.InxIdeal.τ).loc Cert.InxIdeal.main_arg10) = m ((c.tc : Thread Cert.InxIdeal.nD Cert.InxIdeal.τ).loc Cert.InxIdeal.main_arg10)
          ∧ r.2.mem ((c.tc : Thread Cert.InxIdeal.nD Cert.InxIdeal.τ).loc Cert.InxIdeal.main_arg11) = m ((c.tc : Thread Cert.InxIdeal.nD Cert.InxIdeal.τ).loc Cert.InxIdeal.main_arg11))
      ∧ θ_run (Cert.InxRefIdeal.defs (F := Ideal)) (onTc (τ := Cert.InxRefIdeal.τ) (Cert.InxRefIdeal.main (F := Ideal))) ⟨m', fun _ => 0, g'⟩ (fun r => ∀ c : Dev Cert.InxRefIdeal.nD,
          r.2.mem ((c.tc : Thread Cert.InxRefIdeal.nD Cert.InxRefIdeal.τ).loc Cert.InxRefIdeal.main_v51) = v0 c
          ∧ r.2.mem ((c.tc : Thread Cert.InxRefIdeal.nD Cert.InxRefIdeal.τ).loc Cert.InxRefIdeal.main_v52) = v1 c
          ∧ r.2.mem ((c.tc : Thread Cert.InxRefIdeal.nD Cert.InxRefIdeal.τ).loc Cert.InxRefIdeal.main_v53) = v2 c
          ∧ r.2.mem ((c.tc : Thread Cert.InxRefIdeal.nD Cert.InxRefIdeal.τ).loc Cert.InxRefIdeal.main_arg0) = m' ((c.tc : Thread Cert.InxRefIdeal.nD Cert.InxRefIdeal.τ).loc Cert.InxRefIdeal.main_arg0)
          ∧ r.2.mem ((c.tc : Thread Cert.InxRefIdeal.nD Cert.InxRefIdeal.τ).loc Cert.InxRefIdeal.main_arg1) = m' ((c.tc : Thread Cert.InxRefIdeal.nD Cert.InxRefIdeal.τ).loc Cert.InxRefIdeal.main_arg1)
          ∧ r.2.mem ((c.tc : Thread Cert.InxRefIdeal.nD Cert.InxRefIdeal.τ).loc Cert.InxRefIdeal.main_arg2) = m' ((c.tc : Thread Cert.InxRefIdeal.nD Cert.InxRefIdeal.τ).loc Cert.InxRefIdeal.main_arg2)
          ∧ r.2.mem ((c.tc : Thread Cert.InxRefIdeal.nD Cert.InxRefIdeal.τ).loc Cert.InxRefIdeal.main_arg3) = m' ((c.tc : Thread Cert.InxRefIdeal.nD Cert.InxRefIdeal.τ).loc Cert.InxRefIdeal.main_arg3)
          ∧ r.2.mem ((c.tc : Thread Cert.InxRefIdeal.nD Cert.InxRefIdeal.τ).loc Cert.InxRefIdeal.main_arg4) = m' ((c.tc : Thread Cert.InxRefIdeal.nD Cert.InxRefIdeal.τ).loc Cert.InxRefIdeal.main_arg4)
          ∧ r.2.mem ((c.tc : Thread Cert.InxRefIdeal.nD Cert.InxRefIdeal.τ).loc Cert.InxRefIdeal.main_arg5) = m' ((c.tc : Thread Cert.InxRefIdeal.nD Cert.InxRefIdeal.τ).loc Cert.InxRefIdeal.main_arg5)
          ∧ r.2.mem ((c.tc : Thread Cert.InxRefIdeal.nD Cert.InxRefIdeal.τ).loc Cert.InxRefIdeal.main_arg6) = m' ((c.tc : Thread Cert.InxRefIdeal.nD Cert.InxRefIdeal.τ).loc Cert.InxRefIdeal.main_arg6)
          ∧ r.2.mem ((c.tc : Thread Cert.InxRefIdeal.nD Cert.InxRefIdeal.τ).loc Cert.InxRefIdeal.main_arg7) = m' ((c.tc : Thread Cert.InxRefIdeal.nD Cert.InxRefIdeal.τ).loc Cert.InxRefIdeal.main_arg7)
          ∧ r.2.mem ((c.tc : Thread Cert.InxRefIdeal.nD Cert.InxRefIdeal.τ).loc Cert.InxRefIdeal.main_arg8) = m' ((c.tc : Thread Cert.InxRefIdeal.nD Cert.InxRefIdeal.τ).loc Cert.InxRefIdeal.main_arg8)
          ∧ r.2.mem ((c.tc : Thread Cert.InxRefIdeal.nD Cert.InxRefIdeal.τ).loc Cert.InxRefIdeal.main_arg9) = m' ((c.tc : Thread Cert.InxRefIdeal.nD Cert.InxRefIdeal.τ).loc Cert.InxRefIdeal.main_arg9)
          ∧ r.2.mem ((c.tc : Thread Cert.InxRefIdeal.nD Cert.InxRefIdeal.τ).loc Cert.InxRefIdeal.main_arg10) = m' ((c.tc : Thread Cert.InxRefIdeal.nD Cert.InxRefIdeal.τ).loc Cert.InxRefIdeal.main_arg10)
          ∧ r.2.mem ((c.tc : Thread Cert.InxRefIdeal.nD Cert.InxRefIdeal.τ).loc Cert.InxRefIdeal.main_arg11) = m' ((c.tc : Thread Cert.InxRefIdeal.nD Cert.InxRefIdeal.τ).loc Cert.InxRefIdeal.main_arg11))

def preserves_Mof_MofIdeal : Prop :=
  True

def algebraic_MofIdeal_MofRefIdeal [hMofIdeal : Cert.MofIdeal.Facts] [hMofRefIdeal : Cert.MofRefIdeal.Facts] : Prop :=
  ∀ (m : (ℓ : Loc Cert.MofIdeal.nD Cert.MofIdeal.τ Cert.MofIdeal.sig) → Buf (Elt Ideal) ℓ) (g : Dev Cert.MofIdeal.nD → PrngReg)
    (m' : (ℓ : Loc Cert.MofRefIdeal.nD Cert.MofRefIdeal.τ Cert.MofRefIdeal.sig) → Buf (Elt Ideal) ℓ) (g' : Dev Cert.MofRefIdeal.nD → PrngReg), Pre_MofIdeal m →
    (∀ c : Dev Cert.MofIdeal.nD,
      m' ((c.tc : Thread Cert.MofRefIdeal.nD Cert.MofRefIdeal.τ).loc Cert.MofRefIdeal.main_arg0) = m ((c.tc : Thread Cert.MofIdeal.nD Cert.MofIdeal.τ).loc Cert.MofIdeal.main_arg0)
      ∧ m' ((c.tc : Thread Cert.MofRefIdeal.nD Cert.MofRefIdeal.τ).loc Cert.MofRefIdeal.main_arg1) = m ((c.tc : Thread Cert.MofIdeal.nD Cert.MofIdeal.τ).loc Cert.MofIdeal.main_arg1)
      ∧ m' ((c.tc : Thread Cert.MofRefIdeal.nD Cert.MofRefIdeal.τ).loc Cert.MofRefIdeal.main_arg2) = m ((c.tc : Thread Cert.MofIdeal.nD Cert.MofIdeal.τ).loc Cert.MofIdeal.main_arg2)
      ∧ m' ((c.tc : Thread Cert.MofRefIdeal.nD Cert.MofRefIdeal.τ).loc Cert.MofRefIdeal.main_arg3) = m ((c.tc : Thread Cert.MofIdeal.nD Cert.MofIdeal.τ).loc Cert.MofIdeal.main_arg3)
      ∧ m' ((c.tc : Thread Cert.MofRefIdeal.nD Cert.MofRefIdeal.τ).loc Cert.MofRefIdeal.main_arg4) = m ((c.tc : Thread Cert.MofIdeal.nD Cert.MofIdeal.τ).loc Cert.MofIdeal.main_arg4)) →
    ∃ (v0 : (c : Dev Cert.MofIdeal.nD) → Buf (Elt Ideal) ((c.tc : Thread Cert.MofIdeal.nD Cert.MofIdeal.τ).loc Cert.MofIdeal.main_v1_0)) (v1 : (c : Dev Cert.MofIdeal.nD) → Buf (Elt Ideal) ((c.tc : Thread Cert.MofIdeal.nD Cert.MofIdeal.τ).loc Cert.MofIdeal.main_v1_1)),
      θ_run (Cert.MofIdeal.defs (F := Ideal)) (onTc (τ := Cert.MofIdeal.τ) (Cert.MofIdeal.main (F := Ideal))) ⟨m, fun _ => 0, g⟩ (fun r => ∀ c : Dev Cert.MofIdeal.nD,
          r.2.mem ((c.tc : Thread Cert.MofIdeal.nD Cert.MofIdeal.τ).loc Cert.MofIdeal.main_v1_0) = v0 c
          ∧ r.2.mem ((c.tc : Thread Cert.MofIdeal.nD Cert.MofIdeal.τ).loc Cert.MofIdeal.main_v1_1) = v1 c
          ∧ r.2.mem ((c.tc : Thread Cert.MofIdeal.nD Cert.MofIdeal.τ).loc Cert.MofIdeal.main_arg0) = m ((c.tc : Thread Cert.MofIdeal.nD Cert.MofIdeal.τ).loc Cert.MofIdeal.main_arg0)
          ∧ r.2.mem ((c.tc : Thread Cert.MofIdeal.nD Cert.MofIdeal.τ).loc Cert.MofIdeal.main_arg1) = m ((c.tc : Thread Cert.MofIdeal.nD Cert.MofIdeal.τ).loc Cert.MofIdeal.main_arg1)
          ∧ r.2.mem ((c.tc : Thread Cert.MofIdeal.nD Cert.MofIdeal.τ).loc Cert.MofIdeal.main_arg2) = m ((c.tc : Thread Cert.MofIdeal.nD Cert.MofIdeal.τ).loc Cert.MofIdeal.main_arg2)
          ∧ r.2.mem ((c.tc : Thread Cert.MofIdeal.nD Cert.MofIdeal.τ).loc Cert.MofIdeal.main_arg3) = m ((c.tc : Thread Cert.MofIdeal.nD Cert.MofIdeal.τ).loc Cert.MofIdeal.main_arg3)
          ∧ r.2.mem ((c.tc : Thread Cert.MofIdeal.nD Cert.MofIdeal.τ).loc Cert.MofIdeal.main_arg4) = m ((c.tc : Thread Cert.MofIdeal.nD Cert.MofIdeal.τ).loc Cert.MofIdeal.main_arg4))
      ∧ θ_run (Cert.MofRefIdeal.defs (F := Ideal)) (onTc (τ := Cert.MofRefIdeal.τ) (Cert.MofRefIdeal.main (F := Ideal))) ⟨m', fun _ => 0, g'⟩ (fun r => ∀ c : Dev Cert.MofRefIdeal.nD,
          r.2.mem ((c.tc : Thread Cert.MofRefIdeal.nD Cert.MofRefIdeal.τ).loc Cert.MofRefIdeal.main_v2) = v0 c
          ∧ r.2.mem ((c.tc : Thread Cert.MofRefIdeal.nD Cert.MofRefIdeal.τ).loc Cert.MofRefIdeal.main_v3) = v1 c
          ∧ r.2.mem ((c.tc : Thread Cert.MofRefIdeal.nD Cert.MofRefIdeal.τ).loc Cert.MofRefIdeal.main_arg0) = m' ((c.tc : Thread Cert.MofRefIdeal.nD Cert.MofRefIdeal.τ).loc Cert.MofRefIdeal.main_arg0)
          ∧ r.2.mem ((c.tc : Thread Cert.MofRefIdeal.nD Cert.MofRefIdeal.τ).loc Cert.MofRefIdeal.main_arg1) = m' ((c.tc : Thread Cert.MofRefIdeal.nD Cert.MofRefIdeal.τ).loc Cert.MofRefIdeal.main_arg1)
          ∧ r.2.mem ((c.tc : Thread Cert.MofRefIdeal.nD Cert.MofRefIdeal.τ).loc Cert.MofRefIdeal.main_arg2) = m' ((c.tc : Thread Cert.MofRefIdeal.nD Cert.MofRefIdeal.τ).loc Cert.MofRefIdeal.main_arg2)
          ∧ r.2.mem ((c.tc : Thread Cert.MofRefIdeal.nD Cert.MofRefIdeal.τ).loc Cert.MofRefIdeal.main_arg3) = m' ((c.tc : Thread Cert.MofRefIdeal.nD Cert.MofRefIdeal.τ).loc Cert.MofRefIdeal.main_arg3)
          ∧ r.2.mem ((c.tc : Thread Cert.MofRefIdeal.nD Cert.MofRefIdeal.τ).loc Cert.MofRefIdeal.main_arg4) = m' ((c.tc : Thread Cert.MofRefIdeal.nD Cert.MofRefIdeal.τ).loc Cert.MofRefIdeal.main_arg4))

def preserves_Dwp_DwpIdeal : Prop :=
  True

def algebraic_DwpIdeal_DwpRefIdeal [hDwpIdeal : Cert.DwpIdeal.Facts] [hDwpRefIdeal : Cert.DwpRefIdeal.Facts] : Prop :=
  ∀ (m : (ℓ : Loc Cert.DwpIdeal.nD Cert.DwpIdeal.τ Cert.DwpIdeal.sig) → Buf (Elt Ideal) ℓ) (g : Dev Cert.DwpIdeal.nD → PrngReg)
    (m' : (ℓ : Loc Cert.DwpRefIdeal.nD Cert.DwpRefIdeal.τ Cert.DwpRefIdeal.sig) → Buf (Elt Ideal) ℓ) (g' : Dev Cert.DwpRefIdeal.nD → PrngReg), Pre_DwpIdeal m →
    (∀ c : Dev Cert.DwpIdeal.nD,
      m' ((c.tc : Thread Cert.DwpRefIdeal.nD Cert.DwpRefIdeal.τ).loc Cert.DwpRefIdeal.main_arg0) = m ((c.tc : Thread Cert.DwpIdeal.nD Cert.DwpIdeal.τ).loc Cert.DwpIdeal.main_arg0)
      ∧ m' ((c.tc : Thread Cert.DwpRefIdeal.nD Cert.DwpRefIdeal.τ).loc Cert.DwpRefIdeal.main_arg1) = m ((c.tc : Thread Cert.DwpIdeal.nD Cert.DwpIdeal.τ).loc Cert.DwpIdeal.main_arg1)) →
    ∃ (v0 : (c : Dev Cert.DwpIdeal.nD) → Buf (Elt Ideal) ((c.tc : Thread Cert.DwpIdeal.nD Cert.DwpIdeal.τ).loc Cert.DwpIdeal.main_v1)),
      θ_run (Cert.DwpIdeal.defs (F := Ideal)) (onTc (τ := Cert.DwpIdeal.τ) (Cert.DwpIdeal.main (F := Ideal))) ⟨m, fun _ => 0, g⟩ (fun r => ∀ c : Dev Cert.DwpIdeal.nD,
          r.2.mem ((c.tc : Thread Cert.DwpIdeal.nD Cert.DwpIdeal.τ).loc Cert.DwpIdeal.main_v1) = v0 c
          ∧ r.2.mem ((c.tc : Thread Cert.DwpIdeal.nD Cert.DwpIdeal.τ).loc Cert.DwpIdeal.main_arg0) = m ((c.tc : Thread Cert.DwpIdeal.nD Cert.DwpIdeal.τ).loc Cert.DwpIdeal.main_arg0)
          ∧ r.2.mem ((c.tc : Thread Cert.DwpIdeal.nD Cert.DwpIdeal.τ).loc Cert.DwpIdeal.main_arg1) = m ((c.tc : Thread Cert.DwpIdeal.nD Cert.DwpIdeal.τ).loc Cert.DwpIdeal.main_arg1))
      ∧ θ_run (Cert.DwpRefIdeal.defs (F := Ideal)) (onTc (τ := Cert.DwpRefIdeal.τ) (Cert.DwpRefIdeal.main (F := Ideal))) ⟨m', fun _ => 0, g'⟩ (fun r => ∀ c : Dev Cert.DwpRefIdeal.nD,
          r.2.mem ((c.tc : Thread Cert.DwpRefIdeal.nD Cert.DwpRefIdeal.τ).loc Cert.DwpRefIdeal.main_v3) = v0 c
          ∧ r.2.mem ((c.tc : Thread Cert.DwpRefIdeal.nD Cert.DwpRefIdeal.τ).loc Cert.DwpRefIdeal.main_arg0) = m' ((c.tc : Thread Cert.DwpRefIdeal.nD Cert.DwpRefIdeal.τ).loc Cert.DwpRefIdeal.main_arg0)
          ∧ r.2.mem ((c.tc : Thread Cert.DwpRefIdeal.nD Cert.DwpRefIdeal.τ).loc Cert.DwpRefIdeal.main_arg1) = m' ((c.tc : Thread Cert.DwpRefIdeal.nD Cert.DwpRefIdeal.τ).loc Cert.DwpRefIdeal.main_arg1))

def Claim : Prop :=
  ∃ (hAct : Cert.Act.Facts) (hActIdeal : Cert.ActIdeal.Facts) (hActRefIdeal : Cert.ActRefIdeal.Facts) (hWgt : Cert.Wgt.Facts) (hWgtIdeal : Cert.WgtIdeal.Facts) (hWgtRefIdeal : Cert.WgtRefIdeal.Facts) (hFwd : Cert.Fwd.Facts) (hFwdIdeal : Cert.FwdIdeal.Facts) (hFwdRefIdeal : Cert.FwdRefIdeal.Facts) (hSwa : Cert.Swa.Facts) (hSwaIdeal : Cert.SwaIdeal.Facts) (hSwaRefIdeal : Cert.SwaRefIdeal.Facts) (hGate : Cert.Gate.Facts) (hGateIdeal : Cert.GateIdeal.Facts) (hGateRefIdeal : Cert.GateRefIdeal.Facts) (hEmb : Cert.Emb.Facts) (hEmbIdeal : Cert.EmbIdeal.Facts) (hEmbRefIdeal : Cert.EmbRefIdeal.Facts) (hDwi : Cert.Dwi.Facts) (hDwiIdeal : Cert.DwiIdeal.Facts) (hDwiRefIdeal : Cert.DwiRefIdeal.Facts) (hDwo : Cert.Dwo.Facts) (hDwoIdeal : Cert.DwoIdeal.Facts) (hDwoRefIdeal : Cert.DwoRefIdeal.Facts) (hDwg : Cert.Dwg.Facts) (hDwgIdeal : Cert.DwgIdeal.Facts) (hDwgRefIdeal : Cert.DwgRefIdeal.Facts) (hDxo : Cert.Dxo.Facts) (hDxoIdeal : Cert.DxoIdeal.Facts) (hDxoRefIdeal : Cert.DxoRefIdeal.Facts) (hInx : Cert.Inx.Facts) (hInxIdeal : Cert.InxIdeal.Facts) (hInxRefIdeal : Cert.InxRefIdeal.Facts) (hMof : Cert.Mof.Facts) (hMofIdeal : Cert.MofIdeal.Facts) (hMofRefIdeal : Cert.MofRefIdeal.Facts) (hDwp : Cert.Dwp.Facts) (hDwpIdeal : Cert.DwpIdeal.Facts) (hDwpRefIdeal : Cert.DwpRefIdeal.Facts) (hPre_finite : Cert.Pre_finite.Facts) (hPre_finite_attention : Cert.Pre_finite_attention.Facts) (hPre_finite_gate : Cert.Pre_finite_gate.Facts) (hPre_finite_mixer : Cert.Pre_finite_mixer.Facts),
    quiescent_Act (hAct := hAct)
    ∧ quiescent_ActIdeal (hActIdeal := hActIdeal)
    ∧ quiescent_ActIdeal_pre_finite (hActIdeal := hActIdeal) (hPre_finite := hPre_finite)
    ∧ quiescent_ActRefIdeal (hActRefIdeal := hActRefIdeal)
    ∧ quiescent_ActRefIdeal_pre_finite (hActRefIdeal := hActRefIdeal) (hPre_finite := hPre_finite)
    ∧ quiescent_Wgt (hWgt := hWgt)
    ∧ quiescent_WgtIdeal (hWgtIdeal := hWgtIdeal)
    ∧ quiescent_WgtRefIdeal (hWgtRefIdeal := hWgtRefIdeal)
    ∧ quiescent_Fwd (hFwd := hFwd)
    ∧ quiescent_FwdIdeal (hFwdIdeal := hFwdIdeal)
    ∧ quiescent_FwdRefIdeal (hFwdRefIdeal := hFwdRefIdeal)
    ∧ quiescent_Swa (hSwa := hSwa)
    ∧ quiescent_SwaIdeal (hSwaIdeal := hSwaIdeal)
    ∧ quiescent_SwaIdeal_pre_finite_attention (hSwaIdeal := hSwaIdeal) (hPre_finite_attention := hPre_finite_attention)
    ∧ quiescent_SwaRefIdeal (hSwaRefIdeal := hSwaRefIdeal)
    ∧ quiescent_SwaRefIdeal_pre_finite_attention (hSwaRefIdeal := hSwaRefIdeal) (hPre_finite_attention := hPre_finite_attention)
    ∧ quiescent_Gate (hGate := hGate)
    ∧ quiescent_GateIdeal (hGateIdeal := hGateIdeal)
    ∧ quiescent_GateIdeal_pre_finite_gate (hGateIdeal := hGateIdeal) (hPre_finite_gate := hPre_finite_gate)
    ∧ quiescent_GateRefIdeal (hGateRefIdeal := hGateRefIdeal)
    ∧ quiescent_GateRefIdeal_pre_finite_gate (hGateRefIdeal := hGateRefIdeal) (hPre_finite_gate := hPre_finite_gate)
    ∧ quiescent_Emb (hEmb := hEmb)
    ∧ quiescent_EmbIdeal (hEmbIdeal := hEmbIdeal)
    ∧ quiescent_EmbRefIdeal (hEmbRefIdeal := hEmbRefIdeal)
    ∧ quiescent_Dwi (hDwi := hDwi)
    ∧ quiescent_DwiIdeal (hDwiIdeal := hDwiIdeal)
    ∧ quiescent_DwiRefIdeal (hDwiRefIdeal := hDwiRefIdeal)
    ∧ quiescent_Dwo (hDwo := hDwo)
    ∧ quiescent_DwoIdeal (hDwoIdeal := hDwoIdeal)
    ∧ quiescent_DwoRefIdeal (hDwoRefIdeal := hDwoRefIdeal)
    ∧ quiescent_Dwg (hDwg := hDwg)
    ∧ quiescent_DwgIdeal (hDwgIdeal := hDwgIdeal)
    ∧ quiescent_DwgRefIdeal (hDwgRefIdeal := hDwgRefIdeal)
    ∧ quiescent_Dxo (hDxo := hDxo)
    ∧ quiescent_DxoIdeal (hDxoIdeal := hDxoIdeal)
    ∧ quiescent_DxoRefIdeal (hDxoRefIdeal := hDxoRefIdeal)
    ∧ quiescent_Inx (hInx := hInx)
    ∧ quiescent_InxIdeal (hInxIdeal := hInxIdeal)
    ∧ quiescent_InxIdeal_pre_finite_mixer (hInxIdeal := hInxIdeal) (hPre_finite_mixer := hPre_finite_mixer)
    ∧ quiescent_InxRefIdeal (hInxRefIdeal := hInxRefIdeal)
    ∧ quiescent_InxRefIdeal_pre_finite_mixer (hInxRefIdeal := hInxRefIdeal) (hPre_finite_mixer := hPre_finite_mixer)
    ∧ quiescent_Mof (hMof := hMof)
    ∧ quiescent_MofIdeal (hMofIdeal := hMofIdeal)
    ∧ quiescent_MofRefIdeal (hMofRefIdeal := hMofRefIdeal)
    ∧ quiescent_Dwp (hDwp := hDwp)
    ∧ quiescent_DwpIdeal (hDwpIdeal := hDwpIdeal)
    ∧ quiescent_DwpRefIdeal (hDwpRefIdeal := hDwpRefIdeal)
    ∧ preserves_Act_ActIdeal
    ∧ algebraic_ActIdeal_ActRefIdeal_pre_finite (hActIdeal := hActIdeal) (hActRefIdeal := hActRefIdeal) (hPre_finite := hPre_finite)
    ∧ preserves_Wgt_WgtIdeal
    ∧ algebraic_WgtIdeal_WgtRefIdeal (hWgtIdeal := hWgtIdeal) (hWgtRefIdeal := hWgtRefIdeal)
    ∧ preserves_Fwd_FwdIdeal
    ∧ algebraic_FwdIdeal_FwdRefIdeal (hFwdIdeal := hFwdIdeal) (hFwdRefIdeal := hFwdRefIdeal)
    ∧ preserves_Swa_SwaIdeal
    ∧ algebraic_SwaIdeal_SwaRefIdeal_pre_finite_attention (hSwaIdeal := hSwaIdeal) (hSwaRefIdeal := hSwaRefIdeal) (hPre_finite_attention := hPre_finite_attention)
    ∧ preserves_Gate_GateIdeal
    ∧ algebraic_GateIdeal_GateRefIdeal_pre_finite_gate (hGateIdeal := hGateIdeal) (hGateRefIdeal := hGateRefIdeal) (hPre_finite_gate := hPre_finite_gate)
    ∧ preserves_Emb_EmbIdeal
    ∧ algebraic_EmbIdeal_EmbRefIdeal (hEmbIdeal := hEmbIdeal) (hEmbRefIdeal := hEmbRefIdeal)
    ∧ preserves_Dwi_DwiIdeal
    ∧ algebraic_DwiIdeal_DwiRefIdeal (hDwiIdeal := hDwiIdeal) (hDwiRefIdeal := hDwiRefIdeal)
    ∧ preserves_Dwo_DwoIdeal
    ∧ algebraic_DwoIdeal_DwoRefIdeal (hDwoIdeal := hDwoIdeal) (hDwoRefIdeal := hDwoRefIdeal)
    ∧ preserves_Dwg_DwgIdeal
    ∧ algebraic_DwgIdeal_DwgRefIdeal (hDwgIdeal := hDwgIdeal) (hDwgRefIdeal := hDwgRefIdeal)
    ∧ preserves_Dxo_DxoIdeal
    ∧ algebraic_DxoIdeal_DxoRefIdeal (hDxoIdeal := hDxoIdeal) (hDxoRefIdeal := hDxoRefIdeal)
    ∧ preserves_Inx_InxIdeal
    ∧ algebraic_InxIdeal_InxRefIdeal_pre_finite_mixer (hInxIdeal := hInxIdeal) (hInxRefIdeal := hInxRefIdeal) (hPre_finite_mixer := hPre_finite_mixer)
    ∧ preserves_Mof_MofIdeal
    ∧ algebraic_MofIdeal_MofRefIdeal (hMofIdeal := hMofIdeal) (hMofRefIdeal := hMofRefIdeal)
    ∧ preserves_Dwp_DwpIdeal
    ∧ algebraic_DwpIdeal_DwpRefIdeal (hDwpIdeal := hDwpIdeal) (hDwpRefIdeal := hDwpRefIdeal)
-- ==== Pre_finite.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S4096x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  main_v28

def fn {F : FTy → Type} [FloatOps F] (main_arg0 : FVec F S4096x1024 .f32) (main_arg1 : FVec F S1024 .f32) (main_arg2 : FVec F S1024x2816 .f32) (main_arg3 : FVec F S1024x2816 .f32) (main_arg4 : FVec F S2816x1024 .f32) (main_arg5 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_v13 main_v16
-- ==== Pre_finite_attention.lean ====
abbrev S4096x2560 : Shape := ⟨2, ![4096, 2560]⟩
abbrev S8x128x128 : Shape := ⟨3, ![8, 128, 128]⟩
abbrev S8 : Shape := ⟨1, ![8]⟩
abbrev S4096x512 : Shape := ⟨2, ![4096, 512]⟩
abbrev S_ : Shape := ⟨0, ![]⟩

class Facts : Prop where
  bcast_S_S4096x2560 : S_.BroadcastsInDim S4096x2560 (![] : Fin 0 → Fin S4096x2560.rank)
  reducesTo_S4096x2560_S_d0_1 : S4096x2560.ReducesTo [0, 1] S_
  h_S_ : 0 < S_.numel
  bcast_S_S8x128x128 : S_.BroadcastsInDim S8x128x128 (![] : Fin 0 → Fin S8x128x128.rank)
  reducesTo_S8x128x128_S_d0_1_2 : S8x128x128.ReducesTo [0, 1, 2] S_
  bcast_S_S8 : S_.BroadcastsInDim S8 (![] : Fin 0 → Fin S8.rank)
  reducesTo_S8_S_d0 : S8.ReducesTo [0] S_
  bcast_S_S4096x512 : S_.BroadcastsInDim S4096x512 (![] : Fin 0 → Fin S4096x512.rank)
  reducesTo_S4096x512_S_d0_1 : S4096x512.ReducesTo [0, 1] S_

variable [Facts]

def fn_part1 {F : FTy → Type} [FloatOps F] (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  main_v18

def fn {F : FTy → Type} [FloatOps F] (main_arg0 : FVec F S4096x2560 .f32) (main_arg1 : FVec F S8x128x128 .f32) (main_arg2 : FVec F S8 .f32) (main_arg3 : FVec F S4096x512 .f32) : IVec S_ 1 :=
  let main_v0 : FVec F S4096x2560 .f32 := Host.absf main_arg0
  let main_cst : FVec F S_ .f32 := constant S_ .f32 0x7F800000#32
  let main_v1 : FVec F S4096x2560 .f32 := broadcastInDim S4096x2560 ![] bcast_S_S4096x2560 main_cst
  let main_v2 : IVec S4096x2560 1 := cmpf .olt main_v0 main_v1
  let main_c : IVec S_ 1 := constantI S_ 1 1#1
  let main_v3 : IVec S_ 1 := (fun x v => Host.reduce IntOp.andi x v reducesTo_S4096x2560_S_d0_1 h_S_) main_v2 main_c
  let main_v4 : FVec F S8x128x128 .f32 := Host.absf main_arg1
  let main_cst_0 : FVec F S_ .f32 := constant S_ .f32 0x7F800000#32
  let main_v5 : FVec F S8x128x128 .f32 := broadcastInDim S8x128x128 ![] bcast_S_S8x128x128 main_cst_0
  let main_v6 : IVec S8x128x128 1 := cmpf .olt main_v4 main_v5
  let main_c_1 : IVec S_ 1 := constantI S_ 1 1#1
  let main_v7 : IVec S_ 1 := (fun x v => Host.reduce IntOp.andi x v reducesTo_S8x128x128_S_d0_1_2 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S4096x512 .f32 := Host.absf main_arg3
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_v13 main_v16
-- ==== Pre_finite_gate.lean ====
abbrev S4096x1024 : Shape := ⟨2, ![4096, 1024]⟩
abbrev S1024 : Shape := ⟨1, ![1024]⟩
abbrev S1024x1024 : Shape := ⟨2, ![1024, 1024]⟩
abbrev S4096x256 : Shape := ⟨2, ![4096, 256]⟩
abbrev S256x1024 : Shape := ⟨2, ![256, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S4096x256 : S_.BroadcastsInDim S4096x256 (![] : Fin 0 → Fin S4096x256.rank)
  reducesTo_S4096x256_S_d0_1 : S4096x256.ReducesTo [0, 1] S_
  bcast_S_S256x1024 : S_.BroadcastsInDim S256x1024 (![] : Fin 0 → Fin S256x1024.rank)
  reducesTo_S256x1024_S_d0_1 : S256x1024.ReducesTo [0, 1] S_

variable [Facts]

def fn_part1 {F : FTy → Type} [FloatOps F] (main_arg4 : FVec F S256x1024 .f32) (main_arg5 : FVec F S4096x1024 .f32) (main_v13 : IVec S_ 1) (main_v16 : IVec S4096x256 1) : IVec S_ 1 :=
  let main_c_5 : IVec S_ 1 := constantI S_ 1 1#1
  let main_v17 : IVec S_ 1 := (fun x v => Host.reduce IntOp.andi x v reducesTo_S4096x256_S_d0_1 h_S_) main_v16 main_c_5
  let main_v18 : IVec S_ 1 := andi main_v13 main_v17
  let main_v19 : FVec F S256x1024 .f32 := Host.absf main_arg4
  let main_cst_6 : FVec F S_ .f32 := constant S_ .f32 0x7F800000#32
  let main_v20 : FVec F S256x1024 .f32 := broadcastInDim S256x1024 ![] bcast_S_S256x1024 main_cst_6
  let main_v21 : IVec S256x1024 1 := cmpf .olt main_v19 main_v20
  let main_c_7 : IVec S_ 1 := constantI S_ 1 1#1
  let main_v22 : IVec S_ 1 := (fun x v => Host.reduce IntOp.andi x v reducesTo_S256x1024_S_d0_1 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  main_v28

def fn {F : FTy → Type} [FloatOps F] (main_arg0 : FVec F S4096x1024 .f32) (main_arg1 : FVec F S1024 .f32) (main_arg2 : FVec F S1024x1024 .f32) (main_arg3 : FVec F S4096x256 .f32) (main_arg4 : FVec F S256x1024 .f32) (main_arg5 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S4096x256 .f32 := Host.absf main_arg3
  let main_cst_4 : FVec F S_ .f32 := constant S_ .f32 0x7F800000#32
  let main_v15 : FVec F S4096x256 .f32 := broadcastInDim S4096x256 ![] bcast_S_S4096x256 main_cst_4
  let main_v16 : IVec S4096x256 1 := cmpf .olt main_v14 main_v15
  fn_part1 (F := F) main_arg4 main_arg5 main_v13 main_v16
-- ==== Pre_finite_mixer.lean ====
abbrev S4096x1024 : Shape := ⟨2, ![4096, 1024]⟩
abbrev S1024 : Shape := ⟨1, ![1024]⟩
abbrev S1024x2560 : Shape := ⟨2, ![1024, 2560]⟩
abbrev S4096x256 : Shape := ⟨2, ![4096, 256]⟩
abbrev S4096x512 : Shape := ⟨2, ![4096, 512]⟩
abbrev S4096x128 : Shape := ⟨2, ![4096, 128]⟩
abbrev S3x4096x256 : Shape := ⟨3, ![3, 4096, 256]⟩
abbrev S2x4096x128 : Shape := ⟨3, ![2, 4096, 128]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S4096x128 : S_.BroadcastsInDim S4096x128 (![] : Fin 0 → Fin S4096x128.rank)
  reducesTo_S4096x128_S_d0_1 : S4096x128.ReducesTo [0, 1] S_
  bcast_S_S3x4096x256 : S_.BroadcastsInDim S3x4096x256 (![] : Fin 0 → Fin S3x4096x256.rank)
  reducesTo_S3x4096x256_S_d0_1_2 : S3x4096x256.ReducesTo [0, 1, 2] S_
  bcast_S_S2x4096x128 : S_.BroadcastsInDim S2x4096x128 (![] : Fin 0 → Fin S2x4096x128.rank)
  reducesTo_S2x4096x128_S_d0_1_2 : S2x4096x128.ReducesTo [0, 1, 2] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_
  bcast_S_S1024x2560 : S_.BroadcastsInDim S1024x2560 (![] : Fin 0 → Fin S1024x2560.rank)
  reducesTo_S1024x2560_S_d0_1 : S1024x2560.ReducesTo [0, 1] S_

variable [Facts]

def fn_part3 {F : FTy → Type} [FloatOps F] (main_arg11 : FVec F S4096x1024 .f32) (main_v38 : IVec S_ 1) (main_v47 : IVec S_ 1) (main_v50 : IVec S1024x2560 1) : IVec S_ 1 :=
  let main_c_19 : IVec S_ 1 := constantI S_ 1 1#1
  let main_v51 : IVec S_ 1 := (fun x v => Host.reduce IntOp.andi x v reducesTo_S1024x2560_S_d0_1 h_S_) main_v50 main_c_19
  let main_v52 : IVec S_ 1 := andi main_v47 main_v51
  let main_v53 : IVec S_ 1 := andi main_v52 main_v38
  let main_v54 : FVec F S4096x1024 .f32 := Host.absf main_arg11
  let main_cst_20 : FVec F S_ .f32 := constant S_ .f32 0x7F800000#32
  let main_v55 : FVec F S4096x1024 .f32 := broadcastInDim S4096x1024 ![] bcast_S_S4096x1024 main_cst_20
  let main_v56 : IVec S4096x1024 1 := cmpf .olt main_v54 main_v55
  let main_c_21 : IVec S_ 1 := constantI S_ 1 1#1
  let main_v57 : IVec S_ 1 := (fun x v => Host.reduce IntOp.andi x v reducesTo_S4096x1024_S_d0_1 h_S_) main_v56 main_c_21
  let main_v58 : IVec S_ 1 := andi main_v53 main_v57
  main_v58

def fn_part2 {F : FTy → Type} [FloatOps F] (main_arg0 : FVec F S4096x1024 .f32) (main_arg1 : FVec F S1024 .f32) (main_arg2 : FVec F S1024x2560 .f32) (main_arg10 : FVec F S2x4096x128 .f32) (main_arg11 : FVec F S4096x1024 .f32) (main_v33 : IVec S_ 1) : IVec S_ 1 :=
  let main_v34 : FVec F S2x4096x128 .f32 := Host.absf main_arg10
  let main_cst_12 : FVec F S_ .f32 := constant S_ .f32 0x7F800000#32
  let main_v35 : FVec F S2x4096x128 .f32 := broadcastInDim S2x4096x128 ![] bcast_S_S2x4096x128 main_cst_12
  let main_v36 : IVec S2x4096x128 1 := cmpf .olt main_v34 main_v35
  let main_c_13 : IVec S_ 1 := constantI S_ 1 1#1
  let main_v37 : IVec S_ 1 := (fun x v => Host.reduce IntOp.andi x v reducesTo_S2x4096x128_S_d0_1_2 h_S_) main_v36 main_c_13
  let main_v38 : IVec S_ 1 := andi main_v33 main_v37
  let main_v39 : FVec F S4096x1024 .f32 := Host.absf main_arg0
  let main_cst_14 : FVec F S_ .f32 := constant S_ .f32 0x7F800000#32
  let main_v40 : FVec F S4096x1024 .f32 := broadcastInDim S4096x1024 ![] bcast_S_S4096x1024 main_cst_14
  let main_v41 : IVec S4096x1024 1 := cmpf .olt main_v39 main_v40
  let main_c_15 : IVec S_ 1 := constantI S_ 1 1#1
  let main_v42 : IVec S_ 1 := (fun x v => Host.reduce IntOp.andi x v reducesTo_S4096x1024_S_d0_1 h_S_) main_v41 main_c_15
  let main_v43 : FVec F S1024 .f32 := Host.absf main_arg1
  let main_cst_16 : FVec F S_ .f32 := constant S_ .f32 0x7F800000#32
  let main_v44 : FVec F S1024 .f32 := broadcastInDim S1024 ![] bcast_S_S1024 main_cst_16
  let main_v45 : IVec S1024 1 := cmpf .olt main_v43 main_v44
  let main_c_17 : IVec S_ 1 := constantI S_ 1 1#1
  let main_v46 : IVec S_ 1 := (fun x v => Host.reduce IntOp.andi x v reducesTo_S1024_S_d0 h_S_) main_v45 main_c_17
  let main_v47 : IVec S_ 1 := andi main_v42 main_v46
  let main_v48 : FVec F S1024x2560 .f32 := Host.absf main_arg2
  let main_cst_18 : FVec F S_ .f32 := constant S_ .f32 0x7F800000#32
  let main_v49 : FVec F S1024x2560 .f32 := broadcastInDim S1024x2560 ![] bcast_S_S1024x2560 main_cst_18
  let main_v50 : IVec S1024x2560 1 := cmpf .olt main_v48 main_v49
  fn_part3 (F := F) main_arg11 main_v38 main_v47 main_v50

def fn_part1 {F : FTy → Type} [FloatOps F] (main_arg0 : FVec F S4096x1024 .f32) (main_arg1 : FVec F S1024 .f32) (main_arg2 : FVec F S1024x2560 .f32) (main_arg7 : FVec F S4096x128 .f32) (main_arg8 : FVec F S3x4096x256 .f32) (main_arg9 : FVec F S4096x256 .f32) (main_arg10 : FVec F S2x4096x128 .f32) (main_arg11 : FVec F S4096x1024 .f32) (main_v13 : IVec S_ 1) (main_v16 : IVec S4096x128 1) : IVec S_ 1 :=
  let main_c_5 : IVec S_ 1 := constantI S_ 1 1#1
  let main_v17 : IVec S_ 1 := (fun x v => Host.reduce IntOp.andi x v reducesTo_S4096x128_S_d0_1 h_S_) main_v16 main_c_5
  let main_v18 : IVec S_ 1 := andi main_v13 main_v17
  let main_v19 : FVec F S4096x128 .f32 := Host.absf main_arg7
  let main_cst_6 : FVec F S_ .f32 := constant S_ .f32 0x7F800000#32
  let main_v20 : FVec F S4096x128 .f32 := broadcastInDim S4096x128 ![] bcast_S_S4096x128 main_cst_6
  let main_v21 : IVec S4096x128 1 := cmpf .olt main_v19 main_v20
  let main_c_7 : IVec S_ 1 := constantI S_ 1 1#1
  let main_v22 : IVec S_ 1 := (fun x v => Host.reduce IntOp.andi x v reducesTo_S4096x128_S_d0_1 h_S_) main_v21 main_c_7
  let main_v23 : IVec S_ 1 := andi main_v18 main_v22
  let main_v24 : FVec F S3x4096x256 .f32 := Host.absf main_arg8
  let main_cst_8 : FVec F S_ .f32 := constant S_ .f32 0x7F800000#32
  let main_v25 : FVec F S3x4096x256 .f32 := broadcastInDim S3x4096x256 ![] bcast_S_S3x4096x256 main_cst_8
  let main_v26 : IVec S3x4096x256 1 := cmpf .olt main_v24 main_v25
  let main_c_9 : IVec S_ 1 := constantI S_ 1 1#1
  let main_v27 : IVec S_ 1 := (fun x v => Host.reduce IntOp.andi x v reducesTo_S3x4096x256_S_d0_1_2 h_S_) main_v26 main_c_9
  let main_v28 : IVec S_ 1 := andi main_v23 main_v27
  let main_v29 : FVec F S4096x256 .f32 := Host.absf main_arg9
  let main_cst_10 : FVec F S_ .f32 := constant S_ .f32 0x7F800000#32
  let main_v30 : FVec F S4096x256 .f32 := broadcastInDim S4096x256 ![] bcast_S_S4096x256 main_cst_10
  let main_v31 : IVec S4096x256 1 := cmpf .olt main_v29 main_v30
  let main_c_11 : IVec S_ 1 := constantI S_ 1 1#1
  let main_v32 : IVec S_ 1 := (fun x v => Host.reduce IntOp.andi x v reducesTo_S4096x256_S_d0_1 h_S_) main_v31 main_c_11
  let main_v33 : IVec S_ 1 := andi main_v28 main_v32
  fn_part2 (F := F) main_arg0 main_arg1 main_arg2 main_arg10 main_arg11 main_v33

def fn {F : FTy → Type} [FloatOps F] (main_arg0 : FVec F S4096x1024 .f32) (main_arg1 : FVec F S1024 .f32) (main_arg2 : FVec F S1024x2560 .f32) (main_arg3 : FVec F S4096x256 .f32) (main_arg4 : FVec F S4096x256 .f32) (main_arg5 : FVec F S4096x512 .f32) (main_arg6 : FVec F S4096x128 .f32) (main_arg7 : FVec F S4096x128 .f32) (main_arg8 : FVec F S3x4096x256 .f32) (main_arg9 : FVec F S4096x256 .f32) (main_arg10 : FVec F S2x4096x128 .f32) (main_arg11 : FVec F S4096x1024 .f32) : IVec S_ 1 :=
  let main_v0 : FVec F S4096x256 .f32 := Host.absf main_arg3
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg4
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S4096x512 .f32 := Host.absf main_arg5
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S4096x128 .f32 := Host.absf main_arg6
  let main_cst_4 : FVec F S_ .f32 := constant S_ .f32 0x7F800000#32
  let main_v15 : FVec F S4096x128 .f32 := broadcastInDim S4096x128 ![] bcast_S_S4096x128 main_cst_4
  let main_v16 : IVec S4096x128 1 := cmpf .olt main_v14 main_v15
  fn_part1 (F := F) main_arg0 main_arg1 main_arg2 main_arg7 main_arg8 main_arg9 main_arg10 main_arg11 main_v13 main_v16
-- ==== Act.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩
abbrev S4096x4x704 : Shape := ⟨3, ![4096, 4, 704]⟩
abbrev S4x4096x704 : Shape := ⟨3, ![4, 4096, 704]⟩
abbrev S4x704x1024 : Shape := ⟨3, ![4, 704, 1024]⟩
abbrev S512x1024 : Shape := ⟨2, ![512, 1024]⟩
abbrev S1x512x704 : Shape := ⟨3, ![1, 512, 704]⟩
abbrev S1x704x1024 : Shape := ⟨3, ![1, 704, 1024]⟩
abbrev S256x1024 : Shape := ⟨2, ![256, 1024]⟩
abbrev S704x1024 : Shape := ⟨2, ![704, 1024]⟩
abbrev S256x704 : Shape := ⟨2, ![256, 704]⟩
abbrev S1x256x704 : Shape := ⟨3, ![1, 256, 704]⟩
abbrev S512 : Shape := ⟨1, ![512]⟩
abbrev S512x1 : Shape := ⟨2, ![512, 1]⟩

abbrev nBuf : Space → Nat
  | .hbm => 44
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x2816, .f32⟩
  | .hbm, ⟨24, _⟩ => ⟨S4096x4x704, .f32⟩
  | .hbm, ⟨25, _⟩ => ⟨S4x4096x704, .f32⟩
  | .hbm, ⟨26, _⟩ => ⟨S4x4096x704, .bf16⟩
  | .hbm, ⟨27, _⟩ => ⟨S4096x2816, .f32⟩
  | .hbm, ⟨28, _⟩ => ⟨S4096x4x704, .f32⟩
  | .hbm, ⟨29, _⟩ => ⟨S4x4096x704, .f32⟩
  | .hbm, ⟨30, _⟩ => ⟨S4x4096x704, .bf16⟩
  | .hbm, ⟨31, _⟩ => ⟨S2816x1024, .f32⟩
  | .hbm, ⟨32, _⟩ => ⟨S2816x1024, .bf16⟩
  | .hbm, ⟨33, _⟩ => ⟨S4x704x1024, .bf16⟩
  | .hbm, ⟨34, _⟩ => ⟨S2816x1024, .f32⟩
  | .hbm, ⟨35, _⟩ => ⟨S2816x1024, .bf16⟩
  | .hbm, ⟨36, _⟩ => ⟨S4x704x1024, .bf16⟩
  | .hbm, ⟨37, _⟩ => ⟨S2816x1024, .bf16⟩
  | .hbm, ⟨38, _⟩ => ⟨S4x704x1024, .bf16⟩
  | .hbm, ⟨39, _⟩ => ⟨S4096x1024, .f32⟩
  | .hbm, ⟨40, _⟩ => ⟨S4x4096x704, .bf16⟩
  | .hbm, ⟨41, _⟩ => ⟨S4x4096x704, .bf16⟩
  | .hbm, ⟨42, _⟩ => ⟨S4x4096x704, .bf16⟩
  | .hbm, ⟨43, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x512x704, .bf16⟩
  | .local _ .vmem, ⟨6, _⟩ => ⟨S1x512x704, .bf16⟩
  | .local _ .vmem, ⟨7, _⟩ => ⟨S1x512x704, .bf16⟩
  | .local _ .vmem, ⟨8, _⟩ => ⟨S1x512x704, .bf16⟩
  | .local _ .vmem, ⟨9, _⟩ => ⟨S1x704x1024, .bf16⟩
  | .local _ .vmem, ⟨10, _⟩ => ⟨S1x704x1024, .bf16⟩
  | .local _ .vmem, ⟨11, _⟩ => ⟨S1x704x1024, .bf16⟩
  | .local _ .vmem, ⟨12, _⟩ => ⟨S1x704x1024, .bf16⟩
  | .local _ .vmem, ⟨13, _⟩ => ⟨S1x704x1024, .bf16⟩
  | .local _ .vmem, ⟨14, _⟩ => ⟨S1x704x1024, .bf16⟩
  | .local _ .vmem, ⟨15, _⟩ => ⟨S512x1024, .f32⟩
  | .local _ .vmem, ⟨16, _⟩ => ⟨S512x1024, .f32⟩
  | .local _ .vmem, ⟨17, _⟩ => ⟨S1x512x704, .bf16⟩
  | .local _ .vmem, ⟨18, _⟩ => ⟨S1x512x704, .bf16⟩
  | .local _ .vmem, ⟨19, _⟩ => ⟨S1x512x704, .bf16⟩
  | .local _ .vmem, ⟨20, _⟩ => ⟨S1x512x704, .bf16⟩
  | .local _ .vmem, ⟨21, _⟩ => ⟨S1x512x704, .bf16⟩
  | .local _ .vmem, ⟨22, _⟩ => ⟨S1x512x704, .bf16⟩
  | .local _ .vmem, ⟨23, _⟩ => ⟨S1x1024, .f32⟩
  | .local _ .vmem, ⟨24, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30_0 : Ref sig .tc := ⟨.hbm, 39, rfl⟩
abbrev main_v30_1 : Ref sig .tc := ⟨.hbm, 40, rfl⟩
abbrev main_v30_2 : Ref sig .tc := ⟨.hbm, 41, rfl⟩
abbrev main_v30_3 : Ref sig .tc := ⟨.hbm, 42, rfl⟩
abbrev main_v30_4 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v110 : BitVec 1 := Scalar.cmpi .eq arg1 c3_i32
  let v111 : BitVec 32 := Scalar.extui v110
  let c0_i32_73 : BitVec 32 := 0#32
  let v112 : BitVec 1 := Scalar.cmpi .ne v111 c0_i32_73
  v112

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x704x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x704x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x704 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== ActRefIdeal.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096x2816 : Shape := ⟨2, ![4096, 2816]⟩
abbrev S4096 : Shape := ⟨1, ![4096]⟩
abbrev S4096x1 : Shape := ⟨2, ![4096, 1]⟩
abbrev S1x1024 : Shape := ⟨2, ![1, 1024]⟩
abbrev S4096x4x704 : Shape := ⟨3, ![4096, 4, 704]⟩
abbrev S4x4096x704 : Shape := ⟨3, ![4, 4096, 704]⟩

abbrev nBuf : Space → Nat
  | .hbm => 101
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096x2816, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096x1024, .f32⟩
  | .hbm, ⟨54, _⟩ => ⟨S4096x1024, .f32⟩
  | .hbm, ⟨55, _⟩ => ⟨S4096x2816, .f32⟩
  | .hbm, ⟨56, _⟩ => ⟨S4096x2816, .f32⟩
  | .hbm, ⟨57, _⟩ => ⟨S4096x2816, .f32⟩
  | .hbm, ⟨58, _⟩ => ⟨S4096x1024, .f32⟩
  | .hbm, ⟨59, _⟩ => ⟨S4096x2816, .f32⟩
  | .hbm, ⟨60, _⟩ => ⟨S4096x2816, .f32⟩
  | .hbm, ⟨61, _⟩ => ⟨S4096x2816, .f32⟩
  | .hbm, ⟨62, _⟩ => ⟨S4096x2816, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S1024, .f32⟩
  | .hbm, ⟨73, _⟩ => ⟨S4096x1024, .f32⟩
  | .hbm, ⟨74, _⟩ => ⟨S_, .f32⟩
  | .hbm, ⟨75, _⟩ => ⟨S4096, .f32⟩
  | .hbm, ⟨76, _⟩ => ⟨S4096x1, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1, .f32⟩
  | .hbm, ⟨81, _⟩ => ⟨S_, .f32⟩
  | .hbm, ⟨82, _⟩ => ⟨S4096x1, .f32⟩
  | .hbm, ⟨83, _⟩ => ⟨S4096x1, .f32⟩
  | .hbm, ⟨84, _⟩ => ⟨S_, .f32⟩
  | .hbm, ⟨85, _⟩ => ⟨S4096, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x4x704, .f32⟩
  | .hbm, ⟨92, _⟩ => ⟨S4x4096x704, .f32⟩
  | .hbm, ⟨93, _⟩ => ⟨S4x4096x704, .bf16⟩
  | .hbm, ⟨94, _⟩ => ⟨S4096x4x704, .f32⟩
  | .hbm, ⟨95, _⟩ => ⟨S4x4096x704, .f32⟩
  | .hbm, ⟨96, _⟩ => ⟨S4x4096x704, .bf16⟩
  | .hbm, ⟨97, _⟩ => ⟨S4096x4x704, .f32⟩
  | .hbm, ⟨98, _⟩ => ⟨S4x4096x704, .f32⟩
  | .hbm, ⟨99, _⟩ => ⟨S4x4096x704, .bf16⟩
  | .hbm, ⟨100, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v19_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v19_1 : Ref sig .tc := ⟨.hbm, 41, rfl⟩
abbrev main_v19_0 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_5 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_6 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_7 : Ref sig .tc := ⟨.hbm, 71, rfl⟩
abbrev main_v42 : Ref sig .tc := ⟨.hbm, 72, rfl⟩
abbrev main_v43 : Ref sig .tc := ⟨.hbm, 73, rfl⟩
abbrev main_cst_8 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_9 : Ref sig .tc := ⟨.hbm, 81, rfl⟩
abbrev main_v50 : Ref sig .tc := ⟨.hbm, 82, rfl⟩
abbrev main_v51 : Ref sig .tc := ⟨.hbm, 83, rfl⟩
abbrev main_cst_10 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩

abbrev nD : Nat := 1
abbrev τ : Topo := Topo.v7x

variable {F : FTy → Type} [FloatOps F]
-- ==== Wgt.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩
abbrev S4096x4x704 : Shape := ⟨3, ![4096, 4, 704]⟩
abbrev S4x4096x704 : Shape := ⟨3, ![4, 4096, 704]⟩
abbrev S4x704x1024 : Shape := ⟨3, ![4, 704, 1024]⟩
abbrev S1024x1024 : Shape := ⟨2, ![1024, 1024]⟩
abbrev S1x1024x704 : Shape := ⟨3, ![1, 1024, 704]⟩
abbrev S1x704x1024 : Shape := ⟨3, ![1, 704, 1024]⟩
abbrev S704x1024 : Shape := ⟨2, ![704, 1024]⟩
abbrev S1024x704 : Shape := ⟨2, ![1024, 704]⟩

abbrev nBuf : Space → Nat
  | .hbm => 62
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S1024x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x1024, .bf16⟩
  | .hbm, ⟨50, _⟩ => ⟨S4096x4x704, .f32⟩
  | .hbm, ⟨51, _⟩ => ⟨S4x4096x704, .f32⟩
  | .hbm, ⟨52, _⟩ => ⟨S4x4096x704, .bf16⟩
  | .hbm, ⟨53, _⟩ => ⟨S4096x4x704, .f32⟩
  | .hbm, ⟨54, _⟩ => ⟨S4x4096x704, .f32⟩
  | .hbm, ⟨55, _⟩ => ⟨S4x4096x704, .bf16⟩
  | .hbm, ⟨56, _⟩ => ⟨S4096x4x704, .f32⟩
  | .hbm, ⟨57, _⟩ => ⟨S4x4096x704, .f32⟩
  | .hbm, ⟨58, _⟩ => ⟨S4x4096x704, .bf16⟩
  | .hbm, ⟨59, _⟩ => ⟨S4x704x1024, .f32⟩
  | .hbm, ⟨60, _⟩ => ⟨S4x704x1024, .f32⟩
  | .hbm, ⟨61, _⟩ => ⟨S4x704x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1024x1024, .f32⟩
  | .local _ .vmem, ⟨9, _⟩ => ⟨S1024x1024, .f32⟩
  | .local _ .vmem, ⟨10, _⟩ => ⟨S1x704x1024, .f32⟩
  | .local _ .vmem, ⟨11, _⟩ => ⟨S1x704x1024, .f32⟩
  | .local _ .vmem, ⟨12, _⟩ => ⟨S1x704x1024, .f32⟩
  | .local _ .vmem, ⟨13, _⟩ => ⟨S1x704x1024, .f32⟩
  | .local _ .vmem, ⟨14, _⟩ => ⟨S1x704x1024, .f32⟩
  | .local _ .vmem, ⟨15, _⟩ => ⟨S1x704x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_v15_2 : Ref sig .tc := ⟨.hbm, 31, rfl⟩
abbrev main_call0_cst_1 : Ref sig .tc := ⟨.hbm, 32, rfl⟩
abbrev main_call0_v6 : Ref sig .tc := ⟨.hbm, 33, rfl⟩
abbrev main_call0_v7 : Ref sig .tc := ⟨.hbm, 34, rfl⟩
abbrev main_v15_1 : Ref sig .tc := ⟨.hbm, 35, rfl⟩
abbrev main_v15_0 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34_0 : Ref sig .tc := ⟨.hbm, 59, rfl⟩
abbrev main_v34_1 : Ref sig .tc := ⟨.hbm, 60, rfl⟩
abbrev main_v34_2 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x704x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x704x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x704x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== WgtRefIdeal.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩
abbrev S4x704x1024 : Shape := ⟨3, ![4, 704, 1024]⟩

abbrev nBuf : Space → Nat
  | .hbm => 64
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S1024x2816, .f32⟩
  | .hbm, ⟨47, _⟩ => ⟨S2816x1024, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S2816x1024, .f32⟩
  | .hbm, ⟨52, _⟩ => ⟨S1024x2816, .f32⟩
  | .hbm, ⟨53, _⟩ => ⟨S4096x2816, .f32⟩
  | .hbm, ⟨54, _⟩ => ⟨S4096x2816, .f32⟩
  | .hbm, ⟨55, _⟩ => ⟨S4096x2816, .f32⟩
  | .hbm, ⟨56, _⟩ => ⟨S4096x2816, .f32⟩
  | .hbm, ⟨57, _⟩ => ⟨S2816x1024, .f32⟩
  | .hbm, ⟨58, _⟩ => ⟨S1024x2816, .f32⟩
  | .hbm, ⟨59, _⟩ => ⟨S2816x1024, .f32⟩
  | .hbm, ⟨60, _⟩ => ⟨S4x704x1024, .f32⟩
  | .hbm, ⟨61, _⟩ => ⟨S2816x1024, .f32⟩
  | .hbm, ⟨62, _⟩ => ⟨S4x704x1024, .f32⟩
  | .hbm, ⟨63, _⟩ => ⟨S4x704x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_v14_2 : Ref sig .tc := ⟨.hbm, 30, rfl⟩
abbrev main_call0_cst_1 : Ref sig .tc := ⟨.hbm, 31, rfl⟩
abbrev main_call0_v6 : Ref sig .tc := ⟨.hbm, 32, rfl⟩
abbrev main_call0_v7 : Ref sig .tc := ⟨.hbm, 33, rfl⟩
abbrev main_v14_1 : Ref sig .tc := ⟨.hbm, 34, rfl⟩
abbrev main_v14_0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩

abbrev nD : Nat := 1
abbrev τ : Topo := Topo.v7x

variable {F : FTy → Type} [FloatOps F]
-- ==== Fwd.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S4x704x1024 : Shape := ⟨3, ![4, 704, 1024]⟩
abbrev S4x4096x704 : Shape := ⟨3, ![4, 4096, 704]⟩
abbrev S1024x1024 : Shape := ⟨2, ![1024, 1024]⟩
abbrev S1x704x1024 : Shape := ⟨3, ![1, 704, 1024]⟩
abbrev S1x1024x704 : Shape := ⟨3, ![1, 1024, 704]⟩
abbrev S1024x1 : Shape := ⟨2, ![1024, 1]⟩
abbrev S512x1024 : Shape := ⟨2, ![512, 1024]⟩
abbrev S704x1024 : Shape := ⟨2, ![704, 1024]⟩
abbrev S512x704 : Shape := ⟨2, ![512, 704]⟩
abbrev S1x512x704 : Shape := ⟨3, ![1, 512, 704]⟩

abbrev nBuf : Space → Nat
  | .hbm => 18
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S2816x1024, .f32⟩
  | .hbm, ⟨7, _⟩ => ⟨S2816x1024, .bf16⟩
  | .hbm, ⟨8, _⟩ => ⟨S4x704x1024, .bf16⟩
  | .hbm, ⟨9, _⟩ => ⟨S2816x1024, .f32⟩
  | .hbm, ⟨10, _⟩ => ⟨S2816x1024, .bf16⟩
  | .hbm, ⟨11, _⟩ => ⟨S4x704x1024, .bf16⟩
  | .hbm, ⟨12, _⟩ => ⟨S2816x1024, .bf16⟩
  | .hbm, ⟨13, _⟩ => ⟨S4x704x1024, .bf16⟩
  | .hbm, ⟨14, _⟩ => ⟨S4096x1024, .f32⟩
  | .hbm, ⟨15, _⟩ => ⟨S4096x1024, .bf16⟩
  | .hbm, ⟨16, _⟩ => ⟨S4x4096x704, .bf16⟩
  | .hbm, ⟨17, _⟩ => ⟨S4x4096x704, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x704x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024x704, .bf16⟩
  | .local _ .vmem, ⟨14, _⟩ => ⟨S1x1024x704, .bf16⟩
  | .local _ .vmem, ⟨15, _⟩ => ⟨S1x1024x704, .bf16⟩
  | .local _ .vmem, ⟨16, _⟩ => ⟨S1x1024x704, .bf16⟩
  | .local _ .vmem, ⟨17, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v9_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v59 : BitVec 1 := Scalar.cmpi .eq arg1 c3_i32
  let v60 : BitVec 32 := Scalar.extui v59
  let c0_i32_46 : BitVec 32 := 0#32
  let v61 : BitVec 1 := Scalar.cmpi .ne v60 c0_i32_46
  v61

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FwdRefIdeal.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩
abbrev S4096x4x704 : Shape := ⟨3, ![4096, 4, 704]⟩
abbrev S4x4096x704 : Shape := ⟨3, ![4, 4096, 704]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S_, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .bf16⟩
  | .hbm, ⟨39, _⟩ => ⟨S4096x2816, .f32⟩
  | .hbm, ⟨40, _⟩ => ⟨S4096x4x704, .f32⟩
  | .hbm, ⟨41, _⟩ => ⟨S4x4096x704, .f32⟩
  | .hbm, ⟨42, _⟩ => ⟨S4x4096x704, .bf16⟩
  | .hbm, ⟨43, _⟩ => ⟨S4096x2816, .f32⟩
  | .hbm, ⟨44, _⟩ => ⟨S4096x4x704, .f32⟩
  | .hbm, ⟨45, _⟩ => ⟨S4x4096x704, .f32⟩
  | .hbm, ⟨46, _⟩ => ⟨S4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]
-- ==== Swa.lean ====
abbrev S4096x2560 : Shape := ⟨2, ![4096, 2560]⟩
abbrev S8x128x128 : Shape := ⟨3, ![8, 128, 128]⟩
abbrev S8 : Shape := ⟨1, ![8]⟩
abbrev S4096x512 : Shape := ⟨2, ![4096, 512]⟩
abbrev S8x128 : Shape := ⟨2, ![8, 128]⟩
abbrev S1024 : Shape := ⟨1, ![1024]⟩
abbrev S1024x1 : Shape := ⟨2, ![1024, 1]⟩
abbrev S4096x128 : Shape := ⟨2, ![4096, 128]⟩
abbrev S128x512 : Shape := ⟨2, ![128, 512]⟩
abbrev S2048x128 : Shape := ⟨2, ![2048, 128]⟩
abbrev S128x128 : Shape := ⟨2, ![128, 128]⟩
abbrev S512x128 : Shape := ⟨2, ![512, 128]⟩
abbrev S4x128x128 : Shape := ⟨3, ![4, 128, 128]⟩
abbrev S512x1 : Shape := ⟨2, ![512, 1]⟩
abbrev S512 : Shape := ⟨1, ![512]⟩

abbrev nBuf : Space → Nat
  | .hbm => 12
  | .vmem => 18
  | .smem => 0
  | _ => 0

abbrev bufTy : (tb : Table) → Fin (tcTables nBuf tb) → BufTy
  | .hbm, ⟨0, _⟩ => ⟨S4096x2560, .f32⟩
  | .hbm, ⟨1, _⟩ => ⟨S8x128x128, .f32⟩
  | .hbm, ⟨2, _⟩ => ⟨S8, .f32⟩
  | .hbm, ⟨3, _⟩ => ⟨S4096x512, .f32⟩
  | .hbm, ⟨4, _⟩ => ⟨S8x128, .f32⟩
  | .hbm, ⟨5, _⟩ => ⟨S1024, .f32⟩
  | .hbm, ⟨6, _⟩ => ⟨S1024x1, .f32⟩
  | .hbm, ⟨7, _⟩ => ⟨S4096x512, .f32⟩
  | .hbm, ⟨8, _⟩ => ⟨S4096x128, .f32⟩
  | .hbm, ⟨9, _⟩ => ⟨S4096x128, .f32⟩
  | .hbm, ⟨10, _⟩ => ⟨S8x128x128, .f32⟩
  | .hbm, ⟨11, _⟩ => ⟨S1024x1, .f32⟩
  | .local _ .vmem, ⟨0, _⟩ => ⟨S128x512, .f32⟩
  | .local _ .vmem, ⟨1, _⟩ => ⟨S128x512, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S8x128x128, .f32⟩
  | .local _ .vmem, ⟨7, _⟩ => ⟨S1024x1, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S8x128x128, .f32⟩
  | .local _ .vmem, ⟨17, _⟩ => ⟨S1024x1, .f32⟩
  | _, _ => ⟨S4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c1_i32 : BitVec 32 := 1#32
  let v11 : BitVec 32 := Scalar.subi arg1 c1_i32
  let c0_i32_4 : BitVec 32 := 0#32
  let v12 : BitVec 32 := Scalar.maxsi v11 c0_i32_4
  let c128_i32 : BitVec 32 := 128#32
  let v13 : BitVec 32 := Scalar.muli v12 c128_i32
  v13
def k0_mult2 (i : grid0.Coords) : BitVec 32 :=
  let arg1 : BitVec 32 := BitVec.ofNat 32 (i 1).val
  let c128_i32_5 : BitVec 32 := 128#32
  let v15 : BitVec 32 := Scalar.muli arg1 c128_i32_5
  v15
def k0_off1 (i : grid0.Coords) : Fin 2 → Nat :=
  let arg1 : BitVec 32 := BitVec.ofNat 32 (i 1).val
  let c1_i32 : BitVec 32 := 1#32
  let v11 : BitVec 32 := Scalar.subi arg1 c1_i32
  let c0_i32_4 : BitVec 32 := 0#32
  let v12 : BitVec 32 := Scalar.maxsi v11 c0_i32_4
  let c128_i32 : BitVec 32 := 128#32
  let v13 : BitVec 32 := Scalar.muli v12 c128_i32
  let v14 : BitVec 32 := v13
  let v17 : Index := Scalar.indexCast v14
  let c0 : Index := 0#32
  ![v17.toNat, 0]
def k0_off2 (i : grid0.Coords) : Fin 2 → Nat :=
  let arg1 : BitVec 32 := BitVec.ofNat 32 (i 1).val
  let c128_i32_5 : BitVec 32 := 128#32
  let v15 : BitVec 32 := Scalar.muli arg1 c128_i32_5
  let v16 : BitVec 32 := v15
  let v24 : Index := Scalar.indexCast v16
  let c0_8 : Index := 0#32
  ![v24.toNat, 0]
def k0_mult3 (i : grid0.Coords) : BitVec 32 :=
  let arg1 : BitVec 32 := BitVec.ofNat 32 (i 1).val
  let c1_i32_104 : BitVec 32 := 1#32
  let v239 : BitVec 32 := Scalar.subi arg1 c1_i32_104
  let c0_i32_105 : BitVec 32 := 0#32
  let v240 : BitVec 32 := Scalar.maxsi v239 c0_i32_105
  let c128_i32_106 : BitVec 32 := 128#32
  let v241 : BitVec 32 := Scalar.muli v240 c128_i32_106
  v241
def k0_mult4 (i : grid0.Coords) : BitVec 32 :=
  let arg1 : BitVec 32 := BitVec.ofNat 32 (i 1).val
  let c128_i32_107 : BitVec 32 := 128#32
  let v243 : BitVec 32 := Scalar.muli arg1 c128_i32_107
  v243
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, c8_i32.toNat]

def cc0_transform_2 (i : grid0.Coords) : Fin 2 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, c9_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== SwaIdeal.lean ====
variable {F : FTy → Type} [FloatOps F] [Named F]
def κ : String → Option EReal := fun
  | "mask" => some ⊥
  | _ => none
-- ==== SwaRefIdeal.lean ====
abbrev S4096x2560 : Shape := ⟨2, ![4096, 2560]⟩
abbrev S8x128x128 : Shape := ⟨3, ![8, 128, 128]⟩
abbrev S8 : Shape := ⟨1, ![8]⟩
abbrev S4096x512 : Shape := ⟨2, ![4096, 512]⟩
abbrev S4096x128 : Shape := ⟨2, ![4096, 128]⟩
abbrev S2x16x128x2x4x64 : Shape := ⟨6, ![2, 16, 128, 2, 4, 64]⟩
abbrev S2x16x128x2x64 : Shape := ⟨5, ![2, 16, 128, 2, 64]⟩
abbrev S_ : Shape := ⟨0, ![]⟩
abbrev S2x1x128x2x64 : Shape := ⟨5, ![2, 1, 128, 2, 64]⟩
abbrev S2x15x128x2x64 : Shape := ⟨5, ![2, 15, 128, 2, 64]⟩
abbrev S2x16x256x2x64 : Shape := ⟨5, ![2, 16, 256, 2, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x128x256 : Shape := ⟨3, ![1, 128, 256]⟩
abbrev S1x1x256 : Shape := ⟨3, ![1, 1, 256]⟩
abbrev S16x1x256 : Shape := ⟨3, ![16, 1, 256]⟩
abbrev S16x128x256 : Shape := ⟨3, ![16, 128, 256]⟩
abbrev S8x128x256 : Shape := ⟨3, ![8, 128, 256]⟩
abbrev S2x4x128x256 : Shape := ⟨4, ![2, 4, 128, 256]⟩
abbrev S2x16x2x256x128x4 : Shape := ⟨6, ![2, 16, 2, 256, 128, 4]⟩
abbrev S2x16x2x4x128x256 : Shape := ⟨6, ![2, 16, 2, 4, 128, 256]⟩
abbrev S1x1x2x4x128x256 : Shape := ⟨6, ![1, 1, 2, 4, 128, 256]⟩
abbrev S1x16x1x1x128x256 : Shape := ⟨6, ![1, 16, 1, 1, 128, 256]⟩
abbrev S2x4 : Shape := ⟨2, ![2, 4]⟩
abbrev S2x4x1x1 : Shape := ⟨4, ![2, 4, 1, 1]⟩
abbrev S2x16x2x4x128 : Shape := ⟨5, ![2, 16, 2, 4, 128]⟩
abbrev S2x16x2x4x128x1 : Shape := ⟨6, ![2, 16, 2, 4, 128, 1]⟩
abbrev S1x1x2x4x1x1 : Shape := ⟨6, ![1, 1, 2, 4, 1, 1]⟩
abbrev S2x16x2x64x4x128 : Shape := ⟨6, ![2, 16, 2, 64, 4, 128]⟩
abbrev S2x16x2x128x4x64 : Shape := ⟨6, ![2, 16, 2, 128, 4, 64]⟩

abbrev nBuf : Space → Nat
  | .hbm => 158
  | .vmem => 0
  | .smem => 0
  | _ => 0

abbrev hbmTy0_0 (i : Nat) : BufTy := match i % 128 with
  | 0 => ⟨S4096x2560, .f32⟩
  | 1 => ⟨S8x128x128, .f32⟩
  | 2 => ⟨S8, .f32⟩
  | 3 => ⟨S4096x512, .f32⟩
  | 4 => ⟨S4096x512, .f32⟩
  | 5 => ⟨S4096x128, .f32⟩
  | 6 => ⟨S4096x128, .f32⟩
  | 7 => ⟨S2x16x128x2x4x64, .f32⟩
  | 8 => ⟨S2x16x128x2x64, .f32⟩
  | 9 => ⟨S_, .f32⟩
  | 10 => ⟨S2x1x128x2x64, .f32⟩
  | 11 => ⟨S2x15x128x2x64, .f32⟩
  | 12 => ⟨S2x16x128x2x64, .f32⟩
  | 13 => ⟨S2x16x256x2x64, .f32⟩
  | 14 => ⟨S2x16x128x2x64, .f32⟩
  | 15 => ⟨S_, .f32⟩
  | 16 => ⟨S2x1x128x2x64, .f32⟩
  | 17 => ⟨S2x15x128x2x64, .f32⟩
  | 18 => ⟨S2x16x128x2x64, .f32⟩
  | 19 => ⟨S2x16x256x2x64, .f32⟩
  | 20 => ⟨S128, .i32⟩
  | 21 => ⟨S128x1, .i32⟩
  | 22 => ⟨S256, .i32⟩
  | 23 => ⟨S1x256, .i32⟩
  | 24 => ⟨S_, .i32⟩
  | 25 => ⟨S128x1, .i32⟩
  | 26 => ⟨S128x1, .i32⟩
  | 27 => ⟨S128x256, .i32⟩
  | 28 => ⟨S128x256, .i32⟩
  | 29 => ⟨S128x256, .i32⟩
  | 30 => ⟨S_, .i32⟩
  | 31 => ⟨S128x256, .i32⟩
  | 32 => ⟨S128x256, .i1⟩
  | 33 => ⟨S_, .i32⟩
  | 34 => ⟨S128x256, .i32⟩
  | 35 => ⟨S128x256, .i1⟩
  | 36 => ⟨S128x256, .i1⟩
  | 37 => ⟨S16, .i32⟩
  | 38 => ⟨S16x1x1, .i32⟩
  | 39 => ⟨S1x128x256, .i1⟩
  | 40 => ⟨S_, .i32⟩
  | 41 => ⟨S16x1x1, .i32⟩
  | 42 => ⟨S16x1x1, .i1⟩
  | 43 => ⟨S1x1x256, .i32⟩
  | 44 => ⟨S_, .i32⟩
  | 45 => ⟨S1x1x256, .i32⟩
  | 46 => ⟨S1x1x256, .i1⟩
  | 47 => ⟨S16x1x256, .i1⟩
  | 48 => ⟨S16x1x256, .i1⟩
  | 49 => ⟨S16x1x256, .i1⟩
  | 50 => ⟨S16x128x256, .i1⟩
  | 51 => ⟨S16x128x256, .i1⟩
  | 52 => ⟨S16x128x256, .i1⟩
  | 53 => ⟨S8x128x256, .f32⟩
  | 54 => ⟨S2x4x128x256, .f32⟩
  | 55 => ⟨S2x16x2x256x128x4, .f32⟩
  | 56 => ⟨S2x16x2x4x128x256, .f32⟩
  | 57 => ⟨S_, .f32⟩
  | 58 => ⟨S2x16x2x4x128x256, .f32⟩
  | 59 => ⟨S2x16x2x4x128x256, .f32⟩
  | 60 => ⟨S1x1x2x4x128x256, .f32⟩
  | 61 => ⟨S2x16x2x4x128x256, .f32⟩
  | 62 => ⟨S2x16x2x4x128x256, .f32⟩
  | 63 => ⟨S1x16x1x1x128x256, .i1⟩
  | 64 => ⟨S_, .f32⟩
  | 65 => ⟨S_, .f32⟩
  | 66 => ⟨S2x16x2x4x128x256, .i1⟩
  | 67 => ⟨S2x16x2x4x128x256, .f32⟩
  | 68 => ⟨S2x16x2x4x128x256, .f32⟩
  | 69 => ⟨S_, .f32⟩
  | 70 => ⟨S2x16x2x4x128x256, .f32⟩
  | 71 => ⟨S2x4, .f32⟩
  | 72 => ⟨S2x4x1x1, .f32⟩
  | 73 => ⟨S_, .f32⟩
  | 74 => ⟨S2x16x2x4x128, .f32⟩
  | 75 => ⟨S2x16x2x4x128x1, .f32⟩
  | 76 => ⟨S2x16x2x4x128x256, .f32⟩
  | 77 => ⟨S2x16x2x4x128x256, .i1⟩
  | 78 => ⟨S2x16x2x4x128x256, .f32⟩
  | 79 => ⟨S_, .f32⟩
  | 80 => ⟨S2x16x2x4x128, .f32⟩
  | 81 => ⟨S2x16x2x4x128x1, .f32⟩
  | 82 => ⟨S1x1x2x4x1x1, .f32⟩
  | 83 => ⟨S2x16x2x4x128x1, .f32⟩
  | 84 => ⟨S2x16x2x4x128x1, .f32⟩
  | 85 => ⟨S2x16x2x4x128x1, .f32⟩
  | 86 => ⟨S2x16x2x4x128x1, .i1⟩
  | 87 => ⟨S2x16x2x4x128x1, .f32⟩
  | 88 => ⟨S2x16x2x4x128x1, .i1⟩
  | 89 => ⟨S_, .f32⟩
  | 90 => ⟨S2x16x2x4x128x1, .f32⟩
  | 91 => ⟨S_, .f32⟩
  | 92 => ⟨S2x16x2x4x128x1, .f32⟩
  | 93 => ⟨S_, .f32⟩
  | 94 => ⟨S2x16x2x4x128x1, .f32⟩
  | 95 => ⟨S2x16x2x4x128x1, .f32⟩
  | 96 => ⟨S2x16x2x4x128x1, .f32⟩
  | 97 => ⟨S2x16x2x4x128x256, .f32⟩
  | 98 => ⟨S2x16x2x4x128x256, .f32⟩
  | 99 => ⟨S2x16x2x4x128x256, .f32⟩
  | 100 => ⟨S_, .f32⟩
  | 101 => ⟨S2x16x2x4x128, .f32⟩
  | 102 => ⟨S2x16x2x4x128x1, .f32⟩
  | 103 => ⟨S1x1x2x4x1x1, .f32⟩
  | 104 => ⟨S2x16x2x4x128x1, .f32⟩
  | 105 => ⟨S2x16x2x4x128x1, .f32⟩
  | 106 => ⟨S2x16x2x4x128x1, .f32⟩
  | 107 => ⟨S2x16x2x4x128x1, .f32⟩
  | 108 => ⟨S2x16x2x4x128x256, .f32⟩
  | 109 => ⟨S2x16x2x4x128x256, .f32⟩
  | 110 => ⟨S2x16x2x4x128x1, .f32⟩
  | 111 => ⟨S_, .f32⟩
  | 112 => ⟨S2x16x2x4x128x1, .f32⟩
  | 113 => ⟨S2x16x2x4x128x1, .f32⟩
  | 114 => ⟨S2x16x2x64x4x128, .f32⟩
  | 115 => ⟨S2x16x128x2x4x64, .f32⟩
  | 116 => ⟨S4096x512, .f32⟩
  | 117 => ⟨S2x16x128x2x4x64, .f32⟩
  | 118 => ⟨S2x16x2x64x4x128, .f32⟩
  | 119 => ⟨S2x16x2x4x128x256, .f32⟩
  | 120 => ⟨S2x16x2x4x128x256, .f32⟩
  | 121 => ⟨S2x16x2x4x128x256, .f32⟩
  | 122 => ⟨S2x16x2x4x128x256, .f32⟩
  | 123 => ⟨S_, .f32⟩
  | 124 => ⟨S2x16x2x4x128, .f32⟩
  | 125 => ⟨S2x16x2x4x128x1, .f32⟩
  | 126 => ⟨S2x16x2x4x128x1, .f32⟩
  | 127 => ⟨S2x16x2x4x128x256, .f32⟩
  | _ => ⟨S4096x2560, .f32⟩

abbrev hbmTy0_1 (i : Nat) : BufTy := match i % 128 with
  | 0 => ⟨S2x16x2x4x128x256, .f32⟩
  | 1 => ⟨S2x16x2x4x128x1, .f32⟩
  | 2 => ⟨S2x16x2x4x128x1, .f32⟩
  | 3 => ⟨S_, .f32⟩
  | 4 => ⟨S2x16x2x4x128, .f32⟩
  | 5 => ⟨S2x16x2x4x128x256, .f32⟩
  | 6 => ⟨S2x16x2x4x128x256, .f32⟩
  | 7 => ⟨S2x16x2x4x128x256, .f32⟩
  | 8 => ⟨S2x16x2x4x128x256, .f32⟩
  | 9 => ⟨S_, .f32⟩
  | 10 => ⟨S2x16x2x4x128, .f32⟩
  | 11 => ⟨S2x16x2x4x128x1, .f32⟩
  | 12 => ⟨S2x16x2x4x128x1, .f32⟩
  | 13 => ⟨S2x16x2x4x128x1, .f32⟩
  | 14 => ⟨S_, .f32⟩
  | 15 => ⟨S2x16x2x4x128, .f32⟩
  | 16 => ⟨S2x16x2x4x128, .f32⟩
  | 17 => ⟨S2x16x2x4x128x256, .f32⟩
  | 18 => ⟨S2x16x2x4x128x256, .f32⟩
  | 19 => ⟨S2x16x2x4x128x256, .f32⟩
  | 20 => ⟨S_, .f32⟩
  | 21 => ⟨S2x16x2x4x128x256, .f32⟩
  | 22 => ⟨S2x16x2x4x128x256, .f32⟩
  | 23 => ⟨S_, .f32⟩
  | 24 => ⟨S2x16x2x4x128x256, .f32⟩
  | 25 => ⟨S2x16x2x4x128x256, .f32⟩
  | 26 => ⟨S2x16x2x256x128x4, .f32⟩
  | 27 => ⟨S2x16x2x128x4x64, .f32⟩
  | 28 => ⟨S2x16x128x2x4x64, .f32⟩
  | 29 => ⟨S4096x512, .f32⟩
  | _ => ⟨S4096x2560, .f32⟩

abbrev hbmTy (i : Nat) : BufTy := match i / 128 with
  | 0 => hbmTy0_0 i
  | 1 => hbmTy0_1 i
  | _ => ⟨S4096x2560, .f32⟩

abbrev bufTy : (tb : Table) → Fin (tcTables nBuf tb) → BufTy
  | .hbm, ⟨i, _⟩ => hbmTy i
  | _, _ => ⟨S4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_1 : Ref sig .tc := ⟨.hbm, 30, rfl⟩
abbrev main_v23 : Ref sig .tc := ⟨.hbm, 31, rfl⟩
abbrev main_v24 : Ref sig .tc := ⟨.hbm, 32, rfl⟩
abbrev main_c_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_5 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_6 : Ref sig .tc := ⟨.hbm, 64, rfl⟩
abbrev main_call0_v0 : Ref sig .tc := ⟨.hbm, 65, rfl⟩
abbrev main_v52_1 : Ref sig .tc := ⟨.hbm, 66, rfl⟩
abbrev main_call0_v2 : Ref sig .tc := ⟨.hbm, 67, rfl⟩
abbrev main_v52_0 : Ref sig .tc := ⟨.hbm, 68, rfl⟩
abbrev main_call0_cst : Ref sig .tc := ⟨.hbm, 69, rfl⟩
abbrev main_v52_2 : Ref sig .tc := ⟨.hbm, 70, rfl⟩
abbrev main_v53 : Ref sig .tc := ⟨.hbm, 71, rfl⟩
abbrev main_v54 : Ref sig .tc := ⟨.hbm, 72, rfl⟩
abbrev main_cst_7 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_8 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_9 : Ref sig .tc := ⟨.hbm, 89, rfl⟩
abbrev main_v69 : Ref sig .tc := ⟨.hbm, 90, rfl⟩
abbrev main_cst_10 : Ref sig .tc := ⟨.hbm, 91, rfl⟩
abbrev main_v70 : Ref sig .tc := ⟨.hbm, 92, rfl⟩
abbrev main_cst_11 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_12 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_13 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_cst_14 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_cst_15 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_cst_16 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_cst_17 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_call1_cst : Ref sig .tc := ⟨.hbm, 148, rfl⟩
abbrev main_call1_v0 : Ref sig .tc := ⟨.hbm, 149, rfl⟩
abbrev main_v119 : Ref sig .tc := ⟨.hbm, 150, rfl⟩
abbrev main_cst_18 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩

abbrev nD : Nat := 1
abbrev τ : Topo := Topo.v7x

variable {F : FTy → Type} [FloatOps F]
-- ==== Gate.lean ====
abbrev S4096x1024 : Shape := ⟨2, ![4096, 1024]⟩
abbrev S1024 : Shape := ⟨1, ![1024]⟩
abbrev S1024x1024 : Shape := ⟨2, ![1024, 1024]⟩
abbrev S4096x256 : Shape := ⟨2, ![4096, 256]⟩
abbrev S256x1024 : Shape := ⟨2, ![256, 1024]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 14
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1024, .f32⟩
  | .hbm, ⟨3, _⟩ => ⟨S4096x256, .f32⟩
  | .hbm, ⟨4, _⟩ => ⟨S256x1024, .f32⟩
  | .hbm, ⟨5, _⟩ => ⟨S4096x1024, .f32⟩
  | .hbm, ⟨6, _⟩ => ⟨S1x1024, .f32⟩
  | .hbm, ⟨7, _⟩ => ⟨S1024x1024, .bf16⟩
  | .hbm, ⟨8, _⟩ => ⟨S256x1024, .bf16⟩
  | .hbm, ⟨9, _⟩ => ⟨S4096x1024, .f32⟩
  | .hbm, ⟨10, _⟩ => ⟨S4096x1024, .bf16⟩
  | .hbm, ⟨11, _⟩ => ⟨S4096x1024, .bf16⟩
  | .hbm, ⟨12, _⟩ => ⟨S4096x1024, .bf16⟩
  | .hbm, ⟨13, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x256, .f32⟩
  | .local _ .vmem, ⟨5, _⟩ => ⟨S512x256, .f32⟩
  | .local _ .vmem, ⟨6, _⟩ => ⟨S256x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== GateRefIdeal.lean ====
abbrev S4096x1024 : Shape := ⟨2, ![4096, 1024]⟩
abbrev S1024 : Shape := ⟨1, ![1024]⟩
abbrev S1024x1024 : Shape := ⟨2, ![1024, 1024]⟩
abbrev S4096x256 : Shape := ⟨2, ![4096, 256]⟩
abbrev S256x1024 : Shape := ⟨2, ![256, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 81
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1024, .f32⟩
  | .hbm, ⟨3, _⟩ => ⟨S4096x256, .f32⟩
  | .hbm, ⟨4, _⟩ => ⟨S256x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S4096x1024, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S_, .f32⟩
  | .hbm, ⟨71, _⟩ => ⟨S4096, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .bf16⟩
  | .hbm, ⟨78, _⟩ => ⟨S4096x1024, .bf16⟩
  | .hbm, ⟨79, _⟩ => ⟨S4096x1024, .bf16⟩
  | .hbm, ⟨80, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_10 : Ref sig .tc := ⟨.hbm, 67, rfl⟩
abbrev main_v50 : Ref sig .tc := ⟨.hbm, 68, rfl⟩
abbrev main_v51 : Ref sig .tc := ⟨.hbm, 69, rfl⟩
abbrev main_cst_11 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩

abbrev nD : Nat := 1
abbrev τ : Topo := Topo.v7x

variable {F : FTy → Type} [FloatOps F]
-- ==== Emb.lean ====
abbrev S4096x1024 : Shape := ⟨2, ![4096, 1024]⟩
abbrev S1024 : Shape := ⟨1, ![1024]⟩
abbrev S1024x1024 : Shape := ⟨2, ![1024, 1024]⟩
abbrev S4096x256 : Shape := ⟨2, ![4096, 256]⟩
abbrev S256x1024 : Shape := ⟨2, ![256, 1024]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 9
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1024, .f32⟩
  | .hbm, ⟨3, _⟩ => ⟨S4096x256, .f32⟩
  | .hbm, ⟨4, _⟩ => ⟨S256x1024, .f32⟩
  | .hbm, ⟨5, _⟩ => ⟨S1x1024, .f32⟩
  | .hbm, ⟨6, _⟩ => ⟨S1024x1024, .bf16⟩
  | .hbm, ⟨7, _⟩ => ⟨S256x1024, .bf16⟩
  | .hbm, ⟨8, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x256, .f32⟩
  | .local _ .vmem, ⟨5, _⟩ => ⟨S512x256, .f32⟩
  | .local _ .vmem, ⟨6, _⟩ => ⟨S256x1024, .bf16⟩
  | .local _ .vmem, ⟨7, _⟩ => ⟨S512x1024, .f32⟩
  | .local _ .vmem, ⟨8, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== EmbRefIdeal.lean ====
abbrev S4096x1024 : Shape := ⟨2, ![4096, 1024]⟩
abbrev S1024 : Shape := ⟨1, ![1024]⟩
abbrev S1024x1024 : Shape := ⟨2, ![1024, 1024]⟩
abbrev S4096x256 : Shape := ⟨2, ![4096, 256]⟩
abbrev S256x1024 : Shape := ⟨2, ![256, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1024, .f32⟩
  | .hbm, ⟨3, _⟩ => ⟨S4096x256, .f32⟩
  | .hbm, ⟨4, _⟩ => ⟨S256x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Dwi.lean ====
abbrev S4096x1024 : Shape := ⟨2, ![4096, 1024]⟩
abbrev S1024 : Shape := ⟨1, ![1024]⟩
abbrev S4096x2560 : Shape := ⟨2, ![4096, 2560]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x2560 : Shape := ⟨2, ![1024, 2560]⟩
abbrev S1024x1024 : Shape := ⟨2, ![1024, 1024]⟩
abbrev S1024x640 : Shape := ⟨2, ![1024, 640]⟩

abbrev nBuf : Space → Nat
  | .hbm => 22
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x2560, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S4096x2560, .bf16⟩
  | .hbm, ⟨21, _⟩ => ⟨S1024x2560, .f32⟩
  | .local _ .vmem, ⟨0, _⟩ => ⟨S1024x1024, .bf16⟩
  | .local _ .vmem, ⟨1, _⟩ => ⟨S1024x1024, .bf16⟩
  | .local _ .vmem, ⟨2, _⟩ => ⟨S1024x640, .bf16⟩
  | .local _ .vmem, ⟨3, _⟩ => ⟨S1024x640, .bf16⟩
  | .local _ .vmem, ⟨4, _⟩ => ⟨S1024x640, .f32⟩
  | .local _ .vmem, ⟨5, _⟩ => ⟨S1024x640, .f32⟩
  | .local _ .vmem, ⟨6, _⟩ => ⟨S1024x640, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwiRefIdeal.lean ====
abbrev S4096x1024 : Shape := ⟨2, ![4096, 1024]⟩
abbrev S1024 : Shape := ⟨1, ![1024]⟩
abbrev S4096x2560 : Shape := ⟨2, ![4096, 2560]⟩
abbrev S_ : Shape := ⟨0, ![]⟩
abbrev S1024x2560 : Shape := ⟨2, ![1024, 2560]⟩
abbrev S4096 : Shape := ⟨1, ![4096]⟩
abbrev S4096x1 : Shape := ⟨2, ![4096, 1]⟩
abbrev S1x1024 : Shape := ⟨2, ![1, 1024]⟩
abbrev S2560x1024 : Shape := ⟨2, ![2560, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x2560, .f32⟩
  | .hbm, ⟨3, _⟩ => ⟨S_, .f32⟩
  | .hbm, ⟨4, _⟩ => ⟨S1024x2560, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x2560, .f32⟩
  | .hbm, ⟨22, _⟩ => ⟨S2560x1024, .f32⟩
  | .hbm, ⟨23, _⟩ => ⟨S1024x2560, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Dwo.lean ====
abbrev S4096x256 : Shape := ⟨2, ![4096, 256]⟩
abbrev S4096x512 : Shape := ⟨2, ![4096, 512]⟩
abbrev S4096x1024 : Shape := ⟨2, ![4096, 1024]⟩
abbrev S1024x1024 : Shape := ⟨2, ![1024, 1024]⟩
abbrev S1024x512 : Shape := ⟨2, ![1024, 512]⟩

abbrev nBuf : Space → Nat
  | .hbm => 7
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S4096x512, .f32⟩
  | .hbm, ⟨2, _⟩ => ⟨S4096x256, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwoRefIdeal.lean ====
abbrev S4096x256 : Shape := ⟨2, ![4096, 256]⟩
abbrev S4096x512 : Shape := ⟨2, ![4096, 512]⟩
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x512, .f32⟩
  | .hbm, ⟨2, _⟩ => ⟨S4096x256, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S1024x1024, .f32⟩
  | .hbm, ⟨9, _⟩ => ⟨S1024x1024, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Dwg.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x1024 : Shape := ⟨2, ![1024, 1024]⟩
abbrev S1024x512 : Shape := ⟨2, ![1024, 512]⟩

abbrev nBuf : Space → Nat
  | .hbm => 22
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S4096x1024, .bf16⟩
  | .hbm, ⟨21, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwgRefIdeal.lean ====
abbrev S4096x1024 : Shape := ⟨2, ![4096, 1024]⟩
abbrev S1024 : Shape := ⟨1, ![1024]⟩
abbrev S_ : Shape := ⟨0, ![]⟩
abbrev S1024x1024 : Shape := ⟨2, ![1024, 1024]⟩
abbrev S4096 : Shape := ⟨1, ![4096]⟩
abbrev S4096x1 : Shape := ⟨2, ![4096, 1]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S1024x1024, .f32⟩
  | .hbm, ⟨23, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Dxo.lean ====
abbrev S1024x1024 : Shape := ⟨2, ![1024, 1024]⟩
abbrev S4096x1024 : Shape := ⟨2, ![4096, 1024]⟩
abbrev S4096x256 : Shape := ⟨2, ![4096, 256]⟩
abbrev S4096x512 : Shape := ⟨2, ![4096, 512]⟩
abbrev S512x1024 : Shape := ⟨2, ![512, 1024]⟩
abbrev S512x256 : Shape := ⟨2, ![512, 256]⟩
abbrev S512x512 : Shape := ⟨2, ![512, 512]⟩

abbrev nBuf : Space → Nat
  | .hbm => 6
  | .vmem => 9
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S1024x1024, .bf16⟩
  | .hbm, ⟨3, _⟩ => ⟨S4096x256, .f32⟩
  | .hbm, ⟨4, _⟩ => ⟨S4096x512, .f32⟩
  | .hbm, ⟨5, _⟩ => ⟨S4096x256, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x256, .f32⟩
  | .local _ .vmem, ⟨4, _⟩ => ⟨S512x256, .f32⟩
  | .local _ .vmem, ⟨5, _⟩ => ⟨S512x512, .f32⟩
  | .local _ .vmem, ⟨6, _⟩ => ⟨S512x512, .f32⟩
  | .local _ .vmem, ⟨7, _⟩ => ⟨S512x256, .f32⟩
  | .local _ .vmem, ⟨8, _⟩ => ⟨S512x256, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DxoRefIdeal.lean ====
abbrev S1024x1024 : Shape := ⟨2, ![1024, 1024]⟩
abbrev S4096x1024 : Shape := ⟨2, ![4096, 1024]⟩
abbrev S_ : Shape := ⟨0, ![]⟩
abbrev S4096x256 : Shape := ⟨2, ![4096, 256]⟩
abbrev S4096x512 : Shape := ⟨2, ![4096, 512]⟩

abbrev nBuf : Space → Nat
  | .hbm => 14
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S_, .f32⟩
  | .hbm, ⟨3, _⟩ => ⟨S4096x256, .f32⟩
  | .hbm, ⟨4, _⟩ => ⟨S_, .f32⟩
  | .hbm, ⟨5, _⟩ => ⟨S4096x512, .f32⟩
  | .hbm, ⟨6, _⟩ => ⟨S_, .f32⟩
  | .hbm, ⟨7, _⟩ => ⟨S4096x256, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x256, .f32⟩
  | .hbm, ⟨12, _⟩ => ⟨S4096x512, .f32⟩
  | .hbm, ⟨13, _⟩ => ⟨S4096x256, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Inx.lean ====
abbrev S4096x1024 : Shape := ⟨2, ![4096, 1024]⟩
abbrev S1024 : Shape := ⟨1, ![1024]⟩
abbrev S1024x2560 : Shape := ⟨2, ![1024, 2560]⟩
abbrev S4096x256 : Shape := ⟨2, ![4096, 256]⟩
abbrev S4096x512 : Shape := ⟨2, ![4096, 512]⟩
abbrev S4096x128 : Shape := ⟨2, ![4096, 128]⟩
abbrev S3x4096x256 : Shape := ⟨3, ![3, 4096, 256]⟩
abbrev S2x4096x128 : Shape := ⟨3, ![2, 4096, 128]⟩
abbrev S1x1024 : Shape := ⟨2, ![1, 1024]⟩
abbrev S4096x2560 : Shape := ⟨2, ![4096, 2560]⟩
abbrev S512x1024 : Shape := ⟨2, ![512, 1024]⟩
abbrev S512x256 : Shape := ⟨2, ![512, 256]⟩
abbrev S512x512 : Shape := ⟨2, ![512, 512]⟩
abbrev S512x128 : Shape := ⟨2, ![512, 128]⟩
abbrev S3x512x256 : Shape := ⟨3, ![3, 512, 256]⟩
abbrev S2x512x128 : Shape := ⟨3, ![2, 512, 128]⟩
abbrev S512x2560 : Shape := ⟨2, ![512, 2560]⟩
abbrev S1x512x256 : Shape := ⟨3, ![1, 512, 256]⟩
abbrev S1x512x128 : Shape := ⟨3, ![1, 512, 128]⟩
abbrev S512 : Shape := ⟨1, ![512]⟩
abbrev S512x1 : Shape := ⟨2, ![512, 1]⟩

abbrev nBuf : Space → Nat
  | .hbm => 17
  | .vmem => 27
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2560, .f32⟩
  | .hbm, ⟨3, _⟩ => ⟨S4096x256, .f32⟩
  | .hbm, ⟨4, _⟩ => ⟨S4096x256, .f32⟩
  | .hbm, ⟨5, _⟩ => ⟨S4096x512, .f32⟩
  | .hbm, ⟨6, _⟩ => ⟨S4096x128, .f32⟩
  | .hbm, ⟨7, _⟩ => ⟨S4096x128, .f32⟩
  | .hbm, ⟨8, _⟩ => ⟨S3x4096x256, .f32⟩
  | .hbm, ⟨9, _⟩ => ⟨S4096x256, .f32⟩
  | .hbm, ⟨10, _⟩ => ⟨S2x4096x128, .f32⟩
  | .hbm, ⟨11, _⟩ => ⟨S4096x1024, .f32⟩
  | .hbm, ⟨12, _⟩ => ⟨S1x1024, .f32⟩
  | .hbm, ⟨13, _⟩ => ⟨S1024x2560, .bf16⟩
  | .hbm, ⟨14, _⟩ => ⟨S4096x1024, .f32⟩
  | .hbm, ⟨15, _⟩ => ⟨S1x1024, .f32⟩
  | .hbm, ⟨16, _⟩ => ⟨S4096x2560, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1024x2560, .bf16⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x512, .f32⟩
  | .local _ .vmem, ⟨11, _⟩ => ⟨S512x512, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S3x512x256, .f32⟩
  | .local _ .vmem, ⟨17, _⟩ => ⟨S3x512x256, .f32⟩
  | .local _ .vmem, ⟨18, _⟩ => ⟨S512x256, .f32⟩
  | .local _ .vmem, ⟨19, _⟩ => ⟨S512x256, .f32⟩
  | .local _ .vmem, ⟨20, _⟩ => ⟨S2x512x128, .f32⟩
  | .local _ .vmem, ⟨21, _⟩ => ⟨S2x512x128, .f32⟩
  | .local _ .vmem, ⟨22, _⟩ => ⟨S512x1024, .f32⟩
  | .local _ .vmem, ⟨23, _⟩ => ⟨S512x1024, .f32⟩
  | .local _ .vmem, ⟨24, _⟩ => ⟨S1x1024, .f32⟩
  | .local _ .vmem, ⟨25, _⟩ => ⟨S512x2560, .bf16⟩
  | .local _ .vmem, ⟨26, _⟩ => ⟨S512x2560, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2_0 : Ref sig .tc := ⟨.hbm, 14, rfl⟩
abbrev main_v2_1 : Ref sig .tc := ⟨.hbm, 15, rfl⟩
abbrev main_v2_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg14_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S3x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x2560 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== InxRefIdeal.lean ====
abbrev S4096x1024 : Shape := ⟨2, ![4096, 1024]⟩
abbrev S1024 : Shape := ⟨1, ![1024]⟩
abbrev S1024x2560 : Shape := ⟨2, ![1024, 2560]⟩
abbrev S4096x256 : Shape := ⟨2, ![4096, 256]⟩
abbrev S4096x512 : Shape := ⟨2, ![4096, 512]⟩
abbrev S4096x128 : Shape := ⟨2, ![4096, 128]⟩
abbrev S3x4096x256 : Shape := ⟨3, ![3, 4096, 256]⟩
abbrev S2x4096x128 : Shape := ⟨3, ![2, 4096, 128]⟩
abbrev S_ : Shape := ⟨0, ![]⟩
abbrev S1x4096x256 : Shape := ⟨3, ![1, 4096, 256]⟩
abbrev S1x4096x128 : Shape := ⟨3, ![1, 4096, 128]⟩
abbrev S4096x2560 : Shape := ⟨2, ![4096, 2560]⟩
abbrev S4096 : Shape := ⟨1, ![4096]⟩
abbrev S4096x1 : Shape := ⟨2, ![4096, 1]⟩
abbrev S1x1024 : Shape := ⟨2, ![1, 1024]⟩

abbrev nBuf : Space → Nat
  | .hbm => 76
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2560, .f32⟩
  | .hbm, ⟨3, _⟩ => ⟨S4096x256, .f32⟩
  | .hbm, ⟨4, _⟩ => ⟨S4096x256, .f32⟩
  | .hbm, ⟨5, _⟩ => ⟨S4096x512, .f32⟩
  | .hbm, ⟨6, _⟩ => ⟨S4096x128, .f32⟩
  | .hbm, ⟨7, _⟩ => ⟨S4096x128, .f32⟩
  | .hbm, ⟨8, _⟩ => ⟨S3x4096x256, .f32⟩
  | .hbm, ⟨9, _⟩ => ⟨S4096x256, .f32⟩
  | .hbm, ⟨10, _⟩ => ⟨S2x4096x128, .f32⟩
  | .hbm, ⟨11, _⟩ => ⟨S4096x1024, .f32⟩
  | .hbm, ⟨12, _⟩ => ⟨S_, .f32⟩
  | .hbm, ⟨13, _⟩ => ⟨S4096x128, .f32⟩
  | .hbm, ⟨14, _⟩ => ⟨S1x4096x256, .f32⟩
  | .hbm, ⟨15, _⟩ => ⟨S4096x256, .f32⟩
  | .hbm, ⟨16, _⟩ => ⟨S1x4096x256, .f32⟩
  | .hbm, ⟨17, _⟩ => ⟨S4096x256, .f32⟩
  | .hbm, ⟨18, _⟩ => ⟨S1x4096x256, .f32⟩
  | .hbm, ⟨19, _⟩ => ⟨S4096x256, .f32⟩
  | .hbm, ⟨20, _⟩ => ⟨S1x4096x128, .f32⟩
  | .hbm, ⟨21, _⟩ => ⟨S4096x128, .f32⟩
  | .hbm, ⟨22, _⟩ => ⟨S1x4096x128, .f32⟩
  | .hbm, ⟨23, _⟩ => ⟨S4096x128, .f32⟩
  | .hbm, ⟨24, _⟩ => ⟨S4096x128, .f32⟩
  | .hbm, ⟨25, _⟩ => ⟨S4096x2560, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S4096x2560, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S4096x1024, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S1x1024, .f32⟩
  | .hbm, ⟨75, _⟩ => ⟨S4096x2560, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_5 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_7 : Ref sig .tc := ⟨.hbm, 64, rfl⟩
abbrev main_v44 : Ref sig .tc := ⟨.hbm, 65, rfl⟩
abbrev main_v45 : Ref sig .tc := ⟨.hbm, 66, rfl⟩
abbrev main_cst_8 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩

abbrev nD : Nat := 1
abbrev τ : Topo := Topo.v7x

variable {F : FTy → Type} [FloatOps F]
-- ==== Mof.lean ====
abbrev S4096x256 : Shape := ⟨2, ![4096, 256]⟩
abbrev S4096x512 : Shape := ⟨2, ![4096, 512]⟩
abbrev S1024x1024 : Shape := ⟨2, ![1024, 1024]⟩
abbrev S4096x1024 : Shape := ⟨2, ![4096, 1024]⟩
abbrev S512x256 : Shape := ⟨2, ![512, 256]⟩
abbrev S512x512 : Shape := ⟨2, ![512, 512]⟩
abbrev S512x1024 : Shape := ⟨2, ![512, 1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x256, .f32⟩
  | .hbm, ⟨1, _⟩ => ⟨S4096x512, .f32⟩
  | .hbm, ⟨2, _⟩ => ⟨S4096x256, .f32⟩
  | .hbm, ⟨3, _⟩ => ⟨S1024x1024, .f32⟩
  | .hbm, ⟨4, _⟩ => ⟨S4096x1024, .f32⟩
  | .hbm, ⟨5, _⟩ => ⟨S1024x1024, .bf16⟩
  | .hbm, ⟨6, _⟩ => ⟨S4096x1024, .f32⟩
  | .hbm, ⟨7, _⟩ => ⟨S4096x1024, .bf16⟩
  | .local _ .vmem, ⟨0, _⟩ => ⟨S512x256, .f32⟩
  | .local _ .vmem, ⟨1, _⟩ => ⟨S512x256, .f32⟩
  | .local _ .vmem, ⟨2, _⟩ => ⟨S512x512, .f32⟩
  | .local _ .vmem, ⟨3, _⟩ => ⟨S512x512, .f32⟩
  | .local _ .vmem, ⟨4, _⟩ => ⟨S512x256, .f32⟩
  | .local _ .vmem, ⟨5, _⟩ => ⟨S512x256, .f32⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MofRefIdeal.lean ====
abbrev S4096x256 : Shape := ⟨2, ![4096, 256]⟩
abbrev S4096x512 : Shape := ⟨2, ![4096, 512]⟩
abbrev S1024x1024 : Shape := ⟨2, ![1024, 1024]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x512, .f32⟩
  | .hbm, ⟨2, _⟩ => ⟨S4096x256, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== Dwp.lean ====
abbrev S4096x256 : Shape := ⟨2, ![4096, 256]⟩
abbrev S4096x1024 : Shape := ⟨2, ![4096, 1024]⟩
abbrev S256x1024 : Shape := ⟨2, ![256, 1024]⟩
abbrev S512x256 : Shape := ⟨2, ![512, 256]⟩
abbrev S512x512 : Shape := ⟨2, ![512, 512]⟩
abbrev S256x512 : Shape := ⟨2, ![256, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S4096x1024, .f32⟩
  | .hbm, ⟨2, _⟩ => ⟨S4096x1024, .bf16⟩
  | .hbm, ⟨3, _⟩ => ⟨S256x1024, .f32⟩
  | .local _ .vmem, ⟨0, _⟩ => ⟨S512x256, .f32⟩
  | .local _ .vmem, ⟨1, _⟩ => ⟨S512x256, .f32⟩
  | .local _ .vmem, ⟨2, _⟩ => ⟨S512x512, .bf16⟩
  | .local _ .vmem, ⟨3, _⟩ => ⟨S512x512, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwpRefIdeal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩

abbrev nBuf : Space → Nat
  | .hbm => 7
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x1024, .f32⟩
  | .hbm, ⟨2, _⟩ => ⟨S_, .f32⟩
  | .hbm, ⟨3, _⟩ => ⟨S256x1024, .f32⟩
  | .hbm, ⟨4, _⟩ => ⟨S4096x1024, .f32⟩
  | .hbm, ⟨5, _⟩ => ⟨S1024x256, .f32⟩
  | .hbm, ⟨6, _⟩ => ⟨S256x1024, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.WgtHost.lean ====
module

public import proofs.«01_k».proof.Proof.Gen.WgtIdeal.Value
public import proofs.«01_k».proof.Proof.Gen.WgtRefIdeal.Read
public import Idealize.ShloMosaic.Lib.StableHlo.RunRead
public import Idealize.ShloMosaic.Lib.Pointwise
public import Idealize.ShloMosaic.Lib.Pipeline.ValueKit

@[expose] public section

set_option maxRecDepth 16384

noncomputable section

namespace Cert.WgtIdeal.Host

open Cert.WgtIdeal Cert.WgtIdeal.Gen Idealize.ShloMosaic Idealize.ShloMosaic.TcCoe Idealize.SL.Sem Idealize.ShloMosaic.StableHlo

/-- A product with the transpose is the product contracted on the other axis. -/
theorem dot_transposed (x : FVec Ideal S4096x1024 .f32) (w : FVec Ideal S2816x1024 .f32) :
    Host.dotGeneral dot_S4096x1024_S1024x2816_S4096x2816_1_0_0_1_n_n none x (transpose S1024x2816 [1, 0] w transposes_S2816x1024_S1024x2816_1_0)
      = Host.dotGeneral Cert.WgtRefIdeal.dot_S4096x1024_S2816x1024_S4096x2816_1_1_0_0_n_n none x w := by
  funext i
  idx_vars i
  pointwise

variable (m : (ℓ : Loc nD τ sig) → Buf (Elt Ideal) ℓ) (c : Dev nD)

/-- The normalised tokens. -/
def N : FVec Ideal S4096x1024 .f32 :=
  Cert.WgtRefIdeal.Read.val_main_v12 (F := Ideal) (m (c.tc.loc main_arg0)) (m (c.tc.loc main_arg1))
/-- The gradient of the gate's product. -/
def DA : FVec Ideal S4096x2816 .f32 :=
  Cert.WgtRefIdeal.Read.val_main_v30 (F := Ideal) (m (c.tc.loc main_arg0)) (m (c.tc.loc main_arg1)) (m (c.tc.loc main_arg2)) (m (c.tc.loc main_arg3)) (m (c.tc.loc main_arg4)) (m (c.tc.loc main_arg5))
/-- The gradient of the up product. -/
def DB : FVec Ideal S4096x2816 .f32 :=
  Cert.WgtRefIdeal.Read.val_main_v26 (F := Ideal) (m (c.tc.loc main_arg0)) (m (c.tc.loc main_arg1)) (m (c.tc.loc main_arg2)) (m (c.tc.loc main_arg4)) (m (c.tc.loc main_arg5))
/-- The gated activations. -/
def SS : FVec Ideal S4096x2816 .f32 :=
  Cert.WgtRefIdeal.Read.val_main_v16 (F := Ideal) (m (c.tc.loc main_arg0)) (m (c.tc.loc main_arg1)) (m (c.tc.loc main_arg2)) (m (c.tc.loc main_arg3))

/-- The host's layout of a [4096, 2816] array as four column blocks. -/
def blocks (x : FVec Ideal S4096x2816 .f32) : FVec Ideal S4x4096x704 .bf16 :=
  truncf .bf16 (transpose S4x4096x704 [1, 0, 2] (shapeCast S4096x4x704 x shapeCasts_S4096x2816_S4096x4x704) transposes_S4096x4x704_S4x4096x704_1_0_2) bitsLt_bf16_f32

theorem V_n : V m c main_v24 = (truncf .bf16 (N m c) bitsLt_bf16_f32 : FVec Ideal S4096x1024 .bf16) := by
  unfold V
  after_reads_simp
  rfl

theorem V_da : V m c main_v27 = blocks (DA m c) := by
  unfold V
  after_reads_simp
  simp only [TRef.binary, TRef.nullary, TRef.unary, TRef.toBuf, TRef.ofBuf, cast_eq]
  rw [dot_transposed]
  rfl

theorem V_db : V m c main_v30 = blocks (DB m c) := by
  unfold V
  after_reads_simp
  simp only [TRef.binary, TRef.nullary, TRef.unary, TRef.toBuf, TRef.ofBuf, cast_eq]
  rw [dot_transposed]
  rfl

theorem V_s : V m c main_v33 = blocks (SS m c) := by
  unfold V
  after_reads_simp
  simp only [TRef.binary, TRef.nullary, TRef.unary, TRef.toBuf, TRef.ofBuf, cast_eq]
  rfl

/-- The blocks at an index: column block `j` holds columns `704 j … 704 j + 703`. -/
theorem blocks_apply (x : FVec Ideal S4096x2816 .f32) (j : Fin 4) (t : Fin 4096) (f : Fin 704) :
    blocks x (ix3 j t f) = x (ix2 t ⟨j.val * 704 + f.val, by omega⟩) := by
  unfold blocks
  pointwise

theorem idx_all : ∀ t : Fin grid0.N, win0_0.index t = ![t.val % 4, 0] ∧ win0_1.index t = ![t.val / 4, t.val % 4, 0]
    ∧ win0_2.index t = ![t.val / 4, t.val % 4, 0] ∧ win0_3.index t = ![t.val / 4, t.val % 4, 0] ∧ win0_4.index t = ![t.val % 4, 0] := by
  decide +kernel

theorem lt16 {n : ℕ} (h : n < cfg0.N) : n < 16 := lt_of_lt_of_eq h N_0

theorem iblk_n (n : ℕ) (h : n < cfg0.N) (k d : Fin 1024) :
    iblk m c 0 ⟨n, h⟩ (ix2 k d) = N m c (ix2 ⟨n % 4 * 1024 + k.val, by omega⟩ d) := by
  have e := (idx_all ⟨n, h⟩).1
  have he : (win0_0.blk ⟨n, h⟩).view.emb (ix2 k d) = (ix2 (⟨n % 4 * 1024 + k.val, by omega⟩ : Fin 4096) d : S4096x1024.Idx) := by
    blk_ext [e]
  blk_simp [iblk]
  rw [V_n, he]
  rfl

theorem iblk_da (n : ℕ) (h : n < cfg0.N) (a : Fin 1) (k : Fin 1024) (f : Fin 704) :
    iblk m c 1 ⟨n, h⟩ (ix3 a k f) = DA m c (ix2 ⟨n % 4 * 1024 + k.val, by omega⟩ ⟨n / 4 * 704 + f.val, by have := lt16 h; omega⟩) := by
  have e := (idx_all ⟨n, h⟩).2.1
  have hn := lt16 h
  have he : (win0_1.blk ⟨n, h⟩).view.emb (ix3 a k f)
      = (ix3 (⟨n / 4, by omega⟩ : Fin 4) (⟨n % 4 * 1024 + k.val, by omega⟩ : Fin 4096) f : S4x4096x704.Idx) := by
    blk_ext [e]
  blk_simp [iblk]
  rw [V_da, he, blocks_apply]

theorem iblk_db (n : ℕ) (h : n < cfg0.N) (a : Fin 1) (k : Fin 1024) (f : Fin 704) :
    iblk m c 2 ⟨n, h⟩ (ix3 a k f) = DB m c (ix2 ⟨n % 4 * 1024 + k.val, by omega⟩ ⟨n / 4 * 704 + f.val, by have := lt16 h; omega⟩) := by
  have e := (idx_all ⟨n, h⟩).2.2.1
  have hn := lt16 h
  have he : (win0_2.blk ⟨n, h⟩).view.emb (ix3 a k f)
      = (ix3 (⟨n / 4, by omega⟩ : Fin 4) (⟨n % 4 * 1024 + k.val, by omega⟩ : Fin 4096) f : S4x4096x704.Idx) := by
    blk_ext [e]
  blk_simp [iblk]
  rw [V_db, he, blocks_apply]

theorem iblk_s (n : ℕ) (h : n < cfg0.N) (a : Fin 1) (k : Fin 1024) (f : Fin 704) :
    iblk m c 3 ⟨n, h⟩ (ix3 a k f) = SS m c (ix2 ⟨n % 4 * 1024 + k.val, by omega⟩ ⟨n / 4 * 704 + f.val, by have := lt16 h; omega⟩) := by
  have e := (idx_all ⟨n, h⟩).2.2.2.1
  have hn := lt16 h
  have he : (win0_3.blk ⟨n, h⟩).view.emb (ix3 a k f)
      = (ix3 (⟨n / 4, by omega⟩ : Fin 4) (⟨n % 4 * 1024 + k.val, by omega⟩ : Fin 4096) f : S4x4096x704.Idx) := by
    blk_ext [e]
  blk_simp [iblk]
  rw [V_s, he, blocks_apply]

theorem iblk_do (n : ℕ) (h : n < cfg0.N) (k d : Fin 1024) :
    iblk m c 4 ⟨n, h⟩ (ix2 k d) = m (c.tc.loc main_arg5) (ix2 ⟨n % 4 * 1024 + k.val, by omega⟩ d) := by
  have e := (idx_all ⟨n, h⟩).2.2.2.2
  have he : (win0_4.blk ⟨n, h⟩).view.emb (ix2 k d) = (ix2 (⟨n % 4 * 1024 + k.val, by omega⟩ : Fin 4096) d : S4096x1024.Idx) := by
    blk_ext [e]
  blk_simp [iblk]
  rw [V_main_arg5, he]

end Cert.WgtIdeal.Host

end
-- ==== Proof.WgtValue.lean ====
module

public import proofs.«01_k».proof.Defs
public import proofs.«01_k».proof.Proof.WgtHost
public import Idealize.ShloMosaic.Lib.Quiescent

@[expose] public section

set_option maxRecDepth 16384

noncomputable section

namespace Cert.WgtIdeal.Host

open Cert.WgtIdeal Cert.WgtIdeal.Gen Cert.WgtIdeal.Value Idealize.ShloMosaic Idealize.ShloMosaic.TcCoe Idealize.SL.Sem

variable (m : (ℓ : Loc nD τ sig) → Buf (Elt Ideal) ℓ) (c : Dev nD)

/-- The product of one token block, as a function of the grid point: `X`'s column block `n / 4` transposed times `Y`,
    over the tokens of block `n % 4`. -/
def part (X : FVec Ideal S4096x2816 .f32) (Y : FVec Ideal S4096x1024 .f32) (n : ℕ) (i : S1x704x1024.Idx) : EReal :=
  if h : n < 16 then
    ∑ k : Fin 1024, X (ix2 ⟨n % 4 * 1024 + k.val, by omega⟩ ⟨n / 4 * 704 + (i 1).val, by have : (i 1).val < 704 := (i 1).isLt; omega⟩)
      * Y (ix2 ⟨n % 4 * 1024 + k.val, by omega⟩ (i 2))
  else 0

/-- A sum over the tokens, one block of 1024 after another. -/
theorem sum_blocks (f : Fin 4096 → EReal) :
    ∑ s ∈ Finset.range 4, (if h : s < 4 then ∑ k : Fin 1024, f ⟨s * 1024 + k.val, by omega⟩ else 0) = ∑ t, f t := by
  rw [← Fin.sum_univ_eq_sum_range (fun s => if h : s < 4 then ∑ k : Fin 1024, f ⟨s * 1024 + k.val, by omega⟩ else 0) 4,
    ← (finProdFinEquiv (m := 4) (n := 1024)).sum_comp f, Fintype.sum_prod_type]
  refine Finset.sum_congr rfl fun s _ => ?_
  rw [dif_pos s.isLt]
  refine Finset.sum_congr rfl fun k _ => congrArg f (Fin.ext ?_)
  show s.val * 1024 + k.val = k.val + 1024 * s.val
  omega

/-- The four token blocks of column block `j`, added up. -/
theorem sum_parts (X : FVec Ideal S4096x2816 .f32) (Y : FVec Ideal S4096x1024 .f32) (j : Fin 4) (r : Fin 704) (d : Fin 1024) :
    ∑ s ∈ Finset.range (3 + 1), part X Y (4 * j.val + s) (ix3 (0 : Fin 1) r d)
      = ∑ t : Fin 4096, X (ix2 t ⟨j.val * 704 + r.val, by omega⟩) * Y (ix2 t d) := by
  rw [← sum_blocks]
  refine Finset.sum_congr rfl fun s hs => ?_
  have hs4 : s < 4 := Finset.mem_range.mp hs
  unfold part
  rw [dif_pos (by omega : 4 * j.val + s < 16), dif_pos hs4]
  refine Finset.sum_congr rfl fun k _ => ?_
  congr 2
  · congr 1 <;> apply Fin.ext
    · show (4 * j.val + s) % 4 * 1024 + k.val = s * 1024 + k.val; omega
    · show (4 * j.val + s) / 4 * 704 + r.val = j.val * 704 + r.val; omega
  · congr 1
    apply Fin.ext
    show (4 * j.val + s) % 4 * 1024 + k.val = s * 1024 + k.val; omega

theorem step5_apply (n : ℕ) (h : n < cfg0.N) (acc : Vec Ideal S1x704x1024 .f32) (i : S1x704x1024.Idx) :
    step5 m c n h acc i = acc i + part (DA m c) (N m c) n i := by
  idx_vars i
  obtain rfl : i0 = 0 := Subsingleton.elim _ _
  unfold step5 part
  rw [dif_pos (lt16 h)]
  unfold_payloads
  pointwise [iblk_n, iblk_da]

theorem reset5_apply (n : ℕ) (h : n < cfg0.N) (i : S1x704x1024.Idx) :
    reset5 m c n h i = 0 + part (DA m c) (N m c) n i := by
  idx_vars i
  obtain rfl : i0 = 0 := Subsingleton.elim _ _
  unfold reset5 part
  rw [dif_pos (lt16 h)]
  unfold_payloads
  pointwise [iblk_n, iblk_da]

theorem step6_apply (n : ℕ) (h : n < cfg0.N) (acc : Vec Ideal S1x704x1024 .f32) (i : S1x704x1024.Idx) :
    step6 m c n h acc i = acc i + part (DB m c) (N m c) n i := by
  idx_vars i
  obtain rfl : i0 = 0 := Subsingleton.elim _ _
  unfold step6 part
  rw [dif_pos (lt16 h)]
  unfold_payloads
  pointwise [iblk_n, iblk_db]

theorem reset6_apply (n : ℕ) (h : n < cfg0.N) (i : S1x704x1024.Idx) :
    reset6 m c n h i = 0 + part (DB m c) (N m c) n i := by
  idx_vars i
  obtain rfl : i0 = 0 := Subsingleton.elim _ _
  unfold reset6 part
  rw [dif_pos (lt16 h)]
  unfold_payloads
  pointwise [iblk_n, iblk_db]

theorem step7_apply (n : ℕ) (h : n < cfg0.N) (acc : Vec Ideal S1x704x1024 .f32) (i : S1x704x1024.Idx) :
    step7 m c n h acc i = acc i + part (SS m c) (Cert.WgtRefIdeal.Read.val_main_v22 (F := Ideal) (m (c.tc.loc main_arg5))) n i := by
  idx_vars i
  obtain rfl : i0 = 0 := Subsingleton.elim _ _
  unfold step7 part
  rw [dif_pos (lt16 h)]
  unfold_payloads
  pointwise [iblk_s, iblk_do]
  rfl

theorem reset7_apply (n : ℕ) (h : n < cfg0.N) (i : S1x704x1024.Idx) :
    reset7 m c n h i = 0 + part (SS m c) (Cert.WgtRefIdeal.Read.val_main_v22 (F := Ideal) (m (c.tc.loc main_arg5))) n i := by
  idx_vars i
  obtain rfl : i0 = 0 := Subsingleton.elim _ _
  unfold reset7 part
  rw [dif_pos (lt16 h)]
  unfold_payloads
  pointwise [iblk_s, iblk_do]
  rfl

theorem G5_apply (j : Fin 4) (r : Fin 704) (d : Fin 1024) :
    G5 m c (ix3 j r d) = ∑ t : Fin 4096, (DA m c) (ix2 t ⟨j.val * 704 + r.val, by omega⟩) * (N m c) (ix2 t d) := by
  have hr : run5Of (ix3 j r d) = j.val := by
    show 1 * (j.val / 1 - 0) + 1 * (r.val / 704 - 0) + 1 * (d.val / 1024 - 0) = _
    omega
  have hl : loc5Of (ix3 j r d) = ix3 (0 : Fin 1) r d := by
    funext a
    apply Fin.ext
    match a with
    | ⟨0, _⟩ => show j.val % 1 = 0; omega
    | ⟨1, _⟩ => show r.val % 704 = r.val; omega
    | ⟨2, _⟩ => show d.val % 1024 = d.val; omega
  have hN : 4 * run5Of (ix3 j r d) + 3 < cfg0.N := by
    rw [hr]; show _ < grid0.N; rw [N_0]; omega
  unfold G5
  rw [dif_pos hN, Pipeline.accAt_add_apply (reset5 m c) (step5 m c) (fun _ => 0) (part (DA m c) (N m c)) _ 3
    (fun h i => reset5_apply m c _ h i) (fun n h acc i _ _ => step5_apply m c n h acc i) 3 (le_refl 3) hN, zero_add, hl, hr]
  exact sum_parts _ _ j r d

theorem G6_apply (j : Fin 4) (r : Fin 704) (d : Fin 1024) :
    G6 m c (ix3 j r d) = ∑ t : Fin 4096, (DB m c) (ix2 t ⟨j.val * 704 + r.val, by omega⟩) * (N m c) (ix2 t d) := by
  have hr : run6Of (ix3 j r d) = j.val := by
    show 1 * (j.val / 1 - 0) + 1 * (r.val / 704 - 0) + 1 * (d.val / 1024 - 0) = _
    omega
  have hl : loc6Of (ix3 j r d) = ix3 (0 : Fin 1) r d := by
    funext a
    apply Fin.ext
    match a with
    | ⟨0, _⟩ => show j.val % 1 = 0; omega
    | ⟨1, _⟩ => show r.val % 704 = r.val; omega
    | ⟨2, _⟩ => show d.val % 1024 = d.val; omega
  have hN : 4 * run6Of (ix3 j r d) + 3 < cfg0.N := by
    rw [hr]; show _ < grid0.N; rw [N_0]; omega
  unfold G6
  rw [dif_pos hN, Pipeline.accAt_add_apply (reset6 m c) (step6 m c) (fun _ => 0) (part (DB m c) (N m c)) _ 3
    (fun h i => reset6_apply m c _ h i) (fun n h acc i _ _ => step6_apply m c n h acc i) 3 (le_refl 3) hN, zero_add, hl, hr]
  exact sum_parts _ _ j r d

theorem G7_apply (j : Fin 4) (r : Fin 704) (d : Fin 1024) :
    G7 m c (ix3 j r d) = ∑ t : Fin 4096, (SS m c) (ix2 t ⟨j.val * 704 + r.val, by omega⟩) * (Cert.WgtRefIdeal.Read.val_main_v22 (F := Ideal) (m (c.tc.loc main_arg5))) (ix2 t d) := by
  have hr : run7Of (ix3 j r d) = j.val := by
    show 1 * (j.val / 1 - 0) + 1 * (r.val / 704 - 0) + 1 * (d.val / 1024 - 0) = _
    omega
  have hl : loc7Of (ix3 j r d) = ix3 (0 : Fin 1) r d := by
    funext a
    apply Fin.ext
    match a with
    | ⟨0, _⟩ => show j.val % 1 = 0; omega
    | ⟨1, _⟩ => show r.val % 704 = r.val; omega
    | ⟨2, _⟩ => show d.val % 1024 = d.val; omega
  have hN : 4 * run7Of (ix3 j r d) + 3 < cfg0.N := by
    rw [hr]; show _ < grid0.N; rw [N_0]; omega
  unfold G7
  rw [dif_pos hN, Pipeline.accAt_add_apply (reset7 m c) (step7 m c) (fun _ => 0) (part (SS m c) (Cert.WgtRefIdeal.Read.val_main_v22 (F := Ideal) (m (c.tc.loc main_arg5)))) _ 3
    (fun h i => reset7_apply m c _ h i) (fun n h acc i _ _ => step7_apply m c n h acc i) 3 (le_refl 3) hN, zero_add, hl, hr]
  exact sum_parts _ _ j r d

/-- The reference's layout of a weight's gradient, at an index. -/
theorem ref_apply (X : FVec Ideal S4096x2816 .f32) (Y : FVec Ideal S4096x1024 .f32) (j : Fin 4) (r : Fin 704) (d : Fin 1024) :
    (shapeCast Cert.WgtRefIdeal.S4x704x1024 (transpose Cert.WgtRefIdeal.S2816x1024 [1, 0] (transpose Cert.WgtRefIdeal.S1024x2816 [1, 0]
      (Host.dotGeneral (F := Ideal) (φ₁ := .f32) (φ₂ := .f32) Cert.WgtRefIdeal.dot_S4096x2816_S4096x1024_S2816x1024_0_0_1_1_n_n none X Y) Cert.WgtRefIdeal.Gen.transposes_S2816x1024_S1024x2816_1_0)
      Cert.WgtRefIdeal.Gen.transposes_S1024x2816_S2816x1024_1_0) Cert.WgtRefIdeal.Gen.shapeCasts_S2816x1024_S4x704x1024 : FVec Ideal Cert.WgtRefIdeal.S4x704x1024 .f32) (ix3 j r d)
      = ∑ t : Fin 4096, X (ix2 t ⟨j.val * 704 + r.val, by omega⟩) * Y (ix2 t d) := by
  pointwise

/-- The same for the down projection, whose product has its operands the other way round. -/
theorem ref_apply' (X : FVec Ideal S4096x2816 .f32) (Y : FVec Ideal S4096x1024 .f32) (j : Fin 4) (r : Fin 704) (d : Fin 1024) :
    (shapeCast Cert.WgtRefIdeal.S4x704x1024 (transpose Cert.WgtRefIdeal.S2816x1024 [1, 0]
      (Host.dotGeneral (F := Ideal) (φ₁ := .f32) (φ₂ := .f32) Cert.WgtRefIdeal.dot_S4096x1024_S4096x2816_S1024x2816_0_0_1_1_n_n none Y X) Cert.WgtRefIdeal.Gen.transposes_S1024x2816_S2816x1024_1_0)
      Cert.WgtRefIdeal.Gen.shapeCasts_S2816x1024_S4x704x1024 : FVec Ideal Cert.WgtRefIdeal.S4x704x1024 .f32) (ix3 j r d)
      = ∑ t : Fin 4096, X (ix2 t ⟨j.val * 704 + r.val, by omega⟩) * Y (ix2 t d) := by
  pointwise
  exact Finset.sum_congr rfl fun t _ => mul_comm _ _

theorem G5_eq : G5 m c = Cert.WgtRefIdeal.Read.val_main_v34 (F := Ideal) (m (c.tc.loc main_arg0)) (m (c.tc.loc main_arg1)) (m (c.tc.loc main_arg2)) (m (c.tc.loc main_arg3)) (m (c.tc.loc main_arg4)) (m (c.tc.loc main_arg5)) := by
  funext i
  idx_vars i
  exact (G5_apply m c i0 i1 i2).trans (ref_apply (DA m c) (N m c) i0 i1 i2).symm

theorem G6_eq : G6 m c = Cert.WgtRefIdeal.Read.val_main_v36 (F := Ideal) (m (c.tc.loc main_arg0)) (m (c.tc.loc main_arg1)) (m (c.tc.loc main_arg2)) (m (c.tc.loc main_arg4)) (m (c.tc.loc main_arg5)) := by
  funext i
  idx_vars i
  exact (G6_apply m c i0 i1 i2).trans (ref_apply (DB m c) (N m c) i0 i1 i2).symm

theorem G7_eq : G7 m c = Cert.WgtRefIdeal.Read.val_main_v37 (F := Ideal) (m (c.tc.loc main_arg0)) (m (c.tc.loc main_arg1)) (m (c.tc.loc main_arg2)) (m (c.tc.loc main_arg3)) (m (c.tc.loc main_arg5)) := by
  funext i
  idx_vars i
  exact (G7_apply m c i0 i1 i2).trans (ref_apply' (SS m c) (Cert.WgtRefIdeal.Read.val_main_v22 (F := Ideal) (m (c.tc.loc main_arg5))) i0 i1 i2).symm

end Cert.WgtIdeal.Host

namespace Cert.WgtValue

open Cert.WgtIdeal.Host Idealize.ShloMosaic Idealize.ShloMosaic.TcCoe Idealize.SL.Sem

/-- The weight gradients the kernel leaves are the reference's, from any memory. -/
theorem algebraic : Cert.algebraic_WgtIdeal_WgtRefIdeal := by
  intro m g m' g' _ hargs
  refine ⟨_, _, _, (θ_run Cert.WgtIdeal.defs _ _).mono (fun r h => h) (Cert.WgtIdeal.Value.run m g),
    (θ_run Cert.WgtRefIdeal.defs _ _).mono (fun r h c => ?_) (Cert.WgtRefIdeal.Value.run m' g')⟩
  obtain ⟨h34, h36, h37, hk⟩ := h c
  obtain ⟨a0, a1, a2, a3, a4, a5⟩ := hargs c
  refine ⟨?_, ?_, ?_, hk⟩
  · rw [h34, Cert.WgtRefIdeal.Read.val_main_v34_eq, a0, a1, a2, a3, a4, a5]
    exact (G5_eq m c).symm
  · rw [h36, Cert.WgtRefIdeal.Read.val_main_v36_eq, a0, a1, a2, a4, a5]
    exact (G6_eq m c).symm
  · rw [h37, Cert.WgtRefIdeal.Read.val_main_v37_eq, a0, a1, a2, a3, a5]
    exact (G7_eq m c).symm

/-- The reference leaves its arguments and has no semaphore. -/
theorem frame_ref : Cert.quiescent_WgtRefIdeal := fun m g _ =>
  (θ_run Cert.WgtRefIdeal.defs _ _).mono (fun r h => ⟨fun c => (h c).2.2.2, sem_eq_zero_of_no_sems (by decide) r.2⟩)
    (Cert.WgtRefIdeal.Value.run m g)

end Cert.WgtValue

end
-- ==== Proof.ActHost.lean ====
module

public import proofs.«01_k».proof.Proof.Gen.ActIdeal.Value
public import proofs.«01_k».proof.Proof.Gen.ActRefIdeal.Read
public import Idealize.ShloMosaic.Lib.StableHlo.RunRead
public import Idealize.ShloMosaic.Lib.Pointwise
public import Idealize.ShloMosaic.Lib.Pipeline.ValueKit

@[expose] public section

set_option maxRecDepth 16384

noncomputable section

namespace Cert.ActIdeal.Host

open Cert.ActIdeal Cert.ActIdeal.Gen Idealize.ShloMosaic Idealize.ShloMosaic.TcCoe Idealize.SL.Sem Idealize.ShloMosaic.StableHlo

variable (m : (ℓ : Loc nD τ sig) → Buf (Elt Ideal) ℓ) (c : Dev nD)

/-- The gate's product, before the activation. -/
def A : FVec Ideal S4096x2816 .f32 :=
  Cert.ActRefIdeal.Read.val_main_v17 (F := Ideal) (m (c.tc.loc main_arg0)) (m (c.tc.loc main_arg1)) (m (c.tc.loc main_arg2))
/-- The up product. -/
def B : FVec Ideal S4096x2816 .f32 :=
  Cert.ActRefIdeal.Read.val_main_v20 (F := Ideal) (m (c.tc.loc main_arg0)) (m (c.tc.loc main_arg1)) (m (c.tc.loc main_arg3))
/-- The tokens, the gain, the three weights and the incoming gradient. -/
def H : FVec Ideal S4096x1024 .f32 := m (c.tc.loc main_arg0)
@[inherit_doc H] def GN : FVec Ideal S1024 .f32 := m (c.tc.loc main_arg1)
@[inherit_doc H] def WG : FVec Ideal S1024x2816 .f32 := m (c.tc.loc main_arg2)
@[inherit_doc H] def WU : FVec Ideal S1024x2816 .f32 := m (c.tc.loc main_arg3)
@[inherit_doc H] def WD : FVec Ideal S2816x1024 .f32 := m (c.tc.loc main_arg4)
@[inherit_doc H] def DO : FVec Ideal S4096x1024 .f32 := m (c.tc.loc main_arg5)

/-- The host's layout of a [4096, 2816] array as four column blocks. -/
def blocks (x : FVec Ideal S4096x2816 .f32) : FVec Ideal S4x4096x704 .bf16 :=
  truncf .bf16 (transpose S4x4096x704 [1, 0, 2] (shapeCast S4096x4x704 x shapeCasts_S4096x2816_S4096x4x704) transposes_S4096x4x704_S4x4096x704_1_0_2) bitsLt_bf16_f32
/-- The host's layout of a [2816, 1024] weight as four row blocks. -/
def wblocks (x : FVec Ideal S2816x1024 .f32) : FVec Ideal S4x704x1024 .bf16 :=
  shapeCast S4x704x1024 (truncf .bf16 x bitsLt_bf16_f32) shapeCasts_S2816x1024_S4x704x1024
/-- The transpose of a [1024, 2816] weight. -/
def tr (x : FVec Ideal S1024x2816 .f32) : FVec Ideal S2816x1024 .f32 :=
  transpose S2816x1024 [1, 0] x transposes_S1024x2816_S2816x1024_1_0

theorem V_gain : V m c main_v13 = (shapeCast S1x1024 (GN m c) shapeCasts_S1024_S1x1024 : FVec Ideal S1x1024 .f32) := by
  unfold V
  after_reads_simp
  rfl

theorem V_a : V m c main_v17 = blocks (A m c) := by
  unfold V
  after_reads_simp
  rfl

theorem V_b : V m c main_v21 = blocks (B m c) := by
  unfold V
  after_reads_simp
  rfl

theorem V_wg : V m c main_v24 = wblocks (tr (WG m c)) := by
  unfold V
  after_reads_simp
  rfl

theorem V_wu : V m c main_v27 = wblocks (tr (WU m c)) := by
  unfold V
  after_reads_simp
  rfl

theorem V_wd : V m c main_v29 = wblocks (WD m c) := by
  unfold V
  after_reads_simp
  rfl

/-- The blocks at an index: column block `j` holds columns `704 j … 704 j + 703`. -/
theorem blocks_apply (x : FVec Ideal S4096x2816 .f32) (j : Fin 4) (t : Fin 4096) (f : Fin 704) :
    blocks x (ix3 j t f) = x (ix2 t ⟨j.val * 704 + f.val, by omega⟩) := by
  unfold blocks
  pointwise

theorem wblocks_apply (x : FVec Ideal S2816x1024 .f32) (j : Fin 4) (f : Fin 704) (d : Fin 1024) :
    wblocks x (ix3 j f d) = x (ix2 ⟨j.val * 704 + f.val, by omega⟩ d) := by
  unfold wblocks
  pointwise

theorem tr_apply (x : FVec Ideal S1024x2816 .f32) (f : Fin 2816) (d : Fin 1024) : tr x (ix2 f d) = x (ix2 d f) := by
  unfold tr
  pointwise

theorem idx_all : ∀ t : Fin grid0.N, (win0_0.index t = ![t.val / 4, 0] ∧ win0_1.index t = ![0, 0] ∧ win0_2.index t = ![t.val / 4, 0])
    ∧ (win0_3.index t = ![t.val % 4, t.val / 4, 0] ∧ win0_4.index t = ![t.val % 4, t.val / 4, 0])
    ∧ win0_5.index t = ![t.val % 4, 0, 0] ∧ win0_6.index t = ![t.val % 4, 0, 0] ∧ win0_7.index t = ![t.val % 4, 0, 0] := by
  decide +kernel

theorem lt32 {n : ℕ} (h : n < cfg0.N) : n < 32 := lt_of_lt_of_eq h N_0

/-- Row `r` of point `n`'s row block, and column `f` of its column block. -/
abbrev row (n : ℕ) (h : n < 32) (r : Fin 512) : Fin 4096 := ⟨n / 4 * 512 + r.val, by omega⟩
@[inherit_doc row] abbrev col (n : ℕ) (f : Fin 704) : Fin 2816 := ⟨n % 4 * 704 + f.val, by omega⟩

theorem iblk_h (n : ℕ) (h : n < cfg0.N) (r : Fin 512) (d : Fin 1024) :
    iblk m c 0 ⟨n, h⟩ (ix2 r d) = H m c (ix2 (row n (lt32 h) r) d) := by
  have e := (idx_all ⟨n, h⟩).1.1
  have he : (win0_0.blk ⟨n, h⟩).view.emb (ix2 r d) = (ix2 (row n (lt32 h) r) d : S4096x1024.Idx) := by
    blk_ext [e]
  blk_simp [iblk]
  rw [V_main_arg0, he]
  rfl

theorem iblk_g (n : ℕ) (h : n < cfg0.N) (a : Fin 1) (d : Fin 1024) :
    iblk m c 1 ⟨n, h⟩ (ix2 a d) = GN m c (ix1 d) := by
  have e := (idx_all ⟨n, h⟩).1.2.1
  have he : (win0_1.blk ⟨n, h⟩).view.emb (ix2 a d) = (ix2 a d : S1x1024.Idx) := by
    blk_ext [e]
  blk_simp [iblk]
  rw [V_gain, he]
  pointwise

theorem iblk_do (n : ℕ) (h : n < cfg0.N) (r : Fin 512) (d : Fin 1024) :
    iblk m c 2 ⟨n, h⟩ (ix2 r d) = DO m c (ix2 (row n (lt32 h) r) d) := by
  have e := (idx_all ⟨n, h⟩).1.2.2
  have he : (win0_2.blk ⟨n, h⟩).view.emb (ix2 r d) = (ix2 (row n (lt32 h) r) d : S4096x1024.Idx) := by
    blk_ext [e]
  blk_simp [iblk]
  rw [V_main_arg5, he]
  rfl

theorem iblk_a (n : ℕ) (h : n < cfg0.N) (a : Fin 1) (r : Fin 512) (f : Fin 704) :
    iblk m c 3 ⟨n, h⟩ (ix3 a r f) = A m c (ix2 (row n (lt32 h) r) (col n f)) := by
  have e := (idx_all ⟨n, h⟩).2.1.1
  have hn := lt32 h
  have he : (win0_3.blk ⟨n, h⟩).view.emb (ix3 a r f)
      = (ix3 (⟨n % 4, by omega⟩ : Fin 4) (row n hn r) f : S4x4096x704.Idx) := by
    blk_ext [e]
  blk_simp [iblk]
  rw [V_a, he, blocks_apply]

theorem iblk_b (n : ℕ) (h : n < cfg0.N) (a : Fin 1) (r : Fin 512) (f : Fin 704) :
    iblk m c 4 ⟨n, h⟩ (ix3 a r f) = B m c (ix2 (row n (lt32 h) r) (col n f)) := by
  have e := (idx_all ⟨n, h⟩).2.1.2
  have hn := lt32 h
  have he : (win0_4.blk ⟨n, h⟩).view.emb (ix3 a r f)
      = (ix3 (⟨n % 4, by omega⟩ : Fin 4) (row n hn r) f : S4x4096x704.Idx) := by
    blk_ext [e]
  blk_simp [iblk]
  rw [V_b, he, blocks_apply]

theorem iblk_wg (n : ℕ) (h : n < cfg0.N) (a : Fin 1) (f : Fin 704) (d : Fin 1024) :
    iblk m c 5 ⟨n, h⟩ (ix3 a f d) = WG m c (ix2 d (col n f)) := by
  have e := (idx_all ⟨n, h⟩).2.2.1
  have he : (win0_5.blk ⟨n, h⟩).view.emb (ix3 a f d) = (ix3 (⟨n % 4, by omega⟩ : Fin 4) f d : S4x704x1024.Idx) := by
    blk_ext [e]
  blk_simp [iblk]
  rw [V_wg, he, wblocks_apply, tr_apply]

theorem iblk_wu (n : ℕ) (h : n < cfg0.N) (a : Fin 1) (f : Fin 704) (d : Fin 1024) :
    iblk m c 6 ⟨n, h⟩ (ix3 a f d) = WU m c (ix2 d (col n f)) := by
  have e := (idx_all ⟨n, h⟩).2.2.2.1
  have he : (win0_6.blk ⟨n, h⟩).view.emb (ix3 a f d) = (ix3 (⟨n % 4, by omega⟩ : Fin 4) f d : S4x704x1024.Idx) := by
    blk_ext [e]
  blk_simp [iblk]
  rw [V_wu, he, wblocks_apply, tr_apply]

theorem iblk_wd (n : ℕ) (h : n < cfg0.N) (a : Fin 1) (f : Fin 704) (d : Fin 1024) :
    iblk m c 7 ⟨n, h⟩ (ix3 a f d) = WD m c (ix2 (col n f) d) := by
  have e := (idx_all ⟨n, h⟩).2.2.2.2
  have he : (win0_7.blk ⟨n, h⟩).view.emb (ix3 a f d) = (ix3 (⟨n % 4, by omega⟩ : Fin 4) f d : S4x704x1024.Idx) := by
    blk_ext [e]
  blk_simp [iblk]
  rw [V_wd, he, wblocks_apply]

end Cert.ActIdeal.Host

end
-- ==== Proof.ActBody.lean ====
module

public import proofs.«01_k».proof.Proof.Gen.ActIdeal.Value
public import Idealize.ShloMosaic.Lib.StableHlo.RunRead
public import Idealize.ShloMosaic.Lib.Pointwise
public import Idealize.ShloMosaic.Lib.Pipeline.ValueKit
public import Idealize.ShloMosaic.Lib.WritesUnit

@[expose] public section

set_option maxRecDepth 16384

noncomputable section

namespace Cert.ActIdeal.Body

open Cert.ActIdeal Cert.ActIdeal.Gen Idealize.ShloMosaic Idealize.ShloMosaic.TcCoe Idealize.SL.Sem

section
variable {Val : EltTy → Type} [∀ e, Nonempty (Val e)] {s : Shape} {e : EltTy}

/-- Under the last piece, a buffer holds the piece's value. -/
theorem canon_in {off size : Fin s.rank → ℕ} (inb : ∀ a, off a + size a ≤ s.size a) (w : (Rect.unit off size inb).shape.Idx → Val e)
    (L : List (View.Piece Val s e)) (y : s.Idx) (x : (Rect.unit off size inb).shape.Idx) (hx : ∀ a, (y a).val = off a + (x a).val) :
    View.canon ((⟨Rect.unit off size inb, w⟩ : View.Piece Val s e) :: L) y = w x := by
  have hy : (Rect.unit off size inb).emb x = y := funext fun a => Fin.ext (by
    show off a + 1 * (x a).val = (y a).val
    rw [hx a, Nat.one_mul])
  rw [← hy]
  exact View.canon_cons_emb _ w L x

/-- Off the last piece, it holds what the earlier pieces left. -/
theorem canon_off {off size : Fin s.rank → ℕ} (inb : ∀ a, off a + size a ≤ s.size a) (w : (Rect.unit off size inb).shape.Idx → Val e)
    (L : List (View.Piece Val s e)) (y : s.Idx) (a : Fin s.rank) (ha : (y a).val < off a ∨ off a + size a ≤ (y a).val) :
    View.canon ((⟨Rect.unit off size inb, w⟩ : View.Piece Val s e) :: L) y = View.canon L y :=
  View.canon_cons_of_not_mem _ _ fun q => by
    have := (Rect.mem_set_unit (off := off) (size := size) (inb := inb) (i := y)).mp q a
    omega

end

/-- Two pieces that are the upper and the lower half of the rows. -/
theorem canon_rows (w0 w1 : S256x1024.Idx → EReal) (L : List (View.Piece (Elt Ideal) S512x1024 .f32)) (r : Fin 512) (d : Fin 1024) :
    View.canon ((⟨Rect.unit ![256, 0] ![256, 1024] inb_S512x1024_S256x1024_256_0, w1⟩ : View.Piece (Elt Ideal) S512x1024 .f32)
      :: ⟨Rect.unit ![0, 0] ![256, 1024] inb_S512x1024_S256x1024_0_0, w0⟩ :: L) (ix2 r d)
      = if h : r.val < 256 then w0 (ix2 ⟨r.val, h⟩ d) else w1 (ix2 ⟨r.val - 256, by omega⟩ d) := by
  by_cases h : r.val < 256
  · rw [dif_pos h]
    refine (canon_off (Val := Elt Ideal) (s := S512x1024) (e := .f32) (off := ![256, 0]) (size := ![256, 1024]) _ w1 _ _ (0 : Fin 2) (Or.inl h)).trans
      (canon_in (Val := Elt Ideal) (s := S512x1024) (e := .f32) (off := ![0, 0]) (size := ![256, 1024]) _ w0 L _ (ix2 ⟨r.val, h⟩ d : S256x1024.Idx) fun a => ?_)
    match a with
    | ⟨0, _⟩ => exact (Nat.zero_add _).symm
    | ⟨1, _⟩ => exact (Nat.zero_add _).symm
  · rw [dif_neg h]
    refine canon_in (Val := Elt Ideal) (s := S512x1024) (e := .f32) (off := ![256, 0]) (size := ![256, 1024]) _ w1 _ _ (ix2 ⟨r.val - 256, by omega⟩ d : S256x1024.Idx) fun a => ?_
    match a with
    | ⟨0, _⟩ => show r.val = 256 + (r.val - 256); omega
    | ⟨1, _⟩ => exact (Nat.zero_add _).symm

/-- The same for a block of one column group. -/
theorem canon_rows_blk (w0 w1 : S1x256x704.Idx → EReal) (L : List (View.Piece (Elt Ideal) S1x512x704 .bf16)) (a : Fin 1) (r : Fin 512) (f : Fin 704) :
    View.canon ((⟨Rect.unit ![0, 256, 0] ![1, 256, 704] inb_S1x512x704_S1x256x704_0_256_0, w1⟩ : View.Piece (Elt Ideal) S1x512x704 .bf16)
      :: ⟨Rect.unit ![0, 0, 0] ![1, 256, 704] inb_S1x512x704_S1x256x704_0_0_0, w0⟩ :: L) (ix3 a r f)
      = if h : r.val < 256 then w0 (ix3 a ⟨r.val, h⟩ f) else w1 (ix3 a ⟨r.val - 256, by omega⟩ f) := by
  by_cases h : r.val < 256
  · rw [dif_pos h]
    refine (canon_off (Val := Elt Ideal) (s := S1x512x704) (e := .bf16) (off := ![0, 256, 0]) (size := ![1, 256, 704]) _ w1 _ _ (1 : Fin 3) (Or.inl h)).trans
      (canon_in (Val := Elt Ideal) (s := S1x512x704) (e := .bf16) (off := ![0, 0, 0]) (size := ![1, 256, 704]) _ w0 L _ (ix3 a ⟨r.val, h⟩ f : S1x256x704.Idx) fun q => ?_)
    match q with
    | ⟨0, _⟩ => exact (Nat.zero_add _).symm
    | ⟨1, _⟩ => exact (Nat.zero_add _).symm
    | ⟨2, _⟩ => exact (Nat.zero_add _).symm
  · rw [dif_neg h]
    refine canon_in (Val := Elt Ideal) (s := S1x512x704) (e := .bf16) (off := ![0, 256, 0]) (size := ![1, 256, 704]) _ w1 _ _ (ix3 a ⟨r.val - 256, by omega⟩ f : S1x256x704.Idx) fun q => ?_
    match q with
    | ⟨0, _⟩ => exact (Nat.zero_add _).symm
    | ⟨1, _⟩ => show r.val = 256 + (r.val - 256); omega
    | ⟨2, _⟩ => exact (Nat.zero_add _).symm

/-- The gradient of the gated activations at row `r`, column `f` of a block: half the incoming gradient times the down
    projection's transpose. -/
def ds (x2 : Vec Ideal S512x1024 .f32) (x7 : Vec Ideal S1x704x1024 .bf16) (r : Fin 512) (f : Fin 704) : EReal :=
  ∑ d : Fin 1024, (Ideal.ofBits .f32 0x3F000000#32 * x2 (ix2 r d)) * x7 (ix3 0 f d)
/-- The sigmoid of the gate. -/
def sg (x3 : Vec Ideal S1x512x704 .bf16) (r : Fin 512) (f : Fin 704) : EReal := Ideal.logistic (x3 (ix3 0 r f))
/-- The gradient of the up product. -/
def db (x2 : Vec Ideal S512x1024 .f32) (x3 : Vec Ideal S1x512x704 .bf16) (x7 : Vec Ideal S1x704x1024 .bf16) (r : Fin 512) (f : Fin 704) : EReal :=
  ds x2 x7 r f * (x3 (ix3 0 r f) * sg x3 r f)
/-- The gradient of the gate's product. -/
def da (x2 : Vec Ideal S512x1024 .f32) (x3 x4 : Vec Ideal S1x512x704 .bf16) (x7 : Vec Ideal S1x704x1024 .bf16) (r : Fin 512) (f : Fin 704) : EReal :=
  (ds x2 x7 r f * x4 (ix3 0 r f)) * (sg x3 r f * (Ideal.ofBits .f32 0x3F800000#32 + x3 (ix3 0 r f) * (Ideal.ofBits .f32 0x3F800000#32 - sg x3 r f)))
/-- The gated activations. -/
def sw (x3 x4 : Vec Ideal S1x512x704 .bf16) (r : Fin 512) (f : Fin 704) : EReal :=
  (x3 (ix3 0 r f) * sg x3 r f) * x4 (ix3 0 r f)
/-- What one column block adds to the gradient of the normalised tokens. -/
def part (x2 : Vec Ideal S512x1024 .f32) (x3 x4 : Vec Ideal S1x512x704 .bf16) (x5 x6 x7 : Vec Ideal S1x704x1024 .bf16) (r : Fin 512) (d : Fin 1024) : EReal :=
  (∑ f : Fin 704, da x2 x3 x4 x7 r f * x5 (ix3 0 f d)) + ∑ f : Fin 704, db x2 x3 x7 r f * x6 (ix3 0 f d)

theorem hz2 : (![0, 0] : Fin 2 → Nat) = fun _ => 0 := by funext a; fin_cases a <;> rfl
theorem hz3 : (![0, 0, 0] : Fin 3 → Nat) = fun _ => 0 := by funext a; fin_cases a <;> rfl

theorem pay7_eq : (k0_pay7 (F := Ideal)) = fun _ => 0 := by
  funext y
  idx_vars y
  unfold_payloads
  pointwise

/-- Any load after the scratch was set to zero reads zero. -/
theorem cov_zero (v : View sig .tc .vmem S512x1024 .f32) (B : LoadRect S512x1024) :
    v.readCov (Val := Elt Ideal) [⟨Rect.unit ![0, 0] ![512, 1024] inb_S512x1024_S512x1024_0_0, k0_pay7 (F := Ideal)⟩] B = fun _ => (0 : EReal) := by
  rw [View.readCov_eq_canon', View.canon_cons_unit_zero hz2, pay7_eq]

/-- So does a load of the lower rows after the upper rows were stored. -/
theorem cov_low (v : View sig .tc .vmem S512x1024 .f32) (w : S256x1024.Idx → EReal) :
    v.readCov (Val := Elt Ideal) [⟨Rect.unit ![0, 0] ![256, 1024] inb_S512x1024_S256x1024_0_0, w⟩,
      ⟨Rect.unit ![0, 0] ![512, 1024] inb_S512x1024_S512x1024_0_0, k0_pay7 (F := Ideal)⟩]
      (Rect.unit ![256, 0] ![256, 1024] inb_S512x1024_S256x1024_256_0).toLoadRect = fun _ => (0 : EReal) := by
  rw [View.readCov_eq_canon']
  funext j
  refine (canon_off (Val := Elt Ideal) (s := S512x1024) (e := .f32) (off := ![0, 0]) (size := ![256, 1024]) _ w _ _ (0 : Fin 2) (Or.inr ?_)).trans ?_
  · show 0 + 256 ≤ 256 + 1 * (j 0).val
    omega
  · rw [View.canon_cons_unit_zero hz2, pay7_eq]

/-- A whole load is at every index. -/
theorem whole_idx (y : S512x1024.Idx) : (Rect.unit (s := S512x1024) ![0, 0] ![512, 1024] inb_S512x1024_S512x1024_0_0).toLoadRect.idx y = y := by
  funext a
  apply Fin.ext
  match a with
  | ⟨0, _⟩ => show 0 + 1 * (y 0).val = (y 0).val; omega
  | ⟨1, _⟩ => show 0 + 1 * (y 1).val = (y 1).val; omega

section
variable (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S1x512x704 .bf16) (harg5 : arg5.IsWhole) (arg6 : Memref sig .tc .vmem S1x512x704 .bf16) (harg6 : arg6.IsWhole) (arg7 : Memref sig .tc .vmem S1x704x1024 .bf16) (harg7 : arg7.IsWhole) (arg8 : Memref sig .tc .vmem S1x704x1024 .bf16) (harg8 : arg8.IsWhole) (arg9 : Memref sig .tc .vmem S1x704x1024 .bf16) (harg9 : arg9.IsWhole) (arg10 : Memref sig .tc .vmem S512x1024 .f32) (harg10 : arg10.IsWhole) (arg11 : Memref sig .tc .vmem S1x512x704 .bf16) (harg11 : arg11.IsWhole) (arg12 : Memref sig .tc .vmem S1x512x704 .bf16) (harg12 : arg12.IsWhole) (arg13 : Memref sig .tc .vmem S1x512x704 .bf16) (harg13 : arg13.IsWhole) (arg14 : Memref sig .tc .vmem S1x1024 .f32) (harg14 : arg14.IsWhole) (arg15 : Memref sig .tc .vmem S512x1024 .f32) (harg15 : arg15.IsWhole)
  (x0 : Vec Ideal S512x1024 .f32) (x1 : Vec Ideal S1x1024 .f32) (x2 : Vec Ideal S512x1024 .f32) (x3 x4 : Vec Ideal S1x512x704 .bf16)
  (x5 x6 x7 : Vec Ideal S1x704x1024 .bf16) (xs0 : Vec Ideal S512x1024 .f32) (xo : Vec Ideal S1x1024 .f32)

theorem out9_A (hc0 : cond0_0 i) (hc1 : cond0_1 i) (hc2 : ¬cond0_2 i) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7
      = fun y => da x2 x3 x4 x7 (y 1) (y 2) := by
  unfold out0_A_9 kernelRun0_A
  dsimp only
  sl_unfold_words
  simp only [View.readAt_eq_ld, harg2.read_unread, harg3.read_unread, harg4.read_unread, harg5.read_unread, harg6.read_unread,
    harg7.read_unread, harg8.read_unread, harg9.read_unread, harg14.read_unread, harg15.read_unread]
  funext y
  idx_vars y
  obtain rfl : y0 = 0 := Subsingleton.elim _ _
  rw [View.read_writes_junk_eq_canon]
  refine (canon_rows_blk _ _ _ 0 y1 y2).trans ?_
  by_cases h : y1.val < 256
  · rw [dif_pos h]
    unfold da ds sg
    unfold_payloads
    pointwise
  · rw [dif_neg h]
    have e : (⟨256 + (y1.val - 256), by omega⟩ : Fin 512) = y1 := Fin.ext (by show 256 + (y1.val - 256) = y1.val; omega)
    unfold da ds sg
    unfold_payloads
    pointwise [e]

theorem out10_A (hc0 : cond0_0 i) (hc1 : cond0_1 i) (hc2 : ¬cond0_2 i) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7
      = fun y => db x2 x3 x7 (y 1) (y 2) := by
  unfold out0_A_10 kernelRun0_A
  dsimp only
  sl_unfold_words
  simp only [View.readAt_eq_ld, harg2.read_unread, harg3.read_unread, harg4.read_unread, harg5.read_unread, harg6.read_unread,
    harg7.read_unread, harg8.read_unread, harg9.read_unread, harg14.read_unread, harg15.read_unread]
  funext y
  idx_vars y
  obtain rfl : y0 = 0 := Subsingleton.elim _ _
  rw [View.read_writes_junk_eq_canon]
  refine (canon_rows_blk _ _ _ 0 y1 y2).trans ?_
  by_cases h : y1.val < 256
  · rw [dif_pos h]
    unfold db ds sg
    unfold_payloads
    pointwise
  · rw [dif_neg h]
    have e : (⟨256 + (y1.val - 256), by omega⟩ : Fin 512) = y1 := Fin.ext (by show 256 + (y1.val - 256) = y1.val; omega)
    unfold db ds sg
    unfold_payloads
    pointwise [e]

theorem out11_A (hc0 : cond0_0 i) (hc1 : cond0_1 i) (hc2 : ¬cond0_2 i) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7
      = fun y => sw x3 x4 (y 1) (y 2) := by
  unfold out0_A_11 kernelRun0_A
  dsimp only
  sl_unfold_words
  simp only [View.readAt_eq_ld, harg2.read_unread, harg3.read_unread, harg4.read_unread, harg5.read_unread, harg6.read_unread,
    harg7.read_unread, harg8.read_unread, harg9.read_unread, harg14.read_unread, harg15.read_unread]
  funext y
  idx_vars y
  obtain rfl : y0 = 0 := Subsingleton.elim _ _
  rw [View.read_writes_junk_eq_canon]
  refine (canon_rows_blk _ _ _ 0 y1 y2).trans ?_
  by_cases h : y1.val < 256
  · rw [dif_pos h]
    unfold sw sg
    unfold_payloads
    pointwise
  · rw [dif_neg h]
    have e : (⟨256 + (y1.val - 256), by omega⟩ : Fin 512) = y1 := Fin.ext (by show 256 + (y1.val - 256) = y1.val; omega)
    unfold sw sg
    unfold_payloads
    pointwise [e]

theorem out9_B (hc0 : ¬cond0_0 i) (hc1 : ¬cond0_1 i) (hc2 : ¬cond0_2 i) :
    out0_B_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xs0
      = fun y => da x2 x3 x4 x7 (y 1) (y 2) := by
  unfold out0_B_9 kernelRun0_B
  dsimp only
  sl_unfold_words
  simp only [View.readAt_eq_ld, harg2.read_unread, harg3.read_unread, harg4.read_unread, harg5.read_unread, harg6.read_unread,
    harg7.read_unread, harg8.read_unread, harg9.read_unread, harg14.read_unread, harg15.read_unread]
  funext y
  idx_vars y
  obtain rfl : y0 = 0 := Subsingleton.elim _ _
  rw [View.read_writes_junk_eq_canon]
  refine (canon_rows_blk _ _ _ 0 y1 y2).trans ?_
  by_cases h : y1.val < 256
  · rw [dif_pos h]
    unfold da ds sg
    unfold_payloads
    pointwise
  · rw [dif_neg h]
    have e : (⟨256 + (y1.val - 256), by omega⟩ : Fin 512) = y1 := Fin.ext (by show 256 + (y1.val - 256) = y1.val; omega)
    unfold da ds sg
    unfold_payloads
    pointwise [e]

theorem out10_B (hc0 : ¬cond0_0 i) (hc1 : ¬cond0_1 i) (hc2 : ¬cond0_2 i) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xs0
      = fun y => db x2 x3 x7 (y 1) (y 2) := by
  unfold out0_B_10 kernelRun0_B
  dsimp only
  sl_unfold_words
  simp only [View.readAt_eq_ld, harg2.read_unread, harg3.read_unread, harg4.read_unread, harg5.read_unread, harg6.read_unread,
    harg7.read_unread, harg8.read_unread, harg9.read_unread, harg14.read_unread, harg15.read_unread]
  funext y
  idx_vars y
  obtain rfl : y0 = 0 := Subsingleton.elim _ _
  rw [View.read_writes_junk_eq_canon]
  refine (canon_rows_blk _ _ _ 0 y1 y2).trans ?_
  by_cases h : y1.val < 256
  · rw [dif_pos h]
    unfold db ds sg
    unfold_payloads
    pointwise
  · rw [dif_neg h]
    have e : (⟨256 + (y1.val - 256), by omega⟩ : Fin 512) = y1 := Fin.ext (by show 256 + (y1.val - 256) = y1.val; omega)
    unfold db ds sg
    unfold_payloads
    pointwise [e]

theorem out11_B (hc0 : ¬cond0_0 i) (hc1 : ¬cond0_1 i) (hc2 : ¬cond0_2 i) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xs0
      = fun y => sw x3 x4 (y 1) (y 2) := by
  unfold out0_B_11 kernelRun0_B
  dsimp only
  sl_unfold_words
  simp only [View.readAt_eq_ld, harg2.read_unread, harg3.read_unread, harg4.read_unread, harg5.read_unread, harg6.read_unread,
    harg7.read_unread, harg8.read_unread, harg9.read_unread, harg14.read_unread, harg15.read_unread]
  funext y
  idx_vars y
  obtain rfl : y0 = 0 := Subsingleton.elim _ _
  rw [View.read_writes_junk_eq_canon]
  refine (canon_rows_blk _ _ _ 0 y1 y2).trans ?_
  by_cases h : y1.val < 256
  · rw [dif_pos h]
    unfold sw sg
    unfold_payloads
    pointwise
  · rw [dif_neg h]
    have e : (⟨256 + (y1.val - 256), by omega⟩ : Fin 512) = y1 := Fin.ext (by show 256 + (y1.val - 256) = y1.val; omega)
    unfold sw sg
    unfold_payloads
    pointwise [e]

theorem out9_C (hc0 : ¬cond0_0 i) (hc1 : ¬cond0_1 i) (hc2 : cond0_2 i) :
    out0_C_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xo xs0
      = fun y => da x2 x3 x4 x7 (y 1) (y 2) := by
  unfold out0_C_9 kernelRun0_C
  dsimp only
  sl_unfold_words
  simp only [View.readAt_eq_ld, harg2.read_unread, harg3.read_unread, harg4.read_unread, harg5.read_unread, harg6.read_unread,
    harg7.read_unread, harg8.read_unread, harg9.read_unread, harg14.read_unread, harg15.read_unread]
  funext y
  idx_vars y
  obtain rfl : y0 = 0 := Subsingleton.elim _ _
  rw [View.read_writes_junk_eq_canon]
  refine (canon_rows_blk _ _ _ 0 y1 y2).trans ?_
  by_cases h : y1.val < 256
  · rw [dif_pos h]
    unfold da ds sg
    unfold_payloads
    pointwise
  · rw [dif_neg h]
    have e : (⟨256 + (y1.val - 256), by omega⟩ : Fin 512) = y1 := Fin.ext (by show 256 + (y1.val - 256) = y1.val; omega)
    unfold da ds sg
    unfold_payloads
    pointwise [e]

theorem out10_C (hc0 : ¬cond0_0 i) (hc1 : ¬cond0_1 i) (hc2 : cond0_2 i) :
    out0_C_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xo xs0
      = fun y => db x2 x3 x7 (y 1) (y 2) := by
  unfold out0_C_10 kernelRun0_C
  dsimp only
  sl_unfold_words
  simp only [View.readAt_eq_ld, harg2.read_unread, harg3.read_unread, harg4.read_unread, harg5.read_unread, harg6.read_unread,
    harg7.read_unread, harg8.read_unread, harg9.read_unread, harg14.read_unread, harg15.read_unread]
  funext y
  idx_vars y
  obtain rfl : y0 = 0 := Subsingleton.elim _ _
  rw [View.read_writes_junk_eq_canon]
  refine (canon_rows_blk _ _ _ 0 y1 y2).trans ?_
  by_cases h : y1.val < 256
  · rw [dif_pos h]
    unfold db ds sg
    unfold_payloads
    pointwise
  · rw [dif_neg h]
    have e : (⟨256 + (y1.val - 256), by omega⟩ : Fin 512) = y1 := Fin.ext (by show 256 + (y1.val - 256) = y1.val; omega)
    unfold db ds sg
    unfold_payloads
    pointwise [e]

theorem out11_C (hc0 : ¬cond0_0 i) (hc1 : ¬cond0_1 i) (hc2 : cond0_2 i) :
    out0_C_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xo xs0
      = fun y => sw x3 x4 (y 1) (y 2) := by
  unfold out0_C_11 kernelRun0_C
  dsimp only
  sl_unfold_words
  simp only [View.readAt_eq_ld, harg2.read_unread, harg3.read_unread, harg4.read_unread, harg5.read_unread, harg6.read_unread,
    harg7.read_unread, harg8.read_unread, harg9.read_unread, harg14.read_unread, harg15.read_unread]
  funext y
  idx_vars y
  obtain rfl : y0 = 0 := Subsingleton.elim _ _
  rw [View.read_writes_junk_eq_canon]
  refine (canon_rows_blk _ _ _ 0 y1 y2).trans ?_
  by_cases h : y1.val < 256
  · rw [dif_pos h]
    unfold sw sg
    unfold_payloads
    pointwise
  · rw [dif_neg h]
    have e : (⟨256 + (y1.val - 256), by omega⟩ : Fin 512) = y1 := Fin.ext (by show 256 + (y1.val - 256) = y1.val; omega)
    unfold sw sg
    unfold_payloads
    pointwise [e]

theorem out9_D (hc0 : ¬cond0_0 i) (hc1 : cond0_1 i) (hc2 : ¬cond0_2 i) :
    out0_D_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7
      = fun y => da x2 x3 x4 x7 (y 1) (y 2) := by
  unfold out0_D_9 kernelRun0_D
  dsimp only
  sl_unfold_words
  simp only [View.readAt_eq_ld, harg2.read_unread, harg3.read_unread, harg4.read_unread, harg5.read_unread, harg6.read_unread,
    harg7.read_unread, harg8.read_unread, harg9.read_unread, harg14.read_unread, harg15.read_unread]
  funext y
  idx_vars y
  obtain rfl : y0 = 0 := Subsingleton.elim _ _
  rw [View.read_writes_junk_eq_canon]
  refine (canon_rows_blk _ _ _ 0 y1 y2).trans ?_
  by_cases h : y1.val < 256
  · rw [dif_pos h]
    unfold da ds sg
    unfold_payloads
    pointwise
  · rw [dif_neg h]
    have e : (⟨256 + (y1.val - 256), by omega⟩ : Fin 512) = y1 := Fin.ext (by show 256 + (y1.val - 256) = y1.val; omega)
    unfold da ds sg
    unfold_payloads
    pointwise [e]

theorem out10_D (hc0 : ¬cond0_0 i) (hc1 : cond0_1 i) (hc2 : ¬cond0_2 i) :
    out0_D_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7
      = fun y => db x2 x3 x7 (y 1) (y 2) := by
  unfold out0_D_10 kernelRun0_D
  dsimp only
  sl_unfold_words
  simp only [View.readAt_eq_ld, harg2.read_unread, harg3.read_unread, harg4.read_unread, harg5.read_unread, harg6.read_unread,
    harg7.read_unread, harg8.read_unread, harg9.read_unread, harg14.read_unread, harg15.read_unread]
  funext y
  idx_vars y
  obtain rfl : y0 = 0 := Subsingleton.elim _ _
  rw [View.read_writes_junk_eq_canon]
  refine (canon_rows_blk _ _ _ 0 y1 y2).trans ?_
  by_cases h : y1.val < 256
  · rw [dif_pos h]
    unfold db ds sg
    unfold_payloads
    pointwise
  · rw [dif_neg h]
    have e : (⟨256 + (y1.val - 256), by omega⟩ : Fin 512) = y1 := Fin.ext (by show 256 + (y1.val - 256) = y1.val; omega)
    unfold db ds sg
    unfold_payloads
    pointwise [e]

theorem out11_D (hc0 : ¬cond0_0 i) (hc1 : cond0_1 i) (hc2 : ¬cond0_2 i) :
    out0_D_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7
      = fun y => sw x3 x4 (y 1) (y 2) := by
  unfold out0_D_11 kernelRun0_D
  dsimp only
  sl_unfold_words
  simp only [View.readAt_eq_ld, harg2.read_unread, harg3.read_unread, harg4.read_unread, harg5.read_unread, harg6.read_unread,
    harg7.read_unread, harg8.read_unread, harg9.read_unread, harg14.read_unread, harg15.read_unread]
  funext y
  idx_vars y
  obtain rfl : y0 = 0 := Subsingleton.elim _ _
  rw [View.read_writes_junk_eq_canon]
  refine (canon_rows_blk _ _ _ 0 y1 y2).trans ?_
  by_cases h : y1.val < 256
  · rw [dif_pos h]
    unfold sw sg
    unfold_payloads
    pointwise
  · rw [dif_neg h]
    have e : (⟨256 + (y1.val - 256), by omega⟩ : Fin 512) = y1 := Fin.ext (by show 256 + (y1.val - 256) = y1.val; omega)
    unfold sw sg
    unfold_payloads
    pointwise [e]

theorem out12_A (hc0 : cond0_0 i) (hc1 : cond0_1 i) (hc2 : ¬cond0_2 i) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7
      = fun _ => 0 := by
  unfold out0_A_12 kernelRun0_A
  dsimp only
  sl_unfold_words
  rw [View.read_writes_junk_eq_canon, View.canon_cons_unit_zero hz2]
  funext y
  idx_vars y
  unfold_payloads
  pointwise

theorem scr_B (hc0 : ¬cond0_0 i) (hc1 : ¬cond0_1 i) (hc2 : ¬cond0_2 i) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xs0
      = fun y => xs0 y + part x2 x3 x4 x5 x6 x7 (y 0) (y 1) := by
  unfold sout0_B_0 kernelRun0_B
  dsimp only
  sl_unfold_words
  simp only [View.readAt_eq_ld, harg2.read_unread, harg3.read_unread, harg4.read_unread, harg5.read_unread, harg6.read_unread,
    harg7.read_unread, harg8.read_unread, harg9.read_unread, harg14.read_unread, harg15.read_unread]
  funext y
  idx_vars y
  rw [View.read_writes_junk_eq_canon]
  refine (canon_rows _ _ _ y0 y1).trans ?_
  by_cases h : y0.val < 256
  · rw [dif_pos h]
    unfold part da db ds sg
    unfold_payloads
    pointwise
  · rw [dif_neg h]
    have e : (⟨256 + (y0.val - 256), by omega⟩ : Fin 512) = y0 := Fin.ext (by show 256 + (y0.val - 256) = y0.val; omega)
    unfold part da db ds sg
    unfold_payloads
    pointwise [e]

theorem scr_A (hc0 : cond0_0 i) (hc1 : cond0_1 i) (hc2 : ¬cond0_2 i) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7
      = fun y => 0 + part x2 x3 x4 x5 x6 x7 (y 0) (y 1) := by
  unfold sout0_A_0 kernelRun0_A
  dsimp only
  sl_unfold_words
  simp only [View.readAt_eq_ld, harg2.read_unread, harg3.read_unread, harg4.read_unread, harg5.read_unread, harg6.read_unread,
    harg7.read_unread, harg8.read_unread, harg9.read_unread, harg14.read_unread, harg15.read_unread]
  rw [cov_zero, cov_low]
  funext y
  idx_vars y
  rw [View.read_writes_junk_eq_canon]
  refine (canon_rows _ _ _ y0 y1).trans ?_
  by_cases h : y0.val < 256
  · rw [dif_pos h]
    unfold part da db ds sg
    unfold_payloads
    pointwise
  · rw [dif_neg h]
    have e : (⟨256 + (y0.val - 256), by omega⟩ : Fin 512) = y0 := Fin.ext (by show 256 + (y0.val - 256) = y0.val; omega)
    unfold part da db ds sg
    unfold_payloads
    pointwise [e]

theorem scr_D (hc0 : ¬cond0_0 i) (hc1 : cond0_1 i) (hc2 : ¬cond0_2 i) :
    sout0_D_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7
      = fun y => 0 + part x2 x3 x4 x5 x6 x7 (y 0) (y 1) := by
  unfold sout0_D_0 kernelRun0_D
  dsimp only
  sl_unfold_words
  simp only [View.readAt_eq_ld, harg2.read_unread, harg3.read_unread, harg4.read_unread, harg5.read_unread, harg6.read_unread,
    harg7.read_unread, harg8.read_unread, harg9.read_unread, harg14.read_unread, harg15.read_unread]
  rw [cov_zero, cov_low]
  funext y
  idx_vars y
  rw [View.read_writes_junk_eq_canon]
  refine (canon_rows _ _ _ y0 y1).trans ?_
  by_cases h : y0.val < 256
  · rw [dif_pos h]
    unfold part da db ds sg
    unfold_payloads
    pointwise
  · rw [dif_neg h]
    have e : (⟨256 + (y0.val - 256), by omega⟩ : Fin 512) = y0 := Fin.ext (by show 256 + (y0.val - 256) = y0.val; omega)
    unfold part da db ds sg
    unfold_payloads
    pointwise [e]

theorem out8_C (hc0 : ¬cond0_0 i) (hc1 : ¬cond0_1 i) (hc2 : cond0_2 i) :
    out0_C_8 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xo xs0
      = k0_pay4 x1 x0 (fun y => xs0 y + part x2 x3 x4 x5 x6 x7 (y 0) (y 1)) x2 := by
  unfold out0_C_8 kernelRun0_C
  dsimp only
  sl_unfold_words
  simp only [View.readAt_eq_ld, harg2.read_unread, harg3.read_unread, harg4.read_unread, harg5.read_unread, harg6.read_unread,
    harg7.read_unread, harg8.read_unread, harg9.read_unread, harg14.read_unread, harg15.read_unread]
  rw [View.read_writes_junk_eq_canon, View.canon_cons_unit_zero hz2, View.ld_unit_zero (S := S1x1024) hz2,
    View.ld_unit_zero (S := S512x1024) hz2, View.ld_unit_zero (S := S512x1024) hz2]
  refine congrArg (fun z => k0_pay4 x1 x0 z x2) ?_
  rw [View.readCov_eq_canon']
  funext y
  idx_vars y
  refine (congrArg _ (whole_idx (ix2 y0 y1))).trans ((canon_rows _ _ _ y0 y1).trans ?_)
  by_cases h : y0.val < 256
  · rw [dif_pos h]
    unfold part da db ds sg
    unfold_payloads
    pointwise
  · rw [dif_neg h]
    have e : (⟨256 + (y0.val - 256), by omega⟩ : Fin 512) = y0 := Fin.ext (by show 256 + (y0.val - 256) = y0.val; omega)
    unfold part da db ds sg
    unfold_payloads
    pointwise [e]

theorem out12_C (hc0 : ¬cond0_0 i) (hc1 : ¬cond0_1 i) (hc2 : cond0_2 i) :
    out0_C_12 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xo xs0
      = k0_pay5 x0 (fun y => xs0 y + part x2 x3 x4 x5 x6 x7 (y 0) (y 1)) xo := by
  unfold out0_C_12 kernelRun0_C
  dsimp only
  sl_unfold_words
  simp only [View.readAt_eq_ld, harg2.read_unread, harg3.read_unread, harg4.read_unread, harg5.read_unread, harg6.read_unread,
    harg7.read_unread, harg8.read_unread, harg9.read_unread, harg14.read_unread, harg15.read_unread]
  rw [View.read_writes_junk_eq_canon, View.canon_cons_unit_zero hz2, View.ld_unit_zero (S := S1x1024) hz2,
    View.ld_unit_zero (S := S512x1024) hz2]
  refine congrArg (fun z => k0_pay5 x0 z xo) ?_
  rw [View.readCov_eq_canon']
  funext y
  idx_vars y
  refine (congrArg _ (whole_idx (ix2 y0 y1))).trans ((canon_rows _ _ _ y0 y1).trans ?_)
  by_cases h : y0.val < 256
  · rw [dif_pos h]
    unfold part da db ds sg
    unfold_payloads
    pointwise
  · rw [dif_neg h]
    have e : (⟨256 + (y0.val - 256), by omega⟩ : Fin 512) = y0 := Fin.ext (by show 256 + (y0.val - 256) = y0.val; omega)
    unfold part da db ds sg
    unfold_payloads
    pointwise [e]

end

end Cert.ActIdeal.Body

end
-- ==== Proof.ActMath.lean ====
module

public import Idealize.ShloMosaic.Lib.Pointwise

@[expose] public section

noncomputable section

namespace Cert.ActMath

open Idealize.ShloMosaic

/-- A real number among the extended reals. -/
def IsReal (x : EReal) : Prop := ∃ r : ℝ, x = (r : EReal)

theorem IsReal.add {x y : EReal} : IsReal x → IsReal y → IsReal (x + y)
  | ⟨r, hr⟩, ⟨s, hs⟩ => ⟨r + s, by rw [hr, hs, EReal.coe_add]⟩
theorem IsReal.mul {x y : EReal} : IsReal x → IsReal y → IsReal (x * y)
  | ⟨r, hr⟩, ⟨s, hs⟩ => ⟨r * s, by rw [hr, hs, EReal.coe_mul]⟩
theorem IsReal.coe (r : ℝ) : IsReal (r : EReal) := ⟨r, rfl⟩
theorem IsReal.zero : IsReal 0 := ⟨0, rfl⟩
theorem IsReal.logistic {x : EReal} : IsReal x → IsReal (Ideal.logistic x)
  | ⟨r, hr⟩ => ⟨_, by rw [hr, Ideal.logistic_coe]⟩

/-- A finite sum of reals, computed among the reals. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem IsReal.sum {ι : Type*} (s : Finset ι) {f : ι → EReal} (h : ∀ i, IsReal (f i)) : IsReal (∑ i ∈ s, f i) := by
  choose g hg using h
  exact ⟨∑ i ∈ s, g i, by rw [← coe_sum]; exact Finset.sum_congr rfl fun i _ => hg i⟩

/-- A value whose absolute value is below infinity is a real. -/
theorem isReal_of_abs_lt {x : EReal} (h : max x (-x) < ⊤) : IsReal x := by
  have h1 : x ≠ ⊤ := by rintro rfl; simp at h
  have h2 : x ≠ ⊥ := by rintro rfl; simp at h
  exact ⟨x.toReal, (EReal.coe_toReal h1 h2).symm⟩

theorem ofBits_half : Ideal.ofBits .f32 0x3F000000#32 = (((1 : ℝ) / 2 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul, -EReal.coe_neg]; norm_num
theorem ofBits_1024 : Ideal.ofBits .f32 0x44800000#32 = ((1024 : ℝ) : EReal) := by
  simp [Ideal.ofBits, Ideal.ieee, -EReal.coe_mul]; norm_num
theorem ofBits_inf : Ideal.ofBits .f32 0x7F800000#32 = ⊤ := by
  simp [Ideal.ofBits, Ideal.ieee]
/-- The epsilon's word is a positive real. -/
theorem ofBits_eps : ∃ e : ℝ, 0 < e ∧ Ideal.ofBits .f32 0x358637BD#32 = (e : EReal) := by
  refine ⟨_, ?_, by simp [Ideal.ofBits, Ideal.ieee, -EReal.coe_mul]; rfl⟩
  positivity

/-- The two spellings of the derivative of `a · sigmoid a`, times `u`. -/
theorem silu_deriv (u a : EReal) (hu : IsReal u) (ha : IsReal a) :
    u * (Ideal.logistic a * (1 + a * (1 - Ideal.logistic a)))
      = u * Ideal.logistic a + (a * u) * (Ideal.logistic a * (1 - Ideal.logistic a)) := by
  obtain ⟨u, rfl⟩ := hu
  obtain ⟨a, rfl⟩ := ha
  rw [Ideal.logistic_coe]
  norm_cast
  ring

/-- The mean square plus epsilon of a row, and its inverse root. -/
def ms (h : Fin 1024 → EReal) : EReal := Ideal.div (∑ x, h x * h x) (Ideal.ofBits .f32 0x44800000#32) + Ideal.ofBits .f32 0x358637BD#32
@[inherit_doc ms] def rs (h : Fin 1024 → EReal) : EReal := Ideal.rsqrt (ms h)

/-- Of a row of reals: the mean square plus epsilon is a positive real, and its inverse root is the real one. -/
theorem ms_real (h : Fin 1024 → EReal) (hh : ∀ x, IsReal (h x)) : ∃ v : ℝ, 0 < v ∧ ms h = v ∧ rs h = ((√v)⁻¹ : ℝ) := by
  choose g hg using hh
  obtain ⟨e, he, hE⟩ := ofBits_eps
  have hm : ms h = (((∑ x, g x * g x) * (1 / 1024) + e : ℝ) : EReal) := by
    unfold ms
    rw [ofBits_1024, Ideal.div_coe (by norm_num), hE, EReal.coe_add, EReal.coe_mul, ← coe_sum]
    simp only [hg, EReal.coe_mul]
  have hpos : 0 < (∑ x, g x * g x) * (1 / 1024) + e := by
    have : 0 ≤ ∑ x, g x * g x := Finset.sum_nonneg fun x _ => mul_self_nonneg _
    positivity
  refine ⟨_, hpos, hm, ?_⟩
  unfold rs
  rw [hm, Ideal.rsqrt_coe, if_neg (not_lt.mpr hpos.le), if_neg hpos.ne']

theorem IsReal.rs {h : Fin 1024 → EReal} (hh : ∀ x, IsReal (h x)) : IsReal (rs h) := by
  obtain ⟨v, _, _, hr⟩ := ms_real h hh
  exact ⟨_, hr⟩

/-- The gradient of a row's normalisation: the closed form against the chain rule through the mean square. -/
theorem rms_deriv (h y : Fin 1024 → EReal) (o : EReal) (hh : ∀ x, IsReal (h x)) (hy : ∀ x, IsReal (y x)) (ho : IsReal o) (d : Fin 1024) :
    o + rs h * (y d - h d * rs h * Ideal.div (∑ x, y x * (h x * rs h)) (Ideal.ofBits .f32 0x44800000#32))
      = (o + y d * rs h
          + h d * Ideal.div ((∑ x, h x * y x) * (Ideal.ofBits .f32 0xBF000000#32 * Ideal.div (rs h) (ms h))) (Ideal.ofBits .f32 0x44800000#32))
        + Ideal.div ((∑ x, h x * y x) * (Ideal.ofBits .f32 0xBF000000#32 * Ideal.div (rs h) (ms h))) (Ideal.ofBits .f32 0x44800000#32) * h d := by
  obtain ⟨v, hv, hm, hr⟩ := ms_real h hh
  rw [hm, hr]
  choose g hg using hh
  choose z hz using hy
  obtain ⟨o, rfl⟩ := ho
  obtain rfl : h = fun x => (g x : EReal) := funext hg
  obtain rfl : y = fun x => (z x : EReal) := funext hz
  rw [ofBits_1024, Ideal.div_coe (by norm_num), Ideal.div_coe (by norm_num), Ideal.div_coe hv.ne', ofBits_neg_half]
  simp only [← EReal.coe_mul, coe_sum]
  rw [← EReal.coe_sub, ← EReal.coe_mul, ← EReal.coe_add, ← EReal.coe_add, ← EReal.coe_add, ← EReal.coe_add]
  congr 1
  have hs : (√v)⁻¹ * (√v)⁻¹ = 1 / v := by
    rw [← mul_inv, Real.mul_self_sqrt hv.le, one_div]
  have e1 : ∑ x, z x * (g x * (√v)⁻¹) = (∑ x, g x * z x) * (√v)⁻¹ := by
    rw [Finset.sum_mul]
    exact Finset.sum_congr rfl fun x _ => by ring
  rw [e1, ← hs]
  ring

end Cert.ActMath

end
-- ==== Proof.ActSweep.lean ====
module

public import proofs.«01_k».proof.Proof.ActHost
public import proofs.«01_k».proof.Proof.ActBody
public import proofs.«01_k».proof.Proof.ActMath

@[expose] public section

set_option maxRecDepth 16384
set_option maxHeartbeats 4000000

noncomputable section

namespace Cert.ActIdeal.Sweep

open Cert.ActIdeal Cert.ActIdeal.Gen Cert.ActIdeal.Value Cert.ActIdeal.Host Idealize.ShloMosaic Idealize.ShloMosaic.TcCoe Idealize.SL.Sem

variable (m : (ℓ : Loc nD τ sig) → Buf (Elt Ideal) ℓ) (c : Dev nD)

/-! ## What the call computes, over whole arrays -/

/-- The gradient of the gated activations. -/
def DS (t : Fin 4096) (f : Fin 2816) : EReal := ∑ d : Fin 1024, (Ideal.ofBits .f32 0x3F000000#32 * DO m c (ix2 t d)) * WD m c (ix2 f d)
/-- The gradient of the up product. -/
def DB (t : Fin 4096) (f : Fin 2816) : EReal := DS m c t f * (A m c (ix2 t f) * Ideal.logistic (A m c (ix2 t f)))
/-- The gradient of the gate's product. -/
def DA (t : Fin 4096) (f : Fin 2816) : EReal :=
  (DS m c t f * B m c (ix2 t f)) * (Ideal.logistic (A m c (ix2 t f)) * (1 + A m c (ix2 t f) * (1 - Ideal.logistic (A m c (ix2 t f)))))
/-- The gated activations. -/
def SW (t : Fin 4096) (f : Fin 2816) : EReal := (A m c (ix2 t f) * Ideal.logistic (A m c (ix2 t f))) * B m c (ix2 t f)
/-- The gradient of the normalised tokens. -/
def DN (t : Fin 4096) (d : Fin 1024) : EReal :=
  (∑ f : Fin 2816, DA m c t f * WG m c (ix2 d f)) + ∑ f : Fin 2816, DB m c t f * WU m c (ix2 d f)
/-- A token's row. -/
def HR (t : Fin 4096) (d : Fin 1024) : EReal := H m c (ix2 t d)
/-- The gain as a row. -/
def GR (d : Fin 1024) : EReal := GN m c (ix1 d)

/-! ## One point -/

/-- What point `n` adds to the gradient of the normalised tokens. -/
def pt (n : ℕ) (h : n < 32) (r : Fin 512) (d : Fin 1024) : EReal :=
  (∑ f : Fin 704, DA m c (row n h r) (col n f) * WG m c (ix2 d (col n f))) + ∑ f : Fin 704, DB m c (row n h r) (col n f) * WU m c (ix2 d (col n f))

theorem body_ds (n : ℕ) (h : n < cfg0.N) (r : Fin 512) (f : Fin 704) :
    Body.ds (iblk m c 2 ⟨n, h⟩) (iblk m c 7 ⟨n, h⟩) r f = DS m c (row n (lt32 h) r) (col n f) := by
  unfold Body.ds DS
  exact Finset.sum_congr rfl fun d _ => by rw [iblk_do, iblk_wd]

theorem body_db (n : ℕ) (h : n < cfg0.N) (r : Fin 512) (f : Fin 704) :
    Body.db (iblk m c 2 ⟨n, h⟩) (iblk m c 3 ⟨n, h⟩) (iblk m c 7 ⟨n, h⟩) r f = DB m c (row n (lt32 h) r) (col n f) := by
  unfold Body.db DB Body.sg
  rw [body_ds, iblk_a]

theorem body_da (n : ℕ) (h : n < cfg0.N) (r : Fin 512) (f : Fin 704) :
    Body.da (iblk m c 2 ⟨n, h⟩) (iblk m c 3 ⟨n, h⟩) (iblk m c 4 ⟨n, h⟩) (iblk m c 7 ⟨n, h⟩) r f = DA m c (row n (lt32 h) r) (col n f) := by
  unfold Body.da DA Body.sg
  rw [body_ds, iblk_a, iblk_b, Ideal.ofBits_one_f32]

theorem body_sw (n : ℕ) (h : n < cfg0.N) (r : Fin 512) (f : Fin 704) :
    Body.sw (iblk m c 3 ⟨n, h⟩) (iblk m c 4 ⟨n, h⟩) r f = SW m c (row n (lt32 h) r) (col n f) := by
  unfold Body.sw SW Body.sg
  rw [iblk_a, iblk_b]

theorem body_part (n : ℕ) (h : n < cfg0.N) (r : Fin 512) (d : Fin 1024) :
    Body.part (iblk m c 2 ⟨n, h⟩) (iblk m c 3 ⟨n, h⟩) (iblk m c 4 ⟨n, h⟩) (iblk m c 5 ⟨n, h⟩) (iblk m c 6 ⟨n, h⟩) (iblk m c 7 ⟨n, h⟩) r d
      = pt m c n (lt32 h) r d := by
  unfold Body.part pt
  refine congrArg₂ (· + ·) ?_ ?_
  · exact Finset.sum_congr rfl fun f _ => by rw [body_da, iblk_wg]
  · exact Finset.sum_congr rfl fun f _ => by rw [body_db, iblk_wu]

/-- The state a point leaves: the five results and the scratch. -/
abbrev St := Vec Ideal S512x1024 .f32 × Vec Ideal S1x512x704 .bf16 × Vec Ideal S1x512x704 .bf16 × Vec Ideal S1x512x704 .bf16 × Vec Ideal S1x1024 .f32 × Vec Ideal S512x1024 .f32

theorem st_da (n : ℕ) (h : n < cfg0.N) (acc : St) :
    (stAt0 m c n h acc).2.1 = fun y => DA m c (row n (lt32 h) (y 1)) (col n (y 2)) := by
  have e : (fun y : S1x512x704.Idx => Body.da (iblk m c 2 ⟨n, h⟩) (iblk m c 3 ⟨n, h⟩) (iblk m c 4 ⟨n, h⟩) (iblk m c 7 ⟨n, h⟩) (y 1) (y 2))
      = fun y => DA m c (row n (lt32 h) (y 1)) (col n (y 2)) := funext fun y => body_da m c n h (y 1) (y 2)
  rw [← e]
  by_cases h1 : n % 4 = 0
  · by_cases h0 : n % 32 = 0
    · rw [stAt0_A m c ⟨n, h⟩ acc h0 h1 (by show ¬n % 4 = 3; omega)]
      dsimp only
      exact Body.out9_A ..
    · rw [stAt0_D m c ⟨n, h⟩ acc h0 h1 (by show ¬n % 4 = 3; omega)]
      dsimp only
      exact Body.out9_D ..
  · have h0 : ¬n % 32 = 0 := by omega
    by_cases h2 : n % 4 = 3
    · rw [stAt0_C m c ⟨n, h⟩ acc h0 h1 h2]
      dsimp only
      exact Body.out9_C ..
    · rw [stAt0_B m c ⟨n, h⟩ acc h0 h1 h2]
      dsimp only
      exact Body.out9_B ..

theorem st_db (n : ℕ) (h : n < cfg0.N) (acc : St) :
    (stAt0 m c n h acc).2.2.1 = fun y => DB m c (row n (lt32 h) (y 1)) (col n (y 2)) := by
  have e : (fun y : S1x512x704.Idx => Body.db (iblk m c 2 ⟨n, h⟩) (iblk m c 3 ⟨n, h⟩) (iblk m c 7 ⟨n, h⟩) (y 1) (y 2))
      = fun y => DB m c (row n (lt32 h) (y 1)) (col n (y 2)) := funext fun y => body_db m c n h (y 1) (y 2)
  rw [← e]
  by_cases h1 : n % 4 = 0
  · by_cases h0 : n % 32 = 0
    · rw [stAt0_A m c ⟨n, h⟩ acc h0 h1 (by show ¬n % 4 = 3; omega)]
      dsimp only
      exact Body.out10_A ..
    · rw [stAt0_D m c ⟨n, h⟩ acc h0 h1 (by show ¬n % 4 = 3; omega)]
      dsimp only
      exact Body.out10_D ..
  · have h0 : ¬n % 32 = 0 := by omega
    by_cases h2 : n % 4 = 3
    · rw [stAt0_C m c ⟨n, h⟩ acc h0 h1 h2]
      dsimp only
      exact Body.out10_C ..
    · rw [stAt0_B m c ⟨n, h⟩ acc h0 h1 h2]
      dsimp only
      exact Body.out10_B ..

theorem st_sw (n : ℕ) (h : n < cfg0.N) (acc : St) :
    (stAt0 m c n h acc).2.2.2.1 = fun y => SW m c (row n (lt32 h) (y 1)) (col n (y 2)) := by
  have e : (fun y : S1x512x704.Idx => Body.sw (iblk m c 3 ⟨n, h⟩) (iblk m c 4 ⟨n, h⟩) (y 1) (y 2))
      = fun y => SW m c (row n (lt32 h) (y 1)) (col n (y 2)) := funext fun y => body_sw m c n h (y 1) (y 2)
  rw [← e]
  by_cases h1 : n % 4 = 0
  · by_cases h0 : n % 32 = 0
    · rw [stAt0_A m c ⟨n, h⟩ acc h0 h1 (by show ¬n % 4 = 3; omega)]
      dsimp only
      exact Body.out11_A ..
    · rw [stAt0_D m c ⟨n, h⟩ acc h0 h1 (by show ¬n % 4 = 3; omega)]
      dsimp only
      exact Body.out11_D ..
  · have h0 : ¬n % 32 = 0 := by omega
    by_cases h2 : n % 4 = 3
    · rw [stAt0_C m c ⟨n, h⟩ acc h0 h1 h2]
      dsimp only
      exact Body.out11_C ..
    · rw [stAt0_B m c ⟨n, h⟩ acc h0 h1 h2]
      dsimp only
      exact Body.out11_B ..

/-- The scratch after a row block's first point. -/
theorem st_scr_first (n : ℕ) (h : n < cfg0.N) (acc : St) (h1 : n % 4 = 0) :
    (stAt0 m c n h acc).2.2.2.2.2 = fun y => 0 + pt m c n (lt32 h) (y 0) (y 1) := by
  have e : (fun y : S512x1024.Idx => 0 + Body.part (iblk m c 2 ⟨n, h⟩) (iblk m c 3 ⟨n, h⟩) (iblk m c 4 ⟨n, h⟩) (iblk m c 5 ⟨n, h⟩) (iblk m c 6 ⟨n, h⟩) (iblk m c 7 ⟨n, h⟩) (y 0) (y 1))
      = fun y => 0 + pt m c n (lt32 h) (y 0) (y 1) := funext fun y => congrArg (0 + ·) (body_part m c n h (y 0) (y 1))
  rw [← e]
  by_cases h0 : n % 32 = 0
  · rw [stAt0_A m c ⟨n, h⟩ acc h0 h1 (by show ¬n % 4 = 3; omega)]
    dsimp only
    exact Body.scr_A ..
  · rw [stAt0_D m c ⟨n, h⟩ acc h0 h1 (by show ¬n % 4 = 3; omega)]
    dsimp only
    exact Body.scr_D ..

/-- The scratch after one of the points between a row block's first and last. -/
theorem st_scr_next (n : ℕ) (h : n < cfg0.N) (acc : St) (h1 : ¬n % 4 = 0) (h2 : ¬n % 4 = 3) :
    (stAt0 m c n h acc).2.2.2.2.2 = fun y => acc.2.2.2.2.2 y + pt m c n (lt32 h) (y 0) (y 1) := by
  have e : (fun y : S512x1024.Idx => acc.2.2.2.2.2 y + Body.part (iblk m c 2 ⟨n, h⟩) (iblk m c 3 ⟨n, h⟩) (iblk m c 4 ⟨n, h⟩) (iblk m c 5 ⟨n, h⟩) (iblk m c 6 ⟨n, h⟩) (iblk m c 7 ⟨n, h⟩) (y 0) (y 1))
      = fun y => acc.2.2.2.2.2 y + pt m c n (lt32 h) (y 0) (y 1) := funext fun y => congrArg (acc.2.2.2.2.2 y + ·) (body_part m c n h (y 0) (y 1))
  rw [← e, stAt0_B m c ⟨n, h⟩ acc (by show ¬n % 32 = 0; omega) h1 h2]
  dsimp only
  exact Body.scr_B ..

theorem part_eq (n : ℕ) (h : n < cfg0.N) (acc : Vec Ideal S512x1024 .f32) :
    (fun y : S512x1024.Idx => acc y + Body.part (iblk m c 2 ⟨n, h⟩) (iblk m c 3 ⟨n, h⟩) (iblk m c 4 ⟨n, h⟩) (iblk m c 5 ⟨n, h⟩) (iblk m c 6 ⟨n, h⟩) (iblk m c 7 ⟨n, h⟩) (y 0) (y 1))
      = fun y => acc y + pt m c n (lt32 h) (y 0) (y 1) := funext fun y => congrArg (acc y + ·) (body_part m c n h (y 0) (y 1))

/-- The tokens' gradient at a row block's last point. -/
theorem st_dh (n : ℕ) (h : n < cfg0.N) (acc : St) (h2 : n % 4 = 3) :
    (stAt0 m c n h acc).1 = k0_pay4 (iblk m c 1 ⟨n, h⟩) (iblk m c 0 ⟨n, h⟩) (fun y => acc.2.2.2.2.2 y + pt m c n (lt32 h) (y 0) (y 1)) (iblk m c 2 ⟨n, h⟩) := by
  rw [← part_eq, stAt0_C m c ⟨n, h⟩ acc (by show ¬n % 32 = 0; omega) (by show ¬n % 4 = 0; omega) h2]
  dsimp only
  exact Body.out8_C ..

/-- The gain's gradient: nothing at the first point; kept; added to at a row block's last point. -/
theorem st_dg_zero (h : 0 < cfg0.N) (acc : St) : (stAt0 m c 0 h acc).2.2.2.2.1 = fun _ => 0 := by
  rw [stAt0_A m c ⟨0, h⟩ acc rfl rfl (by show ¬0 % 4 = 3; omega)]
  dsimp only
  exact Body.out12_A ..
@[inherit_doc st_dg_zero] theorem st_dg_keep (n : ℕ) (h : n < cfg0.N) (acc : St) (h0 : ¬n % 32 = 0) (h2 : ¬n % 4 = 3) :
    (stAt0 m c n h acc).2.2.2.2.1 = acc.2.2.2.2.1 := by
  by_cases h1 : n % 4 = 0
  · rw [stAt0_D m c ⟨n, h⟩ acc h0 h1 h2]
    dsimp only [out0_D_12]
  · rw [stAt0_B m c ⟨n, h⟩ acc h0 h1 h2]
    dsimp only [out0_B_12]
@[inherit_doc st_dg_zero] theorem st_dg_add (n : ℕ) (h : n < cfg0.N) (acc : St) (h2 : n % 4 = 3) :
    (stAt0 m c n h acc).2.2.2.2.1 = k0_pay5 (iblk m c 0 ⟨n, h⟩) (fun y => acc.2.2.2.2.2 y + pt m c n (lt32 h) (y 0) (y 1)) acc.2.2.2.2.1 := by
  rw [← part_eq, stAt0_C m c ⟨n, h⟩ acc (by show ¬n % 32 = 0; omega) (by show ¬n % 4 = 0; omega) h2]
  dsimp only
  exact Body.out12_C ..

end Cert.ActIdeal.Sweep

end
-- ==== Proof.ActFold.lean ====
module

public import proofs.«01_k».proof.Proof.ActSweep

@[expose] public section

set_option maxRecDepth 16384
set_option maxHeartbeats 4000000

noncomputable section

namespace Cert.ActIdeal.Sweep

open Cert.ActIdeal Cert.ActIdeal.Gen Cert.ActIdeal.Value Cert.ActIdeal.Host Idealize.ShloMosaic Idealize.ShloMosaic.TcCoe Idealize.SL.Sem
open Cert.ActMath

variable (m : (ℓ : Loc nD τ sig) → Buf (Elt Ideal) ℓ) (c : Dev nD)

/-! ## The last point's two payloads at an index -/

theorem pay4_apply (x1 : Vec Ideal S1x1024 .f32) (x0 acc x2 : Vec Ideal S512x1024 .f32) (r : Fin 512) (d : Fin 1024) :
    k0_pay4 x1 x0 acc x2 (ix2 r d) = x2 (ix2 r d) + rs (fun x => x0 (ix2 r x)) * (acc (ix2 r d) * x1 (ix2 0 d)
      - x0 (ix2 r d) * rs (fun x => x0 (ix2 r x))
        * Ideal.div (∑ x, acc (ix2 r x) * x1 (ix2 0 x) * (x0 (ix2 r x) * rs (fun x => x0 (ix2 r x)))) (Ideal.ofBits .f32 0x44800000#32)) := by
  unfold rs ms
  unfold_payloads
  pointwise

theorem pay5_apply (x0 acc : Vec Ideal S512x1024 .f32) (xo : Vec Ideal S1x1024 .f32) (a : Fin 1) (d : Fin 1024) :
    k0_pay5 x0 acc xo (ix2 a d) = xo (ix2 a d) + ∑ r, acc (ix2 r d) * (x0 (ix2 r d) * rs (fun x => x0 (ix2 r x))) := by
  unfold rs ms
  unfold_payloads
  pointwise

/-! ## The points of a row block, added up -/

/-- A sum over the 2816 columns, in four blocks of 704. -/
theorem sum_cols (f : Fin 2816 → EReal) :
    ∑ x, f x = ∑ k : Fin 4, ∑ j : Fin 704, f ⟨k.val * 704 + j.val, by omega⟩ := by
  rw [← (finProdFinEquiv (m := 4) (n := 704)).sum_comp f, Fintype.sum_prod_type]
  exact Finset.sum_congr rfl fun k _ => Finset.sum_congr rfl fun j _ =>
    congrArg f (Fin.ext (by show j.val + 704 * k.val = k.val * 704 + j.val; omega))

/-- A sum over the 4096 rows, in eight blocks of 512. -/
theorem sum_rows (f : Fin 4096 → EReal) :
    ∑ x, f x = ∑ k : Fin 8, ∑ j : Fin 512, f ⟨k.val * 512 + j.val, by omega⟩ := by
  rw [← (finProdFinEquiv (m := 8) (n := 512)).sum_comp f, Fintype.sum_prod_type]
  exact Finset.sum_congr rfl fun k _ => Finset.sum_congr rfl fun j _ =>
    congrArg f (Fin.ext (by show j.val + 512 * k.val = k.val * 512 + j.val; omega))

/-- Row `r` of row block `q`. -/
abbrev rw8 (q : Fin 8) (r : Fin 512) : Fin 4096 := ⟨q.val * 512 + r.val, by omega⟩

/-- Column block `k`'s share of the two products. -/
def pa (q : Fin 8) (r : Fin 512) (d : Fin 1024) (k : Fin 4) : EReal :=
  ∑ f : Fin 704, DA m c (rw8 q r) ⟨k.val * 704 + f.val, by omega⟩ * WG m c (ix2 d ⟨k.val * 704 + f.val, by omega⟩)
@[inherit_doc pa] def pb (q : Fin 8) (r : Fin 512) (d : Fin 1024) (k : Fin 4) : EReal :=
  ∑ f : Fin 704, DB m c (rw8 q r) ⟨k.val * 704 + f.val, by omega⟩ * WU m c (ix2 d ⟨k.val * 704 + f.val, by omega⟩)

theorem pt_eq (q : Fin 8) (k : Fin 4) (n : ℕ) (hn : n = 4 * q.val + k.val) (h : n < 32) (r : Fin 512) (d : Fin 1024) :
    pt m c n h r d = pa m c q r d k + pb m c q r d k := by
  unfold pt pa pb
  have e1 : row n h r = rw8 q r := Fin.ext (by show n / 4 * 512 + r.val = q.val * 512 + r.val; omega)
  have e2 : ∀ f : Fin 704, col n f = (⟨k.val * 704 + f.val, by omega⟩ : Fin 2816) := fun f =>
    Fin.ext (by show n % 4 * 704 + f.val = k.val * 704 + f.val; omega)
  simp only [e1, e2]

theorem add_four (a b : Fin 4 → EReal) :
    0 + (a 0 + b 0) + (a 1 + b 1) + (a 2 + b 2) + (a 3 + b 3) = (∑ k, a k) + ∑ k, b k := by
  rw [Fin.sum_univ_four, Fin.sum_univ_four, zero_add]
  abel

/-- The four points of a row block add up to the gradient of the normalised tokens. -/
theorem pt_sum (q : Fin 8) (r : Fin 512) (d : Fin 1024) (h0 : 4 * q.val < 32) (h1 : 4 * q.val + 1 < 32) (h2 : 4 * q.val + 2 < 32) (h3 : 4 * q.val + 3 < 32) :
    0 + pt m c (4 * q.val) h0 r d + pt m c (4 * q.val + 1) h1 r d + pt m c (4 * q.val + 2) h2 r d + pt m c (4 * q.val + 3) h3 r d
      = DN m c (rw8 q r) d := by
  rw [pt_eq m c q 0 (4 * q.val) rfl, pt_eq m c q 1 (4 * q.val + 1) rfl, pt_eq m c q 2 (4 * q.val + 2) rfl, pt_eq m c q 3 (4 * q.val + 3) rfl, add_four]
  unfold DN
  rw [sum_cols (fun f => DA m c (rw8 q r) f * WG m c (ix2 d f)), sum_cols (fun f => DB m c (rw8 q r) f * WU m c (ix2 d f))]
  unfold pa pb
  rfl

/-! ## The states the points leave -/

theorem outs_step (n : ℕ) (h : n < cfg0.N) : ∃ acc : St, outsAt0 m c n h = stAt0 m c n h acc := by
  match n, h with
  | 0, h => exact ⟨_, outsAt0_zero m c h⟩
  | n + 1, h => exact ⟨_, outsAt0_succ m c n h⟩

theorem scr_first (n : ℕ) (h : n < cfg0.N) (h1 : n % 4 = 0) :
    (outsAt0 m c n h).2.2.2.2.2 = fun y => 0 + pt m c n (lt32 h) (y 0) (y 1) := by
  obtain ⟨acc, e⟩ := outs_step m c n h
  rw [e]
  exact st_scr_first m c n h acc h1

theorem scr_next (n : ℕ) (h : n + 1 < cfg0.N) (h1 : ¬(n + 1) % 4 = 0) (h2 : ¬(n + 1) % 4 = 3) :
    (outsAt0 m c (n + 1) h).2.2.2.2.2
      = fun y => (outsAt0 m c n (Nat.lt_of_succ_lt h)).2.2.2.2.2 y + pt m c (n + 1) (lt32 h) (y 0) (y 1) := by
  rw [outsAt0_succ m c n h]
  exact st_scr_next m c (n + 1) h _ h1 h2

/-- The scratch as a row block's last point has completed it. -/
theorem scr_last (q : Fin 8) (h2 : 4 * q.val + 2 < cfg0.N) (h3 : 4 * q.val + 3 < cfg0.N) :
    (fun y : S512x1024.Idx => (outsAt0 m c (4 * q.val + 2) h2).2.2.2.2.2 y + pt m c (4 * q.val + 3) (lt32 h3) (y 0) (y 1))
      = fun y => DN m c (rw8 q (y 0)) (y 1) := by
  funext y
  have e2 := congrFun (scr_next m c (4 * q.val + 1) h2 (by omega) (by omega)) y
  have e1 := congrFun (scr_next m c (4 * q.val) (Nat.lt_of_succ_lt h2) (by omega) (by omega)) y
  have e0 := congrFun (scr_first m c (4 * q.val) (Nat.lt_of_succ_lt (Nat.lt_of_succ_lt h2)) (by omega)) y
  rw [e2, e1, e0]
  exact pt_sum m c q (y 0) (y 1) _ _ _ _

/-- The tokens' gradient at a row block's last point. -/
theorem dh_last (q : Fin 8) (h3 : 4 * q.val + 3 < cfg0.N) :
    (outsAt0 m c (4 * q.val + 3) h3).1
      = k0_pay4 (iblk m c 1 ⟨4 * q.val + 3, h3⟩) (iblk m c 0 ⟨4 * q.val + 3, h3⟩) (fun y => DN m c (rw8 q (y 0)) (y 1)) (iblk m c 2 ⟨4 * q.val + 3, h3⟩) := by
  rw [outsAt0_succ m c (4 * q.val + 2) h3, st_dh m c (4 * q.val + 3) h3 _ (by omega), scr_last m c q (Nat.lt_of_succ_lt h3) h3]

theorem dg_zero (h : 0 < cfg0.N) : (outsAt0 m c 0 h).2.2.2.2.1 = fun _ => 0 := by
  rw [outsAt0_zero]
  exact st_dg_zero m c h _

theorem dg_keep (n : ℕ) (h : n + 1 < cfg0.N) (h2 : ¬(n + 1) % 4 = 3) :
    (outsAt0 m c (n + 1) h).2.2.2.2.1 = (outsAt0 m c n (Nat.lt_of_succ_lt h)).2.2.2.2.1 := by
  rw [outsAt0_succ m c n h]
  exact st_dg_keep m c (n + 1) h _ (by have := lt32 h; omega) h2

/-- What row block `q` adds to the gain's gradient. -/
def GQ (q : Fin 8) (d : Fin 1024) : EReal :=
  ∑ r : Fin 512, DN m c (rw8 q r) d * (HR m c (rw8 q r) d * rs (HR m c (rw8 q r)))

theorem dg_add (q : Fin 8) (h3 : 4 * q.val + 3 < cfg0.N) (a : Fin 1) (d : Fin 1024) :
    (outsAt0 m c (4 * q.val + 3) h3).2.2.2.2.1 (ix2 a d)
      = (outsAt0 m c (4 * q.val + 2) (Nat.lt_of_succ_lt h3)).2.2.2.2.1 (ix2 a d) + GQ m c q d := by
  have e : ∀ r : Fin 512, ∀ x : Fin 1024, iblk m c 0 ⟨4 * q.val + 3, h3⟩ (ix2 r x) = HR m c (rw8 q r) x := fun r x => by
    rw [iblk_h]
    exact congrArg (fun t => H m c (ix2 t x)) (Fin.ext (by show (4 * q.val + 3) / 4 * 512 + r.val = q.val * 512 + r.val; omega))
  rw [outsAt0_succ m c (4 * q.val + 2) h3, st_dg_add m c (4 * q.val + 3) h3 _ (by omega), scr_last m c q (Nat.lt_of_succ_lt h3) h3, pay5_apply]
  refine congrArg (_ + ·) (Finset.sum_congr rfl fun r _ => ?_)
  refine congrArg₂ (· * ·) rfl (congrArg₂ (· * ·) (e r d) (congrArg rs (funext fun x => e r x)))

/-- The gain's gradient after row block `q`. -/
theorem dg_run (a : Fin 1) (d : Fin 1024) : ∀ (q : ℕ) (hq : q < 8) (h3 : 4 * q + 3 < cfg0.N),
    (outsAt0 m c (4 * q + 3) h3).2.2.2.2.1 (ix2 a d) = ∑ j : Fin (q + 1), GQ m c ⟨j.val, by omega⟩ d
  | 0, hq, h3 => by
    rw [dg_add m c ⟨0, hq⟩ h3 a d]
    show (outsAt0 m c (0 + 1 + 1) _).2.2.2.2.1 (ix2 a d) + _ = _
    rw [dg_keep m c 1 _ (by omega), dg_keep m c 0 _ (by omega), dg_zero, Fin.sum_univ_one, zero_add]
    rfl
  | q + 1, hq, h3 => by
    rw [dg_add m c ⟨q + 1, hq⟩ h3 a d]
    show (outsAt0 m c (4 * q + 3 + 1 + 1 + 1) _).2.2.2.2.1 (ix2 a d) + _ = _
    rw [dg_keep m c (4 * q + 3 + 1 + 1) _ (by omega), dg_keep m c (4 * q + 3 + 1) _ (by omega), dg_keep m c (4 * q + 3) _ (by omega),
      dg_run a d q (by omega) _, Fin.sum_univ_castSucc (n := q + 1)]
    rfl

/-! ## The call's five results -/

theorem G9_apply (j : Fin 4) (t : Fin 4096) (f : Fin 704) :
    G9 m c (ix3 j t f) = DA m c t ⟨j.val * 704 + f.val, by omega⟩ := by
  have hp : pt9Of (ix3 j t f) = t.val / 512 * 4 + j.val := by
    show 1 * (j.val / 1 - 0) + 4 * (t.val / 512 - 0) + 32 * (f.val / 704 - 0) = _
    omega
  have hN : pt9Of (ix3 j t f) < cfg0.N := by rw [hp]; exact lt_of_lt_of_eq (by omega) N_0.symm
  unfold G9
  rw [dif_pos hN, ← outsAt0_sweep m c _ hN]
  obtain ⟨acc, e⟩ := outs_step m c _ hN
  rw [e, st_da m c _ hN]
  refine congrArg₂ (DA m c) (Fin.ext ?_) (Fin.ext ?_)
  · show pt9Of (ix3 j t f) / 4 * 512 + t.val % 512 = t.val
    rw [hp]; omega
  · show pt9Of (ix3 j t f) % 4 * 704 + f.val % 704 = j.val * 704 + f.val
    rw [hp]; omega

theorem G10_apply (j : Fin 4) (t : Fin 4096) (f : Fin 704) :
    G10 m c (ix3 j t f) = DB m c t ⟨j.val * 704 + f.val, by omega⟩ := by
  have hp : pt10Of (ix3 j t f) = t.val / 512 * 4 + j.val := by
    show 1 * (j.val / 1 - 0) + 4 * (t.val / 512 - 0) + 32 * (f.val / 704 - 0) = _
    omega
  have hN : pt10Of (ix3 j t f) < cfg0.N := by rw [hp]; exact lt_of_lt_of_eq (by omega) N_0.symm
  unfold G10
  rw [dif_pos hN, ← outsAt0_sweep m c _ hN]
  obtain ⟨acc, e⟩ := outs_step m c _ hN
  rw [e, st_db m c _ hN]
  refine congrArg₂ (DB m c) (Fin.ext ?_) (Fin.ext ?_)
  · show pt10Of (ix3 j t f) / 4 * 512 + t.val % 512 = t.val
    rw [hp]; omega
  · show pt10Of (ix3 j t f) % 4 * 704 + f.val % 704 = j.val * 704 + f.val
    rw [hp]; omega

theorem G11_apply (j : Fin 4) (t : Fin 4096) (f : Fin 704) :
    G11 m c (ix3 j t f) = SW m c t ⟨j.val * 704 + f.val, by omega⟩ := by
  have hp : pt11Of (ix3 j t f) = t.val / 512 * 4 + j.val := by
    show 1 * (j.val / 1 - 0) + 4 * (t.val / 512 - 0) + 32 * (f.val / 704 - 0) = _
    omega
  have hN : pt11Of (ix3 j t f) < cfg0.N := by rw [hp]; exact lt_of_lt_of_eq (by omega) N_0.symm
  unfold G11
  rw [dif_pos hN, ← outsAt0_sweep m c _ hN]
  obtain ⟨acc, e⟩ := outs_step m c _ hN
  rw [e, st_sw m c _ hN]
  refine congrArg₂ (SW m c) (Fin.ext ?_) (Fin.ext ?_)
  · show pt11Of (ix3 j t f) / 4 * 512 + t.val % 512 = t.val
    rw [hp]; omega
  · show pt11Of (ix3 j t f) % 4 * 704 + f.val % 704 = j.val * 704 + f.val
    rw [hp]; omega

/-- Equal points leave equal states. -/
theorem outs_congr {n n' : ℕ} (e : n = n') (h : n < cfg0.N) (h' : n' < cfg0.N) : outsAt0 m c n h = outsAt0 m c n' h' := by
  subst e; rfl

/-- The tokens' gradient in the kernel's closed form. -/
def DH (t : Fin 4096) (d : Fin 1024) : EReal :=
  DO m c (ix2 t d) + rs (HR m c t) * (DN m c t d * GR m c d - HR m c t d * rs (HR m c t)
    * Ideal.div (∑ x, DN m c t x * GR m c x * (HR m c t x * rs (HR m c t))) (Ideal.ofBits .f32 0x44800000#32))

theorem G8_apply (t : Fin 4096) (d : Fin 1024) : G8 m c (ix2 t d) = DH m c t d := by
  have hq : t.val / 512 < 8 := by omega
  have hp : pt8Of (ix2 t d) = 4 * (t.val / 512) + 3 := by
    show 4 * (1 * (t.val / 512 - 0) + 1 * (d.val / 1024 - 0)) + 3 = _
    omega
  have h3 : 4 * (t.val / 512) + 3 < cfg0.N := lt_of_lt_of_eq (by omega) N_0.symm
  have hN : pt8Of (ix2 t d) < cfg0.N := by rw [hp]; exact h3
  have hr : t.val % 512 < 512 := by omega
  have hl : loc8Of (ix2 t d) = ix2 (⟨t.val % 512, hr⟩ : Fin 512) d := by
    funext a
    apply Fin.ext
    match a with
    | ⟨0, _⟩ => rfl
    | ⟨1, _⟩ => show d.val % 1024 = d.val; omega
  have et : rw8 ⟨t.val / 512, hq⟩ ⟨t.val % 512, hr⟩ = t := Fin.ext (by show t.val / 512 * 512 + t.val % 512 = t.val; omega)
  have er : ∀ h, row (4 * (t.val / 512) + 3) h ⟨t.val % 512, hr⟩ = t := fun h =>
    Fin.ext (by show (4 * (t.val / 512) + 3) / 4 * 512 + t.val % 512 = t.val; omega)
  unfold G8
  rw [dif_pos hN, ← outsAt0_sweep m c _ hN, outs_congr m c hp hN h3, hl, dh_last m c ⟨t.val / 512, hq⟩ h3, pay4_apply]
  simp only [iblk_h, iblk_g, iblk_do]
  rw [er]
  show _ + rs (HR m c t) * (DN m c (rw8 ⟨t.val / 512, hq⟩ ⟨t.val % 512, hr⟩) d * GR m c d - HR m c t d * rs (HR m c t)
    * Ideal.div (∑ x, DN m c (rw8 ⟨t.val / 512, hq⟩ ⟨t.val % 512, hr⟩) x * GR m c x * (HR m c t x * rs (HR m c t))) _) = _
  rw [et]
  rfl

theorem G12_apply (a : Fin 1) (d : Fin 1024) :
    G12 m c (ix2 a d) = ∑ t : Fin 4096, DN m c t d * (HR m c t d * rs (HR m c t)) := by
  have hN : 31 < cfg0.N := lt_of_lt_of_eq (by decide) N_0.symm
  rw [G12_last, ← outsAt0_sweep m c _ hN]
  refine (dg_run m c a d 7 (by omega) hN).trans ?_
  rw [sum_rows]
  rfl

end Cert.ActIdeal.Sweep

end
-- ==== Proof.ActPre.lean ====
module

public import proofs.«01_k».proof.Defs
public import proofs.«01_k».proof.Proof.Gen.Pre_finite
public import proofs.«01_k».proof.Proof.ActHost
public import proofs.«01_k».proof.Proof.ActMath
public import Idealize.ShloMosaic.Lib.ReduceAll

@[expose] public section

noncomputable section

namespace Cert.ActIdeal.Pre

open Cert.ActIdeal Cert.ActIdeal.Host Cert.ActMath Idealize.ShloMosaic Idealize.ShloMosaic.TcCoe Idealize.SL.Sem Idealize.ShloMosaic.StableHlo

/-- An element whose comparison with infinity came out true is a real. -/
theorem real_of_cmp (x : EReal) (h : Ideal.cmp .olt (max x (-x)) (Ideal.ofBits .f32 0x7F800000#32) = 1#1) : IsReal x := by
  rw [ofBits_inf] at h
  refine isReal_of_abs_lt ?_
  have h' : BitVec.ofBool (decide (max x (-x) < ⊤)) = 1#1 := h
  by_contra hn
  rw [decide_eq_false hn] at h'
  exact absurd h' (by decide)

/-- A product of two words of one bit is one only if both are. -/
theorem and_one {x y : BitVec 1} (h : IntOp.andi x y = 1#1) : x = 1#1 ∧ y = 1#1 := IntOp.andi_eq_one.1 h

instance : Subsingleton Cert.Pre_finite.S_.Idx := ⟨fun a b => funext fun i => i.elim0⟩

/-- Six arrays of which the precondition holds are arrays of reals. -/
theorem real_of_fn (x0 : FVec Ideal Cert.Pre_finite.S4096x1024 .f32) (x1 : FVec Ideal Cert.Pre_finite.S1024 .f32) (x2 x3 : FVec Ideal Cert.Pre_finite.S1024x2816 .f32)
    (x4 : FVec Ideal Cert.Pre_finite.S2816x1024 .f32) (x5 : FVec Ideal Cert.Pre_finite.S4096x1024 .f32)
    (h : ∀ j, Cert.Pre_finite.fn (F := Ideal) x0 x1 x2 x3 x4 x5 j = 1#1) :
    (∀ i, IsReal (x0 i)) ∧ (∀ i, IsReal (x1 i)) ∧ (∀ i, IsReal (x2 i)) ∧ (∀ i, IsReal (x3 i)) ∧ (∀ i, IsReal (x4 i)) ∧ ∀ i, IsReal (x5 i) := by
  have h := h (fun a => a.elim0)
  dsimp only [Cert.Pre_finite.fn, Cert.Pre_finite.fn_part1] at h
  obtain ⟨h, h5⟩ := and_one h
  obtain ⟨h, h4⟩ := and_one h
  obtain ⟨h, h3⟩ := and_one h
  obtain ⟨h, h2⟩ := and_one h
  obtain ⟨h0, h1⟩ := and_one h
  exact ⟨fun i => real_of_cmp _ (Host.reduce_andi_all _ _ _ _ _ h0 i), fun i => real_of_cmp _ (Host.reduce_andi_all _ _ _ _ _ h1 i),
    fun i => real_of_cmp _ (Host.reduce_andi_all _ _ _ _ _ h2 i), fun i => real_of_cmp _ (Host.reduce_andi_all _ _ _ _ _ h3 i),
    fun i => real_of_cmp _ (Host.reduce_andi_all _ _ _ _ _ h4 i), fun i => real_of_cmp _ (Host.reduce_andi_all _ _ _ _ _ h5 i)⟩

/-- The six argument arrays hold reals. -/
structure Real (m : (ℓ : Loc nD τ sig) → Buf (Elt Ideal) ℓ) (c : Dev nD) : Prop where
  h : ∀ i, IsReal (H m c i)
  gn : ∀ i, IsReal (GN m c i)
  wg : ∀ i, IsReal (WG m c i)
  wu : ∀ i, IsReal (WU m c i)
  wd : ∀ i, IsReal (WD m c i)
  dO : ∀ i, IsReal (DO m c i)

theorem real_of_pre (m : (ℓ : Loc nD τ sig) → Buf (Elt Ideal) ℓ) (hp : Cert.Pre_ActIdeal_finite m) (c : Dev nD) : Real m c := by
  obtain ⟨h0, h1, h2, h3, h4, h5⟩ := real_of_fn _ _ _ _ _ _ (fun j => congrFun (hp c) j)
  exact ⟨h0, h1, h2, h3, h4, h5⟩

end Cert.ActIdeal.Pre

end
-- ==== Proof.ActValue.lean ====
module

public import proofs.«01_k».proof.Proof.ActFold
public import proofs.«01_k».proof.Proof.ActPre
public import Idealize.ShloMosaic.Lib.Quiescent

@[expose] public section

set_option maxRecDepth 16384
set_option maxHeartbeats 4000000

noncomputable section

namespace Cert.ActIdeal.Ref

open Cert.ActIdeal Cert.ActIdeal.Host Cert.ActIdeal.Sweep Cert.ActMath Idealize.ShloMosaic Idealize.ShloMosaic.TcCoe Idealize.SL.Sem
open Cert.ActRefIdeal.Read

variable (m : (ℓ : Loc nD τ sig) → Buf (Elt Ideal) ℓ) (c : Dev nD)

/-! ## The reference's arrays at an index -/

theorem r_rs (t : Fin 4096) (a : Fin 1) : val_main_v8 (F := Ideal) (H m c) (ix2 t a) = rs (HR m c t) := by
  unfold val_main_v8 val_main_v7 val_main_v6 val_main_v5 val_main_v4 val_main_v3 val_main_v2 val_main_v1 val_main_cst_0 val_main_cst_1 val_main_cst_2 rs ms HR
  pointwise

theorem r_ms (t : Fin 4096) (a : Fin 1) : val_main_v7 (F := Ideal) (H m c) (ix2 t a) = ms (HR m c t) := by
  unfold val_main_v7 val_main_v6 val_main_v5 val_main_v4 val_main_v3 val_main_v2 val_main_v1 val_main_cst_0 val_main_cst_1 val_main_cst_2 ms HR
  pointwise

theorem r_h (t : Fin 4096) (d : Fin 1024) : val_main_v13 (F := Ideal) (H m c) (ix2 t d) = HR m c t d * rs (HR m c t) := by
  unfold val_main_v13 val_main_v12
  pointwise [r_rs]
  rfl

theorem r_n (t : Fin 4096) (d : Fin 1024) : val_main_v16 (F := Ideal) (H m c) (GN m c) (ix2 t d) = HR m c t d * rs (HR m c t) * GR m c d := by
  unfold val_main_v16 val_main_v15 val_main_v14
  pointwise [r_h]
  rfl

theorem r_a (t : Fin 4096) (f : Fin 2816) : A m c (ix2 t f) = ∑ d : Fin 1024, HR m c t d * rs (HR m c t) * GR m c d * WG m c (ix2 d f) := by
  show val_main_v17 (F := Ideal) (H m c) (GN m c) (WG m c) (ix2 t f) = _
  unfold val_main_v17
  pointwise [r_n]

theorem r_b (t : Fin 4096) (f : Fin 2816) : B m c (ix2 t f) = ∑ d : Fin 1024, HR m c t d * rs (HR m c t) * GR m c d * WU m c (ix2 d f) := by
  show val_main_v20 (F := Ideal) (H m c) (GN m c) (WU m c) (ix2 t f) = _
  unfold val_main_v20
  pointwise [r_n]

theorem r_v18 (t : Fin 4096) (f : Fin 2816) : val_main_v18 (F := Ideal) (H m c) (GN m c) (WG m c) (ix2 t f) = A m c (ix2 t f) := by
  unfold val_main_v18 val_main_v0 val_main_cst
  pointwise
  rfl

theorem r_v21 (t : Fin 4096) (f : Fin 2816) : val_main_v21 (F := Ideal) (H m c) (GN m c) (WU m c) (ix2 t f) = B m c (ix2 t f) := by
  unfold val_main_v21 val_main_v0 val_main_cst
  pointwise
  rfl

theorem r_sig (t : Fin 4096) (f : Fin 2816) : val_main_v19_2 (F := Ideal) (H m c) (GN m c) (WG m c) (ix2 t f) = Ideal.logistic (A m c (ix2 t f)) := by
  unfold val_main_v19_2 val_main_call0_v4 val_main_call0_cst_0 val_main_call0_v3 val_main_call0_v2 val_main_call0_cst val_main_call0_v1 val_main_call0_v0
  pointwise [r_v18]
  rfl

theorem r_dsig (t : Fin 4096) (f : Fin 2816) :
    val_main_v19_1 (F := Ideal) (H m c) (GN m c) (WG m c) (ix2 t f) = Ideal.logistic (A m c (ix2 t f)) * (1 - Ideal.logistic (A m c (ix2 t f))) := by
  unfold val_main_v19_1 val_main_call0_v7 val_main_call0_v6 val_main_call0_cst_1
  pointwise [r_sig]

theorem r_silu (t : Fin 4096) (f : Fin 2816) :
    val_main_v19_0 (F := Ideal) (H m c) (GN m c) (WG m c) (ix2 t f) = A m c (ix2 t f) * Ideal.logistic (A m c (ix2 t f)) := by
  unfold val_main_v19_0
  pointwise [r_sig, r_v18]

theorem r_s (t : Fin 4096) (f : Fin 2816) : val_main_v22 (F := Ideal) (H m c) (GN m c) (WG m c) (WU m c) (ix2 t f) = SW m c t f := by
  unfold val_main_v22 SW
  pointwise [r_silu, r_v21]

theorem r_ds (t : Fin 4096) (f : Fin 2816) : val_main_v30 (F := Ideal) (WD m c) (DO m c) (ix2 t f) = DS m c t f := by
  unfold val_main_v30 val_main_v29 val_main_v28 val_main_cst_5 val_main_v27 DS
  pointwise

theorem r_db (t : Fin 4096) (f : Fin 2816) :
    val_main_v31 (F := Ideal) (H m c) (GN m c) (WG m c) (WD m c) (DO m c) (ix2 t f) = DB m c t f := by
  unfold val_main_v31 DB
  pointwise [r_silu, r_ds]
  exact mul_comm _ _

theorem isReal_sub {x y : EReal} : IsReal x → IsReal y → IsReal (x - y)
  | ⟨r, hr⟩, ⟨s, hs⟩ => ⟨r - s, by rw [hr, hs, EReal.coe_sub]⟩

section
variable {m c} (R : Pre.Real m c)
include R

theorem real_rs (t : Fin 4096) : IsReal (rs (HR m c t)) := IsReal.rs fun x => R.h _
theorem real_a (t : Fin 4096) (f : Fin 2816) : IsReal (A m c (ix2 t f)) := by
  rw [r_a]
  exact IsReal.sum _ fun d => (((R.h _).mul (real_rs R t)).mul (R.gn _)).mul (R.wg _)
theorem real_b (t : Fin 4096) (f : Fin 2816) : IsReal (B m c (ix2 t f)) := by
  rw [r_b]
  exact IsReal.sum _ fun d => (((R.h _).mul (real_rs R t)).mul (R.gn _)).mul (R.wu _)
theorem real_ds (t : Fin 4096) (f : Fin 2816) : IsReal (DS m c t f) :=
  IsReal.sum _ fun d => (IsReal.mul (by rw [ofBits_half]; exact IsReal.coe _) (R.dO _)).mul (R.wd _)
theorem real_db (t : Fin 4096) (f : Fin 2816) : IsReal (DB m c t f) :=
  (real_ds R t f).mul ((real_a R t f).mul (real_a R t f).logistic)
theorem real_da (t : Fin 4096) (f : Fin 2816) : IsReal (DA m c t f) :=
  ((real_ds R t f).mul (real_b R t f)).mul ((real_a R t f).logistic.mul
    (IsReal.add (IsReal.coe 1) ((real_a R t f).mul (isReal_sub (IsReal.coe 1) (real_a R t f).logistic))))
theorem real_dn (t : Fin 4096) (d : Fin 1024) : IsReal (DN m c t d) :=
  (IsReal.sum _ fun f => (real_da R t f).mul (R.wg _)).add (IsReal.sum _ fun f => (real_db R t f).mul (R.wu _))

theorem r_da (t : Fin 4096) (f : Fin 2816) :
    val_main_v34 (F := Ideal) (H m c) (GN m c) (WG m c) (WU m c) (WD m c) (DO m c) (ix2 t f) = DA m c t f := by
  unfold val_main_v34 val_main_call1_v1 val_main_call1_v2 val_main_call1_v0 val_main_v32 DA
  pointwise [r_v18, r_sig, r_dsig, r_ds, r_v21]
  exact (silu_deriv _ _ ((real_ds R t f).mul (real_b R t f)) (real_a R t f)).symm

theorem r_dn (t : Fin 4096) (d : Fin 1024) :
    val_main_v36 (F := Ideal) (H m c) (GN m c) (WG m c) (WU m c) (WD m c) (DO m c) (ix2 t d) = DN m c t d := by
  unfold val_main_v36 val_main_v35 val_main_v33 DN
  pointwise [r_da R, r_db]
  exact add_comm _ _

theorem r_y (t : Fin 4096) (d : Fin 1024) :
    val_main_v41 (F := Ideal) (H m c) (GN m c) (WG m c) (WU m c) (WD m c) (DO m c) (ix2 t d) = DN m c t d * GR m c d := by
  unfold val_main_v41 val_main_v40 val_main_v14
  pointwise [r_dn R]
  rfl

theorem r_q (t : Fin 4096) (d : Fin 1024) :
    val_main_v53 (F := Ideal) (H m c) (GN m c) (WG m c) (WU m c) (WD m c) (DO m c) (ix2 t d)
      = Ideal.div ((∑ x, HR m c t x * (DN m c t x * GR m c x)) * (Ideal.ofBits .f32 0xBF000000#32 * Ideal.div (rs (HR m c t)) (ms (HR m c t)))) (Ideal.ofBits .f32 0x44800000#32) := by
  unfold val_main_v53 val_main_v52 val_main_cst_10 val_main_v51 val_main_v50 val_main_cst_9 val_main_v49 val_main_v45 val_main_v44 val_main_cst_8 val_main_v43
    val_main_v11 val_main_v10 val_main_cst_3 val_main_v9
  pointwise [r_y R, r_rs, r_ms]
  exact (Fin.sum_univ_one _).trans rfl

theorem r_dh (t : Fin 4096) (d : Fin 1024) :
    val_main_v57 (F := Ideal) (H m c) (GN m c) (WG m c) (WU m c) (WD m c) (DO m c) (ix2 t d) = DH m c t d := by
  unfold val_main_v57 val_main_v56 val_main_v55 val_main_v54 val_main_v48 val_main_v47 val_main_v46 DH
  pointwise [r_q R, r_y R, r_rs]
  exact (rms_deriv (HR m c t) (fun x => DN m c t x * GR m c x) (DO m c (ix2 t d)) (fun x => R.h _)
    (fun x => (real_dn R t x).mul (R.gn _)) (R.dO _) d).symm

theorem r_dg (a : Fin 1) (d : Fin 1024) :
    val_main_v67 (F := Ideal) (H m c) (GN m c) (WG m c) (WU m c) (WD m c) (DO m c) (ix2 a d)
      = ∑ t : Fin 4096, DN m c t d * (HR m c t d * rs (HR m c t)) := by
  unfold val_main_v67 val_main_v42 val_main_cst_7 val_main_v39 val_main_v38 val_main_cst_6 val_main_v37
  pointwise [r_h, r_dn R]
  exact (Fin.sum_univ_one _).trans (Finset.sum_congr rfl fun t _ => mul_comm (G := EReal) _ _)

/-! ## The call's results are the reference's -/

theorem G8_eq : Value.G8 m c = val_main_v57 (F := Ideal) (H m c) (GN m c) (WG m c) (WU m c) (WD m c) (DO m c) := by
  funext i
  idx_vars i
  exact (G8_apply m c i0 i1).trans (r_dh R i0 i1).symm

theorem G9_eq : Value.G9 m c = val_main_v60 (F := Ideal) (H m c) (GN m c) (WG m c) (WU m c) (WD m c) (DO m c) := by
  funext i
  idx_vars i
  refine (G9_apply m c i0 i1 i2).trans (Eq.trans (r_da R i1 _).symm ?_)
  unfold val_main_v60 val_main_v59 val_main_v58
  pointwise

theorem G12_eq : Value.G12 m c = val_main_v67 (F := Ideal) (H m c) (GN m c) (WG m c) (WU m c) (WD m c) (DO m c) := by
  funext i
  idx_vars i
  exact (G12_apply m c i0 i1).trans (r_dg R i0 i1).symm

end

theorem G10_eq : Value.G10 m c = val_main_v63 (F := Ideal) (H m c) (GN m c) (WG m c) (WD m c) (DO m c) := by
  funext i
  idx_vars i
  refine (G10_apply m c i0 i1 i2).trans (Eq.trans (r_db m c i1 _).symm ?_)
  unfold val_main_v63 val_main_v62 val_main_v61
  pointwise

theorem G11_eq : Value.G11 m c = val_main_v66 (F := Ideal) (H m c) (GN m c) (WG m c) (WU m c) := by
  funext i
  idx_vars i
  refine (G11_apply m c i0 i1 i2).trans (Eq.trans (r_s m c i1 _).symm ?_)
  unfold val_main_v66 val_main_v65 val_main_v64
  pointwise

end Cert.ActIdeal.Ref

namespace Cert.ActValue

open Cert.ActIdeal.Ref Idealize.ShloMosaic Idealize.ShloMosaic.TcCoe Idealize.SL.Sem

/-- The gradients the kernel leaves are the reference's, from any memory whose argument arrays are finite. -/
theorem algebraic : Cert.algebraic_ActIdeal_ActRefIdeal_pre_finite := by
  intro m g m' g' hp hargs
  refine ⟨_, _, _, _, _, (θ_run Cert.ActIdeal.defs _ _).mono (fun r h => h) (Cert.ActIdeal.Value.run m g),
    (θ_run Cert.ActRefIdeal.defs _ _).mono (fun r h c => ?_) (Cert.ActRefIdeal.Value.run m' g')⟩
  obtain ⟨h57, h60, h63, h66, h67, hk⟩ := h c
  obtain ⟨a0, a1, a2, a3, a4, a5⟩ := hargs c
  have R := Cert.ActIdeal.Pre.real_of_pre m hp c
  refine ⟨?_, ?_, ?_, ?_, ?_, hk⟩
  · rw [h57, Cert.ActRefIdeal.Read.val_main_v57_eq, a0, a1, a2, a3, a4, a5]
    exact (G8_eq R).symm
  · rw [h60, Cert.ActRefIdeal.Read.val_main_v60_eq, a0, a1, a2, a3, a4, a5]
    exact (G9_eq R).symm
  · rw [h63, Cert.ActRefIdeal.Read.val_main_v63_eq, a0, a1, a2, a4, a5]
    exact (G10_eq m c).symm
  · rw [h66, Cert.ActRefIdeal.Read.val_main_v66_eq, a0, a1, a2, a3]
    exact (G11_eq m c).symm
  · rw [h67, Cert.ActRefIdeal.Read.val_main_v67_eq, a0, a1, a2, a3, a4, a5]
    exact (G12_eq R).symm

/-- The reference leaves its arguments and has no semaphore. -/
theorem frame_ref : Cert.quiescent_ActRefIdeal := fun m g _ =>
  (θ_run Cert.ActRefIdeal.defs _ _).mono (fun r h => ⟨fun c => (h c).2.2.2.2.2, sem_eq_zero_of_no_sems (by decide) r.2⟩)
    (Cert.ActRefIdeal.Value.run m g)

end Cert.ActValue

end
-- ==== Proof.FwdIdealRun.lean ====
/- The body of `FwdIdeal`'s kernel, run once for each of the three kinds of grid point: the first, the middle and the last of the
   four column blocks of a row block. Each run names the pieces stored into every block and into the accumulator. -/
module

public import proofs.«01_k».proof.Proof.Gen.FwdIdeal.Frame
public import proofs.«01_k».proof.Proof.Gen.FwdIdeal.Skeleton

@[expose] public section

set_option maxRecDepth 16384

noncomputable section

namespace Cert.FwdIdeal.Hand

open Cert.FwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the first of a row block's four points the body fills the normalised rows (window 6) and the accumulator, and leaves the
    result's block (window 5) as it found it. -/
noncomputable def runFirst (c : Dev nD) (i : grid0.Coords)
    (arg2 : Memref sig .tc .vmem S1024x1024 .f32) (harg2 : arg2.IsWhole)
    (arg3 : Memref sig .tc .vmem S1x1024 .f32) (harg3 : arg3.IsWhole)
    (arg4 : Memref sig .tc .vmem S1x704x1024 .bf16) (harg4 : arg4.IsWhole)
    (arg5 : Memref sig .tc .vmem S1x704x1024 .bf16) (harg5 : arg5.IsWhole)
    (arg6 : Memref sig .tc .vmem S1x704x1024 .bf16) (harg6 : arg6.IsWhole)
    (arg7 : Memref sig .tc .vmem S1024x1024 .f32) (harg7 : arg7.IsWhole)
    (arg8 : Memref sig .tc .vmem S1024x1024 .bf16) (harg8 : arg8.IsWhole)
    (arg9 : Memref sig .tc .vmem S1x1024x704 .bf16) (harg9 : arg9.IsWhole)
    (arg10 : Memref sig .tc .vmem S1x1024x704 .bf16) (harg10 : arg10.IsWhole)
    (arg11 : Memref sig .tc .vmem S1024x1024 .f32) (harg11 : arg11.IsWhole)
    (hc1 : k0_cond1 i = 1#1) (hc2 : ¬k0_cond2 i = 1#1)
    (x0 : Vec F S1024x1024 .f32) (x1 : Vec F S1x1024 .f32) (x2 x3 x4 : Vec F S1x704x1024 .bf16) :
    Σ' (L6 : List (View.Piece (Elt F) S1024x1024 .bf16)), Σ' (L7 : List (View.Piece (Elt F) S1x1024x704 .bf16)), Σ' (L8 : List (View.Piece (Elt F) S1x1024x704 .bf16)), { LS : List (View.Piece (Elt F) S1024x1024 .f32) //
      ∀ (xo : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS)) -∗ K ⟨⟩))
          ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11) K } := by
  refine ⟨?_, ?_, ?_, ?_, fun xo E K => ?run⟩
  case run =>
    simp only [cc0_ffn_fwd_eq_skeleton]; unfold cc0_ffn_fwd_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    iexists _; iexact H9

set_option maxHeartbeats 4000000 in
/-- At the two points between, it reads the normalised rows where the first point left them and adds to the accumulator. -/
noncomputable def runMiddle (c : Dev nD) (i : grid0.Coords)
    (arg2 : Memref sig .tc .vmem S1024x1024 .f32) (harg2 : arg2.IsWhole)
    (arg3 : Memref sig .tc .vmem S1x1024 .f32) (harg3 : arg3.IsWhole)
    (arg4 : Memref sig .tc .vmem S1x704x1024 .bf16) (harg4 : arg4.IsWhole)
    (arg5 : Memref sig .tc .vmem S1x704x1024 .bf16) (harg5 : arg5.IsWhole)
    (arg6 : Memref sig .tc .vmem S1x704x1024 .bf16) (harg6 : arg6.IsWhole)
    (arg7 : Memref sig .tc .vmem S1024x1024 .f32) (harg7 : arg7.IsWhole)
    (arg8 : Memref sig .tc .vmem S1024x1024 .bf16) (harg8 : arg8.IsWhole)
    (arg9 : Memref sig .tc .vmem S1x1024x704 .bf16) (harg9 : arg9.IsWhole)
    (arg10 : Memref sig .tc .vmem S1x1024x704 .bf16) (harg10 : arg10.IsWhole)
    (arg11 : Memref sig .tc .vmem S1024x1024 .f32) (harg11 : arg11.IsWhole)
    (hc1 : ¬k0_cond1 i = 1#1) (hc2 : ¬k0_cond2 i = 1#1)
    (x0 : Vec F S1024x1024 .f32) (x1 : Vec F S1x1024 .f32) (x2 x3 x4 : Vec F S1x704x1024 .bf16) (xn : Vec F S1024x1024 .bf16) (xs : Vec F S1024x1024 .f32) :
    Σ' (L7 : List (View.Piece (Elt F) S1x1024x704 .bf16)), Σ' (L8 : List (View.Piece (Elt F) S1x1024x704 .bf16)), { LS : List (View.Piece (Elt F) S1024x1024 .f32) //
      ∀ (xo : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ owns (c : Thread nD τ) arg8 fullShare xn ∗ (∃ d, owns (c : Thread nD τ) arg9 fullShare d) ∗ (∃ d, owns (c : Thread nD τ) arg10 fullShare d) ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ owns (c : Thread nD τ) arg8 fullShare xn ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS)) -∗ K ⟨⟩))
          ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11) K } := by
  refine ⟨?_, ?_, ?_, fun xo E K => ?run⟩
  case run =>
    simp only [cc0_ffn_fwd_eq_skeleton]; unfold cc0_ffn_fwd_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hf9
    sl_exec (disch := first | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexists _; iexact H9

set_option maxHeartbeats 4000000 in
/-- At the last it also stores the result's block. -/
noncomputable def runLast (c : Dev nD) (i : grid0.Coords)
    (arg2 : Memref sig .tc .vmem S1024x1024 .f32) (harg2 : arg2.IsWhole)
    (arg3 : Memref sig .tc .vmem S1x1024 .f32) (harg3 : arg3.IsWhole)
    (arg4 : Memref sig .tc .vmem S1x704x1024 .bf16) (harg4 : arg4.IsWhole)
    (arg5 : Memref sig .tc .vmem S1x704x1024 .bf16) (harg5 : arg5.IsWhole)
    (arg6 : Memref sig .tc .vmem S1x704x1024 .bf16) (harg6 : arg6.IsWhole)
    (arg7 : Memref sig .tc .vmem S1024x1024 .f32) (harg7 : arg7.IsWhole)
    (arg8 : Memref sig .tc .vmem S1024x1024 .bf16) (harg8 : arg8.IsWhole)
    (arg9 : Memref sig .tc .vmem S1x1024x704 .bf16) (harg9 : arg9.IsWhole)
    (arg10 : Memref sig .tc .vmem S1x1024x704 .bf16) (harg10 : arg10.IsWhole)
    (arg11 : Memref sig .tc .vmem S1024x1024 .f32) (harg11 : arg11.IsWhole)
    (hc1 : ¬k0_cond1 i = 1#1) (hc2 : k0_cond2 i = 1#1)
    (x0 : Vec F S1024x1024 .f32) (x1 : Vec F S1x1024 .f32) (x2 x3 x4 : Vec F S1x704x1024 .bf16) (xn : Vec F S1024x1024 .bf16) (xs : Vec F S1024x1024 .f32) :
    Σ' (L5 : List (View.Piece (Elt F) S1024x1024 .f32)), Σ' (L7 : List (View.Piece (Elt F) S1x1024x704 .bf16)), Σ' (L8 : List (View.Piece (Elt F) S1x1024x704 .bf16)), { LS : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xn ∗ (∃ d, owns (c : Thread nD τ) arg9 fullShare d) ∗ (∃ d, owns (c : Thread nD τ) arg10 fullShare d) ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xn ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS)) -∗ K ⟨⟩))
          ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_ffn_fwd_eq_skeleton]; unfold cc0_ffn_fwd_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%d8, %f8, -, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg11.eq_unread hf9
    sl_exec (disch := first | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    isplitl [H7]; · iexists _; iexact H7
    isplitl [H8]; · iexists _; iexact H8
    iexists _; iexact H9

end Cert.FwdIdeal.Hand

end
-- ==== Proof.FwdIdealFrame.lean ====
/- The frame of `FwdIdeal`: what every output block and the accumulator hold after each grid point, as functions of the input
   blocks and of what the point before left; so every run ends with the arguments unchanged, every counter at zero and the
   result arrays holding the blocks the points wrote back. -/
module

public import proofs.«01_k».proof.Proof.FwdIdealRun
public import Idealize.ShloMosaic.Lib.Claim
public import Idealize.ShloMosaic.Lib.Pipeline.TableIdle

@[expose] public section

set_option maxRecDepth 16384

noncomputable section

namespace Cert.FwdIdeal.Hand

open Cert.FwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging memrefs at a point -/

abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x704x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x704x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x704x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024x704 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024x704 .bf16 := win0_8.stage (cfg0.slots t 8)
abbrev hs0_8 (t : Fin cfg0.N) : (ms0_8 t).IsWhole := hstage0_8 ((cfg0.slots t 8).cast nbuf0_8)
/-- The accumulator. -/
abbrev scM0 : Memref sig .tc .vmem S1024x1024 .f32 := Memref.whole cc0_scratch0

/-- What the region's invariant holds besides the windows: the accumulator at something and the generator register. -/
theorem PhiA0_eq (c : Dev nD) :
    (Pipeline.ΦA spec0 c : sProp 𝕄)
      = iprop(iprop((∃ d, owns (c : Thread nD τ) scM0 fullShare d)) ∗ (∃ r, prngReg c r)) := by
  unfold Pipeline.ΦA; rw [scopedRest0_eq]; simp only [scM0, owns_whole]; try rfl

/-! ## Which point is which -/

theorem first_iff : ∀ t : Fin cfg0.N, k0_cond1 (grid0.coords t) = 1#1 ↔ t.val % 4 = 0 := by decide +kernel
theorem last_iff : ∀ t : Fin cfg0.N, k0_cond2 (grid0.coords t) = 1#1 ↔ t.val % 4 = 3 := by decide +kernel
theorem not_first {t : Fin cfg0.N} (h : ¬t.val % 4 = 0) : ¬k0_cond1 (grid0.coords t) = 1#1 := fun e => h ((first_iff t).mp e)
theorem not_last {t : Fin cfg0.N} (h : ¬t.val % 4 = 3) : ¬k0_cond2 (grid0.coords t) = 1#1 := fun e => h ((last_iff t).mp e)
theorem first_not_last {t : Fin cfg0.N} (h : t.val % 4 = 0) : ¬k0_cond2 (grid0.coords t) = 1#1 := not_last (by omega)
theorem last_not_first {t : Fin cfg0.N} (h : t.val % 4 = 3) : ¬k0_cond1 (grid0.coords t) = 1#1 := not_first (by omega)

theorem live5 : ∀ t : Fin cfg0.N, t.val % 4 = 3 → cfg0.idle 5 (grid0.coords t) = false := by decide +kernel
theorem idle5 : ∀ t : Fin cfg0.N, ¬t.val % 4 = 3 → cfg0.idle 5 (grid0.coords t) = true := by decide +kernel
theorem noFlush5 : ∀ t : Fin cfg0.N, ¬t.val % 4 = 3 → (cfg0.win 5).flush t = false := by decide +kernel
theorem live6 : ∀ t : Fin cfg0.N, t.val % 4 = 0 → cfg0.idle 6 (grid0.coords t) = false := by decide +kernel
theorem idle6 : ∀ t : Fin cfg0.N, ¬t.val % 4 = 0 → cfg0.idle 6 (grid0.coords t) = true := by decide +kernel
theorem noFlush6 : ∀ t : Fin cfg0.N, ¬t.val % 4 = 3 → (cfg0.win 6).flush t = false := by decide +kernel
theorem doesFlush6 : ∀ t : Fin cfg0.N, t.val % 4 = 3 → (cfg0.win 6).flush t = true := by decide +kernel

/-- The normalised rows' buffer holds nothing of the sweep only at a row block's first point. -/
def fresh6 (n : ℕ) : Bool := n % 4 == 0
theorem fresh6_step : ∀ t : Fin cfg0.N,
    fresh6 (t.val + 1) = ((cfg0.win 6).flush t || (cfg0.idle 6 (cfg0.grid.coords t) && fresh6 t.val)) := by decide +kernel
theorem fresh6_eq (t : Fin cfg0.N) : cfg0.fresh 6 t.val = fresh6 t.val :=
  Pipeline.Cfg.fresh_tab cfg0 6 fresh6 rfl fresh6_step t.val (Nat.le_of_lt t.isLt)
theorem notFresh6 (t : Fin cfg0.N) (h : ¬t.val % 4 = 0) : cfg0.fresh 6 t.val = false := by
  rw [fresh6_eq t]; exact beq_eq_false_iff_ne.mpr h

/-! ## What each kind of point leaves, on any staging memrefs -/

abbrev VO5 : View sig .tc .vmem S1024x1024 .f32 := (Memref.whole cc0_stg5_0 : Memref sig .tc .vmem S1024x1024 .f32).view
abbrev VO6 : View sig .tc .vmem S1024x1024 .bf16 := (Memref.whole cc0_stg6_0 : Memref sig .tc .vmem S1024x1024 .bf16).view
abbrev VO7 : View sig .tc .vmem S1x1024x704 .bf16 := (Memref.whole cc0_stg7_0 : Memref sig .tc .vmem S1x1024x704 .bf16).view
abbrev VO8 : View sig .tc .vmem S1x1024x704 .bf16 := (Memref.whole cc0_stg8_0 : Memref sig .tc .vmem S1x1024x704 .bf16).view
abbrev VS : View sig .tc .vmem S1024x1024 .f32 := scM0.view

section
variable (c : Dev nD) (i : grid0.Coords)
    (arg2 : Memref sig .tc .vmem S1024x1024 .f32) (harg2 : arg2.IsWhole)
    (arg3 : Memref sig .tc .vmem S1x1024 .f32) (harg3 : arg3.IsWhole)
    (arg4 : Memref sig .tc .vmem S1x704x1024 .bf16) (harg4 : arg4.IsWhole)
    (arg5 : Memref sig .tc .vmem S1x704x1024 .bf16) (harg5 : arg5.IsWhole)
    (arg6 : Memref sig .tc .vmem S1x704x1024 .bf16) (harg6 : arg6.IsWhole)
    (arg7 : Memref sig .tc .vmem S1024x1024 .f32) (harg7 : arg7.IsWhole)
    (arg8 : Memref sig .tc .vmem S1024x1024 .bf16) (harg8 : arg8.IsWhole)
    (arg9 : Memref sig .tc .vmem S1x1024x704 .bf16) (harg9 : arg9.IsWhole)
    (arg10 : Memref sig .tc .vmem S1x1024x704 .bf16) (harg10 : arg10.IsWhole)
    (arg11 : Memref sig .tc .vmem S1024x1024 .f32) (harg11 : arg11.IsWhole)
    (x0 : Vec F S1024x1024 .f32) (x1 : Vec F S1x1024 .f32) (x2 x3 x4 : Vec F S1x704x1024 .bf16)

theorem coverFirst6 (hc1 : k0_cond1 i = 1#1) (hc2 : ¬k0_cond2 i = 1#1) (y : S1024x1024.Idx) : ∃ pc ∈ (runFirst c i arg2 harg2 arg3 harg3 arg4 harg4 arg5 harg5 arg6 harg6 arg7 harg7 arg8 harg8 arg9 harg9 arg10 harg10 arg11 harg11 hc1 hc2 x0 x1 x2 x3 x4).1, y ∈ pc.1.set :=
  View.cover_of_wholeMem (runFirst c i arg2 harg2 arg3 harg3 arg4 harg4 arg5 harg5 arg6 harg6 arg7 harg7 arg8 harg8 arg9 harg9 arg10 harg10 arg11 harg11 hc1 hc2 x0 x1 x2 x3 x4).1 (by sl_whole_mem) y
/-- What a first point leaves in the normalised rows. -/
def outFirst6 (hc1 : k0_cond1 i = 1#1) (hc2 : ¬k0_cond2 i = 1#1) : Vec F S1024x1024 .bf16 :=
  VO6.read (Elt F) (VO6.writes (Elt F) VO6.junk (runFirst c i arg2 harg2 arg3 harg3 arg4 harg4 arg5 harg5 arg6 harg6 arg7 harg7 arg8 harg8 arg9 harg9 arg10 harg10 arg11 harg11 hc1 hc2 x0 x1 x2 x3 x4).1)
theorem coverFirst7 (hc1 : k0_cond1 i = 1#1) (hc2 : ¬k0_cond2 i = 1#1) (y : S1x1024x704.Idx) : ∃ pc ∈ (runFirst c i arg2 harg2 arg3 harg3 arg4 harg4 arg5 harg5 arg6 harg6 arg7 harg7 arg8 harg8 arg9 harg9 arg10 harg10 arg11 harg11 hc1 hc2 x0 x1 x2 x3 x4).2.1, y ∈ pc.1.set :=
  View.cover_of_tiledL (runFirst c i arg2 harg2 arg3 harg3 arg4 harg4 arg5 harg5 arg6 harg6 arg7 harg7 arg8 harg8 arg9 harg9 arg10 harg10 arg11 harg11 hc1 hc2 x0 x1 x2 x3 x4).2.1 S1x512x704.size (by sl_kernel_rfl) y
/-- What a first point leaves in the gate's block. -/
def outFirst7 (hc1 : k0_cond1 i = 1#1) (hc2 : ¬k0_cond2 i = 1#1) : Vec F S1x1024x704 .bf16 :=
  VO7.read (Elt F) (VO7.writes (Elt F) VO7.junk (runFirst c i arg2 harg2 arg3 harg3 arg4 harg4 arg5 harg5 arg6 harg6 arg7 harg7 arg8 harg8 arg9 harg9 arg10 harg10 arg11 harg11 hc1 hc2 x0 x1 x2 x3 x4).2.1)
theorem coverFirst8 (hc1 : k0_cond1 i = 1#1) (hc2 : ¬k0_cond2 i = 1#1) (y : S1x1024x704.Idx) : ∃ pc ∈ (runFirst c i arg2 harg2 arg3 harg3 arg4 harg4 arg5 harg5 arg6 harg6 arg7 harg7 arg8 harg8 arg9 harg9 arg10 harg10 arg11 harg11 hc1 hc2 x0 x1 x2 x3 x4).2.2.1, y ∈ pc.1.set :=
  View.cover_of_tiledL (runFirst c i arg2 harg2 arg3 harg3 arg4 harg4 arg5 harg5 arg6 harg6 arg7 harg7 arg8 harg8 arg9 harg9 arg10 harg10 arg11 harg11 hc1 hc2 x0 x1 x2 x3 x4).2.2.1 S1x512x704.size (by sl_kernel_rfl) y
/-- What a first point leaves in the up product's block. -/
def outFirst8 (hc1 : k0_cond1 i = 1#1) (hc2 : ¬k0_cond2 i = 1#1) : Vec F S1x1024x704 .bf16 :=
  VO8.read (Elt F) (VO8.writes (Elt F) VO8.junk (runFirst c i arg2 harg2 arg3 harg3 arg4 harg4 arg5 harg5 arg6 harg6 arg7 harg7 arg8 harg8 arg9 harg9 arg10 harg10 arg11 harg11 hc1 hc2 x0 x1 x2 x3 x4).2.2.1)
theorem coverFirstS (hc1 : k0_cond1 i = 1#1) (hc2 : ¬k0_cond2 i = 1#1) (y : S1024x1024.Idx) : ∃ pc ∈ (runFirst c i arg2 harg2 arg3 harg3 arg4 harg4 arg5 harg5 arg6 harg6 arg7 harg7 arg8 harg8 arg9 harg9 arg10 harg10 arg11 harg11 hc1 hc2 x0 x1 x2 x3 x4).2.2.2.1, y ∈ pc.1.set :=
  View.cover_of_wholeMem (runFirst c i arg2 harg2 arg3 harg3 arg4 harg4 arg5 harg5 arg6 harg6 arg7 harg7 arg8 harg8 arg9 harg9 arg10 harg10 arg11 harg11 hc1 hc2 x0 x1 x2 x3 x4).2.2.2.1 (by sl_whole_mem) y
/-- What a first point leaves in the accumulator. -/
def outFirstS (hc1 : k0_cond1 i = 1#1) (hc2 : ¬k0_cond2 i = 1#1) : Vec F S1024x1024 .f32 :=
  VS.read (Elt F) (VS.writes (Elt F) VS.junk (runFirst c i arg2 harg2 arg3 harg3 arg4 harg4 arg5 harg5 arg6 harg6 arg7 harg7 arg8 harg8 arg9 harg9 arg10 harg10 arg11 harg11 hc1 hc2 x0 x1 x2 x3 x4).2.2.2.1)
theorem coverMiddle7 (hc1 : ¬k0_cond1 i = 1#1) (hc2 : ¬k0_cond2 i = 1#1) (xn : Vec F S1024x1024 .bf16) (xs : Vec F S1024x1024 .f32) (y : S1x1024x704.Idx) : ∃ pc ∈ (runMiddle c i arg2 harg2 arg3 harg3 arg4 harg4 arg5 harg5 arg6 harg6 arg7 harg7 arg8 harg8 arg9 harg9 arg10 harg10 arg11 harg11 hc1 hc2 x0 x1 x2 x3 x4 xn xs).1, y ∈ pc.1.set :=
  View.cover_of_tiledL (runMiddle c i arg2 harg2 arg3 harg3 arg4 harg4 arg5 harg5 arg6 harg6 arg7 harg7 arg8 harg8 arg9 harg9 arg10 harg10 arg11 harg11 hc1 hc2 x0 x1 x2 x3 x4 xn xs).1 S1x512x704.size (by sl_kernel_rfl) y
/-- What a middle point leaves in the gate's block. -/
def outMiddle7 (hc1 : ¬k0_cond1 i = 1#1) (hc2 : ¬k0_cond2 i = 1#1) (xn : Vec F S1024x1024 .bf16) (xs : Vec F S1024x1024 .f32) : Vec F S1x1024x704 .bf16 :=
  VO7.read (Elt F) (VO7.writes (Elt F) VO7.junk (runMiddle c i arg2 harg2 arg3 harg3 arg4 harg4 arg5 harg5 arg6 harg6 arg7 harg7 arg8 harg8 arg9 harg9 arg10 harg10 arg11 harg11 hc1 hc2 x0 x1 x2 x3 x4 xn xs).1)
theorem coverMiddle8 (hc1 : ¬k0_cond1 i = 1#1) (hc2 : ¬k0_cond2 i = 1#1) (xn : Vec F S1024x1024 .bf16) (xs : Vec F S1024x1024 .f32) (y : S1x1024x704.Idx) : ∃ pc ∈ (runMiddle c i arg2 harg2 arg3 harg3 arg4 harg4 arg5 harg5 arg6 harg6 arg7 harg7 arg8 harg8 arg9 harg9 arg10 harg10 arg11 harg11 hc1 hc2 x0 x1 x2 x3 x4 xn xs).2.1, y ∈ pc.1.set :=
  View.cover_of_tiledL (runMiddle c i arg2 harg2 arg3 harg3 arg4 harg4 arg5 harg5 arg6 harg6 arg7 harg7 arg8 harg8 arg9 harg9 arg10 harg10 arg11 harg11 hc1 hc2 x0 x1 x2 x3 x4 xn xs).2.1 S1x512x704.size (by sl_kernel_rfl) y
/-- What a middle point leaves in the up product's block. -/
def outMiddle8 (hc1 : ¬k0_cond1 i = 1#1) (hc2 : ¬k0_cond2 i = 1#1) (xn : Vec F S1024x1024 .bf16) (xs : Vec F S1024x1024 .f32) : Vec F S1x1024x704 .bf16 :=
  VO8.read (Elt F) (VO8.writes (Elt F) VO8.junk (runMiddle c i arg2 harg2 arg3 harg3 arg4 harg4 arg5 harg5 arg6 harg6 arg7 harg7 arg8 harg8 arg9 harg9 arg10 harg10 arg11 harg11 hc1 hc2 x0 x1 x2 x3 x4 xn xs).2.1)
theorem coverMiddleS (hc1 : ¬k0_cond1 i = 1#1) (hc2 : ¬k0_cond2 i = 1#1) (xn : Vec F S1024x1024 .bf16) (xs : Vec F S1024x1024 .f32) (y : S1024x1024.Idx) : ∃ pc ∈ (runMiddle c i arg2 harg2 arg3 harg3 arg4 harg4 arg5 harg5 arg6 harg6 arg7 harg7 arg8 harg8 arg9 harg9 arg10 harg10 arg11 harg11 hc1 hc2 x0 x1 x2 x3 x4 xn xs).2.2.1, y ∈ pc.1.set :=
  View.cover_of_tiledL (runMiddle c i arg2 harg2 arg3 harg3 arg4 harg4 arg5 harg5 arg6 harg6 arg7 harg7 arg8 harg8 arg9 harg9 arg10 harg10 arg11 harg11 hc1 hc2 x0 x1 x2 x3 x4 xn xs).2.2.1 S512x1024.size (by sl_kernel_rfl) y
/-- What a middle point leaves in the accumulator. -/
def outMiddleS (hc1 : ¬k0_cond1 i = 1#1) (hc2 : ¬k0_cond2 i = 1#1) (xn : Vec F S1024x1024 .bf16) (xs : Vec F S1024x1024 .f32) : Vec F S1024x1024 .f32 :=
  VS.read (Elt F) (VS.writes (Elt F) VS.junk (runMiddle c i arg2 harg2 arg3 harg3 arg4 harg4 arg5 harg5 arg6 harg6 arg7 harg7 arg8 harg8 arg9 harg9 arg10 harg10 arg11 harg11 hc1 hc2 x0 x1 x2 x3 x4 xn xs).2.2.1)
theorem coverLast5 (hc1 : ¬k0_cond1 i = 1#1) (hc2 : k0_cond2 i = 1#1) (xn : Vec F S1024x1024 .bf16) (xs : Vec F S1024x1024 .f32) (y : S1024x1024.Idx) : ∃ pc ∈ (runLast c i arg2 harg2 arg3 harg3 arg4 harg4 arg5 harg5 arg6 harg6 arg7 harg7 arg8 harg8 arg9 harg9 arg10 harg10 arg11 harg11 hc1 hc2 x0 x1 x2 x3 x4 xn xs).1, y ∈ pc.1.set :=
  View.cover_of_wholeMem (runLast c i arg2 harg2 arg3 harg3 arg4 harg4 arg5 harg5 arg6 harg6 arg7 harg7 arg8 harg8 arg9 harg9 arg10 harg10 arg11 harg11 hc1 hc2 x0 x1 x2 x3 x4 xn xs).1 (by sl_whole_mem) y
/-- What a last point leaves in the result's block. -/
def outLast5 (hc1 : ¬k0_cond1 i = 1#1) (hc2 : k0_cond2 i = 1#1) (xn : Vec F S1024x1024 .bf16) (xs : Vec F S1024x1024 .f32) : Vec F S1024x1024 .f32 :=
  VO5.read (Elt F) (VO5.writes (Elt F) VO5.junk (runLast c i arg2 harg2 arg3 harg3 arg4 harg4 arg5 harg5 arg6 harg6 arg7 harg7 arg8 harg8 arg9 harg9 arg10 harg10 arg11 harg11 hc1 hc2 x0 x1 x2 x3 x4 xn xs).1)
theorem coverLast7 (hc1 : ¬k0_cond1 i = 1#1) (hc2 : k0_cond2 i = 1#1) (xn : Vec F S1024x1024 .bf16) (xs : Vec F S1024x1024 .f32) (y : S1x1024x704.Idx) : ∃ pc ∈ (runLast c i arg2 harg2 arg3 harg3 arg4 harg4 arg5 harg5 arg6 harg6 arg7 harg7 arg8 harg8 arg9 harg9 arg10 harg10 arg11 harg11 hc1 hc2 x0 x1 x2 x3 x4 xn xs).2.1, y ∈ pc.1.set :=
  View.cover_of_tiledL (runLast c i arg2 harg2 arg3 harg3 arg4 harg4 arg5 harg5 arg6 harg6 arg7 harg7 arg8 harg8 arg9 harg9 arg10 harg10 arg11 harg11 hc1 hc2 x0 x1 x2 x3 x4 xn xs).2.1 S1x512x704.size (by sl_kernel_rfl) y
/-- What a last point leaves in the gate's block. -/
def outLast7 (hc1 : ¬k0_cond1 i = 1#1) (hc2 : k0_cond2 i = 1#1) (xn : Vec F S1024x1024 .bf16) (xs : Vec F S1024x1024 .f32) : Vec F S1x1024x704 .bf16 :=
  VO7.read (Elt F) (VO7.writes (Elt F) VO7.junk (runLast c i arg2 harg2 arg3 harg3 arg4 harg4 arg5 harg5 arg6 harg6 arg7 harg7 arg8 harg8 arg9 harg9 arg10 harg10 arg11 harg11 hc1 hc2 x0 x1 x2 x3 x4 xn xs).2.1)
theorem coverLast8 (hc1 : ¬k0_cond1 i = 1#1) (hc2 : k0_cond2 i = 1#1) (xn : Vec F S1024x1024 .bf16) (xs : Vec F S1024x1024 .f32) (y : S1x1024x704.Idx) : ∃ pc ∈ (runLast c i arg2 harg2 arg3 harg3 arg4 harg4 arg5 harg5 arg6 harg6 arg7 harg7 arg8 harg8 arg9 harg9 arg10 harg10 arg11 harg11 hc1 hc2 x0 x1 x2 x3 x4 xn xs).2.2.1, y ∈ pc.1.set :=
  View.cover_of_tiledL (runLast c i arg2 harg2 arg3 harg3 arg4 harg4 arg5 harg5 arg6 harg6 arg7 harg7 arg8 harg8 arg9 harg9 arg10 harg10 arg11 harg11 hc1 hc2 x0 x1 x2 x3 x4 xn xs).2.2.1 S1x512x704.size (by sl_kernel_rfl) y
/-- What a last point leaves in the up product's block. -/
def outLast8 (hc1 : ¬k0_cond1 i = 1#1) (hc2 : k0_cond2 i = 1#1) (xn : Vec F S1024x1024 .bf16) (xs : Vec F S1024x1024 .f32) : Vec F S1x1024x704 .bf16 :=
  VO8.read (Elt F) (VO8.writes (Elt F) VO8.junk (runLast c i arg2 harg2 arg3 harg3 arg4 harg4 arg5 harg5 arg6 harg6 arg7 harg7 arg8 harg8 arg9 harg9 arg10 harg10 arg11 harg11 hc1 hc2 x0 x1 x2 x3 x4 xn xs).2.2.1)
theorem coverLastS (hc1 : ¬k0_cond1 i = 1#1) (hc2 : k0_cond2 i = 1#1) (xn : Vec F S1024x1024 .bf16) (xs : Vec F S1024x1024 .f32) (y : S1024x1024.Idx) : ∃ pc ∈ (runLast c i arg2 harg2 arg3 harg3 arg4 harg4 arg5 harg5 arg6 harg6 arg7 harg7 arg8 harg8 arg9 harg9 arg10 harg10 arg11 harg11 hc1 hc2 x0 x1 x2 x3 x4 xn xs).2.2.2.1, y ∈ pc.1.set :=
  View.cover_of_tiledL (runLast c i arg2 harg2 arg3 harg3 arg4 harg4 arg5 harg5 arg6 harg6 arg7 harg7 arg8 harg8 arg9 harg9 arg10 harg10 arg11 harg11 hc1 hc2 x0 x1 x2 x3 x4 xn xs).2.2.2.1 S512x1024.size (by sl_kernel_rfl) y
/-- What a last point leaves in the accumulator. -/
def outLastS (hc1 : ¬k0_cond1 i = 1#1) (hc2 : k0_cond2 i = 1#1) (xn : Vec F S1024x1024 .bf16) (xs : Vec F S1024x1024 .f32) : Vec F S1024x1024 .f32 :=
  VS.read (Elt F) (VS.writes (Elt F) VS.junk (runLast c i arg2 harg2 arg3 harg3 arg4 harg4 arg5 harg5 arg6 harg6 arg7 harg7 arg8 harg8 arg9 harg9 arg10 harg10 arg11 harg11 hc1 hc2 x0 x1 x2 x3 x4 xn xs).2.2.2.1)
end

/-! ## The same at a point of the grid -/

/-- The normalised rows and the accumulator. -/
abbrev St (F : FTy → Type) [FloatOps F] := Vec F S1024x1024 .bf16 × Vec F S1024x1024 .f32

def atFirst6 (c : Dev nD) (t : Fin cfg0.N) (h : t.val % 4 = 0) : Vec F S1024x1024 .bf16 :=
  outFirst6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _) (iblk m c 0 t) (iblk m c 1 t) (iblk m c 2 t) (iblk m c 3 t) (iblk m c 4 t) ((first_iff t).mpr h) (first_not_last h)
def atFirst7 (c : Dev nD) (t : Fin cfg0.N) (h : t.val % 4 = 0) : Vec F S1x1024x704 .bf16 :=
  outFirst7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _) (iblk m c 0 t) (iblk m c 1 t) (iblk m c 2 t) (iblk m c 3 t) (iblk m c 4 t) ((first_iff t).mpr h) (first_not_last h)
def atFirst8 (c : Dev nD) (t : Fin cfg0.N) (h : t.val % 4 = 0) : Vec F S1x1024x704 .bf16 :=
  outFirst8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _) (iblk m c 0 t) (iblk m c 1 t) (iblk m c 2 t) (iblk m c 3 t) (iblk m c 4 t) ((first_iff t).mpr h) (first_not_last h)
def atFirstS (c : Dev nD) (t : Fin cfg0.N) (h : t.val % 4 = 0) : Vec F S1024x1024 .f32 :=
  outFirstS c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _) (iblk m c 0 t) (iblk m c 1 t) (iblk m c 2 t) (iblk m c 3 t) (iblk m c 4 t) ((first_iff t).mpr h) (first_not_last h)
def atMiddle7 (c : Dev nD) (t : Fin cfg0.N) (h : ¬t.val % 4 = 0) (h' : ¬t.val % 4 = 3) (s : St F) : Vec F S1x1024x704 .bf16 :=
  outMiddle7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _) (iblk m c 0 t) (iblk m c 1 t) (iblk m c 2 t) (iblk m c 3 t) (iblk m c 4 t) (not_first h) (not_last h') s.1 s.2
def atMiddle8 (c : Dev nD) (t : Fin cfg0.N) (h : ¬t.val % 4 = 0) (h' : ¬t.val % 4 = 3) (s : St F) : Vec F S1x1024x704 .bf16 :=
  outMiddle8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _) (iblk m c 0 t) (iblk m c 1 t) (iblk m c 2 t) (iblk m c 3 t) (iblk m c 4 t) (not_first h) (not_last h') s.1 s.2
def atMiddleS (c : Dev nD) (t : Fin cfg0.N) (h : ¬t.val % 4 = 0) (h' : ¬t.val % 4 = 3) (s : St F) : Vec F S1024x1024 .f32 :=
  outMiddleS c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _) (iblk m c 0 t) (iblk m c 1 t) (iblk m c 2 t) (iblk m c 3 t) (iblk m c 4 t) (not_first h) (not_last h') s.1 s.2
def atLast5 (c : Dev nD) (t : Fin cfg0.N) (h : t.val % 4 = 3) (s : St F) : Vec F S1024x1024 .f32 :=
  outLast5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _) (iblk m c 0 t) (iblk m c 1 t) (iblk m c 2 t) (iblk m c 3 t) (iblk m c 4 t) (last_not_first h) ((last_iff t).mpr h) s.1 s.2
def atLast7 (c : Dev nD) (t : Fin cfg0.N) (h : t.val % 4 = 3) (s : St F) : Vec F S1x1024x704 .bf16 :=
  outLast7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _) (iblk m c 0 t) (iblk m c 1 t) (iblk m c 2 t) (iblk m c 3 t) (iblk m c 4 t) (last_not_first h) ((last_iff t).mpr h) s.1 s.2
def atLast8 (c : Dev nD) (t : Fin cfg0.N) (h : t.val % 4 = 3) (s : St F) : Vec F S1x1024x704 .bf16 :=
  outLast8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _) (iblk m c 0 t) (iblk m c 1 t) (iblk m c 2 t) (iblk m c 3 t) (iblk m c 4 t) (last_not_first h) ((last_iff t).mpr h) s.1 s.2
def atLastS (c : Dev nD) (t : Fin cfg0.N) (h : t.val % 4 = 3) (s : St F) : Vec F S1024x1024 .f32 :=
  outLastS c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _) (iblk m c 0 t) (iblk m c 1 t) (iblk m c 2 t) (iblk m c 3 t) (iblk m c 4 t) (last_not_first h) ((last_iff t).mpr h) s.1 s.2

/-- What a point makes of the normalised rows and the accumulator the point before left. -/
def step (c : Dev nD) (t : Fin cfg0.N) (s : St F) : St F :=
  if h : t.val % 4 = 0 then (atFirst6 m c t h, atFirstS m c t h)
  else if h' : t.val % 4 = 3 then (s.1, atLastS m c t h' s)
  else (s.1, atMiddleS m c t h h' s)

/-- The normalised rows and the accumulator after point `n`. -/
def stAt (c : Dev nD) : (n : ℕ) → n < cfg0.N → St F
  | 0, h => step m c ⟨0, h⟩ (VO6.read (Elt F) VO6.junk, VS.read (Elt F) VS.junk)
  | n + 1, h => step m c ⟨n + 1, h⟩ (stAt c n (Nat.lt_of_succ_lt h))

/-- … and before it. -/
def prev (c : Dev nD) (t : Fin cfg0.N) : St F := stAt m c (t.val - 1) (Nat.lt_of_le_of_lt (Nat.sub_le _ _) t.isLt)

theorem step_first (c : Dev nD) (t : Fin cfg0.N) (s : St F) (h : t.val % 4 = 0) : step m c t s = (atFirst6 m c t h, atFirstS m c t h) := by
  unfold step; rw [dif_pos h]
theorem step_last (c : Dev nD) (t : Fin cfg0.N) (s : St F) (h : t.val % 4 = 3) : step m c t s = (s.1, atLastS m c t h s) := by
  unfold step; rw [dif_neg (by omega), dif_pos h]
theorem step_middle (c : Dev nD) (t : Fin cfg0.N) (s : St F) (h : ¬t.val % 4 = 0) (h' : ¬t.val % 4 = 3) :
    step m c t s = (s.1, atMiddleS m c t h h' s) := by
  unfold step; rw [dif_neg h, dif_neg h']
theorem stAt_eq (c : Dev nD) (t : Fin cfg0.N) (hz : t.val ≠ 0) : stAt m c t.val t.isLt = step m c t (prev m c t) := by
  obtain ⟨n, hn⟩ := t
  cases n with
  | zero => exact absurd rfl hz
  | succ n => rfl

theorem stAt_first (c : Dev nD) (t : Fin cfg0.N) (h : t.val % 4 = 0) : stAt m c t.val t.isLt = (atFirst6 m c t h, atFirstS m c t h) := by
  by_cases hz : t.val = 0
  · obtain ⟨n, hn⟩ := t
    obtain rfl : n = 0 := hz
    exact step_first m c ⟨0, hn⟩ _ h
  · rw [stAt_eq m c t hz, step_first m c t _ h]
theorem stAt_last (c : Dev nD) (t : Fin cfg0.N) (h : t.val % 4 = 3) : stAt m c t.val t.isLt = ((prev m c t).1, atLastS m c t h (prev m c t)) := by
  rw [stAt_eq m c t (by omega), step_last m c t _ h]
theorem stAt_middle (c : Dev nD) (t : Fin cfg0.N) (h : ¬t.val % 4 = 0) (h' : ¬t.val % 4 = 3) :
    stAt m c t.val t.isLt = ((prev m c t).1, atMiddleS m c t h h' (prev m c t)) := by
  rw [stAt_eq m c t (by omega), step_middle m c t _ h h']
theorem stAt_carry (c : Dev nD) (t : Fin cfg0.N) (h : ¬t.val % 4 = 0) : (stAt m c t.val t.isLt).1 = (prev m c t).1 := by
  by_cases h' : t.val % 4 = 3
  · rw [stAt_last m c t h']
  · rw [stAt_middle m c t h h']

/-- The result's block after point `t`: stored at a last point, and nothing of note elsewhere. -/
def res (c : Dev nD) (t : Fin cfg0.N) : Vec F S1024x1024 .f32 :=
  if h : t.val % 4 = 3 then atLast5 m c t h (prev m c t) else VO5.read (Elt F) VO5.junk
theorem res_last (c : Dev nD) (t : Fin cfg0.N) (h : t.val % 4 = 3) : res m c t = atLast5 m c t h (prev m c t) := dif_pos h

/-- The gate's block after point `t`. -/
def gate (c : Dev nD) (t : Fin cfg0.N) : Vec F S1x1024x704 .bf16 :=
  if h : t.val % 4 = 0 then atFirst7 m c t h
  else if h' : t.val % 4 = 3 then atLast7 m c t h' (prev m c t)
  else atMiddle7 m c t h h' (prev m c t)
theorem gate_first (c : Dev nD) (t : Fin cfg0.N) (h : t.val % 4 = 0) : gate m c t = atFirst7 m c t h := dif_pos h
theorem gate_last (c : Dev nD) (t : Fin cfg0.N) (h : t.val % 4 = 3) : gate m c t = atLast7 m c t h (prev m c t) :=
  (dif_neg (by omega)).trans (dif_pos h)
theorem gate_middle (c : Dev nD) (t : Fin cfg0.N) (h : ¬t.val % 4 = 0) (h' : ¬t.val % 4 = 3) : gate m c t = atMiddle7 m c t h h' (prev m c t) :=
  (dif_neg h).trans (dif_neg h')

/-- The up product's block after point `t`. -/
def up (c : Dev nD) (t : Fin cfg0.N) : Vec F S1x1024x704 .bf16 :=
  if h : t.val % 4 = 0 then atFirst8 m c t h
  else if h' : t.val % 4 = 3 then atLast8 m c t h' (prev m c t)
  else atMiddle8 m c t h h' (prev m c t)
theorem up_first (c : Dev nD) (t : Fin cfg0.N) (h : t.val % 4 = 0) : up m c t = atFirst8 m c t h := dif_pos h
theorem up_last (c : Dev nD) (t : Fin cfg0.N) (h : t.val % 4 = 3) : up m c t = atLast8 m c t h (prev m c t) :=
  (dif_neg (by omega)).trans (dif_pos h)
theorem up_middle (c : Dev nD) (t : Fin cfg0.N) (h : ¬t.val % 4 = 0) (h' : ¬t.val % 4 = 3) : up m c t = atMiddle8 m c t h h' (prev m c t) :=
  (dif_neg h).trans (dif_neg h')

/-- The region's invariant before position `n`: the accumulator at what the point before left in it. -/
def PhiS (c : Dev nD) : (n : ℕ) → n ≤ cfg0.N → sProp 𝕄
  | 0, _ => Pipeline.ΦA spec0 c
  | n + 1, hn => iprop(iprop(owns (c : Thread nD τ) scM0 fullShare (stAt m c n hn).2) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0 fullShare (stAt m c n hn).2) ∗ (∃ r, prngReg c r)) := rfl
theorem PhiS_pos (c : Dev nD) (n : ℕ) (h : n ≤ cfg0.N) (hz : n ≠ 0) :
    PhiS m c n h = iprop(iprop(owns (c : Thread nD τ) scM0 fullShare (stAt m c (n - 1) (by omega)).2) ∗ (∃ r, prngReg c r)) := by
  cases n with
  | zero => exact absurd rfl hz
  | succ n => rfl

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => res m c t
    | ⟨6, _⟩ => (stAt m c t.val t.isLt).1
    | ⟨7, _⟩ => gate m c t
    | ⟨8, _⟩ => up m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = res m c t := by dsimp only [dats]
theorem after0_6 (c : Dev nD) (t : Fin cfg0.N) : (dats m 0 c).after 6 t = (stAt m c t.val t.isLt).1 := by dsimp only [dats]
theorem after0_7 (c : Dev nD) (t : Fin cfg0.N) : (dats m 0 c).after 7 t = gate m c t := by dsimp only [dats]
theorem after0_8 (c : Dev nD) (t : Fin cfg0.N) : (dats m 0 c).after 8 t = up m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The normalised rows carry through the points that leave them alone, -/
theorem carry6 (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t _ hi _
  have h : ¬t.val % 4 = 0 := fun h => by rw [live6 t h] at hi; exact absurd hi Bool.false_ne_true
  rw [after0_6, after0_6, stAt_carry m c t h]
  rfl
/-- and so a later point of a row block finds them where the first left them. -/
theorem before0_6 (c : Dev nD) (t : Fin cfg0.N) (h : ¬t.val % 4 = 0) (d) : (dats m 0 c).before 6 t d = (prev m c t).1 := by
  rw [Dat.before_out_traj _ 6 rfl (fun _ _ => rfl) (carry6 m c) t.val t rfl d, if_neg (by rw [notFresh6 t h]; exact Bool.false_ne_true)]
  dsimp only [dats]
  rfl

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 19200000 in
theorem soundFirst (c : Dev nD) (t : Fin cfg0.N) (h : t.val % 4 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [show cfg0.idle 0 (cfg0.grid.coords t) = false from rfl], after0_0]
  rw [show (dats m 0 c).leavesExact 1 t = owns (c : Thread nD τ) (ms0_1 t) fullShare ((dats m 0 c).after 1 t) from by
    unfold Dat.leavesExact; rw [show cfg0.idle 1 (cfg0.grid.coords t) = false from rfl], after0_1]
  rw [show (dats m 0 c).leavesExact 2 t = owns (c : Thread nD τ) (ms0_2 t) fullShare ((dats m 0 c).after 2 t) from by
    unfold Dat.leavesExact; rw [show cfg0.idle 2 (cfg0.grid.coords t) = false from rfl], after0_2]
  rw [show (dats m 0 c).leavesExact 3 t = owns (c : Thread nD τ) (ms0_3 t) fullShare ((dats m 0 c).after 3 t) from by
    unfold Dat.leavesExact; rw [show cfg0.idle 3 (cfg0.grid.coords t) = false from rfl], after0_3]
  rw [show (dats m 0 c).leavesExact 4 t = owns (c : Thread nD τ) (ms0_4 t) fullShare ((dats m 0 c).after 4 t) from by
    unfold Dat.leavesExact; rw [show cfg0.idle 4 (cfg0.grid.coords t) = false from rfl], after0_4]
  rw [Dat.leavesExact_idle (dats m 0 c) 5 t (idle5 t (by omega)) (noFlush5 t (by omega))]
  rw [show (dats m 0 c).leavesExact 6 t = owns (c : Thread nD τ) (ms0_6 t) fullShare ((dats m 0 c).after 6 t) from by
    unfold Dat.leavesExact; rw [show cfg0.idle 6 (cfg0.grid.coords t) = false from live6 t h], after0_6, stAt_first m c t h]
  rw [show (dats m 0 c).leavesExact 7 t = owns (c : Thread nD τ) (ms0_7 t) fullShare ((dats m 0 c).after 7 t) from by
    unfold Dat.leavesExact; rw [show cfg0.idle 7 (cfg0.grid.coords t) = false from rfl], after0_7, gate_first m c t h]
  rw [show (dats m 0 c).leavesExact 8 t = owns (c : Thread nD τ) (ms0_8 t) fullShare ((dats m 0 c).after 8 t) from by
    unfold Dat.leavesExact; rw [show cfg0.idle 8 (cfg0.grid.coords t) = false from rfl], after0_8, up_first m c t h]
  by_cases hz : t.val = 0
  · rw [PhiS_castSucc m c t, PhiS_zero m c _ _ hz, PhiA0_eq]
    unfold atFirst6 outFirst6 atFirst7 outFirst7 atFirst8 outFirst8 atFirstS outFirstS
    dsimp only
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runFirst c (grid0.coords t) _ _ _ _ _ _ _ _ _ _ _ _ _ _ _ _ _ _ _ _ ((first_iff t).mpr h) (first_not_last h) (iblk m c 0 t) (iblk m c 1 t) (iblk m c 2 t) (iblk m c 3 t) (iblk m c 4 t)).2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS]; · iexact HS
    iintro ⟨H0, H1, H2, H3, H4, H5, ⟨%e6, H6⟩, ⟨%e7, H7⟩, ⟨%e8, H8⟩, ⟨%es, HS⟩⟩
    isplitl [HS Hg]
    · isplitl [HS]
      · unfold owns; iexists _; isplitr
        swap; · iexact HS
        ipureintro; exact View.read_writes_of_cover _ _ _ _ _ (coverFirstS c _ _ _ _ _ _ _ _ _ _ _ _ _ _ _ _ _ _ _ _ _ _ _ _ _ _ _ _ )
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists d5; iexact H5
    isplitl [H6]
    · unfold owns; iexists _; isplitr
      swap; · iexact H6
      ipureintro; exact View.read_writes_of_cover _ _ _ _ _ (coverFirst6 c _ _ _ _ _ _ _ _ _ _ _ _ _ _ _ _ _ _ _ _ _ _ _ _ _ _ _ _ )
    isplitl [H7]
    · unfold owns; iexists _; isplitr
      swap; · iexact H7
      ipureintro; exact View.read_writes_of_cover _ _ _ _ _ (coverFirst7 c _ _ _ _ _ _ _ _ _ _ _ _ _ _ _ _ _ _ _ _ _ _ _ _ _ _ _ _ )
    unfold owns; iexists _; isplitr
    swap; · iexact H8
    ipureintro; exact View.read_writes_of_cover _ _ _ _ _ (coverFirst8 c _ _ _ _ _ _ _ _ _ _ _ _ _ _ _ _ _ _ _ _ _ _ _ _ _ _ _ _ )
  · rw [PhiS_castSucc m c t, PhiS_pos m c _ _ hz]
    unfold atFirst6 outFirst6 atFirst7 outFirst7 atFirst8 outFirst8 atFirstS outFirstS
    dsimp only
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runFirst c (grid0.coords t) _ _ _ _ _ _ _ _ _ _ _ _ _ _ _ _ _ _ _ _ ((first_iff t).mpr h) (first_not_last h) (iblk m c 0 t) (iblk m c 1 t) (iblk m c 2 t) (iblk m c 3 t) (iblk m c 4 t)).2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS]; · iexists _; iexact HS
    iintro ⟨H0, H1, H2, H3, H4, H5, ⟨%e6, H6⟩, ⟨%e7, H7⟩, ⟨%e8, H8⟩, ⟨%es, HS⟩⟩
    isplitl [HS Hg]
    · isplitl [HS]
      · unfold owns; iexists _; isplitr
        swap; · iexact HS
        ipureintro; exact View.read_writes_of_cover _ _ _ _ _ (coverFirstS c _ _ _ _ _ _ _ _ _ _ _ _ _ _ _ _ _ _ _ _ _ _ _ _ _ _ _ _ )
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists d5; iexact H5
    isplitl [H6]
    · unfold owns; iexists _; isplitr
      swap; · iexact H6
      ipureintro; exact View.read_writes_of_cover _ _ _ _ _ (coverFirst6 c _ _ _ _ _ _ _ _ _ _ _ _ _ _ _ _ _ _ _ _ _ _ _ _ _ _ _ _ )
    isplitl [H7]
    · unfold owns; iexists _; isplitr
      swap; · iexact H7
      ipureintro; exact View.read_writes_of_cover _ _ _ _ _ (coverFirst7 c _ _ _ _ _ _ _ _ _ _ _ _ _ _ _ _ _ _ _ _ _ _ _ _ _ _ _ _ )
    unfold owns; iexists _; isplitr
    swap; · iexact H8
    ipureintro; exact View.read_writes_of_cover _ _ _ _ _ (coverFirst8 c _ _ _ _ _ _ _ _ _ _ _ _ _ _ _ _ _ _ _ _ _ _ _ _ _ _ _ _ )

set_option maxHeartbeats 19200000 in
theorem soundMiddle (c : Dev nD) (t : Fin cfg0.N) (h : ¬t.val % 4 = 0) (h' : ¬t.val % 4 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [show cfg0.idle 0 (cfg0.grid.coords t) = false from rfl], after0_0]
  rw [show (dats m 0 c).leavesExact 1 t = owns (c : Thread nD τ) (ms0_1 t) fullShare ((dats m 0 c).after 1 t) from by
    unfold Dat.leavesExact; rw [show cfg0.idle 1 (cfg0.grid.coords t) = false from rfl], after0_1]
  rw [show (dats m 0 c).leavesExact 2 t = owns (c : Thread nD τ) (ms0_2 t) fullShare ((dats m 0 c).after 2 t) from by
    unfold Dat.leavesExact; rw [show cfg0.idle 2 (cfg0.grid.coords t) = false from rfl], after0_2]
  rw [show (dats m 0 c).leavesExact 3 t = owns (c : Thread nD τ) (ms0_3 t) fullShare ((dats m 0 c).after 3 t) from by
    unfold Dat.leavesExact; rw [show cfg0.idle 3 (cfg0.grid.coords t) = false from rfl], after0_3]
  rw [show (dats m 0 c).leavesExact 4 t = owns (c : Thread nD τ) (ms0_4 t) fullShare ((dats m 0 c).after 4 t) from by
    unfold Dat.leavesExact; rw [show cfg0.idle 4 (cfg0.grid.coords t) = false from rfl], after0_4]
  rw [Dat.leavesExact_idle (dats m 0 c) 5 t (idle5 t h') (noFlush5 t h')]
  rw [Dat.leavesExact_idle (dats m 0 c) 6 t (idle6 t h) (noFlush6 t h')]
  simp only [before0_6 m c t h]
  rw [show (dats m 0 c).leavesExact 7 t = owns (c : Thread nD τ) (ms0_7 t) fullShare ((dats m 0 c).after 7 t) from by
    unfold Dat.leavesExact; rw [show cfg0.idle 7 (cfg0.grid.coords t) = false from rfl], after0_7, gate_middle m c t h h']
  rw [show (dats m 0 c).leavesExact 8 t = owns (c : Thread nD τ) (ms0_8 t) fullShare ((dats m 0 c).after 8 t) from by
    unfold Dat.leavesExact; rw [show cfg0.idle 8 (cfg0.grid.coords t) = false from rfl], after0_8, up_middle m c t h h']
  rw [stAt_middle m c t h h']
  rw [PhiS_castSucc m c t, PhiS_pos m c _ _ (by omega), show stAt m c (t.val - 1) _ = prev m c t from rfl]
  unfold atMiddle7 outMiddle7 atMiddle8 outMiddle8 atMiddleS outMiddleS
  dsimp only
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runMiddle c (grid0.coords t) _ _ _ _ _ _ _ _ _ _ _ _ _ _ _ _ _ _ _ _ (not_first h) (not_last h') (iblk m c 0 t) (iblk m c 1 t) (iblk m c 2 t) (iblk m c 3 t) (iblk m c 4 t) (prev m c t).1 (prev m c t).2).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS]; · iexact HS
  iintro ⟨H0, H1, H2, H3, H4, H5, H6, ⟨%e7, H7⟩, ⟨%e8, H8⟩, ⟨%es, HS⟩⟩
  isplitl [HS Hg]
  · isplitl [HS]
    · unfold owns; iexists _; isplitr
      swap; · iexact HS
      ipureintro; exact View.read_writes_of_cover _ _ _ _ _ (coverMiddleS c _ _ _ _ _ _ _ _ _ _ _ _ _ _ _ _ _ _ _ _ _ _ _ _ _ _ _ _ _ _ )
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists d5; iexact H5
  isplitl [H6]; · iexists d6; iexact H6
  isplitl [H7]
  · unfold owns; iexists _; isplitr
    swap; · iexact H7
    ipureintro; exact View.read_writes_of_cover _ _ _ _ _ (coverMiddle7 c _ _ _ _ _ _ _ _ _ _ _ _ _ _ _ _ _ _ _ _ _ _ _ _ _ _ _ _ _ _ )
  unfold owns; iexists _; isplitr
  swap; · iexact H8
  ipureintro; exact View.read_writes_of_cover _ _ _ _ _ (coverMiddle8 c _ _ _ _ _ _ _ _ _ _ _ _ _ _ _ _ _ _ _ _ _ _ _ _ _ _ _ _ _ _ )

set_option maxHeartbeats 19200000 in
theorem soundLast (c : Dev nD) (t : Fin cfg0.N) (h : t.val % 4 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [show cfg0.idle 0 (cfg0.grid.coords t) = false from rfl], after0_0]
  rw [show (dats m 0 c).leavesExact 1 t = owns (c : Thread nD τ) (ms0_1 t) fullShare ((dats m 0 c).after 1 t) from by
    unfold Dat.leavesExact; rw [show cfg0.idle 1 (cfg0.grid.coords t) = false from rfl], after0_1]
  rw [show (dats m 0 c).leavesExact 2 t = owns (c : Thread nD τ) (ms0_2 t) fullShare ((dats m 0 c).after 2 t) from by
    unfold Dat.leavesExact; rw [show cfg0.idle 2 (cfg0.grid.coords t) = false from rfl], after0_2]
  rw [show (dats m 0 c).leavesExact 3 t = owns (c : Thread nD τ) (ms0_3 t) fullShare ((dats m 0 c).after 3 t) from by
    unfold Dat.leavesExact; rw [show cfg0.idle 3 (cfg0.grid.coords t) = false from rfl], after0_3]
  rw [show (dats m 0 c).leavesExact 4 t = owns (c : Thread nD τ) (ms0_4 t) fullShare ((dats m 0 c).after 4 t) from by
    unfold Dat.leavesExact; rw [show cfg0.idle 4 (cfg0.grid.coords t) = false from rfl], after0_4]
  rw [show (dats m 0 c).leavesExact 5 t = owns (c : Thread nD τ) (ms0_5 t) fullShare ((dats m 0 c).after 5 t) from by
    unfold Dat.leavesExact; rw [show cfg0.idle 5 (cfg0.grid.coords t) = false from live5 t h], after0_5, res_last m c t h]
  rw [show (dats m 0 c).leavesExact 6 t = owns (c : Thread nD τ) (ms0_6 t) fullShare ((dats m 0 c).after 6 t) from by
    unfold Dat.leavesExact; rw [show cfg0.idle 6 (cfg0.grid.coords t) = true from idle6 t (by omega), doesFlush6 t h], after0_6, stAt_last m c t h]
  simp only [before0_6 m c t (by omega)]
  rw [show (dats m 0 c).leavesExact 7 t = owns (c : Thread nD τ) (ms0_7 t) fullShare ((dats m 0 c).after 7 t) from by
    unfold Dat.leavesExact; rw [show cfg0.idle 7 (cfg0.grid.coords t) = false from rfl], after0_7, gate_last m c t h]
  rw [show (dats m 0 c).leavesExact 8 t = owns (c : Thread nD τ) (ms0_8 t) fullShare ((dats m 0 c).after 8 t) from by
    unfold Dat.leavesExact; rw [show cfg0.idle 8 (cfg0.grid.coords t) = false from rfl], after0_8, up_last m c t h]
  rw [PhiS_castSucc m c t, PhiS_pos m c _ _ (by omega), show stAt m c (t.val - 1) _ = prev m c t from rfl]
  unfold atLast5 outLast5 atLast7 outLast7 atLast8 outLast8 atLastS outLastS
  dsimp only
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runLast c (grid0.coords t) _ _ _ _ _ _ _ _ _ _ _ _ _ _ _ _ _ _ _ _ (last_not_first h) ((last_iff t).mpr h) (iblk m c 0 t) (iblk m c 1 t) (iblk m c 2 t) (iblk m c 3 t) (iblk m c 4 t) (prev m c t).1 (prev m c t).2).2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexists _; iexact H7
  isplitl [H8]; · iexists _; iexact H8
  isplitl [HS]; · iexact HS
  iintro ⟨H0, H1, H2, H3, H4, ⟨%e5, H5⟩, H6, ⟨%e7, H7⟩, ⟨%e8, H8⟩, ⟨%es, HS⟩⟩
  isplitl [HS Hg]
  · isplitl [HS]
    · unfold owns; iexists _; isplitr
      swap; · iexact HS
      ipureintro; exact View.read_writes_of_cover _ _ _ _ _ (coverLastS c _ _ _ _ _ _ _ _ _ _ _ _ _ _ _ _ _ _ _ _ _ _ _ _ _ _ _ _ _ _ )
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (coverLast5 c _ _ _ _ _ _ _ _ _ _ _ _ _ _ _ _ _ _ _ _ _ _ _ _ _ _ _ _ _ _ )
  isplitl [H6]; · iexact H6
  isplitl [H7]
  · unfold owns; iexists _; isplitr
    swap; · iexact H7
    ipureintro; exact View.read_writes_of_cover _ _ _ _ _ (coverLast7 c _ _ _ _ _ _ _ _ _ _ _ _ _ _ _ _ _ _ _ _ _ _ _ _ _ _ _ _ _ _ )
  unfold owns; iexists _; isplitr
  swap; · iexact H8
  ipureintro; exact View.read_writes_of_cover _ _ _ _ _ (coverLast8 c _ _ _ _ _ _ _ _ _ _ _ _ _ _ _ _ _ _ _ _ _ _ _ _ _ _ _ _ _ _ )

theorem sound_body (c : Dev nD) (t : Fin cfg0.N) :
    bodyPre m c t ⊢ wp frame (wpE (defs₀ (F := F)) Variants.none c none) Set.univ (bodyAt0 t) (fun _ => bodyPost m c t) := by
  by_cases h : t.val % 4 = 0
  · exact soundFirst m c t h
  · by_cases h' : t.val % 4 = 3
    · exact soundLast m c t h'
    · exact soundMiddle m c t h h'

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 16 := N_0; omega), PhiA0_eq]
  iintro ⟨HS, Hg⟩
  isplitl [HS]
  · iexists _; iexact HS
  iexact Hg

/-! ## The run and the frame -/

set_option backward.isDefEq.respectTransparency.types false in
/-- Every run ends with each array at what the proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.FwdIdeal.Hand

end
-- ==== Proof.FwdBody.lean ====
module

public import proofs.«01_k».proof.Proof.FwdIdealFrame
public import proofs.«01_k».proof.Proof.ActMath
public import Idealize.ShloMosaic.Lib.StableHlo.RunRead
public import Idealize.ShloMosaic.Lib.Pointwise
public import Idealize.ShloMosaic.Lib.Pipeline.ValueKit
public import Idealize.ShloMosaic.Lib.WritesUnit

@[expose] public section

set_option maxRecDepth 16384
set_option maxHeartbeats 4000000

noncomputable section

namespace Cert.FwdIdeal.Body

open Cert.FwdIdeal Cert.FwdIdeal.Gen Cert.FwdIdeal.Hand Idealize.ShloMosaic Idealize.ShloMosaic.TcCoe Idealize.SL.Sem

section
variable {Val : EltTy → Type} [∀ e, Nonempty (Val e)] {s : Shape} {e : EltTy}

/-- Under the last piece, a buffer holds the piece's value. -/
theorem canon_in {off size : Fin s.rank → ℕ} (inb : ∀ a, off a + size a ≤ s.size a) (w : (Rect.unit off size inb).shape.Idx → Val e)
    (L : List (View.Piece Val s e)) (y : s.Idx) (x : (Rect.unit off size inb).shape.Idx) (hx : ∀ a, (y a).val = off a + (x a).val) :
    View.canon ((⟨Rect.unit off size inb, w⟩ : View.Piece Val s e) :: L) y = w x := by
  have hy : (Rect.unit off size inb).emb x = y := funext fun a => Fin.ext (by
    show off a + 1 * (x a).val = (y a).val
    rw [hx a, Nat.one_mul])
  rw [← hy]
  exact View.canon_cons_emb _ w L x

/-- Off the last piece, it holds what the earlier pieces left. -/
theorem canon_off {off size : Fin s.rank → ℕ} (inb : ∀ a, off a + size a ≤ s.size a) (w : (Rect.unit off size inb).shape.Idx → Val e)
    (L : List (View.Piece Val s e)) (y : s.Idx) (a : Fin s.rank) (ha : (y a).val < off a ∨ off a + size a ≤ (y a).val) :
    View.canon ((⟨Rect.unit off size inb, w⟩ : View.Piece Val s e) :: L) y = View.canon L y :=
  View.canon_cons_of_not_mem _ _ fun q => by
    have := (Rect.mem_set_unit (off := off) (size := size) (inb := inb) (i := y)).mp q a
    omega

end

/-- Two pieces that are the upper and the lower half of the rows. -/
theorem canon_rows (w0 w1 : S512x1024.Idx → EReal) (L : List (View.Piece (Elt Ideal) S1024x1024 .f32)) (r d : Fin 1024) :
    View.canon ((⟨Rect.unit ![512, 0] ![512, 1024] inb_S1024x1024_S512x1024_512_0, w1⟩ : View.Piece (Elt Ideal) S1024x1024 .f32)
      :: ⟨Rect.unit ![0, 0] ![512, 1024] inb_S1024x1024_S512x1024_0_0, w0⟩ :: L) (ix2 r d)
      = if h : r.val < 512 then w0 (ix2 ⟨r.val, h⟩ d) else w1 (ix2 ⟨r.val - 512, by omega⟩ d) := by
  by_cases h : r.val < 512
  · rw [dif_pos h]
    refine (canon_off (Val := Elt Ideal) (s := S1024x1024) (e := .f32) (off := ![512, 0]) (size := ![512, 1024]) _ w1 _ _ (0 : Fin 2) (Or.inl h)).trans
      (canon_in (Val := Elt Ideal) (s := S1024x1024) (e := .f32) (off := ![0, 0]) (size := ![512, 1024]) _ w0 L _ (ix2 ⟨r.val, h⟩ d : S512x1024.Idx) fun a => ?_)
    match a with
    | ⟨0, _⟩ => exact (Nat.zero_add _).symm
    | ⟨1, _⟩ => exact (Nat.zero_add _).symm
  · rw [dif_neg h]
    refine canon_in (Val := Elt Ideal) (s := S1024x1024) (e := .f32) (off := ![512, 0]) (size := ![512, 1024]) _ w1 _ _ (ix2 ⟨r.val - 512, by omega⟩ d : S512x1024.Idx) fun a => ?_
    match a with
    | ⟨0, _⟩ => show r.val = 512 + (r.val - 512); omega
    | ⟨1, _⟩ => exact (Nat.zero_add _).symm

/-- The same for a block of one column group. -/
theorem canon_rows_blk (w0 w1 : S1x512x704.Idx → EReal) (L : List (View.Piece (Elt Ideal) S1x1024x704 .bf16)) (a : Fin 1) (r : Fin 1024) (f : Fin 704) :
    View.canon ((⟨Rect.unit ![0, 512, 0] ![1, 512, 704] inb_S1x1024x704_S1x512x704_0_512_0, w1⟩ : View.Piece (Elt Ideal) S1x1024x704 .bf16)
      :: ⟨Rect.unit ![0, 0, 0] ![1, 512, 704] inb_S1x1024x704_S1x512x704_0_0_0, w0⟩ :: L) (ix3 a r f)
      = if h : r.val < 512 then w0 (ix3 a ⟨r.val, h⟩ f) else w1 (ix3 a ⟨r.val - 512, by omega⟩ f) := by
  by_cases h : r.val < 512
  · rw [dif_pos h]
    refine (canon_off (Val := Elt Ideal) (s := S1x1024x704) (e := .bf16) (off := ![0, 512, 0]) (size := ![1, 512, 704]) _ w1 _ _ (1 : Fin 3) (Or.inl h)).trans
      (canon_in (Val := Elt Ideal) (s := S1x1024x704) (e := .bf16) (off := ![0, 0, 0]) (size := ![1, 512, 704]) _ w0 L _ (ix3 a ⟨r.val, h⟩ f : S1x512x704.Idx) fun q => ?_)
    match q with
    | ⟨0, _⟩ => exact (Nat.zero_add _).symm
    | ⟨1, _⟩ => exact (Nat.zero_add _).symm
    | ⟨2, _⟩ => exact (Nat.zero_add _).symm
  · rw [dif_neg h]
    refine canon_in (Val := Elt Ideal) (s := S1x1024x704) (e := .bf16) (off := ![0, 512, 0]) (size := ![1, 512, 704]) _ w1 _ _ (ix3 a ⟨r.val - 512, by omega⟩ f : S1x512x704.Idx) fun q => ?_
    match q with
    | ⟨0, _⟩ => exact (Nat.zero_add _).symm
    | ⟨1, _⟩ => show r.val = 512 + (r.val - 512); omega
    | ⟨2, _⟩ => exact (Nat.zero_add _).symm

theorem hz2 : (![0, 0] : Fin 2 → Nat) = fun _ => 0 := by funext a; fin_cases a <;> rfl

/-- A product of the normalised rows `xn` with one block of a weight, at row `r` and column `f` of the block. -/
def prod (xn : Vec Ideal S1024x1024 .bf16) (w : Vec Ideal S1x704x1024 .bf16) (r : Fin 1024) (f : Fin 704) : EReal :=
  ∑ d : Fin 1024, xn (ix2 r d) * w (ix3 0 f d)
/-- What one column block adds to the accumulator: the gated activations times the down projection's block. -/
def part (xn : Vec Ideal S1024x1024 .bf16) (x2 x3 x4 : Vec Ideal S1x704x1024 .bf16) (r d : Fin 1024) : EReal :=
  ∑ f : Fin 704, ((prod xn x2 r f * Ideal.logistic (prod xn x2 r f)) * prod xn x3 r f) * x4 (ix3 0 f d)

/-- The normalised rows: each row over its root mean square, times the gain. -/
theorem norm_apply (x0 : Vec Ideal S1024x1024 .f32) (x1 : Vec Ideal S1x1024 .f32) (r d : Fin 1024) :
    k0_pay2 (F := Ideal) x0 x1 (ix2 r d) = x0 (ix2 r d) * ActMath.rs (fun x => x0 (ix2 r x)) * x1 (ix2 0 d) := by
  unfold ActMath.rs ActMath.ms
  unfold_payloads
  pointwise

theorem zero_eq : (k0_pay3 (F := Ideal)) = fun _ => 0 := by
  funext y
  idx_vars y
  unfold_payloads
  pointwise

/-- A load of a buffer that was stored whole reads what was stored. -/
theorem cov_whole (v : View sig .tc .vmem S1024x1024 .bf16) (w : S1024x1024.Idx → EReal) (B : LoadRect S1024x1024) :
    v.readCov (Val := Elt Ideal) [⟨Rect.unit ![0, 0] ![1024, 1024] inb_S1024x1024_S1024x1024_0_0, w⟩] B = fun j => w (B.idx j) := by
  rw [View.readCov_eq_canon', View.canon_cons_unit_zero hz2]

/-- Any load after the accumulator was set to zero reads zero. -/
theorem cov_zero (v : View sig .tc .vmem S1024x1024 .f32) (B : LoadRect S1024x1024) :
    v.readCov (Val := Elt Ideal) [⟨Rect.unit ![0, 0] ![1024, 1024] inb_S1024x1024_S1024x1024_0_0, k0_pay3 (F := Ideal)⟩] B = fun _ => (0 : EReal) := by
  rw [View.readCov_eq_canon', View.canon_cons_unit_zero hz2, zero_eq]

/-- So does a load of the lower rows after the upper rows were stored. -/
theorem cov_low (v : View sig .tc .vmem S1024x1024 .f32) (w : S512x1024.Idx → EReal) :
    v.readCov (Val := Elt Ideal) [⟨Rect.unit ![0, 0] ![512, 1024] inb_S1024x1024_S512x1024_0_0, w⟩,
      ⟨Rect.unit ![0, 0] ![1024, 1024] inb_S1024x1024_S1024x1024_0_0, k0_pay3 (F := Ideal)⟩]
      (Rect.unit ![512, 0] ![512, 1024] inb_S1024x1024_S512x1024_512_0).toLoadRect = fun _ => (0 : EReal) := by
  rw [View.readCov_eq_canon']
  funext j
  refine (canon_off (Val := Elt Ideal) (s := S1024x1024) (e := .f32) (off := ![0, 0]) (size := ![512, 1024]) _ w _ _ (0 : Fin 2) (Or.inr ?_)).trans ?_
  · show 0 + 512 ≤ 512 + 1 * (j 0).val
    omega
  · rw [View.canon_cons_unit_zero hz2, zero_eq]

/-- A whole load is at every index. -/
theorem whole_idx (y : S1024x1024.Idx) : (Rect.unit (s := S1024x1024) ![0, 0] ![1024, 1024] inb_S1024x1024_S1024x1024_0_0).toLoadRect.idx y = y := by
  funext a
  apply Fin.ext
  match a with
  | ⟨0, _⟩ => show 0 + 1 * (y 0).val = (y 0).val; omega
  | ⟨1, _⟩ => show 0 + 1 * (y 1).val = (y 1).val; omega

section
variable (c : Dev nD) (i : grid0.Coords)
    (arg2 : Memref sig .tc .vmem S1024x1024 .f32) (harg2 : arg2.IsWhole)
    (arg3 : Memref sig .tc .vmem S1x1024 .f32) (harg3 : arg3.IsWhole)
    (arg4 : Memref sig .tc .vmem S1x704x1024 .bf16) (harg4 : arg4.IsWhole)
    (arg5 : Memref sig .tc .vmem S1x704x1024 .bf16) (harg5 : arg5.IsWhole)
    (arg6 : Memref sig .tc .vmem S1x704x1024 .bf16) (harg6 : arg6.IsWhole)
    (arg7 : Memref sig .tc .vmem S1024x1024 .f32) (harg7 : arg7.IsWhole)
    (arg8 : Memref sig .tc .vmem S1024x1024 .bf16) (harg8 : arg8.IsWhole)
    (arg9 : Memref sig .tc .vmem S1x1024x704 .bf16) (harg9 : arg9.IsWhole)
    (arg10 : Memref sig .tc .vmem S1x1024x704 .bf16) (harg10 : arg10.IsWhole)
    (arg11 : Memref sig .tc .vmem S1024x1024 .f32) (harg11 : arg11.IsWhole)
    (x0 : Vec Ideal S1024x1024 .f32) (x1 : Vec Ideal S1x1024 .f32) (x2 x3 x4 : Vec Ideal S1x704x1024 .bf16) (xn : Vec Ideal S1024x1024 .bf16) (xs : Vec Ideal S1024x1024 .f32)

theorem first6 (hc1 : k0_cond1 i = 1#1) (hc2 : ¬k0_cond2 i = 1#1) : outFirst6 c i arg2 harg2 arg3 harg3 arg4 harg4 arg5 harg5 arg6 harg6 arg7 harg7 arg8 harg8 arg9 harg9 arg10 harg10 arg11 harg11 x0 x1 x2 x3 x4 hc1 hc2 = k0_pay2 (F := Ideal) x0 x1 := by
  unfold outFirst6 runFirst
  dsimp only
  sl_unfold_words
  simp only [View.readAt_eq_ld, harg2.read_unread, harg3.read_unread, harg4.read_unread, harg5.read_unread, harg6.read_unread, harg8.read_unread, harg11.read_unread]
  rw [View.ld_unit_zero (S := S1024x1024) hz2, View.ld_unit_zero (S := S1x1024) hz2]
  rw [View.read_writes_junk_eq_canon, View.canon_cons_unit_zero hz2]

theorem first7 (hc1 : k0_cond1 i = 1#1) (hc2 : ¬k0_cond2 i = 1#1) :
    outFirst7 c i arg2 harg2 arg3 harg3 arg4 harg4 arg5 harg5 arg6 harg6 arg7 harg7 arg8 harg8 arg9 harg9 arg10 harg10 arg11 harg11 x0 x1 x2 x3 x4 hc1 hc2 = fun y => prod (k0_pay2 (F := Ideal) x0 x1) x2 (y 1) (y 2) := by
  unfold outFirst7 runFirst
  dsimp only
  sl_unfold_words
  simp only [View.readAt_eq_ld, harg2.read_unread, harg3.read_unread, harg4.read_unread, harg5.read_unread, harg6.read_unread, harg8.read_unread, harg11.read_unread]
  rw [View.ld_unit_zero (S := S1024x1024) hz2, View.ld_unit_zero (S := S1x1024) hz2]
  generalize k0_pay2 (F := Ideal) x0 x1 = xn
  simp only [cov_whole]
  funext y
  idx_vars y
  obtain rfl : y0 = 0 := Subsingleton.elim _ _
  rw [View.read_writes_junk_eq_canon]
  refine (canon_rows_blk _ _ _ 0 y1 y2).trans ?_
  by_cases h : y1.val < 512
  · rw [dif_pos h]
    unfold prod
    unfold_payloads
    pointwise
  · rw [dif_neg h]
    have e : (⟨512 + (y1.val - 512), by omega⟩ : Fin 1024) = y1 := Fin.ext (by show 512 + (y1.val - 512) = y1.val; omega)
    unfold prod
    unfold_payloads
    pointwise [e]

theorem first8 (hc1 : k0_cond1 i = 1#1) (hc2 : ¬k0_cond2 i = 1#1) :
    outFirst8 c i arg2 harg2 arg3 harg3 arg4 harg4 arg5 harg5 arg6 harg6 arg7 harg7 arg8 harg8 arg9 harg9 arg10 harg10 arg11 harg11 x0 x1 x2 x3 x4 hc1 hc2 = fun y => prod (k0_pay2 (F := Ideal) x0 x1) x3 (y 1) (y 2) := by
  unfold outFirst8 runFirst
  dsimp only
  sl_unfold_words
  simp only [View.readAt_eq_ld, harg2.read_unread, harg3.read_unread, harg4.read_unread, harg5.read_unread, harg6.read_unread, harg8.read_unread, harg11.read_unread]
  rw [View.ld_unit_zero (S := S1024x1024) hz2, View.ld_unit_zero (S := S1x1024) hz2]
  generalize k0_pay2 (F := Ideal) x0 x1 = xn
  simp only [cov_whole]
  funext y
  idx_vars y
  obtain rfl : y0 = 0 := Subsingleton.elim _ _
  rw [View.read_writes_junk_eq_canon]
  refine (canon_rows_blk _ _ _ 0 y1 y2).trans ?_
  by_cases h : y1.val < 512
  · rw [dif_pos h]
    unfold prod
    unfold_payloads
    pointwise
  · rw [dif_neg h]
    have e : (⟨512 + (y1.val - 512), by omega⟩ : Fin 1024) = y1 := Fin.ext (by show 512 + (y1.val - 512) = y1.val; omega)
    unfold prod
    unfold_payloads
    pointwise [e]

theorem firstS (hc1 : k0_cond1 i = 1#1) (hc2 : ¬k0_cond2 i = 1#1) :
    outFirstS c i arg2 harg2 arg3 harg3 arg4 harg4 arg5 harg5 arg6 harg6 arg7 harg7 arg8 harg8 arg9 harg9 arg10 harg10 arg11 harg11 x0 x1 x2 x3 x4 hc1 hc2 = fun y => 0 + part (k0_pay2 (F := Ideal) x0 x1) x2 x3 x4 (y 0) (y 1) := by
  unfold outFirstS runFirst
  dsimp only
  sl_unfold_words
  simp only [View.readAt_eq_ld, harg2.read_unread, harg3.read_unread, harg4.read_unread, harg5.read_unread, harg6.read_unread, harg8.read_unread, harg11.read_unread]
  rw [View.ld_unit_zero (S := S1024x1024) hz2, View.ld_unit_zero (S := S1x1024) hz2]
  generalize k0_pay2 (F := Ideal) x0 x1 = xn
  simp only [cov_zero, cov_low, cov_whole]
  funext y
  idx_vars y
  rw [View.read_writes_junk_eq_canon]
  refine (canon_rows _ _ _ y0 y1).trans ?_
  by_cases h : y0.val < 512
  · rw [dif_pos h]
    unfold part prod
    unfold_payloads
    pointwise
  · rw [dif_neg h]
    have e : (⟨512 + (y0.val - 512), by omega⟩ : Fin 1024) = y0 := Fin.ext (by show 512 + (y0.val - 512) = y0.val; omega)
    unfold part prod
    unfold_payloads
    pointwise [e]

theorem middle7 (hc1 : ¬k0_cond1 i = 1#1) (hc2 : ¬k0_cond2 i = 1#1) :
    outMiddle7 c i arg2 harg2 arg3 harg3 arg4 harg4 arg5 harg5 arg6 harg6 arg7 harg7 arg8 harg8 arg9 harg9 arg10 harg10 arg11 harg11 x0 x1 x2 x3 x4 hc1 hc2 xn xs = fun y => prod xn x2 (y 1) (y 2) := by
  unfold outMiddle7 runMiddle
  dsimp only
  sl_unfold_words
  simp only [View.readAt_eq_ld, harg2.read_unread, harg3.read_unread, harg4.read_unread, harg5.read_unread, harg6.read_unread, harg8.read_unread, harg11.read_unread]
  funext y
  idx_vars y
  obtain rfl : y0 = 0 := Subsingleton.elim _ _
  rw [View.read_writes_junk_eq_canon]
  refine (canon_rows_blk _ _ _ 0 y1 y2).trans ?_
  by_cases h : y1.val < 512
  · rw [dif_pos h]
    unfold prod
    unfold_payloads
    pointwise
  · rw [dif_neg h]
    have e : (⟨512 + (y1.val - 512), by omega⟩ : Fin 1024) = y1 := Fin.ext (by show 512 + (y1.val - 512) = y1.val; omega)
    unfold prod
    unfold_payloads
    pointwise [e]

theorem middle8 (hc1 : ¬k0_cond1 i = 1#1) (hc2 : ¬k0_cond2 i = 1#1) :
    outMiddle8 c i arg2 harg2 arg3 harg3 arg4 harg4 arg5 harg5 arg6 harg6 arg7 harg7 arg8 harg8 arg9 harg9 arg10 harg10 arg11 harg11 x0 x1 x2 x3 x4 hc1 hc2 xn xs = fun y => prod xn x3 (y 1) (y 2) := by
  unfold outMiddle8 runMiddle
  dsimp only
  sl_unfold_words
  simp only [View.readAt_eq_ld, harg2.read_unread, harg3.read_unread, harg4.read_unread, harg5.read_unread, harg6.read_unread, harg8.read_unread, harg11.read_unread]
  funext y
  idx_vars y
  obtain rfl : y0 = 0 := Subsingleton.elim _ _
  rw [View.read_writes_junk_eq_canon]
  refine (canon_rows_blk _ _ _ 0 y1 y2).trans ?_
  by_cases h : y1.val < 512
  · rw [dif_pos h]
    unfold prod
    unfold_payloads
    pointwise
  · rw [dif_neg h]
    have e : (⟨512 + (y1.val - 512), by omega⟩ : Fin 1024) = y1 := Fin.ext (by show 512 + (y1.val - 512) = y1.val; omega)
    unfold prod
    unfold_payloads
    pointwise [e]

theorem middleS (hc1 : ¬k0_cond1 i = 1#1) (hc2 : ¬k0_cond2 i = 1#1) :
    outMiddleS c i arg2 harg2 arg3 harg3 arg4 harg4 arg5 harg5 arg6 harg6 arg7 harg7 arg8 harg8 arg9 harg9 arg10 harg10 arg11 harg11 x0 x1 x2 x3 x4 hc1 hc2 xn xs = fun y => xs y + part xn x2 x3 x4 (y 0) (y 1) := by
  unfold outMiddleS runMiddle
  dsimp only
  sl_unfold_words
  simp only [View.readAt_eq_ld, harg2.read_unread, harg3.read_unread, harg4.read_unread, harg5.read_unread, harg6.read_unread, harg8.read_unread, harg11.read_unread]
  funext y
  idx_vars y
  rw [View.read_writes_junk_eq_canon]
  refine (canon_rows _ _ _ y0 y1).trans ?_
  by_cases h : y0.val < 512
  · rw [dif_pos h]
    unfold part prod
    unfold_payloads
    pointwise
  · rw [dif_neg h]
    have e : (⟨512 + (y0.val - 512), by omega⟩ : Fin 1024) = y0 := Fin.ext (by show 512 + (y0.val - 512) = y0.val; omega)
    unfold part prod
    unfold_payloads
    pointwise [e]

theorem last7 (hc1 : ¬k0_cond1 i = 1#1) (hc2 : k0_cond2 i = 1#1) :
    outLast7 c i arg2 harg2 arg3 harg3 arg4 harg4 arg5 harg5 arg6 harg6 arg7 harg7 arg8 harg8 arg9 harg9 arg10 harg10 arg11 harg11 x0 x1 x2 x3 x4 hc1 hc2 xn xs = fun y => prod xn x2 (y 1) (y 2) := by
  unfold outLast7 runLast
  dsimp only
  sl_unfold_words
  simp only [View.readAt_eq_ld, harg2.read_unread, harg3.read_unread, harg4.read_unread, harg5.read_unread, harg6.read_unread, harg8.read_unread, harg11.read_unread]
  funext y
  idx_vars y
  obtain rfl : y0 = 0 := Subsingleton.elim _ _
  rw [View.read_writes_junk_eq_canon]
  refine (canon_rows_blk _ _ _ 0 y1 y2).trans ?_
  by_cases h : y1.val < 512
  · rw [dif_pos h]
    unfold prod
    unfold_payloads
    pointwise
  · rw [dif_neg h]
    have e : (⟨512 + (y1.val - 512), by omega⟩ : Fin 1024) = y1 := Fin.ext (by show 512 + (y1.val - 512) = y1.val; omega)
    unfold prod
    unfold_payloads
    pointwise [e]

theorem last8 (hc1 : ¬k0_cond1 i = 1#1) (hc2 : k0_cond2 i = 1#1) :
    outLast8 c i arg2 harg2 arg3 harg3 arg4 harg4 arg5 harg5 arg6 harg6 arg7 harg7 arg8 harg8 arg9 harg9 arg10 harg10 arg11 harg11 x0 x1 x2 x3 x4 hc1 hc2 xn xs = fun y => prod xn x3 (y 1) (y 2) := by
  unfold outLast8 runLast
  dsimp only
  sl_unfold_words
  simp only [View.readAt_eq_ld, harg2.read_unread, harg3.read_unread, harg4.read_unread, harg5.read_unread, harg6.read_unread, harg8.read_unread, harg11.read_unread]
  funext y
  idx_vars y
  obtain rfl : y0 = 0 := Subsingleton.elim _ _
  rw [View.read_writes_junk_eq_canon]
  refine (canon_rows_blk _ _ _ 0 y1 y2).trans ?_
  by_cases h : y1.val < 512
  · rw [dif_pos h]
    unfold prod
    unfold_payloads
    pointwise
  · rw [dif_neg h]
    have e : (⟨512 + (y1.val - 512), by omega⟩ : Fin 1024) = y1 := Fin.ext (by show 512 + (y1.val - 512) = y1.val; omega)
    unfold prod
    unfold_payloads
    pointwise [e]

theorem lastS (hc1 : ¬k0_cond1 i = 1#1) (hc2 : k0_cond2 i = 1#1) :
    outLastS c i arg2 harg2 arg3 harg3 arg4 harg4 arg5 harg5 arg6 harg6 arg7 harg7 arg8 harg8 arg9 harg9 arg10 harg10 arg11 harg11 x0 x1 x2 x3 x4 hc1 hc2 xn xs = fun y => xs y + part xn x2 x3 x4 (y 0) (y 1) := by
  unfold outLastS runLast
  dsimp only
  sl_unfold_words
  simp only [View.readAt_eq_ld, harg2.read_unread, harg3.read_unread, harg4.read_unread, harg5.read_unread, harg6.read_unread, harg8.read_unread, harg11.read_unread]
  funext y
  idx_vars y
  rw [View.read_writes_junk_eq_canon]
  refine (canon_rows _ _ _ y0 y1).trans ?_
  by_cases h : y0.val < 512
  · rw [dif_pos h]
    unfold part prod
    unfold_payloads
    pointwise
  · rw [dif_neg h]
    have e : (⟨512 + (y0.val - 512), by omega⟩ : Fin 1024) = y0 := Fin.ext (by show 512 + (y0.val - 512) = y0.val; omega)
    unfold part prod
    unfold_payloads
    pointwise [e]

theorem last5 (hc1 : ¬k0_cond1 i = 1#1) (hc2 : k0_cond2 i = 1#1) :
    outLast5 c i arg2 harg2 arg3 harg3 arg4 harg4 arg5 harg5 arg6 harg6 arg7 harg7 arg8 harg8 arg9 harg9 arg10 harg10 arg11 harg11 x0 x1 x2 x3 x4 hc1 hc2 xn xs = k0_pay1 (F := Ideal) x0 (fun y => xs y + part xn x2 x3 x4 (y 0) (y 1)) := by
  unfold outLast5 runLast
  dsimp only
  sl_unfold_words
  simp only [View.readAt_eq_ld, harg2.read_unread, harg3.read_unread, harg4.read_unread, harg5.read_unread, harg6.read_unread, harg8.read_unread, harg11.read_unread]
  rw [View.read_writes_junk_eq_canon, View.canon_cons_unit_zero hz2, View.ld_unit_zero (S := S1024x1024) hz2]
  refine congrArg (fun z => k0_pay1 (F := Ideal) x0 z) ?_
  rw [View.readCov_eq_canon']
  funext y
  idx_vars y
  refine (congrArg _ (whole_idx (ix2 y0 y1))).trans ?_
  refine (canon_rows _ _ _ y0 y1).trans ?_
  by_cases h : y0.val < 512
  · rw [dif_pos h]
    unfold part prod
    unfold_payloads
    pointwise
  · rw [dif_neg h]
    have e : (⟨512 + (y0.val - 512), by omega⟩ : Fin 1024) = y0 := Fin.ext (by show 512 + (y0.val - 512) = y0.val; omega)
    unfold part prod
    unfold_payloads
    pointwise [e]

end

theorem out_apply (x0 acc : Vec Ideal S1024x1024 .f32) (r d : Fin 1024) :
    k0_pay1 (F := Ideal) x0 acc (ix2 r d) = x0 (ix2 r d) + Ideal.ofBits .f32 0x3F000000#32 * acc (ix2 r d) := by
  unfold_payloads
  pointwise

end Cert.FwdIdeal.Body

end
-- ==== Proof.FwdHost.lean ====
module

public import proofs.«01_k».proof.Proof.FwdBody

@[expose] public section

set_option maxRecDepth 16384

noncomputable section

namespace Cert.FwdIdeal.Host

open Cert.FwdIdeal Cert.FwdIdeal.Gen Cert.FwdIdeal.Hand Idealize.ShloMosaic Idealize.ShloMosaic.TcCoe Idealize.SL.Sem Idealize.ShloMosaic.StableHlo

variable (m : (ℓ : Loc nD τ sig) → Buf (Elt Ideal) ℓ) (c : Dev nD)

/-- The tokens, the gain and the three weights. -/
def H : FVec Ideal S4096x1024 .f32 := m (c.tc.loc main_arg0)
@[inherit_doc H] def GN : FVec Ideal S1024 .f32 := m (c.tc.loc main_arg1)
@[inherit_doc H] def WG : FVec Ideal S1024x2816 .f32 := m (c.tc.loc main_arg2)
@[inherit_doc H] def WU : FVec Ideal S1024x2816 .f32 := m (c.tc.loc main_arg3)
@[inherit_doc H] def WD : FVec Ideal S2816x1024 .f32 := m (c.tc.loc main_arg4)

/-- The host's layout of a [2816, 1024] weight as four row blocks. -/
def wblocks (x : FVec Ideal S2816x1024 .f32) : FVec Ideal S4x704x1024 .bf16 :=
  shapeCast S4x704x1024 (truncf .bf16 x bitsLt_bf16_f32) shapeCasts_S2816x1024_S4x704x1024
/-- The transpose of a [1024, 2816] weight. -/
def tr (x : FVec Ideal S1024x2816 .f32) : FVec Ideal S2816x1024 .f32 :=
  transpose S2816x1024 [1, 0] x transposes_S1024x2816_S2816x1024_1_0

theorem V_gain : V m c main_v0 = (shapeCast S1x1024 (GN m c) shapeCasts_S1024_S1x1024 : FVec Ideal S1x1024 .f32) := by
  unfold V
  after_reads_simp
  rfl

theorem V_wg : V m c main_v3 = wblocks (tr (WG m c)) := by
  unfold V
  after_reads_simp
  rfl

theorem V_wu : V m c main_v6 = wblocks (tr (WU m c)) := by
  unfold V
  after_reads_simp
  rfl

theorem V_wd : V m c main_v8 = wblocks (WD m c) := by
  unfold V
  after_reads_simp
  rfl

theorem wblocks_apply (x : FVec Ideal S2816x1024 .f32) (j : Fin 4) (f : Fin 704) (d : Fin 1024) :
    wblocks x (ix3 j f d) = x (ix2 ⟨j.val * 704 + f.val, by omega⟩ d) := by
  unfold wblocks
  pointwise

theorem tr_apply (x : FVec Ideal S1024x2816 .f32) (f : Fin 2816) (d : Fin 1024) : tr x (ix2 f d) = x (ix2 d f) := by
  unfold tr
  pointwise

theorem idx_all : ∀ t : Fin grid0.N, (win0_0.index t = ![t.val / 4, 0] ∧ win0_1.index t = ![0, 0])
    ∧ (win0_2.index t = ![t.val % 4, 0, 0] ∧ win0_3.index t = ![t.val % 4, 0, 0] ∧ win0_4.index t = ![t.val % 4, 0, 0])
    ∧ (win0_5.index t = ![t.val / 4, 0] ∧ win0_6.index t = ![t.val / 4, 0])
    ∧ win0_7.index t = ![t.val % 4, t.val / 4, 0] ∧ win0_8.index t = ![t.val % 4, t.val / 4, 0] := by
  decide +kernel

theorem lt16 {n : ℕ} (h : n < cfg0.N) : n < 16 := lt_of_lt_of_eq h N_0

/-- Row `r` of point `n`'s row block, and column `f` of its column block. -/
abbrev row (n : ℕ) (h : n < 16) (r : Fin 1024) : Fin 4096 := ⟨n / 4 * 1024 + r.val, by omega⟩
@[inherit_doc row] abbrev col (n : ℕ) (f : Fin 704) : Fin 2816 := ⟨n % 4 * 704 + f.val, by omega⟩

theorem iblk_h (n : ℕ) (h : n < cfg0.N) (r : Fin 1024) (d : Fin 1024) :
    iblk m c 0 ⟨n, h⟩ (ix2 r d) = H m c (ix2 (row n (lt16 h) r) d) := by
  have e := (idx_all ⟨n, h⟩).1.1
  have he : (win0_0.blk ⟨n, h⟩).view.emb (ix2 r d) = (ix2 (row n (lt16 h) r) d : S4096x1024.Idx) := by
    blk_ext [e]
  blk_simp [iblk]
  rw [V_main_arg0, he]
  rfl

theorem iblk_g (n : ℕ) (h : n < cfg0.N) (a : Fin 1) (d : Fin 1024) :
    iblk m c 1 ⟨n, h⟩ (ix2 a d) = GN m c (ix1 d) := by
  have e := (idx_all ⟨n, h⟩).1.2
  have he : (win0_1.blk ⟨n, h⟩).view.emb (ix2 a d) = (ix2 a d : S1x1024.Idx) := by
    blk_ext [e]
  blk_simp [iblk]
  rw [V_gain, he]
  pointwise

theorem iblk_wg (n : ℕ) (h : n < cfg0.N) (a : Fin 1) (f : Fin 704) (d : Fin 1024) :
    iblk m c 2 ⟨n, h⟩ (ix3 a f d) = WG m c (ix2 d (col n f)) := by
  have e := (idx_all ⟨n, h⟩).2.1.1
  have he : (win0_2.blk ⟨n, h⟩).view.emb (ix3 a f d) = (ix3 (⟨n % 4, by omega⟩ : Fin 4) f d : S4x704x1024.Idx) := by
    blk_ext [e]
  blk_simp [iblk]
  rw [V_wg, he, wblocks_apply, tr_apply]

theorem iblk_wu (n : ℕ) (h : n < cfg0.N) (a : Fin 1) (f : Fin 704) (d : Fin 1024) :
    iblk m c 3 ⟨n, h⟩ (ix3 a f d) = WU m c (ix2 d (col n f)) := by
  have e := (idx_all ⟨n, h⟩).2.1.2.1
  have he : (win0_3.blk ⟨n, h⟩).view.emb (ix3 a f d) = (ix3 (⟨n % 4, by omega⟩ : Fin 4) f d : S4x704x1024.Idx) := by
    blk_ext [e]
  blk_simp [iblk]
  rw [V_wu, he, wblocks_apply, tr_apply]

theorem iblk_wd (n : ℕ) (h : n < cfg0.N) (a : Fin 1) (f : Fin 704) (d : Fin 1024) :
    iblk m c 4 ⟨n, h⟩ (ix3 a f d) = WD m c (ix2 (col n f) d) := by
  have e := (idx_all ⟨n, h⟩).2.1.2.2
  have he : (win0_4.blk ⟨n, h⟩).view.emb (ix3 a f d) = (ix3 (⟨n % 4, by omega⟩ : Fin 4) f d : S4x704x1024.Idx) := by
    blk_ext [e]
  blk_simp [iblk]
  rw [V_wd, he, wblocks_apply]

end Cert.FwdIdeal.Host

end
-- ==== Proof.FwdSweep.lean ====
module

public import proofs.«01_k».proof.Proof.FwdHost

@[expose] public section

set_option maxRecDepth 16384
set_option maxHeartbeats 4000000

noncomputable section

namespace Cert.FwdIdeal.Sweep

open Cert.FwdIdeal Cert.FwdIdeal.Gen Cert.FwdIdeal.Hand Cert.FwdIdeal.Host Cert.ActMath Idealize.ShloMosaic Idealize.ShloMosaic.TcCoe Idealize.SL.Sem

variable (m : (ℓ : Loc nD τ sig) → Buf (Elt Ideal) ℓ) (c : Dev nD)

/-! ## What the call computes, over whole arrays -/

/-- A token's row over its root mean square, times the gain. -/
def NO (t : Fin 4096) (d : Fin 1024) : EReal := H m c (ix2 t d) * rs (fun x => H m c (ix2 t x)) * GN m c (ix1 d)
/-- The gate's product, before the activation. -/
def XA (t : Fin 4096) (f : Fin 2816) : EReal := ∑ d : Fin 1024, NO m c t d * WG m c (ix2 d f)
/-- The up product. -/
def XB (t : Fin 4096) (f : Fin 2816) : EReal := ∑ d : Fin 1024, NO m c t d * WU m c (ix2 d f)
/-- The gated activations. -/
def SW (t : Fin 4096) (f : Fin 2816) : EReal := (XA m c t f * Ideal.logistic (XA m c t f)) * XB m c t f
/-- The block's output, before it is halved and added to the tokens. -/
def DN (t : Fin 4096) (d : Fin 1024) : EReal := ∑ f : Fin 2816, SW m c t f * WD m c (ix2 f d)

/-! ## One point -/

/-- The normalised rows of point `n`'s row block. -/
def rows (n : ℕ) (h : n < 16) : Vec Ideal S1024x1024 .bf16 := fun y => NO m c (row n h (y 0)) (y 1)
/-- What point `n` adds to the accumulator. -/
def pt (n : ℕ) (h : n < 16) (r d : Fin 1024) : EReal := ∑ f : Fin 704, SW m c (row n h r) (col n f) * WD m c (ix2 (col n f) d)

theorem pay2_rows (n : ℕ) (h : n < cfg0.N) : k0_pay2 (F := Ideal) (iblk m c 0 ⟨n, h⟩) (iblk m c 1 ⟨n, h⟩) = rows m c n (lt16 h) := by
  funext y
  idx_vars y
  refine (Body.norm_apply _ _ y0 y1).trans ?_
  simp only [iblk_h, iblk_g]
  rfl

theorem prod_a (n : ℕ) (h : n < cfg0.N) (r : Fin 1024) (f : Fin 704) :
    Body.prod (rows m c n (lt16 h)) (iblk m c 2 ⟨n, h⟩) r f = XA m c (row n (lt16 h) r) (col n f) := by
  unfold Body.prod XA
  exact Finset.sum_congr rfl fun d _ => by rw [iblk_wg]; rfl

theorem prod_b (n : ℕ) (h : n < cfg0.N) (r : Fin 1024) (f : Fin 704) :
    Body.prod (rows m c n (lt16 h)) (iblk m c 3 ⟨n, h⟩) r f = XB m c (row n (lt16 h) r) (col n f) := by
  unfold Body.prod XB
  exact Finset.sum_congr rfl fun d _ => by rw [iblk_wu]; rfl

theorem part_pt (n : ℕ) (h : n < cfg0.N) (r d : Fin 1024) :
    Body.part (rows m c n (lt16 h)) (iblk m c 2 ⟨n, h⟩) (iblk m c 3 ⟨n, h⟩) (iblk m c 4 ⟨n, h⟩) r d = pt m c n (lt16 h) r d := by
  unfold Body.part pt SW
  exact Finset.sum_congr rfl fun f _ => by rw [prod_a, prod_b, iblk_wd]

/-! ## The state the points leave -/

theorem first_state (n : ℕ) (h : n < cfg0.N) (h0 : n % 4 = 0) :
    stAt m c n h = (rows m c n (lt16 h), fun y => 0 + pt m c n (lt16 h) (y 0) (y 1)) := by
  rw [stAt_first m c ⟨n, h⟩ h0]
  refine Prod.ext ?_ ?_
  · dsimp only
    unfold atFirst6
    rw [Body.first6, pay2_rows]
  · dsimp only
    unfold atFirstS
    rw [Body.firstS, pay2_rows]
    exact funext fun y => congrArg (0 + ·) (part_pt m c n h (y 0) (y 1))

/-- The normalised rows carry from a row block's first point to its others. -/
theorem rows_state (n : ℕ) (h : n < cfg0.N) : (stAt m c n h).1 = rows m c n (lt16 h) := by
  induction n with
  | zero => rw [first_state m c 0 h rfl]
  | succ n ih =>
    by_cases h0 : (n + 1) % 4 = 0
    · rw [first_state m c (n + 1) h h0]
    · rw [stAt_carry m c ⟨n + 1, h⟩ h0]
      refine (ih (Nat.lt_of_succ_lt h)).trans ?_
      have e : ∀ r, row n (by have := lt16 h; omega) r = row (n + 1) (lt16 h) r := fun r =>
        Fin.ext (by show n / 4 * 1024 + r.val = (n + 1) / 4 * 1024 + r.val; omega)
      exact funext fun y => congrArg (fun t => NO m c t (y 1)) (e (y 0))

theorem rows_prev (n : ℕ) (h : n < cfg0.N) (h0 : ¬n % 4 = 0) : (prev m c ⟨n, h⟩).1 = rows m c n (lt16 h) := by
  rw [← stAt_carry m c ⟨n, h⟩ h0]
  exact rows_state m c n h

theorem acc_next (n : ℕ) (h : n + 1 < cfg0.N) (h0 : ¬(n + 1) % 4 = 0) (h3 : ¬(n + 1) % 4 = 3) :
    (stAt m c (n + 1) h).2 = fun y => (stAt m c n (Nat.lt_of_succ_lt h)).2 y + pt m c (n + 1) (lt16 h) (y 0) (y 1) := by
  rw [stAt_middle m c ⟨n + 1, h⟩ h0 h3]
  dsimp only
  unfold atMiddleS
  rw [Body.middleS, rows_prev m c (n + 1) h h0]
  exact funext fun y => congrArg (_ + ·) (part_pt m c (n + 1) h (y 0) (y 1))

theorem gate_eq (n : ℕ) (h : n < cfg0.N) : gate m c ⟨n, h⟩ = fun y => XA m c (row n (lt16 h) (y 1)) (col n (y 2)) := by
  have e : (fun y : S1x1024x704.Idx => Body.prod (rows m c n (lt16 h)) (iblk m c 2 ⟨n, h⟩) (y 1) (y 2))
      = fun y => XA m c (row n (lt16 h) (y 1)) (col n (y 2)) := funext fun y => prod_a m c n h (y 1) (y 2)
  rw [← e]
  by_cases h0 : n % 4 = 0
  · rw [gate_first m c ⟨n, h⟩ h0]
    unfold atFirst7
    rw [Body.first7, pay2_rows]
  · by_cases h3 : n % 4 = 3
    · rw [gate_last m c ⟨n, h⟩ h3]
      unfold atLast7
      rw [Body.last7, rows_prev m c n h h0]
    · rw [gate_middle m c ⟨n, h⟩ h0 h3]
      unfold atMiddle7
      rw [Body.middle7, rows_prev m c n h h0]

theorem up_eq (n : ℕ) (h : n < cfg0.N) : up m c ⟨n, h⟩ = fun y => XB m c (row n (lt16 h) (y 1)) (col n (y 2)) := by
  have e : (fun y : S1x1024x704.Idx => Body.prod (rows m c n (lt16 h)) (iblk m c 3 ⟨n, h⟩) (y 1) (y 2))
      = fun y => XB m c (row n (lt16 h) (y 1)) (col n (y 2)) := funext fun y => prod_b m c n h (y 1) (y 2)
  rw [← e]
  by_cases h0 : n % 4 = 0
  · rw [up_first m c ⟨n, h⟩ h0]
    unfold atFirst8
    rw [Body.first8, pay2_rows]
  · by_cases h3 : n % 4 = 3
    · rw [up_last m c ⟨n, h⟩ h3]
      unfold atLast8
      rw [Body.last8, rows_prev m c n h h0]
    · rw [up_middle m c ⟨n, h⟩ h0 h3]
      unfold atMiddle8
      rw [Body.middle8, rows_prev m c n h h0]

/-! ## The points of a row block, added up -/

/-- A sum over the 2816 columns, in four blocks of 704. -/
theorem sum_cols (f : Fin 2816 → EReal) :
    ∑ x, f x = ∑ k : Fin 4, ∑ j : Fin 704, f ⟨k.val * 704 + j.val, by omega⟩ := by
  rw [← (finProdFinEquiv (m := 4) (n := 704)).sum_comp f, Fintype.sum_prod_type]
  exact Finset.sum_congr rfl fun k _ => Finset.sum_congr rfl fun j _ =>
    congrArg f (Fin.ext (by show j.val + 704 * k.val = k.val * 704 + j.val; omega))

/-- Row `r` of row block `q`. -/
abbrev rw4 (q : Fin 4) (r : Fin 1024) : Fin 4096 := ⟨q.val * 1024 + r.val, by omega⟩

/-- Column block `k`'s share of the product. -/
def pa (q : Fin 4) (r d : Fin 1024) (k : Fin 4) : EReal :=
  ∑ f : Fin 704, SW m c (rw4 q r) ⟨k.val * 704 + f.val, by omega⟩ * WD m c (ix2 ⟨k.val * 704 + f.val, by omega⟩ d)

theorem pt_eq (q k : Fin 4) (n : ℕ) (hn : n = 4 * q.val + k.val) (h : n < 16) (r d : Fin 1024) : pt m c n h r d = pa m c q r d k := by
  unfold pt pa
  have e1 : row n h r = rw4 q r := Fin.ext (by show n / 4 * 1024 + r.val = q.val * 1024 + r.val; omega)
  have e2 : ∀ f : Fin 704, col n f = (⟨k.val * 704 + f.val, by omega⟩ : Fin 2816) := fun f =>
    Fin.ext (by show n % 4 * 704 + f.val = k.val * 704 + f.val; omega)
  simp only [e1, e2]

theorem add_four (a : Fin 4 → EReal) : 0 + a 0 + a 1 + a 2 + a 3 = ∑ k, a k := by
  rw [Fin.sum_univ_four, zero_add]

/-- The four points of a row block add up to the block's output. -/
theorem pt_sum (q : Fin 4) (r d : Fin 1024) (h0 : 4 * q.val < 16) (h1 : 4 * q.val + 1 < 16) (h2 : 4 * q.val + 2 < 16) (h3 : 4 * q.val + 3 < 16) :
    0 + pt m c (4 * q.val) h0 r d + pt m c (4 * q.val + 1) h1 r d + pt m c (4 * q.val + 2) h2 r d + pt m c (4 * q.val + 3) h3 r d
      = DN m c (rw4 q r) d := by
  rw [pt_eq m c q 0 (4 * q.val) rfl, pt_eq m c q 1 (4 * q.val + 1) rfl, pt_eq m c q 2 (4 * q.val + 2) rfl, pt_eq m c q 3 (4 * q.val + 3) rfl, add_four]
  unfold DN
  rw [sum_cols (fun f => SW m c (rw4 q r) f * WD m c (ix2 f d))]
  unfold pa
  rfl

/-- The accumulator as a row block's last point completes it. -/
theorem acc_last (q : Fin 4) (h2 : 4 * q.val + 2 < cfg0.N) (h3 : 4 * q.val + 3 < cfg0.N) :
    (fun y : S1024x1024.Idx => (stAt m c (4 * q.val + 2) h2).2 y + pt m c (4 * q.val + 3) (lt16 h3) (y 0) (y 1))
      = fun y => DN m c (rw4 q (y 0)) (y 1) := by
  funext y
  have e2 := congrFun (acc_next m c (4 * q.val + 1) h2 (by omega) (by omega)) y
  have e1 := congrFun (acc_next m c (4 * q.val) (Nat.lt_of_succ_lt h2) (by omega) (by omega)) y
  have e0 := congrFun (congrArg Prod.snd (first_state m c (4 * q.val) (Nat.lt_of_succ_lt (Nat.lt_of_succ_lt h2)) (by omega))) y
  rw [e2, e1, e0]
  exact pt_sum m c q (y 0) (y 1) _ _ _ _

/-- The result's block at a row block's last point. -/
theorem res_eq (q : Fin 4) (h3 : 4 * q.val + 3 < cfg0.N) :
    res m c ⟨4 * q.val + 3, h3⟩ = fun y => H m c (ix2 (rw4 q (y 0)) (y 1)) + Ideal.ofBits .f32 0x3F000000#32 * DN m c (rw4 q (y 0)) (y 1) := by
  rw [res_last m c ⟨4 * q.val + 3, h3⟩ (by show (4 * q.val + 3) % 4 = 3; omega)]
  unfold atLast5
  rw [Body.last5, rows_prev m c (4 * q.val + 3) h3 (by omega)]
  have e : (fun y : S1024x1024.Idx => (prev m c ⟨4 * q.val + 3, h3⟩).2 y
        + Body.part (rows m c (4 * q.val + 3) (lt16 h3)) (iblk m c 2 ⟨4 * q.val + 3, h3⟩) (iblk m c 3 ⟨4 * q.val + 3, h3⟩) (iblk m c 4 ⟨4 * q.val + 3, h3⟩) (y 0) (y 1))
      = fun y => DN m c (rw4 q (y 0)) (y 1) := by
    rw [← acc_last m c q (Nat.lt_of_succ_lt h3) h3]
    exact funext fun y => congrArg (_ + ·) (part_pt m c (4 * q.val + 3) h3 (y 0) (y 1))
  rw [e]
  funext y
  idx_vars y
  refine (Body.out_apply _ _ y0 y1).trans ?_
  rw [iblk_h]
  have er : row (4 * q.val + 3) (lt16 h3) y0 = rw4 q y0 := Fin.ext (by show (4 * q.val + 3) / 4 * 1024 + y0.val = q.val * 1024 + y0.val; omega)
  rw [er]
  rfl

/-! ## The result arrays -/

/-- Which point wrote which row. -/
theorem out_arr : (dats m 0 c).arrAt 5 cfg0.N
    = fun i : S4096x1024.Idx => H m c (ix2 (i 0) (i 1)) + Ideal.ofBits .f32 0x3F000000#32 * DN m c (i 0) (i 1) := by
  refine (dats m 0 c).arrAt_eq_of_covers 5 _ (by decide +kernel) fun t hf y => ?_
  have h3 : t.val % 4 = 3 := (flush0_5 t).mp hf
  have e := (idx_all t).2.2.1.1
  obtain ⟨n, hn⟩ := t
  obtain ⟨q, rfl⟩ : ∃ q : Fin 4, n = 4 * q.val + 3 := ⟨⟨n / 4, by have := lt16 hn; omega⟩, by dsimp only at h3 ⊢; omega⟩
  idx_vars y
  have he : (win0_5.blk ⟨4 * q.val + 3, hn⟩).view.emb (ix2 y0 y1) = (ix2 (rw4 q y0) y1 : S4096x1024.Idx) := by
    blk_ext [e]
  blk_simp
  rw [after0_5, res_eq m c q hn, he]
  rfl

theorem n_arr : (dats m 0 c).arrAt 6 cfg0.N = fun i : S4096x1024.Idx => NO m c (i 0) (i 1) := by
  refine (dats m 0 c).arrAt_eq_of_covers 6 _ (by decide +kernel) fun t hf y => ?_
  have e := (idx_all t).2.2.1.2
  obtain ⟨n, hn⟩ := t
  idx_vars y
  have he : (win0_6.blk ⟨n, hn⟩).view.emb (ix2 y0 y1) = (ix2 (row n (lt16 hn) y0) y1 : S4096x1024.Idx) := by
    blk_ext [e]
  blk_simp
  rw [after0_6, rows_state m c n hn, he]
  rfl

/-- A [4096, 2816] array's entries, laid out by blocks of 704 columns. -/
def asBlocks (f : Fin 4096 → Fin 2816 → EReal) (i : S4x4096x704.Idx) : EReal :=
  f (i 1) ⟨(i 0).val * 704 + (i 2).val, by have h0 : (i 0).val < 4 := (i 0).isLt; have h2 : (i 2).val < 704 := (i 2).isLt; omega⟩

theorem a_arr : (dats m 0 c).arrAt 7 cfg0.N = asBlocks (XA m c) := by
  refine (dats m 0 c).arrAt_eq_of_covers 7 _ (by decide +kernel) fun t hf y => ?_
  have e := (idx_all t).2.2.2.1
  obtain ⟨n, hn⟩ := t
  have hl := lt16 hn
  idx_vars y
  have he : (win0_7.blk ⟨n, hn⟩).view.emb (ix3 y0 y1 y2) = (ix3 (⟨n % 4, by omega⟩ : Fin 4) (row n (lt16 hn) y1) y2 : S4x4096x704.Idx) := by
    blk_ext [e]
  blk_simp
  rw [after0_7, gate_eq m c n hn, he]
  rfl

theorem b_arr : (dats m 0 c).arrAt 8 cfg0.N = asBlocks (XB m c) := by
  refine (dats m 0 c).arrAt_eq_of_covers 8 _ (by decide +kernel) fun t hf y => ?_
  have e := (idx_all t).2.2.2.2
  obtain ⟨n, hn⟩ := t
  have hl := lt16 hn
  idx_vars y
  have he : (win0_8.blk ⟨n, hn⟩).view.emb (ix3 y0 y1 y2) = (ix3 (⟨n % 4, by omega⟩ : Fin 4) (row n (lt16 hn) y1) y2 : S4x4096x704.Idx) := by
    blk_ext [e]
  blk_simp
  rw [after0_8, up_eq m c n hn, he]
  rfl

end Cert.FwdIdeal.Sweep

end
-- ==== Proof.FwdValue.lean ====
module

public import proofs.«01_k».proof.Defs
public import proofs.«01_k».proof.Proof.FwdSweep
public import proofs.«01_k».proof.Proof.Gen.FwdRefIdeal.Read
public import Idealize.ShloMosaic.Lib.Quiescent

@[expose] public section

set_option maxRecDepth 16384
set_option maxHeartbeats 4000000

noncomputable section

namespace Cert.FwdIdeal.Ref

open Cert.FwdIdeal Cert.FwdIdeal.Host Cert.FwdIdeal.Sweep Cert.ActMath Idealize.ShloMosaic Idealize.ShloMosaic.TcCoe Idealize.SL.Sem
open Cert.FwdRefIdeal.Read

variable (m : (ℓ : Loc nD τ sig) → Buf (Elt Ideal) ℓ) (c : Dev nD)

/-! ## The reference's arrays at an index -/

theorem r_rs (t : Fin 4096) (a : Fin 1) : val_main_v7 (F := Ideal) (H m c) (ix2 t a) = rs (fun x => H m c (ix2 t x)) := by
  unfold val_main_v7 val_main_v6 val_main_v5 val_main_v4 val_main_v3 val_main_v2 val_main_v1 val_main_v0 val_main_cst val_main_cst_0 val_main_cst_1 rs ms
  pointwise

theorem r_n (t : Fin 4096) (d : Fin 1024) : val_main_v12 (F := Ideal) (H m c) (GN m c) (ix2 t d) = NO m c t d := by
  unfold val_main_v12 val_main_v11 val_main_v10 val_main_v9 val_main_v8 NO
  pointwise [r_rs]

theorem r_a (t : Fin 4096) (f : Fin 2816) : val_main_v13 (F := Ideal) (H m c) (GN m c) (WG m c) (ix2 t f) = XA m c t f := by
  unfold val_main_v13 XA
  pointwise [r_n]

theorem r_b (t : Fin 4096) (f : Fin 2816) : val_main_v15 (F := Ideal) (H m c) (GN m c) (WU m c) (ix2 t f) = XB m c t f := by
  unfold val_main_v15 XB
  pointwise [r_n]

theorem r_sig (t : Fin 4096) (f : Fin 2816) : val_main_call0_v5 (F := Ideal) (H m c) (GN m c) (WG m c) (ix2 t f) = Ideal.logistic (XA m c t f) := by
  unfold val_main_call0_v5 val_main_call0_v4 val_main_call0_v3 val_main_call0_v2 val_main_call0_v1 val_main_call0_v0 val_main_call0_cst val_main_call0_cst_0
  pointwise [r_a]
  rfl

theorem r_s (t : Fin 4096) (f : Fin 2816) : val_main_v16 (F := Ideal) (H m c) (GN m c) (WG m c) (WU m c) (ix2 t f) = SW m c t f := by
  unfold val_main_v16 val_main_v14 SW
  pointwise [r_sig, r_a, r_b]

theorem r_out (t : Fin 4096) (d : Fin 1024) :
    val_main_v20 (F := Ideal) (H m c) (GN m c) (WG m c) (WU m c) (WD m c) (ix2 t d) = H m c (ix2 t d) + Ideal.ofBits .f32 0x3F000000#32 * DN m c t d := by
  unfold val_main_v20 val_main_v19 val_main_v18 val_main_v17 val_main_cst_2 DN
  pointwise [r_s]

/-! ## The call's results are the reference's -/

theorem out_eq : (Hand.dats m 0 c).arrAt 5 cfg0.N = val_main_v20 (F := Ideal) (H m c) (GN m c) (WG m c) (WU m c) (WD m c) := by
  rw [out_arr]
  funext i
  idx_vars i
  exact (r_out m c i0 i1).symm

theorem n_eq : (Hand.dats m 0 c).arrAt 6 cfg0.N = val_main_v21 (F := Ideal) (H m c) (GN m c) := by
  rw [n_arr]
  funext i
  idx_vars i
  refine Eq.trans (r_n m c i0 i1).symm ?_
  unfold val_main_v21
  pointwise

theorem a_eq : (Hand.dats m 0 c).arrAt 7 cfg0.N = val_main_v25 (F := Ideal) (H m c) (GN m c) (WG m c) := by
  rw [a_arr]
  funext i
  idx_vars i
  refine Eq.trans (r_a m c i1 _).symm ?_
  unfold val_main_v25 val_main_v24 val_main_v23 val_main_v22 val_main_v13
  pointwise

theorem b_eq : (Hand.dats m 0 c).arrAt 8 cfg0.N = val_main_v29 (F := Ideal) (H m c) (GN m c) (WU m c) := by
  rw [b_arr]
  funext i
  idx_vars i
  refine Eq.trans (r_b m c i1 _).symm ?_
  unfold val_main_v29 val_main_v28 val_main_v27 val_main_v26 val_main_v15
  pointwise

end Cert.FwdIdeal.Ref

namespace Cert.FwdValue

open Cert.FwdIdeal.Ref Idealize.ShloMosaic Idealize.ShloMosaic.TcCoe Idealize.SL.Sem

/-- The four arrays the call leaves are the reference's, from any memory. -/
theorem algebraic : Cert.algebraic_FwdIdeal_FwdRefIdeal := by
  intro m g m' g' _ hargs
  refine ⟨_, _, _, _, (θ_run Cert.FwdIdeal.defs _ _).mono
      (fun r h c => ⟨((h.1 c).1 5).trans (out_eq m c), ((h.1 c).1 6).trans (n_eq m c), ((h.1 c).1 7).trans (a_eq m c), ((h.1 c).1 8).trans (b_eq m c), h.2.1 c⟩)
      (θ_run_and (Cert.FwdIdeal.Hand.run_main m g) (Cert.FwdIdeal.Hand.frame m g)),
    (θ_run Cert.FwdRefIdeal.defs _ _).mono (fun r h c => ?_) (Cert.FwdRefIdeal.Value.run m' g')⟩
  obtain ⟨h20, h21, h25, h29, hk⟩ := h c
  obtain ⟨a0, a1, a2, a3, a4⟩ := hargs c
  refine ⟨?_, ?_, ?_, ?_, hk⟩
  · rw [h20, Cert.FwdRefIdeal.Read.val_main_v20_eq, a0, a1, a2, a3, a4]
    rfl
  · rw [h21, Cert.FwdRefIdeal.Read.val_main_v21_eq, a0, a1]
    rfl
  · rw [h25, Cert.FwdRefIdeal.Read.val_main_v25_eq, a0, a1, a2]
    rfl
  · rw [h29, Cert.FwdRefIdeal.Read.val_main_v29_eq, a0, a1, a3]
    rfl

/-- The reference leaves its arguments and has no semaphore. -/
theorem frame_ref : Cert.quiescent_FwdRefIdeal := fun m g _ =>
  (θ_run Cert.FwdRefIdeal.defs _ _).mono (fun r h => ⟨fun c => (h c).2.2.2.2, sem_eq_zero_of_no_sems (by decide) r.2⟩)
    (Cert.FwdRefIdeal.Value.run m g)

end Cert.FwdValue

end
-- ==== Proof.SwaIdealRun.lean ====
/- The body of `SwaIdeal`'s kernel, run once for every grid point: on whole staging memrefs it hands back its six inputs as
   they were, leaves in the query-gradient block (window 6) four pieces that depend on the inputs and the point only, and
   leaves something in the four blocks it accumulates (windows 7 to 10), which nothing here names. -/
module

public import proofs.«01_k».proof.Proof.Gen.SwaIdeal.Frame
public import proofs.«01_k».proof.Proof.Gen.SwaIdeal.Skeleton

@[expose] public section

set_option maxRecDepth 16384

noncomputable section

namespace Cert.SwaIdeal.Hand

open Cert.SwaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition under which the body clears the two blocks it accumulates over the whole grid. -/
abbrev atStart (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

/-- The condition under which the body clears the two blocks it accumulates over a sequence. -/
abbrev atSeqStart (i : grid0.Coords) : Prop := (Scalar.cmpi .ne (Scalar.extui (Scalar.cmpi .eq (BitVec.ofNat 32 (i 1).val) 0#32)) 0#32) = 1#1

theorem atSeqStart_iff : ∀ i : grid0.Coords, atSeqStart i ↔ (i 1).val = 0 := by decide +kernel

theorem not_atStart : ∀ i : grid0.Coords, (i 1).val ≠ 0 → ¬ atStart i := by decide +kernel

/-- At a sequence's first block the earlier block of keys the body reads is the block itself, -/
theorem off1_first : ∀ i : grid0.Coords, (i 1).val = 0 → k0_off1 i = ![128 * (i 1).val, 0] := by decide +kernel

/-- and at any other it is the block before. -/
theorem off1_later : ∀ i : grid0.Coords, (i 1).val ≠ 0 → k0_off1 i = ![128 * ((i 1).val - 1), 0] := by decide +kernel

instance closedOff_first (i : grid0.Coords) [h : Fact ((i 1).val = 0)] : ClosedOff (k0_off1 i) :=
  ⟨![128 * (i 1).val, 0], off1_first i h.out⟩

instance closedOff_later (i : grid0.Coords) [h : Fact ((i 1).val ≠ 0)] : ClosedOff (k0_off1 i) :=
  ⟨![128 * ((i 1).val - 1), 0], off1_later i h.out⟩

set_option maxHeartbeats 4000000 in
/-- The pieces the body stores into window 6, with the body's triple: the same pieces whichever of the two clearing
    branches are taken, as neither branch touches that block or an input. -/
noncomputable def bodyRun (c : Dev nD) (i : grid0.Coords)
    (arg2 : Memref sig .tc .vmem S128x512 .f32) (harg2 : arg2.IsWhole)
    (arg3 : Memref sig .tc .vmem S2048x128 .f32) (harg3 : arg3.IsWhole)
    (arg4 : Memref sig .tc .vmem S2048x128 .f32) (harg4 : arg4.IsWhole)
    (arg5 : Memref sig .tc .vmem S8x128x128 .f32) (harg5 : arg5.IsWhole)
    (arg6 : Memref sig .tc .vmem S1024x1 .f32) (harg6 : arg6.IsWhole) (arg7 : Memref sig .tc .vmem S128x512 .f32)
    (harg7 : arg7.IsWhole) (arg8 : Memref sig .tc .vmem S128x512 .f32) (harg8 : arg8.IsWhole)
    (arg9 : Memref sig .tc .vmem S2048x128 .f32) (harg9 : arg9.IsWhole)
    (arg10 : Memref sig .tc .vmem S2048x128 .f32) (harg10 : arg10.IsWhole)
    (arg11 : Memref sig .tc .vmem S8x128x128 .f32) (harg11 : arg11.IsWhole)
    (arg12 : Memref sig .tc .vmem S1024x1 .f32) (harg12 : arg12.IsWhole)
    (x0 : Vec F S128x512 .f32) (x1 : Vec F S2048x128 .f32) (x2 : Vec F S2048x128 .f32) (x3 : Vec F S8x128x128 .f32) (x4 : Vec F S1024x1 .f32) (x5 : Vec F S128x512 .f32) :
    { L6 : List (View.Piece (Elt F) S128x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_swa_bwd i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0_swa_bwd_eq_skeleton]; unfold cc0_swa_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    by_cases hn : (i 1).val = 0
    · have hc1 : atSeqStart i := (atSeqStart_iff i).mpr hn
      haveI : Fact ((i 1).val = 0) := ⟨hn⟩
      by_cases hc0 : atStart i
      · sl_exec (disch := first | sl_exact hc0 | sl_exact hc1)
        sl_step
        iapply Hk
        isplitl [H0]
        · iexists _; isplitr; · ipureintro; exact harg2.read_unread _
          iexact H0
        isplitl [H1]
        · iexists _; isplitr; · ipureintro; exact harg3.read_unread _
          iexact H1
        isplitl [H2]
        · iexists _; isplitr; · ipureintro; exact harg4.read_unread _
          iexact H2
        isplitl [H3]
        · iexists _; isplitr; · ipureintro; exact harg5.read_unread _
          iexact H3
        isplitl [H4]
        · iexists _; isplitr; · ipureintro; exact harg6.read_unread _
          iexact H4
        isplitl [H5]
        · iexists _; isplitr; · ipureintro; exact harg7.read_unread _
          iexact H5
        isplitl [H6]; · iexists _; iexact H6
        isplitl [H7]
        · iexists _, _; isplitr; swap; · iexact H7
          ipureintro; rfl
        isplitl [H8]
        · iexists _, _; isplitr; swap; · iexact H8
          ipureintro; rfl
        isplitl [H9]
        · iexists _, _; isplitr; swap; · iexact H9
          ipureintro; rfl
        iexists _, _; isplitr; swap; · iexact H10
        ipureintro; rfl
      · sl_exec (disch := first | sl_exact hc0 | sl_exact hc1)
        sl_step
        iapply Hk
        isplitl [H0]
        · iexists _; isplitr; · ipureintro; exact harg2.read_unread _
          iexact H0
        isplitl [H1]
        · iexists _; isplitr; · ipureintro; exact harg3.read_unread _
          iexact H1
        isplitl [H2]
        · iexists _; isplitr; · ipureintro; exact harg4.read_unread _
          iexact H2
        isplitl [H3]
        · iexists _; isplitr; · ipureintro; exact harg5.read_unread _
          iexact H3
        isplitl [H4]
        · iexists _; isplitr; · ipureintro; exact harg6.read_unread _
          iexact H4
        isplitl [H5]
        · iexists _; isplitr; · ipureintro; exact harg7.read_unread _
          iexact H5
        isplitl [H6]; · iexists _; iexact H6
        isplitl [H7]
        · iexists _, _; isplitr; swap; · iexact H7
          ipureintro; rfl
        isplitl [H8]
        · iexists _, _; isplitr; swap; · iexact H8
          ipureintro; rfl
        isplitl [H9]
        · iexists _, _; isplitr; swap; · iexact H9
          ipureintro; rfl
        iexists _, _; isplitr; swap; · iexact H10
        ipureintro; rfl
    · have hc1 : ¬ atSeqStart i := fun h => hn ((atSeqStart_iff i).mp h)
      have hc0 : ¬ atStart i := not_atStart i hn
      haveI : Fact ((i 1).val ≠ 0) := ⟨hn⟩
      sl_exec (disch := first | sl_exact hc0 | sl_exact hc1)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]; · iexists _; iexact H6
      isplitl [H7]
      · iexists _, _; isplitr; swap; · iexact H7
        ipureintro; rfl
      isplitl [H8]
      · iexists _, _; isplitr; swap; · iexact H8
        ipureintro; rfl
      isplitl [H9]
      · iexists _, _; isplitr; swap; · iexact H9
        ipureintro; rfl
      iexists _, _; isplitr; swap; · iexact H10
      ipureintro; rfl

end Cert.SwaIdeal.Hand

end
-- ==== Proof.SwaIdealFrame.lean ====
/- The frame of `SwaIdeal`: what the query-gradient block holds after each point is named (it is a function of the six input
   blocks), nothing is said of the four blocks the kernel accumulates, and so every run ends with the arguments
   unchanged, every counter at zero and the query-gradient array holding each point's block. -/
module

public import proofs.«01_k».proof.Proof.SwaIdealRun
public import Idealize.ShloMosaic.Lib.Claim
public import Idealize.ShloMosaic.Lib.Pipeline.Value

@[expose] public section

set_option maxRecDepth 16384

noncomputable section

namespace Cert.SwaIdeal.Hand

open Cert.SwaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The staging memrefs at a point -/

abbrev ms0_0 (t : Fin cfg0.N) : Memref sig .tc .vmem S128x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2048x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x128x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x1 .f32 := win0_10.stage (cfg0.slots t 10)
abbrev hs0_10 (t : Fin cfg0.N) : (ms0_10 t).IsWhole := hstage0_10 ((cfg0.slots t 10).cast nbuf0_10)

/-- One of window 6's staging buffers, as a view: what the pieces are read back through. -/
abbrev VO0_6 : View sig .tc .vmem S128x512 .f32 := (Memref.whole cc0_stg6_0 : Memref sig .tc .vmem S128x512 .f32).view

/-- The body's four pieces tile the query-gradient block. -/
theorem cover6 (c : Dev nD) (i : grid0.Coords)
    (arg2 : Memref sig .tc .vmem S128x512 .f32) (harg2 : arg2.IsWhole)
    (arg3 : Memref sig .tc .vmem S2048x128 .f32) (harg3 : arg3.IsWhole)
    (arg4 : Memref sig .tc .vmem S2048x128 .f32) (harg4 : arg4.IsWhole)
    (arg5 : Memref sig .tc .vmem S8x128x128 .f32) (harg5 : arg5.IsWhole)
    (arg6 : Memref sig .tc .vmem S1024x1 .f32) (harg6 : arg6.IsWhole) (arg7 : Memref sig .tc .vmem S128x512 .f32)
    (harg7 : arg7.IsWhole) (arg8 : Memref sig .tc .vmem S128x512 .f32) (harg8 : arg8.IsWhole)
    (arg9 : Memref sig .tc .vmem S2048x128 .f32) (harg9 : arg9.IsWhole)
    (arg10 : Memref sig .tc .vmem S2048x128 .f32) (harg10 : arg10.IsWhole)
    (arg11 : Memref sig .tc .vmem S8x128x128 .f32) (harg11 : arg11.IsWhole)
    (arg12 : Memref sig .tc .vmem S1024x1 .f32) (harg12 : arg12.IsWhole)
    (x0 : Vec F S128x512 .f32) (x1 : Vec F S2048x128 .f32) (x2 : Vec F S2048x128 .f32) (x3 : Vec F S8x128x128 .f32) (x4 : Vec F S1024x1 .f32) (x5 : Vec F S128x512 .f32)
    (y : S128x512.Idx) : ∃ pc ∈ (bodyRun c i arg2 harg2 arg3 harg3 arg4 harg4 arg5 harg5 arg6 harg6 arg7 harg7 arg8 harg8 arg9 harg9 arg10 harg10 arg11 harg11 arg12 harg12 x0 x1 x2 x3 x4 x5).1, y ∈ pc.1.set :=
  View.cover_of_tiledL (bodyRun c i arg2 harg2 arg3 harg3 arg4 harg4 arg5 harg5 arg6 harg6 arg7 harg7 arg8 harg8 arg9 harg9 arg10 harg10 arg11 harg11 arg12 harg12 x0 x1 x2 x3 x4 x5).1 S128x128.size (by sl_kernel_rfl) y

/-- What the body leaves in the query-gradient block. -/
def out6 (c : Dev nD) (i : grid0.Coords)
    (arg2 : Memref sig .tc .vmem S128x512 .f32) (harg2 : arg2.IsWhole)
    (arg3 : Memref sig .tc .vmem S2048x128 .f32) (harg3 : arg3.IsWhole)
    (arg4 : Memref sig .tc .vmem S2048x128 .f32) (harg4 : arg4.IsWhole)
    (arg5 : Memref sig .tc .vmem S8x128x128 .f32) (harg5 : arg5.IsWhole)
    (arg6 : Memref sig .tc .vmem S1024x1 .f32) (harg6 : arg6.IsWhole) (arg7 : Memref sig .tc .vmem S128x512 .f32)
    (harg7 : arg7.IsWhole) (arg8 : Memref sig .tc .vmem S128x512 .f32) (harg8 : arg8.IsWhole)
    (arg9 : Memref sig .tc .vmem S2048x128 .f32) (harg9 : arg9.IsWhole)
    (arg10 : Memref sig .tc .vmem S2048x128 .f32) (harg10 : arg10.IsWhole)
    (arg11 : Memref sig .tc .vmem S8x128x128 .f32) (harg11 : arg11.IsWhole)
    (arg12 : Memref sig .tc .vmem S1024x1 .f32) (harg12 : arg12.IsWhole)
    (x0 : Vec F S128x512 .f32) (x1 : Vec F S2048x128 .f32) (x2 : Vec F S2048x128 .f32) (x3 : Vec F S8x128x128 .f32) (x4 : Vec F S1024x1 .f32) (x5 : Vec F S128x512 .f32) : Vec F S128x512 .f32 :=
  VO0_6.read (Elt F) (VO0_6.writes (Elt F) VO0_6.junk (bodyRun c i arg2 harg2 arg3 harg3 arg4 harg4 arg5 harg5 arg6 harg6 arg7 harg7 arg8 harg8 arg9 harg9 arg10 harg10 arg11 harg11 arg12 harg12 x0 x1 x2 x3 x4 x5).1)

/-- The query-gradient block after point `t`. -/
def out6At (c : Dev nD) (t : Fin cfg0.N) : Vec F S128x512 .f32 :=
  out6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t)

/-! ## The proof data -/

/-- The windows of which nothing is named: the four accumulated blocks. -/
def forgets0 : Fin 11 → Bool := fun w => w.val == 7 || w.val == 8 || w.val == 9 || w.val == 10

/-- The proof data on core `c`: after the body at `t` each input's buffer at its block, the query-gradient buffer at
    `out6At`, the other outputs unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6At m c t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out6At m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 2400000 in
/-- The body at any point: the inputs' memrefs hold their blocks, so the run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((bodyRun c (grid0.coords t) _ _ _ _ _ _ _ _ _ _ _ _ _ _ _ _ _ _ _ _ _ _ (iblk m c 0 t) (iblk m c 1 t) (iblk m c 2 t) (iblk m c 3 t) (iblk m c 4 t) (iblk m c 5 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  iintro ⟨H0, H1, H2, H3, H4, H5, ⟨%f6, H6⟩, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold out6At out6 owns
    iexists _; isplitr; swap; · iexact H6
    ipureintro; exact View.read_writes_of_cover _ _ _ _ _ (cover6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t))
  isplitl [H7]; · iexact H7
  isplitl [H8]; · iexact H8
  isplitl [H9]; · iexact H9
  iexact H10

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- Every run ends with the arrays as the proof data says, and every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The argument arrays end unchanged after a run that ends with the arrays as some proof data says. -/
theorem unchanged_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 2 rfl).trans ((hA c 2).trans (V_main_arg0 m c)),
      (Pipeline.RDat.FramePost.arr_in h c 3 rfl).trans ((hA c 3).trans (V_main_arg1 m c)),
      ((h c).2 main_arg2 (Pipeline.mem_restRefs_of main_arg2 (by decide) (by decide))).trans (V_main_arg2 m c),
      (Pipeline.RDat.FramePost.arr_in h c 5 rfl).trans ((hA c 5).trans (V_main_arg3 m c))⟩) h

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  unchanged_of m ρ (fun c => (dats m 0 c).toRForget forgets0) (A_eq m) (run_main m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

/-! ## The query-gradient array, block by block -/

theorem idx_inj6 : ∀ t t' : Fin cfg0.N, win0_6.index t = win0_6.index t' → t = t' :=
  (by decide +kernel : ∀ t t' : Fin grid0.N, win0_6.index t = win0_6.index t' → t = t')

theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

theorem flushed6 (c : Dev nD) (t : Fin cfg0.N) :
    (dats m 0 c).flushed 6 t = (cfg0.win 6).cut (grid0.coords t) (out6At m c t) := by
  show (cfg0.win 6).cut (grid0.coords t) ((dats m 0 c).after 6 t) = _
  rw [after0_6]

/-- Block `t` of the final query-gradient array is what point `t` left. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

end Cert.SwaIdeal.Hand

end
-- ==== Proof.SwaBody.lean ====
module

public import proofs.«01_k».proof.Proof.SwaIdealFrame
public import proofs.«01_k».proof.Proof.ActMath
public import Idealize.ShloMosaic.Lib.StableHlo.RunRead
public import Idealize.ShloMosaic.Lib.Pointwise
public import Idealize.ShloMosaic.Lib.Pipeline.ValueKit
public import Idealize.ShloMosaic.Lib.WritesUnit

/-!
# What the attention kernel stores into the queries' gradient

One row of a head's attention, as the kernel computes it: the scores of the
keys of the previous and of the current block of the sequence, the largest of
them and of the sink, the exponentials, and from these and the derivative of
the output the derivative of the scores. `cell` is one element of the gradient
of the queries; `out6_at` says that the block the kernel stores at a grid point
holds `cell` of the blocks it was given.
-/

@[expose] public section

set_option maxRecDepth 16384
set_option maxHeartbeats 4000000
noncomputable section

namespace Cert.SwaIdeal.Body

open Cert.SwaIdeal Cert.SwaIdeal.Gen Cert.SwaIdeal.Hand Idealize.ShloMosaic Idealize.ShloMosaic.TcCoe Idealize.SL.Sem

/-! ## One row of a head -/

section Row

variable (sP sC : Fin 128 → EReal) (s : EReal) (dP dC : Fin 128 → EReal)

/-- The largest score of a row, the sink among them. -/
def mx : EReal := max (max (Finset.univ.fold max ⊥ sP) (Finset.univ.fold max ⊥ sC)) s
/-- The exponentials of the previous block's scores. -/
def eP (j : Fin 128) : EReal := Ideal.exp (sP j - mx sP sC s)
/-- The exponentials of the current block's scores. -/
def eC (j : Fin 128) : EReal := Ideal.exp (sC j - mx sP sC s)
/-- One over the sum of the exponentials. -/
def inv : EReal :=
  Ideal.div 1 ((∑ j, eP sP sC s j) + (∑ j, eC sP sC s j) + Ideal.exp (s - mx sP sC s))
/-- The mean of the derivative under the probabilities. -/
def delta : EReal :=
  (∑ j, eP sP sC s j * inv sP sC s * dP j) + ∑ j, eC sP sC s j * inv sP sC s * dC j
/-- The derivative of the previous block's scores. -/
def dsP (j : Fin 128) : EReal := eP sP sC s j * inv sP sC s * (dP j - delta sP sC s dP dC)
/-- The derivative of the current block's scores. -/
def dsC (j : Fin 128) : EReal := eC sP sC s j * inv sP sC s * (dC j - delta sP sC s dP dC)

end Row

/-- One over the square root of the head size, as the kernel writes it. -/
abbrev sc : EReal := Ideal.ofBits .f32 0x3E000000#32

/-- A score of the previous block: a key is seen if it is later in its block than the query in
its own, and if there is a previous block. -/
def scP (n q : ℕ) (qv : Fin 64 → EReal) (k : Fin 128 → Fin 64 → EReal) (b : Fin 128 → EReal)
    (j : Fin 128) : EReal :=
  if q < (j : ℕ) ∧ 0 < n then (∑ d, qv d * sc * k j d) + b j else ⊥

/-- A score of the current block: a key is seen if it is not later than the query. -/
def scC (q : ℕ) (qv : Fin 64 → EReal) (k : Fin 128 → Fin 64 → EReal) (b : Fin 128 → EReal)
    (j : Fin 128) : EReal :=
  if (j : ℕ) ≤ q then (∑ d, qv d * sc * k j d) + b j else ⊥

/-- One element of the gradient of a query, of sequence block `n` and row `q` in it. -/
def cell (n q : ℕ) (qv dv : Fin 64 → EReal) (kp kc vp vc : Fin 128 → Fin 64 → EReal)
    (b : Fin 128 → EReal) (s : EReal) (d : Fin 64) : EReal :=
  ((∑ j, dsP (scP n q qv kp b) (scC q qv kc b) s (fun j => ∑ d, dv d * vp j d)
        (fun j => ∑ d, dv d * vc j d) j * kp j d)
    + ∑ j, dsC (scP n q qv kp b) (scC q qv kc b) s (fun j => ∑ d, dv d * vp j d)
        (fun j => ∑ d, dv d * vc j d) j * kc j d) * sc

/-! ## Words -/

theorem lane_lt : ∀ l : Fin 128, IntOp.cmpi CmpIPredicate.slt (BitVec.ofNat 32 ↑l) 64#32
    = if (l : ℕ) / 64 = 0 then 1#1 else 0#1 := by decide +kernel
theorem lane_ge : ∀ l : Fin 128, IntOp.xori (IntOp.cmpi CmpIPredicate.slt (BitVec.ofNat 32 ↑l) 64#32) 1#1
    = if (l : ℕ) / 64 = 1 then 1#1 else 0#1 := by decide +kernel
theorem row_and : ∀ r : Fin 512, IntOp.andi (BitVec.ofNat 32 ↑r) 127#32
    = BitVec.ofNat 32 ((r : ℕ) % 128) := by decide +kernel
theorem ofBool_ite (p : Prop) [Decidable p] : BitVec.ofBool (decide p) = if p then 1#1 else 0#1 := by
  by_cases h : p <;> simp [h]
theorem cmp_gt (a b : ℕ) (ha : a < 2 ^ 31) (hb : b < 2 ^ 31) :
    IntOp.cmpi CmpIPredicate.sgt (BitVec.ofNat 32 a) (BitVec.ofNat 32 b)
      = if b < a then 1#1 else 0#1 :=
  (WordCmp.cmpi_sgt_ofNat ha hb).trans (ofBool_ite _)
theorem cmp_le (a b : ℕ) (ha : a < 2 ^ 31) (hb : b < 2 ^ 31) :
    IntOp.cmpi CmpIPredicate.sle (BitVec.ofNat 32 a) (BitVec.ofNat 32 b)
      = if a ≤ b then 1#1 else 0#1 :=
  (WordCmp.cmpi_sle_ofNat ha hb).trans (ofBool_ite _)
theorem and_ite (p q : Prop) [Decidable p] [Decidable q] :
    IntOp.andi (if p then 1#1 else 0#1) (if q then 1#1 else 0#1) = if p ∧ q then 1#1 else 0#1 := by
  by_cases hp : p <;> by_cases hq : q <;> simp [hp, hq, IntOp.andi]

theorem select_ite {α : Type} (p : Prop) [Decidable p] (a b : α) :
    Scalar.select (if p then 1#1 else 0#1) a b = if p then a else b := by
  by_cases h : p <;> simp [h, Scalar.select]

theorem mask_eq : (Named.named (F := Ideal) κ "mask" (φ := .f32) 0xF149F2CA#32 : EReal) = ⊥ := rfl

theorem ninf_eq : Ideal.ofBits FTy.f32 0xFF800000#32 = ⊥ := by
  simp [Ideal.ofBits, Ideal.ieee]

/-- A sum over the lanes of which only one half counts is the sum over that half. -/
theorem sum_half (h : ℕ) (hh : h < 2) (G : Fin 128 → EReal)
    (h0 : ∀ l : Fin 128, (l : ℕ) / 64 ≠ h → G l = 0) :
    ∑ l, G l = ∑ d : Fin 64, G ⟨64 * h + d, by omega⟩ := by
  refine (Fin.sum_univ_add (a := 64) (b := 64) (f := fun i : Fin (64 + 64) => G i)).trans ?_
  obtain rfl | rfl : h = 0 ∨ h = 1 := by omega
  · rw [Finset.sum_eq_zero (s := Finset.univ) (f := fun i : Fin 64 => G (Fin.natAdd 64 i : Fin (64 + 64))), add_zero]
    · refine Finset.sum_congr rfl fun d _ => congrArg G (Fin.ext ?_)
      simp
    · intro d _
      refine h0 _ ?_
      simp only [Fin.natAdd, Fin.val_mk]; omega
  · rw [Finset.sum_eq_zero (s := Finset.univ) (f := fun i : Fin 64 => G (Fin.castAdd 64 i : Fin (64 + 64))), zero_add]
    · refine Finset.sum_congr rfl fun d _ => congrArg G (Fin.ext ?_)
      simp [Nat.add_comm]
    · intro d _
      refine h0 _ ?_
      simp only [Fin.castAdd, Fin.castLE, Fin.val_mk]; omega

/-! ## The rows of a stack of heads -/

/-- The lane of column `d` of half `h`. -/
def hl (h : ℕ) (d : Fin 64) : Fin 128 := ⟨64 * (h % 2) + d, by omega⟩
/-- The row of a stack in its block. -/
def rq (r : Fin 512) : Fin 128 := ⟨(r : ℕ) % 128, by omega⟩
/-- The head of a row of a stack. -/
def rh (r : Fin 512) : Fin 4 := ⟨(r : ℕ) / 128, by omega⟩

/-- A row of a stack of four heads, cut from two blocks of columns. -/
def stackRow (a c : Vec Ideal S128x128 .f32) (r : Fin 512) (l : Fin 128) : EReal :=
  if (r : ℕ) / 128 < 2 then a (ix2 (rq r) l) else c (ix2 (rq r) l)

/-- A row of a stack, piece by piece. -/
def pieces (a a' c c' : Vec Ideal S128x128 .f32) (r : Fin 512) (l : Fin 128) : EReal :=
  if h : (r : ℕ) < 128 then
    if (l : ℕ) / 64 = 0 then a (ix2 ⟨r, h⟩ l) else 0
  else if h : (r : ℕ) - 128 < 128 then
    if (l : ℕ) / 64 = 1 then a' (ix2 ⟨(r : ℕ) - 128, h⟩ l) else 0
  else if h : (r : ℕ) - 128 - 128 < 128 then
    if (l : ℕ) / 64 = 0 then c (ix2 ⟨(r : ℕ) - 128 - 128, h⟩ l) else 0
  else
    if (l : ℕ) / 64 = 1 then c' (ix2 ⟨(r : ℕ) - 128 - 128 - 128, by omega⟩ l) else 0

theorem pieces_eq (a c : Vec Ideal S128x128 .f32) (r : Fin 512) (l : Fin 128) :
    pieces a a c c r l
      = if (l : ℕ) / 64 = (r : ℕ) / 128 % 2 then stackRow a c r l else 0 := by
  unfold pieces
  unfold stackRow rq
  have hr : (r : ℕ) < 512 := r.isLt
  obtain h | h | h | h : (r : ℕ) / 128 = 0 ∨ (r : ℕ) / 128 = 1 ∨ (r : ℕ) / 128 = 2 ∨ (r : ℕ) / 128 = 3 := by
    omega
  · rw [dif_pos (by omega)]
    refine if_congr (by omega) ?_ rfl
    rw [if_pos (by omega)]
    refine congrArg a ?_
    congr 1; apply Fin.ext; dsimp only; omega
  · rw [dif_neg (by omega), dif_pos (by omega)]
    refine if_congr (by omega) ?_ rfl
    rw [if_pos (by omega)]
    refine congrArg a ?_
    congr 1; apply Fin.ext; dsimp only; omega
  · rw [dif_neg (by omega), dif_neg (by omega), dif_pos (by omega)]
    refine if_congr (by omega) ?_ rfl
    rw [if_neg (by omega)]
    refine congrArg c ?_
    congr 1; apply Fin.ext; dsimp only; omega
  · rw [dif_neg (by omega), dif_neg (by omega), dif_neg (by omega)]
    refine if_congr (by omega) ?_ rfl
    rw [if_neg (by omega)]
    refine congrArg c ?_
    congr 1; apply Fin.ext; dsimp only; omega

theorem pay31_eq (a a' c c' : Vec Ideal S128x128 .f32) (r : Fin 512) (l : Fin 128) :
    k0_pay31 k0_pay30 a a' c c' (ix2 r l) = pieces a a' c c' r l := by
  unfold_payloads
  pointwise
  simp only [lane_ge]
  simp only [lane_lt, select_ite]
  rfl

theorem pay15_eq (a a' c c' : Vec Ideal S128x128 .f32) (r : Fin 512) (l : Fin 128) :
    k0_pay15 a a' c c' (ix2 r l) = pieces a a' c c' r l * sc := by
  unfold_payloads
  pointwise
  simp only [lane_ge]
  simp only [lane_lt, select_ite]
  rfl

theorem stack_eq (a c : Vec Ideal S128x128 .f32) (r : Fin 512) (l : Fin 128) :
    k0_pay31 k0_pay30 a a c c (ix2 r l)
      = if (l : ℕ) / 64 = (r : ℕ) / 128 % 2 then stackRow a c r l else 0 :=
  (pay31_eq a a c c r l).trans (pieces_eq a c r l)

theorem stack_sc (a c : Vec Ideal S128x128 .f32) (r : Fin 512) (l : Fin 128) :
    k0_pay15 a a c c (ix2 r l)
      = (if (l : ℕ) / 64 = (r : ℕ) / 128 % 2 then stackRow a c r l else 0) * sc :=
  (pay15_eq a a c c r l).trans (congrArg (· * sc) (pieces_eq a c r l))

theorem dup0 (x : Vec Ideal S128x128 .f32) (j l : Fin 128) :
    k0_pay9 x (ix2 j l) = x (ix2 j (hl 0 ⟨(l : ℕ) % 64, by omega⟩)) := by
  unfold_payloads
  pointwise
  simp only [lane_lt, select_ite]
  split_ifs with h <;> (refine congrArg x ?_; congr 1; apply Fin.ext; simp only [hl]; omega)

theorem dup1 (x : Vec Ideal S128x128 .f32) (j l : Fin 128) :
    k0_pay48 x (ix2 j l) = x (ix2 j (hl 1 ⟨(l : ℕ) % 64, by omega⟩)) := by
  unfold_payloads
  pointwise
  simp only [lane_lt, select_ite]
  split_ifs with h <;> (refine congrArg x ?_; congr 1; apply Fin.ext; simp only [hl]; omega)

/-! ## The body's values, row by row -/

section Values

variable (v23 v30 v37 v44 : Vec Ideal S128x128 .f32) (v64 v66 : FVec Ideal S512x128 .f32)
  (v69 v70 : IVec S512x128 32) (v71 : IVec S512x128 1) (v72 : BitVec 1) (v88 : Vec Ideal S512x1 .f32)
  (v113 v115 : FVec Ideal S512x128 .f32) (v119 : IVec S128x128 1)
  (v120 v123 v127 v130 : Vec Ideal S128x128 .f32)

/-- The previous block's scores of a row. -/
abbrev SP (r : Fin 512) (j : Fin 128) : EReal := k0_pay19 v23 v64 v66 v71 v72 (ix2 r j)
/-- The current block's scores of a row. -/
abbrev SC (r : Fin 512) (j : Fin 128) : EReal := k0_pay20 v30 v64 v66 v69 v70 (ix2 r j)

theorem pay21_eq (r : Fin 512) (z : Fin 1) : k0_pay21 v88 (ix2 r z) = v88 (ix2 r 0) := by
  obtain rfl : z = 0 := Subsingleton.elim _ _
  unfold_payloads
  pointwise

theorem pay22_eq (r : Fin 512) (z : Fin 1) : k0_pay22 v23 v30 v64 v66 v69 v70 v71 v72 v88 (ix2 r z)
    = mx (SP v23 v64 v66 v71 v72 r) (SC v30 v64 v66 v69 v70 r) (v88 (ix2 r 0)) := by
  unfold k0_pay22
  pointwise [pay21_eq, ninf_eq]
  rfl

theorem pay23_eq (r : Fin 512) (j : Fin 128) : k0_pay23 v23 v30 v64 v66 v69 v70 v71 v72 v88 (ix2 r j)
    = eP (SP v23 v64 v66 v71 v72 r) (SC v30 v64 v66 v69 v70 r) (v88 (ix2 r 0)) j := by
  unfold k0_pay23
  pointwise [pay22_eq]
  rfl

theorem pay24_eq (r : Fin 512) (j : Fin 128) : k0_pay24 v23 v30 v64 v66 v69 v70 v71 v72 v88 (ix2 r j)
    = eC (SP v23 v64 v66 v71 v72 r) (SC v30 v64 v66 v69 v70 r) (v88 (ix2 r 0)) j := by
  unfold k0_pay24
  pointwise [pay22_eq]
  rfl

theorem pay25_eq (r : Fin 512) (z : Fin 1) : k0_pay25 v23 v30 v64 v66 v69 v70 v71 v72 v88 (ix2 r z)
    = Ideal.exp (v88 (ix2 r 0) - mx (SP v23 v64 v66 v71 v72 r) (SC v30 v64 v66 v69 v70 r) (v88 (ix2 r 0))) := by
  unfold k0_pay25
  pointwise [pay22_eq, pay21_eq]

theorem pay26_eq (r : Fin 512) (z : Fin 1) : k0_pay26 v23 v30 v64 v66 v69 v70 v71 v72 v88 (ix2 r z)
    = inv (SP v23 v64 v66 v71 v72 r) (SC v30 v64 v66 v69 v70 r) (v88 (ix2 r 0)) := by
  unfold k0_pay26
  pointwise [pay23_eq, pay24_eq, pay25_eq]
  rfl

theorem pay27_eq (r : Fin 512) (j : Fin 128) : k0_pay27 v23 v30 v64 v66 v69 v70 v71 v72 v88 (ix2 r j)
    = eP (SP v23 v64 v66 v71 v72 r) (SC v30 v64 v66 v69 v70 r) (v88 (ix2 r 0)) j
      * inv (SP v23 v64 v66 v71 v72 r) (SC v30 v64 v66 v69 v70 r) (v88 (ix2 r 0)) := by
  unfold k0_pay27
  pointwise [pay23_eq, pay26_eq]

theorem pay28_eq (r : Fin 512) (j : Fin 128) : k0_pay28 v23 v30 v64 v66 v69 v70 v71 v72 v88 (ix2 r j)
    = eC (SP v23 v64 v66 v71 v72 r) (SC v30 v64 v66 v69 v70 r) (v88 (ix2 r 0)) j
      * inv (SP v23 v64 v66 v71 v72 r) (SC v30 v64 v66 v69 v70 r) (v88 (ix2 r 0)) := by
  unfold k0_pay28
  pointwise [pay24_eq, pay26_eq]

/-- The derivative of the previous block's probabilities. -/
abbrev DP (r : Fin 512) (j : Fin 128) : EReal := k0_pay32 v37 v119 v120 v123 v127 v130 (ix2 r j)
/-- The derivative of the current block's probabilities. -/
abbrev DC (r : Fin 512) (j : Fin 128) : EReal := k0_pay33 v44 v119 v120 v123 v127 v130 (ix2 r j)

theorem pay34_eq (r : Fin 512) (z : Fin 1) :
    k0_pay34 v37 v44 (k0_pay27 v23 v30 v64 v66 v69 v70 v71 v72 v88) (k0_pay28 v23 v30 v64 v66 v69 v70 v71 v72 v88)
        v119 v120 v123 v127 v130 (ix2 r z)
      = delta (SP v23 v64 v66 v71 v72 r) (SC v30 v64 v66 v69 v70 r) (v88 (ix2 r 0))
          (DP v37 v119 v120 v123 v127 v130 r) (DC v44 v119 v120 v123 v127 v130 r) := by
  unfold k0_pay34
  pointwise [pay27_eq, pay28_eq]
  rfl

theorem pay37_eq (r : Fin 512) (l : Fin 128) :
    k0_pay37 v23 v30 v37 v44 (k0_pay27 v23 v30 v64 v66 v69 v70 v71 v72 v88)
        (k0_pay28 v23 v30 v64 v66 v69 v70 v71 v72 v88) v119 v120 v123 v127 v130 (ix2 r l)
      = (∑ j, dsP (SP v23 v64 v66 v71 v72 r) (SC v30 v64 v66 v69 v70 r) (v88 (ix2 r 0))
          (DP v37 v119 v120 v123 v127 v130 r) (DC v44 v119 v120 v123 v127 v130 r) j * v23 (ix2 j l))
        + ∑ j, dsC (SP v23 v64 v66 v71 v72 r) (SC v30 v64 v66 v69 v70 r) (v88 (ix2 r 0))
          (DP v37 v119 v120 v123 v127 v130 r) (DC v44 v119 v120 v123 v127 v130 r) j * v30 (ix2 j l) := by
  unfold k0_pay37 k0_pay35 k0_pay36
  pointwise [pay27_eq, pay28_eq, pay34_eq]
  rfl

end Values

/-! ## The scores and the products, over the columns of a head -/

section Scores

variable (kd : Vec Ideal S128x128 .f32) (K : Fin 128 → Fin 64 → EReal)
  (hk : ∀ j l : Fin 128, kd (ix2 j l) = K j ⟨(l : ℕ) % 64, by omega⟩)
  (a c : Vec Ideal S128x128 .f32) (bias : Vec Ideal S4x128x128 .f32) (n : ℕ)

/-- The columns of a row's head. -/
def hrow (a c : Vec Ideal S128x128 .f32) (r : Fin 512) (d : Fin 64) : EReal :=
  stackRow a c r (hl (rh r) d)

include hk

theorem prod_eq (r : Fin 512) (j : Fin 128) :
    (∑ l, k0_pay15 a a c c (ix2 r l) * kd (ix2 j l)) = ∑ d, hrow a c r d * sc * K j d := by
  refine (sum_half ((r : ℕ) / 128 % 2) (by omega) _ fun l hl => ?_).trans ?_
  · rw [stack_sc, if_neg hl, zero_mul, zero_mul]
  · refine Finset.sum_congr rfl fun d _ => ?_
    rw [stack_sc, hk, if_pos (by dsimp only; omega)]
    refine congrArg₂ _ rfl (congrArg (K j) (Fin.ext ?_))
    dsimp only; omega

theorem prod_eq' (r : Fin 512) (j : Fin 128) :
    (∑ l, k0_pay31 k0_pay30 a a c c (ix2 r l) * kd (ix2 j l)) = ∑ d, hrow a c r d * K j d := by
  refine (sum_half ((r : ℕ) / 128 % 2) (by omega) _ fun l hl => ?_).trans ?_
  · rw [stack_eq, if_neg hl, zero_mul]
  · refine Finset.sum_congr rfl fun d _ => ?_
    rw [stack_eq, hk, if_pos (by dsimp only; omega)]
    refine congrArg₂ _ rfl (congrArg (K j) (Fin.ext ?_))
    dsimp only; omega

theorem pay19_eq (hn : n < 2 ^ 31) (r : Fin 512) :
    SP kd (k0_pay15 a a c c) (k0_pay16 bias) k0_pay18
        (Scalar.cmpi CmpIPredicate.sgt (BitVec.ofNat 32 n) 0#32) r
      = scP n (rq r) (hrow a c r) K (fun j => bias (ix3 (rh r) (rq r) j)) := by
  funext j
  unfold SP scP
  unfold k0_pay19
  pointwise
  rw [prod_eq kd K hk]
  have e1 : k0_pay18 (ix2 r j) = if (rq r : ℕ) < (j : ℕ) then 1#1 else 0#1 := by
    unfold_payloads
    pointwise
    rw [row_and]
    exact cmp_gt _ _ (by omega) (by omega)
  have e2 : Scalar.cmpi CmpIPredicate.sgt (BitVec.ofNat 32 n) 0#32 = if 0 < n then 1#1 else 0#1 :=
    cmp_gt n 0 hn (by omega)
  have e3 : k0_pay16 bias (ix2 r j) = bias (ix3 (rh r) (rq r) j) := by
    unfold_payloads
    pointwise
    rfl
  rw [e1, e2, e3, and_ite, select_ite]
  exact if_congr Iff.rfl rfl mask_eq

theorem pay20_eq (r : Fin 512) :
    SC kd (k0_pay15 a a c c) (k0_pay16 bias) k0_pay17 (iota Kind.tc S512x128 32 [1] iota_S512x128_d1_w32) r
      = scC (rq r) (hrow a c r) K (fun j => bias (ix3 (rh r) (rq r) j)) := by
  funext j
  unfold SC scC
  unfold k0_pay20 k0_pay17
  pointwise
  rw [prod_eq kd K hk, row_and, cmp_le _ _ (by omega) (by omega)]
  have e3 : k0_pay16 bias (ix2 r j) = bias (ix3 (rh r) (rq r) j) := by
    unfold_payloads
    pointwise
    rfl
  rw [e3, select_ite]
  exact if_congr Iff.rfl rfl mask_eq

theorem pay32_eq (r : Fin 512) :
    DP kd k0_pay30 a a c c r = fun j => ∑ d, hrow a c r d * K j d := by
  funext j
  unfold DP
  unfold k0_pay32
  pointwise
  exact prod_eq' kd K hk a c r j

theorem pay33_eq (r : Fin 512) :
    DC kd k0_pay30 a a c c r = fun j => ∑ d, hrow a c r d * K j d := by
  funext j
  unfold DC
  unfold k0_pay33
  pointwise
  exact prod_eq' kd K hk a c r j

end Scores

/-! ## A group of four heads -/

/-- The gradient of a stack of four heads, before its scale. -/
abbrev grp (kp kc vp vc a c da dc : Vec Ideal S128x128 .f32) (bias : Vec Ideal S4x128x128 .f32)
    (w : BitVec 1) (s : Vec Ideal S512x1 .f32) : FVec Ideal S512x128 .f32 :=
  k0_pay37 kp kc vp vc
    (k0_pay27 kp kc (k0_pay15 a a c c) (k0_pay16 bias) k0_pay17
      (iota Kind.tc S512x128 32 [1] iota_S512x128_d1_w32) k0_pay18 w s)
    (k0_pay28 kp kc (k0_pay15 a a c c) (k0_pay16 bias) k0_pay17
      (iota Kind.tc S512x128 32 [1] iota_S512x128_d1_w32) k0_pay18 w s)
    k0_pay30 da da dc dc

theorem grp_eq (kp kc vp vc a c da dc : Vec Ideal S128x128 .f32) (bias : Vec Ideal S4x128x128 .f32)
    (n : ℕ) (hn : n < 2 ^ 31) (s : Vec Ideal S512x1 .f32) (KP KC VP VC : Fin 128 → Fin 64 → EReal)
    (hkp : ∀ j l : Fin 128, kp (ix2 j l) = KP j ⟨(l : ℕ) % 64, by omega⟩)
    (hkc : ∀ j l : Fin 128, kc (ix2 j l) = KC j ⟨(l : ℕ) % 64, by omega⟩)
    (hvp : ∀ j l : Fin 128, vp (ix2 j l) = VP j ⟨(l : ℕ) % 64, by omega⟩)
    (hvc : ∀ j l : Fin 128, vc (ix2 j l) = VC j ⟨(l : ℕ) % 64, by omega⟩)
    (r : Fin 512) (l : Fin 128) :
    grp kp kc vp vc a c da dc bias (Scalar.cmpi CmpIPredicate.sgt (BitVec.ofNat 32 n) 0#32) s (ix2 r l) * sc
      = cell n (rq r) (hrow a c r) (hrow da dc r) KP KC VP VC (fun j => bias (ix3 (rh r) (rq r) j))
          (s (ix2 r 0)) ⟨(l : ℕ) % 64, by omega⟩ := by
  unfold grp cell
  rw [pay37_eq, pay19_eq kp KP hkp a c bias n hn r, pay20_eq kc KC hkc a c bias r,
    pay32_eq vp VP hvp, pay33_eq vc VC hvc]
  simp only [hkp, hkc]

theorem pay40_eq (x : FVec Ideal S512x128 .f32) (q l : Fin 128) :
    k0_pay40 x (ix2 q l) = x (ix2 ⟨128 * ((l : ℕ) / 64) + q, by omega⟩ l) * sc := by
  unfold_payloads
  pointwise
  rw [lane_lt, select_ite]
  split_ifs with h <;>
    (refine congrArg (fun r => x (ix2 r l) * sc) (Fin.ext ?_); dsimp only; omega)

theorem pay41_eq (x : FVec Ideal S512x128 .f32) (q l : Fin 128) :
    k0_pay41 x (ix2 q l) = x (ix2 ⟨256 + 128 * ((l : ℕ) / 64) + q, by omega⟩ l) * sc := by
  unfold_payloads
  pointwise
  rw [lane_lt, select_ite]
  split_ifs with h <;>
    (refine congrArg (fun r => x (ix2 r l) * sc) (Fin.ext ?_); dsimp only; omega)

/-! ## The blocks the body loads -/

/-- The rows of sequence block `n`. -/
def rowsOf (n : ℕ) (hn : n < 16) (x : Vec Ideal S2048x128 .f32) : Vec Ideal S128x128 .f32 :=
  fun y => x (ix2 ⟨128 * n + (y 0 : ℕ), by have := (y 0).isLt; change (y 0 : ℕ) < 128 at this; omega⟩ (y 1))

theorem word_prev : ∀ n : Fin 16, BitVec.toNat (Scalar.indexCast
    (Scalar.muli (Scalar.maxsi (Scalar.subi (BitVec.ofNat 32 ↑n) 1#32) 0#32) 128#32)) = 128 * (n - 1) := by
  decide +kernel
theorem word_cur : ∀ n : Fin 16, BitVec.toNat (Scalar.indexCast
    (Scalar.muli (BitVec.ofNat 32 ↑n) 128#32)) = 128 * n := by
  decide +kernel

theorem ld_rows (n : ℕ) (hn : n < 16) (o : ℕ) (ho : o = 128 * n) (x : Vec Ideal S2048x128 .f32)
    (h : ∀ a, ![o, 0] a + S128x128.size a ≤ S2048x128.size a) :
    View.ld x (Rect.unit ![o, 0] ![128, 128] h) = rowsOf n hn x := by
  subst ho
  funext y
  unfold rowsOf
  idx_vars y
  pointwise

end Cert.SwaIdeal.Body
end
-- ==== Proof.SwaOut.lean ====
module

public import proofs.«01_k».proof.Proof.SwaBody

/-!
# The block of the queries' gradient a grid point stores

The body stores four tiles of 128 columns, two heads each. `out6_at` reads the
block at an index: it is `cell` of the head's columns of the blocks loaded.
-/

@[expose] public section

set_option maxRecDepth 16384
set_option maxHeartbeats 4000000
noncomputable section

namespace Cert.SwaIdeal.Body

open Cert.SwaIdeal Cert.SwaIdeal.Gen Cert.SwaIdeal.Hand Idealize.ShloMosaic Idealize.ShloMosaic.TcCoe Idealize.SL.Sem

section
variable {Val : EltTy → Type} [∀ e, Nonempty (Val e)] {s : Shape} {e : EltTy}

/-- Under the last piece stored, the buffer holds it. -/
theorem canon_in {off size : Fin s.rank → ℕ} (inb : ∀ a, off a + size a ≤ s.size a) (w : (Rect.unit off size inb).shape.Idx → Val e)
    (L : List (View.Piece Val s e)) (y : s.Idx) (x : (Rect.unit off size inb).shape.Idx) (hx : ∀ a, (y a).val = off a + (x a).val) :
    View.canon ((⟨Rect.unit off size inb, w⟩ : View.Piece Val s e) :: L) y = w x := by
  have hy : (Rect.unit off size inb).emb x = y := funext fun a => Fin.ext (by
    show off a + 1 * (x a).val = (y a).val
    rw [hx a, Nat.one_mul])
  rw [← hy]
  exact View.canon_cons_emb _ w L x

/-- Off the last piece, it holds what the earlier pieces left. -/
theorem canon_off {off size : Fin s.rank → ℕ} (inb : ∀ a, off a + size a ≤ s.size a) (w : (Rect.unit off size inb).shape.Idx → Val e)
    (L : List (View.Piece Val s e)) (y : s.Idx) (a : Fin s.rank) (ha : (y a).val < off a ∨ off a + size a ≤ (y a).val) :
    View.canon ((⟨Rect.unit off size inb, w⟩ : View.Piece Val s e) :: L) y = View.canon L y :=
  View.canon_cons_of_not_mem _ _ fun q => by
    have := (Rect.mem_set_unit (off := off) (size := size) (inb := inb) (i := y)).mp q a
    omega

end

/-- Column group `k` of a block of 512 columns. -/
def colsOf (k : Fin 4) (x : Vec Ideal S128x512 .f32) : Vec Ideal S128x128 .f32 :=
  fun y => x (ix2 (y 0) ⟨128 * k + (y 1 : ℕ), by have := (y 1).isLt; change (y 1 : ℕ) < 128 at this; omega⟩)

/-- Four members of the bias table. -/
def biasOf (g : Fin 2) (x : Vec Ideal S8x128x128 .f32) : Vec Ideal S4x128x128 .f32 :=
  fun y => x (ix3 ⟨4 * g + (y 0 : ℕ), by have := (y 0).isLt; change (y 0 : ℕ) < 4 at this; omega⟩ (y 1) (y 2))

/-- Four heads' sinks. -/
def sinkOf (g : Fin 2) (x : Vec Ideal S1024x1 .f32) : Vec Ideal S512x1 .f32 :=
  fun y => x (ix2 ⟨512 * g + (y 0 : ℕ), by have := (y 0).isLt; change (y 0 : ℕ) < 512 at this; omega⟩ (y 1))

theorem ld_cols (k : Fin 4) (x : Vec Ideal S128x512 .f32) (o : ℕ) (ho : o = 128 * k)
    (h : ∀ a, ![0, o] a + S128x128.size a ≤ S128x512.size a) :
    View.ld x (Rect.unit ![0, o] ![128, 128] h) = colsOf k x := by
  subst ho
  funext y
  unfold colsOf
  idx_vars y
  pointwise

theorem ld_bias (g : Fin 2) (x : Vec Ideal S8x128x128 .f32) (o : ℕ) (ho : o = 4 * g)
    (h : ∀ a, ![o, 0, 0] a + S4x128x128.size a ≤ S8x128x128.size a) :
    View.ld x (Rect.unit ![o, 0, 0] ![4, 128, 128] h) = biasOf g x := by
  subst ho
  funext y
  unfold biasOf
  idx_vars y
  pointwise

theorem ld_sink (g : Fin 2) (x : Vec Ideal S1024x1 .f32) (o : ℕ) (ho : o = 512 * g)
    (h : ∀ a, ![o, 0] a + S512x1.size a ≤ S1024x1.size a) :
    View.ld x (Rect.unit ![o, 0] ![512, 1] h) = sinkOf g x := by
  subst ho
  funext y
  unfold sinkOf
  idx_vars y
  obtain rfl : y1 = 0 := Subsingleton.elim _ _
  pointwise

section
variable (x0 : Vec Ideal S128x512 .f32) (kp kc vp vc : Vec Ideal S128x128 .f32) (x3 : Vec Ideal S8x128x128 .f32) (x4 : Vec Ideal S1024x1 .f32) (x5 : Vec Ideal S128x512 .f32)
  (n : ℕ)

/-- The first group of four heads. -/
def g0 : FVec Ideal S512x128 .f32 :=
  grp (k0_pay9 kp) (k0_pay9 kc) (k0_pay9 vp) (k0_pay9 vc)
    (colsOf 0 x0) (colsOf 1 x0) (colsOf 0 x5) (colsOf 1 x5) (biasOf 0 x3) (Scalar.cmpi CmpIPredicate.sgt (BitVec.ofNat 32 n) 0#32) (sinkOf 0 x4)

/-- The second group of four heads. -/
def g1 : FVec Ideal S512x128 .f32 :=
  grp (k0_pay48 kp) (k0_pay48 kc) (k0_pay48 vp) (k0_pay48 vc)
    (colsOf 2 x0) (colsOf 3 x0) (colsOf 2 x5) (colsOf 3 x5) (biasOf 1 x3) (Scalar.cmpi CmpIPredicate.sgt (BitVec.ofNat 32 n) 0#32) (sinkOf 1 x4)

/-- The tiles stored, the last first. -/
def tiles : List (View.Piece (Elt Ideal) S128x512 .f32) :=
  [⟨Rect.unit ![0, 384] ![128, 128] inb_S128x512_S128x128_0_384, k0_pay41 (g1 x0 kp kc vp vc x3 x4 x5 n)⟩,
   ⟨Rect.unit ![0, 256] ![128, 128] inb_S128x512_S128x128_0_256, k0_pay40 (g1 x0 kp kc vp vc x3 x4 x5 n)⟩,
   ⟨Rect.unit ![0, 128] ![128, 128] inb_S128x512_S128x128_0_128, k0_pay41 (g0 x0 kp kc vp vc x3 x4 x5 n)⟩,
   ⟨Rect.unit ![0, 0] ![128, 128] inb_S128x512_S128x128_0_0, k0_pay40 (g0 x0 kp kc vp vc x3 x4 x5 n)⟩]

end

theorem pay82_eq (a b c d : Vec Ideal S128x128 .f32) (p q : FVec Ideal S512x128 .f32)
    (x y : Vec Ideal S128x128 .f32) :
    k0_pay82 a b c d p q k0_pay70 (k0_pay71 x) (k0_pay72 x) y k0_pay73 y
      = k0_pay40 (k0_pay37 a b c d p q k0_pay30 x x y y) := rfl
theorem pay83_eq (a b c d : Vec Ideal S128x128 .f32) (p q : FVec Ideal S512x128 .f32)
    (x y : Vec Ideal S128x128 .f32) :
    k0_pay83 a b c d p q k0_pay70 (k0_pay71 x) (k0_pay72 x) y k0_pay73 y
      = k0_pay41 (k0_pay37 a b c d p q k0_pay30 x x y y) := rfl
theorem pay67_eq (n : ℕ) (kp kc qa qb : Vec Ideal S128x128 .f32) (bias : Vec Ideal S4x128x128 .f32) (s : Vec Ideal S512x1 .f32) :
    k0_pay67 (k0_pay56 (BitVec.ofNat 32 n) kp k0_pay52 qa qa qb qb bias) k0_pay57
        (k0_pay58 kc k0_pay52 qa qa qb qb bias) k0_pay59 s
      = k0_pay27 kp kc (k0_pay15 qa qa qb qb) (k0_pay16 bias) k0_pay17
      (iota Kind.tc S512x128 32 [1] iota_S512x128_d1_w32) k0_pay18 (Scalar.cmpi CmpIPredicate.sgt (BitVec.ofNat 32 n) 0#32) s := rfl
theorem pay68_eq (n : ℕ) (kp kc qa qb : Vec Ideal S128x128 .f32) (bias : Vec Ideal S4x128x128 .f32) (s : Vec Ideal S512x1 .f32) :
    k0_pay68 (k0_pay56 (BitVec.ofNat 32 n) kp k0_pay52 qa qa qb qb bias) k0_pay57
        (k0_pay58 kc k0_pay52 qa qa qb qb bias) k0_pay59 s
      = k0_pay28 kp kc (k0_pay15 qa qa qb qb) (k0_pay16 bias) k0_pay17
      (iota Kind.tc S512x128 32 [1] iota_S512x128_d1_w32) k0_pay18 (Scalar.cmpi CmpIPredicate.sgt (BitVec.ofNat 32 n) 0#32) s := rfl
theorem off1_eq : ∀ i : grid0.Coords, k0_off1 i = ![128 * ((i 1).val - 1), 0] := by decide +kernel
theorem off2_eq : ∀ i : grid0.Coords, k0_off2 i = ![128 * (i 1).val, 0] := by decide +kernel

theorem ld_prev (i : grid0.Coords) (x : Vec Ideal S2048x128 .f32) (h) :
    View.ld x (Rect.unit (s := S2048x128) (k0_off1 i) S128x128.size h)
      = rowsOf ((i 1 : ℕ) - 1) (lt_of_le_of_lt (Nat.sub_le _ _) (i 1).isLt) x := by
  revert h
  rw [off1_eq]
  intro h
  exact ld_rows _ _ _ rfl x h
theorem ld_cur (i : grid0.Coords) (x : Vec Ideal S2048x128 .f32) (h) :
    View.ld x (Rect.unit (s := S2048x128) (k0_off2 i) S128x128.size h)
      = rowsOf (i 1) (i 1).isLt x := by
  revert h
  rw [off2_eq]
  intro h
  exact ld_rows _ _ _ rfl x h
theorem pay10_eq (x : Vec Ideal S128x128 .f32) : k0_pay10 x = k0_pay9 x := rfl
theorem pay14_eq (x : Vec Ideal S128x128 .f32) : k0_pay14 x = k0_pay9 x := rfl
theorem pay13_eq (x : Vec Ideal S128x128 .f32) : k0_pay13 x k0_pay11 (k0_pay12 x) = k0_pay9 x := rfl
theorem pay49_eq (x : Vec Ideal S128x128 .f32) : k0_pay49 x = k0_pay48 x := rfl
theorem pay50_eq (x : Vec Ideal S128x128 .f32) : k0_pay50 x = k0_pay48 x := rfl
theorem pay51_eq (x : Vec Ideal S128x128 .f32) : k0_pay51 x = k0_pay48 x := rfl

/-! ## The tiles at an index -/

/-- The column of dimension `d` of the head column `y` lies in. -/
def hcol (y : Fin 512) (d : Fin 64) : Fin 512 := ⟨64 * ((y : ℕ) / 64) + d, by omega⟩
/-- The column of dimension `d` of the keys' and values' head that serves it. -/
def kcol (y : Fin 512) (d : Fin 64) : Fin 128 := ⟨64 * ((y : ℕ) / 256) + d, by omega⟩
/-- The head of a column. -/
def hd (y : Fin 512) : Fin 8 := ⟨(y : ℕ) / 64, by omega⟩
/-- The row of the sinks of a head and a query. -/
def srow (q : Fin 128) (y : Fin 512) : Fin 1024 := ⟨128 * ((y : ℕ) / 64) + q, by omega⟩
/-- A column's dimension in its head. -/
def dim (y : Fin 512) : Fin 64 := ⟨(y : ℕ) % 64, by omega⟩

theorem cell_congr {n q q' : ℕ} {qv qv' dv dv' : Fin 64 → EReal} {kp kp' kc kc' vp vp' vc vc' : Fin 128 → Fin 64 → EReal}
    {b b' : Fin 128 → EReal} {s s' : EReal} {d d' : Fin 64} (h1 : q = q') (h2 : ∀ d, qv d = qv' d) (h3 : ∀ d, dv d = dv' d)
    (h4 : ∀ j d, kp j d = kp' j d) (h5 : ∀ j d, kc j d = kc' j d) (h6 : ∀ j d, vp j d = vp' j d) (h7 : ∀ j d, vc j d = vc' j d)
    (h8 : ∀ j, b j = b' j) (h9 : s = s') (h10 : d = d') :
    cell n q qv dv kp kc vp vc b s d = cell n q' qv' dv' kp' kc' vp' vc' b' s' d' := by
  obtain rfl := h1
  obtain rfl := funext h2
  obtain rfl := funext h3
  obtain rfl := funext fun j => funext (h4 j)
  obtain rfl := funext fun j => funext (h5 j)
  obtain rfl := funext fun j => funext (h6 j)
  obtain rfl := funext fun j => funext (h7 j)
  obtain rfl := funext h8
  obtain rfl := h9
  obtain rfl := h10
  rfl

section
variable (x0 : Vec Ideal S128x512 .f32) (kp kc vp vc : Vec Ideal S128x128 .f32) (x3 : Vec Ideal S8x128x128 .f32) (x4 : Vec Ideal S1024x1 .f32) (x5 : Vec Ideal S128x512 .f32)
  (n : ℕ) (hn : n < 2 ^ 31)

/-- One element of the stored block. -/
def elt (q : Fin 128) (y : Fin 512) : EReal :=
  cell n q (fun d => x0 (ix2 q (hcol y d))) (fun d => x5 (ix2 q (hcol y d)))
    (fun j d => kp (ix2 j (kcol y d))) (fun j d => kc (ix2 j (kcol y d)))
    (fun j d => vp (ix2 j (kcol y d))) (fun j d => vc (ix2 j (kcol y d)))
    (fun j => x3 (ix3 (hd y) q j)) (x4 (ix2 (srow q y) 0)) (dim y)

theorem hrow_at (a b : Fin 4) (g : ℕ) (hg : g < 2) (ha : (a : ℕ) = 2 * g) (hb : (b : ℕ) = 2 * g + 1) (x : Vec Ideal S128x512 .f32)
    (r : Fin 512) (q : Fin 128) (y : Fin 512) (h : (r : ℕ) + 512 * g = 128 * ((y : ℕ) / 64) + q) (d : Fin 64) :
    hrow (colsOf a x) (colsOf b x) r d = x (ix2 q (hcol y d)) := by
  unfold hrow stackRow colsOf hcol hl rq rh
  dsimp only
  split_ifs with h1
  · refine congrArg₂ (fun u v => x (ix2 u v)) (Fin.ext ?_) (Fin.ext ?_)
    · show (r : ℕ) % 128 = q
      omega
    · show 128 * (a : ℕ) + (64 * ((r : ℕ) / 128 % 2) + d) = 64 * ((y : ℕ) / 64) + d
      omega
  · refine congrArg₂ (fun u v => x (ix2 u v)) (Fin.ext ?_) (Fin.ext ?_)
    · show (r : ℕ) % 128 = q
      omega
    · show 128 * (b : ℕ) + (64 * ((r : ℕ) / 128 % 2) + d) = 64 * ((y : ℕ) / 64) + d
      omega

include hn

theorem g0_at (r : Fin 512) (l : Fin 128) (q : Fin 128) (y : Fin 512) (h : (r : ℕ) = 128 * ((y : ℕ) / 64) + q)
    (hl' : (l : ℕ) % 64 = (y : ℕ) % 64) :
    g0 x0 kp kc vp vc x3 x4 x5 n (ix2 r l) * sc = elt x0 kp kc vp vc x3 x4 x5 n q y := by
  have hk : ∀ d, hl 0 d = kcol y d := fun d => Fin.ext (by
    show 64 * (0 % 2) + (d : ℕ) = 64 * ((y : ℕ) / 256) + d
    omega)
  refine (grp_eq _ _ _ _ _ _ _ _ _ n hn _ (fun j d => kp (ix2 j (hl 0 d))) (fun j d => kc (ix2 j (hl 0 d)))
    (fun j d => vp (ix2 j (hl 0 d))) (fun j d => vc (ix2 j (hl 0 d))) (dup0 kp) (dup0 kc) (dup0 vp) (dup0 vc) r l).trans ?_
  unfold elt
  refine cell_congr ?_ ?_ ?_ ?_ ?_ ?_ ?_ ?_ ?_ ?_
  · show (r : ℕ) % 128 = q
    omega
  · exact fun d => hrow_at 0 1 0 (by omega) rfl rfl x0 r q y (by omega) d
  · exact fun d => hrow_at 0 1 0 (by omega) rfl rfl x5 r q y (by omega) d
  · exact fun j d => by rw [hk]
  · exact fun j d => by rw [hk]
  · exact fun j d => by rw [hk]
  · exact fun j d => by rw [hk]
  · intro j
    unfold biasOf rh rq hd
    refine congrArg₂ (fun u v => x3 (ix3 u v j)) (Fin.ext ?_) (Fin.ext ?_)
    · show 4 * 0 + (r : ℕ) / 128 = (y : ℕ) / 64
      omega
    · show (r : ℕ) % 128 = q
      omega
  · unfold sinkOf srow
    refine congrArg (fun u => x4 (ix2 u 0)) (Fin.ext ?_)
    show 512 * 0 + (r : ℕ) = 128 * ((y : ℕ) / 64) + q
    omega
  · exact Fin.ext hl'

theorem g1_at (r : Fin 512) (l : Fin 128) (q : Fin 128) (y : Fin 512) (h : (r : ℕ) + 512 = 128 * ((y : ℕ) / 64) + q)
    (hl' : (l : ℕ) % 64 = (y : ℕ) % 64) :
    g1 x0 kp kc vp vc x3 x4 x5 n (ix2 r l) * sc = elt x0 kp kc vp vc x3 x4 x5 n q y := by
  have hk : ∀ d, hl 1 d = kcol y d := fun d => Fin.ext (by
    show 64 * (1 % 2) + (d : ℕ) = 64 * ((y : ℕ) / 256) + d
    omega)
  refine (grp_eq _ _ _ _ _ _ _ _ _ n hn _ (fun j d => kp (ix2 j (hl 1 d))) (fun j d => kc (ix2 j (hl 1 d)))
    (fun j d => vp (ix2 j (hl 1 d))) (fun j d => vc (ix2 j (hl 1 d))) (dup1 kp) (dup1 kc) (dup1 vp) (dup1 vc) r l).trans ?_
  unfold elt
  refine cell_congr ?_ ?_ ?_ ?_ ?_ ?_ ?_ ?_ ?_ ?_
  · show (r : ℕ) % 128 = q
    omega
  · exact fun d => hrow_at 2 3 1 (by omega) rfl rfl x0 r q y (by omega) d
  · exact fun d => hrow_at 2 3 1 (by omega) rfl rfl x5 r q y (by omega) d
  · exact fun j d => by rw [hk]
  · exact fun j d => by rw [hk]
  · exact fun j d => by rw [hk]
  · exact fun j d => by rw [hk]
  · intro j
    unfold biasOf rh rq hd
    refine congrArg₂ (fun u v => x3 (ix3 u v j)) (Fin.ext ?_) (Fin.ext ?_)
    · show 4 * 1 + (r : ℕ) / 128 = (y : ℕ) / 64
      omega
    · show (r : ℕ) % 128 = q
      omega
  · unfold sinkOf srow
    refine congrArg (fun u => x4 (ix2 u 0)) (Fin.ext ?_)
    show 512 * 1 + (r : ℕ) = 128 * ((y : ℕ) / 64) + q
    omega
  · exact Fin.ext hl'

theorem tiles_at (q : Fin 128) (y : Fin 512) :
    View.canon (tiles x0 kp kc vp vc x3 x4 x5 n) (ix2 q y) = elt x0 kp kc vp vc x3 x4 x5 n q y := by
  unfold tiles
  by_cases h3 : 384 ≤ (y : ℕ)
  · refine (canon_in (Val := Elt Ideal) (s := S128x512) (e := .f32) (off := ![0, 384]) (size := ![128, 128]) _ _ _ _ (ix2 q ⟨(y : ℕ) - 384, by omega⟩ : S128x128.Idx) fun a => ?_).trans ?_
    · match a with
      | ⟨0, _⟩ => exact (Nat.zero_add _).symm
      | ⟨1, _⟩ => show (y : ℕ) = 384 + ((y : ℕ) - 384); omega
    · refine (pay41_eq _ _ _).trans (g1_at x0 kp kc vp vc x3 x4 x5 n hn _ _ q y ?_ ?_) <;> dsimp only <;> omega
  refine (canon_off (Val := Elt Ideal) (s := S128x512) (e := .f32) (off := ![0, 384]) (size := ![128, 128]) _ _ _ _ (1 : Fin 2) (Or.inl (by show (y : ℕ) < 384; omega))).trans ?_
  by_cases h2 : 256 ≤ (y : ℕ)
  · refine (canon_in (Val := Elt Ideal) (s := S128x512) (e := .f32) (off := ![0, 256]) (size := ![128, 128]) _ _ _ _ (ix2 q ⟨(y : ℕ) - 256, by omega⟩ : S128x128.Idx) fun a => ?_).trans ?_
    · match a with
      | ⟨0, _⟩ => exact (Nat.zero_add _).symm
      | ⟨1, _⟩ => show (y : ℕ) = 256 + ((y : ℕ) - 256); omega
    · refine (pay40_eq _ _ _).trans (g1_at x0 kp kc vp vc x3 x4 x5 n hn _ _ q y ?_ ?_) <;> dsimp only <;> omega
  refine (canon_off (Val := Elt Ideal) (s := S128x512) (e := .f32) (off := ![0, 256]) (size := ![128, 128]) _ _ _ _ (1 : Fin 2) (Or.inl (by show (y : ℕ) < 256; omega))).trans ?_
  by_cases h1 : 128 ≤ (y : ℕ)
  · refine (canon_in (Val := Elt Ideal) (s := S128x512) (e := .f32) (off := ![0, 128]) (size := ![128, 128]) _ _ _ _ (ix2 q ⟨(y : ℕ) - 128, by omega⟩ : S128x128.Idx) fun a => ?_).trans ?_
    · match a with
      | ⟨0, _⟩ => exact (Nat.zero_add _).symm
      | ⟨1, _⟩ => show (y : ℕ) = 128 + ((y : ℕ) - 128); omega
    · refine (pay41_eq _ _ _).trans (g0_at x0 kp kc vp vc x3 x4 x5 n hn _ _ q y ?_ ?_) <;> dsimp only <;> omega
  refine (canon_off (Val := Elt Ideal) (s := S128x512) (e := .f32) (off := ![0, 128]) (size := ![128, 128]) _ _ _ _ (1 : Fin 2) (Or.inl (by show (y : ℕ) < 128; omega))).trans ?_
  refine (canon_in (Val := Elt Ideal) (s := S128x512) (e := .f32) (off := ![0, 0]) (size := ![128, 128]) _ _ _ _ (ix2 q ⟨(y : ℕ), by omega⟩ : S128x128.Idx) fun a => ?_).trans ?_
  · match a with
    | ⟨0, _⟩ => exact (Nat.zero_add _).symm
    | ⟨1, _⟩ => exact (Nat.zero_add _).symm
  · refine (pay40_eq _ _ _).trans (g0_at x0 kp kc vp vc x3 x4 x5 n hn _ _ q y ?_ ?_) <;> dsimp only <;> omega

end

section
variable (c : Dev nD) (i : grid0.Coords)
    (arg2 : Memref sig .tc .vmem S128x512 .f32) (harg2 : arg2.IsWhole)
    (arg3 : Memref sig .tc .vmem S2048x128 .f32) (harg3 : arg3.IsWhole)
    (arg4 : Memref sig .tc .vmem S2048x128 .f32) (harg4 : arg4.IsWhole)
    (arg5 : Memref sig .tc .vmem S8x128x128 .f32) (harg5 : arg5.IsWhole)
    (arg6 : Memref sig .tc .vmem S1024x1 .f32) (harg6 : arg6.IsWhole) (arg7 : Memref sig .tc .vmem S128x512 .f32)
    (harg7 : arg7.IsWhole) (arg8 : Memref sig .tc .vmem S128x512 .f32) (harg8 : arg8.IsWhole)
    (arg9 : Memref sig .tc .vmem S2048x128 .f32) (harg9 : arg9.IsWhole)
    (arg10 : Memref sig .tc .vmem S2048x128 .f32) (harg10 : arg10.IsWhole)
    (arg11 : Memref sig .tc .vmem S8x128x128 .f32) (harg11 : arg11.IsWhole)
    (arg12 : Memref sig .tc .vmem S1024x1 .f32) (harg12 : arg12.IsWhole)
    (x0 : Vec Ideal S128x512 .f32) (x1 : Vec Ideal S2048x128 .f32) (x2 : Vec Ideal S2048x128 .f32) (x3 : Vec Ideal S8x128x128 .f32) (x4 : Vec Ideal S1024x1 .f32) (x5 : Vec Ideal S128x512 .f32)

theorem out6_eq : out6 c i arg2 harg2 arg3 harg3 arg4 harg4 arg5 harg5 arg6 harg6 arg7 harg7 arg8 harg8 arg9 harg9 arg10 harg10 arg11 harg11 arg12 harg12 x0 x1 x2 x3 x4 x5
    = View.canon (tiles x0 (rowsOf ((i 1 : ℕ) - 1) (lt_of_le_of_lt (Nat.sub_le _ _) (i 1).isLt) x1) (rowsOf (i 1) (i 1).isLt x1)
        (rowsOf ((i 1 : ℕ) - 1) (lt_of_le_of_lt (Nat.sub_le _ _) (i 1).isLt) x2) (rowsOf (i 1) (i 1).isLt x2) x3 x4 x5 (i 1)) := by
  rw [← ld_prev i x1 (k0_off1_inb i), ← ld_prev i x2 (k0_off1_inb i), ← ld_cur i x1 (k0_off2_inb i), ← ld_cur i x2 (k0_off2_inb i)]
  unfold out6 bodyRun
  dsimp only
  sl_unfold_words
  simp only [View.readAt_eq_ld, harg2.read_unread, harg3.read_unread, harg4.read_unread, harg5.read_unread, harg6.read_unread, harg7.read_unread]
  rw [View.read_writes_junk_eq_canon]
  simp only [ld_cols 0 _ 0 rfl, ld_cols 1 _ 128 rfl, ld_cols 2 _ 256 rfl, ld_cols 3 _ 384 rfl,
    ld_bias 0 _ 0 rfl, ld_bias 1 _ 4 rfl, ld_sink 0 _ 0 rfl, ld_sink 1 _ 512 rfl,
    pay82_eq, pay83_eq, pay67_eq, pay68_eq, pay10_eq, pay13_eq, pay14_eq, pay49_eq, pay50_eq, pay51_eq]
  rfl

end

end Cert.SwaIdeal.Body
end
-- ==== Proof.SwaHost.lean ====
module

public import proofs.«01_k».proof.Proof.SwaOut

/-!
# What a grid point of the sliding-window attention's backward pass loads

Point `t` is block `t % 16` of sequence `t / 16`. The host repeats each head's
sink 128 times; the other arrays reach the call as they are.
-/

@[expose] public section

set_option maxRecDepth 16384
set_option maxHeartbeats 4000000

noncomputable section

namespace Cert.SwaIdeal.Host

open Cert.SwaIdeal Cert.SwaIdeal.Gen Cert.SwaIdeal.Hand Idealize.ShloMosaic Idealize.ShloMosaic.TcCoe Idealize.SL.Sem Idealize.ShloMosaic.StableHlo

variable (m : (ℓ : Loc nD τ sig) → Buf (Elt Ideal) ℓ) (c : Dev nD)

/-- The projections, the bias, the sinks and the derivative coming in. -/
def U : FVec Ideal S4096x2560 .f32 := m (c.tc.loc main_arg0)
@[inherit_doc U] def BI : FVec Ideal S8x128x128 .f32 := m (c.tc.loc main_arg1)
@[inherit_doc U] def SKS : FVec Ideal S8 .f32 := m (c.tc.loc main_arg2)
@[inherit_doc U] def DO : FVec Ideal S4096x512 .f32 := m (c.tc.loc main_arg3)

/-- Each sink 128 times, in a column. -/
def sinkCol (x : FVec Ideal S8 .f32) : FVec Ideal S1024x1 .f32 :=
  shapeCast S1024x1 (shapeCast S1024 (broadcastInDim S8x128 ![0] bcast_S8_S8x128_0 x) shapeCasts_S8x128_S1024) shapeCasts_S1024_S1024x1

theorem V_sink : V m c main_v2 = sinkCol (SKS m c) := by
  unfold V
  after_reads_simp
  rfl

theorem sinkCol_apply (x : FVec Ideal S8 .f32) (r : Fin 1024) (p : Fin 1) : sinkCol x (ix2 r p) = x (ix1 ⟨r.val / 128, by omega⟩) := by
  unfold sinkCol
  pointwise

theorem idx_all : ∀ t : Fin grid0.N, (win0_0.index t = ![t.val, 1] ∧ win0_1.index t = ![t.val / 16, 8] ∧ win0_2.index t = ![t.val / 16, 9])
    ∧ (win0_3.index t = ![0, 0, 0] ∧ win0_4.index t = ![0, 0] ∧ win0_5.index t = ![t.val, 0])
    ∧ win0_6.index t = ![t.val, 0] ∧ (grid0.coords t 1 : ℕ) = t.val % 16 := by
  decide +kernel

theorem lt32 {n : ℕ} (h : n < cfg0.N) : n < 32 := lt_of_lt_of_eq h N_0

theorem iblk_q (n : ℕ) (h : n < cfg0.N) (r : Fin 128) (d : Fin 512) :
    iblk m c 0 ⟨n, h⟩ (ix2 r d) = U m c (ix2 ⟨n * 128 + r, by have := lt32 h; omega⟩ ⟨512 + d, by omega⟩) := by
  have e := (idx_all ⟨n, h⟩).1.1
  have he : (win0_0.blk ⟨n, h⟩).view.emb (ix2 r d) = (ix2 ⟨n * 128 + r, by have := lt32 h; omega⟩ ⟨512 + d, by omega⟩ : S4096x2560.Idx) := by
    blk_ext [e]
  blk_simp [iblk]
  rw [V_main_arg0, he]
  rfl

theorem iblk_k (n : ℕ) (h : n < cfg0.N) (r : Fin 2048) (d : Fin 128) :
    iblk m c 1 ⟨n, h⟩ (ix2 r d) = U m c (ix2 ⟨n / 16 * 2048 + r, by have := lt32 h; omega⟩ ⟨1024 + d, by omega⟩) := by
  have e := (idx_all ⟨n, h⟩).1.2.1
  have he : (win0_1.blk ⟨n, h⟩).view.emb (ix2 r d) = (ix2 ⟨n / 16 * 2048 + r, by have := lt32 h; omega⟩ ⟨1024 + d, by omega⟩ : S4096x2560.Idx) := by
    blk_ext [e]
  blk_simp [iblk]
  rw [V_main_arg0, he]
  rfl

theorem iblk_v (n : ℕ) (h : n < cfg0.N) (r : Fin 2048) (d : Fin 128) :
    iblk m c 2 ⟨n, h⟩ (ix2 r d) = U m c (ix2 ⟨n / 16 * 2048 + r, by have := lt32 h; omega⟩ ⟨1152 + d, by omega⟩) := by
  have e := (idx_all ⟨n, h⟩).1.2.2
  have he : (win0_2.blk ⟨n, h⟩).view.emb (ix2 r d) = (ix2 ⟨n / 16 * 2048 + r, by have := lt32 h; omega⟩ ⟨1152 + d, by omega⟩ : S4096x2560.Idx) := by
    blk_ext [e]
  blk_simp [iblk]
  rw [V_main_arg0, he]
  rfl

theorem iblk_b (n : ℕ) (h : n < cfg0.N) (a : Fin 8) (q j : Fin 128) :
    iblk m c 3 ⟨n, h⟩ (ix3 a q j) = BI m c (ix3 a q j) := by
  have e := (idx_all ⟨n, h⟩).2.1.1
  have he : (win0_3.blk ⟨n, h⟩).view.emb (ix3 a q j) = (ix3 a q j : S8x128x128.Idx) := by
    blk_ext [e]
  blk_simp [iblk]
  rw [V_main_arg1, he]
  rfl

theorem iblk_s (n : ℕ) (h : n < cfg0.N) (r : Fin 1024) (p : Fin 1) :
    iblk m c 4 ⟨n, h⟩ (ix2 r p) = SKS m c (ix1 ⟨r.val / 128, by omega⟩) := by
  have e := (idx_all ⟨n, h⟩).2.1.2.1
  have he : (win0_4.blk ⟨n, h⟩).view.emb (ix2 r p) = (ix2 r p : S1024x1.Idx) := by
    blk_ext [e]
  blk_simp [iblk]
  rw [V_sink, he, sinkCol_apply]

theorem iblk_do (n : ℕ) (h : n < cfg0.N) (r : Fin 128) (d : Fin 512) :
    iblk m c 5 ⟨n, h⟩ (ix2 r d) = DO m c (ix2 ⟨n * 128 + r, by have := lt32 h; omega⟩ d) := by
  have e := (idx_all ⟨n, h⟩).2.1.2.2
  have he : (win0_5.blk ⟨n, h⟩).view.emb (ix2 r d) = (ix2 ⟨n * 128 + r, by have := lt32 h; omega⟩ d : S4096x512.Idx) := by
    blk_ext [e]
  blk_simp [iblk]
  rw [V_main_arg3, he]
  rfl

end Cert.SwaIdeal.Host

end
-- ==== Proof.SwaPre.lean ====
module

public import proofs.«01_k».proof.Proof.ActPre
public import proofs.«01_k».proof.Proof.Gen.Pre_finite_attention
public import proofs.«01_k».proof.Proof.SwaHost

/-!
# Finite arrays are arrays of reals
-/

@[expose] public section

noncomputable section

namespace Cert.SwaIdeal.Pre

open Cert.SwaIdeal Cert.SwaIdeal.Host Cert.ActMath Cert.ActIdeal.Pre Idealize.ShloMosaic Idealize.ShloMosaic.TcCoe Idealize.SL.Sem Idealize.ShloMosaic.StableHlo

instance : Subsingleton Cert.Pre_finite_attention.S_.Idx := ⟨fun a b => funext fun i => i.elim0⟩

/-- Four arrays of which the precondition holds are arrays of reals. -/
theorem real_of_fn (x0 : FVec Ideal Cert.Pre_finite_attention.S4096x2560 .f32) (x1 : FVec Ideal Cert.Pre_finite_attention.S8x128x128 .f32)
    (x2 : FVec Ideal Cert.Pre_finite_attention.S8 .f32) (x3 : FVec Ideal Cert.Pre_finite_attention.S4096x512 .f32)
    (h : ∀ j, Cert.Pre_finite_attention.fn (F := Ideal) x0 x1 x2 x3 j = 1#1) :
    (∀ i, IsReal (x0 i)) ∧ (∀ i, IsReal (x1 i)) ∧ (∀ i, IsReal (x2 i)) ∧ ∀ i, IsReal (x3 i) := by
  have h := h (fun a => a.elim0)
  dsimp only [Cert.Pre_finite_attention.fn, Cert.Pre_finite_attention.fn_part1] at h
  obtain ⟨h, h3⟩ := and_one h
  obtain ⟨h, h2⟩ := and_one h
  obtain ⟨h0, h1⟩ := and_one h
  exact ⟨fun i => real_of_cmp _ (Host.reduce_andi_all _ _ _ _ _ h0 i), fun i => real_of_cmp _ (Host.reduce_andi_all _ _ _ _ _ h1 i),
    fun i => real_of_cmp _ (Host.reduce_andi_all _ _ _ _ _ h2 i), fun i => real_of_cmp _ (Host.reduce_andi_all _ _ _ _ _ h3 i)⟩

/-- The four argument arrays hold reals. -/
structure Real (m : (ℓ : Loc nD τ sig) → Buf (Elt Ideal) ℓ) (c : Dev nD) : Prop where
  u : ∀ i, IsReal (U m c i)
  bi : ∀ i, IsReal (BI m c i)
  sk : ∀ i, IsReal (SKS m c i)
  dO : ∀ i, IsReal (DO m c i)

theorem real_of_pre (m : (ℓ : Loc nD τ sig) → Buf (Elt Ideal) ℓ) (hp : Cert.Pre_SwaIdeal_finite_attention m) (c : Dev nD) : Real m c := by
  obtain ⟨h0, h1, h2, h3⟩ := real_of_fn _ _ _ _ (fun j => congrFun (hp c) j)
  exact ⟨h0, h1, h2, h3⟩

end Cert.SwaIdeal.Pre

end
-- ==== Proof.SwaMath.lean ====
module

public import proofs.«01_k».proof.Proof.ActMath

/-!
# The gradient of a softmax row with a sink

A row has a score for every key, `⊥` where the key is not seen, and one score of
the sink. The probabilities' derivative `D` gives the scores' derivative in two
forms: `kds`, the closed form, and `rds`, the chain rule through the sum of the
exponentials and through the largest score. On a row of reals they agree, since
the derivative with respect to the largest score is zero.
-/

@[expose] public section

noncomputable section

namespace Cert.SwaMath

open Cert.ActMath Idealize.ShloMosaic

variable {ι : Type} [Fintype ι] (S : ι → EReal) (s : EReal) (D : ι → EReal)

/-- The largest score of a row, the sink among them. -/
def mx : EReal := max (Finset.univ.fold max ⊥ S) s
/-- The exponentials of the scores. -/
def e (j : ι) : EReal := Ideal.exp (S j - mx S s)
/-- The sum of the exponentials, the sink's among them. -/
def den : EReal := (∑ j, e S s j) + Ideal.exp (s - mx S s)
/-- The mean of the derivative under the probabilities. -/
def delta : EReal := ∑ j, e S s j * Ideal.div 1 (den S s) * D j
/-- The scores' derivative in closed form. -/
def kds (j : ι) : EReal := e S s j * Ideal.div 1 (den S s) * (D j - delta S s D)

/-- Minus the derivative of the sum of the exponentials. -/
def rsum : EReal := -∑ j, D j * Ideal.div 1 (den S s * den S s) * e S s j
/-- The derivative of the differences to the largest score. -/
def rdiff (j : ι) : EReal := (Ideal.div (D j) (den S s) + rsum S s D) * e S s j
/-- The derivative of the largest score. -/
def rmax : EReal := -(rsum S s D * Ideal.exp (s - mx S s)) + ∑ j, -rdiff S s D j
/-- The scores' derivative by the chain rule: `t` is the share of the keys in the largest score,
`cnt` the number of keys that have it and `ind` says whether a key has it. -/
def rds (t cnt : EReal) (ind : ι → EReal) (j : ι) : EReal :=
  rdiff S s D j + Ideal.div (rmax S s D * t) cnt * ind j

section
variable {S s D}

theorem mx_real (hS : ∀ j, S j = ⊥ ∨ IsReal (S j)) (hs : IsReal s) : ∃ m : ℝ, mx S s = m := by
  obtain ⟨r, rfl⟩ := hs
  have h1 : mx S (r : EReal) ≠ ⊥ := by
    intro h
    have : (r : EReal) ≤ ⊥ := h ▸ le_max_right _ _
    exact absurd (le_bot_iff.1 this) (EReal.coe_ne_bot r)
  have h2 : mx S (r : EReal) ≠ ⊤ := by
    refine ne_of_lt (max_lt ?_ (EReal.coe_lt_top r))
    show Finset.univ.sup S < ⊤
    refine (Finset.sup_lt_iff bot_lt_top).2 fun j _ => ?_
    rcases hS j with h | ⟨x, h⟩ <;> rw [h]
    · exact bot_lt_top
    · exact EReal.coe_lt_top x
  exact ⟨_, (EReal.coe_toReal h2 h1).symm⟩

/-- Of such a row the exponentials and their sum are reals. -/
theorem e_real (hS : ∀ j, S j = ⊥ ∨ IsReal (S j)) (hs : IsReal s) :
    ∃ (ε : ι → ℝ) (σ Z : ℝ), (∀ j, e S s j = ε j) ∧ Ideal.exp (s - mx S s) = σ ∧ den S s = Z ∧ Z = ∑ j, ε j + σ ∧ 0 < Z
      ∧ ∀ j, S j = ⊥ → ε j = 0 := by
  obtain ⟨m, hm⟩ := mx_real hS hs
  obtain ⟨r, rfl⟩ := hs
  have he : ∀ j, ∃ x : ℝ, e S r j = x ∧ 0 ≤ x ∧ (S j = ⊥ → x = 0) := by
    intro j
    unfold e
    rw [hm]
    rcases hS j with h | ⟨x, h⟩ <;> rw [h]
    · exact ⟨0, by rw [EReal.bot_sub]; rfl, le_rfl, fun _ => rfl⟩
    · refine ⟨Real.exp (x - m), ?_, (Real.exp_pos _).le, fun h => absurd h (EReal.coe_ne_bot x)⟩
      rw [← EReal.coe_sub, Ideal.exp_coe]
  choose ε hε h0 hb using he
  have hσ : Ideal.exp ((r : EReal) - mx S r) = (Real.exp (r - m) : ℝ) := by
    rw [hm, ← EReal.coe_sub, Ideal.exp_coe]
  refine ⟨ε, Real.exp (r - m), _, hε, hσ, ?_, rfl, ?_, hb⟩
  · unfold den
    rw [hσ, EReal.coe_add, ← coe_sum]
    simp only [hε]
  · exact add_pos_of_nonneg_of_pos (Finset.sum_nonneg fun j _ => h0 j) (Real.exp_pos _)

/-- The closed form is a real, and zero at a key not seen. -/
theorem kds_real (hS : ∀ j, S j = ⊥ ∨ IsReal (S j)) (hs : IsReal s) (hD : ∀ j, IsReal (D j)) (j : ι) :
    IsReal (kds S s D j) ∧ (S j = ⊥ → kds S s D j = 0) := by
  obtain ⟨ε, σ, Z, he, hσ, hZ, hZe, hpos, hb⟩ := e_real hS hs
  choose δ hδ using hD
  have hk : kds S s D j = ((ε j * (1 / Z) * (δ j - ∑ i, ε i * (1 / Z) * δ i) : ℝ) : EReal) := by
    unfold kds delta
    rw [hZ, Ideal.div_coe hpos.ne']
    simp only [he, hδ, one_mul, ← EReal.coe_mul, coe_sum, ← EReal.coe_sub]
  exact ⟨⟨_, hk⟩, fun h => by rw [hk, hb j h]; simp⟩

/-- The chain rule gives the closed form, wherever the key is seen; the probabilities' derivative
counts only there. -/
theorem rds_eq (hS : ∀ j, S j = ⊥ ∨ IsReal (S j)) (hs : IsReal s) (hD : ∀ j, IsReal (D j)) {D' : ι → EReal}
    (hD' : ∀ j, IsReal (D' j)) (h : ∀ j, S j ≠ ⊥ → D' j = D j) {t cnt : EReal} (hc : cnt ≠ 0) (ind : ι → EReal)
    (j : ι) (hj : S j ≠ ⊥) : rds S s D' t cnt ind j = kds S s D j := by
  obtain ⟨ε, σ, Z, he, hσ, hZ, hZe, hpos, hb⟩ := e_real hS hs
  choose δ hδ using hD
  choose δ' hδ' using hD'
  have hx : ∀ i, δ' i * ε i = δ i * ε i := by
    intro i
    by_cases hi : S i = ⊥
    · rw [hb i hi, mul_zero, mul_zero]
    · have := h i hi
      rw [hδ, hδ', EReal.coe_eq_coe_iff] at this
      rw [this]
  have hr : rsum S s D' = ((-(∑ i, δ i * ε i) * (1 / (Z * Z)) : ℝ) : EReal) := by
    unfold rsum
    rw [hZ, ← EReal.coe_mul, Ideal.div_coe (mul_pos hpos hpos).ne']
    simp only [he, hδ', one_mul, ← EReal.coe_mul, coe_sum, ← EReal.coe_neg]
    congr 1
    rw [neg_mul, Finset.sum_mul]
    congr 1
    exact Finset.sum_congr rfl fun i _ => by rw [← hx i]; ring
  have hd : ∀ i, rdiff S s D' i = ((δ i * ε i * (1 / Z) - (∑ i, δ i * ε i) * (1 / (Z * Z)) * ε i : ℝ) : EReal) := by
    intro i
    unfold rdiff
    rw [hr, hZ, Ideal.div_coe hpos.ne', he, hδ', ← EReal.coe_mul, ← EReal.coe_add, ← EReal.coe_mul]
    congr 1
    rw [← hx i]
    ring
  have hm : rmax S s D' = 0 := by
    unfold rmax
    simp only [hr, hσ, hd, ← EReal.coe_neg, ← EReal.coe_mul, coe_sum, ← EReal.coe_add]
    rw [← EReal.coe_zero]
    congr 1
    rw [Finset.sum_neg_distrib, Finset.sum_sub_distrib, ← Finset.sum_mul, ← Finset.mul_sum]
    have : ∑ i, ε i = Z - σ := by rw [hZe]; ring
    rw [this]
    field_simp
    ring
  have hk : kds S s D j = ((ε j * (1 / Z) * (δ j - ∑ i, ε i * (1 / Z) * δ i) : ℝ) : EReal) := by
    unfold kds delta
    rw [hZ, Ideal.div_coe hpos.ne']
    simp only [he, hδ, one_mul, ← EReal.coe_mul, coe_sum, ← EReal.coe_sub]
  unfold rds
  rw [hm, zero_mul, Ideal.div, if_neg hc, zero_mul, zero_mul, add_zero, hd, hk]
  congr 1
  have : ∑ i, ε i * (1 / Z) * δ i = (∑ i, δ i * ε i) * (1 / Z) := by
    rw [Finset.sum_mul]
    exact Finset.sum_congr rfl fun i _ => by ring
  rw [this]
  field_simp

/-- The largest score is that of some key. -/
theorem exists_mx [Nonempty ι] : ∃ j, S j = Finset.univ.fold max ⊥ S := by
  obtain ⟨j, _, h⟩ := Finset.exists_mem_eq_sup Finset.univ Finset.univ_nonempty S
  exact ⟨j, h.symm⟩

/-- So the keys that have it are not none. -/
theorem count_ne_zero {ind : ι → EReal} (h : ∀ j, 0 ≤ ind j) (h1 : ∃ j, ind j = 1) : ∑ j, ind j ≠ 0 := by
  obtain ⟨j, hj⟩ := h1
  have : (1 : EReal) ≤ ∑ j, ind j := hj ▸ Finset.single_le_sum (fun i _ => h i) (Finset.mem_univ j)
  exact (lt_of_lt_of_le zero_lt_one this).ne'

end

/-! ## A row of two halves -/

/-- The row whose first half is `a` and whose second is `b`. -/
def app {α : Type} (a b : Fin 128 → α) (j : Fin 256) : α :=
  if h : (j : ℕ) < 128 then a ⟨j, h⟩ else b ⟨j - 128, by omega⟩

/-- The place of a key of the first half, and of the second. -/
def lo (j : Fin 128) : Fin 256 := ⟨j, by omega⟩
@[inherit_doc lo] def hi (j : Fin 128) : Fin 256 := ⟨128 + j, by omega⟩

theorem app_lo {α : Type} (a b : Fin 128 → α) (j : Fin 128) : app a b (lo j) = a j := dif_pos j.isLt
theorem app_hi {α : Type} (a b : Fin 128 → α) (j : Fin 128) : app a b (hi j) = b j := by
  unfold app hi
  rw [dif_neg (by show ¬128 + (j : ℕ) < 128; omega)]
  exact congrArg b (Fin.ext (by show 128 + (j : ℕ) - 128 = j; omega))

theorem sum_halves (f : Fin 256 → EReal) : ∑ j, f j = (∑ j, f (lo j)) + ∑ j, f (hi j) :=
  Fin.sum_univ_add (a := 128) (b := 128) f

theorem fold_halves (a b : Fin 128 → EReal) :
    Finset.univ.fold max ⊥ (app a b) = max (Finset.univ.fold max ⊥ a) (Finset.univ.fold max ⊥ b) := by
  show Finset.univ.sup (app a b) = Finset.univ.sup a ⊔ Finset.univ.sup b
  refine le_antisymm (Finset.sup_le fun j _ => ?_) (sup_le (Finset.sup_le fun j _ => ?_) (Finset.sup_le fun j _ => ?_))
  · unfold app
    split_ifs with h
    · exact le_sup_of_le_left (Finset.le_sup (f := a) (Finset.mem_univ _))
    · exact le_sup_of_le_right (Finset.le_sup (f := b) (Finset.mem_univ _))
  · rw [← app_lo a b j]
    exact Finset.le_sup (f := app a b) (Finset.mem_univ _)
  · rw [← app_hi a b j]
    exact Finset.le_sup (f := app a b) (Finset.mem_univ _)

end Cert.SwaMath

end
-- ==== Proof.SwaRef.lean ====
module

public import proofs.«01_k».proof.Proof.SwaOut
public import proofs.«01_k».proof.Proof.SwaMath
public import proofs.«01_k».proof.Proof.Gen.SwaRefIdeal.Read

@[expose] public section

set_option maxRecDepth 16384
set_option maxHeartbeats 4000000

noncomputable section

namespace Cert.SwaIdeal.Ref

open Cert.SwaIdeal Cert.SwaIdeal.Body Cert.ActMath Cert.SwaMath Idealize.ShloMosaic Idealize.ShloMosaic.TcCoe
open Cert.SwaRefIdeal.Read

variable (x0 : FVec Ideal S4096x2560 .f32) (x1 : FVec Ideal S8x128x128 .f32) (x2 : FVec Ideal S8 .f32) (x3 : FVec Ideal S4096x512 .f32)

/-- The row of the arrays of a sequence, a block and a place in it. -/
def row (b : Fin 2) (n : Fin 16) (q : Fin 128) : Fin 4096 := ⟨b * 2048 + n * 128 + q, by omega⟩
/-- The column of a head's dimension. -/
def col (g : Fin 2) (a : Fin 4) (d : Fin 64) : Fin 512 := ⟨g * 256 + a * 64 + d, by omega⟩
/-- The column of the keys' (and the values') head's dimension. -/
def kvcol (g : Fin 2) (d : Fin 64) : Fin 128 := ⟨g * 64 + d, by omega⟩

theorem r_q0 (t : Fin 4096) (y : Fin 512) : val_main_v0 (F := Ideal) x0 (ix2 t y) = x0 (ix2 t ⟨512 + y, by omega⟩) := by
  unfold val_main_v0
  pointwise

theorem r_k0 (t : Fin 4096) (y : Fin 128) : val_main_v1 (F := Ideal) x0 (ix2 t y) = x0 (ix2 t ⟨1024 + y, by omega⟩) := by
  unfold val_main_v1
  pointwise

theorem r_v0 (t : Fin 4096) (y : Fin 128) : val_main_v2 (F := Ideal) x0 (ix2 t y) = x0 (ix2 t ⟨1152 + y, by omega⟩) := by
  unfold val_main_v2
  pointwise

theorem r_q (b : Fin 2) (n : Fin 16) (q : Fin 128) (g : Fin 2) (a : Fin 4) (d : Fin 64) :
    val_main_v3 (F := Ideal) x0 (ix6 b n q g a d) = val_main_v0 (F := Ideal) x0 (ix2 (row b n q) (col g a d)) := by
  unfold val_main_v3
  pointwise
  rfl

theorem r_k4 (b : Fin 2) (n : Fin 16) (q : Fin 128) (g : Fin 2) (d : Fin 64) :
    val_main_v4 (F := Ideal) x0 (ix5 b n q g d) = val_main_v1 (F := Ideal) x0 (ix2 (row b n q) (kvcol g d)) := by
  unfold val_main_v4
  pointwise
  rfl

theorem r_v9 (b : Fin 2) (n : Fin 16) (q : Fin 128) (g : Fin 2) (d : Fin 64) :
    val_main_v9 (F := Ideal) x0 (ix5 b n q g d) = val_main_v2 (F := Ideal) x0 (ix2 (row b n q) (kvcol g d)) := by
  unfold val_main_v9
  pointwise
  rfl

theorem r_do (b : Fin 2) (n : Fin 16) (q : Fin 128) (g : Fin 2) (a : Fin 4) (d : Fin 64) :
    val_main_v92 (F := Ideal) x3 (ix6 b n q g a d) = x3 (ix2 (row b n q) (col g a d)) := by
  unfold val_main_v92
  pointwise
  rfl

/-! ## Keys and values, the previous block's before the block's own -/

theorem r_k7 (b : Fin 2) (n : Fin 16) (j : Fin 128) (g : Fin 2) (d : Fin 64) :
    val_main_v7 (F := Ideal) x0 (ix5 b n j g d) = if h : (n : ℕ) < 1 then 0 else val_main_v4 (F := Ideal) x0 (ix5 b ⟨n - 1, by omega⟩ j g d) := by
  unfold val_main_v7 val_main_v5 val_main_v6 val_main_cst
  pointwise

theorem r_v12 (b : Fin 2) (n : Fin 16) (j : Fin 128) (g : Fin 2) (d : Fin 64) :
    val_main_v12 (F := Ideal) x0 (ix5 b n j g d) = if h : (n : ℕ) < 1 then 0 else val_main_v9 (F := Ideal) x0 (ix5 b ⟨n - 1, by omega⟩ j g d) := by
  unfold val_main_v12 val_main_v10 val_main_v11 val_main_cst_0
  pointwise

theorem r_k8 (b : Fin 2) (n : Fin 16) (j : Fin 256) (g : Fin 2) (d : Fin 64) :
    val_main_v8 (F := Ideal) x0 (ix5 b n j g d)
      = app (fun j => val_main_v7 (F := Ideal) x0 (ix5 b n j g d)) (fun j => val_main_v4 (F := Ideal) x0 (ix5 b n j g d)) j := by
  unfold val_main_v8 app
  pointwise

theorem r_v13 (b : Fin 2) (n : Fin 16) (j : Fin 256) (g : Fin 2) (d : Fin 64) :
    val_main_v13 (F := Ideal) x0 (ix5 b n j g d)
      = app (fun j => val_main_v12 (F := Ideal) x0 (ix5 b n j g d)) (fun j => val_main_v9 (F := Ideal) x0 (ix5 b n j g d)) j := by
  unfold val_main_v13 app
  pointwise

/-! ## The mask -/

theorem band_word : ∀ (q : Fin 128) (j : Fin 256),
    IntOp.andi (IntOp.cmpi .sge (IntOp.subi (IntOp.addi 128#32 (BitVec.ofNat 32 q)) (BitVec.ofNat 32 j)) 0#32)
      (IntOp.cmpi .slt (IntOp.subi (IntOp.addi 128#32 (BitVec.ofNat 32 q)) (BitVec.ofNat 32 j)) 128#32)
      = if (q : ℕ) < j ∧ (j : ℕ) ≤ 128 + q then 1#1 else 0#1 := by decide +kernel

theorem block_word : ∀ (n : Fin 16) (j : Fin 256),
    IntOp.ori (IntOp.cmpi .sgt (BitVec.ofNat 32 n) 0#32) (IntOp.cmpi .sge (BitVec.ofNat 32 j) 128#32)
      = if 0 < (n : ℕ) ∨ 128 ≤ (j : ℕ) then 1#1 else 0#1 := by decide +kernel

/-- The keys a query sees. -/
def seen (n : Fin 16) (q : Fin 128) (j : Fin 256) : Prop := ((q : ℕ) < j ∧ (j : ℕ) ≤ 128 + q) ∧ (0 < (n : ℕ) ∨ 128 ≤ (j : ℕ))
instance (n : Fin 16) (q : Fin 128) (j : Fin 256) : Decidable (seen n q j) := by unfold seen; infer_instance

theorem r_band (q : Fin 128) (j : Fin 256) : val_main_v27 (F := Ideal) (ix2 q j) = if (q : ℕ) < j ∧ (j : ℕ) ≤ 128 + q then 1#1 else 0#1 := by
  rw [← band_word]
  unfold val_main_v27 val_main_v26 val_main_v25 val_main_v24 val_main_v23 val_main_v22 val_main_v21 val_main_v20 val_main_v19 val_main_v18 val_main_v17 val_main_v16 val_main_v15 val_main_v14 val_main_c val_main_c_1 val_main_c_2
  pointwise

theorem r_block (n : Fin 16) (a : Fin 1) (j : Fin 256) : val_main_v38 (F := Ideal) (ix3 n a j) = if 0 < (n : ℕ) ∨ 128 ≤ (j : ℕ) then 1#1 else 0#1 := by
  rw [← block_word]
  unfold val_main_v38 val_main_v37 val_main_v36 val_main_v35 val_main_v34 val_main_v33 val_main_v32 val_main_v31 val_main_v29 val_main_v28 val_main_v17 val_main_v16 val_main_c_3 val_main_c_4
  pointwise

theorem r_mask (n : Fin 16) (q : Fin 128) (j : Fin 256) : val_main_v41 (F := Ideal) (ix3 n q j) = if seen n q j then 1#1 else 0#1 := by
  unfold val_main_v41 val_main_v40 val_main_v39 val_main_v30 seen
  pointwise [r_band, r_block]
  exact and_ite _ _

theorem r_mask6 (b : Fin 2) (n : Fin 16) (g : Fin 2) (a : Fin 4) (q : Fin 128) (j : Fin 256) :
    val_main_v52_1 (F := Ideal) (ix6 b n g a q j) = if seen n q j then 1#1 else 0#1 := by
  unfold val_main_v52_1 val_main_v51
  pointwise [r_mask]

/-! ## The scores -/

theorem r_bias (g : Fin 2) (a : Fin 4) (q : Fin 128) (j : Fin 256) :
    val_main_v43 (F := Ideal) x1 (ix4 g a q j) = app (fun j => x1 (ix3 ⟨g * 4 + a, by omega⟩ q j)) (fun j => x1 (ix3 ⟨g * 4 + a, by omega⟩ q j)) j := by
  unfold val_main_v43 val_main_v42 app
  pointwise

theorem r_dot (b : Fin 2) (n : Fin 16) (g : Fin 2) (j : Fin 256) (q : Fin 128) (a : Fin 4) :
    val_main_v44 (F := Ideal) x0 (ix6 b n g j q a) = ∑ d, val_main_v8 (F := Ideal) x0 (ix5 b n j g d) * val_main_v3 (F := Ideal) x0 (ix6 b n q g a d) := by
  unfold val_main_v44
  pointwise

end Cert.SwaIdeal.Ref

end
-- ==== Proof.SwaRow.lean ====
module

public import proofs.«01_k».proof.Proof.SwaRef

@[expose] public section

set_option maxRecDepth 16384
set_option maxHeartbeats 4000000

noncomputable section

namespace Cert.SwaIdeal.Ref

open Cert.SwaIdeal Cert.SwaIdeal.Body Cert.ActMath Cert.SwaMath Idealize.ShloMosaic Idealize.ShloMosaic.TcCoe
open Cert.SwaRefIdeal.Read

/-! ## Reductions along the last of six axes -/

theorem lift_last {n : ℕ} (h : (⟨6, ![2, 16, 2, 4, 128, n]⟩ : Shape).Reduces [5] ⟨5, ![2, 16, 2, 4, 128]⟩)
    (b : Fin 2) (m : Fin 16) (g : Fin 2) (a : Fin 4) (q : Fin 128) (k : Fin n) :
    h.lift (ix5 b m g a q) k = ix6 b m g a q k :=
  funext fun c => Fin.ext (by match c with | ⟨0, _⟩ => rfl | ⟨1, _⟩ => rfl | ⟨2, _⟩ => rfl | ⟨3, _⟩ => rfl | ⟨4, _⟩ => rfl | ⟨5, _⟩ => rfl)

theorem sum_last (h' : (⟨6, ![2, 16, 2, 4, 128, 256]⟩ : Shape).ReducesTo [5] ⟨5, ![2, 16, 2, 4, 128]⟩)
    (v : (⟨6, ![2, 16, 2, 4, 128, 256]⟩ : Shape).Idx → EReal) (c : EReal)
    (b : Fin 2) (m : Fin 16) (g : Fin 2) (a : Fin 4) (q : Fin 128) :
    Ideal.hostReduceAdd h' v c (ix5 b m g a q) = c + ∑ k : Fin 256, v (ix6 b m g a q k) := by
  have h : (⟨6, ![2, 16, 2, 4, 128, 256]⟩ : Shape).Reduces [5] ⟨5, ![2, 16, 2, 4, 128]⟩ := by decide
  rw [Ideal.hostReduceAdd_single h' h]
  exact congrArg (c + ·) (Finset.sum_congr rfl fun k _ => congrArg v (lift_last h b m g a q k))

theorem sum_one (h' : (⟨6, ![2, 16, 2, 4, 128, 1]⟩ : Shape).ReducesTo [5] ⟨5, ![2, 16, 2, 4, 128]⟩)
    (v : (⟨6, ![2, 16, 2, 4, 128, 1]⟩ : Shape).Idx → EReal) (c : EReal)
    (b : Fin 2) (m : Fin 16) (g : Fin 2) (a : Fin 4) (q : Fin 128) :
    Ideal.hostReduceAdd h' v c (ix5 b m g a q) = c + v (ix6 b m g a q 0) := by
  have h : (⟨6, ![2, 16, 2, 4, 128, 1]⟩ : Shape).Reduces [5] ⟨5, ![2, 16, 2, 4, 128]⟩ := by decide
  rw [Ideal.hostReduceAdd_single h' h]
  exact congrArg (c + ·) ((Fin.sum_univ_one _).trans (congrArg v (lift_last h b m g a q 0)))

theorem max_last (h' : (⟨6, ![2, 16, 2, 4, 128, 256]⟩ : Shape).ReducesTo [5] ⟨5, ![2, 16, 2, 4, 128]⟩)
    (v : (⟨6, ![2, 16, 2, 4, 128, 256]⟩ : Shape).Idx → EReal) (c : EReal)
    (b : Fin 2) (m : Fin 16) (g : Fin 2) (a : Fin 4) (q : Fin 128) :
    (Finset.univ.filter fun i => h'.drop i = ix5 b m g a q).fold max c v = Finset.univ.fold max c fun k : Fin 256 => v (ix6 b m g a q k) := by
  have h : (⟨6, ![2, 16, 2, 4, 128, 256]⟩ : Shape).Reduces [5] ⟨5, ![2, 16, 2, 4, 128]⟩ := by decide
  rw [Shape.ReducesTo.drop_eq_drop h' h]
  refine (h.fold_filter_drop_single max c v (ix5 b m g a q)).trans ?_
  exact congrArg (fun f : Fin 256 → EReal => Finset.univ.fold max c f) (funext fun k => congrArg v (lift_last h b m g a q k))

variable (x0 : FVec Ideal S4096x2560 .f32) (x1 : FVec Ideal S8x128x128 .f32) (x2 : FVec Ideal S8 .f32) (x3 : FVec Ideal S4096x512 .f32)

theorem r_score (b : Fin 2) (n : Fin 16) (g : Fin 2) (a : Fin 4) (q : Fin 128) (j : Fin 256) :
    val_main_v52_0 (F := Ideal) x0 x1 (ix6 b n g a q j)
      = if seen n q j then (∑ d, val_main_v8 (F := Ideal) x0 (ix5 b n j g d) * val_main_v3 (F := Ideal) x0 (ix6 b n q g a d)) * sc + val_main_v43 (F := Ideal) x1 (ix4 g a q j) else ⊥ := by
  rw [← select_ite]
  unfold val_main_v52_0 val_main_call0_v2 val_main_call0_v0 val_main_cst_6 val_main_v50 val_main_v49 val_main_v48 val_main_v47 val_main_v46 val_main_v45 val_main_cst_5
  pointwise [r_mask6, r_dot]
  exact congrArg (Scalar.select _ _) ninf_eq

theorem r_sink (g : Fin 2) (a : Fin 4) (p q : Fin 1) : val_main_v54 (F := Ideal) x2 (ix4 g a p q) = x2 (ix1 ⟨g * 4 + a, by omega⟩) := by
  unfold val_main_v54 val_main_v53
  pointwise

section
variable (b : Fin 2) (n : Fin 16) (g : Fin 2) (a : Fin 4) (q : Fin 128)

/-- The scores of a row. -/
def SR (j : Fin 256) : EReal := val_main_v52_0 (F := Ideal) x0 x1 (ix6 b n g a q j)
/-- The sink of a row. -/
def SK : EReal := val_main_v54 (F := Ideal) x2 (ix4 g a 0 0)
/-- The derivative of a row's probabilities. -/
def DR (j : Fin 256) : EReal := val_main_v94 (F := Ideal) x0 x3 (ix6 b n g a q j)

theorem r_fold (p : Fin 1) : val_main_v61 (F := Ideal) x0 x1 (ix6 b n g a q p) = Finset.univ.fold max ⊥ (SR x0 x1 b n g a q) := by
  unfold val_main_v61 val_main_v55 val_main_cst_7 SR
  pointwise [ninf_eq, max_last]
  try rfl

theorem r_fold5 : val_main_v55 (F := Ideal) x0 x1 (ix5 b n g a q) = Finset.univ.fold max ⊥ (SR x0 x1 b n g a q) := by
  unfold val_main_v55 val_main_cst_7 SR
  pointwise [ninf_eq, max_last]
  try rfl

theorem r_sink6 (p : Fin 1) : val_main_v63 (F := Ideal) x2 (ix6 b n g a q p) = SK x2 g a := by
  unfold val_main_v63 val_main_v62 SK
  generalize val_main_v54 (F := Ideal) x2 = u
  pointwise

end

end Cert.SwaIdeal.Ref

end
-- ==== Proof.SwaRow2.lean ====
module

public import proofs.«01_k».proof.Proof.SwaRow

@[expose] public section

set_option maxRecDepth 16384
set_option maxHeartbeats 4000000

noncomputable section

namespace Cert.SwaIdeal.Ref

open Cert.SwaIdeal Cert.SwaIdeal.Body Cert.ActMath Cert.SwaMath Idealize.ShloMosaic Idealize.ShloMosaic.TcCoe
open Cert.SwaRefIdeal.Read

variable (x0 : FVec Ideal S4096x2560 .f32) (x1 : FVec Ideal S8x128x128 .f32) (x2 : FVec Ideal S8 .f32) (x3 : FVec Ideal S4096x512 .f32)

section
variable (b : Fin 2) (n : Fin 16) (g : Fin 2) (a : Fin 4) (q : Fin 128)

theorem mx_intro (S : Fin 256 → EReal) (s v w : EReal) (h1 : v = Finset.univ.fold max ⊥ S) (h2 : w = s) :
    max v w = SwaMath.mx S s := by
  subst h1 h2
  rfl

theorem max_at (v w : (⟨6, ![2, 16, 2, 4, 128, 1]⟩ : Shape).Idx → EReal) (i : (⟨6, ![2, 16, 2, 4, 128, 1]⟩ : Shape).Idx) :
    maximumf (F := Ideal) (φ := .f32) v w i = max (v i) (w i) := rfl

theorem mx_at (v w : (⟨6, ![2, 16, 2, 4, 128, 1]⟩ : Shape).Idx → EReal) (i : (⟨6, ![2, 16, 2, 4, 128, 1]⟩ : Shape).Idx)
    (S : Fin 256 → EReal) (s : EReal) (h1 : v i = Finset.univ.fold max ⊥ S) (h2 : w i = s) :
    maximumf (F := Ideal) (φ := .f32) v w i = SwaMath.mx S s :=
  (max_at v w i).trans (mx_intro S s _ _ h1 h2)

theorem r_max (p : Fin 1) : val_main_v64 (F := Ideal) x0 x1 x2 (ix6 b n g a q p)
    = maximumf (F := Ideal) (φ := .f32) (val_main_v61 (F := Ideal) x0 x1) (val_main_v63 (F := Ideal) x2) (ix6 b n g a q p) := by
  unfold val_main_v64
  rfl

theorem r_mx (p : Fin 1) : val_main_v64 (F := Ideal) x0 x1 x2 (ix6 b n g a q p) = SwaMath.mx (SR x0 x1 b n g a q) (SK x2 g a) :=
  (r_max x0 x1 x2 b n g a q p).trans (mx_at _ _ _ _ _ (r_fold x0 x1 b n g a q p) (r_sink6 x2 b n g a q p))

theorem r_e (j : Fin 256) : val_main_v76 (F := Ideal) x0 x1 x2 (ix6 b n g a q j) = e (SR x0 x1 b n g a q) (SK x2 g a) j := by
  unfold val_main_v76 val_main_v75 val_main_v74 e SR
  pointwise [r_mx]
  rfl

theorem r_es (p : Fin 1) : val_main_v82 (F := Ideal) x0 x1 x2 (ix6 b n g a q p) = Ideal.exp (SK x2 g a - SwaMath.mx (SR x0 x1 b n g a q) (SK x2 g a)) := by
  unfold val_main_v82 val_main_v81 val_main_v80 val_main_v79
  pointwise [r_mx]
  rfl

theorem r_den (p : Fin 1) : val_main_v83 (F := Ideal) x0 x1 x2 (ix6 b n g a q p) = den (SR x0 x1 b n g a q) (SK x2 g a) := by
  unfold val_main_v83 val_main_v78 val_main_v77 val_main_cst_12 den
  pointwise [sum_last, r_e, r_es]

theorem r_rsum (p : Fin 1) : val_main_v100 (F := Ideal) x0 x1 x2 x3 (ix6 b n g a q p) = rsum (SR x0 x1 b n g a q) (SK x2 g a) (DR x0 x3 b n g a q) := by
  unfold val_main_v100 val_main_v99 val_main_v98 val_main_v97 val_main_v96 val_main_v95 val_main_v88 val_main_v87 val_main_v86 val_main_cst_13 val_main_cst_14 rsum DR
  pointwise [sum_last, r_e, r_den]

theorem r_rdiff (j : Fin 256) : val_main_v108 (F := Ideal) x0 x1 x2 x3 (ix6 b n g a q j) = rdiff (SR x0 x1 b n g a q) (SK x2 g a) (DR x0 x3 b n g a q) j := by
  unfold val_main_v108 val_main_v107 val_main_v106 val_main_v105 val_main_v102 val_main_v101 val_main_cst_15 rdiff DR
  pointwise [sum_one, r_e, r_den, r_rsum]
  rfl

theorem r_rmax (p : Fin 1) : val_main_v112 (F := Ideal) x0 x1 x2 x3 (ix6 b n g a q p) = rmax (SR x0 x1 b n g a q) (SK x2 g a) (DR x0 x3 b n g a q) := by
  unfold val_main_v112 val_main_v111 val_main_v110 val_main_v109 val_main_v104 val_main_v103 val_main_cst_16 rmax
  pointwise [sum_last, r_es, r_rdiff, r_rsum]

theorem ind_one : (FloatOps.uitofp (F := Ideal) FTy.f32 (BitVec.ofBool true) : EReal) = 1 := by
  show (((1 : ℕ) : ℝ) : EReal) = 1
  simp
theorem ind_zero : (FloatOps.uitofp (F := Ideal) FTy.f32 (BitVec.ofBool false) : EReal) = 0 := by
  show (((0 : ℕ) : ℝ) : EReal) = 0
  simp

theorem r_ind (j : Fin 256) : val_main_v59 (F := Ideal) x0 x1 (ix6 b n g a q j)
    = if SR x0 x1 b n g a q j = Finset.univ.fold max ⊥ (SR x0 x1 b n g a q) then 1 else 0 := by
  unfold val_main_v59 val_main_v58 val_main_v57 val_main_v56
  pointwise [r_fold5]
  unfold SR
  split_ifs with h
  · rw [decide_eq_true h]
    exact ind_one
  · rw [decide_eq_false h]
    exact ind_zero

theorem r_rds (j : Fin 256) : ∃ t, val_main_v118 (F := Ideal) x0 x1 x2 x3 (ix6 b n g a q j)
    = rds (SR x0 x1 b n g a q) (SK x2 g a) (DR x0 x3 b n g a q) t (val_main_v60 (F := Ideal) x0 x1 (ix5 b n g a q)) (fun j => val_main_v59 (F := Ideal) x0 x1 (ix6 b n g a q j)) j := by
  refine ⟨val_main_v73 (F := Ideal) x0 x1 x2 (ix6 b n g a q 0), ?_⟩
  unfold val_main_v118 val_main_v117 val_main_v116 val_main_v115 val_main_v114 val_main_v113 val_main_cst_17 rds
  pointwise [sum_one, r_rdiff, r_rmax]

theorem r_cnt : val_main_v60 (F := Ideal) x0 x1 (ix5 b n g a q) = ∑ j, val_main_v59 (F := Ideal) x0 x1 (ix6 b n g a q j) := by
  unfold val_main_v60 val_main_cst_8
  pointwise [sum_last]

theorem r_dp (j : Fin 256) : DR x0 x3 b n g a q j = ∑ d, x3 (ix2 (row b n q) (col g a d)) * val_main_v13 (F := Ideal) x0 (ix5 b n j g d) := by
  unfold DR val_main_v94 val_main_v93
  pointwise [r_do]

theorem r_ds (j : Fin 256) : val_main_v121 (F := Ideal) x0 x1 x2 x3 (ix6 b n g a q j)
    = (if seen n q j then val_main_v118 (F := Ideal) x0 x1 x2 x3 (ix6 b n g a q j) else 0) * sc := by
  rw [← select_ite]
  unfold val_main_v121 val_main_v120 val_main_v119 val_main_call1_v0 val_main_call1_cst val_main_cst_18
  pointwise [r_mask6]

theorem row_parts : (row b n q : ℕ) / 2048 = b ∧ (row b n q : ℕ) / 128 % 16 = n ∧ (row b n q : ℕ) % 128 = q := by
  show ((b : ℕ) * 2048 + n * 128 + q) / 2048 = b ∧ ((b : ℕ) * 2048 + n * 128 + q) / 128 % 16 = n ∧ ((b : ℕ) * 2048 + n * 128 + q) % 128 = q
  omega
theorem col_parts (d : Fin 64) : (col g a d : ℕ) / 256 = g ∧ (col g a d : ℕ) / 64 % 4 = a ∧ (col g a d : ℕ) % 64 = d := by
  show ((g : ℕ) * 256 + a * 64 + d) / 256 = g ∧ ((g : ℕ) * 256 + a * 64 + d) / 64 % 4 = a ∧ ((g : ℕ) * 256 + a * 64 + d) % 64 = d
  omega

theorem r_dq (d : Fin 64) : val_main_v125 (F := Ideal) x0 x1 x2 x3 (ix2 (row b n q) (col g a d))
    = ∑ j, val_main_v121 (F := Ideal) x0 x1 x2 x3 (ix6 b n g a q j) * val_main_v8 (F := Ideal) x0 (ix5 b n j g d) := by
  unfold val_main_v125 val_main_v124 val_main_v123 val_main_v122
  pointwise
  refine Finset.sum_congr rfl fun j _ => ?_
  obtain ⟨h1, h2, h3⟩ := row_parts b n q
  obtain ⟨h4, h5, h6⟩ := col_parts g a d
  congr 2
  · exact congr (congr (congr (congr (congr (congrArg ix6 (Fin.ext h1)) (Fin.ext h2)) (Fin.ext h4)) (Fin.ext h5)) (Fin.ext h3)) rfl
  · exact congr (congr (congr (congr (congrArg ix5 (Fin.ext h1)) (Fin.ext h2)) rfl) (Fin.ext h4)) (Fin.ext h6)

end

end Cert.SwaIdeal.Ref

end
-- ==== Proof.SwaCell.lean ====
module

public import proofs.«01_k».proof.Proof.SwaRow2

/-!
# A row of the call against the same row of the reference

On reals the call's scores are the reference's, and `cell`, the call's closed
form for one element of the queries' gradient, is the reference's chain rule.
-/

@[expose] public section

set_option maxRecDepth 16384
set_option maxHeartbeats 4000000

noncomputable section

namespace Cert.SwaIdeal.Ref

open Cert.SwaIdeal Cert.SwaIdeal.Body Cert.ActMath Cert.SwaMath Idealize.ShloMosaic Idealize.ShloMosaic.TcCoe

/-! ## The call's row as one row of 256 keys -/

section
variable (sP sC : Fin 128 → EReal) (s : EReal) (dP dC : Fin 128 → EReal)

theorem mx_app : Body.mx sP sC s = SwaMath.mx (app sP sC) s := by
  unfold Body.mx SwaMath.mx
  rw [fold_halves]

theorem eP_app (j : Fin 128) : eP sP sC s j = e (app sP sC) s (lo j) := by
  unfold eP e
  rw [mx_app, app_lo]

theorem eC_app (j : Fin 128) : eC sP sC s j = e (app sP sC) s (hi j) := by
  unfold eC e
  rw [mx_app, app_hi]

theorem inv_app : Body.inv sP sC s = Ideal.div 1 (den (app sP sC) s) := by
  unfold Body.inv den
  rw [sum_halves, mx_app]
  simp only [eP_app, eC_app]

theorem delta_app : Body.delta sP sC s dP dC = SwaMath.delta (app sP sC) s (app dP dC) := by
  unfold Body.delta SwaMath.delta
  rw [sum_halves]
  simp only [eP_app, eC_app, inv_app, app_lo, app_hi]

theorem dsP_app (j : Fin 128) : dsP sP sC s dP dC j = kds (app sP sC) s (app dP dC) (lo j) := by
  unfold dsP kds
  rw [eP_app, inv_app, delta_app, app_lo]

theorem dsC_app (j : Fin 128) : dsC sP sC s dP dC j = kds (app sP sC) s (app dP dC) (hi j) := by
  unfold dsC kds
  rw [eC_app, inv_app, delta_app, app_hi]

end

theorem sc_real : sc = (((1 : ℝ) / 8 : ℝ) : EReal) := by
  unfold sc
  simp [Ideal.ofBits, Ideal.ieee, -EReal.coe_mul]; norm_num

/-- A real factor goes into a sum of reals. -/
theorem sum_mul_real {ι : Type} [Fintype ι] (f : ι → EReal) (c : EReal) (hf : ∀ i, IsReal (f i)) (hc : IsReal c) :
    (∑ i, f i) * c = ∑ i, f i * c := by
  choose g hg using hf
  obtain ⟨r, rfl⟩ := hc
  simp only [hg, ← EReal.coe_mul, coe_sum]
  rw [Finset.sum_mul]

theorem cell_app (n q : ℕ) (qv dv : Fin 64 → EReal) (kp kc vp vc : Fin 128 → Fin 64 → EReal) (b : Fin 128 → EReal) (s : EReal) (d : Fin 64) :
    cell n q qv dv kp kc vp vc b s d
      = (∑ j, kds (app (scP n q qv kp b) (scC q qv kc b)) s (app (fun j => ∑ d, dv d * vp j d) fun j => ∑ d, dv d * vc j d) j
          * app (fun j => kp j d) (fun j => kc j d) j) * sc := by
  unfold cell
  rw [sum_halves]
  simp only [dsP_app, dsC_app, app_lo, app_hi]

theorem app_real {a b : Fin 128 → EReal} (ha : ∀ j, IsReal (a j)) (hb : ∀ j, IsReal (b j)) (j : Fin 256) : IsReal (app a b j) := by
  unfold app
  split_ifs
  · exact ha _
  · exact hb _

section
variable {n : Fin 16} {q : Fin 128} {qv dv : Fin 64 → EReal} {kp kp' kc vp vp' vc : Fin 128 → Fin 64 → EReal} {b : Fin 128 → EReal} {s : EReal}
  (hq : ∀ d, IsReal (qv d)) (hdv : ∀ d, IsReal (dv d)) (hkp : ∀ j d, IsReal (kp j d)) (hkp' : ∀ j d, IsReal (kp' j d)) (hkc : ∀ j d, IsReal (kc j d))
  (hvp : ∀ j d, IsReal (vp j d)) (hvp' : ∀ j d, IsReal (vp' j d)) (hvc : ∀ j d, IsReal (vc j d)) (hb : ∀ j, IsReal (b j)) (hs : IsReal s)
  (ek : 0 < (n : ℕ) → ∀ j d, kp' j d = kp j d) (ev : 0 < (n : ℕ) → ∀ j d, vp' j d = vp j d)

include hq hkp hkp' hkc in
/-- The scale on the query or on the score. -/
theorem scale_eq (k : Fin 64 → EReal) (hk : ∀ d, IsReal (k d)) : (∑ d, k d * qv d) * sc = ∑ d, qv d * sc * k d := by
  rw [sum_mul_real _ _ (fun d => (hk d).mul (hq d)) ⟨_, sc_real⟩]
  exact Finset.sum_congr rfl fun d _ => by rw [mul_comm (k d), mul_assoc, mul_comm (k d), ← mul_assoc]

include hq hkp hkp' hkc ek in
/-- The reference's scores are the call's. -/
theorem score_eq (j : Fin 256) :
    (if seen n q j then (∑ d, app (fun j => kp' j d) (fun j => kc j d) j * qv d) * sc + app b b j else ⊥)
      = app (scP n q qv kp b) (scC q qv kc b) j := by
  have hjl := j.isLt
  unfold app
  by_cases hj : (j : ℕ) < 128
  · simp only [hj, dif_pos]
    unfold scP
    by_cases h : (q : ℕ) < (j : ℕ) ∧ 0 < (n : ℕ)
    · have hx : seen n q j := ⟨⟨h.1, by omega⟩, Or.inl h.2⟩
      rw [if_pos hx, if_pos h, scale_eq hq hkp hkp' hkc _ fun d => hkp' _ d]
      simp only [ek h.2]
    · have hx : ¬seen n q j := fun hx => h ⟨hx.1.1, hx.2.resolve_right (by omega)⟩
      rw [if_neg hx, if_neg h]
  · simp only [hj, dif_neg, not_false_eq_true]
    unfold scC
    by_cases h : (j : ℕ) - 128 ≤ (q : ℕ)
    · have hx : seen n q j := ⟨⟨by omega, by omega⟩, Or.inr (by omega)⟩
      rw [if_pos hx, if_pos h, scale_eq hq hkp hkp' hkc _ fun d => hkc _ d]
    · have hx : ¬seen n q j := fun hx => h (by have := hx.1.2; omega)
      rw [if_neg hx, if_neg h]

theorem score_real_aux (x : EReal) (p : Prop) [Decidable p] (hx : IsReal x) : (if p then x else ⊥) = ⊥ ∨ IsReal (if p then x else ⊥) := by
  split_ifs
  · exact Or.inr hx
  · exact Or.inl rfl

include hq hdv hkp hkp' hkc hvp hvp' hvc hb hs ek ev in
/-- One element of the queries' gradient: the call's closed form is the reference's chain rule. -/
theorem cell_ref {S D K : Fin 256 → EReal} (d : Fin 64)
    (hS : ∀ j, S j = if seen n q j then (∑ d, app (fun j => kp' j d) (fun j => kc j d) j * qv d) * sc + app b b j else ⊥)
    (hD : ∀ j, D j = ∑ d, dv d * app (fun j => vp' j d) (fun j => vc j d) j)
    (hK : ∀ j, K j = app (fun j => kp' j d) (fun j => kc j d) j)
    {cnt : EReal} (hc : cnt ≠ 0) (ind : Fin 256 → EReal) (R : Fin 256 → EReal)
    (hR : ∀ j, ∃ t, R j = rds S s D t cnt ind j) :
    cell n q qv dv kp kc vp vc b s d = ∑ j, ((if seen n q j then R j else 0) * sc) * K j := by
  have hsc : IsReal sc := ⟨_, sc_real⟩
  have e1 : S = app (scP n q qv kp b) (scC q qv kc b) := funext fun j => (hS j).trans (score_eq hq hkp hkp' hkc ek j)
  have hSr : ∀ j, S j = ⊥ ∨ IsReal (S j) := by
    intro j
    rw [hS j]
    exact score_real_aux _ _ (((IsReal.sum _ fun d => (app_real (fun j => hkp' j d) (fun j => hkc j d) j).mul (hq d)).mul hsc).add (app_real hb hb j))
  have hSb : ∀ j, S j ≠ ⊥ ↔ seen n q j := by
    intro j
    constructor
    · intro h
      by_contra hn
      exact h (by rw [hS j, if_neg hn])
    · intro h
      rw [hS j, if_pos h]
      obtain ⟨r, hr⟩ := ((IsReal.sum Finset.univ fun d => (app_real (fun j => hkp' j d) (fun j => hkc j d) j).mul (hq d)).mul hsc).add (app_real hb hb j)
      rw [hr]
      exact EReal.coe_ne_bot r
  have hlow : ∀ j, seen n q j → (j : ℕ) < 128 → 0 < (n : ℕ) := fun j h hj => h.2.resolve_right (by omega)
  have hD0 : ∀ j, IsReal (app (fun j => ∑ d, dv d * vp j d) (fun j => ∑ d, dv d * vc j d) j) := fun j =>
    app_real (fun j => IsReal.sum _ fun d => (hdv d).mul (hvp j d)) (fun j => IsReal.sum _ fun d => (hdv d).mul (hvc j d)) j
  have hD1 : ∀ j, IsReal (D j) := fun j => by
    rw [hD j]
    exact IsReal.sum _ fun d => (hdv d).mul (app_real (fun j => hvp' j d) (fun j => hvc j d) j)
  have hDD : ∀ j, S j ≠ ⊥ → D j = app (fun j => ∑ d, dv d * vp j d) (fun j => ∑ d, dv d * vc j d) j := by
    intro j h
    rw [hD j]
    unfold app
    by_cases hj : (j : ℕ) < 128
    · simp only [hj, dif_pos, ev (hlow j ((hSb j).1 h) hj)]
    · simp only [hj, dif_neg, not_false_eq_true]
  rw [cell_app, ← e1]
  have hk := fun j => kds_real (D := app (fun j => ∑ d, dv d * vp j d) fun j => ∑ d, dv d * vc j d) hSr hs hD0 j
  have hK0 : ∀ j, IsReal (app (fun j => kp j d) (fun j => kc j d) j) := app_real (fun j => hkp j d) (fun j => hkc j d)
  rw [sum_mul_real _ _ (fun j => (hk j).1.mul (hK0 j)) hsc]
  refine Finset.sum_congr rfl fun j _ => ?_
  by_cases h : seen n q j
  · obtain ⟨t, ht⟩ := hR j
    rw [if_pos h, ht, rds_eq hSr hs hD0 hD1 hDD hc ind j ((hSb j).2 h)]
    have hKK : K j = app (fun j => kp j d) (fun j => kc j d) j := by
      rw [hK j]
      unfold app
      by_cases hj : (j : ℕ) < 128
      · simp only [hj, dif_pos, ek (hlow j h hj)]
      · simp only [hj, dif_neg, not_false_eq_true]
    rw [hKK, mul_right_comm]
  · have hb' : S j = ⊥ := by
      by_contra hn
      exact h ((hSb j).1 hn)
    rw [if_neg h, (hk j).2 hb', zero_mul, zero_mul, zero_mul]

end

end Cert.SwaIdeal.Ref

end
-- ==== Proof.SwaDq.lean ====
module

public import proofs.«01_k».proof.Proof.SwaCell

/-!
# The reference's gradient of the queries, element by element

On arrays of reals an element of the reference's gradient of the queries is
`cell` of the rows and columns it reads.
-/

@[expose] public section

set_option maxRecDepth 16384
set_option maxHeartbeats 4000000

noncomputable section

namespace Cert.SwaIdeal.Ref

open Cert.SwaIdeal Cert.SwaIdeal.Body Cert.ActMath Cert.SwaMath Idealize.ShloMosaic Idealize.ShloMosaic.TcCoe
open Cert.SwaRefIdeal.Read

variable (x0 : FVec Ideal S4096x2560 .f32) (x1 : FVec Ideal S8x128x128 .f32) (x2 : FVec Ideal S8 .f32) (x3 : FVec Ideal S4096x512 .f32)

/-- A query of head `(g, a)`, and the derivative coming in there. -/
def qd (b : Fin 2) (n : Fin 16) (g : Fin 2) (a : Fin 4) (q : Fin 128) (d : Fin 64) : EReal := x0 (ix2 (row b n q) ⟨512 + col g a d, by omega⟩)
@[inherit_doc qd] def dd (b : Fin 2) (n : Fin 16) (g : Fin 2) (a : Fin 4) (q : Fin 128) (d : Fin 64) : EReal := x3 (ix2 (row b n q) (col g a d))
/-- The keys and the values of group `g` in block `n`. -/
def kd (b : Fin 2) (n : Fin 16) (g : Fin 2) (j : Fin 128) (d : Fin 64) : EReal := x0 (ix2 (row b n j) ⟨1024 + kvcol g d, by omega⟩)
@[inherit_doc kd] def vd (b : Fin 2) (n : Fin 16) (g : Fin 2) (j : Fin 128) (d : Fin 64) : EReal := x0 (ix2 (row b n j) ⟨1152 + kvcol g d, by omega⟩)
/-- The block before, the first block's being itself. -/
def prev (n : Fin 16) : Fin 16 := ⟨n - 1, by omega⟩

theorem q_at (b : Fin 2) (n : Fin 16) (g : Fin 2) (a : Fin 4) (q : Fin 128) (d : Fin 64) :
    val_main_v3 (F := Ideal) x0 (ix6 b n q g a d) = qd x0 b n g a q d := (r_q x0 b n q g a d).trans (r_q0 x0 _ _)

theorem k_at (b : Fin 2) (n : Fin 16) (g : Fin 2) (j : Fin 128) (d : Fin 64) :
    val_main_v4 (F := Ideal) x0 (ix5 b n j g d) = kd x0 b n g j d := (r_k4 x0 b n j g d).trans (r_k0 x0 _ _)

theorem v_at (b : Fin 2) (n : Fin 16) (g : Fin 2) (j : Fin 128) (d : Fin 64) :
    val_main_v9 (F := Ideal) x0 (ix5 b n j g d) = vd x0 b n g j d := (r_v9 x0 b n j g d).trans (r_v0 x0 _ _)

/-- The keys and the values before block `n`: zeros before the first. -/
def kz (b : Fin 2) (n : Fin 16) (g : Fin 2) (j : Fin 128) (d : Fin 64) : EReal := if (n : ℕ) < 1 then 0 else kd x0 b (prev n) g j d
@[inherit_doc kz] def vz (b : Fin 2) (n : Fin 16) (g : Fin 2) (j : Fin 128) (d : Fin 64) : EReal := if (n : ℕ) < 1 then 0 else vd x0 b (prev n) g j d

theorem kz_at (b : Fin 2) (n : Fin 16) (g : Fin 2) (j : Fin 128) (d : Fin 64) :
    val_main_v7 (F := Ideal) x0 (ix5 b n j g d) = kz x0 b n g j d := by
  rw [r_k7]
  unfold kz
  split_ifs
  · rfl
  · exact k_at x0 b _ g j d

theorem vz_at (b : Fin 2) (n : Fin 16) (g : Fin 2) (j : Fin 128) (d : Fin 64) :
    val_main_v12 (F := Ideal) x0 (ix5 b n j g d) = vz x0 b n g j d := by
  rw [r_v12]
  unfold vz
  split_ifs
  · rfl
  · exact v_at x0 b _ g j d

theorem keys_at (b : Fin 2) (n : Fin 16) (g : Fin 2) (j : Fin 256) (d : Fin 64) :
    val_main_v8 (F := Ideal) x0 (ix5 b n j g d) = app (fun j => kz x0 b n g j d) (fun j => kd x0 b n g j d) j := by
  rw [r_k8]
  simp only [kz_at, k_at]

theorem vals_at (b : Fin 2) (n : Fin 16) (g : Fin 2) (j : Fin 256) (d : Fin 64) :
    val_main_v13 (F := Ideal) x0 (ix5 b n j g d) = app (fun j => vz x0 b n g j d) (fun j => vd x0 b n g j d) j := by
  rw [r_v13]
  simp only [vz_at, v_at]

/-- The number of keys at which a row's scores are largest is not zero. -/
theorem cnt_ne (b : Fin 2) (n : Fin 16) (g : Fin 2) (a : Fin 4) (q : Fin 128) : val_main_v60 (F := Ideal) x0 x1 (ix5 b n g a q) ≠ 0 := by
  rw [r_cnt]
  obtain ⟨j, hj⟩ := exists_mx (S := SR x0 x1 b n g a q)
  refine count_ne_zero (fun j => ?_) ⟨j, ?_⟩
  · rw [r_ind]
    split_ifs
    · exact zero_le_one
    · exact le_refl _
  · rw [r_ind, if_pos hj]

theorem real_kz (h : ∀ i, IsReal (x0 i)) (b : Fin 2) (n : Fin 16) (g : Fin 2) (j : Fin 128) (d : Fin 64) : IsReal (kz x0 b n g j d) := by
  unfold kz
  split_ifs
  · exact IsReal.zero
  · exact h _

theorem real_vz (h : ∀ i, IsReal (x0 i)) (b : Fin 2) (n : Fin 16) (g : Fin 2) (j : Fin 128) (d : Fin 64) : IsReal (vz x0 b n g j d) := by
  unfold vz
  split_ifs
  · exact IsReal.zero
  · exact h _

/-- An element of the reference's gradient of the queries. -/
theorem dq_at (h0 : ∀ i, IsReal (x0 i)) (h1 : ∀ i, IsReal (x1 i)) (h2 : ∀ i, IsReal (x2 i)) (h3 : ∀ i, IsReal (x3 i))
    (b : Fin 2) (n : Fin 16) (g : Fin 2) (a : Fin 4) (q : Fin 128) (d : Fin 64) :
    val_main_v125 (F := Ideal) x0 x1 x2 x3 (ix2 (row b n q) (col g a d))
      = cell n q (qd x0 b n g a q) (dd x3 b n g a q) (kd x0 b (prev n) g) (kd x0 b n g) (vd x0 b (prev n) g) (vd x0 b n g)
          (fun j => x1 (ix3 ⟨g * 4 + a, by omega⟩ q j)) (x2 (ix1 ⟨g * 4 + a, by omega⟩)) d := by
  rw [r_dq]
  simp only [r_ds]
  have hS : ∀ j, SR x0 x1 b n g a q j
      = if seen n q j then (∑ d, app (fun j => kz x0 b n g j d) (fun j => kd x0 b n g j d) j * qd x0 b n g a q d) * sc
          + app (fun j => x1 (ix3 ⟨g * 4 + a, by omega⟩ q j)) (fun j => x1 (ix3 ⟨g * 4 + a, by omega⟩ q j)) j else ⊥ := by
    intro j
    refine (r_score x0 x1 b n g a q j).trans ?_
    rw [r_bias]
    simp only [keys_at, q_at]
  have hD : ∀ j, DR x0 x3 b n g a q j = ∑ d, dd x3 b n g a q d * app (fun j => vz x0 b n g j d) (fun j => vd x0 b n g j d) j := by
    intro j
    rw [r_dp]
    simp only [vals_at]
    rfl
  have hs : SK x2 g a = x2 (ix1 ⟨g * 4 + a, by omega⟩) := r_sink x2 g a 0 0
  have hR := r_rds x0 x1 x2 x3 b n g a q
  rw [hs] at hR
  exact (cell_ref (n := n) (q := q) (qv := qd x0 b n g a q) (dv := dd x3 b n g a q) (kp := kd x0 b (prev n) g) (kp' := kz x0 b n g)
    (kc := kd x0 b n g) (vp := vd x0 b (prev n) g) (vp' := vz x0 b n g) (vc := vd x0 b n g)
    (b := fun j => x1 (ix3 ⟨g * 4 + a, by omega⟩ q j)) (s := x2 (ix1 ⟨g * 4 + a, by omega⟩))
    (fun _ => h0 _) (fun _ => h3 _) (fun _ _ => h0 _) (real_kz x0 h0 b n g) (fun _ _ => h0 _) (fun _ _ => h0 _) (real_vz x0 h0 b n g) (fun _ _ => h0 _)
    (fun _ => h1 _) (h2 _) (fun hn j d => if_neg (by omega)) (fun hn j d => if_neg (by omega)) d hS hD (fun j => keys_at x0 b n g j d)
    (cnt_ne x0 x1 b n g a q) _ _ hR).symm

end Cert.SwaIdeal.Ref

end
-- ==== Proof.SwaValue.lean ====
module

public import proofs.«01_k».proof.Proof.SwaPre
public import proofs.«01_k».proof.Proof.SwaDq
public import proofs.«01_k».proof.Proof.Gen.SwaRefIdeal.Run
public import proofs.«01_k».proof.Proof.Gen.SwaRefIdeal.Read

/-!
# The gradient of the queries

Every run of the call leaves the reference's gradient of the queries.
-/

@[expose] public section

set_option maxRecDepth 16384
set_option maxHeartbeats 4000000

noncomputable section

namespace Cert.SwaIdeal.Ref

open Cert.SwaIdeal Cert.SwaIdeal.Gen Cert.SwaIdeal.Hand Cert.SwaIdeal.Body Cert.SwaIdeal.Host Cert.ActMath Idealize.ShloMosaic Idealize.ShloMosaic.TcCoe Idealize.SL.Sem
open Cert.SwaRefIdeal.Read

variable {m : (ℓ : Loc nD τ sig) → Buf (Elt Ideal) ℓ} {c : Dev nD}

/-- The reference's gradient of the queries, of the call's arrays. -/
def DQ (m : (ℓ : Loc nD τ sig) → Buf (Elt Ideal) ℓ) (c : Dev nD) : FVec Ideal S4096x512 .f32 :=
  val_main_v125 (F := Ideal) (U m c) (BI m c) (SKS m c) (DO m c)

/-- The block of the queries' gradient after point `t`, at row `q` and column `d` of head `(g, a)`. -/
theorem out_at (R : Pre.Real m c) (t : ℕ) (ht : t < cfg0.N) (q : Fin 128) (g : Fin 2) (a : Fin 4) (d : Fin 64) :
    out6At m c ⟨t, ht⟩ (ix2 q (col g a d))
      = DQ m c (ix2 (row ⟨t / 16, by have := lt32 ht; omega⟩ ⟨t % 16, by omega⟩ q) (col g a d)) := by
  have hl := lt32 ht
  have hi : ((grid0.coords ⟨t, ht⟩) 1 : ℕ) = t % 16 := (idx_all ⟨t, ht⟩).2.2.2
  have hc : ((col g a d : Fin 512) : ℕ) = g * 256 + a * 64 + d := rfl
  unfold out6At
  rw [out6_eq, tiles_at _ _ _ _ _ _ _ _ _ (lt_trans ((grid0.coords ⟨t, ht⟩) 1).isLt (by decide))]
  unfold elt DQ
  rw [dq_at _ _ _ _ R.u R.bi R.sk R.dO]
  rw [← show (((⟨t % 16, by omega⟩ : Fin 16) : ℕ)) = t % 16 from rfl] at hi
  rw [← hi]
  refine cell_congr rfl (fun d => ?_) (fun d => ?_) (fun j d => ?_) (fun j d => ?_) (fun j d => ?_) (fun j d => ?_) (fun j => ?_) ?_ ?_
  · rw [iblk_q]
    unfold qd
    refine congrArg (U m c) (congrArg₂ ix2 (Fin.ext ?_) (Fin.ext ?_))
    · show t * 128 + (q : ℕ) = t / 16 * 2048 + t % 16 * 128 + q
      omega
    · show 512 + (64 * ((col g a _ : ℕ) / 64) + _) = 512 + ((g : ℕ) * 256 + a * 64 + _)
      omega
  · rw [iblk_do]
    unfold dd
    refine congrArg (DO m c) (congrArg₂ ix2 (Fin.ext ?_) (Fin.ext ?_))
    · show t * 128 + (q : ℕ) = t / 16 * 2048 + t % 16 * 128 + q
      omega
    · show 64 * ((col g a _ : ℕ) / 64) + _ = (g : ℕ) * 256 + a * 64 + _
      omega
  · unfold rowsOf kd
    refine (iblk_k m c t ht _ _).trans (congrArg (U m c) (congrArg₂ ix2 (Fin.ext ?_) (Fin.ext ?_)))
    · show t / 16 * 2048 + (128 * (((grid0.coords ⟨t, ht⟩) 1 : ℕ) - 1) + j) = t / 16 * 2048 + (t % 16 - 1) * 128 + j
      rw [hi]
      dsimp only
      omega
    · show 1024 + (64 * ((col g a _ : ℕ) / 256) + _) = 1024 + ((g : ℕ) * 64 + _)
      omega
  · unfold rowsOf kd
    refine (iblk_k m c t ht _ _).trans (congrArg (U m c) (congrArg₂ ix2 (Fin.ext ?_) (Fin.ext ?_)))
    · show t / 16 * 2048 + (128 * ((grid0.coords ⟨t, ht⟩) 1 : ℕ) + j) = t / 16 * 2048 + t % 16 * 128 + j
      rw [hi]
      dsimp only
      omega
    · show 1024 + (64 * ((col g a _ : ℕ) / 256) + _) = 1024 + ((g : ℕ) * 64 + _)
      omega
  · unfold rowsOf vd
    refine (iblk_v m c t ht _ _).trans (congrArg (U m c) (congrArg₂ ix2 (Fin.ext ?_) (Fin.ext ?_)))
    · show t / 16 * 2048 + (128 * (((grid0.coords ⟨t, ht⟩) 1 : ℕ) - 1) + j) = t / 16 * 2048 + (t % 16 - 1) * 128 + j
      rw [hi]
      dsimp only
      omega
    · show 1152 + (64 * ((col g a _ : ℕ) / 256) + _) = 1152 + ((g : ℕ) * 64 + _)
      omega
  · unfold rowsOf vd
    refine (iblk_v m c t ht _ _).trans (congrArg (U m c) (congrArg₂ ix2 (Fin.ext ?_) (Fin.ext ?_)))
    · show t / 16 * 2048 + (128 * ((grid0.coords ⟨t, ht⟩) 1 : ℕ) + j) = t / 16 * 2048 + t % 16 * 128 + j
      rw [hi]
      dsimp only
      omega
    · show 1152 + (64 * ((col g a _ : ℕ) / 256) + _) = 1152 + ((g : ℕ) * 64 + _)
      omega
  · refine (iblk_b m c t ht _ _ _).trans (congrArg (fun h : Fin 8 => BI m c (ix3 h q j)) (Fin.ext ?_))
    show (col g a d : ℕ) / 64 = (g : ℕ) * 4 + a
    omega
  · refine (iblk_s m c t ht _ _).trans (congrArg (fun h : Fin 8 => SKS m c (ix1 h)) (Fin.ext ?_))
    show (128 * ((col g a d : ℕ) / 64) + (q : ℕ)) / 128 = (g : ℕ) * 4 + a
    omega
  · refine Fin.ext ?_
    show (col g a d : ℕ) % 64 = d
    omega

/-- The call's result. -/
theorem dq_arr (R : Pre.Real m c) : (dats m 0 c).arrAt 6 cfg0.N = DQ m c := by
  refine (dats m 0 c).arrAt_eq_of_covers 6 _ (by decide +kernel) fun t hf y => ?_
  have e := (idx_all t).2.2.1
  obtain ⟨n, hn⟩ := t
  have hl := lt32 hn
  idx_vars y
  have he : (win0_6.blk ⟨n, hn⟩).view.emb (ix2 y0 y1) = (ix2 (row ⟨n / 16, by omega⟩ ⟨n % 16, by omega⟩ y0) y1 : S4096x512.Idx) := by
    have hr : row ⟨n / 16, by omega⟩ ⟨n % 16, by omega⟩ y0 = ⟨n * 128 + y0, by omega⟩ := Fin.ext (by
      show n / 16 * 2048 + n % 16 * 128 + (y0 : ℕ) = n * 128 + y0
      omega)
    rw [hr]
    blk_ext [e]
  have hy : y1 = col ⟨y1 / 256, by omega⟩ ⟨y1 / 64 % 4, by omega⟩ ⟨y1 % 64, by omega⟩ := Fin.ext (by
    show (y1 : ℕ) = (y1 : ℕ) / 256 * 256 + (y1 : ℕ) / 64 % 4 * 64 + (y1 : ℕ) % 64
    omega)
  blk_simp
  rw [after0_6, he, hy]
  exact out_at R n hn y0 _ _ _

end Cert.SwaIdeal.Ref

namespace Cert.SwaValue

open Cert.SwaIdeal.Ref Cert.SwaRefIdeal.Read Idealize.ShloMosaic Idealize.ShloMosaic.TcCoe Idealize.SL.Sem

/-- The gradient of the queries is the reference's, from any memory whose argument arrays are finite. -/
theorem algebraic : Cert.algebraic_SwaIdeal_SwaRefIdeal_pre_finite_attention := by
  intro m g m' g' hp hargs
  refine ⟨_, (θ_run Cert.SwaIdeal.defs _ _).mono (fun r h c => ⟨(((Cert.SwaIdeal.Hand.dats m 0 c).toRForget_arrAt_iff (w := 6) rfl _ _).1 ((h.1 c).1 6)).trans (dq_arr (Cert.SwaIdeal.Pre.real_of_pre m hp c)), h.2.1 c⟩)
      (θ_run_and (Cert.SwaIdeal.Hand.run_main m g) (Cert.SwaIdeal.Hand.frame m g)),
    (θ_run Cert.SwaRefIdeal.defs _ _).mono (fun r h c => ?_) (Cert.SwaRefIdeal.Value.run m' g')⟩
  obtain ⟨h125, hk⟩ := h c
  obtain ⟨a0, a1, a2, a3⟩ := hargs c
  refine ⟨?_, hk⟩
  rw [h125, Cert.SwaRefIdeal.Read.val_main_v125_eq]
  show val_main_v125 (F := Ideal) (m' (c.tc.loc Cert.SwaRefIdeal.main_arg0)) (m' (c.tc.loc Cert.SwaRefIdeal.main_arg1))
    (m' (c.tc.loc Cert.SwaRefIdeal.main_arg2)) (m' (c.tc.loc Cert.SwaRefIdeal.main_arg3)) = _
  rw [a0, a1, a2, a3]
  rfl

/-- The reference leaves its arguments and has no semaphore. -/
theorem frame_ref : Cert.quiescent_SwaRefIdeal := fun m g _ =>
  (θ_run Cert.SwaRefIdeal.defs _ _).mono (fun r h => ⟨fun c => (h c).2, sem_eq_zero_of_no_sems (by decide) r.2⟩)
    (Cert.SwaRefIdeal.Value.run m g)

end Cert.SwaValue

end
-- ==== Proof.GateBody.lean ====
module

public import proofs.«01_k».proof.Proof.Gen.GateIdeal.Value
public import proofs.«01_k».proof.Proof.ActMath
public import Idealize.ShloMosaic.Lib.Pointwise
public import Idealize.ShloMosaic.Lib.Pipeline.ValueKit
public import Idealize.ShloMosaic.Lib.WritesUnit

@[expose] public section

set_option maxRecDepth 16384
set_option maxHeartbeats 4000000

noncomputable section

namespace Cert.GateIdeal.Body

open Cert.GateIdeal Cert.GateIdeal.Gen Idealize.ShloMosaic Idealize.ShloMosaic.TcCoe Idealize.SL.Sem Cert.ActMath

theorem hz2 : (![0, 0] : Fin 2 → Nat) = fun _ => 0 := by funext a; fin_cases a <;> rfl

theorem zero_eq : (k0_pay7 (F := Ideal)) = fun _ => 0 := by
  funext y
  idx_vars y
  unfold_payloads
  pointwise

/-- A load of the gain's gradient after it was set to zero reads zero. -/
theorem cov_zero (v : View sig .tc .vmem S1x1024 .f32) (B : LoadRect S1x1024) :
    v.readCov (Val := Elt Ideal) [⟨Rect.unit ![0, 0] ![1, 1024] inb_S1x1024_S1x1024_0_0, k0_pay7 (F := Ideal)⟩] B = fun _ => (0 : EReal) := by
  rw [View.readCov_eq_canon', View.canon_cons_unit_zero hz2, zero_eq]

section
variable (x0 : Vec Ideal S512x1024 .f32) (x1 : Vec Ideal S1x1024 .f32) (x2 : Vec Ideal S1024x1024 .bf16) (x3 : Vec Ideal S512x256 .f32)
  (x4 : Vec Ideal S256x1024 .bf16) (x5 : Vec Ideal S512x1024 .f32) (r : Fin 512) (d : Fin 1024)

/-- A row's inverse root mean square. -/
def ri : EReal := rs (fun x => x0 (ix2 r x))
/-- The normalised tokens. -/
def n : EReal := x0 (ix2 r d) * ri x0 r * x1 (ix2 0 d)
/-- The gate. -/
def sg : EReal := Ideal.logistic (∑ x, n x0 x1 r x * x2 (ix2 x d))
/-- The projected embeddings. -/
def pp : EReal := ∑ x, x3 (ix2 r x) * x4 (ix2 x d)
/-- The gradient of the gate's product. -/
def dga : EReal := ((x5 (ix2 r d) * pp x3 x4 r d) * sg x0 x1 x2 r d) * (1 - sg x0 x1 x2 r d)
/-- The gradient of the normalised tokens. -/
def dn : EReal := ∑ k, dga x0 x1 x2 x3 x4 x5 r k * x2 (ix2 d k)

theorem n_apply : k0_pay11 x1 x0 (ix2 r d) = n x0 x1 r d := by
  unfold n ri rs ms
  unfold_payloads
  pointwise

theorem xh_apply : k0_pay10 x0 (ix2 r d) = x0 (ix2 r d) * ri x0 r := by
  unfold ri rs ms
  unfold_payloads
  pointwise

theorem ri_apply (a : Fin 1) : k0_pay9 x0 (ix2 r a) = ri x0 r := by
  unfold ri rs ms
  unfold_payloads
  pointwise

theorem sg_apply : k0_pay12 x1 x0 x2 (ix2 r d) = sg x0 x1 x2 r d := by
  unfold sg k0_pay12
  pointwise [n_apply]

theorem dga_apply : k0_pay13 x1 x0 x2 x3 x4 x5 (ix2 r d) = dga x0 x1 x2 x3 x4 x5 r d := by
  unfold dga pp k0_pay13
  pointwise [sg_apply]

theorem dn_apply : k0_pay1 (k0_pay13 x1 x0 x2 x3 x4 x5) (k0_pay14 x2) (ix2 r d) = dn x0 x1 x2 x3 x4 x5 r d := by
  unfold dn k0_pay1 k0_pay14
  pointwise [dga_apply]

theorem dh_apply : k0_pay2 (k0_pay8 x1) (k0_pay9 x0) (k0_pay10 x0) x5 (k0_pay13 x1 x0 x2 x3 x4 x5) (k0_pay14 x2) (ix2 r d)
    = x5 (ix2 r d) + ri x0 r * (dn x0 x1 x2 x3 x4 x5 r d * x1 (ix2 0 d) - x0 (ix2 r d) * ri x0 r
        * Ideal.div (∑ x, dn x0 x1 x2 x3 x4 x5 r x * x1 (ix2 0 x) * (x0 (ix2 r x) * ri x0 r)) (Ideal.ofBits .f32 0x44800000#32)) := by
  unfold k0_pay2 k0_pay8
  pointwise [dn_apply, xh_apply, ri_apply]

theorem n16_apply : k0_pay3 (k0_pay11 x1 x0) (ix2 r d) = n x0 x1 r d := by
  unfold k0_pay3
  pointwise [n_apply]

theorem dga16_apply : k0_pay4 (k0_pay13 x1 x0 x2 x3 x4 x5) (ix2 r d) = dga x0 x1 x2 x3 x4 x5 r d := by
  unfold k0_pay4
  pointwise [dga_apply]

theorem dpp16_apply : k0_pay5 (k0_pay12 x1 x0 x2) x5 (ix2 r d) = x5 (ix2 r d) * sg x0 x1 x2 r d := by
  unfold k0_pay5
  pointwise [sg_apply]

theorem dg_apply (xo : Vec Ideal S1x1024 .f32) (a : Fin 1) : k0_pay6 (k0_pay10 x0) (k0_pay13 x1 x0 x2 x3 x4 x5) (k0_pay14 x2) xo (ix2 a d)
    = xo (ix2 a d) + ∑ r, dn x0 x1 x2 x3 x4 x5 r d * (x0 (ix2 r d) * ri x0 r) := by
  unfold k0_pay6
  pointwise [dn_apply, xh_apply]

end

section
variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S512x256 .f32) (harg4 : arg4.IsWhole) (arg5 : Memref sig .tc .vmem S256x1024 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1x1024 .f32) (harg11 : arg11.IsWhole)
  (x0 : Vec Ideal S512x1024 .f32) (x1 : Vec Ideal S1x1024 .f32) (x2 : Vec Ideal S1024x1024 .bf16) (x3 : Vec Ideal S512x256 .f32)
  (x4 : Vec Ideal S256x1024 .bf16) (x5 : Vec Ideal S512x1024 .f32) (xo : Vec Ideal S1x1024 .f32)

theorem out6_A (hc0 : cond0_0 i) : out0_A_6 c i arg1 harg1 arg2 harg2 arg3 harg3 arg4 harg4 arg5 harg5 arg6 harg6 arg7 harg7 arg8 harg8 arg9 harg9 arg10 harg10 arg11 harg11 hc0 x0 x1 x2 x3 x4 x5
    = k0_pay2 (k0_pay8 x1) (k0_pay9 x0) (k0_pay10 x0) x5 (k0_pay13 x1 x0 x2 x3 x4 x5) (k0_pay14 x2) := by
  unfold out0_A_6 kernelRun0_A
  dsimp only
  sl_unfold_words
  simp only [View.readAt_eq_ld, harg1.read_unread, harg2.read_unread, harg3.read_unread, harg4.read_unread, harg5.read_unread, harg6.read_unread, harg11.read_unread]
  rw [View.read_writes_junk_eq_canon, View.canon_cons_unit_zero hz2]
  simp only [View.ld_unit_zero (S := S512x1024) hz2, View.ld_unit_zero (S := S1x1024) hz2, View.ld_unit_zero (S := S1024x1024) hz2, View.ld_unit_zero (S := S512x256) hz2, View.ld_unit_zero (S := S256x1024) hz2]

theorem out7_A (hc0 : cond0_0 i) : out0_A_7 c i arg1 harg1 arg2 harg2 arg3 harg3 arg4 harg4 arg5 harg5 arg6 harg6 arg7 harg7 arg8 harg8 arg9 harg9 arg10 harg10 arg11 harg11 hc0 x0 x1 x2 x3 x4 x5
    = k0_pay3 (k0_pay11 x1 x0) := by
  unfold out0_A_7 kernelRun0_A
  dsimp only
  sl_unfold_words
  simp only [View.readAt_eq_ld, harg1.read_unread, harg2.read_unread, harg3.read_unread, harg4.read_unread, harg5.read_unread, harg6.read_unread, harg11.read_unread]
  rw [View.read_writes_junk_eq_canon, View.canon_cons_unit_zero hz2]
  simp only [View.ld_unit_zero (S := S512x1024) hz2, View.ld_unit_zero (S := S1x1024) hz2, View.ld_unit_zero (S := S1024x1024) hz2, View.ld_unit_zero (S := S512x256) hz2, View.ld_unit_zero (S := S256x1024) hz2]

theorem out8_A (hc0 : cond0_0 i) : out0_A_8 c i arg1 harg1 arg2 harg2 arg3 harg3 arg4 harg4 arg5 harg5 arg6 harg6 arg7 harg7 arg8 harg8 arg9 harg9 arg10 harg10 arg11 harg11 hc0 x0 x1 x2 x3 x4 x5
    = k0_pay4 (k0_pay13 x1 x0 x2 x3 x4 x5) := by
  unfold out0_A_8 kernelRun0_A
  dsimp only
  sl_unfold_words
  simp only [View.readAt_eq_ld, harg1.read_unread, harg2.read_unread, harg3.read_unread, harg4.read_unread, harg5.read_unread, harg6.read_unread, harg11.read_unread]
  rw [View.read_writes_junk_eq_canon, View.canon_cons_unit_zero hz2]
  simp only [View.ld_unit_zero (S := S512x1024) hz2, View.ld_unit_zero (S := S1x1024) hz2, View.ld_unit_zero (S := S1024x1024) hz2, View.ld_unit_zero (S := S512x256) hz2, View.ld_unit_zero (S := S256x1024) hz2]

theorem out9_A (hc0 : cond0_0 i) : out0_A_9 c i arg1 harg1 arg2 harg2 arg3 harg3 arg4 harg4 arg5 harg5 arg6 harg6 arg7 harg7 arg8 harg8 arg9 harg9 arg10 harg10 arg11 harg11 hc0 x0 x1 x2 x3 x4 x5
    = k0_pay5 (k0_pay12 x1 x0 x2) x5 := by
  unfold out0_A_9 kernelRun0_A
  dsimp only
  sl_unfold_words
  simp only [View.readAt_eq_ld, harg1.read_unread, harg2.read_unread, harg3.read_unread, harg4.read_unread, harg5.read_unread, harg6.read_unread, harg11.read_unread]
  rw [View.read_writes_junk_eq_canon, View.canon_cons_unit_zero hz2]
  simp only [View.ld_unit_zero (S := S512x1024) hz2, View.ld_unit_zero (S := S1x1024) hz2, View.ld_unit_zero (S := S1024x1024) hz2, View.ld_unit_zero (S := S512x256) hz2, View.ld_unit_zero (S := S256x1024) hz2]

theorem out10_A (hc0 : cond0_0 i) : out0_A_10 c i arg1 harg1 arg2 harg2 arg3 harg3 arg4 harg4 arg5 harg5 arg6 harg6 arg7 harg7 arg8 harg8 arg9 harg9 arg10 harg10 arg11 harg11 hc0 x0 x1 x2 x3 x4 x5
    = k0_pay6 (k0_pay10 x0) (k0_pay13 x1 x0 x2 x3 x4 x5) (k0_pay14 x2) (fun _ => 0) := by
  unfold out0_A_10 kernelRun0_A
  dsimp only
  sl_unfold_words
  simp only [View.readAt_eq_ld, harg1.read_unread, harg2.read_unread, harg3.read_unread, harg4.read_unread, harg5.read_unread, harg6.read_unread, harg11.read_unread]
  rw [View.read_writes_junk_eq_canon, View.canon_cons_unit_zero hz2]
  simp only [View.ld_unit_zero (S := S512x1024) hz2, View.ld_unit_zero (S := S1x1024) hz2, View.ld_unit_zero (S := S1024x1024) hz2, View.ld_unit_zero (S := S512x256) hz2, View.ld_unit_zero (S := S256x1024) hz2, cov_zero]
  rfl

theorem out6_B (hc0 : ¬cond0_0 i) : out0_B_6 c i arg1 harg1 arg2 harg2 arg3 harg3 arg4 harg4 arg5 harg5 arg6 harg6 arg7 harg7 arg8 harg8 arg9 harg9 arg10 harg10 arg11 harg11 hc0 x0 x1 x2 x3 x4 x5 xo
    = k0_pay2 (k0_pay8 x1) (k0_pay9 x0) (k0_pay10 x0) x5 (k0_pay13 x1 x0 x2 x3 x4 x5) (k0_pay14 x2) := by
  unfold out0_B_6 kernelRun0_B
  dsimp only
  sl_unfold_words
  simp only [View.readAt_eq_ld, harg1.read_unread, harg2.read_unread, harg3.read_unread, harg4.read_unread, harg5.read_unread, harg6.read_unread, harg11.read_unread]
  rw [View.read_writes_junk_eq_canon, View.canon_cons_unit_zero hz2]
  simp only [View.ld_unit_zero (S := S512x1024) hz2, View.ld_unit_zero (S := S1x1024) hz2, View.ld_unit_zero (S := S1024x1024) hz2, View.ld_unit_zero (S := S512x256) hz2, View.ld_unit_zero (S := S256x1024) hz2]

theorem out7_B (hc0 : ¬cond0_0 i) : out0_B_7 c i arg1 harg1 arg2 harg2 arg3 harg3 arg4 harg4 arg5 harg5 arg6 harg6 arg7 harg7 arg8 harg8 arg9 harg9 arg10 harg10 arg11 harg11 hc0 x0 x1 x2 x3 x4 x5 xo
    = k0_pay3 (k0_pay11 x1 x0) := by
  unfold out0_B_7 kernelRun0_B
  dsimp only
  sl_unfold_words
  simp only [View.readAt_eq_ld, harg1.read_unread, harg2.read_unread, harg3.read_unread, harg4.read_unread, harg5.read_unread, harg6.read_unread, harg11.read_unread]
  rw [View.read_writes_junk_eq_canon, View.canon_cons_unit_zero hz2]
  simp only [View.ld_unit_zero (S := S512x1024) hz2, View.ld_unit_zero (S := S1x1024) hz2, View.ld_unit_zero (S := S1024x1024) hz2, View.ld_unit_zero (S := S512x256) hz2, View.ld_unit_zero (S := S256x1024) hz2]

theorem out8_B (hc0 : ¬cond0_0 i) : out0_B_8 c i arg1 harg1 arg2 harg2 arg3 harg3 arg4 harg4 arg5 harg5 arg6 harg6 arg7 harg7 arg8 harg8 arg9 harg9 arg10 harg10 arg11 harg11 hc0 x0 x1 x2 x3 x4 x5 xo
    = k0_pay4 (k0_pay13 x1 x0 x2 x3 x4 x5) := by
  unfold out0_B_8 kernelRun0_B
  dsimp only
  sl_unfold_words
  simp only [View.readAt_eq_ld, harg1.read_unread, harg2.read_unread, harg3.read_unread, harg4.read_unread, harg5.read_unread, harg6.read_unread, harg11.read_unread]
  rw [View.read_writes_junk_eq_canon, View.canon_cons_unit_zero hz2]
  simp only [View.ld_unit_zero (S := S512x1024) hz2, View.ld_unit_zero (S := S1x1024) hz2, View.ld_unit_zero (S := S1024x1024) hz2, View.ld_unit_zero (S := S512x256) hz2, View.ld_unit_zero (S := S256x1024) hz2]

theorem out9_B (hc0 : ¬cond0_0 i) : out0_B_9 c i arg1 harg1 arg2 harg2 arg3 harg3 arg4 harg4 arg5 harg5 arg6 harg6 arg7 harg7 arg8 harg8 arg9 harg9 arg10 harg10 arg11 harg11 hc0 x0 x1 x2 x3 x4 x5 xo
    = k0_pay5 (k0_pay12 x1 x0 x2) x5 := by
  unfold out0_B_9 kernelRun0_B
  dsimp only
  sl_unfold_words
  simp only [View.readAt_eq_ld, harg1.read_unread, harg2.read_unread, harg3.read_unread, harg4.read_unread, harg5.read_unread, harg6.read_unread, harg11.read_unread]
  rw [View.read_writes_junk_eq_canon, View.canon_cons_unit_zero hz2]
  simp only [View.ld_unit_zero (S := S512x1024) hz2, View.ld_unit_zero (S := S1x1024) hz2, View.ld_unit_zero (S := S1024x1024) hz2, View.ld_unit_zero (S := S512x256) hz2, View.ld_unit_zero (S := S256x1024) hz2]

theorem out10_B (hc0 : ¬cond0_0 i) : out0_B_10 c i arg1 harg1 arg2 harg2 arg3 harg3 arg4 harg4 arg5 harg5 arg6 harg6 arg7 harg7 arg8 harg8 arg9 harg9 arg10 harg10 arg11 harg11 hc0 x0 x1 x2 x3 x4 x5 xo
    = k0_pay6 (k0_pay10 x0) (k0_pay13 x1 x0 x2 x3 x4 x5) (k0_pay14 x2) xo := by
  unfold out0_B_10 kernelRun0_B
  dsimp only
  sl_unfold_words
  simp only [View.readAt_eq_ld, harg1.read_unread, harg2.read_unread, harg3.read_unread, harg4.read_unread, harg5.read_unread, harg6.read_unread, harg11.read_unread]
  rw [View.read_writes_junk_eq_canon, View.canon_cons_unit_zero hz2]
  simp only [View.ld_unit_zero (S := S512x1024) hz2, View.ld_unit_zero (S := S1x1024) hz2, View.ld_unit_zero (S := S1024x1024) hz2, View.ld_unit_zero (S := S512x256) hz2, View.ld_unit_zero (S := S256x1024) hz2]

end

end Cert.GateIdeal.Body

end
-- ==== Proof.GateSweep.lean ====
module

public import proofs.«01_k».proof.Proof.GateBody
public import Idealize.ShloMosaic.Lib.StableHlo.RunRead

@[expose] public section

set_option maxRecDepth 16384
set_option maxHeartbeats 4000000

noncomputable section

namespace Cert.GateIdeal.Sweep

open Cert.GateIdeal Cert.GateIdeal.Gen Idealize.ShloMosaic Idealize.ShloMosaic.TcCoe Idealize.SL.Sem Idealize.ShloMosaic.StableHlo Cert.ActMath

variable (m : (ℓ : Loc nD τ sig) → Buf (Elt Ideal) ℓ) (c : Dev nD)

/-- The tokens, the gain, the gate's weight, the embeddings, their weight and the incoming gradient. -/
def H : FVec Ideal S4096x1024 .f32 := m (c.tc.loc main_arg0)
@[inherit_doc H] def GN : FVec Ideal S1024 .f32 := m (c.tc.loc main_arg1)
@[inherit_doc H] def WG : FVec Ideal S1024x1024 .f32 := m (c.tc.loc main_arg2)
@[inherit_doc H] def PE : FVec Ideal S4096x256 .f32 := m (c.tc.loc main_arg3)
@[inherit_doc H] def WP : FVec Ideal S256x1024 .f32 := m (c.tc.loc main_arg4)
@[inherit_doc H] def DO : FVec Ideal S4096x1024 .f32 := m (c.tc.loc main_arg5)

/-! ## What the call computes, over whole arrays -/

/-- A token's row. -/
def HR (t : Fin 4096) (d : Fin 1024) : EReal := H m c (ix2 t d)
/-- The gain as a row. -/
def GR (d : Fin 1024) : EReal := GN m c (ix1 d)
/-- The normalised tokens. -/
def NO (t : Fin 4096) (d : Fin 1024) : EReal := HR m c t d * rs (HR m c t) * GR m c d
/-- The gate. -/
def SG (t : Fin 4096) (d : Fin 1024) : EReal := Ideal.logistic (∑ x, NO m c t x * WG m c (ix2 x d))
/-- The projected embeddings. -/
def PP (t : Fin 4096) (d : Fin 1024) : EReal := ∑ x, PE m c (ix2 t x) * WP m c (ix2 x d)
/-- The gradient of the gate's product. -/
def DGA (t : Fin 4096) (d : Fin 1024) : EReal := ((DO m c (ix2 t d) * PP m c t d) * SG m c t d) * (1 - SG m c t d)
/-- The gradient of the projected embeddings. -/
def DPP (t : Fin 4096) (d : Fin 1024) : EReal := DO m c (ix2 t d) * SG m c t d
/-- The gradient of the normalised tokens. -/
def DN (t : Fin 4096) (d : Fin 1024) : EReal := ∑ k, DGA m c t k * WG m c (ix2 d k)
/-- The tokens' gradient. -/
def DH (t : Fin 4096) (d : Fin 1024) : EReal :=
  DO m c (ix2 t d) + rs (HR m c t) * (DN m c t d * GR m c d - HR m c t d * rs (HR m c t)
    * Ideal.div (∑ x, DN m c t x * GR m c x * (HR m c t x * rs (HR m c t))) (Ideal.ofBits .f32 0x44800000#32))
/-- The gain's gradient. -/
def DG (d : Fin 1024) : EReal := ∑ t, DN m c t d * (HR m c t d * rs (HR m c t))

/-! ## The points' blocks of the arguments -/

theorem V_gain : V m c main_v0 = (shapeCast S1x1024 (GN m c) shapeCasts_S1024_S1x1024 : FVec Ideal S1x1024 .f32) := by
  unfold V
  after_reads_simp
  rfl

theorem V_wg : V m c main_v1 = (truncf .bf16 (WG m c) bitsLt_bf16_f32 : FVec Ideal S1024x1024 .bf16) := by
  unfold V
  after_reads_simp
  rfl

theorem V_wp : V m c main_v2 = (truncf .bf16 (WP m c) bitsLt_bf16_f32 : FVec Ideal S256x1024 .bf16) := by
  unfold V
  after_reads_simp
  rfl

theorem idx_all : ∀ t : Fin grid0.N, (win0_0.index t = ![t.val, 0] ∧ win0_1.index t = ![0, 0] ∧ win0_2.index t = ![0, 0])
    ∧ (win0_3.index t = ![t.val, 0] ∧ win0_4.index t = ![0, 0] ∧ win0_5.index t = ![t.val, 0])
    ∧ (win0_6.index t = ![t.val, 0] ∧ win0_7.index t = ![t.val, 0] ∧ win0_8.index t = ![t.val, 0])
    ∧ win0_9.index t = ![t.val, 0] ∧ win0_10.index t = ![0, 0] := by
  decide +kernel

theorem lt8 {n : ℕ} (h : n < cfg0.N) : n < 8 := lt_of_lt_of_eq h N_0

/-- Row `r` of point `n`'s row block. -/
abbrev row (n : ℕ) (h : n < 8) (r : Fin 512) : Fin 4096 := ⟨n * 512 + r.val, by omega⟩

theorem iblk_h (n : ℕ) (h : n < cfg0.N) (r : Fin 512) (d : Fin 1024) :
    iblk m c 0 ⟨n, h⟩ (ix2 r d) = HR m c (row n (lt8 h) r) d := by
  have e := (idx_all ⟨n, h⟩).1.1
  have he : (win0_0.blk ⟨n, h⟩).view.emb (ix2 r d) = (ix2 (row n (lt8 h) r) d : S4096x1024.Idx) := by
    blk_ext [e]
  blk_simp [iblk]
  rw [V_main_arg0, he]
  rfl

theorem iblk_g (n : ℕ) (h : n < cfg0.N) (a : Fin 1) (d : Fin 1024) : iblk m c 1 ⟨n, h⟩ (ix2 a d) = GR m c d := by
  have e := (idx_all ⟨n, h⟩).1.2.1
  have he : (win0_1.blk ⟨n, h⟩).view.emb (ix2 a d) = (ix2 a d : S1x1024.Idx) := by
    blk_ext [e]
  unfold GR
  blk_simp [iblk]
  rw [V_gain, he]
  pointwise

theorem iblk_wg (n : ℕ) (h : n < cfg0.N) (x d : Fin 1024) : iblk m c 2 ⟨n, h⟩ (ix2 x d) = WG m c (ix2 x d) := by
  have e := (idx_all ⟨n, h⟩).1.2.2
  have he : (win0_2.blk ⟨n, h⟩).view.emb (ix2 x d) = (ix2 x d : S1024x1024.Idx) := by
    blk_ext [e]
  blk_simp [iblk]
  rw [V_wg, he]
  pointwise

theorem iblk_p (n : ℕ) (h : n < cfg0.N) (r : Fin 512) (x : Fin 256) :
    iblk m c 3 ⟨n, h⟩ (ix2 r x) = PE m c (ix2 (row n (lt8 h) r) x) := by
  have e := (idx_all ⟨n, h⟩).2.1.1
  have he : (win0_3.blk ⟨n, h⟩).view.emb (ix2 r x) = (ix2 (row n (lt8 h) r) x : S4096x256.Idx) := by
    blk_ext [e]
  blk_simp [iblk]
  rw [V_main_arg3, he]
  rfl

theorem iblk_wp (n : ℕ) (h : n < cfg0.N) (x : Fin 256) (d : Fin 1024) : iblk m c 4 ⟨n, h⟩ (ix2 x d) = WP m c (ix2 x d) := by
  have e := (idx_all ⟨n, h⟩).2.1.2.1
  have he : (win0_4.blk ⟨n, h⟩).view.emb (ix2 x d) = (ix2 x d : S256x1024.Idx) := by
    blk_ext [e]
  blk_simp [iblk]
  rw [V_wp, he]
  pointwise

theorem iblk_do (n : ℕ) (h : n < cfg0.N) (r : Fin 512) (d : Fin 1024) :
    iblk m c 5 ⟨n, h⟩ (ix2 r d) = DO m c (ix2 (row n (lt8 h) r) d) := by
  have e := (idx_all ⟨n, h⟩).2.1.2.2
  have he : (win0_5.blk ⟨n, h⟩).view.emb (ix2 r d) = (ix2 (row n (lt8 h) r) d : S4096x1024.Idx) := by
    blk_ext [e]
  blk_simp [iblk]
  rw [V_main_arg5, he]
  rfl

/-! ## One point -/

section
variable (n : ℕ) (h : n < cfg0.N) (r : Fin 512) (d : Fin 1024)

theorem b_ri : Body.ri (iblk m c 0 ⟨n, h⟩) r = rs (HR m c (row n (lt8 h) r)) := by
  unfold Body.ri
  exact congrArg rs (funext fun x => iblk_h m c n h r x)

theorem b_n : Body.n (iblk m c 0 ⟨n, h⟩) (iblk m c 1 ⟨n, h⟩) r d = NO m c (row n (lt8 h) r) d := by
  unfold Body.n NO
  rw [b_ri, iblk_h, iblk_g]

theorem b_sg : Body.sg (iblk m c 0 ⟨n, h⟩) (iblk m c 1 ⟨n, h⟩) (iblk m c 2 ⟨n, h⟩) r d = SG m c (row n (lt8 h) r) d := by
  unfold Body.sg SG
  exact congrArg Ideal.logistic (Finset.sum_congr rfl fun x _ => by rw [b_n, iblk_wg])

theorem b_pp : Body.pp (iblk m c 3 ⟨n, h⟩) (iblk m c 4 ⟨n, h⟩) r d = PP m c (row n (lt8 h) r) d := by
  unfold Body.pp PP
  exact Finset.sum_congr rfl fun x _ => by rw [iblk_p, iblk_wp]

theorem b_dga : Body.dga (iblk m c 0 ⟨n, h⟩) (iblk m c 1 ⟨n, h⟩) (iblk m c 2 ⟨n, h⟩) (iblk m c 3 ⟨n, h⟩) (iblk m c 4 ⟨n, h⟩) (iblk m c 5 ⟨n, h⟩) r d
    = DGA m c (row n (lt8 h) r) d := by
  unfold Body.dga DGA
  rw [b_sg, b_pp, iblk_do]

theorem b_dn : Body.dn (iblk m c 0 ⟨n, h⟩) (iblk m c 1 ⟨n, h⟩) (iblk m c 2 ⟨n, h⟩) (iblk m c 3 ⟨n, h⟩) (iblk m c 4 ⟨n, h⟩) (iblk m c 5 ⟨n, h⟩) r d
    = DN m c (row n (lt8 h) r) d := by
  unfold Body.dn DN
  exact Finset.sum_congr rfl fun x _ => by rw [b_dga, iblk_wg]

/-- The state a point leaves: the five results. -/
theorem st_dh : (outsAt0 m c n h).1 (ix2 r d) = DH m c (row n (lt8 h) r) d := by
  have e : (outsAt0 m c n h).1 = k0_pay2 (k0_pay8 (iblk m c 1 ⟨n, h⟩)) (k0_pay9 (iblk m c 0 ⟨n, h⟩)) (k0_pay10 (iblk m c 0 ⟨n, h⟩)) (iblk m c 5 ⟨n, h⟩)
      (k0_pay13 (iblk m c 1 ⟨n, h⟩) (iblk m c 0 ⟨n, h⟩) (iblk m c 2 ⟨n, h⟩) (iblk m c 3 ⟨n, h⟩) (iblk m c 4 ⟨n, h⟩) (iblk m c 5 ⟨n, h⟩)) (k0_pay14 (iblk m c 2 ⟨n, h⟩)) := by
    by_cases h0 : n % 8 = 0
    · rw [outsAt0_A m c ⟨n, h⟩ h0]
      dsimp only
      exact Body.out6_A ..
    · rw [outsAt0_B m c ⟨n, h⟩ h0]
      dsimp only
      exact Body.out6_B ..
  rw [e]
  refine (Body.dh_apply _ _ _ _ _ _ r d).trans ?_
  unfold DH
  simp only [b_ri, b_dn, iblk_h, iblk_g, iblk_do]

@[inherit_doc st_dh] theorem st_n : (outsAt0 m c n h).2.1 (ix2 r d) = NO m c (row n (lt8 h) r) d := by
  have e : (outsAt0 m c n h).2.1 = k0_pay3 (k0_pay11 (iblk m c 1 ⟨n, h⟩) (iblk m c 0 ⟨n, h⟩)) := by
    by_cases h0 : n % 8 = 0
    · rw [outsAt0_A m c ⟨n, h⟩ h0]
      dsimp only
      exact Body.out7_A ..
    · rw [outsAt0_B m c ⟨n, h⟩ h0]
      dsimp only
      exact Body.out7_B ..
  rw [e]
  exact (Body.n16_apply _ _ r d).trans (b_n m c n h r d)

@[inherit_doc st_dh] theorem st_dga : (outsAt0 m c n h).2.2.1 (ix2 r d) = DGA m c (row n (lt8 h) r) d := by
  have e : (outsAt0 m c n h).2.2.1 = k0_pay4 (k0_pay13 (iblk m c 1 ⟨n, h⟩) (iblk m c 0 ⟨n, h⟩) (iblk m c 2 ⟨n, h⟩) (iblk m c 3 ⟨n, h⟩) (iblk m c 4 ⟨n, h⟩) (iblk m c 5 ⟨n, h⟩)) := by
    by_cases h0 : n % 8 = 0
    · rw [outsAt0_A m c ⟨n, h⟩ h0]
      dsimp only
      exact Body.out8_A ..
    · rw [outsAt0_B m c ⟨n, h⟩ h0]
      dsimp only
      exact Body.out8_B ..
  rw [e]
  exact (Body.dga16_apply _ _ _ _ _ _ r d).trans (b_dga m c n h r d)

@[inherit_doc st_dh] theorem st_dpp : (outsAt0 m c n h).2.2.2.1 (ix2 r d) = DPP m c (row n (lt8 h) r) d := by
  have e : (outsAt0 m c n h).2.2.2.1 = k0_pay5 (k0_pay12 (iblk m c 1 ⟨n, h⟩) (iblk m c 0 ⟨n, h⟩) (iblk m c 2 ⟨n, h⟩)) (iblk m c 5 ⟨n, h⟩) := by
    by_cases h0 : n % 8 = 0
    · rw [outsAt0_A m c ⟨n, h⟩ h0]
      dsimp only
      exact Body.out9_A ..
    · rw [outsAt0_B m c ⟨n, h⟩ h0]
      dsimp only
      exact Body.out9_B ..
  rw [e]
  refine (Body.dpp16_apply _ _ _ _ r d).trans ?_
  unfold DPP
  rw [b_sg, iblk_do]

/-- What point `k` adds to the gain's gradient. -/
def share (d : Fin 1024) (k : Fin 8) : EReal := ∑ r, DN m c (row k.val k.isLt r) d * (HR m c (row k.val k.isLt r) d * rs (HR m c (row k.val k.isLt r)))

theorem dg_pay (xo : Vec Ideal S1x1024 .f32) (a : Fin 1) :
    k0_pay6 (k0_pay10 (iblk m c 0 ⟨n, h⟩)) (k0_pay13 (iblk m c 1 ⟨n, h⟩) (iblk m c 0 ⟨n, h⟩) (iblk m c 2 ⟨n, h⟩) (iblk m c 3 ⟨n, h⟩) (iblk m c 4 ⟨n, h⟩) (iblk m c 5 ⟨n, h⟩))
      (k0_pay14 (iblk m c 2 ⟨n, h⟩)) xo (ix2 a d) = xo (ix2 a d) + share m c d ⟨n, lt8 h⟩ := by
  refine (Body.dg_apply _ _ _ _ _ _ d xo a).trans ?_
  unfold share
  simp only [b_ri, b_dn, iblk_h]

end

theorem dg_first (h : 0 < cfg0.N) (a : Fin 1) (d : Fin 1024) : (outsAt0 m c 0 h).2.2.2.2 (ix2 a d) = 0 + share m c d ⟨0, lt8 h⟩ := by
  refine Eq.trans ?_ (dg_pay m c 0 h d (fun _ => 0) a)
  rw [outsAt0_A m c ⟨0, h⟩ rfl]
  dsimp only
  exact congrFun (Body.out10_A ..) (ix2 a d)

theorem dg_next (n : ℕ) (h : n + 1 < cfg0.N) (a : Fin 1) (d : Fin 1024) :
    (outsAt0 m c (n + 1) h).2.2.2.2 (ix2 a d) = (outsAt0 m c n (Nat.lt_of_succ_lt h)).2.2.2.2 (ix2 a d) + share m c d ⟨n + 1, lt8 h⟩ := by
  refine Eq.trans ?_ (dg_pay m c (n + 1) h d _ a)
  rw [outsAt0_B m c ⟨n + 1, h⟩ (by have := lt8 h; show ¬(n + 1) % 8 = 0; omega)]
  dsimp only
  exact congrFun (Body.out10_B ..) (ix2 a d)

/-- After point `n` the gain's gradient holds the first `n + 1` points' shares. -/
theorem dg_run (a : Fin 1) (d : Fin 1024) : ∀ (n : ℕ) (h : n < cfg0.N),
    (outsAt0 m c n h).2.2.2.2 (ix2 a d) = ∑ k : Fin (n + 1), share m c d ⟨k.val, by have := lt8 h; omega⟩
  | 0, h => by
    rw [dg_first, zero_add, Fin.sum_univ_one]
    rfl
  | n + 1, h => by
    rw [dg_next, dg_run a d n (Nat.lt_of_succ_lt h), Fin.sum_univ_castSucc (n := n + 1)]
    rfl

/-- A sum over the 4096 rows, in eight blocks of 512. -/
theorem sum_rows (f : Fin 4096 → EReal) : ∑ x, f x = ∑ k : Fin 8, ∑ j : Fin 512, f (row k.val k.isLt j) := by
  rw [← (finProdFinEquiv (m := 8) (n := 512)).sum_comp f, Fintype.sum_prod_type]
  exact Finset.sum_congr rfl fun k _ => Finset.sum_congr rfl fun j _ =>
    congrArg f (Fin.ext (by show j.val + 512 * k.val = k.val * 512 + j.val; omega))

theorem st_dg (n : ℕ) (h : n < cfg0.N) (h7 : n = 7) (a : Fin 1) (d : Fin 1024) : (outsAt0 m c n h).2.2.2.2 (ix2 a d) = DG m c d := by
  subst h7
  rw [dg_run]
  unfold DG
  rw [sum_rows]
  rfl

/-! ## The result arrays -/

theorem dh_arr : (dats m 0 c).arrAt 6 cfg0.N = fun i : S4096x1024.Idx => DH m c (i 0) (i 1) := by
  refine (dats m 0 c).arrAt_eq_of_covers 6 _ (by decide +kernel) fun t hf y => ?_
  have e := (idx_all t).2.2.1.1
  obtain ⟨n, hn⟩ := t
  idx_vars y
  have he : (win0_6.blk ⟨n, hn⟩).view.emb (ix2 y0 y1) = (ix2 (row n (lt8 hn) y0) y1 : S4096x1024.Idx) := by
    blk_ext [e]
  blk_simp
  rw [after0_6, he]
  exact st_dh m c n hn y0 y1

theorem n_arr : (dats m 0 c).arrAt 7 cfg0.N = fun i : S4096x1024.Idx => NO m c (i 0) (i 1) := by
  refine (dats m 0 c).arrAt_eq_of_covers 7 _ (by decide +kernel) fun t hf y => ?_
  have e := (idx_all t).2.2.1.2.1
  obtain ⟨n, hn⟩ := t
  idx_vars y
  have he : (win0_7.blk ⟨n, hn⟩).view.emb (ix2 y0 y1) = (ix2 (row n (lt8 hn) y0) y1 : S4096x1024.Idx) := by
    blk_ext [e]
  blk_simp
  rw [after0_7, he]
  exact st_n m c n hn y0 y1

theorem dga_arr : (dats m 0 c).arrAt 8 cfg0.N = fun i : S4096x1024.Idx => DGA m c (i 0) (i 1) := by
  refine (dats m 0 c).arrAt_eq_of_covers 8 _ (by decide +kernel) fun t hf y => ?_
  have e := (idx_all t).2.2.1.2.2
  obtain ⟨n, hn⟩ := t
  idx_vars y
  have he : (win0_8.blk ⟨n, hn⟩).view.emb (ix2 y0 y1) = (ix2 (row n (lt8 hn) y0) y1 : S4096x1024.Idx) := by
    blk_ext [e]
  blk_simp
  rw [after0_8, he]
  exact st_dga m c n hn y0 y1

theorem dpp_arr : (dats m 0 c).arrAt 9 cfg0.N = fun i : S4096x1024.Idx => DPP m c (i 0) (i 1) := by
  refine (dats m 0 c).arrAt_eq_of_covers 9 _ (by decide +kernel) fun t hf y => ?_
  have e := (idx_all t).2.2.2.1
  obtain ⟨n, hn⟩ := t
  idx_vars y
  have he : (win0_9.blk ⟨n, hn⟩).view.emb (ix2 y0 y1) = (ix2 (row n (lt8 hn) y0) y1 : S4096x1024.Idx) := by
    blk_ext [e]
  blk_simp
  rw [after0_9, he]
  exact st_dpp m c n hn y0 y1

theorem dg_arr : (dats m 0 c).arrAt 10 cfg0.N = fun i : S1x1024.Idx => DG m c (i 1) := by
  refine (dats m 0 c).arrAt_eq_of_covers 10 _ (by decide +kernel) fun t hf y => ?_
  have h7 : t.val % 8 = 7 := (flush0_10 t).mp hf
  have e := (idx_all t).2.2.2.2
  obtain ⟨n, hn⟩ := t
  have hn7 : n = 7 := by have := lt8 hn; dsimp only at h7; omega
  idx_vars y
  have he : (win0_10.blk ⟨n, hn⟩).view.emb (ix2 y0 y1) = (ix2 y0 y1 : S1x1024.Idx) := by
    blk_ext [e]
  blk_simp
  rw [after0_10, he]
  exact st_dg m c n hn hn7 y0 y1

end Cert.GateIdeal.Sweep

end
-- ==== Proof.GateValue.lean ====
module

public import proofs.«01_k».proof.Defs
public import proofs.«01_k».proof.Proof.Gen.Pre_finite_gate
public import proofs.«01_k».proof.Proof.GateSweep
public import proofs.«01_k».proof.Proof.Gen.GateRefIdeal.Read
public import proofs.«01_k».proof.Proof.ActPre
public import Idealize.ShloMosaic.Lib.ReduceAll
public import Idealize.ShloMosaic.Lib.Quiescent

@[expose] public section

set_option maxRecDepth 16384
set_option maxHeartbeats 4000000

noncomputable section

namespace Cert.GateIdeal.Ref

open Cert.GateIdeal Cert.GateIdeal.Sweep Cert.ActMath Idealize.ShloMosaic Idealize.ShloMosaic.TcCoe Idealize.SL.Sem Idealize.ShloMosaic.StableHlo
open Cert.GateRefIdeal.Read
open Cert.ActIdeal.Pre (real_of_cmp and_one)

variable (m : (ℓ : Loc nD τ sig) → Buf (Elt Ideal) ℓ) (c : Dev nD)

/-! ## The precondition -/

instance : Subsingleton Cert.Pre_finite_gate.S_.Idx := ⟨fun a b => funext fun i => i.elim0⟩

/-- Six arrays of which the precondition holds are arrays of reals. -/
theorem real_of_fn (x0 : FVec Ideal Cert.Pre_finite_gate.S4096x1024 .f32) (x1 : FVec Ideal Cert.Pre_finite_gate.S1024 .f32) (x2 : FVec Ideal Cert.Pre_finite_gate.S1024x1024 .f32)
    (x3 : FVec Ideal Cert.Pre_finite_gate.S4096x256 .f32) (x4 : FVec Ideal Cert.Pre_finite_gate.S256x1024 .f32) (x5 : FVec Ideal Cert.Pre_finite_gate.S4096x1024 .f32)
    (h : ∀ j, Cert.Pre_finite_gate.fn (F := Ideal) x0 x1 x2 x3 x4 x5 j = 1#1) :
    (∀ i, IsReal (x0 i)) ∧ (∀ i, IsReal (x1 i)) ∧ (∀ i, IsReal (x2 i)) ∧ (∀ i, IsReal (x3 i)) ∧ (∀ i, IsReal (x4 i)) ∧ ∀ i, IsReal (x5 i) := by
  have h := h (fun a => a.elim0)
  dsimp only [Cert.Pre_finite_gate.fn, Cert.Pre_finite_gate.fn_part1] at h
  obtain ⟨h, h5⟩ := and_one h
  obtain ⟨h, h4⟩ := and_one h
  obtain ⟨h, h3⟩ := and_one h
  obtain ⟨h, h2⟩ := and_one h
  obtain ⟨h0, h1⟩ := and_one h
  exact ⟨fun i => real_of_cmp _ (Host.reduce_andi_all _ _ _ _ _ h0 i), fun i => real_of_cmp _ (Host.reduce_andi_all _ _ _ _ _ h1 i),
    fun i => real_of_cmp _ (Host.reduce_andi_all _ _ _ _ _ h2 i), fun i => real_of_cmp _ (Host.reduce_andi_all _ _ _ _ _ h3 i),
    fun i => real_of_cmp _ (Host.reduce_andi_all _ _ _ _ _ h4 i), fun i => real_of_cmp _ (Host.reduce_andi_all _ _ _ _ _ h5 i)⟩

/-- The six argument arrays hold reals. -/
structure Real (m : (ℓ : Loc nD τ sig) → Buf (Elt Ideal) ℓ) (c : Dev nD) : Prop where
  h : ∀ i, IsReal (H m c i)
  gn : ∀ i, IsReal (GN m c i)
  wg : ∀ i, IsReal (WG m c i)
  pe : ∀ i, IsReal (PE m c i)
  wp : ∀ i, IsReal (WP m c i)
  dO : ∀ i, IsReal (DO m c i)

theorem real_of_pre (m : (ℓ : Loc nD τ sig) → Buf (Elt Ideal) ℓ) (hp : Cert.Pre_GateIdeal_finite_gate m) (c : Dev nD) : Real m c := by
  obtain ⟨h0, h1, h2, h3, h4, h5⟩ := real_of_fn _ _ _ _ _ _ (fun j => congrFun (hp c) j)
  exact ⟨h0, h1, h2, h3, h4, h5⟩

/-! ## The reference's arrays at an index -/

theorem r_rs (t : Fin 4096) (a : Fin 1) : val_main_v8 (F := Ideal) (H m c) (ix2 t a) = rs (HR m c t) := by
  unfold val_main_v8 val_main_v7 val_main_v6 val_main_v5 val_main_v4 val_main_v3 val_main_v2 val_main_v1 val_main_cst_0 val_main_cst_1 val_main_cst_2 rs ms HR
  pointwise

theorem r_ms (t : Fin 4096) (a : Fin 1) : val_main_v7 (F := Ideal) (H m c) (ix2 t a) = ms (HR m c t) := by
  unfold val_main_v7 val_main_v6 val_main_v5 val_main_v4 val_main_v3 val_main_v2 val_main_v1 val_main_cst_0 val_main_cst_1 val_main_cst_2 ms HR
  pointwise

theorem r_h (t : Fin 4096) (d : Fin 1024) : val_main_v13 (F := Ideal) (H m c) (ix2 t d) = HR m c t d * rs (HR m c t) := by
  unfold val_main_v13 val_main_v12
  pointwise [r_rs]
  rfl

theorem r_n (t : Fin 4096) (d : Fin 1024) : val_main_v16 (F := Ideal) (H m c) (GN m c) (ix2 t d) = NO m c t d := by
  unfold val_main_v16 val_main_v15 val_main_v14 NO
  pointwise [r_h]
  rfl

theorem r_v18 (t : Fin 4096) (d : Fin 1024) : val_main_v18 (F := Ideal) (H m c) (GN m c) (WG m c) (ix2 t d) = ∑ x, NO m c t x * WG m c (ix2 x d) := by
  unfold val_main_v18 val_main_v17 val_main_v0 val_main_cst
  pointwise [r_n]

theorem r_sig (t : Fin 4096) (d : Fin 1024) : val_main_v24 (F := Ideal) (H m c) (GN m c) (WG m c) (ix2 t d) = SG m c t d := by
  unfold val_main_v24 val_main_v23 val_main_v22 val_main_v21 val_main_v20 val_main_v19 val_main_cst_4 val_main_cst_5 SG
  pointwise [r_v18]
  rfl

theorem r_dsig (t : Fin 4096) (d : Fin 1024) : val_main_v27 (F := Ideal) (H m c) (GN m c) (WG m c) (ix2 t d) = SG m c t d * (1 - SG m c t d) := by
  unfold val_main_v27 val_main_v26 val_main_v25 val_main_cst_6
  pointwise [r_sig]

theorem r_pp (t : Fin 4096) (d : Fin 1024) : val_main_v29 (F := Ideal) (PE m c) (WP m c) (ix2 t d) = PP m c t d := by
  unfold val_main_v29 val_main_v28 val_main_v0 val_main_cst PP
  pointwise

theorem r_dpp (t : Fin 4096) (d : Fin 1024) : val_main_v33 (F := Ideal) (H m c) (GN m c) (WG m c) (DO m c) (ix2 t d) = DPP m c t d := by
  unfold val_main_v33 val_main_v32 DPP
  pointwise [r_sig]
  exact mul_comm _ _

theorem r_dga (t : Fin 4096) (d : Fin 1024) :
    val_main_v35 (F := Ideal) (H m c) (GN m c) (WG m c) (PE m c) (WP m c) (DO m c) (ix2 t d) = DGA m c t d := by
  unfold val_main_v35 val_main_v34 val_main_v32 DGA
  pointwise [r_pp, r_dsig]
  exact (mul_assoc (G := EReal) _ _ _).symm

theorem r_dn (t : Fin 4096) (d : Fin 1024) :
    val_main_v36 (F := Ideal) (H m c) (GN m c) (WG m c) (PE m c) (WP m c) (DO m c) (ix2 t d) = DN m c t d := by
  unfold val_main_v36 DN
  pointwise [r_dga]

theorem r_y (t : Fin 4096) (d : Fin 1024) :
    val_main_v41 (F := Ideal) (H m c) (GN m c) (WG m c) (PE m c) (WP m c) (DO m c) (ix2 t d) = DN m c t d * GR m c d := by
  unfold val_main_v41 val_main_v40 val_main_v14
  pointwise [r_dn]
  rfl

theorem r_q (t : Fin 4096) (d : Fin 1024) :
    val_main_v53 (F := Ideal) (H m c) (GN m c) (WG m c) (PE m c) (WP m c) (DO m c) (ix2 t d)
      = Ideal.div ((∑ x, HR m c t x * (DN m c t x * GR m c x)) * (Ideal.ofBits .f32 0xBF000000#32 * Ideal.div (rs (HR m c t)) (ms (HR m c t)))) (Ideal.ofBits .f32 0x44800000#32) := by
  unfold val_main_v53 val_main_v52 val_main_cst_11 val_main_v51 val_main_v50 val_main_cst_10 val_main_v49 val_main_v45 val_main_v44 val_main_cst_9 val_main_v43
    val_main_v11 val_main_v10 val_main_cst_3 val_main_v9
  pointwise [r_y, r_rs, r_ms]
  exact (Fin.sum_univ_one _).trans rfl

theorem r_dg (a : Fin 1) (d : Fin 1024) :
    val_main_v61 (F := Ideal) (H m c) (GN m c) (WG m c) (PE m c) (WP m c) (DO m c) (ix2 a d) = DG m c d := by
  unfold val_main_v61 val_main_v42 val_main_cst_8 val_main_v39 val_main_v38 val_main_cst_7 val_main_v37 DG
  pointwise [r_h, r_dn]
  exact (Fin.sum_univ_one _).trans (Finset.sum_congr rfl fun t _ => mul_comm (G := EReal) _ _)

theorem isReal_sub {x y : EReal} : IsReal x → IsReal y → IsReal (x - y)
  | ⟨r, hr⟩, ⟨s, hs⟩ => ⟨r - s, by rw [hr, hs, EReal.coe_sub]⟩

section
variable {m c} (R : Real m c)
include R

theorem real_sg (t : Fin 4096) (d : Fin 1024) : IsReal (SG m c t d) :=
  (IsReal.sum _ fun x => (((R.h _).mul (IsReal.rs fun k => R.h _)).mul (R.gn _)).mul (R.wg _)).logistic
theorem real_dga (t : Fin 4096) (d : Fin 1024) : IsReal (DGA m c t d) :=
  (((R.dO _).mul (IsReal.sum _ fun x => (R.pe _).mul (R.wp _))).mul (real_sg R t d)).mul (isReal_sub (IsReal.coe 1) (real_sg R t d))
theorem real_dn (t : Fin 4096) (d : Fin 1024) : IsReal (DN m c t d) := IsReal.sum _ fun k => (real_dga R t k).mul (R.wg _)

theorem r_dh (t : Fin 4096) (d : Fin 1024) :
    val_main_v57 (F := Ideal) (H m c) (GN m c) (WG m c) (PE m c) (WP m c) (DO m c) (ix2 t d) = DH m c t d := by
  unfold val_main_v57 val_main_v56 val_main_v55 val_main_v54 val_main_v48 val_main_v47 val_main_v46 DH
  pointwise [r_q, r_y, r_rs]
  exact (rms_deriv (HR m c t) (fun x => DN m c t x * GR m c x) (DO m c (ix2 t d)) (fun x => R.h _)
    (fun x => (real_dn R t x).mul (R.gn _)) (R.dO _) d).symm

theorem dh_eq : (Gen.dats m 0 c).arrAt 6 cfg0.N = val_main_v57 (F := Ideal) (H m c) (GN m c) (WG m c) (PE m c) (WP m c) (DO m c) := by
  rw [dh_arr]
  funext i
  idx_vars i
  exact (r_dh R i0 i1).symm

end

/-! ## The call's other results are the reference's -/

theorem n_eq : (Gen.dats m 0 c).arrAt 7 cfg0.N = val_main_v58 (F := Ideal) (H m c) (GN m c) := by
  rw [n_arr]
  funext i
  idx_vars i
  refine Eq.trans (r_n m c i0 i1).symm ?_
  unfold val_main_v58
  pointwise

theorem dga_eq : (Gen.dats m 0 c).arrAt 8 cfg0.N = val_main_v59 (F := Ideal) (H m c) (GN m c) (WG m c) (PE m c) (WP m c) (DO m c) := by
  rw [dga_arr]
  funext i
  idx_vars i
  refine Eq.trans (r_dga m c i0 i1).symm ?_
  unfold val_main_v59
  pointwise

theorem dpp_eq : (Gen.dats m 0 c).arrAt 9 cfg0.N = val_main_v60 (F := Ideal) (H m c) (GN m c) (WG m c) (DO m c) := by
  rw [dpp_arr]
  funext i
  idx_vars i
  refine Eq.trans (r_dpp m c i0 i1).symm ?_
  unfold val_main_v60
  pointwise

theorem dg_eq : (Gen.dats m 0 c).arrAt 10 cfg0.N = val_main_v61 (F := Ideal) (H m c) (GN m c) (WG m c) (PE m c) (WP m c) (DO m c) := by
  rw [dg_arr]
  funext i
  idx_vars i
  exact (r_dg m c i0 i1).symm

end Cert.GateIdeal.Ref

namespace Cert.GateValue

open Cert.GateIdeal.Ref Idealize.ShloMosaic Idealize.ShloMosaic.TcCoe Idealize.SL.Sem

/-- The gradients the kernel leaves are the reference's, from any memory whose argument arrays are finite. -/
theorem algebraic : Cert.algebraic_GateIdeal_GateRefIdeal_pre_finite_gate := by
  intro m g m' g' hp hargs
  refine ⟨_, _, _, _, _, (θ_run Cert.GateIdeal.defs _ _).mono
      (fun r h c => ⟨(h c).1.trans (dh_eq (real_of_pre m hp c)), (h c).2.1.trans (n_eq m c), (h c).2.2.1.trans (dga_eq m c), (h c).2.2.2.1.trans (dpp_eq m c),
        (h c).2.2.2.2.1.trans (dg_eq m c), (h c).2.2.2.2.2⟩) (Cert.GateIdeal.Value.run_blocks m g),
    (θ_run Cert.GateRefIdeal.defs _ _).mono (fun r h c => ?_) (Cert.GateRefIdeal.Value.run m' g')⟩
  obtain ⟨h57, h58, h59, h60, h61, hk⟩ := h c
  obtain ⟨a0, a1, a2, a3, a4, a5⟩ := hargs c
  refine ⟨?_, ?_, ?_, ?_, ?_, hk⟩
  · rw [h57, Cert.GateRefIdeal.Read.val_main_v57_eq, a0, a1, a2, a3, a4, a5]
    rfl
  · rw [h58, Cert.GateRefIdeal.Read.val_main_v58_eq, a0, a1]
    rfl
  · rw [h59, Cert.GateRefIdeal.Read.val_main_v59_eq, a0, a1, a2, a3, a4, a5]
    rfl
  · rw [h60, Cert.GateRefIdeal.Read.val_main_v60_eq, a0, a1, a2, a5]
    rfl
  · rw [h61, Cert.GateRefIdeal.Read.val_main_v61_eq, a0, a1, a2, a3, a4, a5]
    rfl

/-- The reference leaves its arguments and has no semaphore. -/
theorem frame_ref : Cert.quiescent_GateRefIdeal := fun m g _ =>
  (θ_run Cert.GateRefIdeal.defs _ _).mono (fun r h => ⟨fun c => (h c).2.2.2.2.2, sem_eq_zero_of_no_sems (by decide) r.2⟩)
    (Cert.GateRefIdeal.Value.run m g)

end Cert.GateValue

end
-- ==== Proof.EmbValue.lean ====
module

public import proofs.«01_k».proof.Defs
public import proofs.«01_k».proof.Proof.ActMath
public import proofs.«01_k».proof.Proof.Gen.EmbIdeal.Value
public import proofs.«01_k».proof.Proof.Gen.EmbRefIdeal.Read
public import Idealize.ShloMosaic.Lib.StableHlo.RunRead
public import Idealize.ShloMosaic.Lib.Pointwise
public import Idealize.ShloMosaic.Lib.Pipeline.ValueKit
public import Idealize.ShloMosaic.Lib.WritesUnit
public import Idealize.ShloMosaic.Lib.Quiescent

@[expose] public section

set_option maxRecDepth 16384
set_option maxHeartbeats 4000000

noncomputable section

namespace Cert.EmbIdeal.Sweep

open Cert.EmbIdeal Cert.EmbIdeal.Gen Idealize.ShloMosaic Idealize.ShloMosaic.TcCoe Idealize.SL.Sem Idealize.ShloMosaic.StableHlo Cert.ActMath

variable (m : (ℓ : Loc nD τ sig) → Buf (Elt Ideal) ℓ) (c : Dev nD)

/-- The tokens, the gain, the gate's weight, the embeddings and their weight. -/
def H : FVec Ideal S4096x1024 .f32 := m (c.tc.loc main_arg0)
@[inherit_doc H] def GN : FVec Ideal S1024 .f32 := m (c.tc.loc main_arg1)
@[inherit_doc H] def WG : FVec Ideal S1024x1024 .f32 := m (c.tc.loc main_arg2)
@[inherit_doc H] def PE : FVec Ideal S4096x256 .f32 := m (c.tc.loc main_arg3)
@[inherit_doc H] def WP : FVec Ideal S256x1024 .f32 := m (c.tc.loc main_arg4)
/-- A token's row. -/
def HR (t : Fin 4096) (d : Fin 1024) : EReal := H m c (ix2 t d)

theorem V_gain : V m c main_v0 = (shapeCast S1x1024 (GN m c) shapeCasts_S1024_S1x1024 : FVec Ideal S1x1024 .f32) := by
  unfold V
  after_reads_simp
  rfl

theorem V_wg : V m c main_v1 = (truncf .bf16 (WG m c) bitsLt_bf16_f32 : FVec Ideal S1024x1024 .bf16) := by
  unfold V
  after_reads_simp
  rfl

theorem V_wp : V m c main_v2 = (truncf .bf16 (WP m c) bitsLt_bf16_f32 : FVec Ideal S256x1024 .bf16) := by
  unfold V
  after_reads_simp
  rfl

theorem idx_all : ∀ t : Fin grid0.N, (win0_0.index t = ![t.val, 0] ∧ win0_1.index t = ![0, 0] ∧ win0_2.index t = ![0, 0])
    ∧ win0_3.index t = ![t.val, 0] ∧ win0_4.index t = ![0, 0] ∧ win0_5.index t = ![t.val, 0] := by
  decide +kernel

theorem lt8 {n : ℕ} (h : n < cfg0.N) : n < 8 := lt_of_lt_of_eq h N_0

/-- Row `r` of point `n`'s row block. -/
abbrev row (n : ℕ) (h : n < 8) (r : Fin 512) : Fin 4096 := ⟨n * 512 + r.val, by omega⟩

theorem iblk_h (n : ℕ) (h : n < cfg0.N) (r : Fin 512) (d : Fin 1024) :
    iblk m c 0 ⟨n, h⟩ (ix2 r d) = HR m c (row n (lt8 h) r) d := by
  have e := (idx_all ⟨n, h⟩).1.1
  have he : (win0_0.blk ⟨n, h⟩).view.emb (ix2 r d) = (ix2 (row n (lt8 h) r) d : S4096x1024.Idx) := by
    blk_ext [e]
  blk_simp [iblk]
  rw [V_main_arg0, he]
  rfl

theorem iblk_g (n : ℕ) (h : n < cfg0.N) (a : Fin 1) (d : Fin 1024) : iblk m c 1 ⟨n, h⟩ (ix2 a d) = GN m c (ix1 d) := by
  have e := (idx_all ⟨n, h⟩).1.2.1
  have he : (win0_1.blk ⟨n, h⟩).view.emb (ix2 a d) = (ix2 a d : S1x1024.Idx) := by
    blk_ext [e]
  blk_simp [iblk]
  rw [V_gain, he]
  pointwise

theorem iblk_wg (n : ℕ) (h : n < cfg0.N) (x d : Fin 1024) : iblk m c 2 ⟨n, h⟩ (ix2 x d) = WG m c (ix2 x d) := by
  have e := (idx_all ⟨n, h⟩).1.2.2
  have he : (win0_2.blk ⟨n, h⟩).view.emb (ix2 x d) = (ix2 x d : S1024x1024.Idx) := by
    blk_ext [e]
  blk_simp [iblk]
  rw [V_wg, he]
  pointwise

theorem iblk_p (n : ℕ) (h : n < cfg0.N) (r : Fin 512) (x : Fin 256) :
    iblk m c 3 ⟨n, h⟩ (ix2 r x) = PE m c (ix2 (row n (lt8 h) r) x) := by
  have e := (idx_all ⟨n, h⟩).2.1
  have he : (win0_3.blk ⟨n, h⟩).view.emb (ix2 r x) = (ix2 (row n (lt8 h) r) x : S4096x256.Idx) := by
    blk_ext [e]
  blk_simp [iblk]
  rw [V_main_arg3, he]
  rfl

theorem iblk_wp (n : ℕ) (h : n < cfg0.N) (x : Fin 256) (d : Fin 1024) : iblk m c 4 ⟨n, h⟩ (ix2 x d) = WP m c (ix2 x d) := by
  have e := (idx_all ⟨n, h⟩).2.2.1
  have he : (win0_4.blk ⟨n, h⟩).view.emb (ix2 x d) = (ix2 x d : S256x1024.Idx) := by
    blk_ext [e]
  blk_simp [iblk]
  rw [V_wp, he]
  pointwise

theorem hz2 : (![0, 0] : Fin 2 → Nat) = fun _ => 0 := by funext a; fin_cases a <;> rfl

/-- The token with its gated embedding added. -/
def OUT (t : Fin 4096) (d : Fin 1024) : EReal :=
  HR m c t d + Ideal.logistic (∑ x, HR m c t x * rs (HR m c t) * GN m c (ix1 x) * WG m c (ix2 x d)) * ∑ x, PE m c (ix2 t x) * WP m c (ix2 x d)

theorem pay_apply (x0 : Vec Ideal S512x1024 .f32) (x1 : Vec Ideal S1x1024 .f32) (x2 : Vec Ideal S1024x1024 .bf16) (x3 : Vec Ideal S512x256 .f32)
    (x4 : Vec Ideal S256x1024 .bf16) (r : Fin 512) (d : Fin 1024) :
    k0_pay1 x0 x1 x2 x3 x4 (ix2 r d) = x0 (ix2 r d)
      + Ideal.logistic (∑ x, x0 (ix2 r x) * rs (fun k => x0 (ix2 r k)) * x1 (ix2 0 x) * x2 (ix2 x d)) * ∑ x, x3 (ix2 r x) * x4 (ix2 x d) := by
  unfold rs ms
  unfold_payloads
  pointwise

/-- The block a point leaves. -/
theorem out_eq (n : ℕ) (h : n < cfg0.N) (r : Fin 512) (d : Fin 1024) :
    out0_5 (iblk m c 0 ⟨n, h⟩) (iblk m c 1 ⟨n, h⟩) (iblk m c 2 ⟨n, h⟩) (iblk m c 3 ⟨n, h⟩) (iblk m c 4 ⟨n, h⟩) (ix2 r d) = OUT m c (row n (lt8 h) r) d := by
  unfold out0_5
  rw [View.canon_cons_unit_zero hz2, View.ld_unit_zero (S := S512x1024) hz2, View.ld_unit_zero (S := S1x1024) hz2, View.ld_unit_zero (S := S1024x1024) hz2,
    View.ld_unit_zero (S := S512x256) hz2, View.ld_unit_zero (S := S256x1024) hz2]
  refine (pay_apply _ _ _ _ _ r d).trans ?_
  unfold OUT
  simp only [iblk_h, iblk_g, iblk_wg, iblk_p, iblk_wp]

/-- Which point wrote which row. -/
theorem out_arr : (dats m 0 c).arrAt 5 cfg0.N = fun i : S4096x1024.Idx => OUT m c (i 0) (i 1) := by
  refine (dats m 0 c).arrAt_eq_of_covers 5 _ (by decide +kernel) fun t hf y => ?_
  have e := (idx_all t).2.2.2
  obtain ⟨n, hn⟩ := t
  idx_vars y
  have he : (win0_5.blk ⟨n, hn⟩).view.emb (ix2 y0 y1) = (ix2 (row n (lt8 hn) y0) y1 : S4096x1024.Idx) := by
    blk_ext [e]
  blk_simp
  rw [after0_5, he]
  exact out_eq m c n hn y0 y1

/-! ## The reference's arrays at an index -/

open Cert.EmbRefIdeal.Read

theorem r_rs (t : Fin 4096) (a : Fin 1) : val_main_v7 (F := Ideal) (H m c) (ix2 t a) = rs (HR m c t) := by
  unfold val_main_v7 val_main_v6 val_main_v5 val_main_v4 val_main_v3 val_main_v2 val_main_v1 val_main_v0 val_main_cst val_main_cst_0 val_main_cst_1 rs ms HR
  pointwise

theorem r_n (t : Fin 4096) (d : Fin 1024) : val_main_v12 (F := Ideal) (H m c) (GN m c) (ix2 t d) = HR m c t d * rs (HR m c t) * GN m c (ix1 d) := by
  unfold val_main_v12 val_main_v11 val_main_v10 val_main_v9 val_main_v8
  pointwise [r_rs]
  rfl

theorem r_sig (t : Fin 4096) (d : Fin 1024) : val_main_v19 (F := Ideal) (H m c) (GN m c) (WG m c) (ix2 t d)
    = Ideal.logistic (∑ x, HR m c t x * rs (HR m c t) * GN m c (ix1 x) * WG m c (ix2 x d)) := by
  unfold val_main_v19 val_main_v18 val_main_v17 val_main_v16 val_main_v15 val_main_v14 val_main_v13 val_main_cst_2 val_main_cst_3
  pointwise [r_n]
  rfl

theorem r_out (t : Fin 4096) (d : Fin 1024) :
    val_main_v22 (F := Ideal) (H m c) (GN m c) (WG m c) (PE m c) (WP m c) (ix2 t d) = OUT m c t d := by
  unfold val_main_v22 val_main_v21 val_main_v20 OUT
  pointwise [r_sig]
  rfl

theorem arr_eq : (dats m 0 c).arrAt 5 cfg0.N = val_main_v22 (F := Ideal) (H m c) (GN m c) (WG m c) (PE m c) (WP m c) := by
  rw [out_arr]
  funext i
  idx_vars i
  exact (r_out m c i0 i1).symm

end Cert.EmbIdeal.Sweep

namespace Cert.EmbValue

open Cert.EmbIdeal.Sweep Idealize.ShloMosaic Idealize.ShloMosaic.TcCoe Idealize.SL.Sem

/-- The array the call leaves is the reference's, from any memory. -/
theorem algebraic : Cert.algebraic_EmbIdeal_EmbRefIdeal := by
  intro m g m' g' _ hargs
  refine ⟨_, (θ_run Cert.EmbIdeal.defs _ _).mono (fun r h c => ⟨(h c).1.trans (arr_eq m c), (h c).2⟩) (Cert.EmbIdeal.Value.run_blocks m g),
    (θ_run Cert.EmbRefIdeal.defs _ _).mono (fun r h c => ?_) (Cert.EmbRefIdeal.Value.run m' g')⟩
  obtain ⟨h22, hk⟩ := h c
  obtain ⟨a0, a1, a2, a3, a4⟩ := hargs c
  refine ⟨?_, hk⟩
  rw [h22, Cert.EmbRefIdeal.Read.val_main_v22_eq, a0, a1, a2, a3, a4]
  rfl

/-- The reference leaves its arguments and has no semaphore. -/
theorem frame_ref : Cert.quiescent_EmbRefIdeal := fun m g _ =>
  (θ_run Cert.EmbRefIdeal.defs _ _).mono (fun r h => ⟨fun c => (h c).2, sem_eq_zero_of_no_sems (by decide) r.2⟩)
    (Cert.EmbRefIdeal.Value.run m g)

end Cert.EmbValue

end
-- ==== Proof.DwiValue.lean ====
module

public import proofs.«01_k».proof.Defs
public import proofs.«01_k».proof.Proof.Gen.DwiIdeal.Value
public import proofs.«01_k».proof.Proof.Gen.DwiRefIdeal.Read
public import Idealize.ShloMosaic.Lib.StableHlo.RunRead
public import Idealize.ShloMosaic.Lib.Pointwise
public import Idealize.ShloMosaic.Lib.Pipeline.ValueKit
public import Idealize.ShloMosaic.Lib.WritesUnit
public import Idealize.ShloMosaic.Lib.VecWindow
public import Idealize.ShloMosaic.Lib.Quiescent

@[expose] public section

set_option maxRecDepth 16384
set_option maxHeartbeats 4000000

noncomputable section

namespace Cert.DwiIdeal.Sweep

open Cert.DwiIdeal Cert.DwiIdeal.Gen Cert.DwiIdeal.Value Idealize.ShloMosaic Idealize.ShloMosaic.TcCoe Idealize.SL.Sem Idealize.ShloMosaic.StableHlo

/-! ## What one point does to the accumulator -/

theorem hz2 : (![0, 0] : Fin 2 → Nat) = fun _ => 0 := by funext a; fin_cases a <;> rfl

theorem zero_eq : (k0_pay1 (F := Ideal)) = fun _ => 0 := by
  funext y
  idx_vars y
  unfold_payloads
  pointwise

/-- A load of the accumulator after it was set to zero reads zero. -/
theorem cov_zero (v : View sig .tc .vmem S1024x640 .f32) (B : LoadRect S1024x640) :
    v.readCov (Val := Elt Ideal) [⟨Rect.unit ![0, 0] ![1024, 640] inb_S1024x640_S1024x640_0_0, k0_pay1 (F := Ideal)⟩] B = fun _ => (0 : EReal) := by
  rw [View.readCov_eq_canon', View.canon_cons_unit_zero hz2, zero_eq]

/-- A load of the accumulator after the addition reads the sum. -/
theorem cov_all (v : View sig .tc .vmem S1024x640 .f32) (p : Vec Ideal S1024x640 .f32) :
    v.readCov (Val := Elt Ideal) [⟨Rect.unit ![0, 0] ![1024, 640] inb_S1024x640_S1024x640_0_0, p⟩] (Rect.unit ![0, 0] ![1024, 640] inb_S1024x640_S1024x640_0_0).toLoadRect = p :=
  View.readCov_full v _ _ p []

theorem pay_apply (acc : Vec Ideal S1024x640 .f32) (x0 : Vec Ideal S1024x1024 .bf16) (x1 : Vec Ideal S1024x640 .bf16) (r : Fin 1024) (j : Fin 640) :
    k0_pay2 acc x0 x1 (ix2 r j) = acc (ix2 r j) + ∑ k, x0 (ix2 k r) * x1 (ix2 k j) := by
  unfold_payloads
  pointwise

section
variable (c : Dev nD) (i : grid0.Coords) (arg3 : Memref sig .tc .vmem S1024x1024 .bf16) (harg3 : arg3.IsWhole) (arg4 : Memref sig .tc .vmem S1024x640 .bf16) (harg4 : arg4.IsWhole)
  (arg5 : Memref sig .tc .vmem S1024x640 .f32) (harg5 : arg5.IsWhole) (arg6 : Memref sig .tc .vmem S1024x640 .f32) (harg6 : arg6.IsWhole)
  (x0 : Vec Ideal S1024x1024 .bf16) (x1 : Vec Ideal S1024x640 .bf16) (xs : Vec Ideal S1024x640 .f32)

/-- The first block of tokens: the accumulator starts from zero. -/
theorem acc_A (hc0 : cond0_0 i) (hc1 : ¬cond0_1 i) : sout0_A_0 c i arg3 harg3 arg4 harg4 arg5 harg5 arg6 harg6 hc0 hc1 x0 x1 = k0_pay2 (fun _ => 0) x0 x1 := by
  unfold sout0_A_0 kernelRun0_A
  dsimp only
  sl_unfold_words
  simp only [View.readAt_eq_ld, harg3.read_unread, harg4.read_unread, harg6.read_unread]
  rw [View.read_writes_junk_eq_canon, View.canon_cons_unit_zero hz2]
  simp only [View.ld_unit_zero (S := S1024x640) hz2, View.ld_unit_zero (S := S1024x1024) hz2, cov_zero]
  try rfl

/-- A later block adds its product. -/
theorem acc_B (hc0 : ¬cond0_0 i) (hc1 : ¬cond0_1 i) : sout0_B_0 c i arg3 harg3 arg4 harg4 arg5 harg5 arg6 harg6 hc0 hc1 x0 x1 xs = k0_pay2 xs x0 x1 := by
  unfold sout0_B_0 kernelRun0_B
  dsimp only
  sl_unfold_words
  simp only [View.readAt_eq_ld, harg3.read_unread, harg4.read_unread, harg6.read_unread]
  rw [View.read_writes_junk_eq_canon, View.canon_cons_unit_zero hz2]
  simp only [View.ld_unit_zero (S := S1024x640) hz2, View.ld_unit_zero (S := S1024x1024) hz2]

/-- So does the last one, -/
theorem acc_C (hc0 : ¬cond0_0 i) (hc1 : cond0_1 i) : sout0_C_0 c i arg3 harg3 arg4 harg4 arg5 harg5 arg6 harg6 hc0 hc1 x0 x1 xs = k0_pay2 xs x0 x1 := by
  unfold sout0_C_0 kernelRun0_C
  dsimp only
  sl_unfold_words
  simp only [View.readAt_eq_ld, harg3.read_unread, harg4.read_unread, harg6.read_unread]
  rw [View.read_writes_junk_eq_canon, View.canon_cons_unit_zero hz2]
  simp only [View.ld_unit_zero (S := S1024x640) hz2, View.ld_unit_zero (S := S1024x1024) hz2]

/-- which also stores the sum. -/
theorem out_C (hc0 : ¬cond0_0 i) (hc1 : cond0_1 i) : out0_C_2 c i arg3 harg3 arg4 harg4 arg5 harg5 arg6 harg6 hc0 hc1 x0 x1 xs = k0_pay2 xs x0 x1 := by
  unfold out0_C_2 kernelRun0_C
  dsimp only
  sl_unfold_words
  simp only [View.readAt_eq_ld, harg3.read_unread, harg4.read_unread, harg6.read_unread]
  rw [View.read_writes_junk_eq_canon, View.canon_cons_unit_zero hz2]
  simp only [View.ld_unit_zero (S := S1024x640) hz2, View.ld_unit_zero (S := S1024x1024) hz2]
  exact cov_all _ _

end

variable (m : (ℓ : Loc nD τ sig) → Buf (Elt Ideal) ℓ) (c : Dev nD)

/-! ## The two factors and their blocks -/

/-- The normalised tokens. -/
def A : FVec Ideal S4096x1024 .f32 := Cert.DwiRefIdeal.Read.val_main_v13 (F := Ideal) (m (c.tc.loc main_arg0)) (m (c.tc.loc main_arg1))
/-- The product's gradient. -/
def B : FVec Ideal S4096x2560 .f32 := m (c.tc.loc main_arg2)

theorem V_a : V m c main_v13 = (truncf .bf16 (A m c) bitsLt_bf16_f32 : FVec Ideal S4096x1024 .bf16) := by
  unfold V
  after_reads_simp
  rfl

theorem V_b : V m c main_v14 = (truncf .bf16 (B m c) bitsLt_bf16_f32 : FVec Ideal S4096x2560 .bf16) := by
  unfold V
  after_reads_simp
  rfl

theorem idx_all : ∀ t : Fin grid0.N, win0_0.index t = ![t.val % 4, 0] ∧ win0_1.index t = ![t.val % 4, t.val / 4] ∧ win0_2.index t = ![0, t.val / 4] := by
  decide +kernel

theorem lt_n {n : ℕ} (h : n < cfg0.N) : n < 16 := lt_of_lt_of_eq h N_0

/-- Row `k` of the row block `n % 4`. -/
abbrev row (n : ℕ) (k : Fin 1024) : Fin 4096 := ⟨n % 4 * 1024 + k.val, by omega⟩
/-- Column `j` of the column block `n / 4`. -/
abbrev col (n : ℕ) (h : n < 16) (j : Fin 640) : Fin 2560 := ⟨n / 4 * 640 + j.val, by omega⟩

theorem iblk_a (n : ℕ) (h : n < cfg0.N) (k r : Fin 1024) : iblk m c 0 ⟨n, h⟩ (ix2 k r) = A m c (ix2 (row n k) r) := by
  have e := (idx_all ⟨n, h⟩).1
  have he : (win0_0.blk ⟨n, h⟩).view.emb (ix2 k r) = (ix2 (row n k) r : S4096x1024.Idx) := by
    blk_ext [e]
  blk_simp [iblk]
  rw [V_a, he]
  rfl

theorem iblk_b (n : ℕ) (h : n < cfg0.N) (k : Fin 1024) (j : Fin 640) : iblk m c 1 ⟨n, h⟩ (ix2 k j) = B m c (ix2 (row n k) (col n (lt_n h) j)) := by
  have e := (idx_all ⟨n, h⟩).2.1
  have hn := lt_n h
  have he : (win0_1.blk ⟨n, h⟩).view.emb (ix2 k j) = (ix2 (row n k) (col n (lt_n h) j) : S4096x2560.Idx) := by
    blk_ext [e]
  blk_simp [iblk]
  rw [V_b, he]
  rfl

/-! ## The accumulator over the grid -/

/-- The product of point `n`'s blocks. -/
def part (n : ℕ) (i : S1024x640.Idx) : EReal :=
  if h : n < 16 then ∑ k : Fin 1024, A m c (ix2 (row n k) (i 0)) * B m c (ix2 (row n k) (col n h (i 1))) else 0

theorem pay_iblk (n : ℕ) (h : n < cfg0.N) (acc : Vec Ideal S1024x640 .f32) (i : S1024x640.Idx) :
    k0_pay2 acc (iblk m c 0 ⟨n, h⟩) (iblk m c 1 ⟨n, h⟩) i = acc i + part m c n i := by
  idx_vars i
  refine (pay_apply acc _ _ i0 i1).trans ?_
  unfold part
  rw [dif_pos (lt_n h)]
  simp only [iblk_a, iblk_b]
  rfl

/-- What the accumulator holds after a point: the products of the row blocks so far. -/
theorem scr_apply (t : Fin cfg0.N) (i : S1024x640.Idx) :
    (outsAt0 m c t.val t.isLt).2 i = ∑ s ∈ Finset.range (t.val % 4 + 1), part m c (4 * (t.val / 4) + s) i := by
  rw [soutsAt0_0_eq, Pipeline.accAt_add_apply _ _ (fun _ => (0 : EReal)) (part m c) _ 3
    (fun h i => ?_) (fun n h acc i h1 h2 => ?_) (t.val % 4) (by omega), zero_add]
  · have h0 : 4 * (t.val / 4) % 4 = 0 := by omega
    have h3 : ¬4 * (t.val / 4) % 4 = 3 := by omega
    unfold scAt0_0
    rw [dif_pos h0, dif_neg h3, acc_A]
    exact pay_iblk m c _ h _ i
  · have h0 : ¬n % 4 = 0 := by omega
    unfold scAt0_0
    rw [dif_neg h0]
    by_cases h3 : n % 4 = 3
    · rw [dif_pos h3, acc_C]
      exact pay_iblk m c _ h _ i
    · rw [dif_neg h3, acc_B]
      exact pay_iblk m c _ h _ i

/-- A sum over the rows, one block of 1024 after another. -/
theorem sum_blocks (f : Fin 4096 → EReal) :
    ∑ s ∈ Finset.range 4, (if h : s < 4 then ∑ k : Fin 1024, f ⟨s * 1024 + k.val, by omega⟩ else 0) = ∑ t, f t := by
  rw [← Fin.sum_univ_eq_sum_range (fun s => if h : s < 4 then ∑ k : Fin 1024, f ⟨s * 1024 + k.val, by omega⟩ else 0) 4,
    ← (finProdFinEquiv (m := 4) (n := 1024)).sum_comp f, Fintype.sum_prod_type]
  refine Finset.sum_congr rfl fun s _ => ?_
  rw [dif_pos s.isLt]
  refine Finset.sum_congr rfl fun k _ => congrArg f (Fin.ext ?_)
  show s.val * 1024 + k.val = k.val + 1024 * s.val
  omega

/-- What a point with the last row block writes: the whole product at its columns. -/
theorem out_apply (n : ℕ) (h : n < cfg0.N) (h3 : n % 4 = 3) (r : Fin 1024) (j : Fin 640) :
    (outsAt0 m c n h).1 (ix2 r j) = ∑ t, A m c (ix2 t r) * B m c (ix2 t (col n (lt_n h) j)) := by
  have h0 : ¬n % 4 = 0 := by omega
  have hn := lt_n h
  have es : (outsAt0 m c n h).1 = (outsAt0 m c n h).2 := by
    have e := outsAt0_C m c ⟨n, h⟩ h0 h3
    rw [out_C, acc_C] at e
    rw [e]
  rw [es, scr_apply m c ⟨n, h⟩, ← sum_blocks]
  show ∑ s ∈ Finset.range (n % 4 + 1), part m c (4 * (n / 4) + s) (ix2 r j) = _
  rw [h3]
  refine Finset.sum_congr rfl fun s hs => ?_
  have hs4 : s < 4 := Finset.mem_range.mp hs
  unfold part
  rw [dif_pos (by omega : 4 * (n / 4) + s < 16), dif_pos hs4]
  refine Finset.sum_congr rfl fun k _ => ?_
  have er : row (4 * (n / 4) + s) k = ⟨s * 1024 + k.val, by omega⟩ := by
    apply Fin.ext
    show (4 * (n / 4) + s) % 4 * 1024 + k.val = s * 1024 + k.val
    omega
  have ec : col (4 * (n / 4) + s) (by omega) j = col n hn j := by
    apply Fin.ext
    show (4 * (n / 4) + s) / 4 * 640 + j.val = n / 4 * 640 + j.val
    omega
  rw [er]
  show _ * B m c (ix2 _ (col (4 * (n / 4) + s) _ j)) = _
  rw [ec]
  rfl

/-- The array after the run is the product over all the rows. -/
theorem out_arr : (dats m 0 c).arrAt 2 cfg0.N = fun i : S1024x2560.Idx => ∑ t, A m c (ix2 t (i 0)) * B m c (ix2 t (i 1)) := by
  refine (dats m 0 c).arrAt_eq_of_covers 2 _ (by decide +kernel) fun t hf y => ?_
  have e := (idx_all t).2.2
  have h3 : t.val % 4 = 3 := (flush0_2 t).mp hf
  obtain ⟨n, hn⟩ := t
  have hlt := lt_n hn
  idx_vars y
  have he : (win0_2.blk ⟨n, hn⟩).view.emb (ix2 y0 y1) = (ix2 y0 (col n (lt_n hn) y1) : S1024x2560.Idx) := by
    blk_ext [e]
  blk_simp
  rw [after0_2, he]
  exact out_apply m c n hn h3 y0 y1

/-! ## The reference's product -/

open Cert.DwiRefIdeal.Read

theorem r_out (r : Fin 1024) (j : Fin 2560) :
    val_main_v16 (F := Ideal) (m (c.tc.loc main_arg0)) (m (c.tc.loc main_arg1)) (m (c.tc.loc main_arg2)) (ix2 r j) = ∑ t, A m c (ix2 t r) * B m c (ix2 t j) := by
  unfold val_main_v16 val_main_v15
  pointwise
  exact Finset.sum_congr rfl fun t _ => mul_comm _ _

theorem arr_eq : (dats m 0 c).arrAt 2 cfg0.N = val_main_v16 (F := Ideal) (m (c.tc.loc main_arg0)) (m (c.tc.loc main_arg1)) (m (c.tc.loc main_arg2)) := by
  rw [out_arr]
  funext i
  idx_vars i
  exact (r_out m c i0 i1).symm

end Cert.DwiIdeal.Sweep

namespace Cert.DwiValue

open Cert.DwiIdeal.Sweep Idealize.ShloMosaic Idealize.ShloMosaic.TcCoe Idealize.SL.Sem

/-- The weight's gradient the call leaves is the reference's, from any memory. -/
theorem algebraic : Cert.algebraic_DwiIdeal_DwiRefIdeal := by
  intro m g m' g' _ hargs
  refine ⟨_, (θ_run Cert.DwiIdeal.defs _ _).mono (fun r h c => ⟨(h c).1.trans (arr_eq m c), (h c).2⟩) (Cert.DwiIdeal.Value.run_blocks m g),
    (θ_run Cert.DwiRefIdeal.defs _ _).mono (fun r h c => ?_) (Cert.DwiRefIdeal.Value.run m' g')⟩
  obtain ⟨hv, hk⟩ := h c
  obtain ⟨a0, a1, a2⟩ := hargs c
  refine ⟨?_, hk⟩
  rw [hv, Cert.DwiRefIdeal.Read.val_main_v16_eq, a0, a1, a2]

/-- The reference leaves its arguments and has no semaphore. -/
theorem frame_ref : Cert.quiescent_DwiRefIdeal := fun m g _ =>
  (θ_run Cert.DwiRefIdeal.defs _ _).mono (fun r h => ⟨fun c => (h c).2, sem_eq_zero_of_no_sems (by decide) r.2⟩)
    (Cert.DwiRefIdeal.Value.run m g)

end Cert.DwiValue

end
-- ==== Proof.DwoValue.lean ====
module

public import proofs.«01_k».proof.Defs
public import proofs.«01_k».proof.Proof.Gen.DwoIdeal.Value
public import proofs.«01_k».proof.Proof.Gen.DwoRefIdeal.Read
public import Idealize.ShloMosaic.Lib.StableHlo.RunRead
public import Idealize.ShloMosaic.Lib.Pointwise
public import Idealize.ShloMosaic.Lib.Pipeline.ValueKit
public import Idealize.ShloMosaic.Lib.WritesUnit
public import Idealize.ShloMosaic.Lib.VecWindow
public import Idealize.ShloMosaic.Lib.Quiescent

@[expose] public section

set_option maxRecDepth 16384
set_option maxHeartbeats 4000000

noncomputable section

namespace Cert.DwoIdeal.Sweep

open Cert.DwoIdeal Cert.DwoIdeal.Gen Cert.DwoIdeal.Value Idealize.ShloMosaic Idealize.ShloMosaic.TcCoe Idealize.SL.Sem Idealize.ShloMosaic.StableHlo

/-! ## What one point does to the accumulator -/

theorem hz2 : (![0, 0] : Fin 2 → Nat) = fun _ => 0 := by funext a; fin_cases a <;> rfl

theorem zero_eq : (k0_pay1 (F := Ideal)) = fun _ => 0 := by
  funext y
  idx_vars y
  unfold_payloads
  pointwise

/-- A load of the accumulator after it was set to zero reads zero. -/
theorem cov_zero (v : View sig .tc .vmem S1024x512 .f32) (B : LoadRect S1024x512) :
    v.readCov (Val := Elt Ideal) [⟨Rect.unit ![0, 0] ![1024, 512] inb_S1024x512_S1024x512_0_0, k0_pay1 (F := Ideal)⟩] B = fun _ => (0 : EReal) := by
  rw [View.readCov_eq_canon', View.canon_cons_unit_zero hz2, zero_eq]

/-- A load of the accumulator after the addition reads the sum. -/
theorem cov_all (v : View sig .tc .vmem S1024x512 .f32) (p : Vec Ideal S1024x512 .f32) :
    v.readCov (Val := Elt Ideal) [⟨Rect.unit ![0, 0] ![1024, 512] inb_S1024x512_S1024x512_0_0, p⟩] (Rect.unit ![0, 0] ![1024, 512] inb_S1024x512_S1024x512_0_0).toLoadRect = p :=
  View.readCov_full v _ _ p []

theorem pay_apply (acc : Vec Ideal S1024x512 .f32) (x0 : Vec Ideal S1024x1024 .bf16) (x1 : Vec Ideal S1024x512 .f32) (r : Fin 1024) (j : Fin 512) :
    k0_pay2 acc x0 x1 (ix2 r j) = acc (ix2 r j) + ∑ k, x0 (ix2 k r) * x1 (ix2 k j) := by
  unfold_payloads
  pointwise

section
variable (c : Dev nD) (i : grid0.Coords) (arg3 : Memref sig .tc .vmem S1024x1024 .bf16) (harg3 : arg3.IsWhole) (arg4 : Memref sig .tc .vmem S1024x512 .f32) (harg4 : arg4.IsWhole)
  (arg5 : Memref sig .tc .vmem S1024x512 .f32) (harg5 : arg5.IsWhole) (arg6 : Memref sig .tc .vmem S1024x512 .f32) (harg6 : arg6.IsWhole)
  (x0 : Vec Ideal S1024x1024 .bf16) (x1 : Vec Ideal S1024x512 .f32) (xs : Vec Ideal S1024x512 .f32)

/-- The first block of tokens: the accumulator starts from zero. -/
theorem acc_A (hc0 : cond0_0 i) (hc1 : ¬cond0_1 i) : sout0_A_0 c i arg3 harg3 arg4 harg4 arg5 harg5 arg6 harg6 hc0 hc1 x0 x1 = k0_pay2 (fun _ => 0) x0 x1 := by
  unfold sout0_A_0 kernelRun0_A
  dsimp only
  sl_unfold_words
  simp only [View.readAt_eq_ld, harg3.read_unread, harg4.read_unread, harg6.read_unread]
  rw [View.read_writes_junk_eq_canon, View.canon_cons_unit_zero hz2]
  simp only [View.ld_unit_zero (S := S1024x512) hz2, View.ld_unit_zero (S := S1024x1024) hz2, cov_zero]
  try rfl

/-- A later block adds its product. -/
theorem acc_B (hc0 : ¬cond0_0 i) (hc1 : ¬cond0_1 i) : sout0_B_0 c i arg3 harg3 arg4 harg4 arg5 harg5 arg6 harg6 hc0 hc1 x0 x1 xs = k0_pay2 xs x0 x1 := by
  unfold sout0_B_0 kernelRun0_B
  dsimp only
  sl_unfold_words
  simp only [View.readAt_eq_ld, harg3.read_unread, harg4.read_unread, harg6.read_unread]
  rw [View.read_writes_junk_eq_canon, View.canon_cons_unit_zero hz2]
  simp only [View.ld_unit_zero (S := S1024x512) hz2, View.ld_unit_zero (S := S1024x1024) hz2]

/-- So does the last one, -/
theorem acc_C (hc0 : ¬cond0_0 i) (hc1 : cond0_1 i) : sout0_C_0 c i arg3 harg3 arg4 harg4 arg5 harg5 arg6 harg6 hc0 hc1 x0 x1 xs = k0_pay2 xs x0 x1 := by
  unfold sout0_C_0 kernelRun0_C
  dsimp only
  sl_unfold_words
  simp only [View.readAt_eq_ld, harg3.read_unread, harg4.read_unread, harg6.read_unread]
  rw [View.read_writes_junk_eq_canon, View.canon_cons_unit_zero hz2]
  simp only [View.ld_unit_zero (S := S1024x512) hz2, View.ld_unit_zero (S := S1024x1024) hz2]

/-- which also stores the sum. -/
theorem out_C (hc0 : ¬cond0_0 i) (hc1 : cond0_1 i) : out0_C_2 c i arg3 harg3 arg4 harg4 arg5 harg5 arg6 harg6 hc0 hc1 x0 x1 xs = k0_pay2 xs x0 x1 := by
  unfold out0_C_2 kernelRun0_C
  dsimp only
  sl_unfold_words
  simp only [View.readAt_eq_ld, harg3.read_unread, harg4.read_unread, harg6.read_unread]
  rw [View.read_writes_junk_eq_canon, View.canon_cons_unit_zero hz2]
  simp only [View.ld_unit_zero (S := S1024x512) hz2, View.ld_unit_zero (S := S1024x1024) hz2]
  exact cov_all _ _

end

variable (m : (ℓ : Loc nD τ sig) → Buf (Elt Ideal) ℓ) (c : Dev nD)

/-! ## The two factors and their blocks -/

/-- The three mixers' outputs side by side. -/
def A : FVec Ideal S4096x1024 .f32 := Cert.DwoRefIdeal.Read.val_main_v1 (F := Ideal) (m (c.tc.loc main_arg0)) (m (c.tc.loc main_arg1)) (m (c.tc.loc main_arg2))
/-- The product's gradient. -/
def B : FVec Ideal S4096x1024 .f32 := m (c.tc.loc main_arg3)

theorem V_a : V m c main_v1 = (truncf .bf16 (A m c) bitsLt_bf16_f32 : FVec Ideal S4096x1024 .bf16) := by
  unfold V
  after_reads_simp
  rfl

theorem idx_all : ∀ t : Fin grid0.N, win0_0.index t = ![t.val % 4, 0] ∧ win0_1.index t = ![t.val % 4, t.val / 4] ∧ win0_2.index t = ![0, t.val / 4] := by
  decide +kernel

theorem lt_n {n : ℕ} (h : n < cfg0.N) : n < 8 := lt_of_lt_of_eq h N_0

/-- Row `k` of the row block `n % 4`. -/
abbrev row (n : ℕ) (k : Fin 1024) : Fin 4096 := ⟨n % 4 * 1024 + k.val, by omega⟩
/-- Column `j` of the column block `n / 4`. -/
abbrev col (n : ℕ) (h : n < 8) (j : Fin 512) : Fin 1024 := ⟨n / 4 * 512 + j.val, by omega⟩

theorem iblk_a (n : ℕ) (h : n < cfg0.N) (k r : Fin 1024) : iblk m c 0 ⟨n, h⟩ (ix2 k r) = A m c (ix2 (row n k) r) := by
  have e := (idx_all ⟨n, h⟩).1
  have he : (win0_0.blk ⟨n, h⟩).view.emb (ix2 k r) = (ix2 (row n k) r : S4096x1024.Idx) := by
    blk_ext [e]
  blk_simp [iblk]
  rw [V_a, he]
  rfl

theorem iblk_b (n : ℕ) (h : n < cfg0.N) (k : Fin 1024) (j : Fin 512) : iblk m c 1 ⟨n, h⟩ (ix2 k j) = B m c (ix2 (row n k) (col n (lt_n h) j)) := by
  have e := (idx_all ⟨n, h⟩).2.1
  have hn := lt_n h
  have he : (win0_1.blk ⟨n, h⟩).view.emb (ix2 k j) = (ix2 (row n k) (col n (lt_n h) j) : S4096x1024.Idx) := by
    blk_ext [e]
  blk_simp [iblk]
  rw [V_main_arg3, he]
  rfl

/-! ## The accumulator over the grid -/

/-- The product of point `n`'s blocks. -/
def part (n : ℕ) (i : S1024x512.Idx) : EReal :=
  if h : n < 8 then ∑ k : Fin 1024, A m c (ix2 (row n k) (i 0)) * B m c (ix2 (row n k) (col n h (i 1))) else 0

theorem pay_iblk (n : ℕ) (h : n < cfg0.N) (acc : Vec Ideal S1024x512 .f32) (i : S1024x512.Idx) :
    k0_pay2 acc (iblk m c 0 ⟨n, h⟩) (iblk m c 1 ⟨n, h⟩) i = acc i + part m c n i := by
  idx_vars i
  refine (pay_apply acc _ _ i0 i1).trans ?_
  unfold part
  rw [dif_pos (lt_n h)]
  simp only [iblk_a, iblk_b]
  rfl

/-- What the accumulator holds after a point: the products of the row blocks so far. -/
theorem scr_apply (t : Fin cfg0.N) (i : S1024x512.Idx) :
    (outsAt0 m c t.val t.isLt).2 i = ∑ s ∈ Finset.range (t.val % 4 + 1), part m c (4 * (t.val / 4) + s) i := by
  rw [soutsAt0_0_eq, Pipeline.accAt_add_apply _ _ (fun _ => (0 : EReal)) (part m c) _ 3
    (fun h i => ?_) (fun n h acc i h1 h2 => ?_) (t.val % 4) (by omega), zero_add]
  · have h0 : 4 * (t.val / 4) % 4 = 0 := by omega
    have h3 : ¬4 * (t.val / 4) % 4 = 3 := by omega
    unfold scAt0_0
    rw [dif_pos h0, dif_neg h3, acc_A]
    exact pay_iblk m c _ h _ i
  · have h0 : ¬n % 4 = 0 := by omega
    unfold scAt0_0
    rw [dif_neg h0]
    by_cases h3 : n % 4 = 3
    · rw [dif_pos h3, acc_C]
      exact pay_iblk m c _ h _ i
    · rw [dif_neg h3, acc_B]
      exact pay_iblk m c _ h _ i

/-- A sum over the rows, one block of 1024 after another. -/
theorem sum_blocks (f : Fin 4096 → EReal) :
    ∑ s ∈ Finset.range 4, (if h : s < 4 then ∑ k : Fin 1024, f ⟨s * 1024 + k.val, by omega⟩ else 0) = ∑ t, f t := by
  rw [← Fin.sum_univ_eq_sum_range (fun s => if h : s < 4 then ∑ k : Fin 1024, f ⟨s * 1024 + k.val, by omega⟩ else 0) 4,
    ← (finProdFinEquiv (m := 4) (n := 1024)).sum_comp f, Fintype.sum_prod_type]
  refine Finset.sum_congr rfl fun s _ => ?_
  rw [dif_pos s.isLt]
  refine Finset.sum_congr rfl fun k _ => congrArg f (Fin.ext ?_)
  show s.val * 1024 + k.val = k.val + 1024 * s.val
  omega

/-- What a point with the last row block writes: the whole product at its columns. -/
theorem out_apply (n : ℕ) (h : n < cfg0.N) (h3 : n % 4 = 3) (r : Fin 1024) (j : Fin 512) :
    (outsAt0 m c n h).1 (ix2 r j) = ∑ t, A m c (ix2 t r) * B m c (ix2 t (col n (lt_n h) j)) := by
  have h0 : ¬n % 4 = 0 := by omega
  have hn := lt_n h
  have es : (outsAt0 m c n h).1 = (outsAt0 m c n h).2 := by
    have e := outsAt0_C m c ⟨n, h⟩ h0 h3
    rw [out_C, acc_C] at e
    rw [e]
  rw [es, scr_apply m c ⟨n, h⟩, ← sum_blocks]
  show ∑ s ∈ Finset.range (n % 4 + 1), part m c (4 * (n / 4) + s) (ix2 r j) = _
  rw [h3]
  refine Finset.sum_congr rfl fun s hs => ?_
  have hs4 : s < 4 := Finset.mem_range.mp hs
  unfold part
  rw [dif_pos (by omega : 4 * (n / 4) + s < 8), dif_pos hs4]
  refine Finset.sum_congr rfl fun k _ => ?_
  have er : row (4 * (n / 4) + s) k = ⟨s * 1024 + k.val, by omega⟩ := by
    apply Fin.ext
    show (4 * (n / 4) + s) % 4 * 1024 + k.val = s * 1024 + k.val
    omega
  have ec : col (4 * (n / 4) + s) (by omega) j = col n hn j := by
    apply Fin.ext
    show (4 * (n / 4) + s) / 4 * 512 + j.val = n / 4 * 512 + j.val
    omega
  rw [er]
  show _ * B m c (ix2 _ (col (4 * (n / 4) + s) _ j)) = _
  rw [ec]
  rfl

/-- The array after the run is the product over all the rows. -/
theorem out_arr : (dats m 0 c).arrAt 2 cfg0.N = fun i : S1024x1024.Idx => ∑ t, A m c (ix2 t (i 0)) * B m c (ix2 t (i 1)) := by
  refine (dats m 0 c).arrAt_eq_of_covers 2 _ (by decide +kernel) fun t hf y => ?_
  have e := (idx_all t).2.2
  have h3 : t.val % 4 = 3 := (flush0_2 t).mp hf
  obtain ⟨n, hn⟩ := t
  have hlt := lt_n hn
  idx_vars y
  have he : (win0_2.blk ⟨n, hn⟩).view.emb (ix2 y0 y1) = (ix2 y0 (col n (lt_n hn) y1) : S1024x1024.Idx) := by
    blk_ext [e]
  blk_simp
  rw [after0_2, he]
  exact out_apply m c n hn h3 y0 y1

/-! ## The reference's product -/

open Cert.DwoRefIdeal.Read

theorem r_out (r : Fin 1024) (j : Fin 1024) :
    val_main_v4 (F := Ideal) (m (c.tc.loc main_arg0)) (m (c.tc.loc main_arg1)) (m (c.tc.loc main_arg2)) (m (c.tc.loc main_arg3)) (ix2 r j) = ∑ t, A m c (ix2 t r) * B m c (ix2 t j) := by
  unfold val_main_v4 val_main_v3
  pointwise
  exact Finset.sum_congr rfl fun t _ => mul_comm _ _

theorem arr_eq : (dats m 0 c).arrAt 2 cfg0.N = val_main_v4 (F := Ideal) (m (c.tc.loc main_arg0)) (m (c.tc.loc main_arg1)) (m (c.tc.loc main_arg2)) (m (c.tc.loc main_arg3)) := by
  rw [out_arr]
  funext i
  idx_vars i
  exact (r_out m c i0 i1).symm

end Cert.DwoIdeal.Sweep

namespace Cert.DwoValue

open Cert.DwoIdeal.Sweep Idealize.ShloMosaic Idealize.ShloMosaic.TcCoe Idealize.SL.Sem

/-- The weight's gradient the call leaves is the reference's, from any memory. -/
theorem algebraic : Cert.algebraic_DwoIdeal_DwoRefIdeal := by
  intro m g m' g' _ hargs
  refine ⟨_, (θ_run Cert.DwoIdeal.defs _ _).mono (fun r h c => ⟨(h c).1.trans (arr_eq m c), (h c).2⟩) (Cert.DwoIdeal.Value.run_blocks m g),
    (θ_run Cert.DwoRefIdeal.defs _ _).mono (fun r h c => ?_) (Cert.DwoRefIdeal.Value.run m' g')⟩
  obtain ⟨hv, hk⟩ := h c
  obtain ⟨a0, a1, a2, a3⟩ := hargs c
  refine ⟨?_, hk⟩
  rw [hv, Cert.DwoRefIdeal.Read.val_main_v4_eq, a0, a1, a2, a3]

/-- The reference leaves its arguments and has no semaphore. -/
theorem frame_ref : Cert.quiescent_DwoRefIdeal := fun m g _ =>
  (θ_run Cert.DwoRefIdeal.defs _ _).mono (fun r h => ⟨fun c => (h c).2, sem_eq_zero_of_no_sems (by decide) r.2⟩)
    (Cert.DwoRefIdeal.Value.run m g)

end Cert.DwoValue

end
-- ==== Proof.DwgValue.lean ====
module

public import proofs.«01_k».proof.Defs
public import proofs.«01_k».proof.Proof.Gen.DwgIdeal.Value
public import proofs.«01_k».proof.Proof.Gen.DwgRefIdeal.Read
public import Idealize.ShloMosaic.Lib.StableHlo.RunRead
public import Idealize.ShloMosaic.Lib.Pointwise
public import Idealize.ShloMosaic.Lib.Pipeline.ValueKit
public import Idealize.ShloMosaic.Lib.WritesUnit
public import Idealize.ShloMosaic.Lib.VecWindow
public import Idealize.ShloMosaic.Lib.Quiescent

@[expose] public section

set_option maxRecDepth 16384
set_option maxHeartbeats 4000000

noncomputable section

namespace Cert.DwgIdeal.Sweep

open Cert.DwgIdeal Cert.DwgIdeal.Gen Cert.DwgIdeal.Value Idealize.ShloMosaic Idealize.ShloMosaic.TcCoe Idealize.SL.Sem Idealize.ShloMosaic.StableHlo

/-! ## What one point does to the accumulator -/

theorem hz2 : (![0, 0] : Fin 2 → Nat) = fun _ => 0 := by funext a; fin_cases a <;> rfl

theorem zero_eq : (k0_pay1 (F := Ideal)) = fun _ => 0 := by
  funext y
  idx_vars y
  unfold_payloads
  pointwise

/-- A load of the accumulator after it was set to zero reads zero. -/
theorem cov_zero (v : View sig .tc .vmem S1024x512 .f32) (B : LoadRect S1024x512) :
    v.readCov (Val := Elt Ideal) [⟨Rect.unit ![0, 0] ![1024, 512] inb_S1024x512_S1024x512_0_0, k0_pay1 (F := Ideal)⟩] B = fun _ => (0 : EReal) := by
  rw [View.readCov_eq_canon', View.canon_cons_unit_zero hz2, zero_eq]

/-- A load of the accumulator after the addition reads the sum. -/
theorem cov_all (v : View sig .tc .vmem S1024x512 .f32) (p : Vec Ideal S1024x512 .f32) :
    v.readCov (Val := Elt Ideal) [⟨Rect.unit ![0, 0] ![1024, 512] inb_S1024x512_S1024x512_0_0, p⟩] (Rect.unit ![0, 0] ![1024, 512] inb_S1024x512_S1024x512_0_0).toLoadRect = p :=
  View.readCov_full v _ _ p []

theorem pay_apply (acc : Vec Ideal S1024x512 .f32) (x0 : Vec Ideal S1024x1024 .bf16) (x1 : Vec Ideal S1024x512 .bf16) (r : Fin 1024) (j : Fin 512) :
    k0_pay2 acc x0 x1 (ix2 r j) = acc (ix2 r j) + ∑ k, x0 (ix2 k r) * x1 (ix2 k j) := by
  unfold_payloads
  pointwise

section
variable (c : Dev nD) (i : grid0.Coords) (arg3 : Memref sig .tc .vmem S1024x1024 .bf16) (harg3 : arg3.IsWhole) (arg4 : Memref sig .tc .vmem S1024x512 .bf16) (harg4 : arg4.IsWhole)
  (arg5 : Memref sig .tc .vmem S1024x512 .f32) (harg5 : arg5.IsWhole) (arg6 : Memref sig .tc .vmem S1024x512 .f32) (harg6 : arg6.IsWhole)
  (x0 : Vec Ideal S1024x1024 .bf16) (x1 : Vec Ideal S1024x512 .bf16) (xs : Vec Ideal S1024x512 .f32)

/-- The first block of tokens: the accumulator starts from zero. -/
theorem acc_A (hc0 : cond0_0 i) (hc1 : ¬cond0_1 i) : sout0_A_0 c i arg3 harg3 arg4 harg4 arg5 harg5 arg6 harg6 hc0 hc1 x0 x1 = k0_pay2 (fun _ => 0) x0 x1 := by
  unfold sout0_A_0 kernelRun0_A
  dsimp only
  sl_unfold_words
  simp only [View.readAt_eq_ld, harg3.read_unread, harg4.read_unread, harg6.read_unread]
  rw [View.read_writes_junk_eq_canon, View.canon_cons_unit_zero hz2]
  simp only [View.ld_unit_zero (S := S1024x512) hz2, View.ld_unit_zero (S := S1024x1024) hz2, cov_zero]
  try rfl

/-- A later block adds its product. -/
theorem acc_B (hc0 : ¬cond0_0 i) (hc1 : ¬cond0_1 i) : sout0_B_0 c i arg3 harg3 arg4 harg4 arg5 harg5 arg6 harg6 hc0 hc1 x0 x1 xs = k0_pay2 xs x0 x1 := by
  unfold sout0_B_0 kernelRun0_B
  dsimp only
  sl_unfold_words
  simp only [View.readAt_eq_ld, harg3.read_unread, harg4.read_unread, harg6.read_unread]
  rw [View.read_writes_junk_eq_canon, View.canon_cons_unit_zero hz2]
  simp only [View.ld_unit_zero (S := S1024x512) hz2, View.ld_unit_zero (S := S1024x1024) hz2]

/-- So does the last one, -/
theorem acc_C (hc0 : ¬cond0_0 i) (hc1 : cond0_1 i) : sout0_C_0 c i arg3 harg3 arg4 harg4 arg5 harg5 arg6 harg6 hc0 hc1 x0 x1 xs = k0_pay2 xs x0 x1 := by
  unfold sout0_C_0 kernelRun0_C
  dsimp only
  sl_unfold_words
  simp only [View.readAt_eq_ld, harg3.read_unread, harg4.read_unread, harg6.read_unread]
  rw [View.read_writes_junk_eq_canon, View.canon_cons_unit_zero hz2]
  simp only [View.ld_unit_zero (S := S1024x512) hz2, View.ld_unit_zero (S := S1024x1024) hz2]

/-- which also stores the sum. -/
theorem out_C (hc0 : ¬cond0_0 i) (hc1 : cond0_1 i) : out0_C_2 c i arg3 harg3 arg4 harg4 arg5 harg5 arg6 harg6 hc0 hc1 x0 x1 xs = k0_pay2 xs x0 x1 := by
  unfold out0_C_2 kernelRun0_C
  dsimp only
  sl_unfold_words
  simp only [View.readAt_eq_ld, harg3.read_unread, harg4.read_unread, harg6.read_unread]
  rw [View.read_writes_junk_eq_canon, View.canon_cons_unit_zero hz2]
  simp only [View.ld_unit_zero (S := S1024x512) hz2, View.ld_unit_zero (S := S1024x1024) hz2]
  exact cov_all _ _

end

variable (m : (ℓ : Loc nD τ sig) → Buf (Elt Ideal) ℓ) (c : Dev nD)

/-! ## The two factors and their blocks -/

/-- The normalised tokens. -/
def A : FVec Ideal S4096x1024 .f32 := Cert.DwgRefIdeal.Read.val_main_v13 (F := Ideal) (m (c.tc.loc main_arg0)) (m (c.tc.loc main_arg1))
/-- The product's gradient. -/
def B : FVec Ideal S4096x1024 .f32 := m (c.tc.loc main_arg2)

theorem V_a : V m c main_v13 = (truncf .bf16 (A m c) bitsLt_bf16_f32 : FVec Ideal S4096x1024 .bf16) := by
  unfold V
  after_reads_simp
  rfl

theorem V_b : V m c main_v14 = (truncf .bf16 (B m c) bitsLt_bf16_f32 : FVec Ideal S4096x1024 .bf16) := by
  unfold V
  after_reads_simp
  rfl

theorem idx_all : ∀ t : Fin grid0.N, win0_0.index t = ![t.val % 4, 0] ∧ win0_1.index t = ![t.val % 4, t.val / 4] ∧ win0_2.index t = ![0, t.val / 4] := by
  decide +kernel

theorem lt_n {n : ℕ} (h : n < cfg0.N) : n < 8 := lt_of_lt_of_eq h N_0

/-- Row `k` of the row block `n % 4`. -/
abbrev row (n : ℕ) (k : Fin 1024) : Fin 4096 := ⟨n % 4 * 1024 + k.val, by omega⟩
/-- Column `j` of the column block `n / 4`. -/
abbrev col (n : ℕ) (h : n < 8) (j : Fin 512) : Fin 1024 := ⟨n / 4 * 512 + j.val, by omega⟩

theorem iblk_a (n : ℕ) (h : n < cfg0.N) (k r : Fin 1024) : iblk m c 0 ⟨n, h⟩ (ix2 k r) = A m c (ix2 (row n k) r) := by
  have e := (idx_all ⟨n, h⟩).1
  have he : (win0_0.blk ⟨n, h⟩).view.emb (ix2 k r) = (ix2 (row n k) r : S4096x1024.Idx) := by
    blk_ext [e]
  blk_simp [iblk]
  rw [V_a, he]
  rfl

theorem iblk_b (n : ℕ) (h : n < cfg0.N) (k : Fin 1024) (j : Fin 512) : iblk m c 1 ⟨n, h⟩ (ix2 k j) = B m c (ix2 (row n k) (col n (lt_n h) j)) := by
  have e := (idx_all ⟨n, h⟩).2.1
  have hn := lt_n h
  have he : (win0_1.blk ⟨n, h⟩).view.emb (ix2 k j) = (ix2 (row n k) (col n (lt_n h) j) : S4096x1024.Idx) := by
    blk_ext [e]
  blk_simp [iblk]
  rw [V_b, he]
  rfl

/-! ## The accumulator over the grid -/

/-- The product of point `n`'s blocks. -/
def part (n : ℕ) (i : S1024x512.Idx) : EReal :=
  if h : n < 8 then ∑ k : Fin 1024, A m c (ix2 (row n k) (i 0)) * B m c (ix2 (row n k) (col n h (i 1))) else 0

theorem pay_iblk (n : ℕ) (h : n < cfg0.N) (acc : Vec Ideal S1024x512 .f32) (i : S1024x512.Idx) :
    k0_pay2 acc (iblk m c 0 ⟨n, h⟩) (iblk m c 1 ⟨n, h⟩) i = acc i + part m c n i := by
  idx_vars i
  refine (pay_apply acc _ _ i0 i1).trans ?_
  unfold part
  rw [dif_pos (lt_n h)]
  simp only [iblk_a, iblk_b]
  rfl

/-- What the accumulator holds after a point: the products of the row blocks so far. -/
theorem scr_apply (t : Fin cfg0.N) (i : S1024x512.Idx) :
    (outsAt0 m c t.val t.isLt).2 i = ∑ s ∈ Finset.range (t.val % 4 + 1), part m c (4 * (t.val / 4) + s) i := by
  rw [soutsAt0_0_eq, Pipeline.accAt_add_apply _ _ (fun _ => (0 : EReal)) (part m c) _ 3
    (fun h i => ?_) (fun n h acc i h1 h2 => ?_) (t.val % 4) (by omega), zero_add]
  · have h0 : 4 * (t.val / 4) % 4 = 0 := by omega
    have h3 : ¬4 * (t.val / 4) % 4 = 3 := by omega
    unfold scAt0_0
    rw [dif_pos h0, dif_neg h3, acc_A]
    exact pay_iblk m c _ h _ i
  · have h0 : ¬n % 4 = 0 := by omega
    unfold scAt0_0
    rw [dif_neg h0]
    by_cases h3 : n % 4 = 3
    · rw [dif_pos h3, acc_C]
      exact pay_iblk m c _ h _ i
    · rw [dif_neg h3, acc_B]
      exact pay_iblk m c _ h _ i

/-- A sum over the rows, one block of 1024 after another. -/
theorem sum_blocks (f : Fin 4096 → EReal) :
    ∑ s ∈ Finset.range 4, (if h : s < 4 then ∑ k : Fin 1024, f ⟨s * 1024 + k.val, by omega⟩ else 0) = ∑ t, f t := by
  rw [← Fin.sum_univ_eq_sum_range (fun s => if h : s < 4 then ∑ k : Fin 1024, f ⟨s * 1024 + k.val, by omega⟩ else 0) 4,
    ← (finProdFinEquiv (m := 4) (n := 1024)).sum_comp f, Fintype.sum_prod_type]
  refine Finset.sum_congr rfl fun s _ => ?_
  rw [dif_pos s.isLt]
  refine Finset.sum_congr rfl fun k _ => congrArg f (Fin.ext ?_)
  show s.val * 1024 + k.val = k.val + 1024 * s.val
  omega

/-- What a point with the last row block writes: the whole product at its columns. -/
theorem out_apply (n : ℕ) (h : n < cfg0.N) (h3 : n % 4 = 3) (r : Fin 1024) (j : Fin 512) :
    (outsAt0 m c n h).1 (ix2 r j) = ∑ t, A m c (ix2 t r) * B m c (ix2 t (col n (lt_n h) j)) := by
  have h0 : ¬n % 4 = 0 := by omega
  have hn := lt_n h
  have es : (outsAt0 m c n h).1 = (outsAt0 m c n h).2 := by
    have e := outsAt0_C m c ⟨n, h⟩ h0 h3
    rw [out_C, acc_C] at e
    rw [e]
  rw [es, scr_apply m c ⟨n, h⟩, ← sum_blocks]
  show ∑ s ∈ Finset.range (n % 4 + 1), part m c (4 * (n / 4) + s) (ix2 r j) = _
  rw [h3]
  refine Finset.sum_congr rfl fun s hs => ?_
  have hs4 : s < 4 := Finset.mem_range.mp hs
  unfold part
  rw [dif_pos (by omega : 4 * (n / 4) + s < 8), dif_pos hs4]
  refine Finset.sum_congr rfl fun k _ => ?_
  have er : row (4 * (n / 4) + s) k = ⟨s * 1024 + k.val, by omega⟩ := by
    apply Fin.ext
    show (4 * (n / 4) + s) % 4 * 1024 + k.val = s * 1024 + k.val
    omega
  have ec : col (4 * (n / 4) + s) (by omega) j = col n hn j := by
    apply Fin.ext
    show (4 * (n / 4) + s) / 4 * 512 + j.val = n / 4 * 512 + j.val
    omega
  rw [er]
  show _ * B m c (ix2 _ (col (4 * (n / 4) + s) _ j)) = _
  rw [ec]
  rfl

/-- The array after the run is the product over all the rows. -/
theorem out_arr : (dats m 0 c).arrAt 2 cfg0.N = fun i : S1024x1024.Idx => ∑ t, A m c (ix2 t (i 0)) * B m c (ix2 t (i 1)) := by
  refine (dats m 0 c).arrAt_eq_of_covers 2 _ (by decide +kernel) fun t hf y => ?_
  have e := (idx_all t).2.2
  have h3 : t.val % 4 = 3 := (flush0_2 t).mp hf
  obtain ⟨n, hn⟩ := t
  have hlt := lt_n hn
  idx_vars y
  have he : (win0_2.blk ⟨n, hn⟩).view.emb (ix2 y0 y1) = (ix2 y0 (col n (lt_n hn) y1) : S1024x1024.Idx) := by
    blk_ext [e]
  blk_simp
  rw [after0_2, he]
  exact out_apply m c n hn h3 y0 y1

/-! ## The reference's product -/

open Cert.DwgRefIdeal.Read

theorem r_out (r : Fin 1024) (j : Fin 1024) :
    val_main_v16 (F := Ideal) (m (c.tc.loc main_arg0)) (m (c.tc.loc main_arg1)) (m (c.tc.loc main_arg2)) (ix2 r j) = ∑ t, A m c (ix2 t r) * B m c (ix2 t j) := by
  unfold val_main_v16 val_main_v15
  pointwise
  exact Finset.sum_congr rfl fun t _ => mul_comm _ _

theorem arr_eq : (dats m 0 c).arrAt 2 cfg0.N = val_main_v16 (F := Ideal) (m (c.tc.loc main_arg0)) (m (c.tc.loc main_arg1)) (m (c.tc.loc main_arg2)) := by
  rw [out_arr]
  funext i
  idx_vars i
  exact (r_out m c i0 i1).symm

end Cert.DwgIdeal.Sweep

namespace Cert.DwgValue

open Cert.DwgIdeal.Sweep Idealize.ShloMosaic Idealize.ShloMosaic.TcCoe Idealize.SL.Sem

/-- The weight's gradient the call leaves is the reference's, from any memory. -/
theorem algebraic : Cert.algebraic_DwgIdeal_DwgRefIdeal := by
  intro m g m' g' _ hargs
  refine ⟨_, (θ_run Cert.DwgIdeal.defs _ _).mono (fun r h c => ⟨(h c).1.trans (arr_eq m c), (h c).2⟩) (Cert.DwgIdeal.Value.run_blocks m g),
    (θ_run Cert.DwgRefIdeal.defs _ _).mono (fun r h c => ?_) (Cert.DwgRefIdeal.Value.run m' g')⟩
  obtain ⟨hv, hk⟩ := h c
  obtain ⟨a0, a1, a2⟩ := hargs c
  refine ⟨?_, hk⟩
  rw [hv, Cert.DwgRefIdeal.Read.val_main_v16_eq, a0, a1, a2]

/-- The reference leaves its arguments and has no semaphore. -/
theorem frame_ref : Cert.quiescent_DwgRefIdeal := fun m g _ =>
  (θ_run Cert.DwgRefIdeal.defs _ _).mono (fun r h => ⟨fun c => (h c).2, sem_eq_zero_of_no_sems (by decide) r.2⟩)
    (Cert.DwgRefIdeal.Value.run m g)

end Cert.DwgValue

end
-- ==== Proof.DxoValue.lean ====
module

public import proofs.«01_k».proof.Defs
public import proofs.«01_k».proof.Proof.Gen.DxoIdeal.Value
public import proofs.«01_k».proof.Proof.Gen.DxoRefIdeal.Read
public import Idealize.ShloMosaic.Lib.StableHlo.RunRead
public import Idealize.ShloMosaic.Lib.Pointwise
public import Idealize.ShloMosaic.Lib.Pipeline.ValueKit
public import Idealize.ShloMosaic.Lib.WritesUnit
public import Idealize.ShloMosaic.Lib.Quiescent

@[expose] public section

set_option maxRecDepth 16384
set_option maxHeartbeats 4000000

noncomputable section

namespace Cert.DxoIdeal.Sweep

open Cert.DxoIdeal Cert.DxoIdeal.Gen Idealize.ShloMosaic Idealize.ShloMosaic.TcCoe Idealize.SL.Sem Idealize.ShloMosaic.StableHlo

variable (m : (ℓ : Loc nD τ sig) → Buf (Elt Ideal) ℓ) (c : Dev nD)

/-- The output projection's weight and the gradient of its result. -/
def W : FVec Ideal S1024x1024 .f32 := m (c.tc.loc main_arg0)
@[inherit_doc W] def DO : FVec Ideal S4096x1024 .f32 := m (c.tc.loc main_arg1)

theorem V_w : V m c main_v0 = (truncf .bf16 (W m c) bitsLt_bf16_f32 : FVec Ideal S1024x1024 .bf16) := by
  unfold V
  after_reads_simp
  rfl

theorem idx_all : ∀ t : Fin grid0.N, (win0_0.index t = ![t.val, 0] ∧ win0_1.index t = ![0, 0]) ∧ win0_2.index t = ![t.val, 0]
    ∧ win0_3.index t = ![t.val, 0] ∧ win0_4.index t = ![t.val, 0] := by
  decide +kernel

theorem lt8 {n : ℕ} (h : n < cfg0.N) : n < 8 := lt_of_lt_of_eq h N_0

/-- Row `r` of point `n`'s row block. -/
abbrev row (n : ℕ) (h : n < 8) (r : Fin 512) : Fin 4096 := ⟨n * 512 + r.val, by omega⟩

theorem iblk_do (n : ℕ) (h : n < cfg0.N) (r : Fin 512) (d : Fin 1024) :
    iblk m c 0 ⟨n, h⟩ (ix2 r d) = DO m c (ix2 (row n (lt8 h) r) d) := by
  have e := (idx_all ⟨n, h⟩).1.1
  have he : (win0_0.blk ⟨n, h⟩).view.emb (ix2 r d) = (ix2 (row n (lt8 h) r) d : S4096x1024.Idx) := by
    blk_ext [e]
  blk_simp [iblk]
  rw [V_main_arg1, he]
  rfl

theorem iblk_w (n : ℕ) (h : n < cfg0.N) (x d : Fin 1024) : iblk m c 1 ⟨n, h⟩ (ix2 x d) = W m c (ix2 x d) := by
  have e := (idx_all ⟨n, h⟩).1.2
  have he : (win0_1.blk ⟨n, h⟩).view.emb (ix2 x d) = (ix2 x d : S1024x1024.Idx) := by
    blk_ext [e]
  blk_simp [iblk]
  rw [V_w, he]
  pointwise

theorem hz2 : (![0, 0] : Fin 2 → Nat) = fun _ => 0 := by funext a; fin_cases a <;> rfl

/-- The gradient of the three mixers' outputs side by side: the result's gradient times the transposed weight. -/
def DY (t : Fin 4096) (d : Fin 1024) : EReal := ∑ x, DO m c (ix2 t x) * W m c (ix2 d x)

theorem pay2_apply (x0 : Vec Ideal S512x1024 .f32) (x1 : Vec Ideal S1024x1024 .bf16) (r : Fin 512) (d : Fin 256) :
    k0_pay2 x0 x1 (ix2 r d) = ∑ x, x0 (ix2 r x) * x1 (ix2 ⟨d.val, by omega⟩ x) := by
  unfold_payloads
  pointwise

theorem pay3_apply (x0 : Vec Ideal S512x1024 .f32) (x1 : Vec Ideal S1024x1024 .bf16) (r : Fin 512) (d : Fin 512) :
    k0_pay3 x0 x1 (ix2 r d) = ∑ x, x0 (ix2 r x) * x1 (ix2 ⟨256 + d.val, by omega⟩ x) := by
  unfold_payloads
  pointwise

theorem pay4_apply (x0 : Vec Ideal S512x1024 .f32) (x1 : Vec Ideal S1024x1024 .bf16) (r : Fin 512) (d : Fin 256) :
    k0_pay4 x0 x1 (ix2 r d) = ∑ x, x0 (ix2 r x) * x1 (ix2 ⟨768 + d.val, by omega⟩ x) := by
  unfold_payloads
  pointwise

/-- The blocks a point leaves. -/
theorem out2_eq (n : ℕ) (h : n < cfg0.N) (r : Fin 512) (d : Fin 256) :
    out0_2 (iblk m c 0 ⟨n, h⟩) (iblk m c 1 ⟨n, h⟩) (ix2 r d) = DY m c (row n (lt8 h) r) ⟨d.val, by omega⟩ := by
  unfold out0_2
  rw [View.canon_cons_unit_zero hz2, View.ld_unit_zero (S := S512x1024) hz2, View.ld_unit_zero (S := S1024x1024) hz2]
  refine (pay2_apply _ _ r d).trans ?_
  unfold DY
  simp only [iblk_do, iblk_w]

theorem out3_eq (n : ℕ) (h : n < cfg0.N) (r : Fin 512) (d : Fin 512) :
    out0_3 (iblk m c 0 ⟨n, h⟩) (iblk m c 1 ⟨n, h⟩) (ix2 r d) = DY m c (row n (lt8 h) r) ⟨256 + d.val, by omega⟩ := by
  unfold out0_3
  rw [View.canon_cons_unit_zero hz2, View.ld_unit_zero (S := S512x1024) hz2, View.ld_unit_zero (S := S1024x1024) hz2]
  refine (pay3_apply _ _ r d).trans ?_
  unfold DY
  simp only [iblk_do, iblk_w]

theorem out4_eq (n : ℕ) (h : n < cfg0.N) (r : Fin 512) (d : Fin 256) :
    out0_4 (iblk m c 0 ⟨n, h⟩) (iblk m c 1 ⟨n, h⟩) (ix2 r d) = DY m c (row n (lt8 h) r) ⟨768 + d.val, by omega⟩ := by
  unfold out0_4
  rw [View.canon_cons_unit_zero hz2, View.ld_unit_zero (S := S512x1024) hz2, View.ld_unit_zero (S := S1024x1024) hz2]
  refine (pay4_apply _ _ r d).trans ?_
  unfold DY
  simp only [iblk_do, iblk_w]

/-- The columns of each mixer. -/
def D2 : FVec Ideal S4096x256 .f32 := fun i => DY m c (i 0) ⟨(i 1).val, by have : (i 1).val < 256 := (i 1).isLt; omega⟩
@[inherit_doc D2] def D3 : FVec Ideal S4096x512 .f32 := fun i => DY m c (i 0) ⟨256 + (i 1).val, by have : (i 1).val < 512 := (i 1).isLt; omega⟩
@[inherit_doc D2] def D4 : FVec Ideal S4096x256 .f32 := fun i => DY m c (i 0) ⟨768 + (i 1).val, by have : (i 1).val < 256 := (i 1).isLt; omega⟩

/-- Which point wrote which row. -/
theorem arr2 : (dats m 0 c).arrAt 2 cfg0.N = D2 m c := by
  refine (dats m 0 c).arrAt_eq_of_covers 2 _ (by decide +kernel) fun t hf y => ?_
  have e := (idx_all t).2.1
  obtain ⟨n, hn⟩ := t
  idx_vars y
  have he : (win0_2.blk ⟨n, hn⟩).view.emb (ix2 y0 y1) = (ix2 (row n (lt8 hn) y0) y1 : S4096x256.Idx) := by
    blk_ext [e]
  blk_simp
  rw [after0_2, he]
  exact out2_eq m c n hn y0 y1

theorem arr3 : (dats m 0 c).arrAt 3 cfg0.N = D3 m c := by
  refine (dats m 0 c).arrAt_eq_of_covers 3 _ (by decide +kernel) fun t hf y => ?_
  have e := (idx_all t).2.2.1
  obtain ⟨n, hn⟩ := t
  idx_vars y
  have he : (win0_3.blk ⟨n, hn⟩).view.emb (ix2 y0 y1) = (ix2 (row n (lt8 hn) y0) y1 : S4096x512.Idx) := by
    blk_ext [e]
  blk_simp
  rw [after0_3, he]
  exact out3_eq m c n hn y0 y1

theorem arr4 : (dats m 0 c).arrAt 4 cfg0.N = D4 m c := by
  refine (dats m 0 c).arrAt_eq_of_covers 4 _ (by decide +kernel) fun t hf y => ?_
  have e := (idx_all t).2.2.2
  obtain ⟨n, hn⟩ := t
  idx_vars y
  have he : (win0_4.blk ⟨n, hn⟩).view.emb (ix2 y0 y1) = (ix2 (row n (lt8 hn) y0) y1 : S4096x256.Idx) := by
    blk_ext [e]
  blk_simp
  rw [after0_4, he]
  exact out4_eq m c n hn y0 y1

/-! ## The reference's arrays at an index -/

open Cert.DxoRefIdeal.Read

theorem r_dy (t : Fin 4096) (d : Fin 1024) : val_main_v5 (F := Ideal) (W m c) (DO m c) (ix2 t d) = DY m c t d := by
  unfold val_main_v5 DY
  pointwise

theorem arr2_eq : (dats m 0 c).arrAt 2 cfg0.N = val_main_v6 (F := Ideal) (W m c) (DO m c) := by
  rw [arr2]
  funext i
  idx_vars i
  unfold val_main_v6 D2
  pointwise [r_dy]

theorem arr3_eq : (dats m 0 c).arrAt 3 cfg0.N = val_main_v7 (F := Ideal) (W m c) (DO m c) := by
  rw [arr3]
  funext i
  idx_vars i
  unfold val_main_v7 D3
  pointwise [r_dy]

theorem arr4_eq : (dats m 0 c).arrAt 4 cfg0.N = val_main_v8 (F := Ideal) (W m c) (DO m c) := by
  rw [arr4]
  funext i
  idx_vars i
  unfold val_main_v8 D4
  pointwise [r_dy]

end Cert.DxoIdeal.Sweep

namespace Cert.DxoValue

open Cert.DxoIdeal.Sweep Idealize.ShloMosaic Idealize.ShloMosaic.TcCoe Idealize.SL.Sem

/-- The three arrays the call leaves are the reference's, from any memory. -/
theorem algebraic : Cert.algebraic_DxoIdeal_DxoRefIdeal := by
  intro m g m' g' _ hargs
  refine ⟨_, _, _, (θ_run Cert.DxoIdeal.defs _ _).mono
      (fun r h c => ⟨(h c).1.trans (arr2_eq m c), (h c).2.1.trans (arr3_eq m c), (h c).2.2.1.trans (arr4_eq m c), (h c).2.2.2⟩) (Cert.DxoIdeal.Value.run_blocks m g),
    (θ_run Cert.DxoRefIdeal.defs _ _).mono (fun r h c => ?_) (Cert.DxoRefIdeal.Value.run m' g')⟩
  obtain ⟨h6, h7, h8, hk⟩ := h c
  obtain ⟨a0, a1⟩ := hargs c
  refine ⟨?_, ?_, ?_, hk⟩
  · rw [h6, Cert.DxoRefIdeal.Read.val_main_v6_eq, a0, a1]
    rfl
  · rw [h7, Cert.DxoRefIdeal.Read.val_main_v7_eq, a0, a1]
    rfl
  · rw [h8, Cert.DxoRefIdeal.Read.val_main_v8_eq, a0, a1]
    rfl

/-- The reference leaves its arguments and has no semaphore. -/
theorem frame_ref : Cert.quiescent_DxoRefIdeal := fun m g _ =>
  (θ_run Cert.DxoRefIdeal.defs _ _).mono (fun r h => ⟨fun c => (h c).2.2.2, sem_eq_zero_of_no_sems (by decide) r.2⟩)
    (Cert.DxoRefIdeal.Value.run m g)

end Cert.DxoValue

end
-- ==== Proof.InxBody.lean ====
module

public import proofs.«01_k».proof.Proof.Gen.InxIdeal.Value
public import proofs.«01_k».proof.Proof.ActMath
public import Idealize.ShloMosaic.Lib.Pointwise
public import Idealize.ShloMosaic.Lib.Pipeline.ValueKit
public import Idealize.ShloMosaic.Lib.WritesUnit
public import Idealize.ShloMosaic.Lib.VecWindow

@[expose] public section

set_option maxRecDepth 16384
set_option maxHeartbeats 4000000

noncomputable section

namespace Cert.InxIdeal.Body

open Cert.InxIdeal Cert.InxIdeal.Gen Idealize.ShloMosaic Idealize.ShloMosaic.TcCoe Idealize.SL.Sem Cert.ActMath

theorem hz2 : (![0, 0] : Fin 2 → Nat) = fun _ => 0 := by funext a; fin_cases a <;> rfl

theorem zero_eq : (k0_pay6 (F := Ideal)) = fun _ => 0 := by
  funext y
  idx_vars y
  unfold_payloads
  pointwise

/-- A load of the gain's gradient after it was set to zero reads zero. -/
theorem cov_zero (v : View sig .tc .vmem S1x1024 .f32) (B : LoadRect S1x1024) :
    v.readCov (Val := Elt Ideal) [⟨Rect.unit ![0, 0] ![1, 1024] inb_S1x1024_S1x1024_0_0, k0_pay6 (F := Ideal)⟩] B = fun _ => (0 : EReal) := by
  rw [View.readCov_eq_canon', View.canon_cons_unit_zero hz2, zero_eq]

/-- The pieces of the projections' gradient a point stores side by side. -/
def pieces (x4 : Vec Ideal S512x256 .f32) (x5 : Vec Ideal S512x256 .f32) (x6 : Vec Ideal S512x512 .f32) (x7 : Vec Ideal S512x128 .f32) (x8 : Vec Ideal S512x128 .f32) (x9 : Vec Ideal S3x512x256 .f32) (x10 : Vec Ideal S512x256 .f32) (x11 : Vec Ideal S2x512x128 .f32) :
    List (View.Piece (Elt Ideal) S512x2560 .bf16) :=
  [⟨Rect.unit (s := S512x2560) ![0, 2432] S512x128.size inb_S512x2560_S512x128_0_2432, k0_pay21 (F := Ideal)⟩,
   ⟨Rect.unit (s := S512x2560) ![0, 2304] S512x128.size inb_S512x2560_S512x128_0_2304, k0_pay20 (k0_pay10 (View.ld (Val := Elt Ideal) (S := S2x512x128) (e' := .f32) x11 (Rect.unit (s := S2x512x128) ![0, 0, 0] S1x512x128.size inb_S2x512x128_S1x512x128_0_0_0)) (View.ld (Val := Elt Ideal) (S := S2x512x128) (e' := .f32) x11 (Rect.unit (s := S2x512x128) ![1, 0, 0] S1x512x128.size inb_S2x512x128_S1x512x128_1_0_0)))⟩,
   ⟨Rect.unit (s := S512x2560) ![0, 2048] S512x256.size inb_S512x2560_S512x256_0_2048, k0_pay19 x10⟩,
   ⟨Rect.unit (s := S512x2560) ![0, 1792] S512x256.size inb_S512x2560_S512x256_0_1792, k0_pay18 (k0_pay9 (View.ld (Val := Elt Ideal) (S := S3x512x256) (e' := .f32) x9 (Rect.unit (s := S3x512x256) ![2, 0, 0] S1x512x256.size inb_S3x512x256_S1x512x256_2_0_0)))⟩,
   ⟨Rect.unit (s := S512x2560) ![0, 1536] S512x256.size inb_S512x2560_S512x256_0_1536, k0_pay17 (k0_pay8 (View.ld (Val := Elt Ideal) (S := S3x512x256) (e' := .f32) x9 (Rect.unit (s := S3x512x256) ![1, 0, 0] S1x512x256.size inb_S3x512x256_S1x512x256_1_0_0)))⟩,
   ⟨Rect.unit (s := S512x2560) ![0, 1280] S512x256.size inb_S512x2560_S512x256_0_1280, k0_pay16 (k0_pay7 (View.ld (Val := Elt Ideal) (S := S3x512x256) (e' := .f32) x9 (Rect.unit (s := S3x512x256) ![0, 0, 0] S1x512x256.size inb_S3x512x256_S1x512x256_0_0_0)))⟩,
   ⟨Rect.unit (s := S512x2560) ![0, 1152] S512x128.size inb_S512x2560_S512x128_0_1152, k0_pay15 x8⟩,
   ⟨Rect.unit (s := S512x2560) ![0, 1024] S512x128.size inb_S512x2560_S512x128_0_1024, k0_pay14 x7⟩,
   ⟨Rect.unit (s := S512x2560) ![0, 512] S512x512.size inb_S512x2560_S512x512_0_512, k0_pay13 x6⟩,
   ⟨Rect.unit (s := S512x2560) ![0, 256] S512x256.size inb_S512x2560_S512x256_0_256, k0_pay12 x5⟩,
   ⟨Rect.unit (s := S512x2560) ![0, 0] S512x256.size inb_S512x2560_S512x256_0_0, k0_pay11 x4⟩]

/-- A load of the whole buffer reads the pieces stored into it. -/
theorem cov (v : View sig .tc .vmem S512x2560 .bf16) (L : List (View.Piece (Elt Ideal) S512x2560 .bf16)) :
    v.readCov (Val := Elt Ideal) L (Rect.unit (s := S512x2560) ![0, 0] ![512, 2560] inb_S512x2560_S512x2560_0_0).toLoadRect = View.canon L := by
  rw [View.readCov_eq_canon']
  exact View.ld_unit_zero (S := S512x2560) hz2 _ _

section
variable (x0 : Vec Ideal S512x1024 .f32) (x1 : Vec Ideal S1x1024 .f32) (x2 : Vec Ideal S512x1024 .f32) (x3 : Vec Ideal S1024x2560 .bf16)
  (u : Vec Ideal S512x2560 .bf16) (r : Fin 512) (d : Fin 1024)

/-- A row's inverse root mean square. -/
def ri : EReal := rs (fun x => x0 (ix2 r x))
/-- The gradient of the normalised tokens. -/
def dn : EReal := ∑ k, u (ix2 r k) * x3 (ix2 d k)

theorem xh_apply : k0_pay2 x0 (k0_pay23 x0) k0_pay24 (ix2 r d) = x0 (ix2 r d) * ri x0 r := by
  unfold ri rs ms
  unfold_payloads
  pointwise

theorem ri_apply (a : Fin 1) : k0_pay1 (k0_pay23 x0) k0_pay24 (ix2 r a) = ri x0 r := by
  unfold ri rs ms
  unfold_payloads
  pointwise

theorem dn_apply : k0_pay3 u x3 (ix2 r d) = dn x3 u r d := by
  unfold dn k0_pay3
  pointwise

theorem dh_apply : k0_pay4 (k0_pay22 x1) x0 (k0_pay23 x0) k0_pay24 u x3 x2 (ix2 r d)
    = x2 (ix2 r d) + ri x0 r * (dn x3 u r d * x1 (ix2 0 d) - x0 (ix2 r d) * ri x0 r
        * Ideal.div (∑ x, dn x3 u r x * x1 (ix2 0 x) * (x0 (ix2 r x) * ri x0 r)) (Ideal.ofBits .f32 0x44800000#32)) := by
  unfold k0_pay4 k0_pay22
  pointwise [dn_apply, xh_apply, ri_apply]

theorem dg_apply (xo : Vec Ideal S1x1024 .f32) (a : Fin 1) : k0_pay5 x0 (k0_pay23 x0) k0_pay24 u x3 xo (ix2 a d)
    = xo (ix2 a d) + ∑ r, dn x3 u r d * (x0 (ix2 r d) * ri x0 r) := by
  unfold k0_pay5
  pointwise [dn_apply, xh_apply]

end

section
variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S512x1024 .f32) (harg3 : arg3.IsWhole) (arg4 : Memref sig .tc .vmem S1024x2560 .bf16) (harg4 : arg4.IsWhole) (arg5 : Memref sig .tc .vmem S512x256 .f32) (harg5 : arg5.IsWhole) (arg6 : Memref sig .tc .vmem S512x256 .f32) (harg6 : arg6.IsWhole) (arg7 : Memref sig .tc .vmem S512x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S3x512x256 .f32) (harg10 : arg10.IsWhole) (arg11 : Memref sig .tc .vmem S512x256 .f32) (harg11 : arg11.IsWhole) (arg12 : Memref sig .tc .vmem S2x512x128 .f32) (harg12 : arg12.IsWhole) (arg13 : Memref sig .tc .vmem S512x1024 .f32) (harg13 : arg13.IsWhole) (arg14 : Memref sig .tc .vmem S1x1024 .f32) (harg14 : arg14.IsWhole) (arg15 : Memref sig .tc .vmem S512x2560 .bf16) (harg15 : arg15.IsWhole)
  (x0 : Vec Ideal S512x1024 .f32) (x1 : Vec Ideal S1x1024 .f32) (x2 : Vec Ideal S512x1024 .f32) (x3 : Vec Ideal S1024x2560 .bf16) (x4 : Vec Ideal S512x256 .f32) (x5 : Vec Ideal S512x256 .f32) (x6 : Vec Ideal S512x512 .f32) (x7 : Vec Ideal S512x128 .f32) (x8 : Vec Ideal S512x128 .f32) (x9 : Vec Ideal S3x512x256 .f32) (x10 : Vec Ideal S512x256 .f32) (x11 : Vec Ideal S2x512x128 .f32) (xo : Vec Ideal S1x1024 .f32)

theorem out12_A (hc0 : cond0_0 i) : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11
    = k0_pay4 (k0_pay22 x1) x0 (k0_pay23 x0) k0_pay24 (View.canon (pieces x4 x5 x6 x7 x8 x9 x10 x11)) x3 x2 := by
  unfold out0_A_12 kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread]
  rw [View.read_writes_junk_eq_canon, View.canon_cons_unit_zero hz2]
  simp only [View.ld_unit_zero (S := S512x1024) hz2, View.ld_unit_zero (S := S1x1024) hz2, View.ld_unit_zero (S := S1024x2560) hz2, View.ld_unit_zero (S := S512x256) hz2, View.ld_unit_zero (S := S512x512) hz2, View.ld_unit_zero (S := S512x128) hz2, cov]
  rfl

theorem out13_A (hc0 : cond0_0 i) : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11
    = k0_pay5 x0 (k0_pay23 x0) k0_pay24 (View.canon (pieces x4 x5 x6 x7 x8 x9 x10 x11)) x3 (fun _ => 0) := by
  unfold out0_A_13 kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread]
  rw [View.read_writes_junk_eq_canon, View.canon_cons_unit_zero hz2]
  simp only [View.ld_unit_zero (S := S512x1024) hz2, View.ld_unit_zero (S := S1x1024) hz2, View.ld_unit_zero (S := S1024x2560) hz2, View.ld_unit_zero (S := S512x256) hz2, View.ld_unit_zero (S := S512x512) hz2, View.ld_unit_zero (S := S512x128) hz2, cov, cov_zero]
  rfl

theorem out14_A (hc0 : cond0_0 i) : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11
    = View.canon (pieces x4 x5 x6 x7 x8 x9 x10 x11) := by
  unfold out0_A_14 kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread]
  rw [View.read_writes_junk_eq_canon]
  simp only [View.ld_unit_zero (S := S512x1024) hz2, View.ld_unit_zero (S := S1x1024) hz2, View.ld_unit_zero (S := S1024x2560) hz2, View.ld_unit_zero (S := S512x256) hz2, View.ld_unit_zero (S := S512x512) hz2, View.ld_unit_zero (S := S512x128) hz2]
  rfl

theorem out12_B (hc0 : ¬cond0_0 i) : out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 xo
    = k0_pay4 (k0_pay22 x1) x0 (k0_pay23 x0) k0_pay24 (View.canon (pieces x4 x5 x6 x7 x8 x9 x10 x11)) x3 x2 := by
  unfold out0_B_12 kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg14.read_unread]
  rw [View.read_writes_junk_eq_canon, View.canon_cons_unit_zero hz2]
  simp only [View.ld_unit_zero (S := S512x1024) hz2, View.ld_unit_zero (S := S1x1024) hz2, View.ld_unit_zero (S := S1024x2560) hz2, View.ld_unit_zero (S := S512x256) hz2, View.ld_unit_zero (S := S512x512) hz2, View.ld_unit_zero (S := S512x128) hz2, cov]
  rfl

theorem out13_B (hc0 : ¬cond0_0 i) : out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 xo
    = k0_pay5 x0 (k0_pay23 x0) k0_pay24 (View.canon (pieces x4 x5 x6 x7 x8 x9 x10 x11)) x3 xo := by
  unfold out0_B_13 kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg14.read_unread]
  rw [View.read_writes_junk_eq_canon, View.canon_cons_unit_zero hz2]
  simp only [View.ld_unit_zero (S := S512x1024) hz2, View.ld_unit_zero (S := S1x1024) hz2, View.ld_unit_zero (S := S1024x2560) hz2, View.ld_unit_zero (S := S512x256) hz2, View.ld_unit_zero (S := S512x512) hz2, View.ld_unit_zero (S := S512x128) hz2, cov]
  rfl

theorem out14_B (hc0 : ¬cond0_0 i) : out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 xo
    = View.canon (pieces x4 x5 x6 x7 x8 x9 x10 x11) := by
  unfold out0_B_14 kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg14.read_unread]
  rw [View.read_writes_junk_eq_canon]
  simp only [View.ld_unit_zero (S := S512x1024) hz2, View.ld_unit_zero (S := S1x1024) hz2, View.ld_unit_zero (S := S1024x2560) hz2, View.ld_unit_zero (S := S512x256) hz2, View.ld_unit_zero (S := S512x512) hz2, View.ld_unit_zero (S := S512x128) hz2]
  rfl

end

end Cert.InxIdeal.Body

end
-- ==== Proof.InxSweep.lean ====
module

public import proofs.«01_k».proof.Proof.InxBody
public import proofs.«01_k».proof.Proof.Gen.InxRefIdeal.Read
public import Idealize.ShloMosaic.Lib.StableHlo.RunRead

@[expose] public section

set_option maxRecDepth 16384
set_option maxHeartbeats 4000000

noncomputable section

namespace Cert.InxIdeal.Sweep

open Cert.InxIdeal Cert.InxIdeal.Gen Idealize.ShloMosaic Idealize.ShloMosaic.TcCoe Idealize.SL.Sem Idealize.ShloMosaic.StableHlo Cert.ActMath
open Cert.InxRefIdeal.Read

variable (m : (ℓ : Loc nD τ sig) → Buf (Elt Ideal) ℓ) (c : Dev nD)

/-- The tokens, the gain, the input projections' weight, the gradients of its parts (of the recurrence's input, its gate, the queries, the keys, the values,
    the convolved three, their gate and the two row scalars), and the incoming gradient. -/
def H : FVec Ideal S4096x1024 .f32 := m (c.tc.loc main_arg0)
@[inherit_doc H] def GN : FVec Ideal S1024 .f32 := m (c.tc.loc main_arg1)
@[inherit_doc H] def W : FVec Ideal S1024x2560 .f32 := m (c.tc.loc main_arg2)
@[inherit_doc H] def DX : FVec Ideal S4096x256 .f32 := m (c.tc.loc main_arg3)
@[inherit_doc H] def DGT : FVec Ideal S4096x256 .f32 := m (c.tc.loc main_arg4)
@[inherit_doc H] def DQ : FVec Ideal S4096x512 .f32 := m (c.tc.loc main_arg5)
@[inherit_doc H] def DK : FVec Ideal S4096x128 .f32 := m (c.tc.loc main_arg6)
@[inherit_doc H] def DV : FVec Ideal S4096x128 .f32 := m (c.tc.loc main_arg7)
@[inherit_doc H] def DC : FVec Ideal S3x4096x256 .f32 := m (c.tc.loc main_arg8)
@[inherit_doc H] def DZ : FVec Ideal S4096x256 .f32 := m (c.tc.loc main_arg9)
@[inherit_doc H] def DBA : FVec Ideal S2x4096x128 .f32 := m (c.tc.loc main_arg10)
@[inherit_doc H] def DO : FVec Ideal S4096x1024 .f32 := m (c.tc.loc main_arg11)

/-! ## What the call computes, over whole arrays -/

/-- A token's row. -/
def HR (t : Fin 4096) (d : Fin 1024) : EReal := H m c (ix2 t d)
/-- The gain as a row. -/
def GR (d : Fin 1024) : EReal := GN m c (ix1 d)
/-- The projections' gradient: its parts side by side, then zeros. -/
def DU (t : Fin 4096) (d : Fin 2560) : EReal :=
  val_main_v12 (F := Ideal) (DX m c) (DGT m c) (DQ m c) (DK m c) (DV m c) (DC m c) (DZ m c) (DBA m c) (ix2 t d)
/-- The gradient of the normalised tokens. -/
def DN (t : Fin 4096) (d : Fin 1024) : EReal := ∑ k, DU m c t k * W m c (ix2 d k)
/-- The tokens' gradient. -/
def DH (t : Fin 4096) (d : Fin 1024) : EReal :=
  DO m c (ix2 t d) + rs (HR m c t) * (DN m c t d * GR m c d - HR m c t d * rs (HR m c t)
    * Ideal.div (∑ x, DN m c t x * GR m c x * (HR m c t x * rs (HR m c t))) (Ideal.ofBits .f32 0x44800000#32))
/-- The gain's gradient. -/
def DG (d : Fin 1024) : EReal := ∑ t, DN m c t d * (HR m c t d * rs (HR m c t))

/-! ## The parts of the projections' gradient -/

theorem DU_0 (t : Fin 4096) (d : Fin 256) : DU m c t ⟨0 + d.val, by omega⟩ = DX m c (ix2 t d) := by
  unfold DU val_main_v12
  refine (concatenate_apply_piece (t := S4096x2560) _ _ _ _ 0 ?_ S4096x256 (DX m c) ?_ rfl 0 ?_ (ix2 t d) (fun b hb => ?_) ?_).trans ?_
  · exact (by decide : 0 < 11)
  · rfl
  · rfl
  · fin_cases b
    · rfl
    · exact absurd rfl hb
  · rfl
  rfl

theorem DU_1 (t : Fin 4096) (d : Fin 256) : DU m c t ⟨256 + d.val, by omega⟩ = DGT m c (ix2 t d) := by
  unfold DU val_main_v12
  refine (concatenate_apply_piece (t := S4096x2560) _ _ _ _ 1 ?_ S4096x256 (DGT m c) ?_ rfl 256 ?_ (ix2 t d) (fun b hb => ?_) ?_).trans ?_
  · exact (by decide : 1 < 11)
  · rfl
  · rfl
  · fin_cases b
    · rfl
    · exact absurd rfl hb
  · rfl
  rfl

theorem DU_2 (t : Fin 4096) (d : Fin 512) : DU m c t ⟨512 + d.val, by omega⟩ = DQ m c (ix2 t d) := by
  unfold DU val_main_v12
  refine (concatenate_apply_piece (t := S4096x2560) _ _ _ _ 2 ?_ S4096x512 (DQ m c) ?_ rfl 512 ?_ (ix2 t d) (fun b hb => ?_) ?_).trans ?_
  · exact (by decide : 2 < 11)
  · rfl
  · rfl
  · fin_cases b
    · rfl
    · exact absurd rfl hb
  · rfl
  rfl

theorem DU_3 (t : Fin 4096) (d : Fin 128) : DU m c t ⟨1024 + d.val, by omega⟩ = DK m c (ix2 t d) := by
  unfold DU val_main_v12
  refine (concatenate_apply_piece (t := S4096x2560) _ _ _ _ 3 ?_ S4096x128 (DK m c) ?_ rfl 1024 ?_ (ix2 t d) (fun b hb => ?_) ?_).trans ?_
  · exact (by decide : 3 < 11)
  · rfl
  · rfl
  · fin_cases b
    · rfl
    · exact absurd rfl hb
  · rfl
  rfl

theorem DU_4 (t : Fin 4096) (d : Fin 128) : DU m c t ⟨1152 + d.val, by omega⟩ = DV m c (ix2 t d) := by
  unfold DU val_main_v12
  refine (concatenate_apply_piece (t := S4096x2560) _ _ _ _ 4 ?_ S4096x128 (DV m c) ?_ rfl 1152 ?_ (ix2 t d) (fun b hb => ?_) ?_).trans ?_
  · exact (by decide : 4 < 11)
  · rfl
  · rfl
  · fin_cases b
    · rfl
    · exact absurd rfl hb
  · rfl
  rfl

theorem DU_5 (t : Fin 4096) (d : Fin 256) : DU m c t ⟨1280 + d.val, by omega⟩ = DC m c (ix3 0 t d) := by
  unfold DU val_main_v12
  refine (concatenate_apply_piece (t := S4096x2560) _ _ _ _ 5 ?_ S4096x256 (val_main_v2 (F := Ideal) (DC m c)) ?_ rfl 1280 ?_ (ix2 t d) (fun b hb => ?_) ?_).trans ?_
  · exact (by decide : 5 < 11)
  · rfl
  · rfl
  · fin_cases b
    · rfl
    · exact absurd rfl hb
  · rfl
  unfold val_main_v2 val_main_v1
  pointwise

theorem DU_6 (t : Fin 4096) (d : Fin 256) : DU m c t ⟨1536 + d.val, by omega⟩ = DC m c (ix3 1 t d) := by
  unfold DU val_main_v12
  refine (concatenate_apply_piece (t := S4096x2560) _ _ _ _ 6 ?_ S4096x256 (val_main_v4 (F := Ideal) (DC m c)) ?_ rfl 1536 ?_ (ix2 t d) (fun b hb => ?_) ?_).trans ?_
  · exact (by decide : 6 < 11)
  · rfl
  · rfl
  · fin_cases b
    · rfl
    · exact absurd rfl hb
  · rfl
  unfold val_main_v4 val_main_v3
  pointwise

theorem DU_7 (t : Fin 4096) (d : Fin 256) : DU m c t ⟨1792 + d.val, by omega⟩ = DC m c (ix3 2 t d) := by
  unfold DU val_main_v12
  refine (concatenate_apply_piece (t := S4096x2560) _ _ _ _ 7 ?_ S4096x256 (val_main_v6 (F := Ideal) (DC m c)) ?_ rfl 1792 ?_ (ix2 t d) (fun b hb => ?_) ?_).trans ?_
  · exact (by decide : 7 < 11)
  · rfl
  · rfl
  · fin_cases b
    · rfl
    · exact absurd rfl hb
  · rfl
  unfold val_main_v6 val_main_v5
  pointwise

theorem DU_8 (t : Fin 4096) (d : Fin 256) : DU m c t ⟨2048 + d.val, by omega⟩ = DZ m c (ix2 t d) := by
  unfold DU val_main_v12
  refine (concatenate_apply_piece (t := S4096x2560) _ _ _ _ 8 ?_ S4096x256 (DZ m c) ?_ rfl 2048 ?_ (ix2 t d) (fun b hb => ?_) ?_).trans ?_
  · exact (by decide : 8 < 11)
  · rfl
  · rfl
  · fin_cases b
    · rfl
    · exact absurd rfl hb
  · rfl
  rfl

theorem DU_9 (t : Fin 4096) (d : Fin 128) : DU m c t ⟨2304 + d.val, by omega⟩ = DBA m c (ix3 0 t d) + DBA m c (ix3 1 t d) := by
  unfold DU val_main_v12
  refine (concatenate_apply_piece (t := S4096x2560) _ _ _ _ 9 ?_ S4096x128 (val_main_v11 (F := Ideal) (DBA m c)) ?_ rfl 2304 ?_ (ix2 t d) (fun b hb => ?_) ?_).trans ?_
  · exact (by decide : 9 < 11)
  · rfl
  · rfl
  · fin_cases b
    · rfl
    · exact absurd rfl hb
  · rfl
  unfold val_main_v11 val_main_v8 val_main_v7 val_main_v10 val_main_v9
  pointwise

theorem DU_10 (t : Fin 4096) (d : Fin 128) : DU m c t ⟨2432 + d.val, by omega⟩ = 0 := by
  unfold DU val_main_v12
  refine (concatenate_apply_piece (t := S4096x2560) _ _ _ _ 10 ?_ S4096x128 (val_main_v0 (F := Ideal)) ?_ rfl 2432 ?_ (ix2 t d) (fun b hb => ?_) ?_).trans ?_
  · exact (by decide : 10 < 11)
  · rfl
  · rfl
  · fin_cases b
    · rfl
    · exact absurd rfl hb
  · rfl
  unfold val_main_v0 val_main_cst
  pointwise

/-! ## The points' blocks of the arguments -/

theorem V_gain : V m c main_v0 = (shapeCast S1x1024 (GN m c) shapeCasts_S1024_S1x1024 : FVec Ideal S1x1024 .f32) := by
  unfold V
  after_reads_simp
  rfl

theorem V_w : V m c main_v1 = (truncf .bf16 (W m c) bitsLt_bf16_f32 : FVec Ideal S1024x2560 .bf16) := by
  unfold V
  after_reads_simp
  rfl

theorem idx_all : ∀ t : Fin grid0.N, (win0_0.index t = ![t.val, 0] ∧ win0_1.index t = ![0, 0] ∧ win0_2.index t = ![t.val, 0])
    ∧ (win0_3.index t = ![0, 0] ∧ win0_4.index t = ![t.val, 0] ∧ win0_5.index t = ![t.val, 0])
    ∧ (win0_6.index t = ![t.val, 0] ∧ win0_7.index t = ![t.val, 0] ∧ win0_8.index t = ![t.val, 0])
    ∧ (win0_9.index t = ![0, t.val, 0] ∧ win0_10.index t = ![t.val, 0] ∧ win0_11.index t = ![0, t.val, 0])
    ∧ (win0_12.index t = ![t.val, 0] ∧ win0_13.index t = ![0, 0] ∧ win0_14.index t = ![t.val, 0]) := by
  decide +kernel

theorem lt8 {n : ℕ} (h : n < cfg0.N) : n < 8 := lt_of_lt_of_eq h N_0

/-- Row `r` of point `n`'s row block. -/
abbrev row (n : ℕ) (h : n < 8) (r : Fin 512) : Fin 4096 := ⟨n * 512 + r.val, by omega⟩

theorem iblk_g (n : ℕ) (h : n < cfg0.N) (a : Fin 1) (d : Fin 1024) : iblk m c 1 ⟨n, h⟩ (ix2 a d) = GR m c d := by
  have e := (idx_all ⟨n, h⟩).1.2.1
  have he : (win0_1.blk ⟨n, h⟩).view.emb (ix2 a d) = (ix2 a d : S1x1024.Idx) := by
    blk_ext [e]
  unfold GR
  blk_simp [iblk]
  rw [V_gain, he]
  pointwise

theorem iblk_w (n : ℕ) (h : n < cfg0.N) (x : Fin 1024) (d : Fin 2560) : iblk m c 3 ⟨n, h⟩ (ix2 x d) = W m c (ix2 x d) := by
  have e := (idx_all ⟨n, h⟩).2.1.1
  have he : (win0_3.blk ⟨n, h⟩).view.emb (ix2 x d) = (ix2 x d : S1024x2560.Idx) := by
    blk_ext [e]
  blk_simp [iblk]
  rw [V_w, he]
  pointwise

theorem iblk_h (n : ℕ) (h : n < cfg0.N) (r : Fin 512) (d : Fin 1024) :
    iblk m c 0 ⟨n, h⟩ (ix2 r d) = HR m c (row n (lt8 h) r) d := by
  have e := (idx_all ⟨n, h⟩).1.1
  have he : (win0_0.blk ⟨n, h⟩).view.emb (ix2 r d) = (ix2 (row n (lt8 h) r) d : S4096x1024.Idx) := by
    blk_ext [e]
  blk_simp [iblk]
  rw [V_main_arg0, he]
  rfl

theorem iblk_do (n : ℕ) (h : n < cfg0.N) (r : Fin 512) (d : Fin 1024) :
    iblk m c 2 ⟨n, h⟩ (ix2 r d) = DO m c (ix2 (row n (lt8 h) r) d) := by
  have e := (idx_all ⟨n, h⟩).1.2.2
  have he : (win0_2.blk ⟨n, h⟩).view.emb (ix2 r d) = (ix2 (row n (lt8 h) r) d : S4096x1024.Idx) := by
    blk_ext [e]
  blk_simp [iblk]
  rw [V_main_arg11, he]
  rfl

theorem iblk_x (n : ℕ) (h : n < cfg0.N) (r : Fin 512) (d : Fin 256) :
    iblk m c 4 ⟨n, h⟩ (ix2 r d) = DX m c (ix2 (row n (lt8 h) r) d) := by
  have e := (idx_all ⟨n, h⟩).2.1.2.1
  have he : (win0_4.blk ⟨n, h⟩).view.emb (ix2 r d) = (ix2 (row n (lt8 h) r) d : S4096x256.Idx) := by
    blk_ext [e]
  blk_simp [iblk]
  rw [V_main_arg3, he]
  rfl

theorem iblk_gt (n : ℕ) (h : n < cfg0.N) (r : Fin 512) (d : Fin 256) :
    iblk m c 5 ⟨n, h⟩ (ix2 r d) = DGT m c (ix2 (row n (lt8 h) r) d) := by
  have e := (idx_all ⟨n, h⟩).2.1.2.2
  have he : (win0_5.blk ⟨n, h⟩).view.emb (ix2 r d) = (ix2 (row n (lt8 h) r) d : S4096x256.Idx) := by
    blk_ext [e]
  blk_simp [iblk]
  rw [V_main_arg4, he]
  rfl

theorem iblk_q (n : ℕ) (h : n < cfg0.N) (r : Fin 512) (d : Fin 512) :
    iblk m c 6 ⟨n, h⟩ (ix2 r d) = DQ m c (ix2 (row n (lt8 h) r) d) := by
  have e := (idx_all ⟨n, h⟩).2.2.1.1
  have he : (win0_6.blk ⟨n, h⟩).view.emb (ix2 r d) = (ix2 (row n (lt8 h) r) d : S4096x512.Idx) := by
    blk_ext [e]
  blk_simp [iblk]
  rw [V_main_arg5, he]
  rfl

theorem iblk_k (n : ℕ) (h : n < cfg0.N) (r : Fin 512) (d : Fin 128) :
    iblk m c 7 ⟨n, h⟩ (ix2 r d) = DK m c (ix2 (row n (lt8 h) r) d) := by
  have e := (idx_all ⟨n, h⟩).2.2.1.2.1
  have he : (win0_7.blk ⟨n, h⟩).view.emb (ix2 r d) = (ix2 (row n (lt8 h) r) d : S4096x128.Idx) := by
    blk_ext [e]
  blk_simp [iblk]
  rw [V_main_arg6, he]
  rfl

theorem iblk_v (n : ℕ) (h : n < cfg0.N) (r : Fin 512) (d : Fin 128) :
    iblk m c 8 ⟨n, h⟩ (ix2 r d) = DV m c (ix2 (row n (lt8 h) r) d) := by
  have e := (idx_all ⟨n, h⟩).2.2.1.2.2
  have he : (win0_8.blk ⟨n, h⟩).view.emb (ix2 r d) = (ix2 (row n (lt8 h) r) d : S4096x128.Idx) := by
    blk_ext [e]
  blk_simp [iblk]
  rw [V_main_arg7, he]
  rfl

theorem iblk_z (n : ℕ) (h : n < cfg0.N) (r : Fin 512) (d : Fin 256) :
    iblk m c 10 ⟨n, h⟩ (ix2 r d) = DZ m c (ix2 (row n (lt8 h) r) d) := by
  have e := (idx_all ⟨n, h⟩).2.2.2.1.2.1
  have he : (win0_10.blk ⟨n, h⟩).view.emb (ix2 r d) = (ix2 (row n (lt8 h) r) d : S4096x256.Idx) := by
    blk_ext [e]
  blk_simp [iblk]
  rw [V_main_arg9, he]
  rfl

theorem iblk_c (n : ℕ) (h : n < cfg0.N) (z : Fin 3) (r : Fin 512) (d : Fin 256) :
    iblk m c 9 ⟨n, h⟩ (ix3 z r d) = DC m c (ix3 z (row n (lt8 h) r) d) := by
  have e := (idx_all ⟨n, h⟩).2.2.2.1.1
  have he : (win0_9.blk ⟨n, h⟩).view.emb (ix3 z r d) = (ix3 z (row n (lt8 h) r) d : S3x4096x256.Idx) := by
    blk_ext [e]
  blk_simp [iblk]
  rw [V_main_arg8, he]
  rfl

theorem iblk_ba (n : ℕ) (h : n < cfg0.N) (z : Fin 2) (r : Fin 512) (d : Fin 128) :
    iblk m c 11 ⟨n, h⟩ (ix3 z r d) = DBA m c (ix3 z (row n (lt8 h) r) d) := by
  have e := (idx_all ⟨n, h⟩).2.2.2.1.2.2
  have he : (win0_11.blk ⟨n, h⟩).view.emb (ix3 z r d) = (ix3 z (row n (lt8 h) r) d : S2x4096x128.Idx) := by
    blk_ext [e]
  blk_simp [iblk]
  rw [V_main_arg10, he]
  rfl

theorem ld_c0 (x : Vec Ideal S3x512x256 .f32) (a : Fin 1) (r : Fin 512) (d : Fin 256) :
    View.ld (Val := Elt Ideal) x (Rect.unit (s := S3x512x256) ![0, 0, 0] S1x512x256.size inb_S3x512x256_S1x512x256_0_0_0) (ix3 a r d) = x (ix3 0 r d) := by
  have he : (Rect.unit (s := S3x512x256) ![0, 0, 0] S1x512x256.size inb_S3x512x256_S1x512x256_0_0_0).emb (ix3 a r d) = (ix3 0 r d : S3x512x256.Idx) := by
    blk_ext
  exact congrArg x he

theorem ld_c1 (x : Vec Ideal S3x512x256 .f32) (a : Fin 1) (r : Fin 512) (d : Fin 256) :
    View.ld (Val := Elt Ideal) x (Rect.unit (s := S3x512x256) ![1, 0, 0] S1x512x256.size inb_S3x512x256_S1x512x256_1_0_0) (ix3 a r d) = x (ix3 1 r d) := by
  have he : (Rect.unit (s := S3x512x256) ![1, 0, 0] S1x512x256.size inb_S3x512x256_S1x512x256_1_0_0).emb (ix3 a r d) = (ix3 1 r d : S3x512x256.Idx) := by
    blk_ext
  exact congrArg x he

theorem ld_c2 (x : Vec Ideal S3x512x256 .f32) (a : Fin 1) (r : Fin 512) (d : Fin 256) :
    View.ld (Val := Elt Ideal) x (Rect.unit (s := S3x512x256) ![2, 0, 0] S1x512x256.size inb_S3x512x256_S1x512x256_2_0_0) (ix3 a r d) = x (ix3 2 r d) := by
  have he : (Rect.unit (s := S3x512x256) ![2, 0, 0] S1x512x256.size inb_S3x512x256_S1x512x256_2_0_0).emb (ix3 a r d) = (ix3 2 r d : S3x512x256.Idx) := by
    blk_ext
  exact congrArg x he

theorem ld_ba0 (x : Vec Ideal S2x512x128 .f32) (a : Fin 1) (r : Fin 512) (d : Fin 128) :
    View.ld (Val := Elt Ideal) x (Rect.unit (s := S2x512x128) ![0, 0, 0] S1x512x128.size inb_S2x512x128_S1x512x128_0_0_0) (ix3 a r d) = x (ix3 0 r d) := by
  have he : (Rect.unit (s := S2x512x128) ![0, 0, 0] S1x512x128.size inb_S2x512x128_S1x512x128_0_0_0).emb (ix3 a r d) = (ix3 0 r d : S2x512x128.Idx) := by
    blk_ext
  exact congrArg x he

theorem ld_ba1 (x : Vec Ideal S2x512x128 .f32) (a : Fin 1) (r : Fin 512) (d : Fin 128) :
    View.ld (Val := Elt Ideal) x (Rect.unit (s := S2x512x128) ![1, 0, 0] S1x512x128.size inb_S2x512x128_S1x512x128_1_0_0) (ix3 a r d) = x (ix3 1 r d) := by
  have he : (Rect.unit (s := S2x512x128) ![1, 0, 0] S1x512x128.size inb_S2x512x128_S1x512x128_1_0_0).emb (ix3 a r d) = (ix3 1 r d : S2x512x128.Idx) := by
    blk_ext
  exact congrArg x he

theorem piece_0 (n : ℕ) (h : n < cfg0.N) (r : Fin 512) (d : Fin 256) :
    (k0_pay11 (iblk m c 4 ⟨n, h⟩) : FVec Ideal S512x256 .bf16) (ix2 r d) = DU m c (row n (lt8 h) r) ⟨0 + d.val, by omega⟩ := by
  rw [DU_0, ← iblk_x m c n h r d]
  unfold k0_pay11
  pointwise

theorem piece_1 (n : ℕ) (h : n < cfg0.N) (r : Fin 512) (d : Fin 256) :
    (k0_pay12 (iblk m c 5 ⟨n, h⟩) : FVec Ideal S512x256 .bf16) (ix2 r d) = DU m c (row n (lt8 h) r) ⟨256 + d.val, by omega⟩ := by
  rw [DU_1, ← iblk_gt m c n h r d]
  unfold k0_pay12
  pointwise

theorem piece_2 (n : ℕ) (h : n < cfg0.N) (r : Fin 512) (d : Fin 512) :
    (k0_pay13 (iblk m c 6 ⟨n, h⟩) : FVec Ideal S512x512 .bf16) (ix2 r d) = DU m c (row n (lt8 h) r) ⟨512 + d.val, by omega⟩ := by
  rw [DU_2, ← iblk_q m c n h r d]
  unfold k0_pay13
  pointwise

theorem piece_3 (n : ℕ) (h : n < cfg0.N) (r : Fin 512) (d : Fin 128) :
    (k0_pay14 (iblk m c 7 ⟨n, h⟩) : FVec Ideal S512x128 .bf16) (ix2 r d) = DU m c (row n (lt8 h) r) ⟨1024 + d.val, by omega⟩ := by
  rw [DU_3, ← iblk_k m c n h r d]
  unfold k0_pay14
  pointwise

theorem piece_4 (n : ℕ) (h : n < cfg0.N) (r : Fin 512) (d : Fin 128) :
    (k0_pay15 (iblk m c 8 ⟨n, h⟩) : FVec Ideal S512x128 .bf16) (ix2 r d) = DU m c (row n (lt8 h) r) ⟨1152 + d.val, by omega⟩ := by
  rw [DU_4, ← iblk_v m c n h r d]
  unfold k0_pay15
  pointwise

theorem piece_5 (n : ℕ) (h : n < cfg0.N) (r : Fin 512) (d : Fin 256) :
    (k0_pay16 (k0_pay7 (View.ld (Val := Elt Ideal) (S := S3x512x256) (e' := .f32) (iblk m c 9 ⟨n, h⟩) (Rect.unit (s := S3x512x256) ![0, 0, 0] S1x512x256.size inb_S3x512x256_S1x512x256_0_0_0))) : FVec Ideal S512x256 .bf16) (ix2 r d) = DU m c (row n (lt8 h) r) ⟨1280 + d.val, by omega⟩ := by
  rw [DU_5, ← iblk_c m c n h 0 r d]
  unfold k0_pay16 k0_pay7
  pointwise [ld_c0]

theorem piece_6 (n : ℕ) (h : n < cfg0.N) (r : Fin 512) (d : Fin 256) :
    (k0_pay17 (k0_pay8 (View.ld (Val := Elt Ideal) (S := S3x512x256) (e' := .f32) (iblk m c 9 ⟨n, h⟩) (Rect.unit (s := S3x512x256) ![1, 0, 0] S1x512x256.size inb_S3x512x256_S1x512x256_1_0_0))) : FVec Ideal S512x256 .bf16) (ix2 r d) = DU m c (row n (lt8 h) r) ⟨1536 + d.val, by omega⟩ := by
  rw [DU_6, ← iblk_c m c n h 1 r d]
  unfold k0_pay17 k0_pay8
  pointwise [ld_c1]

theorem piece_7 (n : ℕ) (h : n < cfg0.N) (r : Fin 512) (d : Fin 256) :
    (k0_pay18 (k0_pay9 (View.ld (Val := Elt Ideal) (S := S3x512x256) (e' := .f32) (iblk m c 9 ⟨n, h⟩) (Rect.unit (s := S3x512x256) ![2, 0, 0] S1x512x256.size inb_S3x512x256_S1x512x256_2_0_0))) : FVec Ideal S512x256 .bf16) (ix2 r d) = DU m c (row n (lt8 h) r) ⟨1792 + d.val, by omega⟩ := by
  rw [DU_7, ← iblk_c m c n h 2 r d]
  unfold k0_pay18 k0_pay9
  pointwise [ld_c2]

theorem piece_8 (n : ℕ) (h : n < cfg0.N) (r : Fin 512) (d : Fin 256) :
    (k0_pay19 (iblk m c 10 ⟨n, h⟩) : FVec Ideal S512x256 .bf16) (ix2 r d) = DU m c (row n (lt8 h) r) ⟨2048 + d.val, by omega⟩ := by
  rw [DU_8, ← iblk_z m c n h r d]
  unfold k0_pay19
  pointwise

theorem piece_9 (n : ℕ) (h : n < cfg0.N) (r : Fin 512) (d : Fin 128) :
    (k0_pay20 (k0_pay10 (View.ld (Val := Elt Ideal) (S := S2x512x128) (e' := .f32) (iblk m c 11 ⟨n, h⟩) (Rect.unit (s := S2x512x128) ![0, 0, 0] S1x512x128.size inb_S2x512x128_S1x512x128_0_0_0)) (View.ld (Val := Elt Ideal) (S := S2x512x128) (e' := .f32) (iblk m c 11 ⟨n, h⟩) (Rect.unit (s := S2x512x128) ![1, 0, 0] S1x512x128.size inb_S2x512x128_S1x512x128_1_0_0))) : FVec Ideal S512x128 .bf16) (ix2 r d) = DU m c (row n (lt8 h) r) ⟨2304 + d.val, by omega⟩ := by
  rw [DU_9, ← iblk_ba m c n h 0 r d, ← iblk_ba m c n h 1 r d]
  unfold k0_pay20 k0_pay10
  pointwise [ld_ba0, ld_ba1]

theorem piece_10 (n : ℕ) (h : n < cfg0.N) (r : Fin 512) (d : Fin 128) :
    (k0_pay21 (F := Ideal) : FVec Ideal S512x128 .bf16) (ix2 r d) = DU m c (row n (lt8 h) r) ⟨2432 + d.val, by omega⟩ := by
  rw [DU_10]
  unfold_payloads
  pointwise

/-- A point's rows of the projections' gradient. -/
def UB (n : ℕ) (h : n < 8) : Vec Ideal S512x2560 .bf16 := fun y => DU m c (row n h (y 0)) (y 1)

/-- The pieces a point stores read back as the projections' gradient. -/
theorem canon_eq (n : ℕ) (h : n < cfg0.N) (r : Fin 512) (d : Fin 2560) :
    View.canon (Body.pieces (iblk m c 4 ⟨n, h⟩) (iblk m c 5 ⟨n, h⟩) (iblk m c 6 ⟨n, h⟩) (iblk m c 7 ⟨n, h⟩) (iblk m c 8 ⟨n, h⟩) (iblk m c 9 ⟨n, h⟩) (iblk m c 10 ⟨n, h⟩) (iblk m c 11 ⟨n, h⟩)) (ix2 r d) = DU m c (row n (lt8 h) r) d := by
  refine View.canon_apply_of_pieces (Val := Elt Ideal) (UB m c n (lt8 h)) _ (fun p hp x => ?_) (ix2 r d)
    (View.cover_of_tiledBy _ ![512, 128] (by sl_kernel_rfl) _)
  simp only [Body.pieces, List.mem_cons, List.mem_nil_iff, or_false] at hp
  rcases hp with rfl | rfl | rfl | rfl | rfl | rfl | rfl | rfl | rfl | rfl | rfl
  · change S512x128.Idx at x
    idx_vars x
    have he : (Rect.unit (s := S512x2560) ![0, 2432] S512x128.size inb_S512x2560_S512x128_0_2432).emb (ix2 x0 x1) = (ix2 x0 ⟨2432 + x1.val, by omega⟩ : S512x2560.Idx) := by
      blk_ext
    rw [he]
    exact piece_10 m c n h x0 x1
  · change S512x128.Idx at x
    idx_vars x
    have he : (Rect.unit (s := S512x2560) ![0, 2304] S512x128.size inb_S512x2560_S512x128_0_2304).emb (ix2 x0 x1) = (ix2 x0 ⟨2304 + x1.val, by omega⟩ : S512x2560.Idx) := by
      blk_ext
    rw [he]
    exact piece_9 m c n h x0 x1
  · change S512x256.Idx at x
    idx_vars x
    have he : (Rect.unit (s := S512x2560) ![0, 2048] S512x256.size inb_S512x2560_S512x256_0_2048).emb (ix2 x0 x1) = (ix2 x0 ⟨2048 + x1.val, by omega⟩ : S512x2560.Idx) := by
      blk_ext
    rw [he]
    exact piece_8 m c n h x0 x1
  · change S512x256.Idx at x
    idx_vars x
    have he : (Rect.unit (s := S512x2560) ![0, 1792] S512x256.size inb_S512x2560_S512x256_0_1792).emb (ix2 x0 x1) = (ix2 x0 ⟨1792 + x1.val, by omega⟩ : S512x2560.Idx) := by
      blk_ext
    rw [he]
    exact piece_7 m c n h x0 x1
  · change S512x256.Idx at x
    idx_vars x
    have he : (Rect.unit (s := S512x2560) ![0, 1536] S512x256.size inb_S512x2560_S512x256_0_1536).emb (ix2 x0 x1) = (ix2 x0 ⟨1536 + x1.val, by omega⟩ : S512x2560.Idx) := by
      blk_ext
    rw [he]
    exact piece_6 m c n h x0 x1
  · change S512x256.Idx at x
    idx_vars x
    have he : (Rect.unit (s := S512x2560) ![0, 1280] S512x256.size inb_S512x2560_S512x256_0_1280).emb (ix2 x0 x1) = (ix2 x0 ⟨1280 + x1.val, by omega⟩ : S512x2560.Idx) := by
      blk_ext
    rw [he]
    exact piece_5 m c n h x0 x1
  · change S512x128.Idx at x
    idx_vars x
    have he : (Rect.unit (s := S512x2560) ![0, 1152] S512x128.size inb_S512x2560_S512x128_0_1152).emb (ix2 x0 x1) = (ix2 x0 ⟨1152 + x1.val, by omega⟩ : S512x2560.Idx) := by
      blk_ext
    rw [he]
    exact piece_4 m c n h x0 x1
  · change S512x128.Idx at x
    idx_vars x
    have he : (Rect.unit (s := S512x2560) ![0, 1024] S512x128.size inb_S512x2560_S512x128_0_1024).emb (ix2 x0 x1) = (ix2 x0 ⟨1024 + x1.val, by omega⟩ : S512x2560.Idx) := by
      blk_ext
    rw [he]
    exact piece_3 m c n h x0 x1
  · change S512x512.Idx at x
    idx_vars x
    have he : (Rect.unit (s := S512x2560) ![0, 512] S512x512.size inb_S512x2560_S512x512_0_512).emb (ix2 x0 x1) = (ix2 x0 ⟨512 + x1.val, by omega⟩ : S512x2560.Idx) := by
      blk_ext
    rw [he]
    exact piece_2 m c n h x0 x1
  · change S512x256.Idx at x
    idx_vars x
    have he : (Rect.unit (s := S512x2560) ![0, 256] S512x256.size inb_S512x2560_S512x256_0_256).emb (ix2 x0 x1) = (ix2 x0 ⟨256 + x1.val, by omega⟩ : S512x2560.Idx) := by
      blk_ext
    rw [he]
    exact piece_1 m c n h x0 x1
  · change S512x256.Idx at x
    idx_vars x
    have he : (Rect.unit (s := S512x2560) ![0, 0] S512x256.size inb_S512x2560_S512x256_0_0).emb (ix2 x0 x1) = (ix2 x0 ⟨0 + x1.val, by omega⟩ : S512x2560.Idx) := by
      blk_ext
    rw [he]
    exact piece_0 m c n h x0 x1

/-! ## One point -/

section
variable (n : ℕ) (h : n < cfg0.N) (r : Fin 512) (d : Fin 1024)

theorem b_ri : Body.ri (iblk m c 0 ⟨n, h⟩) r = rs (HR m c (row n (lt8 h) r)) := by
  unfold Body.ri
  exact congrArg rs (funext fun x => iblk_h m c n h r x)

theorem b_dn : Body.dn (iblk m c 3 ⟨n, h⟩) (View.canon (Body.pieces (iblk m c 4 ⟨n, h⟩) (iblk m c 5 ⟨n, h⟩) (iblk m c 6 ⟨n, h⟩) (iblk m c 7 ⟨n, h⟩) (iblk m c 8 ⟨n, h⟩) (iblk m c 9 ⟨n, h⟩) (iblk m c 10 ⟨n, h⟩) (iblk m c 11 ⟨n, h⟩))) r d
    = DN m c (row n (lt8 h) r) d := by
  unfold Body.dn DN
  exact Finset.sum_congr rfl fun x _ => by rw [canon_eq, iblk_w]

/-- The state a point leaves: the three results. -/
theorem st_dh : (outsAt0 m c n h).1 (ix2 r d) = DH m c (row n (lt8 h) r) d := by
  have e : (outsAt0 m c n h).1 = k0_pay4 (k0_pay22 (iblk m c 1 ⟨n, h⟩)) (iblk m c 0 ⟨n, h⟩) (k0_pay23 (iblk m c 0 ⟨n, h⟩)) k0_pay24
      (View.canon (Body.pieces (iblk m c 4 ⟨n, h⟩) (iblk m c 5 ⟨n, h⟩) (iblk m c 6 ⟨n, h⟩) (iblk m c 7 ⟨n, h⟩) (iblk m c 8 ⟨n, h⟩) (iblk m c 9 ⟨n, h⟩) (iblk m c 10 ⟨n, h⟩) (iblk m c 11 ⟨n, h⟩))) (iblk m c 3 ⟨n, h⟩) (iblk m c 2 ⟨n, h⟩) := by
    by_cases h0 : n % 8 = 0
    · rw [outsAt0_A m c ⟨n, h⟩ h0]
      dsimp only
      exact Body.out12_A ..
    · rw [outsAt0_B m c ⟨n, h⟩ h0]
      dsimp only
      exact Body.out12_B ..
  rw [e]
  refine (Body.dh_apply _ _ _ _ _ r d).trans ?_
  unfold DH
  simp only [b_ri, b_dn, iblk_h, iblk_g, iblk_do]

@[inherit_doc st_dh] theorem st_du (d : Fin 2560) : (outsAt0 m c n h).2.2 (ix2 r d) = DU m c (row n (lt8 h) r) d := by
  have e : (outsAt0 m c n h).2.2 = View.canon (Body.pieces (iblk m c 4 ⟨n, h⟩) (iblk m c 5 ⟨n, h⟩) (iblk m c 6 ⟨n, h⟩) (iblk m c 7 ⟨n, h⟩) (iblk m c 8 ⟨n, h⟩) (iblk m c 9 ⟨n, h⟩) (iblk m c 10 ⟨n, h⟩) (iblk m c 11 ⟨n, h⟩)) := by
    by_cases h0 : n % 8 = 0
    · rw [outsAt0_A m c ⟨n, h⟩ h0]
      dsimp only
      exact Body.out14_A ..
    · rw [outsAt0_B m c ⟨n, h⟩ h0]
      dsimp only
      exact Body.out14_B ..
  rw [e]
  exact canon_eq m c n h r d

/-- What point `k` adds to the gain's gradient. -/
def share (d : Fin 1024) (k : Fin 8) : EReal := ∑ r, DN m c (row k.val k.isLt r) d * (HR m c (row k.val k.isLt r) d * rs (HR m c (row k.val k.isLt r)))

theorem dg_pay (xo : Vec Ideal S1x1024 .f32) (a : Fin 1) :
    k0_pay5 (iblk m c 0 ⟨n, h⟩) (k0_pay23 (iblk m c 0 ⟨n, h⟩)) k0_pay24 (View.canon (Body.pieces (iblk m c 4 ⟨n, h⟩) (iblk m c 5 ⟨n, h⟩) (iblk m c 6 ⟨n, h⟩) (iblk m c 7 ⟨n, h⟩) (iblk m c 8 ⟨n, h⟩) (iblk m c 9 ⟨n, h⟩) (iblk m c 10 ⟨n, h⟩) (iblk m c 11 ⟨n, h⟩))) (iblk m c 3 ⟨n, h⟩) xo (ix2 a d)
      = xo (ix2 a d) + share m c d ⟨n, lt8 h⟩ := by
  refine (Body.dg_apply _ _ _ d xo a).trans ?_
  unfold share
  simp only [b_ri, b_dn, iblk_h]

end

theorem dg_first (h : 0 < cfg0.N) (a : Fin 1) (d : Fin 1024) : (outsAt0 m c 0 h).2.1 (ix2 a d) = 0 + share m c d ⟨0, lt8 h⟩ := by
  refine Eq.trans ?_ (dg_pay m c 0 h d (fun _ => 0) a)
  rw [outsAt0_A m c ⟨0, h⟩ rfl]
  dsimp only
  exact congrFun (Body.out13_A ..) (ix2 a d)

theorem dg_next (n : ℕ) (h : n + 1 < cfg0.N) (a : Fin 1) (d : Fin 1024) :
    (outsAt0 m c (n + 1) h).2.1 (ix2 a d) = (outsAt0 m c n (Nat.lt_of_succ_lt h)).2.1 (ix2 a d) + share m c d ⟨n + 1, lt8 h⟩ := by
  refine Eq.trans ?_ (dg_pay m c (n + 1) h d _ a)
  rw [outsAt0_B m c ⟨n + 1, h⟩ (by have := lt8 h; show ¬(n + 1) % 8 = 0; omega)]
  dsimp only
  exact congrFun (Body.out13_B ..) (ix2 a d)

/-- After point `n` the gain's gradient holds the first `n + 1` points' shares. -/
theorem dg_run (a : Fin 1) (d : Fin 1024) : ∀ (n : ℕ) (h : n < cfg0.N),
    (outsAt0 m c n h).2.1 (ix2 a d) = ∑ k : Fin (n + 1), share m c d ⟨k.val, by have := lt8 h; omega⟩
  | 0, h => by
    rw [dg_first, zero_add, Fin.sum_univ_one]
    rfl
  | n + 1, h => by
    rw [dg_next, dg_run a d n (Nat.lt_of_succ_lt h), Fin.sum_univ_castSucc (n := n + 1)]
    rfl

/-- A sum over the 4096 rows, in eight blocks of 512. -/
theorem sum_rows (f : Fin 4096 → EReal) : ∑ x, f x = ∑ k : Fin 8, ∑ j : Fin 512, f (row k.val k.isLt j) := by
  rw [← (finProdFinEquiv (m := 8) (n := 512)).sum_comp f, Fintype.sum_prod_type]
  exact Finset.sum_congr rfl fun k _ => Finset.sum_congr rfl fun j _ =>
    congrArg f (Fin.ext (by show j.val + 512 * k.val = k.val * 512 + j.val; omega))

theorem st_dg (n : ℕ) (h : n < cfg0.N) (h7 : n = 7) (a : Fin 1) (d : Fin 1024) : (outsAt0 m c n h).2.1 (ix2 a d) = DG m c d := by
  subst h7
  rw [dg_run]
  unfold DG
  rw [sum_rows]
  rfl

/-! ## The result arrays -/

theorem dh_arr : (dats m 0 c).arrAt 12 cfg0.N = fun i : S4096x1024.Idx => DH m c (i 0) (i 1) := by
  refine (dats m 0 c).arrAt_eq_of_covers 12 _ (by decide +kernel) fun t hf y => ?_
  have e := (idx_all t).2.2.2.2.1
  obtain ⟨n, hn⟩ := t
  idx_vars y
  have he : (win0_12.blk ⟨n, hn⟩).view.emb (ix2 y0 y1) = (ix2 (row n (lt8 hn) y0) y1 : S4096x1024.Idx) := by
    blk_ext [e]
  blk_simp
  rw [after0_12, he]
  exact st_dh m c n hn y0 y1

theorem du_arr : (dats m 0 c).arrAt 14 cfg0.N = fun i : S4096x2560.Idx => DU m c (i 0) (i 1) := by
  refine (dats m 0 c).arrAt_eq_of_covers 14 _ (by decide +kernel) fun t hf y => ?_
  have e := (idx_all t).2.2.2.2.2.2
  obtain ⟨n, hn⟩ := t
  idx_vars y
  have he : (win0_14.blk ⟨n, hn⟩).view.emb (ix2 y0 y1) = (ix2 (row n (lt8 hn) y0) y1 : S4096x2560.Idx) := by
    blk_ext [e]
  blk_simp
  rw [after0_14, he]
  exact st_du m c n hn y0 y1

theorem dg_arr : (dats m 0 c).arrAt 13 cfg0.N = fun i : S1x1024.Idx => DG m c (i 1) := by
  refine (dats m 0 c).arrAt_eq_of_covers 13 _ (by decide +kernel) fun t hf y => ?_
  have h7 : t.val % 8 = 7 := (flush0_13 t).mp hf
  have e := (idx_all t).2.2.2.2.2.1
  obtain ⟨n, hn⟩ := t
  have hn7 : n = 7 := by have := lt8 hn; dsimp only at h7; omega
  idx_vars y
  have he : (win0_13.blk ⟨n, hn⟩).view.emb (ix2 y0 y1) = (ix2 y0 y1 : S1x1024.Idx) := by
    blk_ext [e]
  blk_simp
  rw [after0_13, he]
  exact st_dg m c n hn hn7 y0 y1

end Cert.InxIdeal.Sweep

end
-- ==== Proof.InxValue.lean ====
module

public import proofs.«01_k».proof.Defs
public import proofs.«01_k».proof.Proof.Gen.Pre_finite_mixer
public import proofs.«01_k».proof.Proof.InxSweep
public import proofs.«01_k».proof.Proof.ActPre
public import Idealize.ShloMosaic.Lib.ReduceAll
public import Idealize.ShloMosaic.Lib.Quiescent

@[expose] public section

set_option maxRecDepth 16384
set_option maxHeartbeats 4000000

noncomputable section

namespace Cert.InxIdeal.Ref

open Cert.InxIdeal Cert.InxIdeal.Sweep Cert.ActMath Idealize.ShloMosaic Idealize.ShloMosaic.TcCoe Idealize.SL.Sem Idealize.ShloMosaic.StableHlo
open Cert.InxRefIdeal.Read
open Cert.ActIdeal.Pre (real_of_cmp and_one)

variable (m : (ℓ : Loc nD τ sig) → Buf (Elt Ideal) ℓ) (c : Dev nD)

/-! ## The precondition -/

instance : Subsingleton Cert.Pre_finite_mixer.S_.Idx := ⟨fun a b => funext fun i => i.elim0⟩

/-- Twelve arrays of which the precondition holds are arrays of reals. -/
theorem real_of_fn (x0 : FVec Ideal Cert.Pre_finite_mixer.S4096x1024 .f32) (x1 : FVec Ideal Cert.Pre_finite_mixer.S1024 .f32) (x2 : FVec Ideal Cert.Pre_finite_mixer.S1024x2560 .f32) (x3 : FVec Ideal Cert.Pre_finite_mixer.S4096x256 .f32) (x4 : FVec Ideal Cert.Pre_finite_mixer.S4096x256 .f32) (x5 : FVec Ideal Cert.Pre_finite_mixer.S4096x512 .f32) (x6 : FVec Ideal Cert.Pre_finite_mixer.S4096x128 .f32) (x7 : FVec Ideal Cert.Pre_finite_mixer.S4096x128 .f32) (x8 : FVec Ideal Cert.Pre_finite_mixer.S3x4096x256 .f32) (x9 : FVec Ideal Cert.Pre_finite_mixer.S4096x256 .f32) (x10 : FVec Ideal Cert.Pre_finite_mixer.S2x4096x128 .f32) (x11 : FVec Ideal Cert.Pre_finite_mixer.S4096x1024 .f32)
    (h : ∀ j, Cert.Pre_finite_mixer.fn (F := Ideal) x0 x1 x2 x3 x4 x5 x6 x7 x8 x9 x10 x11 j = 1#1) :
    (∀ i, IsReal (x0 i)) ∧ (∀ i, IsReal (x1 i)) ∧ (∀ i, IsReal (x2 i)) ∧ (∀ i, IsReal (x3 i)) ∧ (∀ i, IsReal (x4 i)) ∧ (∀ i, IsReal (x5 i)) ∧ (∀ i, IsReal (x6 i)) ∧ (∀ i, IsReal (x7 i)) ∧ (∀ i, IsReal (x8 i)) ∧ (∀ i, IsReal (x9 i)) ∧ (∀ i, IsReal (x10 i)) ∧ (∀ i, IsReal (x11 i)) := by
  have h := h (fun a => a.elim0)
  dsimp only [Cert.Pre_finite_mixer.fn, Cert.Pre_finite_mixer.fn_part1, Cert.Pre_finite_mixer.fn_part2, Cert.Pre_finite_mixer.fn_part3] at h
  obtain ⟨h, h11⟩ := and_one h
  obtain ⟨h, hp⟩ := and_one h
  obtain ⟨hp, h10⟩ := and_one hp
  obtain ⟨hp, h9⟩ := and_one hp
  obtain ⟨hp, h8⟩ := and_one hp
  obtain ⟨hp, h7⟩ := and_one hp
  obtain ⟨hp, h6⟩ := and_one hp
  obtain ⟨hp, h5⟩ := and_one hp
  obtain ⟨h3, h4⟩ := and_one hp
  obtain ⟨h, h2⟩ := and_one h
  obtain ⟨h0, h1⟩ := and_one h
  exact ⟨fun i => real_of_cmp _ (Host.reduce_andi_all _ _ _ _ _ h0 i), fun i => real_of_cmp _ (Host.reduce_andi_all _ _ _ _ _ h1 i), fun i => real_of_cmp _ (Host.reduce_andi_all _ _ _ _ _ h2 i), fun i => real_of_cmp _ (Host.reduce_andi_all _ _ _ _ _ h3 i), fun i => real_of_cmp _ (Host.reduce_andi_all _ _ _ _ _ h4 i), fun i => real_of_cmp _ (Host.reduce_andi_all _ _ _ _ _ h5 i), fun i => real_of_cmp _ (Host.reduce_andi_all _ _ _ _ _ h6 i), fun i => real_of_cmp _ (Host.reduce_andi_all _ _ _ _ _ h7 i), fun i => real_of_cmp _ (Host.reduce_andi_all _ _ _ _ _ h8 i), fun i => real_of_cmp _ (Host.reduce_andi_all _ _ _ _ _ h9 i), fun i => real_of_cmp _ (Host.reduce_andi_all _ _ _ _ _ h10 i), fun i => real_of_cmp _ (Host.reduce_andi_all _ _ _ _ _ h11 i)⟩

/-- The twelve argument arrays hold reals. -/
structure Real (m : (ℓ : Loc nD τ sig) → Buf (Elt Ideal) ℓ) (c : Dev nD) : Prop where
  a0 : ∀ i, IsReal (H m c i)
  a1 : ∀ i, IsReal (GN m c i)
  a2 : ∀ i, IsReal (W m c i)
  a3 : ∀ i, IsReal (DX m c i)
  a4 : ∀ i, IsReal (DGT m c i)
  a5 : ∀ i, IsReal (DQ m c i)
  a6 : ∀ i, IsReal (DK m c i)
  a7 : ∀ i, IsReal (DV m c i)
  a8 : ∀ i, IsReal (DC m c i)
  a9 : ∀ i, IsReal (DZ m c i)
  a10 : ∀ i, IsReal (DBA m c i)
  a11 : ∀ i, IsReal (DO m c i)

theorem real_of_pre (m : (ℓ : Loc nD τ sig) → Buf (Elt Ideal) ℓ) (hp : Cert.Pre_InxIdeal_finite_mixer m) (c : Dev nD) : Real m c := by
  obtain ⟨h0, h1, h2, h3, h4, h5, h6, h7, h8, h9, h10, h11⟩ := real_of_fn _ _ _ _ _ _ _ _ _ _ _ _ (fun j => congrFun (hp c) j)
  exact ⟨h0, h1, h2, h3, h4, h5, h6, h7, h8, h9, h10, h11⟩

/-! ## The reference's arrays at an index -/

theorem r_rs (t : Fin 4096) (a : Fin 1) : val_main_v20 (F := Ideal) (H m c) (ix2 t a) = rs (HR m c t) := by
  unfold val_main_v20 val_main_v19 val_main_v18 val_main_v17 val_main_v16 val_main_v15 val_main_v14 val_main_v13 val_main_cst_0 val_main_cst_1 val_main_cst_2 rs ms HR
  pointwise

theorem r_ms (t : Fin 4096) (a : Fin 1) : val_main_v19 (F := Ideal) (H m c) (ix2 t a) = ms (HR m c t) := by
  unfold val_main_v19 val_main_v18 val_main_v17 val_main_v16 val_main_v15 val_main_v14 val_main_v13 val_main_cst_0 val_main_cst_1 val_main_cst_2 ms HR
  pointwise

theorem r_h (t : Fin 4096) (d : Fin 1024) : val_main_v25 (F := Ideal) (H m c) (ix2 t d) = HR m c t d * rs (HR m c t) := by
  unfold val_main_v25 val_main_v24
  pointwise [r_rs]
  rfl

theorem r_du (t : Fin 4096) (d : Fin 2560) : val_main_v12 (F := Ideal) (DX m c) (DGT m c) (DQ m c) (DK m c) (DV m c) (DC m c) (DZ m c) (DBA m c) (ix2 t d) = DU m c t d := rfl

theorem r_dn (t : Fin 4096) (d : Fin 1024) :
    val_main_v30 (F := Ideal) (W m c) (DX m c) (DGT m c) (DQ m c) (DK m c) (DV m c) (DC m c) (DZ m c) (DBA m c) (ix2 t d) = DN m c t d := by
  unfold val_main_v30 DN
  pointwise [r_du]

theorem r_y (t : Fin 4096) (d : Fin 1024) :
    val_main_v35 (F := Ideal) (GN m c) (W m c) (DX m c) (DGT m c) (DQ m c) (DK m c) (DV m c) (DC m c) (DZ m c) (DBA m c) (ix2 t d) = DN m c t d * GR m c d := by
  unfold val_main_v35 val_main_v34 val_main_v26
  pointwise [r_dn]
  rfl

theorem r_q (t : Fin 4096) (d : Fin 1024) :
    val_main_v47 (F := Ideal) (H m c) (GN m c) (W m c) (DX m c) (DGT m c) (DQ m c) (DK m c) (DV m c) (DC m c) (DZ m c) (DBA m c) (ix2 t d)
      = Ideal.div ((∑ x, HR m c t x * (DN m c t x * GR m c x)) * (Ideal.ofBits .f32 0xBF000000#32 * Ideal.div (rs (HR m c t)) (ms (HR m c t)))) (Ideal.ofBits .f32 0x44800000#32) := by
  unfold val_main_v47 val_main_v46 val_main_cst_8 val_main_v45 val_main_v44 val_main_cst_7 val_main_v43 val_main_v39 val_main_v38 val_main_cst_6 val_main_v37
    val_main_v23 val_main_v22 val_main_cst_3 val_main_v21
  pointwise [r_y, r_rs, r_ms]
  exact (Fin.sum_univ_one _).trans rfl

theorem r_dg (a : Fin 1) (d : Fin 1024) :
    val_main_v52 (F := Ideal) (H m c) (W m c) (DX m c) (DGT m c) (DQ m c) (DK m c) (DV m c) (DC m c) (DZ m c) (DBA m c) (ix2 a d) = DG m c d := by
  unfold val_main_v52 val_main_v36 val_main_cst_5 val_main_v33 val_main_v32 val_main_cst_4 val_main_v31 DG
  pointwise [r_h, r_dn]
  exact (Fin.sum_univ_one _).trans (Finset.sum_congr rfl fun t _ => mul_comm (G := EReal) _ _)

section
variable {m c} (R : Real m c)
include R

theorem real_du (t : Fin 4096) (d : Fin 2560) : IsReal (DU m c t d) := by
  by_cases h0 : d.val < 256
  · have e : d = ⟨0 + (⟨d.val - 0, by omega⟩ : Fin 256).val, by dsimp only; omega⟩ := Fin.ext (by dsimp only; omega)
    rw [e, DU_0]
    exact R.a3 _
  by_cases h1 : d.val < 512
  · have e : d = ⟨256 + (⟨d.val - 256, by omega⟩ : Fin 256).val, by dsimp only; omega⟩ := Fin.ext (by dsimp only; omega)
    rw [e, DU_1]
    exact R.a4 _
  by_cases h2 : d.val < 1024
  · have e : d = ⟨512 + (⟨d.val - 512, by omega⟩ : Fin 512).val, by dsimp only; omega⟩ := Fin.ext (by dsimp only; omega)
    rw [e, DU_2]
    exact R.a5 _
  by_cases h3 : d.val < 1152
  · have e : d = ⟨1024 + (⟨d.val - 1024, by omega⟩ : Fin 128).val, by dsimp only; omega⟩ := Fin.ext (by dsimp only; omega)
    rw [e, DU_3]
    exact R.a6 _
  by_cases h4 : d.val < 1280
  · have e : d = ⟨1152 + (⟨d.val - 1152, by omega⟩ : Fin 128).val, by dsimp only; omega⟩ := Fin.ext (by dsimp only; omega)
    rw [e, DU_4]
    exact R.a7 _
  by_cases h5 : d.val < 1536
  · have e : d = ⟨1280 + (⟨d.val - 1280, by omega⟩ : Fin 256).val, by dsimp only; omega⟩ := Fin.ext (by dsimp only; omega)
    rw [e, DU_5]
    exact R.a8 _
  by_cases h6 : d.val < 1792
  · have e : d = ⟨1536 + (⟨d.val - 1536, by omega⟩ : Fin 256).val, by dsimp only; omega⟩ := Fin.ext (by dsimp only; omega)
    rw [e, DU_6]
    exact R.a8 _
  by_cases h7 : d.val < 2048
  · have e : d = ⟨1792 + (⟨d.val - 1792, by omega⟩ : Fin 256).val, by dsimp only; omega⟩ := Fin.ext (by dsimp only; omega)
    rw [e, DU_7]
    exact R.a8 _
  by_cases h8 : d.val < 2304
  · have e : d = ⟨2048 + (⟨d.val - 2048, by omega⟩ : Fin 256).val, by dsimp only; omega⟩ := Fin.ext (by dsimp only; omega)
    rw [e, DU_8]
    exact R.a9 _
  by_cases h9 : d.val < 2432
  · have e : d = ⟨2304 + (⟨d.val - 2304, by omega⟩ : Fin 128).val, by dsimp only; omega⟩ := Fin.ext (by dsimp only; omega)
    rw [e, DU_9]
    exact (R.a10 _).add (R.a10 _)
  have e : d = ⟨2432 + (⟨d.val - 2432, by omega⟩ : Fin 128).val, by dsimp only; omega⟩ := Fin.ext (by dsimp only; omega)
  rw [e, DU_10]
  exact IsReal.coe 0

theorem real_dn (t : Fin 4096) (d : Fin 1024) : IsReal (DN m c t d) := IsReal.sum _ fun k => (real_du R t k).mul (R.a2 _)

theorem r_dh (t : Fin 4096) (d : Fin 1024) :
    val_main_v51 (F := Ideal) (H m c) (GN m c) (W m c) (DX m c) (DGT m c) (DQ m c) (DK m c) (DV m c) (DC m c) (DZ m c) (DBA m c) (DO m c) (ix2 t d) = DH m c t d := by
  unfold val_main_v51 val_main_v50 val_main_v49 val_main_v48 val_main_v42 val_main_v41 val_main_v40 DH
  pointwise [r_q, r_y, r_rs]
  exact (rms_deriv (HR m c t) (fun x => DN m c t x * GR m c x) (DO m c (ix2 t d)) (fun x => R.a0 _)
    (fun x => (real_dn R t x).mul (R.a1 _)) (R.a11 _) d).symm

theorem dh_eq : (Gen.dats m 0 c).arrAt 12 cfg0.N = val_main_v51 (F := Ideal) (H m c) (GN m c) (W m c) (DX m c) (DGT m c) (DQ m c) (DK m c) (DV m c) (DC m c) (DZ m c) (DBA m c) (DO m c) := by
  rw [dh_arr]
  funext i
  idx_vars i
  exact (r_dh R i0 i1).symm

end

/-! ## The call's other results are the reference's -/

theorem dg_eq : (Gen.dats m 0 c).arrAt 13 cfg0.N = val_main_v52 (F := Ideal) (H m c) (W m c) (DX m c) (DGT m c) (DQ m c) (DK m c) (DV m c) (DC m c) (DZ m c) (DBA m c) := by
  rw [dg_arr]
  funext i
  idx_vars i
  exact (r_dg m c i0 i1).symm

theorem du_eq : (Gen.dats m 0 c).arrAt 14 cfg0.N = val_main_v53 (F := Ideal) (DX m c) (DGT m c) (DQ m c) (DK m c) (DV m c) (DC m c) (DZ m c) (DBA m c) := by
  rw [du_arr]
  funext i
  idx_vars i
  unfold val_main_v53
  pointwise [r_du]

end Cert.InxIdeal.Ref

namespace Cert.InxValue

open Cert.InxIdeal.Ref Idealize.ShloMosaic Idealize.ShloMosaic.TcCoe Idealize.SL.Sem

/-- The gradients the kernel leaves are the reference's, from any memory whose argument arrays are finite. -/
theorem algebraic : Cert.algebraic_InxIdeal_InxRefIdeal_pre_finite_mixer := by
  intro m g m' g' hp hargs
  refine ⟨_, _, _, (θ_run Cert.InxIdeal.defs _ _).mono
      (fun r h c => ⟨(h c).1.trans (dh_eq (real_of_pre m hp c)), (h c).2.1.trans (dg_eq m c), (h c).2.2.1.trans (du_eq m c), (h c).2.2.2⟩)
      (Cert.InxIdeal.Value.run_blocks m g),
    (θ_run Cert.InxRefIdeal.defs _ _).mono (fun r h c => ?_) (Cert.InxRefIdeal.Value.run m' g')⟩
  obtain ⟨h51, h52, h53, hk⟩ := h c
  obtain ⟨a0, a1, a2, a3, a4, a5, a6, a7, a8, a9, a10, a11⟩ := hargs c
  refine ⟨?_, ?_, ?_, hk⟩
  · rw [h51, Cert.InxRefIdeal.Read.val_main_v51_eq, a0, a1, a2, a3, a4, a5, a6, a7, a8, a9, a10, a11]
    rfl
  · rw [h52, Cert.InxRefIdeal.Read.val_main_v52_eq, a0, a2, a3, a4, a5, a6, a7, a8, a9, a10]
    rfl
  · rw [h53, Cert.InxRefIdeal.Read.val_main_v53_eq, a3, a4, a5, a6, a7, a8, a9, a10]
    rfl

/-- The reference leaves its arguments and has no semaphore. -/
theorem frame_ref : Cert.quiescent_InxRefIdeal := fun m g _ =>
  (θ_run Cert.InxRefIdeal.defs _ _).mono (fun r h => ⟨fun c => (h c).2.2.2, sem_eq_zero_of_no_sems (by decide) r.2⟩)
    (Cert.InxRefIdeal.Value.run m g)

end Cert.InxValue

end
-- ==== Proof.MofValue.lean ====
module

public import proofs.«01_k».proof.Defs
public import proofs.«01_k».proof.Proof.Gen.MofIdeal.Value
public import proofs.«01_k».proof.Proof.Gen.MofRefIdeal.Read
public import Idealize.ShloMosaic.Lib.StableHlo.RunRead
public import Idealize.ShloMosaic.Lib.Pointwise
public import Idealize.ShloMosaic.Lib.Pipeline.ValueKit
public import Idealize.ShloMosaic.Lib.WritesUnit
public import Idealize.ShloMosaic.Lib.VecWindow
public import Idealize.ShloMosaic.Lib.Quiescent

@[expose] public section

set_option maxRecDepth 16384
set_option maxHeartbeats 4000000

noncomputable section

namespace Cert.MofIdeal.Sweep

open Cert.MofIdeal Cert.MofIdeal.Gen Idealize.ShloMosaic Idealize.ShloMosaic.TcCoe Idealize.SL.Sem Idealize.ShloMosaic.StableHlo
open Cert.MofRefIdeal.Read

variable (m : (ℓ : Loc nD τ sig) → Buf (Elt Ideal) ℓ) (c : Dev nD)

/-- The three mixers' outputs, the output projection's weight and the tokens. -/
def Y1 : FVec Ideal S4096x256 .f32 := m (c.tc.loc main_arg0)
@[inherit_doc Y1] def Y2 : FVec Ideal S4096x512 .f32 := m (c.tc.loc main_arg1)
@[inherit_doc Y1] def Y3 : FVec Ideal S4096x256 .f32 := m (c.tc.loc main_arg2)
@[inherit_doc Y1] def W : FVec Ideal S1024x1024 .f32 := m (c.tc.loc main_arg3)
@[inherit_doc Y1] def H : FVec Ideal S4096x1024 .f32 := m (c.tc.loc main_arg4)

/-- The three mixers' outputs side by side. -/
def Y (t : Fin 4096) (d : Fin 1024) : EReal := val_main_v0 (F := Ideal) (Y1 m c) (Y2 m c) (Y3 m c) (ix2 t d)

theorem Y_1 (t : Fin 4096) (d : Fin 256) : Y m c t ⟨0 + d.val, by omega⟩ = Y1 m c (ix2 t d) := by
  unfold Y val_main_v0
  refine concatenate_apply_piece (t := S4096x1024) _ _ _ _ 0 ?_ S4096x256 (Y1 m c) ?_ rfl 0 ?_ (ix2 t d) (fun b hb => ?_) ?_
  · exact (by decide : 0 < 3)
  · rfl
  · rfl
  · fin_cases b
    · rfl
    · exact absurd rfl hb
  · rfl

theorem Y_2 (t : Fin 4096) (d : Fin 512) : Y m c t ⟨256 + d.val, by omega⟩ = Y2 m c (ix2 t d) := by
  unfold Y val_main_v0
  refine concatenate_apply_piece (t := S4096x1024) _ _ _ _ 1 ?_ S4096x512 (Y2 m c) ?_ rfl 256 ?_ (ix2 t d) (fun b hb => ?_) ?_
  · exact (by decide : 1 < 3)
  · rfl
  · rfl
  · fin_cases b
    · rfl
    · exact absurd rfl hb
  · rfl

theorem Y_3 (t : Fin 4096) (d : Fin 256) : Y m c t ⟨768 + d.val, by omega⟩ = Y3 m c (ix2 t d) := by
  unfold Y val_main_v0
  refine concatenate_apply_piece (t := S4096x1024) _ _ _ _ 2 ?_ S4096x256 (Y3 m c) ?_ rfl 768 ?_ (ix2 t d) (fun b hb => ?_) ?_
  · exact (by decide : 2 < 3)
  · rfl
  · rfl
  · fin_cases b
    · rfl
    · exact absurd rfl hb
  · rfl

theorem V_w : V m c main_v0 = (truncf .bf16 (W m c) bitsLt_bf16_f32 : FVec Ideal S1024x1024 .bf16) := by
  unfold V
  after_reads_simp
  rfl

theorem idx_all : ∀ t : Fin grid0.N, (win0_0.index t = ![t.val, 0] ∧ win0_1.index t = ![t.val, 0] ∧ win0_2.index t = ![t.val, 0])
    ∧ (win0_3.index t = ![0, 0] ∧ win0_4.index t = ![t.val, 0]) ∧ win0_5.index t = ![t.val, 0] ∧ win0_6.index t = ![t.val, 0] := by
  decide +kernel

theorem lt8 {n : ℕ} (h : n < cfg0.N) : n < 8 := lt_of_lt_of_eq h N_0

/-- Row `r` of point `n`'s row block. -/
abbrev row (n : ℕ) (h : n < 8) (r : Fin 512) : Fin 4096 := ⟨n * 512 + r.val, by omega⟩

theorem iblk_1 (n : ℕ) (h : n < cfg0.N) (r : Fin 512) (d : Fin 256) : iblk m c 0 ⟨n, h⟩ (ix2 r d) = Y1 m c (ix2 (row n (lt8 h) r) d) := by
  have e := (idx_all ⟨n, h⟩).1.1
  have he : (win0_0.blk ⟨n, h⟩).view.emb (ix2 r d) = (ix2 (row n (lt8 h) r) d : S4096x256.Idx) := by
    blk_ext [e]
  blk_simp [iblk]
  rw [V_main_arg0, he]
  rfl

theorem iblk_2 (n : ℕ) (h : n < cfg0.N) (r : Fin 512) (d : Fin 512) : iblk m c 1 ⟨n, h⟩ (ix2 r d) = Y2 m c (ix2 (row n (lt8 h) r) d) := by
  have e := (idx_all ⟨n, h⟩).1.2.1
  have he : (win0_1.blk ⟨n, h⟩).view.emb (ix2 r d) = (ix2 (row n (lt8 h) r) d : S4096x512.Idx) := by
    blk_ext [e]
  blk_simp [iblk]
  rw [V_main_arg1, he]
  rfl

theorem iblk_3 (n : ℕ) (h : n < cfg0.N) (r : Fin 512) (d : Fin 256) : iblk m c 2 ⟨n, h⟩ (ix2 r d) = Y3 m c (ix2 (row n (lt8 h) r) d) := by
  have e := (idx_all ⟨n, h⟩).1.2.2
  have he : (win0_2.blk ⟨n, h⟩).view.emb (ix2 r d) = (ix2 (row n (lt8 h) r) d : S4096x256.Idx) := by
    blk_ext [e]
  blk_simp [iblk]
  rw [V_main_arg2, he]
  rfl

theorem iblk_w (n : ℕ) (h : n < cfg0.N) (x d : Fin 1024) : iblk m c 3 ⟨n, h⟩ (ix2 x d) = W m c (ix2 x d) := by
  have e := (idx_all ⟨n, h⟩).2.1.1
  have he : (win0_3.blk ⟨n, h⟩).view.emb (ix2 x d) = (ix2 x d : S1024x1024.Idx) := by
    blk_ext [e]
  blk_simp [iblk]
  rw [V_w, he]
  pointwise

theorem iblk_h (n : ℕ) (h : n < cfg0.N) (r : Fin 512) (d : Fin 1024) : iblk m c 4 ⟨n, h⟩ (ix2 r d) = H m c (ix2 (row n (lt8 h) r) d) := by
  have e := (idx_all ⟨n, h⟩).2.1.2
  have he : (win0_4.blk ⟨n, h⟩).view.emb (ix2 r d) = (ix2 (row n (lt8 h) r) d : S4096x1024.Idx) := by
    blk_ext [e]
  blk_simp [iblk]
  rw [V_main_arg4, he]
  rfl

theorem hz2 : (![0, 0] : Fin 2 → Nat) = fun _ => 0 := by funext a; fin_cases a <;> rfl

/-- The three pieces a point stores side by side. -/
def pieces (x0 : Vec Ideal S512x256 .f32) (x1 : Vec Ideal S512x512 .f32) (x2 : Vec Ideal S512x256 .f32) : List (View.Piece (Elt Ideal) S512x1024 .bf16) :=
  [⟨Rect.unit (s := S512x1024) ![0, 768] S512x256.size inb_S512x1024_S512x256_0_768, k0_pay3 x2⟩,
   ⟨Rect.unit (s := S512x1024) ![0, 256] S512x512.size inb_S512x1024_S512x512_0_256, k0_pay2 x1⟩,
   ⟨Rect.unit (s := S512x1024) ![0, 0] S512x256.size inb_S512x1024_S512x256_0_0, k0_pay1 x0⟩]

theorem cov (v : View sig .tc .vmem S512x1024 .bf16) (L : List (View.Piece (Elt Ideal) S512x1024 .bf16)) :
    v.readCov (Val := Elt Ideal) L (Rect.unit (s := S512x1024) ![0, 0] ![512, 1024] inb_S512x1024_S512x1024_0_0).toLoadRect = View.canon L := by
  rw [View.readCov_eq_canon']
  exact View.ld_unit_zero (S := S512x1024) hz2 _ _

/-- A point's rows of the mixers' outputs side by side. -/
def YB (n : ℕ) (h : n < 8) : Vec Ideal S512x1024 .bf16 := fun y => Y m c (row n h (y 0)) (y 1)

/-- The pieces read back are the mixers' outputs side by side. -/
theorem canon_eq (n : ℕ) (h : n < cfg0.N) (r : Fin 512) (d : Fin 1024) :
    View.canon (pieces (iblk m c 0 ⟨n, h⟩) (iblk m c 1 ⟨n, h⟩) (iblk m c 2 ⟨n, h⟩)) (ix2 r d) = Y m c (row n (lt8 h) r) d := by
  refine View.canon_apply_of_pieces (Val := Elt Ideal) (YB m c n (lt8 h)) _ (fun p hp x => ?_) (ix2 r d)
    (View.cover_of_tiledBy _ ![512, 256] (by sl_kernel_rfl) _)
  simp only [pieces, List.mem_cons, List.mem_nil_iff, or_false] at hp
  rcases hp with rfl | rfl | rfl
  · change S512x256.Idx at x
    idx_vars x
    have he : (Rect.unit (s := S512x1024) ![0, 768] S512x256.size inb_S512x1024_S512x256_0_768).emb (ix2 x0 x1) = (ix2 x0 ⟨768 + x1.val, by omega⟩ : S512x1024.Idx) := by
      blk_ext
    rw [he]
    refine Eq.trans ?_ (Y_3 m c (row n (lt8 h) x0) x1).symm
    refine Eq.trans ?_ (iblk_3 m c n h x0 x1)
    unfold k0_pay3
    pointwise
  · change S512x512.Idx at x
    idx_vars x
    have he : (Rect.unit (s := S512x1024) ![0, 256] S512x512.size inb_S512x1024_S512x512_0_256).emb (ix2 x0 x1) = (ix2 x0 ⟨256 + x1.val, by omega⟩ : S512x1024.Idx) := by
      blk_ext
    rw [he]
    refine Eq.trans ?_ (Y_2 m c (row n (lt8 h) x0) x1).symm
    refine Eq.trans ?_ (iblk_2 m c n h x0 x1)
    unfold k0_pay2
    pointwise
  · change S512x256.Idx at x
    idx_vars x
    have he : (Rect.unit (s := S512x1024) ![0, 0] S512x256.size inb_S512x1024_S512x256_0_0).emb (ix2 x0 x1) = (ix2 x0 ⟨0 + x1.val, by omega⟩ : S512x1024.Idx) := by
      blk_ext
    rw [he]
    refine Eq.trans ?_ (Y_1 m c (row n (lt8 h) x0) x1).symm
    refine Eq.trans ?_ (iblk_1 m c n h x0 x1)
    unfold k0_pay1
    pointwise

section
variable (i : grid0.Coords) (arg1 : Memref sig .tc .vmem S512x256 .f32) (harg1 : arg1.IsWhole) (arg2 : Memref sig .tc .vmem S512x512 .f32) (harg2 : arg2.IsWhole) (arg3 : Memref sig .tc .vmem S512x256 .f32) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .bf16) (harg7 : arg7.IsWhole)
  (x0 : Vec Ideal S512x256 .f32) (x1 : Vec Ideal S512x512 .f32) (x2 : Vec Ideal S512x256 .f32) (x3 : Vec Ideal S1024x1024 .bf16) (x4 : Vec Ideal S512x1024 .f32)

theorem out6_A : out0_A_6 c i arg1 harg1 arg2 harg2 arg3 harg3 arg4 harg4 arg5 harg5 arg6 harg6 arg7 harg7 x0 x1 x2 x3 x4 = View.canon (pieces x0 x1 x2) := by
  unfold out0_A_6 kernelRun0_A
  dsimp only
  sl_unfold_words
  simp only [View.readAt_eq_ld, harg1.read_unread, harg2.read_unread, harg3.read_unread, harg4.read_unread, harg5.read_unread]
  rw [View.read_writes_junk_eq_canon]
  simp only [View.ld_unit_zero (S := S512x256) hz2, View.ld_unit_zero (S := S512x512) hz2]
  rfl

theorem out5_A : out0_A_5 c i arg1 harg1 arg2 harg2 arg3 harg3 arg4 harg4 arg5 harg5 arg6 harg6 arg7 harg7 x0 x1 x2 x3 x4 = k0_pay4 x4 (View.canon (pieces x0 x1 x2)) x3 := by
  unfold out0_A_5 kernelRun0_A
  dsimp only
  sl_unfold_words
  simp only [View.readAt_eq_ld, harg1.read_unread, harg2.read_unread, harg3.read_unread, harg4.read_unread, harg5.read_unread]
  rw [View.read_writes_junk_eq_canon, View.canon_cons_unit_zero hz2]
  simp only [View.ld_unit_zero (S := S512x256) hz2, View.ld_unit_zero (S := S512x512) hz2, View.ld_unit_zero (S := S1024x1024) hz2, View.ld_unit_zero (S := S512x1024) hz2, cov]
  rfl

end

theorem pay4_apply (x4 : Vec Ideal S512x1024 .f32) (y : Vec Ideal S512x1024 .bf16) (x3 : Vec Ideal S1024x1024 .bf16) (r : Fin 512) (d : Fin 1024) :
    k0_pay4 x4 y x3 (ix2 r d) = x4 (ix2 r d) + ∑ x, y (ix2 r x) * x3 (ix2 x d) := by
  unfold_payloads
  pointwise

/-- The tokens with the projected outputs added. -/
def OUT (t : Fin 4096) (d : Fin 1024) : EReal := H m c (ix2 t d) + ∑ x, Y m c t x * W m c (ix2 x d)

/-- The blocks a point leaves. -/
theorem out_eq (n : ℕ) (h : n < cfg0.N) (r : Fin 512) (d : Fin 1024) : (outsAt0 m c ⟨n, h⟩).1 (ix2 r d) = OUT m c (row n (lt8 h) r) d := by
  unfold outsAt0
  dsimp only
  refine (congrFun (out5_A ..) (ix2 r d)).trans ?_
  refine (pay4_apply _ _ _ r d).trans ?_
  unfold OUT
  simp only [canon_eq, iblk_w, iblk_h]

@[inherit_doc out_eq] theorem y_eq (n : ℕ) (h : n < cfg0.N) (r : Fin 512) (d : Fin 1024) : (outsAt0 m c ⟨n, h⟩).2 (ix2 r d) = Y m c (row n (lt8 h) r) d := by
  unfold outsAt0
  dsimp only
  exact (congrFun (out6_A ..) (ix2 r d)).trans (canon_eq m c n h r d)

/-- Which point wrote which row. -/
theorem out_arr : (dats m 0 c).arrAt 5 cfg0.N = fun i : S4096x1024.Idx => OUT m c (i 0) (i 1) := by
  refine (dats m 0 c).arrAt_eq_of_covers 5 _ (by decide +kernel) fun t hf y => ?_
  have e := (idx_all t).2.2.1
  obtain ⟨n, hn⟩ := t
  idx_vars y
  have he : (win0_5.blk ⟨n, hn⟩).view.emb (ix2 y0 y1) = (ix2 (row n (lt8 hn) y0) y1 : S4096x1024.Idx) := by
    blk_ext [e]
  blk_simp
  rw [after0_5, he]
  exact out_eq m c n hn y0 y1

@[inherit_doc out_arr] theorem y_arr : (dats m 0 c).arrAt 6 cfg0.N = fun i : S4096x1024.Idx => Y m c (i 0) (i 1) := by
  refine (dats m 0 c).arrAt_eq_of_covers 6 _ (by decide +kernel) fun t hf y => ?_
  have e := (idx_all t).2.2.2
  obtain ⟨n, hn⟩ := t
  idx_vars y
  have he : (win0_6.blk ⟨n, hn⟩).view.emb (ix2 y0 y1) = (ix2 (row n (lt8 hn) y0) y1 : S4096x1024.Idx) := by
    blk_ext [e]
  blk_simp
  rw [after0_6, he]
  exact y_eq m c n hn y0 y1

/-! ## The reference's arrays -/

theorem out_ref : (dats m 0 c).arrAt 5 cfg0.N = val_main_v2 (F := Ideal) (Y1 m c) (Y2 m c) (Y3 m c) (W m c) (H m c) := by
  rw [out_arr]
  funext i
  idx_vars i
  have hy : ∀ (t : Fin 4096) (x : Fin 1024), val_main_v0 (F := Ideal) (Y1 m c) (Y2 m c) (Y3 m c) (ix2 t x) = Y m c t x := fun _ _ => rfl
  unfold OUT val_main_v2 val_main_v1
  pointwise [hy]

theorem y_ref : (dats m 0 c).arrAt 6 cfg0.N = val_main_v3 (F := Ideal) (Y1 m c) (Y2 m c) (Y3 m c) := by
  rw [y_arr]
  funext i
  idx_vars i
  have hy : ∀ (t : Fin 4096) (x : Fin 1024), val_main_v0 (F := Ideal) (Y1 m c) (Y2 m c) (Y3 m c) (ix2 t x) = Y m c t x := fun _ _ => rfl
  unfold val_main_v3
  pointwise [hy]

end Cert.MofIdeal.Sweep

namespace Cert.MofValue

open Cert.MofIdeal.Sweep Idealize.ShloMosaic Idealize.ShloMosaic.TcCoe Idealize.SL.Sem

/-- The arrays the call leaves are the reference's, from any memory. -/
theorem algebraic : Cert.algebraic_MofIdeal_MofRefIdeal := by
  intro m g m' g' _ hargs
  refine ⟨_, _, (θ_run Cert.MofIdeal.defs _ _).mono (fun r h c => ⟨(h c).1.trans (out_ref m c), (h c).2.1.trans (y_ref m c), (h c).2.2⟩)
      (Cert.MofIdeal.Value.run_blocks m g),
    (θ_run Cert.MofRefIdeal.defs _ _).mono (fun r h c => ?_) (Cert.MofRefIdeal.Value.run m' g')⟩
  obtain ⟨h2, h3, hk⟩ := h c
  obtain ⟨a0, a1, a2, a3, a4⟩ := hargs c
  refine ⟨?_, ?_, hk⟩
  · rw [h2, Cert.MofRefIdeal.Read.val_main_v2_eq, a0, a1, a2, a3, a4]
    rfl
  · rw [h3, Cert.MofRefIdeal.Read.val_main_v3_eq, a0, a1, a2]
    rfl

/-- The reference leaves its arguments and has no semaphore. -/
theorem frame_ref : Cert.quiescent_MofRefIdeal := fun m g _ =>
  (θ_run Cert.MofRefIdeal.defs _ _).mono (fun r h => ⟨fun c => (h c).2.2, sem_eq_zero_of_no_sems (by decide) r.2⟩)
    (Cert.MofRefIdeal.Value.run m g)

end Cert.MofValue

end
-- ==== Proof.DwpValue.lean ====
module

public import proofs.«01_k».proof.Defs
public import proofs.«01_k».proof.Proof.Gen.DwpIdeal.Value
public import proofs.«01_k».proof.Proof.Gen.DwpRefIdeal.Read
public import Idealize.ShloMosaic.Lib.StableHlo.RunRead
public import Idealize.ShloMosaic.Lib.Pointwise
public import Idealize.ShloMosaic.Lib.Pipeline.ValueKit
public import Idealize.ShloMosaic.Lib.WritesUnit
public import Idealize.ShloMosaic.Lib.VecWindow
public import Idealize.ShloMosaic.Lib.Quiescent

@[expose] public section

set_option maxRecDepth 16384
set_option maxHeartbeats 4000000

noncomputable section

namespace Cert.DwpIdeal.Sweep

open Cert.DwpIdeal Cert.DwpIdeal.Gen Cert.DwpIdeal.Value Idealize.ShloMosaic Idealize.ShloMosaic.TcCoe Idealize.SL.Sem Idealize.ShloMosaic.StableHlo

/-! ## What one point does to the accumulator -/

theorem hz2 : (![0, 0] : Fin 2 → Nat) = fun _ => 0 := by funext a; fin_cases a <;> rfl

theorem zero_eq : (k0_pay1 (F := Ideal)) = fun _ => 0 := by
  funext y
  idx_vars y
  unfold_payloads
  pointwise

/-- A load of the accumulator after it was set to zero reads zero. -/
theorem cov_zero (v : View sig .tc .vmem S256x512 .f32) (B : LoadRect S256x512) :
    v.readCov (Val := Elt Ideal) [⟨Rect.unit ![0, 0] ![256, 512] inb_S256x512_S256x512_0_0, k0_pay1 (F := Ideal)⟩] B = fun _ => (0 : EReal) := by
  rw [View.readCov_eq_canon', View.canon_cons_unit_zero hz2, zero_eq]

/-- A load of the accumulator after the addition reads the sum. -/
theorem cov_all (v : View sig .tc .vmem S256x512 .f32) (p : Vec Ideal S256x512 .f32) :
    v.readCov (Val := Elt Ideal) [⟨Rect.unit ![0, 0] ![256, 512] inb_S256x512_S256x512_0_0, p⟩] (Rect.unit ![0, 0] ![256, 512] inb_S256x512_S256x512_0_0).toLoadRect = p :=
  View.readCov_full v _ _ p []

theorem pay_apply (acc : Vec Ideal S256x512 .f32) (x0 : Vec Ideal S512x256 .f32) (x1 : Vec Ideal S512x512 .bf16) (r : Fin 256) (j : Fin 512) :
    k0_pay2 acc x0 x1 (ix2 r j) = acc (ix2 r j) + ∑ k, x0 (ix2 k r) * x1 (ix2 k j) := by
  unfold_payloads
  pointwise

section
variable (c : Dev nD) (i : grid0.Coords) (arg3 : Memref sig .tc .vmem S512x256 .f32) (harg3 : arg3.IsWhole) (arg4 : Memref sig .tc .vmem S512x512 .bf16) (harg4 : arg4.IsWhole)
  (arg5 : Memref sig .tc .vmem S256x512 .f32) (harg5 : arg5.IsWhole) (arg6 : Memref sig .tc .vmem S256x512 .f32) (harg6 : arg6.IsWhole)
  (x0 : Vec Ideal S512x256 .f32) (x1 : Vec Ideal S512x512 .bf16) (xs : Vec Ideal S256x512 .f32)

/-- The first block of tokens: the accumulator starts from zero. -/
theorem acc_A (hc0 : cond0_0 i) (hc1 : ¬cond0_1 i) : sout0_A_0 c i arg3 harg3 arg4 harg4 arg5 harg5 arg6 harg6 hc0 hc1 x0 x1 = k0_pay2 (fun _ => 0) x0 x1 := by
  unfold sout0_A_0 kernelRun0_A
  dsimp only
  sl_unfold_words
  simp only [View.readAt_eq_ld, harg3.read_unread, harg4.read_unread, harg6.read_unread]
  rw [View.read_writes_junk_eq_canon, View.canon_cons_unit_zero hz2]
  simp only [View.ld_unit_zero (S := S256x512) hz2, View.ld_unit_zero (S := S512x512) hz2, View.ld_unit_zero (S := S512x256) hz2, cov_zero]
  try rfl

/-- A later block adds its product. -/
theorem acc_B (hc0 : ¬cond0_0 i) (hc1 : ¬cond0_1 i) : sout0_B_0 c i arg3 harg3 arg4 harg4 arg5 harg5 arg6 harg6 hc0 hc1 x0 x1 xs = k0_pay2 xs x0 x1 := by
  unfold sout0_B_0 kernelRun0_B
  dsimp only
  sl_unfold_words
  simp only [View.readAt_eq_ld, harg3.read_unread, harg4.read_unread, harg6.read_unread]
  rw [View.read_writes_junk_eq_canon, View.canon_cons_unit_zero hz2]
  simp only [View.ld_unit_zero (S := S256x512) hz2, View.ld_unit_zero (S := S512x512) hz2, View.ld_unit_zero (S := S512x256) hz2]

/-- So does the last one, -/
theorem acc_C (hc0 : ¬cond0_0 i) (hc1 : cond0_1 i) : sout0_C_0 c i arg3 harg3 arg4 harg4 arg5 harg5 arg6 harg6 hc0 hc1 x0 x1 xs = k0_pay2 xs x0 x1 := by
  unfold sout0_C_0 kernelRun0_C
  dsimp only
  sl_unfold_words
  simp only [View.readAt_eq_ld, harg3.read_unread, harg4.read_unread, harg6.read_unread]
  rw [View.read_writes_junk_eq_canon, View.canon_cons_unit_zero hz2]
  simp only [View.ld_unit_zero (S := S256x512) hz2, View.ld_unit_zero (S := S512x512) hz2, View.ld_unit_zero (S := S512x256) hz2]

/-- which also stores the sum. -/
theorem out_C (hc0 : ¬cond0_0 i) (hc1 : cond0_1 i) : out0_C_2 c i arg3 harg3 arg4 harg4 arg5 harg5 arg6 harg6 hc0 hc1 x0 x1 xs = k0_pay2 xs x0 x1 := by
  unfold out0_C_2 kernelRun0_C
  dsimp only
  sl_unfold_words
  simp only [View.readAt_eq_ld, harg3.read_unread, harg4.read_unread, harg6.read_unread]
  rw [View.read_writes_junk_eq_canon, View.canon_cons_unit_zero hz2]
  simp only [View.ld_unit_zero (S := S256x512) hz2, View.ld_unit_zero (S := S512x512) hz2, View.ld_unit_zero (S := S512x256) hz2]
  exact cov_all _ _

end

variable (m : (ℓ : Loc nD τ sig) → Buf (Elt Ideal) ℓ) (c : Dev nD)

/-! ## The two factors and their blocks -/

/-- The layer's embedding of the tokens. -/
def A : FVec Ideal S4096x256 .f32 := m (c.tc.loc main_arg0)
/-- The product's gradient. -/
def B : FVec Ideal S4096x1024 .f32 := m (c.tc.loc main_arg1)

theorem V_b : V m c main_v0 = (truncf .bf16 (B m c) bitsLt_bf16_f32 : FVec Ideal S4096x1024 .bf16) := by
  unfold V
  after_reads_simp
  rfl

theorem idx_all : ∀ t : Fin grid0.N, win0_0.index t = ![t.val % 8, 0] ∧ win0_1.index t = ![t.val % 8, t.val / 8] ∧ win0_2.index t = ![0, t.val / 8] := by
  decide +kernel

theorem lt_n {n : ℕ} (h : n < cfg0.N) : n < 16 := lt_of_lt_of_eq h N_0

/-- Row `k` of the row block `n % 8`. -/
abbrev row (n : ℕ) (k : Fin 512) : Fin 4096 := ⟨n % 8 * 512 + k.val, by omega⟩
/-- Column `j` of the column block `n / 8`. -/
abbrev col (n : ℕ) (h : n < 16) (j : Fin 512) : Fin 1024 := ⟨n / 8 * 512 + j.val, by omega⟩

theorem iblk_a (n : ℕ) (h : n < cfg0.N) (k : Fin 512) (r : Fin 256) : iblk m c 0 ⟨n, h⟩ (ix2 k r) = A m c (ix2 (row n k) r) := by
  have e := (idx_all ⟨n, h⟩).1
  have he : (win0_0.blk ⟨n, h⟩).view.emb (ix2 k r) = (ix2 (row n k) r : S4096x256.Idx) := by
    blk_ext [e]
  blk_simp [iblk]
  rw [V_main_arg0, he]
  rfl

theorem iblk_b (n : ℕ) (h : n < cfg0.N) (k : Fin 512) (j : Fin 512) : iblk m c 1 ⟨n, h⟩ (ix2 k j) = B m c (ix2 (row n k) (col n (lt_n h) j)) := by
  have e := (idx_all ⟨n, h⟩).2.1
  have hn := lt_n h
  have he : (win0_1.blk ⟨n, h⟩).view.emb (ix2 k j) = (ix2 (row n k) (col n (lt_n h) j) : S4096x1024.Idx) := by
    blk_ext [e]
  blk_simp [iblk]
  rw [V_b, he]
  rfl

/-! ## The accumulator over the grid -/

/-- The product of point `n`'s blocks. -/
def part (n : ℕ) (i : S256x512.Idx) : EReal :=
  if h : n < 16 then ∑ k : Fin 512, A m c (ix2 (row n k) (i 0)) * B m c (ix2 (row n k) (col n h (i 1))) else 0

theorem pay_iblk (n : ℕ) (h : n < cfg0.N) (acc : Vec Ideal S256x512 .f32) (i : S256x512.Idx) :
    k0_pay2 acc (iblk m c 0 ⟨n, h⟩) (iblk m c 1 ⟨n, h⟩) i = acc i + part m c n i := by
  idx_vars i
  refine (pay_apply acc _ _ i0 i1).trans ?_
  unfold part
  rw [dif_pos (lt_n h)]
  simp only [iblk_a, iblk_b]
  rfl

/-- What the accumulator holds after a point: the products of the row blocks so far. -/
theorem scr_apply (t : Fin cfg0.N) (i : S256x512.Idx) :
    (outsAt0 m c t.val t.isLt).2 i = ∑ s ∈ Finset.range (t.val % 8 + 1), part m c (8 * (t.val / 8) + s) i := by
  rw [soutsAt0_0_eq, Pipeline.accAt_add_apply _ _ (fun _ => (0 : EReal)) (part m c) _ 7
    (fun h i => ?_) (fun n h acc i h1 h2 => ?_) (t.val % 8) (by omega), zero_add]
  · have h0 : 8 * (t.val / 8) % 8 = 0 := by omega
    have h3 : ¬8 * (t.val / 8) % 8 = 7 := by omega
    unfold scAt0_0
    rw [dif_pos h0, dif_neg h3, acc_A]
    exact pay_iblk m c _ h _ i
  · have h0 : ¬n % 8 = 0 := by omega
    unfold scAt0_0
    rw [dif_neg h0]
    by_cases h3 : n % 8 = 7
    · rw [dif_pos h3, acc_C]
      exact pay_iblk m c _ h _ i
    · rw [dif_neg h3, acc_B]
      exact pay_iblk m c _ h _ i

/-- A sum over the rows, one block of 512 after another. -/
theorem sum_blocks (f : Fin 4096 → EReal) :
    ∑ s ∈ Finset.range 8, (if h : s < 8 then ∑ k : Fin 512, f ⟨s * 512 + k.val, by omega⟩ else 0) = ∑ t, f t := by
  rw [← Fin.sum_univ_eq_sum_range (fun s => if h : s < 8 then ∑ k : Fin 512, f ⟨s * 512 + k.val, by omega⟩ else 0) 8,
    ← (finProdFinEquiv (m := 8) (n := 512)).sum_comp f, Fintype.sum_prod_type]
  refine Finset.sum_congr rfl fun s _ => ?_
  rw [dif_pos s.isLt]
  refine Finset.sum_congr rfl fun k _ => congrArg f (Fin.ext ?_)
  show s.val * 512 + k.val = k.val + 512 * s.val
  omega

/-- What a point with the last row block writes: the whole product at its columns. -/
theorem out_apply (n : ℕ) (h : n < cfg0.N) (h3 : n % 8 = 7) (r : Fin 256) (j : Fin 512) :
    (outsAt0 m c n h).1 (ix2 r j) = ∑ t, A m c (ix2 t r) * B m c (ix2 t (col n (lt_n h) j)) := by
  have h0 : ¬n % 8 = 0 := by omega
  have hn := lt_n h
  have es : (outsAt0 m c n h).1 = (outsAt0 m c n h).2 := by
    have e := outsAt0_C m c ⟨n, h⟩ h0 h3
    rw [out_C, acc_C] at e
    rw [e]
  rw [es, scr_apply m c ⟨n, h⟩, ← sum_blocks]
  show ∑ s ∈ Finset.range (n % 8 + 1), part m c (8 * (n / 8) + s) (ix2 r j) = _
  rw [h3]
  refine Finset.sum_congr rfl fun s hs => ?_
  have hs4 : s < 8 := Finset.mem_range.mp hs
  unfold part
  rw [dif_pos (by omega : 8 * (n / 8) + s < 16), dif_pos hs4]
  refine Finset.sum_congr rfl fun k _ => ?_
  have er : row (8 * (n / 8) + s) k = ⟨s * 512 + k.val, by omega⟩ := by
    apply Fin.ext
    show (8 * (n / 8) + s) % 8 * 512 + k.val = s * 512 + k.val
    omega
  have ec : col (8 * (n / 8) + s) (by omega) j = col n hn j := by
    apply Fin.ext
    show (8 * (n / 8) + s) / 8 * 512 + j.val = n / 8 * 512 + j.val
    omega
  rw [er]
  show _ * B m c (ix2 _ (col (8 * (n / 8) + s) _ j)) = _
  rw [ec]
  rfl

/-- The array after the run is the product over all the rows. -/
theorem out_arr : (dats m 0 c).arrAt 2 cfg0.N = fun i : S256x1024.Idx => ∑ t, A m c (ix2 t (i 0)) * B m c (ix2 t (i 1)) := by
  refine (dats m 0 c).arrAt_eq_of_covers 2 _ (by decide +kernel) fun t hf y => ?_
  have e := (idx_all t).2.2
  have h3 : t.val % 8 = 7 := (flush0_2 t).mp hf
  obtain ⟨n, hn⟩ := t
  have hlt := lt_n hn
  idx_vars y
  have he : (win0_2.blk ⟨n, hn⟩).view.emb (ix2 y0 y1) = (ix2 y0 (col n (lt_n hn) y1) : S256x1024.Idx) := by
    blk_ext [e]
  blk_simp
  rw [after0_2, he]
  exact out_apply m c n hn h3 y0 y1

/-! ## The reference's product -/

open Cert.DwpRefIdeal.Read

theorem r_out (r : Fin 256) (j : Fin 1024) :
    val_main_v3 (F := Ideal) (m (c.tc.loc main_arg0)) (m (c.tc.loc main_arg1)) (ix2 r j) = ∑ t, A m c (ix2 t r) * B m c (ix2 t j) := by
  unfold val_main_v3 val_main_v2
  pointwise
  exact Finset.sum_congr rfl fun t _ => mul_comm _ _

theorem arr_eq : (dats m 0 c).arrAt 2 cfg0.N = val_main_v3 (F := Ideal) (m (c.tc.loc main_arg0)) (m (c.tc.loc main_arg1)) := by
  rw [out_arr]
  funext i
  idx_vars i
  exact (r_out m c i0 i1).symm

end Cert.DwpIdeal.Sweep

namespace Cert.DwpValue

open Cert.DwpIdeal.Sweep Idealize.ShloMosaic Idealize.ShloMosaic.TcCoe Idealize.SL.Sem

/-- The weight's gradient the call leaves is the reference's, from any memory. -/
theorem algebraic : Cert.algebraic_DwpIdeal_DwpRefIdeal := by
  intro m g m' g' _ hargs
  refine ⟨_, (θ_run Cert.DwpIdeal.defs _ _).mono (fun r h c => ⟨(h c).1.trans (arr_eq m c), (h c).2⟩) (Cert.DwpIdeal.Value.run_blocks m g),
    (θ_run Cert.DwpRefIdeal.defs _ _).mono (fun r h c => ?_) (Cert.DwpRefIdeal.Value.run m' g')⟩
  obtain ⟨hv, hk⟩ := h c
  obtain ⟨a0, a1⟩ := hargs c
  refine ⟨?_, hk⟩
  rw [hv, Cert.DwpRefIdeal.Read.val_main_v3_eq, a0, a1]

/-- The reference leaves its arguments and has no semaphore. -/
theorem frame_ref : Cert.quiescent_DwpRefIdeal := fun m g _ =>
  (θ_run Cert.DwpRefIdeal.defs _ _).mono (fun r h => ⟨fun c => (h c).2, sem_eq_zero_of_no_sems (by decide) r.2⟩)
    (Cert.DwpRefIdeal.Value.run m g)

end Cert.DwpValue

end
-- ==== Proof.lean ====
module

public import proofs.«01_k».proof.Defs
public import proofs.«01_k».proof.Proof.Gen.Act
public import proofs.«01_k».proof.Proof.Gen.Act.Skeleton
public import proofs.«01_k».proof.Proof.Gen.Act.Launch
public import proofs.«01_k».proof.Proof.Gen.Act.Points
public import proofs.«01_k».proof.Proof.Gen.Act.Frame
public import proofs.«01_k».proof.Proof.Gen.ActIdeal
public import proofs.«01_k».proof.Proof.Gen.ActIdeal.Skeleton
public import proofs.«01_k».proof.Proof.Gen.ActIdeal.Launch
public import proofs.«01_k».proof.Proof.Gen.ActIdeal.Points
public import proofs.«01_k».proof.Proof.Gen.ActIdeal.Frame
public import proofs.«01_k».proof.Proof.Gen.ActRefIdeal
public import proofs.«01_k».proof.Proof.Gen.Wgt
public import proofs.«01_k».proof.Proof.Gen.Wgt.Skeleton
public import proofs.«01_k».proof.Proof.Gen.Wgt.Launch
public import proofs.«01_k».proof.Proof.Gen.Wgt.Points
public import proofs.«01_k».proof.Proof.Gen.Wgt.Frame
public import proofs.«01_k».proof.Proof.Gen.WgtIdeal
public import proofs.«01_k».proof.Proof.Gen.WgtIdeal.Skeleton
public import proofs.«01_k».proof.Proof.Gen.WgtIdeal.Launch
public import proofs.«01_k».proof.Proof.Gen.WgtIdeal.Points
public import proofs.«01_k».proof.Proof.Gen.WgtIdeal.Frame
public import proofs.«01_k».proof.Proof.Gen.WgtRefIdeal
public import proofs.«01_k».proof.Proof.Gen.Pre_finite
public import proofs.«01_k».proof.Proof.Gen.Fwd
public import proofs.«01_k».proof.Proof.Gen.Fwd.Skeleton
public import proofs.«01_k».proof.Proof.Gen.Fwd.Launch
public import proofs.«01_k».proof.Proof.Gen.Fwd.Points
public import proofs.«01_k».proof.Proof.Gen.Fwd.Frame
public import proofs.«01_k».proof.Proof.Gen.FwdIdeal
public import proofs.«01_k».proof.Proof.Gen.FwdIdeal.Skeleton
public import proofs.«01_k».proof.Proof.Gen.FwdIdeal.Launch
public import proofs.«01_k».proof.Proof.Gen.FwdIdeal.Points
public import proofs.«01_k».proof.Proof.Gen.FwdIdeal.Frame
public import proofs.«01_k».proof.Proof.Gen.Swa
public import proofs.«01_k».proof.Proof.Gen.Swa.Skeleton
public import proofs.«01_k».proof.Proof.Gen.Swa.Launch
public import proofs.«01_k».proof.Proof.Gen.Swa.Points
public import proofs.«01_k».proof.Proof.Gen.Swa.Frame
public import proofs.«01_k».proof.Proof.Gen.SwaIdeal
public import proofs.«01_k».proof.Proof.Gen.SwaIdeal.Skeleton
public import proofs.«01_k».proof.Proof.Gen.SwaIdeal.Launch
public import proofs.«01_k».proof.Proof.Gen.SwaIdeal.Points
public import proofs.«01_k».proof.Proof.Gen.SwaIdeal.Frame
public import proofs.«01_k».proof.Proof.Gen.Pre_finite_attention
public import proofs.«01_k».proof.Proof.Gen.SwaRefIdeal
public import proofs.«01_k».proof.Proof.Gen.SwaRefIdeal.Run
public import proofs.«01_k».proof.Proof.Gen.SwaRefIdeal.Read
public import proofs.«01_k».proof.Proof.Gen.FwdRefIdeal
public import proofs.«01_k».proof.Proof.Gen.FwdRefIdeal.Run
public import proofs.«01_k».proof.Proof.Gen.FwdRefIdeal.Read
public import Idealize.ShloMosaic.Adequacy
public import proofs.«01_k».proof.Proof.Gen.ActIdeal.Value
public import proofs.«01_k».proof.Proof.Gen.WgtIdeal.Value
public import proofs.«01_k».proof.Proof.Gen.ActRefIdeal.Run
public import proofs.«01_k».proof.Proof.Gen.WgtRefIdeal.Run
public import proofs.«01_k».proof.Proof.Gen.ActRefIdeal.Read
public import proofs.«01_k».proof.Proof.Gen.WgtRefIdeal.Read
public import proofs.«01_k».proof.Proof.WgtValue
public import proofs.«01_k».proof.Proof.ActValue
public import proofs.«01_k».proof.Proof.FwdFrame
public import proofs.«01_k».proof.Proof.FwdValue
public import proofs.«01_k».proof.Proof.SwaFrame
public import proofs.«01_k».proof.Proof.SwaValue
public import proofs.«01_k».proof.Proof.Gen.Dwi.Frame
public import proofs.«01_k».proof.Proof.Gen.DwiIdeal.Value
public import proofs.«01_k».proof.Proof.Gen.DwiRefIdeal.Read
public import proofs.«01_k».proof.Proof.Gen.Dwo.Frame
public import proofs.«01_k».proof.Proof.Gen.DwoIdeal.Value
public import proofs.«01_k».proof.Proof.Gen.DwoRefIdeal.Read
public import proofs.«01_k».proof.Proof.Gen.Dwp.Frame
public import proofs.«01_k».proof.Proof.Gen.DwpIdeal.Value
public import proofs.«01_k».proof.Proof.Gen.DwpRefIdeal.Read
public import proofs.«01_k».proof.Proof.Gen.Dwg.Frame
public import proofs.«01_k».proof.Proof.Gen.DwgIdeal.Value
public import proofs.«01_k».proof.Proof.Gen.DwgRefIdeal.Read
public import proofs.«01_k».proof.Proof.Gen.Dxo.Frame
public import proofs.«01_k».proof.Proof.Gen.DxoIdeal.Value
public import proofs.«01_k».proof.Proof.Gen.DxoRefIdeal.Read
public import proofs.«01_k».proof.Proof.GateValue
public import proofs.«01_k».proof.Proof.EmbValue
public import proofs.«01_k».proof.Proof.Gen.Gate.Frame
public import proofs.«01_k».proof.Proof.Gen.GateIdeal.Value
public import proofs.«01_k».proof.Proof.Gen.GateRefIdeal.Read
public import proofs.«01_k».proof.Proof.Gen.Emb.Frame
public import proofs.«01_k».proof.Proof.Gen.EmbIdeal.Value
public import proofs.«01_k».proof.Proof.Gen.EmbRefIdeal.Read
public import proofs.«01_k».proof.Proof.Gen.Pre_finite_gate
public import Idealize.ShloMosaic.Init
public import proofs.«01_k».proof.Proof.DwiValue
public import proofs.«01_k».proof.Proof.DwoValue
public import proofs.«01_k».proof.Proof.DwgValue
public import proofs.«01_k».proof.Proof.DxoValue
public import proofs.«01_k».proof.Proof.Gen.Inx.Frame
public import proofs.«01_k».proof.Proof.Gen.InxIdeal.Value
public import proofs.«01_k».proof.Proof.Gen.InxRefIdeal.Read
public import proofs.«01_k».proof.Proof.Gen.Mof.Frame
public import proofs.«01_k».proof.Proof.Gen.MofIdeal.Value
public import proofs.«01_k».proof.Proof.Gen.MofRefIdeal.Read
public import proofs.«01_k».proof.Proof.Gen.Pre_finite_mixer
public import proofs.«01_k».proof.Proof.InxValue
public import proofs.«01_k».proof.Proof.MofValue
public import proofs.«01_k».proof.Proof.DwpValue

@[expose] public section

noncomputable section

namespace Cert.Proof

open Idealize.ShloMosaic Idealize.SL.Sem Cert.Act

theorem claim : Cert.Claim :=
  ⟨Cert.Act.Gen.facts, Cert.ActIdeal.Gen.facts, Cert.ActRefIdeal.Gen.facts, Cert.Wgt.Gen.facts, Cert.WgtIdeal.Gen.facts, Cert.WgtRefIdeal.Gen.facts, Cert.Fwd.Gen.facts, Cert.FwdIdeal.Gen.facts, Cert.FwdRefIdeal.Gen.facts,
    Cert.Swa.Gen.facts, Cert.SwaIdeal.Gen.facts, Cert.SwaRefIdeal.Gen.facts,
    Cert.Gate.Gen.facts, Cert.GateIdeal.Gen.facts, Cert.GateRefIdeal.Gen.facts, Cert.Emb.Gen.facts, Cert.EmbIdeal.Gen.facts, Cert.EmbRefIdeal.Gen.facts,
    Cert.Dwi.Gen.facts, Cert.DwiIdeal.Gen.facts, Cert.DwiRefIdeal.Gen.facts, Cert.Dwo.Gen.facts, Cert.DwoIdeal.Gen.facts, Cert.DwoRefIdeal.Gen.facts,
    Cert.Dwg.Gen.facts, Cert.DwgIdeal.Gen.facts, Cert.DwgRefIdeal.Gen.facts, Cert.Dxo.Gen.facts, Cert.DxoIdeal.Gen.facts, Cert.DxoRefIdeal.Gen.facts,
    Cert.Inx.Gen.facts, Cert.InxIdeal.Gen.facts, Cert.InxRefIdeal.Gen.facts, Cert.Mof.Gen.facts, Cert.MofIdeal.Gen.facts, Cert.MofRefIdeal.Gen.facts,
    Cert.Dwp.Gen.facts, Cert.DwpIdeal.Gen.facts, Cert.DwpRefIdeal.Gen.facts,
    Cert.Pre_finite.Gen.facts, Cert.Pre_finite_attention.Gen.facts, Cert.Pre_finite_gate.Gen.facts, Cert.Pre_finite_mixer.Gen.facts,
    fun m g _ => Cert.Act.Gen.frame m g, fun m g _ => Cert.ActIdeal.Gen.frame m g, fun m g _ => Cert.ActIdeal.Gen.frame m g,
    Cert.ActValue.frame_ref, fun m g _ => Cert.ActValue.frame_ref m g trivial,
    fun m g _ => Cert.Wgt.Gen.frame m g, fun m g _ => Cert.WgtIdeal.Gen.frame m g, Cert.WgtValue.frame_ref,
    fun m g _ => Cert.Fwd.Hand.frame m g, fun m g _ => Cert.FwdIdeal.Hand.frame m g, Cert.FwdValue.frame_ref,
    fun m g _ => Cert.Swa.Hand.frame m g, fun m g _ => Cert.SwaIdeal.Hand.frame m g, fun m g _ => Cert.SwaIdeal.Hand.frame m g,
    Cert.SwaValue.frame_ref, fun m g _ => Cert.SwaValue.frame_ref m g trivial,
    fun m g _ => Cert.Gate.Gen.frame m g, fun m g _ => Cert.GateIdeal.Gen.frame m g, fun m g _ => Cert.GateIdeal.Gen.frame m g,
    Cert.GateValue.frame_ref, fun m g _ => Cert.GateValue.frame_ref m g trivial,
    fun m g _ => Cert.Emb.Gen.frame m g, fun m g _ => Cert.EmbIdeal.Gen.frame m g, Cert.EmbValue.frame_ref,
    fun m g _ => Cert.Dwi.Gen.frame m g, fun m g _ => Cert.DwiIdeal.Gen.frame m g, Cert.DwiValue.frame_ref,
    fun m g _ => Cert.Dwo.Gen.frame m g, fun m g _ => Cert.DwoIdeal.Gen.frame m g, Cert.DwoValue.frame_ref,
    fun m g _ => Cert.Dwg.Gen.frame m g, fun m g _ => Cert.DwgIdeal.Gen.frame m g, Cert.DwgValue.frame_ref,
    fun m g _ => Cert.Dxo.Gen.frame m g, fun m g _ => Cert.DxoIdeal.Gen.frame m g, Cert.DxoValue.frame_ref,
    fun m g _ => Cert.Inx.Gen.frame m g, fun m g _ => Cert.InxIdeal.Gen.frame m g, fun m g _ => Cert.InxIdeal.Gen.frame m g,
    Cert.InxValue.frame_ref, fun m g _ => Cert.InxValue.frame_ref m g trivial,
    fun m g _ => Cert.Mof.Gen.frame m g, fun m g _ => Cert.MofIdeal.Gen.frame m g, Cert.MofValue.frame_ref,
    fun m g _ => Cert.Dwp.Gen.frame m g, fun m g _ => Cert.DwpIdeal.Gen.frame m g, Cert.DwpValue.frame_ref,
    trivial, Cert.ActValue.algebraic, trivial, Cert.WgtValue.algebraic, trivial, Cert.FwdValue.algebraic,
    Idealize.ShloMosaic.IdealRules.named_const.statement Cert.SwaIdeal.κ "mask" .f32 0xF149F2CA#32 ⊥ rfl, Cert.SwaValue.algebraic,
    trivial, Cert.GateValue.algebraic, trivial, Cert.EmbValue.algebraic,
    trivial, Cert.DwiValue.algebraic, trivial, Cert.DwoValue.algebraic, trivial, Cert.DwgValue.algebraic, trivial, Cert.DxoValue.algebraic,
    trivial, Cert.InxValue.algebraic, trivial, Cert.MofValue.algebraic,
    trivial, Cert.DwpValue.algebraic⟩

end Cert.Proof

end
